-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_FfnUpDx (m : (ℓ : Loc Cert.FfnUpDx.nD Cert.FfnUpDx.τ Cert.FfnUpDx.sig) → Buf (Elt Bits) ℓ) : Prop :=
  True

def Pre_FfnUpDxIdeal (m : (ℓ : Loc Cert.FfnUpDxIdeal.nD Cert.FfnUpDxIdeal.τ Cert.FfnUpDxIdeal.sig) → Buf (Elt Ideal) ℓ) : Prop :=
  True

def Pre_FfnUpDxRefIdeal (m : (ℓ : Loc Cert.FfnUpDxRefIdeal.nD Cert.FfnUpDxRefIdeal.τ Cert.FfnUpDxRefIdeal.sig) → Buf (Elt Ideal) ℓ) : Prop :=
  True

def Pre_FfnUpDw (m : (ℓ : Loc Cert.FfnUpDw.nD Cert.FfnUpDw.τ Cert.FfnUpDw.sig) → Buf (Elt Bits) ℓ) : Prop :=
  True

def Pre_FfnUpDwIdeal (m : (ℓ : Loc Cert.FfnUpDwIdeal.nD Cert.FfnUpDwIdeal.τ Cert.FfnUpDwIdeal.sig) → Buf (Elt Ideal) ℓ) : Prop :=
  True

def Pre_FfnUpDwRefIdeal (m : (ℓ : Loc Cert.FfnUpDwRefIdeal.nD Cert.FfnUpDwRefIdeal.τ Cert.FfnUpDwRefIdeal.sig) → Buf (Elt Ideal) ℓ) : Prop :=
  True

def Pre_FfnDownDx (m : (ℓ : Loc Cert.FfnDownDx.nD Cert.FfnDownDx.τ Cert.FfnDownDx.sig) → Buf (Elt Bits) ℓ) : Prop :=
  True

def Pre_FfnDownDxIdeal (m : (ℓ : Loc Cert.FfnDownDxIdeal.nD Cert.FfnDownDxIdeal.τ Cert.FfnDownDxIdeal.sig) → Buf (Elt Ideal) ℓ) : Prop :=
  True

def Pre_FfnDownDxRefIdeal (m : (ℓ : Loc Cert.FfnDownDxRefIdeal.nD Cert.FfnDownDxRefIdeal.τ Cert.FfnDownDxRefIdeal.sig) → Buf (Elt Ideal) ℓ) : Prop :=
  True

def Pre_FfnDownDw (m : (ℓ : Loc Cert.FfnDownDw.nD Cert.FfnDownDw.τ Cert.FfnDownDw.sig) → Buf (Elt Bits) ℓ) : Prop :=
  True

def Pre_FfnDownDwIdeal (m : (ℓ : Loc Cert.FfnDownDwIdeal.nD Cert.FfnDownDwIdeal.τ Cert.FfnDownDwIdeal.sig) → Buf (Elt Ideal) ℓ) : Prop :=
  True

def Pre_FfnDownDwRefIdeal (m : (ℓ : Loc Cert.FfnDownDwRefIdeal.nD Cert.FfnDownDwRefIdeal.τ Cert.FfnDownDwRefIdeal.sig) → Buf (Elt Ideal) ℓ) : Prop :=
  True

def Pre_SsmInDx (m : (ℓ : Loc Cert.SsmInDx.nD Cert.SsmInDx.τ Cert.SsmInDx.sig) → Buf (Elt Bits) ℓ) : Prop :=
  True

def Pre_SsmInDxIdeal (m : (ℓ : Loc Cert.SsmInDxIdeal.nD Cert.SsmInDxIdeal.τ Cert.SsmInDxIdeal.sig) → Buf (Elt Ideal) ℓ) : Prop :=
  True

def Pre_SsmInDxRefIdeal (m : (ℓ : Loc Cert.SsmInDxRefIdeal.nD Cert.SsmInDxRefIdeal.τ Cert.SsmInDxRefIdeal.sig) → Buf (Elt Ideal) ℓ) : Prop :=
  True

def Pre_SsmInDw (m : (ℓ : Loc Cert.SsmInDw.nD Cert.SsmInDw.τ Cert.SsmInDw.sig) → Buf (Elt Bits) ℓ) : Prop :=
  True

def Pre_SsmInDwIdeal (m : (ℓ : Loc Cert.SsmInDwIdeal.nD Cert.SsmInDwIdeal.τ Cert.SsmInDwIdeal.sig) → Buf (Elt Ideal) ℓ) : Prop :=
  True

def Pre_SsmInDwRefIdeal (m : (ℓ : Loc Cert.SsmInDwRefIdeal.nD Cert.SsmInDwRefIdeal.τ Cert.SsmInDwRefIdeal.sig) → Buf (Elt Ideal) ℓ) : Prop :=
  True

def Pre_SsmOutDx (m : (ℓ : Loc Cert.SsmOutDx.nD Cert.SsmOutDx.τ Cert.SsmOutDx.sig) → Buf (Elt Bits) ℓ) : Prop :=
  True

def Pre_SsmOutDxIdeal (m : (ℓ : Loc Cert.SsmOutDxIdeal.nD Cert.SsmOutDxIdeal.τ Cert.SsmOutDxIdeal.sig) → Buf (Elt Ideal) ℓ) : Prop :=
  True

def Pre_SsmOutDxRefIdeal (m : (ℓ : Loc Cert.SsmOutDxRefIdeal.nD Cert.SsmOutDxRefIdeal.τ Cert.SsmOutDxRefIdeal.sig) → Buf (Elt Ideal) ℓ) : Prop :=
  True

def Pre_SsmOutDw (m : (ℓ : Loc Cert.SsmOutDw.nD Cert.SsmOutDw.τ Cert.SsmOutDw.sig) → Buf (Elt Bits) ℓ) : Prop :=
  True

def Pre_SsmOutDwIdeal (m : (ℓ : Loc Cert.SsmOutDwIdeal.nD Cert.SsmOutDwIdeal.τ Cert.SsmOutDwIdeal.sig) → Buf (Elt Ideal) ℓ) : Prop :=
  True

def Pre_SsmOutDwRefIdeal (m : (ℓ : Loc Cert.SsmOutDwRefIdeal.nD Cert.SsmOutDwRefIdeal.τ Cert.SsmOutDwRefIdeal.sig) → Buf (Elt Ideal) ℓ) : Prop :=
  True

def Pre_CvInDx (m : (ℓ : Loc Cert.CvInDx.nD Cert.CvInDx.τ Cert.CvInDx.sig) → Buf (Elt Bits) ℓ) : Prop :=
  True

def Pre_CvInDxIdeal (m : (ℓ : Loc Cert.CvInDxIdeal.nD Cert.CvInDxIdeal.τ Cert.CvInDxIdeal.sig) → Buf (Elt Ideal) ℓ) : Prop :=
  True

def Pre_CvInDxRefIdeal (m : (ℓ : Loc Cert.CvInDxRefIdeal.nD Cert.CvInDxRefIdeal.τ Cert.CvInDxRefIdeal.sig) → Buf (Elt Ideal) ℓ) : Prop :=
  True

def Pre_CvInDw (m : (ℓ : Loc Cert.CvInDw.nD Cert.CvInDw.τ Cert.CvInDw.sig) → Buf (Elt Bits) ℓ) : Prop :=
  True

def Pre_CvInDwIdeal (m : (ℓ : Loc Cert.CvInDwIdeal.nD Cert.CvInDwIdeal.τ Cert.CvInDwIdeal.sig) → Buf (Elt Ideal) ℓ) : Prop :=
  True

def Pre_CvInDwRefIdeal (m : (ℓ : Loc Cert.CvInDwRefIdeal.nD Cert.CvInDwRefIdeal.τ Cert.CvInDwRefIdeal.sig) → Buf (Elt Ideal) ℓ) : Prop :=
  True

def Pre_CvOutDx (m : (ℓ : Loc Cert.CvOutDx.nD Cert.CvOutDx.τ Cert.CvOutDx.sig) → Buf (Elt Bits) ℓ) : Prop :=
  True

def Pre_CvOutDxIdeal (m : (ℓ : Loc Cert.CvOutDxIdeal.nD Cert.CvOutDxIdeal.τ Cert.CvOutDxIdeal.sig) → Buf (Elt Ideal) ℓ) : Prop :=
  True

def Pre_CvOutDxRefIdeal (m : (ℓ : Loc Cert.CvOutDxRefIdeal.nD Cert.CvOutDxRefIdeal.τ Cert.CvOutDxRefIdeal.sig) → Buf (Elt Ideal) ℓ) : Prop :=
  True

def Pre_CvOutDw (m : (ℓ : Loc Cert.CvOutDw.nD Cert.CvOutDw.τ Cert.CvOutDw.sig) → Buf (Elt Bits) ℓ) : Prop :=
  True

def Pre_CvOutDwIdeal (m : (ℓ : Loc Cert.CvOutDwIdeal.nD Cert.CvOutDwIdeal.τ Cert.CvOutDwIdeal.sig) → Buf (Elt Ideal) ℓ) : Prop :=
  True

def Pre_CvOutDwRefIdeal (m : (ℓ : Loc Cert.CvOutDwRefIdeal.nD Cert.CvOutDwRefIdeal.τ Cert.CvOutDwRefIdeal.sig) → Buf (Elt Ideal) ℓ) : Prop :=
  True

def Pre_FfnUp (m : (ℓ : Loc Cert.FfnUp.nD Cert.FfnUp.τ Cert.FfnUp.sig) → Buf (Elt Bits) ℓ) : Prop :=
  True

def Pre_FfnUpIdeal (m : (ℓ : Loc Cert.FfnUpIdeal.nD Cert.FfnUpIdeal.τ Cert.FfnUpIdeal.sig) → Buf (Elt Ideal) ℓ) : Prop :=
  True

def Pre_FfnUpRefIdeal (m : (ℓ : Loc Cert.FfnUpRefIdeal.nD Cert.FfnUpRefIdeal.τ Cert.FfnUpRefIdeal.sig) → Buf (Elt Ideal) ℓ) : Prop :=
  True

def Pre_FfnDown (m : (ℓ : Loc Cert.FfnDown.nD Cert.FfnDown.τ Cert.FfnDown.sig) → Buf (Elt Bits) ℓ) : Prop :=
  True

def Pre_FfnDownIdeal (m : (ℓ : Loc Cert.FfnDownIdeal.nD Cert.FfnDownIdeal.τ Cert.FfnDownIdeal.sig) → Buf (Elt Ideal) ℓ) : Prop :=
  True

def Pre_FfnDownRefIdeal (m : (ℓ : Loc Cert.FfnDownRefIdeal.nD Cert.FfnDownRefIdeal.τ Cert.FfnDownRefIdeal.sig) → Buf (Elt Ideal) ℓ) : Prop :=
  True

def Pre_SsmIn (m : (ℓ : Loc Cert.SsmIn.nD Cert.SsmIn.τ Cert.SsmIn.sig) → Buf (Elt Bits) ℓ) : Prop :=
  True

def Pre_SsmInIdeal (m : (ℓ : Loc Cert.SsmInIdeal.nD Cert.SsmInIdeal.τ Cert.SsmInIdeal.sig) → Buf (Elt Ideal) ℓ) : Prop :=
  True

def Pre_SsmInRefIdeal (m : (ℓ : Loc Cert.SsmInRefIdeal.nD Cert.SsmInRefIdeal.τ Cert.SsmInRefIdeal.sig) → Buf (Elt Ideal) ℓ) : Prop :=
  True

def Pre_SsmOut (m : (ℓ : Loc Cert.SsmOut.nD Cert.SsmOut.τ Cert.SsmOut.sig) → Buf (Elt Bits) ℓ) : Prop :=
  True

def Pre_SsmOutIdeal (m : (ℓ : Loc Cert.SsmOutIdeal.nD Cert.SsmOutIdeal.τ Cert.SsmOutIdeal.sig) → Buf (Elt Ideal) ℓ) : Prop :=
  True

def Pre_SsmOutRefIdeal (m : (ℓ : Loc Cert.SsmOutRefIdeal.nD Cert.SsmOutRefIdeal.τ Cert.SsmOutRefIdeal.sig) → Buf (Elt Ideal) ℓ) : Prop :=
  True

def Pre_CvIn (m : (ℓ : Loc Cert.CvIn.nD Cert.CvIn.τ Cert.CvIn.sig) → Buf (Elt Bits) ℓ) : Prop :=
  True

def Pre_CvInIdeal (m : (ℓ : Loc Cert.CvInIdeal.nD Cert.CvInIdeal.τ Cert.CvInIdeal.sig) → Buf (Elt Ideal) ℓ) : Prop :=
  True

def Pre_CvInRefIdeal (m : (ℓ : Loc Cert.CvInRefIdeal.nD Cert.CvInRefIdeal.τ Cert.CvInRefIdeal.sig) → Buf (Elt Ideal) ℓ) : Prop :=
  True

def Pre_CvOut (m : (ℓ : Loc Cert.CvOut.nD Cert.CvOut.τ Cert.CvOut.sig) → Buf (Elt Bits) ℓ) : Prop :=
  True

def Pre_CvOutIdeal (m : (ℓ : Loc Cert.CvOutIdeal.nD Cert.CvOutIdeal.τ Cert.CvOutIdeal.sig) → Buf (Elt Ideal) ℓ) : Prop :=
  True

def Pre_CvOutRefIdeal (m : (ℓ : Loc Cert.CvOutRefIdeal.nD Cert.CvOutRefIdeal.τ Cert.CvOutRefIdeal.sig) → Buf (Elt Ideal) ℓ) : Prop :=
  True

def Pre_AdamCvIn (m : (ℓ : Loc Cert.AdamCvIn.nD Cert.AdamCvIn.τ Cert.AdamCvIn.sig) → Buf (Elt Bits) ℓ) : Prop :=
  True

def Pre_AdamCvInIdeal (m : (ℓ : Loc Cert.AdamCvInIdeal.nD Cert.AdamCvInIdeal.τ Cert.AdamCvInIdeal.sig) → Buf (Elt Ideal) ℓ) : Prop :=
  True

def Pre_AdamCvInRefIdeal (m : (ℓ : Loc Cert.AdamCvInRefIdeal.nD Cert.AdamCvInRefIdeal.τ Cert.AdamCvInRefIdeal.sig) → Buf (Elt Ideal) ℓ) : Prop :=
  True

def Pre_AdamCvOut (m : (ℓ : Loc Cert.AdamCvOut.nD Cert.AdamCvOut.τ Cert.AdamCvOut.sig) → Buf (Elt Bits) ℓ) : Prop :=
  True

def Pre_AdamCvOutIdeal (m : (ℓ : Loc Cert.AdamCvOutIdeal.nD Cert.AdamCvOutIdeal.τ Cert.AdamCvOutIdeal.sig) → Buf (Elt Ideal) ℓ) : Prop :=
  True

def Pre_AdamCvOutRefIdeal (m : (ℓ : Loc Cert.AdamCvOutRefIdeal.nD Cert.AdamCvOutRefIdeal.τ Cert.AdamCvOutRefIdeal.sig) → Buf (Elt Ideal) ℓ) : Prop :=
  True

def Pre_AdamSsmIn (m : (ℓ : Loc Cert.AdamSsmIn.nD Cert.AdamSsmIn.τ Cert.AdamSsmIn.sig) → Buf (Elt Bits) ℓ) : Prop :=
  True

def Pre_AdamSsmInIdeal (m : (ℓ : Loc Cert.AdamSsmInIdeal.nD Cert.AdamSsmInIdeal.τ Cert.AdamSsmInIdeal.sig) → Buf (Elt Ideal) ℓ) : Prop :=
  True

def Pre_AdamSsmInRefIdeal (m : (ℓ : Loc Cert.AdamSsmInRefIdeal.nD Cert.AdamSsmInRefIdeal.τ Cert.AdamSsmInRefIdeal.sig) → Buf (Elt Ideal) ℓ) : Prop :=
  True

def Pre_AdamSsmOut (m : (ℓ : Loc Cert.AdamSsmOut.nD Cert.AdamSsmOut.τ Cert.AdamSsmOut.sig) → Buf (Elt Bits) ℓ) : Prop :=
  True

def Pre_AdamSsmOutIdeal (m : (ℓ : Loc Cert.AdamSsmOutIdeal.nD Cert.AdamSsmOutIdeal.τ Cert.AdamSsmOutIdeal.sig) → Buf (Elt Ideal) ℓ) : Prop :=
  True

def Pre_AdamSsmOutRefIdeal (m : (ℓ : Loc Cert.AdamSsmOutRefIdeal.nD Cert.AdamSsmOutRefIdeal.τ Cert.AdamSsmOutRefIdeal.sig) → Buf (Elt Ideal) ℓ) : Prop :=
  True

def Pre_AdamFfnUp (m : (ℓ : Loc Cert.AdamFfnUp.nD Cert.AdamFfnUp.τ Cert.AdamFfnUp.sig) → Buf (Elt Bits) ℓ) : Prop :=
  True

def Pre_AdamFfnUpIdeal (m : (ℓ : Loc Cert.AdamFfnUpIdeal.nD Cert.AdamFfnUpIdeal.τ Cert.AdamFfnUpIdeal.sig) → Buf (Elt Ideal) ℓ) : Prop :=
  True

def Pre_AdamFfnUpRefIdeal (m : (ℓ : Loc Cert.AdamFfnUpRefIdeal.nD Cert.AdamFfnUpRefIdeal.τ Cert.AdamFfnUpRefIdeal.sig) → Buf (Elt Ideal) ℓ) : Prop :=
  True

def Pre_AdamFfnDown (m : (ℓ : Loc Cert.AdamFfnDown.nD Cert.AdamFfnDown.τ Cert.AdamFfnDown.sig) → Buf (Elt Bits) ℓ) : Prop :=
  True

def Pre_AdamFfnDownIdeal (m : (ℓ : Loc Cert.AdamFfnDownIdeal.nD Cert.AdamFfnDownIdeal.τ Cert.AdamFfnDownIdeal.sig) → Buf (Elt Ideal) ℓ) : Prop :=
  True

def Pre_AdamFfnDownRefIdeal (m : (ℓ : Loc Cert.AdamFfnDownRefIdeal.nD Cert.AdamFfnDownRefIdeal.τ Cert.AdamFfnDownRefIdeal.sig) → Buf (Elt Ideal) ℓ) : Prop :=
  True

def Pre_SumSmall (m : (ℓ : Loc Cert.SumSmall.nD Cert.SumSmall.τ Cert.SumSmall.sig) → Buf (Elt Bits) ℓ) : Prop :=
  True

def Pre_SumSmallIdeal (m : (ℓ : Loc Cert.SumSmallIdeal.nD Cert.SumSmallIdeal.τ Cert.SumSmallIdeal.sig) → Buf (Elt Ideal) ℓ) : Prop :=
  True

def Pre_SumSmallRefIdeal (m : (ℓ : Loc Cert.SumSmallRefIdeal.nD Cert.SumSmallRefIdeal.τ Cert.SumSmallRefIdeal.sig) → Buf (Elt Ideal) ℓ) : Prop :=
  True

def Pre_AdamSmall (m : (ℓ : Loc Cert.AdamSmall.nD Cert.AdamSmall.τ Cert.AdamSmall.sig) → Buf (Elt Bits) ℓ) : Prop :=
  True

def Pre_AdamSmallIdeal (m : (ℓ : Loc Cert.AdamSmallIdeal.nD Cert.AdamSmallIdeal.τ Cert.AdamSmallIdeal.sig) → Buf (Elt Ideal) ℓ) : Prop :=
  True

def Pre_AdamSmallRefIdeal (m : (ℓ : Loc Cert.AdamSmallRefIdeal.nD Cert.AdamSmallRefIdeal.τ Cert.AdamSmallRefIdeal.sig) → Buf (Elt Ideal) ℓ) : Prop :=
  True

def Pre_FinalLoss (m : (ℓ : Loc Cert.FinalLoss.nD Cert.FinalLoss.τ Cert.FinalLoss.sig) → Buf (Elt Bits) ℓ) : Prop :=
  True

def Pre_FinalLossIdeal (m : (ℓ : Loc Cert.FinalLossIdeal.nD Cert.FinalLossIdeal.τ Cert.FinalLossIdeal.sig) → Buf (Elt Ideal) ℓ) : Prop :=
  True

def Pre_FinalLossRefIdeal (m : (ℓ : Loc Cert.FinalLossRefIdeal.nD Cert.FinalLossRefIdeal.τ Cert.FinalLossRefIdeal.sig) → Buf (Elt Ideal) ℓ) : Prop :=
  True

def Pre_RmsBwd (m : (ℓ : Loc Cert.RmsBwd.nD Cert.RmsBwd.τ Cert.RmsBwd.sig) → Buf (Elt Bits) ℓ) : Prop :=
  True

def Pre_RmsBwdIdeal (m : (ℓ : Loc Cert.RmsBwdIdeal.nD Cert.RmsBwdIdeal.τ Cert.RmsBwdIdeal.sig) → Buf (Elt Ideal) ℓ) : Prop :=
  True

def Pre_RmsBwdRefIdeal (m : (ℓ : Loc Cert.RmsBwdRefIdeal.nD Cert.RmsBwdRefIdeal.τ Cert.RmsBwdRefIdeal.sig) → Buf (Elt Ideal) ℓ) : Prop :=
  True

def Pre_LossBwd (m : (ℓ : Loc Cert.LossBwd.nD Cert.LossBwd.τ Cert.LossBwd.sig) → Buf (Elt Bits) ℓ) : Prop :=
  True

def Pre_LossBwdIdeal (m : (ℓ : Loc Cert.LossBwdIdeal.nD Cert.LossBwdIdeal.τ Cert.LossBwdIdeal.sig) → Buf (Elt Ideal) ℓ) : Prop :=
  True

def Pre_LossBwdRefIdeal (m : (ℓ : Loc Cert.LossBwdRefIdeal.nD Cert.LossBwdRefIdeal.τ Cert.LossBwdRefIdeal.sig) → Buf (Elt Ideal) ℓ) : Prop :=
  True

def Pre_RmsFwd (m : (ℓ : Loc Cert.RmsFwd.nD Cert.RmsFwd.τ Cert.RmsFwd.sig) → Buf (Elt Bits) ℓ) : Prop :=
  True

def Pre_RmsFwdIdeal (m : (ℓ : Loc Cert.RmsFwdIdeal.nD Cert.RmsFwdIdeal.τ Cert.RmsFwdIdeal.sig) → Buf (Elt Ideal) ℓ) : Prop :=
  True

def Pre_RmsFwdRefIdeal (m : (ℓ : Loc Cert.RmsFwdRefIdeal.nD Cert.RmsFwdRefIdeal.τ Cert.RmsFwdRefIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ r.2.sem = fun _ => 0)

def quiescent_FfnUpDx [hFfnUpDx : Cert.FfnUpDx.Facts] : Prop :=
  ∀ (m : (ℓ : Loc Cert.FfnUpDx.nD Cert.FfnUpDx.τ Cert.FfnUpDx.sig) → Buf (Elt Bits) ℓ) (g : Dev Cert.FfnUpDx.nD → PrngReg), Pre_FfnUpDx m →
    θ_run (Cert.FfnUpDx.defs (F := Bits)) (onTc (τ := Cert.FfnUpDx.τ) (Cert.FfnUpDx.main (F := Bits))) ⟨m, fun _ => 0, g⟩ (fun r => (∀ c : Dev Cert.FfnUpDx.nD,
      r.2.mem ((c.tc : Thread Cert.FfnUpDx.nD Cert.FfnUpDx.τ).loc Cert.FfnUpDx.main_arg0) = m ((c.tc : Thread Cert.FfnUpDx.nD Cert.FfnUpDx.τ).loc Cert.FfnUpDx.main_arg0)
      ∧ r.2.mem ((c.tc : Thread Cert.FfnUpDx.nD Cert.FfnUpDx.τ).loc Cert.FfnUpDx.main_arg1) = m ((c.tc : Thread Cert.FfnUpDx.nD Cert.FfnUpDx.τ).loc Cert.FfnUpDx.main_arg1))
      ∧ r.2.sem = fun _ => 0)

def quiescent_FfnUpDxIdeal [hFfnUpDxIdeal : Cert.FfnUpDxIdeal.Facts] : Prop :=
  ∀ (m : (ℓ : Loc Cert.FfnUpDxIdeal.nD Cert.FfnUpDxIdeal.τ Cert.FfnUpDxIdeal.sig) → Buf (Elt Ideal) ℓ) (g : Dev Cert.FfnUpDxIdeal.nD → PrngReg), Pre_FfnUpDxIdeal m →
    θ_run (Cert.FfnUpDxIdeal.defs (F := Ideal)) (onTc (τ := Cert.FfnUpDxIdeal.τ) (Cert.FfnUpDxIdeal.main (F := Ideal))) ⟨m, fun _ => 0, g⟩ (fun r => (∀ c : Dev Cert.FfnUpDxIdeal.nD,
      r.2.mem ((c.tc : Thread Cert.FfnUpDxIdeal.nD Cert.FfnUpDxIdeal.τ).loc Cert.FfnUpDxIdeal.main_arg0) = m ((c.tc : Thread Cert.FfnUpDxIdeal.nD Cert.FfnUpDxIdeal.τ).loc Cert.FfnUpDxIdeal.main_arg0)
      ∧ r.2.mem ((c.tc : Thread Cert.FfnUpDxIdeal.nD Cert.FfnUpDxIdeal.τ).loc Cert.FfnUpDxIdeal.main_arg1) = m ((c.tc : Thread Cert.FfnUpDxIdeal.nD Cert.FfnUpDxIdeal.τ).loc Cert.FfnUpDxIdeal.main_arg1))
      ∧ r.2.sem = fun _ => 0)

def quiescent_FfnUpDxRefIdeal [hFfnUpDxRefIdeal : Cert.FfnUpDxRefIdeal.Facts] : Prop :=
  ∀ (m : (ℓ : Loc Cert.FfnUpDxRefIdeal.nD Cert.FfnUpDxRefIdeal.τ Cert.FfnUpDxRefIdeal.sig) → Buf (Elt Ideal) ℓ) (g : Dev Cert.FfnUpDxRefIdeal.nD → PrngReg), Pre_FfnUpDxRefIdeal m →
    θ_run (Cert.FfnUpDxRefIdeal.defs (F := Ideal)) (onTc (τ := Cert.FfnUpDxRefIdeal.τ) (Cert.FfnUpDxRefIdeal.main (F := Ideal))) ⟨m, fun _ => 0, g⟩ (fun r => (∀ c : Dev Cert.FfnUpDxRefIdeal.nD,
      r.2.mem ((c.tc : Thread Cert.FfnUpDxRefIdeal.nD Cert.FfnUpDxRefIdeal.τ).loc Cert.FfnUpDxRefIdeal.main_arg0) = m ((c.tc : Thread Cert.FfnUpDxRefIdeal.nD Cert.FfnUpDxRefIdeal.τ).loc Cert.FfnUpDxRefIdeal.main_arg0)
      ∧ r.2.mem ((c.tc : Thread Cert.FfnUpDxRefIdeal.nD Cert.FfnUpDxRefIdeal.τ).loc Cert.FfnUpDxRefIdeal.main_arg1) = m ((c.tc : Thread Cert.FfnUpDxRefIdeal.nD Cert.FfnUpDxRefIdeal.τ).loc Cert.FfnUpDxRefIdeal.main_arg1))
      ∧ r.2.sem = fun _ => 0)

def quiescent_FfnUpDw [hFfnUpDw : Cert.FfnUpDw.Facts] : Prop :=
  ∀ (m : (ℓ : Loc Cert.FfnUpDw.nD Cert.FfnUpDw.τ Cert.FfnUpDw.sig) → Buf (Elt Bits) ℓ) (g : Dev Cert.FfnUpDw.nD → PrngReg), Pre_FfnUpDw m →
    θ_run (Cert.FfnUpDw.defs (F := Bits)) (onTc (τ := Cert.FfnUpDw.τ) (Cert.FfnUpDw.main (F := Bits))) ⟨m, fun _ => 0, g⟩ (fun r => (∀ c : Dev Cert.FfnUpDw.nD,
      r.2.mem ((c.tc : Thread Cert.FfnUpDw.nD Cert.FfnUpDw.τ).loc Cert.FfnUpDw.main_arg0) = m ((c.tc : Thread Cert.FfnUpDw.nD Cert.FfnUpDw.τ).loc Cert.FfnUpDw.main_arg0)
      ∧ r.2.mem ((c.tc : Thread Cert.FfnUpDw.nD Cert.FfnUpDw.τ).loc Cert.FfnUpDw.main_arg1) = m ((c.tc : Thread Cert.FfnUpDw.nD Cert.FfnUpDw.τ).loc Cert.FfnUpDw.main_arg1))
      ∧ r.2.sem = fun _ => 0)

def quiescent_FfnUpDwIdeal [hFfnUpDwIdeal : Cert.FfnUpDwIdeal.Facts] : Prop :=
  ∀ (m : (ℓ : Loc Cert.FfnUpDwIdeal.nD Cert.FfnUpDwIdeal.τ Cert.FfnUpDwIdeal.sig) → Buf (Elt Ideal) ℓ) (g : Dev Cert.FfnUpDwIdeal.nD → PrngReg), Pre_FfnUpDwIdeal m →
    θ_run (Cert.FfnUpDwIdeal.defs (F := Ideal)) (onTc (τ := Cert.FfnUpDwIdeal.τ) (Cert.FfnUpDwIdeal.main (F := Ideal))) ⟨m, fun _ => 0, g⟩ (fun r => (∀ c : Dev Cert.FfnUpDwIdeal.nD,
      r.2.mem ((c.tc : Thread Cert.FfnUpDwIdeal.nD Cert.FfnUpDwIdeal.τ).loc Cert.FfnUpDwIdeal.main_arg0) = m ((c.tc : Thread Cert.FfnUpDwIdeal.nD Cert.FfnUpDwIdeal.τ).loc Cert.FfnUpDwIdeal.main_arg0)
      ∧ r.2.mem ((c.tc : Thread Cert.FfnUpDwIdeal.nD Cert.FfnUpDwIdeal.τ).loc Cert.FfnUpDwIdeal.main_arg1) = m ((c.tc : Thread Cert.FfnUpDwIdeal.nD Cert.FfnUpDwIdeal.τ).loc Cert.FfnUpDwIdeal.main_arg1))
      ∧ r.2.sem = fun _ => 0)

def quiescent_FfnUpDwRefIdeal [hFfnUpDwRefIdeal : Cert.FfnUpDwRefIdeal.Facts] : Prop :=
  ∀ (m : (ℓ : Loc Cert.FfnUpDwRefIdeal.nD Cert.FfnUpDwRefIdeal.τ Cert.FfnUpDwRefIdeal.sig) → Buf (Elt Ideal) ℓ) (g : Dev Cert.FfnUpDwRefIdeal.nD → PrngReg), Pre_FfnUpDwRefIdeal m →
    θ_run (Cert.FfnUpDwRefIdeal.defs (F := Ideal)) (onTc (τ := Cert.FfnUpDwRefIdeal.τ) (Cert.FfnUpDwRefIdeal.main (F := Ideal))) ⟨m, fun _ => 0, g⟩ (fun r => (∀ c : Dev Cert.FfnUpDwRefIdeal.nD,
      r.2.mem ((c.tc : Thread Cert.FfnUpDwRefIdeal.nD Cert.FfnUpDwRefIdeal.τ).loc Cert.FfnUpDwRefIdeal.main_arg0) = m ((c.tc : Thread Cert.FfnUpDwRefIdeal.nD Cert.FfnUpDwRefIdeal.τ).loc Cert.FfnUpDwRefIdeal.main_arg0)
      ∧ r.2.mem ((c.tc : Thread Cert.FfnUpDwRefIdeal.nD Cert.FfnUpDwRefIdeal.τ).loc Cert.FfnUpDwRefIdeal.main_arg1) = m ((c.tc : Thread Cert.FfnUpDwRefIdeal.nD Cert.FfnUpDwRefIdeal.τ).loc Cert.FfnUpDwRefIdeal.main_arg1))
      ∧ r.2.sem = fun _ => 0)

def quiescent_FfnDownDx [hFfnDownDx : Cert.FfnDownDx.Facts] : Prop :=
  ∀ (m : (ℓ : Loc Cert.FfnDownDx.nD Cert.FfnDownDx.τ Cert.FfnDownDx.sig) → Buf (Elt Bits) ℓ) (g : Dev Cert.FfnDownDx.nD → PrngReg), Pre_FfnDownDx m →
    θ_run (Cert.FfnDownDx.defs (F := Bits)) (onTc (τ := Cert.FfnDownDx.τ) (Cert.FfnDownDx.main (F := Bits))) ⟨m, fun _ => 0, g⟩ (fun r => (∀ c : Dev Cert.FfnDownDx.nD,
      r.2.mem ((c.tc : Thread Cert.FfnDownDx.nD Cert.FfnDownDx.τ).loc Cert.FfnDownDx.main_arg0) = m ((c.tc : Thread Cert.FfnDownDx.nD Cert.FfnDownDx.τ).loc Cert.FfnDownDx.main_arg0)
      ∧ r.2.mem ((c.tc : Thread Cert.FfnDownDx.nD Cert.FfnDownDx.τ).loc Cert.FfnDownDx.main_arg1) = m ((c.tc : Thread Cert.FfnDownDx.nD Cert.FfnDownDx.τ).loc Cert.FfnDownDx.main_arg1))
      ∧ r.2.sem = fun _ => 0)

def quiescent_FfnDownDxIdeal [hFfnDownDxIdeal : Cert.FfnDownDxIdeal.Facts] : Prop :=
  ∀ (m : (ℓ : Loc Cert.FfnDownDxIdeal.nD Cert.FfnDownDxIdeal.τ Cert.FfnDownDxIdeal.sig) → Buf (Elt Ideal) ℓ) (g : Dev Cert.FfnDownDxIdeal.nD → PrngReg), Pre_FfnDownDxIdeal m →
    θ_run (Cert.FfnDownDxIdeal.defs (F := Ideal)) (onTc (τ := Cert.FfnDownDxIdeal.τ) (Cert.FfnDownDxIdeal.main (F := Ideal))) ⟨m, fun _ => 0, g⟩ (fun r => (∀ c : Dev Cert.FfnDownDxIdeal.nD,
      r.2.mem ((c.tc : Thread Cert.FfnDownDxIdeal.nD Cert.FfnDownDxIdeal.τ).loc Cert.FfnDownDxIdeal.main_arg0) = m ((c.tc : Thread Cert.FfnDownDxIdeal.nD Cert.FfnDownDxIdeal.τ).loc Cert.FfnDownDxIdeal.main_arg0)
      ∧ r.2.mem ((c.tc : Thread Cert.FfnDownDxIdeal.nD Cert.FfnDownDxIdeal.τ).loc Cert.FfnDownDxIdeal.main_arg1) = m ((c.tc : Thread Cert.FfnDownDxIdeal.nD Cert.FfnDownDxIdeal.τ).loc Cert.FfnDownDxIdeal.main_arg1))
      ∧ r.2.sem = fun _ => 0)

def quiescent_FfnDownDxRefIdeal [hFfnDownDxRefIdeal : Cert.FfnDownDxRefIdeal.Facts] : Prop :=
  ∀ (m : (ℓ : Loc Cert.FfnDownDxRefIdeal.nD Cert.FfnDownDxRefIdeal.τ Cert.FfnDownDxRefIdeal.sig) → Buf (Elt Ideal) ℓ) (g : Dev Cert.FfnDownDxRefIdeal.nD → PrngReg), Pre_FfnDownDxRefIdeal m →
    θ_run (Cert.FfnDownDxRefIdeal.defs (F := Ideal)) (onTc (τ := Cert.FfnDownDxRefIdeal.τ) (Cert.FfnDownDxRefIdeal.main (F := Ideal))) ⟨m, fun _ => 0, g⟩ (fun r => (∀ c : Dev Cert.FfnDownDxRefIdeal.nD,
      r.2.mem ((c.tc : Thread Cert.FfnDownDxRefIdeal.nD Cert.FfnDownDxRefIdeal.τ).loc Cert.FfnDownDxRefIdeal.main_arg0) = m ((c.tc : Thread Cert.FfnDownDxRefIdeal.nD Cert.FfnDownDxRefIdeal.τ).loc Cert.FfnDownDxRefIdeal.main_arg0)
      ∧ r.2.mem ((c.tc : Thread Cert.FfnDownDxRefIdeal.nD Cert.FfnDownDxRefIdeal.τ).loc Cert.FfnDownDxRefIdeal.main_arg1) = m ((c.tc : Thread Cert.FfnDownDxRefIdeal.nD Cert.FfnDownDxRefIdeal.τ).loc Cert.FfnDownDxRefIdeal.main_arg1))
      ∧ r.2.sem = fun _ => 0)

def quiescent_FfnDownDw [hFfnDownDw : Cert.FfnDownDw.Facts] : Prop :=
  ∀ (m : (ℓ : Loc Cert.FfnDownDw.nD Cert.FfnDownDw.τ Cert.FfnDownDw.sig) → Buf (Elt Bits) ℓ) (g : Dev Cert.FfnDownDw.nD → PrngReg), Pre_FfnDownDw m →
    θ_run (Cert.FfnDownDw.defs (F := Bits)) (onTc (τ := Cert.FfnDownDw.τ) (Cert.FfnDownDw.main (F := Bits))) ⟨m, fun _ => 0, g⟩ (fun r => (∀ c : Dev Cert.FfnDownDw.nD,
      r.2.mem ((c.tc : Thread Cert.FfnDownDw.nD Cert.FfnDownDw.τ).loc Cert.FfnDownDw.main_arg0) = m ((c.tc : Thread Cert.FfnDownDw.nD Cert.FfnDownDw.τ).loc Cert.FfnDownDw.main_arg0)
      ∧ r.2.mem ((c.tc : Thread Cert.FfnDownDw.nD Cert.FfnDownDw.τ).loc Cert.FfnDownDw.main_arg1) = m ((c.tc : Thread Cert.FfnDownDw.nD Cert.FfnDownDw.τ).loc Cert.FfnDownDw.main_arg1))
      ∧ r.2.sem = fun _ => 0)

def quiescent_FfnDownDwIdeal [hFfnDownDwIdeal : Cert.FfnDownDwIdeal.Facts] : Prop :=
  ∀ (m : (ℓ : Loc Cert.FfnDownDwIdeal.nD Cert.FfnDownDwIdeal.τ Cert.FfnDownDwIdeal.sig) → Buf (Elt Ideal) ℓ) (g : Dev Cert.FfnDownDwIdeal.nD → PrngReg), Pre_FfnDownDwIdeal m →
    θ_run (Cert.FfnDownDwIdeal.defs (F := Ideal)) (onTc (τ := Cert.FfnDownDwIdeal.τ) (Cert.FfnDownDwIdeal.main (F := Ideal))) ⟨m, fun _ => 0, g⟩ (fun r => (∀ c : Dev Cert.FfnDownDwIdeal.nD,
      r.2.mem ((c.tc : Thread Cert.FfnDownDwIdeal.nD Cert.FfnDownDwIdeal.τ).loc Cert.FfnDownDwIdeal.main_arg0) = m ((c.tc : Thread Cert.FfnDownDwIdeal.nD Cert.FfnDownDwIdeal.τ).loc Cert.FfnDownDwIdeal.main_arg0)
      ∧ r.2.mem ((c.tc : Thread Cert.FfnDownDwIdeal.nD Cert.FfnDownDwIdeal.τ).loc Cert.FfnDownDwIdeal.main_arg1) = m ((c.tc : Thread Cert.FfnDownDwIdeal.nD Cert.FfnDownDwIdeal.τ).loc Cert.FfnDownDwIdeal.main_arg1))
      ∧ r.2.sem = fun _ => 0)

def quiescent_FfnDownDwRefIdeal [hFfnDownDwRefIdeal : Cert.FfnDownDwRefIdeal.Facts] : Prop :=
  ∀ (m : (ℓ : Loc Cert.FfnDownDwRefIdeal.nD Cert.FfnDownDwRefIdeal.τ Cert.FfnDownDwRefIdeal.sig) → Buf (Elt Ideal) ℓ) (g : Dev Cert.FfnDownDwRefIdeal.nD → PrngReg), Pre_FfnDownDwRefIdeal m →
    θ_run (Cert.FfnDownDwRefIdeal.defs (F := Ideal)) (onTc (τ := Cert.FfnDownDwRefIdeal.τ) (Cert.FfnDownDwRefIdeal.main (F := Ideal))) ⟨m, fun _ => 0, g⟩ (fun r => (∀ c : Dev Cert.FfnDownDwRefIdeal.nD,
      r.2.mem ((c.tc : Thread Cert.FfnDownDwRefIdeal.nD Cert.FfnDownDwRefIdeal.τ).loc Cert.FfnDownDwRefIdeal.main_arg0) = m ((c.tc : Thread Cert.FfnDownDwRefIdeal.nD Cert.FfnDownDwRefIdeal.τ).loc Cert.FfnDownDwRefIdeal.main_arg0)
      ∧ r.2.mem ((c.tc : Thread Cert.FfnDownDwRefIdeal.nD Cert.FfnDownDwRefIdeal.τ).loc Cert.FfnDownDwRefIdeal.main_arg1) = m ((c.tc : Thread Cert.FfnDownDwRefIdeal.nD Cert.FfnDownDwRefIdeal.τ).loc Cert.FfnDownDwRefIdeal.main_arg1))
      ∧ r.2.sem = fun _ => 0)

def quiescent_SsmInDx [hSsmInDx : Cert.SsmInDx.Facts] : Prop :=
  ∀ (m : (ℓ : Loc Cert.SsmInDx.nD Cert.SsmInDx.τ Cert.SsmInDx.sig) → Buf (Elt Bits) ℓ) (g : Dev Cert.SsmInDx.nD → PrngReg), Pre_SsmInDx m →
    θ_run (Cert.SsmInDx.defs (F := Bits)) (onTc (τ := Cert.SsmInDx.τ) (Cert.SsmInDx.main (F := Bits))) ⟨m, fun _ => 0, g⟩ (fun r => (∀ c : Dev Cert.SsmInDx.nD,
      r.2.mem ((c.tc : Thread Cert.SsmInDx.nD Cert.SsmInDx.τ).loc Cert.SsmInDx.main_arg0) = m ((c.tc : Thread Cert.SsmInDx.nD Cert.SsmInDx.τ).loc Cert.SsmInDx.main_arg0)
      ∧ r.2.mem ((c.tc : Thread Cert.SsmInDx.nD Cert.SsmInDx.τ).loc Cert.SsmInDx.main_arg1) = m ((c.tc : Thread Cert.SsmInDx.nD Cert.SsmInDx.τ).loc Cert.SsmInDx.main_arg1))
      ∧ r.2.sem = fun _ => 0)

def quiescent_SsmInDxIdeal [hSsmInDxIdeal : Cert.SsmInDxIdeal.Facts] : Prop :=
  ∀ (m : (ℓ : Loc Cert.SsmInDxIdeal.nD Cert.SsmInDxIdeal.τ Cert.SsmInDxIdeal.sig) → Buf (Elt Ideal) ℓ) (g : Dev Cert.SsmInDxIdeal.nD → PrngReg), Pre_SsmInDxIdeal m →
    θ_run (Cert.SsmInDxIdeal.defs (F := Ideal)) (onTc (τ := Cert.SsmInDxIdeal.τ) (Cert.SsmInDxIdeal.main (F := Ideal))) ⟨m, fun _ => 0, g⟩ (fun r => (∀ c : Dev Cert.SsmInDxIdeal.nD,
      r.2.mem ((c.tc : Thread Cert.SsmInDxIdeal.nD Cert.SsmInDxIdeal.τ).loc Cert.SsmInDxIdeal.main_arg0) = m ((c.tc : Thread Cert.SsmInDxIdeal.nD Cert.SsmInDxIdeal.τ).loc Cert.SsmInDxIdeal.main_arg0)
      ∧ r.2.mem ((c.tc : Thread Cert.SsmInDxIdeal.nD Cert.SsmInDxIdeal.τ).loc Cert.SsmInDxIdeal.main_arg1) = m ((c.tc : Thread Cert.SsmInDxIdeal.nD Cert.SsmInDxIdeal.τ).loc Cert.SsmInDxIdeal.main_arg1))
      ∧ r.2.sem = fun _ => 0)

def quiescent_SsmInDxRefIdeal [hSsmInDxRefIdeal : Cert.SsmInDxRefIdeal.Facts] : Prop :=
  ∀ (m : (ℓ : Loc Cert.SsmInDxRefIdeal.nD Cert.SsmInDxRefIdeal.τ Cert.SsmInDxRefIdeal.sig) → Buf (Elt Ideal) ℓ) (g : Dev Cert.SsmInDxRefIdeal.nD → PrngReg), Pre_SsmInDxRefIdeal m →
    θ_run (Cert.SsmInDxRefIdeal.defs (F := Ideal)) (onTc (τ := Cert.SsmInDxRefIdeal.τ) (Cert.SsmInDxRefIdeal.main (F := Ideal))) ⟨m, fun _ => 0, g⟩ (fun r => (∀ c : Dev Cert.SsmInDxRefIdeal.nD,
      r.2.mem ((c.tc : Thread Cert.SsmInDxRefIdeal.nD Cert.SsmInDxRefIdeal.τ).loc Cert.SsmInDxRefIdeal.main_arg0) = m ((c.tc : Thread Cert.SsmInDxRefIdeal.nD Cert.SsmInDxRefIdeal.τ).loc Cert.SsmInDxRefIdeal.main_arg0)
      ∧ r.2.mem ((c.tc : Thread Cert.SsmInDxRefIdeal.nD Cert.SsmInDxRefIdeal.τ).loc Cert.SsmInDxRefIdeal.main_arg1) = m ((c.tc : Thread Cert.SsmInDxRefIdeal.nD Cert.SsmInDxRefIdeal.τ).loc Cert.SsmInDxRefIdeal.main_arg1))
      ∧ r.2.sem = fun _ => 0)

def quiescent_SsmInDw [hSsmInDw : Cert.SsmInDw.Facts] : Prop :=
  ∀ (m : (ℓ : Loc Cert.SsmInDw.nD Cert.SsmInDw.τ Cert.SsmInDw.sig) → Buf (Elt Bits) ℓ) (g : Dev Cert.SsmInDw.nD → PrngReg), Pre_SsmInDw m →
    θ_run (Cert.SsmInDw.defs (F := Bits)) (onTc (τ := Cert.SsmInDw.τ) (Cert.SsmInDw.main (F := Bits))) ⟨m, fun _ => 0, g⟩ (fun r => (∀ c : Dev Cert.SsmInDw.nD,
      r.2.mem ((c.tc : Thread Cert.SsmInDw.nD Cert.SsmInDw.τ).loc Cert.SsmInDw.main_arg0) = m ((c.tc : Thread Cert.SsmInDw.nD Cert.SsmInDw.τ).loc Cert.SsmInDw.main_arg0)
      ∧ r.2.mem ((c.tc : Thread Cert.SsmInDw.nD Cert.SsmInDw.τ).loc Cert.SsmInDw.main_arg1) = m ((c.tc : Thread Cert.SsmInDw.nD Cert.SsmInDw.τ).loc Cert.SsmInDw.main_arg1))
      ∧ r.2.sem = fun _ => 0)

def quiescent_SsmInDwIdeal [hSsmInDwIdeal : Cert.SsmInDwIdeal.Facts] : Prop :=
  ∀ (m : (ℓ : Loc Cert.SsmInDwIdeal.nD Cert.SsmInDwIdeal.τ Cert.SsmInDwIdeal.sig) → Buf (Elt Ideal) ℓ) (g : Dev Cert.SsmInDwIdeal.nD → PrngReg), Pre_SsmInDwIdeal m →
    θ_run (Cert.SsmInDwIdeal.defs (F := Ideal)) (onTc (τ := Cert.SsmInDwIdeal.τ) (Cert.SsmInDwIdeal.main (F := Ideal))) ⟨m, fun _ => 0, g⟩ (fun r => (∀ c : Dev Cert.SsmInDwIdeal.nD,
      r.2.mem ((c.tc : Thread Cert.SsmInDwIdeal.nD Cert.SsmInDwIdeal.τ).loc Cert.SsmInDwIdeal.main_arg0) = m ((c.tc : Thread Cert.SsmInDwIdeal.nD Cert.SsmInDwIdeal.τ).loc Cert.SsmInDwIdeal.main_arg0)
      ∧ r.2.mem ((c.tc : Thread Cert.SsmInDwIdeal.nD Cert.SsmInDwIdeal.τ).loc Cert.SsmInDwIdeal.main_arg1) = m ((c.tc : Thread Cert.SsmInDwIdeal.nD Cert.SsmInDwIdeal.τ).loc Cert.SsmInDwIdeal.main_arg1))
      ∧ r.2.sem = fun _ => 0)

def quiescent_SsmInDwRefIdeal [hSsmInDwRefIdeal : Cert.SsmInDwRefIdeal.Facts] : Prop :=
  ∀ (m : (ℓ : Loc Cert.SsmInDwRefIdeal.nD Cert.SsmInDwRefIdeal.τ Cert.SsmInDwRefIdeal.sig) → Buf (Elt Ideal) ℓ) (g : Dev Cert.SsmInDwRefIdeal.nD → PrngReg), Pre_SsmInDwRefIdeal m →
    θ_run (Cert.SsmInDwRefIdeal.defs (F := Ideal)) (onTc (τ := Cert.SsmInDwRefIdeal.τ) (Cert.SsmInDwRefIdeal.main (F := Ideal))) ⟨m, fun _ => 0, g⟩ (fun r => (∀ c : Dev Cert.SsmInDwRefIdeal.nD,
      r.2.mem ((c.tc : Thread Cert.SsmInDwRefIdeal.nD Cert.SsmInDwRefIdeal.τ).loc Cert.SsmInDwRefIdeal.main_arg0) = m ((c.tc : Thread Cert.SsmInDwRefIdeal.nD Cert.SsmInDwRefIdeal.τ).loc Cert.SsmInDwRefIdeal.main_arg0)
      ∧ r.2.mem ((c.tc : Thread Cert.SsmInDwRefIdeal.nD Cert.SsmInDwRefIdeal.τ).loc Cert.SsmInDwRefIdeal.main_arg1) = m ((c.tc : Thread Cert.SsmInDwRefIdeal.nD Cert.SsmInDwRefIdeal.τ).loc Cert.SsmInDwRefIdeal.main_arg1))
      ∧ r.2.sem = fun _ => 0)

def quiescent_SsmOutDx [hSsmOutDx : Cert.SsmOutDx.Facts] : Prop :=
  ∀ (m : (ℓ : Loc Cert.SsmOutDx.nD Cert.SsmOutDx.τ Cert.SsmOutDx.sig) → Buf (Elt Bits) ℓ) (g : Dev Cert.SsmOutDx.nD → PrngReg), Pre_SsmOutDx m →
    θ_run (Cert.SsmOutDx.defs (F := Bits)) (onTc (τ := Cert.SsmOutDx.τ) (Cert.SsmOutDx.main (F := Bits))) ⟨m, fun _ => 0, g⟩ (fun r => (∀ c : Dev Cert.SsmOutDx.nD,
      r.2.mem ((c.tc : Thread Cert.SsmOutDx.nD Cert.SsmOutDx.τ).loc Cert.SsmOutDx.main_arg0) = m ((c.tc : Thread Cert.SsmOutDx.nD Cert.SsmOutDx.τ).loc Cert.SsmOutDx.main_arg0)
      ∧ r.2.mem ((c.tc : Thread Cert.SsmOutDx.nD Cert.SsmOutDx.τ).loc Cert.SsmOutDx.main_arg1) = m ((c.tc : Thread Cert.SsmOutDx.nD Cert.SsmOutDx.τ).loc Cert.SsmOutDx.main_arg1))
      ∧ r.2.sem = fun _ => 0)

def quiescent_SsmOutDxIdeal [hSsmOutDxIdeal : Cert.SsmOutDxIdeal.Facts] : Prop :=
  ∀ (m : (ℓ : Loc Cert.SsmOutDxIdeal.nD Cert.SsmOutDxIdeal.τ Cert.SsmOutDxIdeal.sig) → Buf (Elt Ideal) ℓ) (g : Dev Cert.SsmOutDxIdeal.nD → PrngReg), Pre_SsmOutDxIdeal m →
    θ_run (Cert.SsmOutDxIdeal.defs (F := Ideal)) (onTc (τ := Cert.SsmOutDxIdeal.τ) (Cert.SsmOutDxIdeal.main (F := Ideal))) ⟨m, fun _ => 0, g⟩ (fun r => (∀ c : Dev Cert.SsmOutDxIdeal.nD,
      r.2.mem ((c.tc : Thread Cert.SsmOutDxIdeal.nD Cert.SsmOutDxIdeal.τ).loc Cert.SsmOutDxIdeal.main_arg0) = m ((c.tc : Thread Cert.SsmOutDxIdeal.nD Cert.SsmOutDxIdeal.τ).loc Cert.SsmOutDxIdeal.main_arg0)
      ∧ r.2.mem ((c.tc : Thread Cert.SsmOutDxIdeal.nD Cert.SsmOutDxIdeal.τ).loc Cert.SsmOutDxIdeal.main_arg1) = m ((c.tc : Thread Cert.SsmOutDxIdeal.nD Cert.SsmOutDxIdeal.τ).loc Cert.SsmOutDxIdeal.main_arg1))
      ∧ r.2.sem = fun _ => 0)

def quiescent_SsmOutDxRefIdeal [hSsmOutDxRefIdeal : Cert.SsmOutDxRefIdeal.Facts] : Prop :=
  ∀ (m : (ℓ : Loc Cert.SsmOutDxRefIdeal.nD Cert.SsmOutDxRefIdeal.τ Cert.SsmOutDxRefIdeal.sig) → Buf (Elt Ideal) ℓ) (g : Dev Cert.SsmOutDxRefIdeal.nD → PrngReg), Pre_SsmOutDxRefIdeal m →
    θ_run (Cert.SsmOutDxRefIdeal.defs (F := Ideal)) (onTc (τ := Cert.SsmOutDxRefIdeal.τ) (Cert.SsmOutDxRefIdeal.main (F := Ideal))) ⟨m, fun _ => 0, g⟩ (fun r => (∀ c : Dev Cert.SsmOutDxRefIdeal.nD,
      r.2.mem ((c.tc : Thread Cert.SsmOutDxRefIdeal.nD Cert.SsmOutDxRefIdeal.τ).loc Cert.SsmOutDxRefIdeal.main_arg0) = m ((c.tc : Thread Cert.SsmOutDxRefIdeal.nD Cert.SsmOutDxRefIdeal.τ).loc Cert.SsmOutDxRefIdeal.main_arg0)
      ∧ r.2.mem ((c.tc : Thread Cert.SsmOutDxRefIdeal.nD Cert.SsmOutDxRefIdeal.τ).loc Cert.SsmOutDxRefIdeal.main_arg1) = m ((c.tc : Thread Cert.SsmOutDxRefIdeal.nD Cert.SsmOutDxRefIdeal.τ).loc Cert.SsmOutDxRefIdeal.main_arg1))
      ∧ r.2.sem = fun _ => 0)

def quiescent_SsmOutDw [hSsmOutDw : Cert.SsmOutDw.Facts] : Prop :=
  ∀ (m : (ℓ : Loc Cert.SsmOutDw.nD Cert.SsmOutDw.τ Cert.SsmOutDw.sig) → Buf (Elt Bits) ℓ) (g : Dev Cert.SsmOutDw.nD → PrngReg), Pre_SsmOutDw m →
    θ_run (Cert.SsmOutDw.defs (F := Bits)) (onTc (τ := Cert.SsmOutDw.τ) (Cert.SsmOutDw.main (F := Bits))) ⟨m, fun _ => 0, g⟩ (fun r => (∀ c : Dev Cert.SsmOutDw.nD,
      r.2.mem ((c.tc : Thread Cert.SsmOutDw.nD Cert.SsmOutDw.τ).loc Cert.SsmOutDw.main_arg0) = m ((c.tc : Thread Cert.SsmOutDw.nD Cert.SsmOutDw.τ).loc Cert.SsmOutDw.main_arg0)
      ∧ r.2.mem ((c.tc : Thread Cert.SsmOutDw.nD Cert.SsmOutDw.τ).loc Cert.SsmOutDw.main_arg1) = m ((c.tc : Thread Cert.SsmOutDw.nD Cert.SsmOutDw.τ).loc Cert.SsmOutDw.main_arg1))
      ∧ r.2.sem = fun _ => 0)

def quiescent_SsmOutDwIdeal [hSsmOutDwIdeal : Cert.SsmOutDwIdeal.Facts] : Prop :=
  ∀ (m : (ℓ : Loc Cert.SsmOutDwIdeal.nD Cert.SsmOutDwIdeal.τ Cert.SsmOutDwIdeal.sig) → Buf (Elt Ideal) ℓ) (g : Dev Cert.SsmOutDwIdeal.nD → PrngReg), Pre_SsmOutDwIdeal m →
    θ_run (Cert.SsmOutDwIdeal.defs (F := Ideal)) (onTc (τ := Cert.SsmOutDwIdeal.τ) (Cert.SsmOutDwIdeal.main (F := Ideal))) ⟨m, fun _ => 0, g⟩ (fun r => (∀ c : Dev Cert.SsmOutDwIdeal.nD,
      r.2.mem ((c.tc : Thread Cert.SsmOutDwIdeal.nD Cert.SsmOutDwIdeal.τ).loc Cert.SsmOutDwIdeal.main_arg0) = m ((c.tc : Thread Cert.SsmOutDwIdeal.nD Cert.SsmOutDwIdeal.τ).loc Cert.SsmOutDwIdeal.main_arg0)
      ∧ r.2.mem ((c.tc : Thread Cert.SsmOutDwIdeal.nD Cert.SsmOutDwIdeal.τ).loc Cert.SsmOutDwIdeal.main_arg1) = m ((c.tc : Thread Cert.SsmOutDwIdeal.nD Cert.SsmOutDwIdeal.τ).loc Cert.SsmOutDwIdeal.main_arg1))
      ∧ r.2.sem = fun _ => 0)

def quiescent_SsmOutDwRefIdeal [hSsmOutDwRefIdeal : Cert.SsmOutDwRefIdeal.Facts] : Prop :=
  ∀ (m : (ℓ : Loc Cert.SsmOutDwRefIdeal.nD Cert.SsmOutDwRefIdeal.τ Cert.SsmOutDwRefIdeal.sig) → Buf (Elt Ideal) ℓ) (g : Dev Cert.SsmOutDwRefIdeal.nD → PrngReg), Pre_SsmOutDwRefIdeal m →
    θ_run (Cert.SsmOutDwRefIdeal.defs (F := Ideal)) (onTc (τ := Cert.SsmOutDwRefIdeal.τ) (Cert.SsmOutDwRefIdeal.main (F := Ideal))) ⟨m, fun _ => 0, g⟩ (fun r => (∀ c : Dev Cert.SsmOutDwRefIdeal.nD,
      r.2.mem ((c.tc : Thread Cert.SsmOutDwRefIdeal.nD Cert.SsmOutDwRefIdeal.τ).loc Cert.SsmOutDwRefIdeal.main_arg0) = m ((c.tc : Thread Cert.SsmOutDwRefIdeal.nD Cert.SsmOutDwRefIdeal.τ).loc Cert.SsmOutDwRefIdeal.main_arg0)
      ∧ r.2.mem ((c.tc : Thread Cert.SsmOutDwRefIdeal.nD Cert.SsmOutDwRefIdeal.τ).loc Cert.SsmOutDwRefIdeal.main_arg1) = m ((c.tc : Thread Cert.SsmOutDwRefIdeal.nD Cert.SsmOutDwRefIdeal.τ).loc Cert.SsmOutDwRefIdeal.main_arg1))
      ∧ r.2.sem = fun _ => 0)

def quiescent_CvInDx [hCvInDx : Cert.CvInDx.Facts] : Prop :=
  ∀ (m : (ℓ : Loc Cert.CvInDx.nD Cert.CvInDx.τ Cert.CvInDx.sig) → Buf (Elt Bits) ℓ) (g : Dev Cert.CvInDx.nD → PrngReg), Pre_CvInDx m →
    θ_run (Cert.CvInDx.defs (F := Bits)) (onTc (τ := Cert.CvInDx.τ) (Cert.CvInDx.main (F := Bits))) ⟨m, fun _ => 0, g⟩ (fun r => (∀ c : Dev Cert.CvInDx.nD,
      r.2.mem ((c.tc : Thread Cert.CvInDx.nD Cert.CvInDx.τ).loc Cert.CvInDx.main_arg0) = m ((c.tc : Thread Cert.CvInDx.nD Cert.CvInDx.τ).loc Cert.CvInDx.main_arg0)
      ∧ r.2.mem ((c.tc : Thread Cert.CvInDx.nD Cert.CvInDx.τ).loc Cert.CvInDx.main_arg1) = m ((c.tc : Thread Cert.CvInDx.nD Cert.CvInDx.τ).loc Cert.CvInDx.main_arg1))
      ∧ r.2.sem = fun _ => 0)

def quiescent_CvInDxIdeal [hCvInDxIdeal : Cert.CvInDxIdeal.Facts] : Prop :=
  ∀ (m : (ℓ : Loc Cert.CvInDxIdeal.nD Cert.CvInDxIdeal.τ Cert.CvInDxIdeal.sig) → Buf (Elt Ideal) ℓ) (g : Dev Cert.CvInDxIdeal.nD → PrngReg), Pre_CvInDxIdeal m →
    θ_run (Cert.CvInDxIdeal.defs (F := Ideal)) (onTc (τ := Cert.CvInDxIdeal.τ) (Cert.CvInDxIdeal.main (F := Ideal))) ⟨m, fun _ => 0, g⟩ (fun r => (∀ c : Dev Cert.CvInDxIdeal.nD,
      r.2.mem ((c.tc : Thread Cert.CvInDxIdeal.nD Cert.CvInDxIdeal.τ).loc Cert.CvInDxIdeal.main_arg0) = m ((c.tc : Thread Cert.CvInDxIdeal.nD Cert.CvInDxIdeal.τ).loc Cert.CvInDxIdeal.main_arg0)
      ∧ r.2.mem ((c.tc : Thread Cert.CvInDxIdeal.nD Cert.CvInDxIdeal.τ).loc Cert.CvInDxIdeal.main_arg1) = m ((c.tc : Thread Cert.CvInDxIdeal.nD Cert.CvInDxIdeal.τ).loc Cert.CvInDxIdeal.main_arg1))
      ∧ r.2.sem = fun _ => 0)

def quiescent_CvInDxRefIdeal [hCvInDxRefIdeal : Cert.CvInDxRefIdeal.Facts] : Prop :=
  ∀ (m : (ℓ : Loc Cert.CvInDxRefIdeal.nD Cert.CvInDxRefIdeal.τ Cert.CvInDxRefIdeal.sig) → Buf (Elt Ideal) ℓ) (g : Dev Cert.CvInDxRefIdeal.nD → PrngReg), Pre_CvInDxRefIdeal m →
    θ_run (Cert.CvInDxRefIdeal.defs (F := Ideal)) (onTc (τ := Cert.CvInDxRefIdeal.τ) (Cert.CvInDxRefIdeal.main (F := Ideal))) ⟨m, fun _ => 0, g⟩ (fun r => (∀ c : Dev Cert.CvInDxRefIdeal.nD,
      r.2.mem ((c.tc : Thread Cert.CvInDxRefIdeal.nD Cert.CvInDxRefIdeal.τ).loc Cert.CvInDxRefIdeal.main_arg0) = m ((c.tc : Thread Cert.CvInDxRefIdeal.nD Cert.CvInDxRefIdeal.τ).loc Cert.CvInDxRefIdeal.main_arg0)
      ∧ r.2.mem ((c.tc : Thread Cert.CvInDxRefIdeal.nD Cert.CvInDxRefIdeal.τ).loc Cert.CvInDxRefIdeal.main_arg1) = m ((c.tc : Thread Cert.CvInDxRefIdeal.nD Cert.CvInDxRefIdeal.τ).loc Cert.CvInDxRefIdeal.main_arg1))
      ∧ r.2.sem = fun _ => 0)

def quiescent_CvInDw [hCvInDw : Cert.CvInDw.Facts] : Prop :=
  ∀ (m : (ℓ : Loc Cert.CvInDw.nD Cert.CvInDw.τ Cert.CvInDw.sig) → Buf (Elt Bits) ℓ) (g : Dev Cert.CvInDw.nD → PrngReg), Pre_CvInDw m →
    θ_run (Cert.CvInDw.defs (F := Bits)) (onTc (τ := Cert.CvInDw.τ) (Cert.CvInDw.main (F := Bits))) ⟨m, fun _ => 0, g⟩ (fun r => (∀ c : Dev Cert.CvInDw.nD,
      r.2.mem ((c.tc : Thread Cert.CvInDw.nD Cert.CvInDw.τ).loc Cert.CvInDw.main_arg0) = m ((c.tc : Thread Cert.CvInDw.nD Cert.CvInDw.τ).loc Cert.CvInDw.main_arg0)
      ∧ r.2.mem ((c.tc : Thread Cert.CvInDw.nD Cert.CvInDw.τ).loc Cert.CvInDw.main_arg1) = m ((c.tc : Thread Cert.CvInDw.nD Cert.CvInDw.τ).loc Cert.CvInDw.main_arg1))
      ∧ r.2.sem = fun _ => 0)

def quiescent_CvInDwIdeal [hCvInDwIdeal : Cert.CvInDwIdeal.Facts] : Prop :=
  ∀ (m : (ℓ : Loc Cert.CvInDwIdeal.nD Cert.CvInDwIdeal.τ Cert.CvInDwIdeal.sig) → Buf (Elt Ideal) ℓ) (g : Dev Cert.CvInDwIdeal.nD → PrngReg), Pre_CvInDwIdeal m →
    θ_run (Cert.CvInDwIdeal.defs (F := Ideal)) (onTc (τ := Cert.CvInDwIdeal.τ) (Cert.CvInDwIdeal.main (F := Ideal))) ⟨m, fun _ => 0, g⟩ (fun r => (∀ c : Dev Cert.CvInDwIdeal.nD,
      r.2.mem ((c.tc : Thread Cert.CvInDwIdeal.nD Cert.CvInDwIdeal.τ).loc Cert.CvInDwIdeal.main_arg0) = m ((c.tc : Thread Cert.CvInDwIdeal.nD Cert.CvInDwIdeal.τ).loc Cert.CvInDwIdeal.main_arg0)
      ∧ r.2.mem ((c.tc : Thread Cert.CvInDwIdeal.nD Cert.CvInDwIdeal.τ).loc Cert.CvInDwIdeal.main_arg1) = m ((c.tc : Thread Cert.CvInDwIdeal.nD Cert.CvInDwIdeal.τ).loc Cert.CvInDwIdeal.main_arg1))
      ∧ r.2.sem = fun _ => 0)

def quiescent_CvInDwRefIdeal [hCvInDwRefIdeal : Cert.CvInDwRefIdeal.Facts] : Prop :=
  ∀ (m : (ℓ : Loc Cert.CvInDwRefIdeal.nD Cert.CvInDwRefIdeal.τ Cert.CvInDwRefIdeal.sig) → Buf (Elt Ideal) ℓ) (g : Dev Cert.CvInDwRefIdeal.nD → PrngReg), Pre_CvInDwRefIdeal m →
    θ_run (Cert.CvInDwRefIdeal.defs (F := Ideal)) (onTc (τ := Cert.CvInDwRefIdeal.τ) (Cert.CvInDwRefIdeal.main (F := Ideal))) ⟨m, fun _ => 0, g⟩ (fun r => (∀ c : Dev Cert.CvInDwRefIdeal.nD,
      r.2.mem ((c.tc : Thread Cert.CvInDwRefIdeal.nD Cert.CvInDwRefIdeal.τ).loc Cert.CvInDwRefIdeal.main_arg0) = m ((c.tc : Thread Cert.CvInDwRefIdeal.nD Cert.CvInDwRefIdeal.τ).loc Cert.CvInDwRefIdeal.main_arg0)
      ∧ r.2.mem ((c.tc : Thread Cert.CvInDwRefIdeal.nD Cert.CvInDwRefIdeal.τ).loc Cert.CvInDwRefIdeal.main_arg1) = m ((c.tc : Thread Cert.CvInDwRefIdeal.nD Cert.CvInDwRefIdeal.τ).loc Cert.CvInDwRefIdeal.main_arg1))
      ∧ r.2.sem = fun _ => 0)

def quiescent_CvOutDx [hCvOutDx : Cert.CvOutDx.Facts] : Prop :=
  ∀ (m : (ℓ : Loc Cert.CvOutDx.nD Cert.CvOutDx.τ Cert.CvOutDx.sig) → Buf (Elt Bits) ℓ) (g : Dev Cert.CvOutDx.nD → PrngReg), Pre_CvOutDx m →
    θ_run (Cert.CvOutDx.defs (F := Bits)) (onTc (τ := Cert.CvOutDx.τ) (Cert.CvOutDx.main (F := Bits))) ⟨m, fun _ => 0, g⟩ (fun r => (∀ c : Dev Cert.CvOutDx.nD,
      r.2.mem ((c.tc : Thread Cert.CvOutDx.nD Cert.CvOutDx.τ).loc Cert.CvOutDx.main_arg0) = m ((c.tc : Thread Cert.CvOutDx.nD Cert.CvOutDx.τ).loc Cert.CvOutDx.main_arg0)
      ∧ r.2.mem ((c.tc : Thread Cert.CvOutDx.nD Cert.CvOutDx.τ).loc Cert.CvOutDx.main_arg1) = m ((c.tc : Thread Cert.CvOutDx.nD Cert.CvOutDx.τ).loc Cert.CvOutDx.main_arg1))
      ∧ r.2.sem = fun _ => 0)

def quiescent_CvOutDxIdeal [hCvOutDxIdeal : Cert.CvOutDxIdeal.Facts] : Prop :=
  ∀ (m : (ℓ : Loc Cert.CvOutDxIdeal.nD Cert.CvOutDxIdeal.τ Cert.CvOutDxIdeal.sig) → Buf (Elt Ideal) ℓ) (g : Dev Cert.CvOutDxIdeal.nD → PrngReg), Pre_CvOutDxIdeal m →
    θ_run (Cert.CvOutDxIdeal.defs (F := Ideal)) (onTc (τ := Cert.CvOutDxIdeal.τ) (Cert.CvOutDxIdeal.main (F := Ideal))) ⟨m, fun _ => 0, g⟩ (fun r => (∀ c : Dev Cert.CvOutDxIdeal.nD,
      r.2.mem ((c.tc : Thread Cert.CvOutDxIdeal.nD Cert.CvOutDxIdeal.τ).loc Cert.CvOutDxIdeal.main_arg0) = m ((c.tc : Thread Cert.CvOutDxIdeal.nD Cert.CvOutDxIdeal.τ).loc Cert.CvOutDxIdeal.main_arg0)
      ∧ r.2.mem ((c.tc : Thread Cert.CvOutDxIdeal.nD Cert.CvOutDxIdeal.τ).loc Cert.CvOutDxIdeal.main_arg1) = m ((c.tc : Thread Cert.CvOutDxIdeal.nD Cert.CvOutDxIdeal.τ).loc Cert.CvOutDxIdeal.main_arg1))
      ∧ r.2.sem = fun _ => 0)

def quiescent_CvOutDxRefIdeal [hCvOutDxRefIdeal : Cert.CvOutDxRefIdeal.Facts] : Prop :=
  ∀ (m : (ℓ : Loc Cert.CvOutDxRefIdeal.nD Cert.CvOutDxRefIdeal.τ Cert.CvOutDxRefIdeal.sig) → Buf (Elt Ideal) ℓ) (g : Dev Cert.CvOutDxRefIdeal.nD → PrngReg), Pre_CvOutDxRefIdeal m →
    θ_run (Cert.CvOutDxRefIdeal.defs (F := Ideal)) (onTc (τ := Cert.CvOutDxRefIdeal.τ) (Cert.CvOutDxRefIdeal.main (F := Ideal))) ⟨m, fun _ => 0, g⟩ (fun r => (∀ c : Dev Cert.CvOutDxRefIdeal.nD,
      r.2.mem ((c.tc : Thread Cert.CvOutDxRefIdeal.nD Cert.CvOutDxRefIdeal.τ).loc Cert.CvOutDxRefIdeal.main_arg0) = m ((c.tc : Thread Cert.CvOutDxRefIdeal.nD Cert.CvOutDxRefIdeal.τ).loc Cert.CvOutDxRefIdeal.main_arg0)
      ∧ r.2.mem ((c.tc : Thread Cert.CvOutDxRefIdeal.nD Cert.CvOutDxRefIdeal.τ).loc Cert.CvOutDxRefIdeal.main_arg1) = m ((c.tc : Thread Cert.CvOutDxRefIdeal.nD Cert.CvOutDxRefIdeal.τ).loc Cert.CvOutDxRefIdeal.main_arg1))
      ∧ r.2.sem = fun _ => 0)

def quiescent_CvOutDw [hCvOutDw : Cert.CvOutDw.Facts] : Prop :=
  ∀ (m : (ℓ : Loc Cert.CvOutDw.nD Cert.CvOutDw.τ Cert.CvOutDw.sig) → Buf (Elt Bits) ℓ) (g : Dev Cert.CvOutDw.nD → PrngReg), Pre_CvOutDw m →
    θ_run (Cert.CvOutDw.defs (F := Bits)) (onTc (τ := Cert.CvOutDw.τ) (Cert.CvOutDw.main (F := Bits))) ⟨m, fun _ => 0, g⟩ (fun r => (∀ c : Dev Cert.CvOutDw.nD,
      r.2.mem ((c.tc : Thread Cert.CvOutDw.nD Cert.CvOutDw.τ).loc Cert.CvOutDw.main_arg0) = m ((c.tc : Thread Cert.CvOutDw.nD Cert.CvOutDw.τ).loc Cert.CvOutDw.main_arg0)
      ∧ r.2.mem ((c.tc : Thread Cert.CvOutDw.nD Cert.CvOutDw.τ).loc Cert.CvOutDw.main_arg1) = m ((c.tc : Thread Cert.CvOutDw.nD Cert.CvOutDw.τ).loc Cert.CvOutDw.main_arg1))
      ∧ r.2.sem = fun _ => 0)

def quiescent_CvOutDwIdeal [hCvOutDwIdeal : Cert.CvOutDwIdeal.Facts] : Prop :=
  ∀ (m : (ℓ : Loc Cert.CvOutDwIdeal.nD Cert.CvOutDwIdeal.τ Cert.CvOutDwIdeal.sig) → Buf (Elt Ideal) ℓ) (g : Dev Cert.CvOutDwIdeal.nD → PrngReg), Pre_CvOutDwIdeal m →
    θ_run (Cert.CvOutDwIdeal.defs (F := Ideal)) (onTc (τ := Cert.CvOutDwIdeal.τ) (Cert.CvOutDwIdeal.main (F := Ideal))) ⟨m, fun _ => 0, g⟩ (fun r => (∀ c : Dev Cert.CvOutDwIdeal.nD,
      r.2.mem ((c.tc : Thread Cert.CvOutDwIdeal.nD Cert.CvOutDwIdeal.τ).loc Cert.CvOutDwIdeal.main_arg0) = m ((c.tc : Thread Cert.CvOutDwIdeal.nD Cert.CvOutDwIdeal.τ).loc Cert.CvOutDwIdeal.main_arg0)
      ∧ r.2.mem ((c.tc : Thread Cert.CvOutDwIdeal.nD Cert.CvOutDwIdeal.τ).loc Cert.CvOutDwIdeal.main_arg1) = m ((c.tc : Thread Cert.CvOutDwIdeal.nD Cert.CvOutDwIdeal.τ).loc Cert.CvOutDwIdeal.main_arg1))
      ∧ r.2.sem = fun _ => 0)

def quiescent_CvOutDwRefIdeal [hCvOutDwRefIdeal : Cert.CvOutDwRefIdeal.Facts] : Prop :=
  ∀ (m : (ℓ : Loc Cert.CvOutDwRefIdeal.nD Cert.CvOutDwRefIdeal.τ Cert.CvOutDwRefIdeal.sig) → Buf (Elt Ideal) ℓ) (g : Dev Cert.CvOutDwRefIdeal.nD → PrngReg), Pre_CvOutDwRefIdeal m →
    θ_run (Cert.CvOutDwRefIdeal.defs (F := Ideal)) (onTc (τ := Cert.CvOutDwRefIdeal.τ) (Cert.CvOutDwRefIdeal.main (F := Ideal))) ⟨m, fun _ => 0, g⟩ (fun r => (∀ c : Dev Cert.CvOutDwRefIdeal.nD,
      r.2.mem ((c.tc : Thread Cert.CvOutDwRefIdeal.nD Cert.CvOutDwRefIdeal.τ).loc Cert.CvOutDwRefIdeal.main_arg0) = m ((c.tc : Thread Cert.CvOutDwRefIdeal.nD Cert.CvOutDwRefIdeal.τ).loc Cert.CvOutDwRefIdeal.main_arg0)
      ∧ r.2.mem ((c.tc : Thread Cert.CvOutDwRefIdeal.nD Cert.CvOutDwRefIdeal.τ).loc Cert.CvOutDwRefIdeal.main_arg1) = m ((c.tc : Thread Cert.CvOutDwRefIdeal.nD Cert.CvOutDwRefIdeal.τ).loc Cert.CvOutDwRefIdeal.main_arg1))
      ∧ r.2.sem = fun _ => 0)

def quiescent_FfnUp [hFfnUp : Cert.FfnUp.Facts] : Prop :=
  ∀ (m : (ℓ : Loc Cert.FfnUp.nD Cert.FfnUp.τ Cert.FfnUp.sig) → Buf (Elt Bits) ℓ) (g : Dev Cert.FfnUp.nD → PrngReg), Pre_FfnUp m →
    θ_run (Cert.FfnUp.defs (F := Bits)) (onTc (τ := Cert.FfnUp.τ) (Cert.FfnUp.main (F := Bits))) ⟨m, fun _ => 0, g⟩ (fun r => (∀ c : Dev Cert.FfnUp.nD,
      r.2.mem ((c.tc : Thread Cert.FfnUp.nD Cert.FfnUp.τ).loc Cert.FfnUp.main_arg0) = m ((c.tc : Thread Cert.FfnUp.nD Cert.FfnUp.τ).loc Cert.FfnUp.main_arg0)
      ∧ r.2.mem ((c.tc : Thread Cert.FfnUp.nD Cert.FfnUp.τ).loc Cert.FfnUp.main_arg1) = m ((c.tc : Thread Cert.FfnUp.nD Cert.FfnUp.τ).loc Cert.FfnUp.main_arg1))
      ∧ r.2.sem = fun _ => 0)

def quiescent_FfnUpIdeal [hFfnUpIdeal : Cert.FfnUpIdeal.Facts] : Prop :=
  ∀ (m : (ℓ : Loc Cert.FfnUpIdeal.nD Cert.FfnUpIdeal.τ Cert.FfnUpIdeal.sig) → Buf (Elt Ideal) ℓ) (g : Dev Cert.FfnUpIdeal.nD → PrngReg), Pre_FfnUpIdeal m →
    θ_run (Cert.FfnUpIdeal.defs (F := Ideal)) (onTc (τ := Cert.FfnUpIdeal.τ) (Cert.FfnUpIdeal.main (F := Ideal))) ⟨m, fun _ => 0, g⟩ (fun r => (∀ c : Dev Cert.FfnUpIdeal.nD,
      r.2.mem ((c.tc : Thread Cert.FfnUpIdeal.nD Cert.FfnUpIdeal.τ).loc Cert.FfnUpIdeal.main_arg0) = m ((c.tc : Thread Cert.FfnUpIdeal.nD Cert.FfnUpIdeal.τ).loc Cert.FfnUpIdeal.main_arg0)
      ∧ r.2.mem ((c.tc : Thread Cert.FfnUpIdeal.nD Cert.FfnUpIdeal.τ).loc Cert.FfnUpIdeal.main_arg1) = m ((c.tc : Thread Cert.FfnUpIdeal.nD Cert.FfnUpIdeal.τ).loc Cert.FfnUpIdeal.main_arg1))
      ∧ r.2.sem = fun _ => 0)

def quiescent_FfnUpRefIdeal [hFfnUpRefIdeal : Cert.FfnUpRefIdeal.Facts] : Prop :=
  ∀ (m : (ℓ : Loc Cert.FfnUpRefIdeal.nD Cert.FfnUpRefIdeal.τ Cert.FfnUpRefIdeal.sig) → Buf (Elt Ideal) ℓ) (g : Dev Cert.FfnUpRefIdeal.nD → PrngReg), Pre_FfnUpRefIdeal m →
    θ_run (Cert.FfnUpRefIdeal.defs (F := Ideal)) (onTc (τ := Cert.FfnUpRefIdeal.τ) (Cert.FfnUpRefIdeal.main (F := Ideal))) ⟨m, fun _ => 0, g⟩ (fun r => (∀ c : Dev Cert.FfnUpRefIdeal.nD,
      r.2.mem ((c.tc : Thread Cert.FfnUpRefIdeal.nD Cert.FfnUpRefIdeal.τ).loc Cert.FfnUpRefIdeal.main_arg0) = m ((c.tc : Thread Cert.FfnUpRefIdeal.nD Cert.FfnUpRefIdeal.τ).loc Cert.FfnUpRefIdeal.main_arg0)
      ∧ r.2.mem ((c.tc : Thread Cert.FfnUpRefIdeal.nD Cert.FfnUpRefIdeal.τ).loc Cert.FfnUpRefIdeal.main_arg1) = m ((c.tc : Thread Cert.FfnUpRefIdeal.nD Cert.FfnUpRefIdeal.τ).loc Cert.FfnUpRefIdeal.main_arg1))
      ∧ r.2.sem = fun _ => 0)

def quiescent_FfnDown [hFfnDown : Cert.FfnDown.Facts] : Prop :=
  ∀ (m : (ℓ : Loc Cert.FfnDown.nD Cert.FfnDown.τ Cert.FfnDown.sig) → Buf (Elt Bits) ℓ) (g : Dev Cert.FfnDown.nD → PrngReg), Pre_FfnDown m →
    θ_run (Cert.FfnDown.defs (F := Bits)) (onTc (τ := Cert.FfnDown.τ) (Cert.FfnDown.main (F := Bits))) ⟨m, fun _ => 0, g⟩ (fun r => (∀ c : Dev Cert.FfnDown.nD,
      r.2.mem ((c.tc : Thread Cert.FfnDown.nD Cert.FfnDown.τ).loc Cert.FfnDown.main_arg0) = m ((c.tc : Thread Cert.FfnDown.nD Cert.FfnDown.τ).loc Cert.FfnDown.main_arg0)
      ∧ r.2.mem ((c.tc : Thread Cert.FfnDown.nD Cert.FfnDown.τ).loc Cert.FfnDown.main_arg1) = m ((c.tc : Thread Cert.FfnDown.nD Cert.FfnDown.τ).loc Cert.FfnDown.main_arg1)
      ∧ r.2.mem ((c.tc : Thread Cert.FfnDown.nD Cert.FfnDown.τ).loc Cert.FfnDown.main_arg2) = m ((c.tc : Thread Cert.FfnDown.nD Cert.FfnDown.τ).loc Cert.FfnDown.main_arg2))
      ∧ r.2.sem = fun _ => 0)

def quiescent_FfnDownIdeal [hFfnDownIdeal : Cert.FfnDownIdeal.Facts] : Prop :=
  ∀ (m : (ℓ : Loc Cert.FfnDownIdeal.nD Cert.FfnDownIdeal.τ Cert.FfnDownIdeal.sig) → Buf (Elt Ideal) ℓ) (g : Dev Cert.FfnDownIdeal.nD → PrngReg), Pre_FfnDownIdeal m →
    θ_run (Cert.FfnDownIdeal.defs (F := Ideal)) (onTc (τ := Cert.FfnDownIdeal.τ) (Cert.FfnDownIdeal.main (F := Ideal))) ⟨m, fun _ => 0, g⟩ (fun r => (∀ c : Dev Cert.FfnDownIdeal.nD,
      r.2.mem ((c.tc : Thread Cert.FfnDownIdeal.nD Cert.FfnDownIdeal.τ).loc Cert.FfnDownIdeal.main_arg0) = m ((c.tc : Thread Cert.FfnDownIdeal.nD Cert.FfnDownIdeal.τ).loc Cert.FfnDownIdeal.main_arg0)
      ∧ r.2.mem ((c.tc : Thread Cert.FfnDownIdeal.nD Cert.FfnDownIdeal.τ).loc Cert.FfnDownIdeal.main_arg1) = m ((c.tc : Thread Cert.FfnDownIdeal.nD Cert.FfnDownIdeal.τ).loc Cert.FfnDownIdeal.main_arg1)
      ∧ r.2.mem ((c.tc : Thread Cert.FfnDownIdeal.nD Cert.FfnDownIdeal.τ).loc Cert.FfnDownIdeal.main_arg2) = m ((c.tc : Thread Cert.FfnDownIdeal.nD Cert.FfnDownIdeal.τ).loc Cert.FfnDownIdeal.main_arg2))
      ∧ r.2.sem = fun _ => 0)

def quiescent_FfnDownRefIdeal [hFfnDownRefIdeal : Cert.FfnDownRefIdeal.Facts] : Prop :=
  ∀ (m : (ℓ : Loc Cert.FfnDownRefIdeal.nD Cert.FfnDownRefIdeal.τ Cert.FfnDownRefIdeal.sig) → Buf (Elt Ideal) ℓ) (g : Dev Cert.FfnDownRefIdeal.nD → PrngReg), Pre_FfnDownRefIdeal m →
    θ_run (Cert.FfnDownRefIdeal.defs (F := Ideal)) (onTc (τ := Cert.FfnDownRefIdeal.τ) (Cert.FfnDownRefIdeal.main (F := Ideal))) ⟨m, fun _ => 0, g⟩ (fun r => (∀ c : Dev Cert.FfnDownRefIdeal.nD,
      r.2.mem ((c.tc : Thread Cert.FfnDownRefIdeal.nD Cert.FfnDownRefIdeal.τ).loc Cert.FfnDownRefIdeal.main_arg0) = m ((c.tc : Thread Cert.FfnDownRefIdeal.nD Cert.FfnDownRefIdeal.τ).loc Cert.FfnDownRefIdeal.main_arg0)
      ∧ r.2.mem ((c.tc : Thread Cert.FfnDownRefIdeal.nD Cert.FfnDownRefIdeal.τ).loc Cert.FfnDownRefIdeal.main_arg1) = m ((c.tc : Thread Cert.FfnDownRefIdeal.nD Cert.FfnDownRefIdeal.τ).loc Cert.FfnDownRefIdeal.main_arg1)
      ∧ r.2.mem ((c.tc : Thread Cert.FfnDownRefIdeal.nD Cert.FfnDownRefIdeal.τ).loc Cert.FfnDownRefIdeal.main_arg2) = m ((c.tc : Thread Cert.FfnDownRefIdeal.nD Cert.FfnDownRefIdeal.τ).loc Cert.FfnDownRefIdeal.main_arg2))
      ∧ r.2.sem = fun _ => 0)

def quiescent_SsmIn [hSsmIn : Cert.SsmIn.Facts] : Prop :=
  ∀ (m : (ℓ : Loc Cert.SsmIn.nD Cert.SsmIn.τ Cert.SsmIn.sig) → Buf (Elt Bits) ℓ) (g : Dev Cert.SsmIn.nD → PrngReg), Pre_SsmIn m →
    θ_run (Cert.SsmIn.defs (F := Bits)) (onTc (τ := Cert.SsmIn.τ) (Cert.SsmIn.main (F := Bits))) ⟨m, fun _ => 0, g⟩ (fun r => (∀ c : Dev Cert.SsmIn.nD,
      r.2.mem ((c.tc : Thread Cert.SsmIn.nD Cert.SsmIn.τ).loc Cert.SsmIn.main_arg0) = m ((c.tc : Thread Cert.SsmIn.nD Cert.SsmIn.τ).loc Cert.SsmIn.main_arg0)
      ∧ r.2.mem ((c.tc : Thread Cert.SsmIn.nD Cert.SsmIn.τ).loc Cert.SsmIn.main_arg1) = m ((c.tc : Thread Cert.SsmIn.nD Cert.SsmIn.τ).loc Cert.SsmIn.main_arg1))
      ∧ r.2.sem = fun _ => 0)

def quiescent_SsmInIdeal [hSsmInIdeal : Cert.SsmInIdeal.Facts] : Prop :=
  ∀ (m : (ℓ : Loc Cert.SsmInIdeal.nD Cert.SsmInIdeal.τ Cert.SsmInIdeal.sig) → Buf (Elt Ideal) ℓ) (g : Dev Cert.SsmInIdeal.nD → PrngReg), Pre_SsmInIdeal m →
    θ_run (Cert.SsmInIdeal.defs (F := Ideal)) (onTc (τ := Cert.SsmInIdeal.τ) (Cert.SsmInIdeal.main (F := Ideal))) ⟨m, fun _ => 0, g⟩ (fun r => (∀ c : Dev Cert.SsmInIdeal.nD,
      r.2.mem ((c.tc : Thread Cert.SsmInIdeal.nD Cert.SsmInIdeal.τ).loc Cert.SsmInIdeal.main_arg0) = m ((c.tc : Thread Cert.SsmInIdeal.nD Cert.SsmInIdeal.τ).loc Cert.SsmInIdeal.main_arg0)
      ∧ r.2.mem ((c.tc : Thread Cert.SsmInIdeal.nD Cert.SsmInIdeal.τ).loc Cert.SsmInIdeal.main_arg1) = m ((c.tc : Thread Cert.SsmInIdeal.nD Cert.SsmInIdeal.τ).loc Cert.SsmInIdeal.main_arg1))
      ∧ r.2.sem = fun _ => 0)

def quiescent_SsmInRefIdeal [hSsmInRefIdeal : Cert.SsmInRefIdeal.Facts] : Prop :=
  ∀ (m : (ℓ : Loc Cert.SsmInRefIdeal.nD Cert.SsmInRefIdeal.τ Cert.SsmInRefIdeal.sig) → Buf (Elt Ideal) ℓ) (g : Dev Cert.SsmInRefIdeal.nD → PrngReg), Pre_SsmInRefIdeal m →
    θ_run (Cert.SsmInRefIdeal.defs (F := Ideal)) (onTc (τ := Cert.SsmInRefIdeal.τ) (Cert.SsmInRefIdeal.main (F := Ideal))) ⟨m, fun _ => 0, g⟩ (fun r => (∀ c : Dev Cert.SsmInRefIdeal.nD,
      r.2.mem ((c.tc : Thread Cert.SsmInRefIdeal.nD Cert.SsmInRefIdeal.τ).loc Cert.SsmInRefIdeal.main_arg0) = m ((c.tc : Thread Cert.SsmInRefIdeal.nD Cert.SsmInRefIdeal.τ).loc Cert.SsmInRefIdeal.main_arg0)
      ∧ r.2.mem ((c.tc : Thread Cert.SsmInRefIdeal.nD Cert.SsmInRefIdeal.τ).loc Cert.SsmInRefIdeal.main_arg1) = m ((c.tc : Thread Cert.SsmInRefIdeal.nD Cert.SsmInRefIdeal.τ).loc Cert.SsmInRefIdeal.main_arg1))
      ∧ r.2.sem = fun _ => 0)

def quiescent_SsmOut [hSsmOut : Cert.SsmOut.Facts] : Prop :=
  ∀ (m : (ℓ : Loc Cert.SsmOut.nD Cert.SsmOut.τ Cert.SsmOut.sig) → Buf (Elt Bits) ℓ) (g : Dev Cert.SsmOut.nD → PrngReg), Pre_SsmOut m →
    θ_run (Cert.SsmOut.defs (F := Bits)) (onTc (τ := Cert.SsmOut.τ) (Cert.SsmOut.main (F := Bits))) ⟨m, fun _ => 0, g⟩ (fun r => (∀ c : Dev Cert.SsmOut.nD,
      r.2.mem ((c.tc : Thread Cert.SsmOut.nD Cert.SsmOut.τ).loc Cert.SsmOut.main_arg0) = m ((c.tc : Thread Cert.SsmOut.nD Cert.SsmOut.τ).loc Cert.SsmOut.main_arg0)
      ∧ r.2.mem ((c.tc : Thread Cert.SsmOut.nD Cert.SsmOut.τ).loc Cert.SsmOut.main_arg1) = m ((c.tc : Thread Cert.SsmOut.nD Cert.SsmOut.τ).loc Cert.SsmOut.main_arg1)
      ∧ r.2.mem ((c.tc : Thread Cert.SsmOut.nD Cert.SsmOut.τ).loc Cert.SsmOut.main_arg2) = m ((c.tc : Thread Cert.SsmOut.nD Cert.SsmOut.τ).loc Cert.SsmOut.main_arg2))
      ∧ r.2.sem = fun _ => 0)

def quiescent_SsmOutIdeal [hSsmOutIdeal : Cert.SsmOutIdeal.Facts] : Prop :=
  ∀ (m : (ℓ : Loc Cert.SsmOutIdeal.nD Cert.SsmOutIdeal.τ Cert.SsmOutIdeal.sig) → Buf (Elt Ideal) ℓ) (g : Dev Cert.SsmOutIdeal.nD → PrngReg), Pre_SsmOutIdeal m →
    θ_run (Cert.SsmOutIdeal.defs (F := Ideal)) (onTc (τ := Cert.SsmOutIdeal.τ) (Cert.SsmOutIdeal.main (F := Ideal))) ⟨m, fun _ => 0, g⟩ (fun r => (∀ c : Dev Cert.SsmOutIdeal.nD,
      r.2.mem ((c.tc : Thread Cert.SsmOutIdeal.nD Cert.SsmOutIdeal.τ).loc Cert.SsmOutIdeal.main_arg0) = m ((c.tc : Thread Cert.SsmOutIdeal.nD Cert.SsmOutIdeal.τ).loc Cert.SsmOutIdeal.main_arg0)
      ∧ r.2.mem ((c.tc : Thread Cert.SsmOutIdeal.nD Cert.SsmOutIdeal.τ).loc Cert.SsmOutIdeal.main_arg1) = m ((c.tc : Thread Cert.SsmOutIdeal.nD Cert.SsmOutIdeal.τ).loc Cert.SsmOutIdeal.main_arg1)
      ∧ r.2.mem ((c.tc : Thread Cert.SsmOutIdeal.nD Cert.SsmOutIdeal.τ).loc Cert.SsmOutIdeal.main_arg2) = m ((c.tc : Thread Cert.SsmOutIdeal.nD Cert.SsmOutIdeal.τ).loc Cert.SsmOutIdeal.main_arg2))
      ∧ r.2.sem = fun _ => 0)

def quiescent_SsmOutRefIdeal [hSsmOutRefIdeal : Cert.SsmOutRefIdeal.Facts] : Prop :=
  ∀ (m : (ℓ : Loc Cert.SsmOutRefIdeal.nD Cert.SsmOutRefIdeal.τ Cert.SsmOutRefIdeal.sig) → Buf (Elt Ideal) ℓ) (g : Dev Cert.SsmOutRefIdeal.nD → PrngReg), Pre_SsmOutRefIdeal m →
    θ_run (Cert.SsmOutRefIdeal.defs (F := Ideal)) (onTc (τ := Cert.SsmOutRefIdeal.τ) (Cert.SsmOutRefIdeal.main (F := Ideal))) ⟨m, fun _ => 0, g⟩ (fun r => (∀ c : Dev Cert.SsmOutRefIdeal.nD,
      r.2.mem ((c.tc : Thread Cert.SsmOutRefIdeal.nD Cert.SsmOutRefIdeal.τ).loc Cert.SsmOutRefIdeal.main_arg0) = m ((c.tc : Thread Cert.SsmOutRefIdeal.nD Cert.SsmOutRefIdeal.τ).loc Cert.SsmOutRefIdeal.main_arg0)
      ∧ r.2.mem ((c.tc : Thread Cert.SsmOutRefIdeal.nD Cert.SsmOutRefIdeal.τ).loc Cert.SsmOutRefIdeal.main_arg1) = m ((c.tc : Thread Cert.SsmOutRefIdeal.nD Cert.SsmOutRefIdeal.τ).loc Cert.SsmOutRefIdeal.main_arg1)
      ∧ r.2.mem ((c.tc : Thread Cert.SsmOutRefIdeal.nD Cert.SsmOutRefIdeal.τ).loc Cert.SsmOutRefIdeal.main_arg2) = m ((c.tc : Thread Cert.SsmOutRefIdeal.nD Cert.SsmOutRefIdeal.τ).loc Cert.SsmOutRefIdeal.main_arg2))
      ∧ r.2.sem = fun _ => 0)

def quiescent_CvIn [hCvIn : Cert.CvIn.Facts] : Prop :=
  ∀ (m : (ℓ : Loc Cert.CvIn.nD Cert.CvIn.τ Cert.CvIn.sig) → Buf (Elt Bits) ℓ) (g : Dev Cert.CvIn.nD → PrngReg), Pre_CvIn m →
    θ_run (Cert.CvIn.defs (F := Bits)) (onTc (τ := Cert.CvIn.τ) (Cert.CvIn.main (F := Bits))) ⟨m, fun _ => 0, g⟩ (fun r => (∀ c : Dev Cert.CvIn.nD,
      r.2.mem ((c.tc : Thread Cert.CvIn.nD Cert.CvIn.τ).loc Cert.CvIn.main_arg0) = m ((c.tc : Thread Cert.CvIn.nD Cert.CvIn.τ).loc Cert.CvIn.main_arg0)
      ∧ r.2.mem ((c.tc : Thread Cert.CvIn.nD Cert.CvIn.τ).loc Cert.CvIn.main_arg1) = m ((c.tc : Thread Cert.CvIn.nD Cert.CvIn.τ).loc Cert.CvIn.main_arg1)
      ∧ r.2.mem ((c.tc : Thread Cert.CvIn.nD Cert.CvIn.τ).loc Cert.CvIn.main_arg2) = m ((c.tc : Thread Cert.CvIn.nD Cert.CvIn.τ).loc Cert.CvIn.main_arg2))
      ∧ r.2.sem = fun _ => 0)

def quiescent_CvInIdeal [hCvInIdeal : Cert.CvInIdeal.Facts] : Prop :=
  ∀ (m : (ℓ : Loc Cert.CvInIdeal.nD Cert.CvInIdeal.τ Cert.CvInIdeal.sig) → Buf (Elt Ideal) ℓ) (g : Dev Cert.CvInIdeal.nD → PrngReg), Pre_CvInIdeal m →
    θ_run (Cert.CvInIdeal.defs (F := Ideal)) (onTc (τ := Cert.CvInIdeal.τ) (Cert.CvInIdeal.main (F := Ideal))) ⟨m, fun _ => 0, g⟩ (fun r => (∀ c : Dev Cert.CvInIdeal.nD,
      r.2.mem ((c.tc : Thread Cert.CvInIdeal.nD Cert.CvInIdeal.τ).loc Cert.CvInIdeal.main_arg0) = m ((c.tc : Thread Cert.CvInIdeal.nD Cert.CvInIdeal.τ).loc Cert.CvInIdeal.main_arg0)
      ∧ r.2.mem ((c.tc : Thread Cert.CvInIdeal.nD Cert.CvInIdeal.τ).loc Cert.CvInIdeal.main_arg1) = m ((c.tc : Thread Cert.CvInIdeal.nD Cert.CvInIdeal.τ).loc Cert.CvInIdeal.main_arg1)
      ∧ r.2.mem ((c.tc : Thread Cert.CvInIdeal.nD Cert.CvInIdeal.τ).loc Cert.CvInIdeal.main_arg2) = m ((c.tc : Thread Cert.CvInIdeal.nD Cert.CvInIdeal.τ).loc Cert.CvInIdeal.main_arg2))
      ∧ r.2.sem = fun _ => 0)

def quiescent_CvInRefIdeal [hCvInRefIdeal : Cert.CvInRefIdeal.Facts] : Prop :=
  ∀ (m : (ℓ : Loc Cert.CvInRefIdeal.nD Cert.CvInRefIdeal.τ Cert.CvInRefIdeal.sig) → Buf (Elt Ideal) ℓ) (g : Dev Cert.CvInRefIdeal.nD → PrngReg), Pre_CvInRefIdeal m →
    θ_run (Cert.CvInRefIdeal.defs (F := Ideal)) (onTc (τ := Cert.CvInRefIdeal.τ) (Cert.CvInRefIdeal.main (F := Ideal))) ⟨m, fun _ => 0, g⟩ (fun r => (∀ c : Dev Cert.CvInRefIdeal.nD,
      r.2.mem ((c.tc : Thread Cert.CvInRefIdeal.nD Cert.CvInRefIdeal.τ).loc Cert.CvInRefIdeal.main_arg0) = m ((c.tc : Thread Cert.CvInRefIdeal.nD Cert.CvInRefIdeal.τ).loc Cert.CvInRefIdeal.main_arg0)
      ∧ r.2.mem ((c.tc : Thread Cert.CvInRefIdeal.nD Cert.CvInRefIdeal.τ).loc Cert.CvInRefIdeal.main_arg1) = m ((c.tc : Thread Cert.CvInRefIdeal.nD Cert.CvInRefIdeal.τ).loc Cert.CvInRefIdeal.main_arg1)
      ∧ r.2.mem ((c.tc : Thread Cert.CvInRefIdeal.nD Cert.CvInRefIdeal.τ).loc Cert.CvInRefIdeal.main_arg2) = m ((c.tc : Thread Cert.CvInRefIdeal.nD Cert.CvInRefIdeal.τ).loc Cert.CvInRefIdeal.main_arg2))
      ∧ r.2.sem = fun _ => 0)

def quiescent_CvOut [hCvOut : Cert.CvOut.Facts] : Prop :=
  ∀ (m : (ℓ : Loc Cert.CvOut.nD Cert.CvOut.τ Cert.CvOut.sig) → Buf (Elt Bits) ℓ) (g : Dev Cert.CvOut.nD → PrngReg), Pre_CvOut m →
    θ_run (Cert.CvOut.defs (F := Bits)) (onTc (τ := Cert.CvOut.τ) (Cert.CvOut.main (F := Bits))) ⟨m, fun _ => 0, g⟩ (fun r => (∀ c : Dev Cert.CvOut.nD,
      r.2.mem ((c.tc : Thread Cert.CvOut.nD Cert.CvOut.τ).loc Cert.CvOut.main_arg0) = m ((c.tc : Thread Cert.CvOut.nD Cert.CvOut.τ).loc Cert.CvOut.main_arg0)
      ∧ r.2.mem ((c.tc : Thread Cert.CvOut.nD Cert.CvOut.τ).loc Cert.CvOut.main_arg1) = m ((c.tc : Thread Cert.CvOut.nD Cert.CvOut.τ).loc Cert.CvOut.main_arg1)
      ∧ r.2.mem ((c.tc : Thread Cert.CvOut.nD Cert.CvOut.τ).loc Cert.CvOut.main_arg2) = m ((c.tc : Thread Cert.CvOut.nD Cert.CvOut.τ).loc Cert.CvOut.main_arg2)
      ∧ r.2.mem ((c.tc : Thread Cert.CvOut.nD Cert.CvOut.τ).loc Cert.CvOut.main_arg3) = m ((c.tc : Thread Cert.CvOut.nD Cert.CvOut.τ).loc Cert.CvOut.main_arg3))
      ∧ r.2.sem = fun _ => 0)

def quiescent_CvOutIdeal [hCvOutIdeal : Cert.CvOutIdeal.Facts] : Prop :=
  ∀ (m : (ℓ : Loc Cert.CvOutIdeal.nD Cert.CvOutIdeal.τ Cert.CvOutIdeal.sig) → Buf (Elt Ideal) ℓ) (g : Dev Cert.CvOutIdeal.nD → PrngReg), Pre_CvOutIdeal m →
    θ_run (Cert.CvOutIdeal.defs (F := Ideal)) (onTc (τ := Cert.CvOutIdeal.τ) (Cert.CvOutIdeal.main (F := Ideal))) ⟨m, fun _ => 0, g⟩ (fun r => (∀ c : Dev Cert.CvOutIdeal.nD,
      r.2.mem ((c.tc : Thread Cert.CvOutIdeal.nD Cert.CvOutIdeal.τ).loc Cert.CvOutIdeal.main_arg0) = m ((c.tc : Thread Cert.CvOutIdeal.nD Cert.CvOutIdeal.τ).loc Cert.CvOutIdeal.main_arg0)
      ∧ r.2.mem ((c.tc : Thread Cert.CvOutIdeal.nD Cert.CvOutIdeal.τ).loc Cert.CvOutIdeal.main_arg1) = m ((c.tc : Thread Cert.CvOutIdeal.nD Cert.CvOutIdeal.τ).loc Cert.CvOutIdeal.main_arg1)
      ∧ r.2.mem ((c.tc : Thread Cert.CvOutIdeal.nD Cert.CvOutIdeal.τ).loc Cert.CvOutIdeal.main_arg2) = m ((c.tc : Thread Cert.CvOutIdeal.nD Cert.CvOutIdeal.τ).loc Cert.CvOutIdeal.main_arg2)
      ∧ r.2.mem ((c.tc : Thread Cert.CvOutIdeal.nD Cert.CvOutIdeal.τ).loc Cert.CvOutIdeal.main_arg3) = m ((c.tc : Thread Cert.CvOutIdeal.nD Cert.CvOutIdeal.τ).loc Cert.CvOutIdeal.main_arg3))
      ∧ r.2.sem = fun _ => 0)

def quiescent_CvOutRefIdeal [hCvOutRefIdeal : Cert.CvOutRefIdeal.Facts] : Prop :=
  ∀ (m : (ℓ : Loc Cert.CvOutRefIdeal.nD Cert.CvOutRefIdeal.τ Cert.CvOutRefIdeal.sig) → Buf (Elt Ideal) ℓ) (g : Dev Cert.CvOutRefIdeal.nD → PrngReg), Pre_CvOutRefIdeal m →
    θ_run (Cert.CvOutRefIdeal.defs (F := Ideal)) (onTc (τ := Cert.CvOutRefIdeal.τ) (Cert.CvOutRefIdeal.main (F := Ideal))) ⟨m, fun _ => 0, g⟩ (fun r => (∀ c : Dev Cert.CvOutRefIdeal.nD,
      r.2.mem ((c.tc : Thread Cert.CvOutRefIdeal.nD Cert.CvOutRefIdeal.τ).loc Cert.CvOutRefIdeal.main_arg0) = m ((c.tc : Thread Cert.CvOutRefIdeal.nD Cert.CvOutRefIdeal.τ).loc Cert.CvOutRefIdeal.main_arg0)
      ∧ r.2.mem ((c.tc : Thread Cert.CvOutRefIdeal.nD Cert.CvOutRefIdeal.τ).loc Cert.CvOutRefIdeal.main_arg1) = m ((c.tc : Thread Cert.CvOutRefIdeal.nD Cert.CvOutRefIdeal.τ).loc Cert.CvOutRefIdeal.main_arg1)
      ∧ r.2.mem ((c.tc : Thread Cert.CvOutRefIdeal.nD Cert.CvOutRefIdeal.τ).loc Cert.CvOutRefIdeal.main_arg2) = m ((c.tc : Thread Cert.CvOutRefIdeal.nD Cert.CvOutRefIdeal.τ).loc Cert.CvOutRefIdeal.main_arg2)
      ∧ r.2.mem ((c.tc : Thread Cert.CvOutRefIdeal.nD Cert.CvOutRefIdeal.τ).loc Cert.CvOutRefIdeal.main_arg3) = m ((c.tc : Thread Cert.CvOutRefIdeal.nD Cert.CvOutRefIdeal.τ).loc Cert.CvOutRefIdeal.main_arg3))
      ∧ r.2.sem = fun _ => 0)

def quiescent_AdamCvIn [hAdamCvIn : Cert.AdamCvIn.Facts] : Prop :=
  ∀ (m : (ℓ : Loc Cert.AdamCvIn.nD Cert.AdamCvIn.τ Cert.AdamCvIn.sig) → Buf (Elt Bits) ℓ) (g : Dev Cert.AdamCvIn.nD → PrngReg), Pre_AdamCvIn m →
    θ_run (Cert.AdamCvIn.defs (F := Bits)) (onTc (τ := Cert.AdamCvIn.τ) (Cert.AdamCvIn.main (F := Bits))) ⟨m, fun _ => 0, g⟩ (fun r => (∀ c : Dev Cert.AdamCvIn.nD,
      r.2.mem ((c.tc : Thread Cert.AdamCvIn.nD Cert.AdamCvIn.τ).loc Cert.AdamCvIn.main_arg0) = m ((c.tc : Thread Cert.AdamCvIn.nD Cert.AdamCvIn.τ).loc Cert.AdamCvIn.main_arg0)
      ∧ r.2.mem ((c.tc : Thread Cert.AdamCvIn.nD Cert.AdamCvIn.τ).loc Cert.AdamCvIn.main_arg1) = m ((c.tc : Thread Cert.AdamCvIn.nD Cert.AdamCvIn.τ).loc Cert.AdamCvIn.main_arg1)
      ∧ r.2.mem ((c.tc : Thread Cert.AdamCvIn.nD Cert.AdamCvIn.τ).loc Cert.AdamCvIn.main_arg2) = m ((c.tc : Thread Cert.AdamCvIn.nD Cert.AdamCvIn.τ).loc Cert.AdamCvIn.main_arg2)
      ∧ r.2.mem ((c.tc : Thread Cert.AdamCvIn.nD Cert.AdamCvIn.τ).loc Cert.AdamCvIn.main_arg3) = m ((c.tc : Thread Cert.AdamCvIn.nD Cert.AdamCvIn.τ).loc Cert.AdamCvIn.main_arg3)
      ∧ r.2.mem ((c.tc : Thread Cert.AdamCvIn.nD Cert.AdamCvIn.τ).loc Cert.AdamCvIn.main_arg4) = m ((c.tc : Thread Cert.AdamCvIn.nD Cert.AdamCvIn.τ).loc Cert.AdamCvIn.main_arg4))
      ∧ r.2.sem = fun _ => 0)

def quiescent_AdamCvInIdeal [hAdamCvInIdeal : Cert.AdamCvInIdeal.Facts] : Prop :=
  ∀ (m : (ℓ : Loc Cert.AdamCvInIdeal.nD Cert.AdamCvInIdeal.τ Cert.AdamCvInIdeal.sig) → Buf (Elt Ideal) ℓ) (g : Dev Cert.AdamCvInIdeal.nD → PrngReg), Pre_AdamCvInIdeal m →
    θ_run (Cert.AdamCvInIdeal.defs (F := Ideal)) (onTc (τ := Cert.AdamCvInIdeal.τ) (Cert.AdamCvInIdeal.main (F := Ideal))) ⟨m, fun _ => 0, g⟩ (fun r => (∀ c : Dev Cert.AdamCvInIdeal.nD,
      r.2.mem ((c.tc : Thread Cert.AdamCvInIdeal.nD Cert.AdamCvInIdeal.τ).loc Cert.AdamCvInIdeal.main_arg0) = m ((c.tc : Thread Cert.AdamCvInIdeal.nD Cert.AdamCvInIdeal.τ).loc Cert.AdamCvInIdeal.main_arg0)
      ∧ r.2.mem ((c.tc : Thread Cert.AdamCvInIdeal.nD Cert.AdamCvInIdeal.τ).loc Cert.AdamCvInIdeal.main_arg1) = m ((c.tc : Thread Cert.AdamCvInIdeal.nD Cert.AdamCvInIdeal.τ).loc Cert.AdamCvInIdeal.main_arg1)
      ∧ r.2.mem ((c.tc : Thread Cert.AdamCvInIdeal.nD Cert.AdamCvInIdeal.τ).loc Cert.AdamCvInIdeal.main_arg2) = m ((c.tc : Thread Cert.AdamCvInIdeal.nD Cert.AdamCvInIdeal.τ).loc Cert.AdamCvInIdeal.main_arg2)
      ∧ r.2.mem ((c.tc : Thread Cert.AdamCvInIdeal.nD Cert.AdamCvInIdeal.τ).loc Cert.AdamCvInIdeal.main_arg3) = m ((c.tc : Thread Cert.AdamCvInIdeal.nD Cert.AdamCvInIdeal.τ).loc Cert.AdamCvInIdeal.main_arg3)
      ∧ r.2.mem ((c.tc : Thread Cert.AdamCvInIdeal.nD Cert.AdamCvInIdeal.τ).loc Cert.AdamCvInIdeal.main_arg4) = m ((c.tc : Thread Cert.AdamCvInIdeal.nD Cert.AdamCvInIdeal.τ).loc Cert.AdamCvInIdeal.main_arg4))
      ∧ r.2.sem = fun _ => 0)

def quiescent_AdamCvInRefIdeal [hAdamCvInRefIdeal : Cert.AdamCvInRefIdeal.Facts] : Prop :=
  ∀ (m : (ℓ : Loc Cert.AdamCvInRefIdeal.nD Cert.AdamCvInRefIdeal.τ Cert.AdamCvInRefIdeal.sig) → Buf (Elt Ideal) ℓ) (g : Dev Cert.AdamCvInRefIdeal.nD → PrngReg), Pre_AdamCvInRefIdeal m →
    θ_run (Cert.AdamCvInRefIdeal.defs (F := Ideal)) (onTc (τ := Cert.AdamCvInRefIdeal.τ) (Cert.AdamCvInRefIdeal.main (F := Ideal))) ⟨m, fun _ => 0, g⟩ (fun r => (∀ c : Dev Cert.AdamCvInRefIdeal.nD,
      r.2.mem ((c.tc : Thread Cert.AdamCvInRefIdeal.nD Cert.AdamCvInRefIdeal.τ).loc Cert.AdamCvInRefIdeal.main_arg0) = m ((c.tc : Thread Cert.AdamCvInRefIdeal.nD Cert.AdamCvInRefIdeal.τ).loc Cert.AdamCvInRefIdeal.main_arg0)
      ∧ r.2.mem ((c.tc : Thread Cert.AdamCvInRefIdeal.nD Cert.AdamCvInRefIdeal.τ).loc Cert.AdamCvInRefIdeal.main_arg1) = m ((c.tc : Thread Cert.AdamCvInRefIdeal.nD Cert.AdamCvInRefIdeal.τ).loc Cert.AdamCvInRefIdeal.main_arg1)
      ∧ r.2.mem ((c.tc : Thread Cert.AdamCvInRefIdeal.nD Cert.AdamCvInRefIdeal.τ).loc Cert.AdamCvInRefIdeal.main_arg2) = m ((c.tc : Thread Cert.AdamCvInRefIdeal.nD Cert.AdamCvInRefIdeal.τ).loc Cert.AdamCvInRefIdeal.main_arg2)
      ∧ r.2.mem ((c.tc : Thread Cert.AdamCvInRefIdeal.nD Cert.AdamCvInRefIdeal.τ).loc Cert.AdamCvInRefIdeal.main_arg3) = m ((c.tc : Thread Cert.AdamCvInRefIdeal.nD Cert.AdamCvInRefIdeal.τ).loc Cert.AdamCvInRefIdeal.main_arg3)
      ∧ r.2.mem ((c.tc : Thread Cert.AdamCvInRefIdeal.nD Cert.AdamCvInRefIdeal.τ).loc Cert.AdamCvInRefIdeal.main_arg4) = m ((c.tc : Thread Cert.AdamCvInRefIdeal.nD Cert.AdamCvInRefIdeal.τ).loc Cert.AdamCvInRefIdeal.main_arg4))
      ∧ r.2.sem = fun _ => 0)

def quiescent_AdamCvOut [hAdamCvOut : Cert.AdamCvOut.Facts] : Prop :=
  ∀ (m : (ℓ : Loc Cert.AdamCvOut.nD Cert.AdamCvOut.τ Cert.AdamCvOut.sig) → Buf (Elt Bits) ℓ) (g : Dev Cert.AdamCvOut.nD → PrngReg), Pre_AdamCvOut m →
    θ_run (Cert.AdamCvOut.defs (F := Bits)) (onTc (τ := Cert.AdamCvOut.τ) (Cert.AdamCvOut.main (F := Bits))) ⟨m, fun _ => 0, g⟩ (fun r => (∀ c : Dev Cert.AdamCvOut.nD,
      r.2.mem ((c.tc : Thread Cert.AdamCvOut.nD Cert.AdamCvOut.τ).loc Cert.AdamCvOut.main_arg0) = m ((c.tc : Thread Cert.AdamCvOut.nD Cert.AdamCvOut.τ).loc Cert.AdamCvOut.main_arg0)
      ∧ r.2.mem ((c.tc : Thread Cert.AdamCvOut.nD Cert.AdamCvOut.τ).loc Cert.AdamCvOut.main_arg1) = m ((c.tc : Thread Cert.AdamCvOut.nD Cert.AdamCvOut.τ).loc Cert.AdamCvOut.main_arg1)
      ∧ r.2.mem ((c.tc : Thread Cert.AdamCvOut.nD Cert.AdamCvOut.τ).loc Cert.AdamCvOut.main_arg2) = m ((c.tc : Thread Cert.AdamCvOut.nD Cert.AdamCvOut.τ).loc Cert.AdamCvOut.main_arg2)
      ∧ r.2.mem ((c.tc : Thread Cert.AdamCvOut.nD Cert.AdamCvOut.τ).loc Cert.AdamCvOut.main_arg3) = m ((c.tc : Thread Cert.AdamCvOut.nD Cert.AdamCvOut.τ).loc Cert.AdamCvOut.main_arg3)
      ∧ r.2.mem ((c.tc : Thread Cert.AdamCvOut.nD Cert.AdamCvOut.τ).loc Cert.AdamCvOut.main_arg4) = m ((c.tc : Thread Cert.AdamCvOut.nD Cert.AdamCvOut.τ).loc Cert.AdamCvOut.main_arg4))
      ∧ r.2.sem = fun _ => 0)

def quiescent_AdamCvOutIdeal [hAdamCvOutIdeal : Cert.AdamCvOutIdeal.Facts] : Prop :=
  ∀ (m : (ℓ : Loc Cert.AdamCvOutIdeal.nD Cert.AdamCvOutIdeal.τ Cert.AdamCvOutIdeal.sig) → Buf (Elt Ideal) ℓ) (g : Dev Cert.AdamCvOutIdeal.nD → PrngReg), Pre_AdamCvOutIdeal m →
    θ_run (Cert.AdamCvOutIdeal.defs (F := Ideal)) (onTc (τ := Cert.AdamCvOutIdeal.τ) (Cert.AdamCvOutIdeal.main (F := Ideal))) ⟨m, fun _ => 0, g⟩ (fun r => (∀ c : Dev Cert.AdamCvOutIdeal.nD,
      r.2.mem ((c.tc : Thread Cert.AdamCvOutIdeal.nD Cert.AdamCvOutIdeal.τ).loc Cert.AdamCvOutIdeal.main_arg0) = m ((c.tc : Thread Cert.AdamCvOutIdeal.nD Cert.AdamCvOutIdeal.τ).loc Cert.AdamCvOutIdeal.main_arg0)
      ∧ r.2.mem ((c.tc : Thread Cert.AdamCvOutIdeal.nD Cert.AdamCvOutIdeal.τ).loc Cert.AdamCvOutIdeal.main_arg1) = m ((c.tc : Thread Cert.AdamCvOutIdeal.nD Cert.AdamCvOutIdeal.τ).loc Cert.AdamCvOutIdeal.main_arg1)
      ∧ r.2.mem ((c.tc : Thread Cert.AdamCvOutIdeal.nD Cert.AdamCvOutIdeal.τ).loc Cert.AdamCvOutIdeal.main_arg2) = m ((c.tc : Thread Cert.AdamCvOutIdeal.nD Cert.AdamCvOutIdeal.τ).loc Cert.AdamCvOutIdeal.main_arg2)
      ∧ r.2.mem ((c.tc : Thread Cert.AdamCvOutIdeal.nD Cert.AdamCvOutIdeal.τ).loc Cert.AdamCvOutIdeal.main_arg3) = m ((c.tc : Thread Cert.AdamCvOutIdeal.nD Cert.AdamCvOutIdeal.τ).loc Cert.AdamCvOutIdeal.main_arg3)
      ∧ r.2.mem ((c.tc : Thread Cert.AdamCvOutIdeal.nD Cert.AdamCvOutIdeal.τ).loc Cert.AdamCvOutIdeal.main_arg4) = m ((c.tc : Thread Cert.AdamCvOutIdeal.nD Cert.AdamCvOutIdeal.τ).loc Cert.AdamCvOutIdeal.main_arg4))
      ∧ r.2.sem = fun _ => 0)

def quiescent_AdamCvOutRefIdeal [hAdamCvOutRefIdeal : Cert.AdamCvOutRefIdeal.Facts] : Prop :=
  ∀ (m : (ℓ : Loc Cert.AdamCvOutRefIdeal.nD Cert.AdamCvOutRefIdeal.τ Cert.AdamCvOutRefIdeal.sig) → Buf (Elt Ideal) ℓ) (g : Dev Cert.AdamCvOutRefIdeal.nD → PrngReg), Pre_AdamCvOutRefIdeal m →
    θ_run (Cert.AdamCvOutRefIdeal.defs (F := Ideal)) (onTc (τ := Cert.AdamCvOutRefIdeal.τ) (Cert.AdamCvOutRefIdeal.main (F := Ideal))) ⟨m, fun _ => 0, g⟩ (fun r => (∀ c : Dev Cert.AdamCvOutRefIdeal.nD,
      r.2.mem ((c.tc : Thread Cert.AdamCvOutRefIdeal.nD Cert.AdamCvOutRefIdeal.τ).loc Cert.AdamCvOutRefIdeal.main_arg0) = m ((c.tc : Thread Cert.AdamCvOutRefIdeal.nD Cert.AdamCvOutRefIdeal.τ).loc Cert.AdamCvOutRefIdeal.main_arg0)
      ∧ r.2.mem ((c.tc : Thread Cert.AdamCvOutRefIdeal.nD Cert.AdamCvOutRefIdeal.τ).loc Cert.AdamCvOutRefIdeal.main_arg1) = m ((c.tc : Thread Cert.AdamCvOutRefIdeal.nD Cert.AdamCvOutRefIdeal.τ).loc Cert.AdamCvOutRefIdeal.main_arg1)
      ∧ r.2.mem ((c.tc : Thread Cert.AdamCvOutRefIdeal.nD Cert.AdamCvOutRefIdeal.τ).loc Cert.AdamCvOutRefIdeal.main_arg2) = m ((c.tc : Thread Cert.AdamCvOutRefIdeal.nD Cert.AdamCvOutRefIdeal.τ).loc Cert.AdamCvOutRefIdeal.main_arg2)
      ∧ r.2.mem ((c.tc : Thread Cert.AdamCvOutRefIdeal.nD Cert.AdamCvOutRefIdeal.τ).loc Cert.AdamCvOutRefIdeal.main_arg3) = m ((c.tc : Thread Cert.AdamCvOutRefIdeal.nD Cert.AdamCvOutRefIdeal.τ).loc Cert.AdamCvOutRefIdeal.main_arg3)
      ∧ r.2.mem ((c.tc : Thread Cert.AdamCvOutRefIdeal.nD Cert.AdamCvOutRefIdeal.τ).loc Cert.AdamCvOutRefIdeal.main_arg4) = m ((c.tc : Thread Cert.AdamCvOutRefIdeal.nD Cert.AdamCvOutRefIdeal.τ).loc Cert.AdamCvOutRefIdeal.main_arg4))
      ∧ r.2.sem = fun _ => 0)

def quiescent_AdamSsmIn [hAdamSsmIn : Cert.AdamSsmIn.Facts] : Prop :=
  ∀ (m : (ℓ : Loc Cert.AdamSsmIn.nD Cert.AdamSsmIn.τ Cert.AdamSsmIn.sig) → Buf (Elt Bits) ℓ) (g : Dev Cert.AdamSsmIn.nD → PrngReg), Pre_AdamSsmIn m →
    θ_run (Cert.AdamSsmIn.defs (F := Bits)) (onTc (τ := Cert.AdamSsmIn.τ) (Cert.AdamSsmIn.main (F := Bits))) ⟨m, fun _ => 0, g⟩ (fun r => (∀ c : Dev Cert.AdamSsmIn.nD,
      r.2.mem ((c.tc : Thread Cert.AdamSsmIn.nD Cert.AdamSsmIn.τ).loc Cert.AdamSsmIn.main_arg0) = m ((c.tc : Thread Cert.AdamSsmIn.nD Cert.AdamSsmIn.τ).loc Cert.AdamSsmIn.main_arg0)
      ∧ r.2.mem ((c.tc : Thread Cert.AdamSsmIn.nD Cert.AdamSsmIn.τ).loc Cert.AdamSsmIn.main_arg1) = m ((c.tc : Thread Cert.AdamSsmIn.nD Cert.AdamSsmIn.τ).loc Cert.AdamSsmIn.main_arg1)
      ∧ r.2.mem ((c.tc : Thread Cert.AdamSsmIn.nD Cert.AdamSsmIn.τ).loc Cert.AdamSsmIn.main_arg2) = m ((c.tc : Thread Cert.AdamSsmIn.nD Cert.AdamSsmIn.τ).loc Cert.AdamSsmIn.main_arg2)
      ∧ r.2.mem ((c.tc : Thread Cert.AdamSsmIn.nD Cert.AdamSsmIn.τ).loc Cert.AdamSsmIn.main_arg3) = m ((c.tc : Thread Cert.AdamSsmIn.nD Cert.AdamSsmIn.τ).loc Cert.AdamSsmIn.main_arg3)
      ∧ r.2.mem ((c.tc : Thread Cert.AdamSsmIn.nD Cert.AdamSsmIn.τ).loc Cert.AdamSsmIn.main_arg4) = m ((c.tc : Thread Cert.AdamSsmIn.nD Cert.AdamSsmIn.τ).loc Cert.AdamSsmIn.main_arg4))
      ∧ r.2.sem = fun _ => 0)

def quiescent_AdamSsmInIdeal [hAdamSsmInIdeal : Cert.AdamSsmInIdeal.Facts] : Prop :=
  ∀ (m : (ℓ : Loc Cert.AdamSsmInIdeal.nD Cert.AdamSsmInIdeal.τ Cert.AdamSsmInIdeal.sig) → Buf (Elt Ideal) ℓ) (g : Dev Cert.AdamSsmInIdeal.nD → PrngReg), Pre_AdamSsmInIdeal m →
    θ_run (Cert.AdamSsmInIdeal.defs (F := Ideal)) (onTc (τ := Cert.AdamSsmInIdeal.τ) (Cert.AdamSsmInIdeal.main (F := Ideal))) ⟨m, fun _ => 0, g⟩ (fun r => (∀ c : Dev Cert.AdamSsmInIdeal.nD,
      r.2.mem ((c.tc : Thread Cert.AdamSsmInIdeal.nD Cert.AdamSsmInIdeal.τ).loc Cert.AdamSsmInIdeal.main_arg0) = m ((c.tc : Thread Cert.AdamSsmInIdeal.nD Cert.AdamSsmInIdeal.τ).loc Cert.AdamSsmInIdeal.main_arg0)
      ∧ r.2.mem ((c.tc : Thread Cert.AdamSsmInIdeal.nD Cert.AdamSsmInIdeal.τ).loc Cert.AdamSsmInIdeal.main_arg1) = m ((c.tc : Thread Cert.AdamSsmInIdeal.nD Cert.AdamSsmInIdeal.τ).loc Cert.AdamSsmInIdeal.main_arg1)
      ∧ r.2.mem ((c.tc : Thread Cert.AdamSsmInIdeal.nD Cert.AdamSsmInIdeal.τ).loc Cert.AdamSsmInIdeal.main_arg2) = m ((c.tc : Thread Cert.AdamSsmInIdeal.nD Cert.AdamSsmInIdeal.τ).loc Cert.AdamSsmInIdeal.main_arg2)
      ∧ r.2.mem ((c.tc : Thread Cert.AdamSsmInIdeal.nD Cert.AdamSsmInIdeal.τ).loc Cert.AdamSsmInIdeal.main_arg3) = m ((c.tc : Thread Cert.AdamSsmInIdeal.nD Cert.AdamSsmInIdeal.τ).loc Cert.AdamSsmInIdeal.main_arg3)
      ∧ r.2.mem ((c.tc : Thread Cert.AdamSsmInIdeal.nD Cert.AdamSsmInIdeal.τ).loc Cert.AdamSsmInIdeal.main_arg4) = m ((c.tc : Thread Cert.AdamSsmInIdeal.nD Cert.AdamSsmInIdeal.τ).loc Cert.AdamSsmInIdeal.main_arg4))
      ∧ r.2.sem = fun _ => 0)

def quiescent_AdamSsmInRefIdeal [hAdamSsmInRefIdeal : Cert.AdamSsmInRefIdeal.Facts] : Prop :=
  ∀ (m : (ℓ : Loc Cert.AdamSsmInRefIdeal.nD Cert.AdamSsmInRefIdeal.τ Cert.AdamSsmInRefIdeal.sig) → Buf (Elt Ideal) ℓ) (g : Dev Cert.AdamSsmInRefIdeal.nD → PrngReg), Pre_AdamSsmInRefIdeal m →
    θ_run (Cert.AdamSsmInRefIdeal.defs (F := Ideal)) (onTc (τ := Cert.AdamSsmInRefIdeal.τ) (Cert.AdamSsmInRefIdeal.main (F := Ideal))) ⟨m, fun _ => 0, g⟩ (fun r => (∀ c : Dev Cert.AdamSsmInRefIdeal.nD,
      r.2.mem ((c.tc : Thread Cert.AdamSsmInRefIdeal.nD Cert.AdamSsmInRefIdeal.τ).loc Cert.AdamSsmInRefIdeal.main_arg0) = m ((c.tc : Thread Cert.AdamSsmInRefIdeal.nD Cert.AdamSsmInRefIdeal.τ).loc Cert.AdamSsmInRefIdeal.main_arg0)
      ∧ r.2.mem ((c.tc : Thread Cert.AdamSsmInRefIdeal.nD Cert.AdamSsmInRefIdeal.τ).loc Cert.AdamSsmInRefIdeal.main_arg1) = m ((c.tc : Thread Cert.AdamSsmInRefIdeal.nD Cert.AdamSsmInRefIdeal.τ).loc Cert.AdamSsmInRefIdeal.main_arg1)
      ∧ r.2.mem ((c.tc : Thread Cert.AdamSsmInRefIdeal.nD Cert.AdamSsmInRefIdeal.τ).loc Cert.AdamSsmInRefIdeal.main_arg2) = m ((c.tc : Thread Cert.AdamSsmInRefIdeal.nD Cert.AdamSsmInRefIdeal.τ).loc Cert.AdamSsmInRefIdeal.main_arg2)
      ∧ r.2.mem ((c.tc : Thread Cert.AdamSsmInRefIdeal.nD Cert.AdamSsmInRefIdeal.τ).loc Cert.AdamSsmInRefIdeal.main_arg3) = m ((c.tc : Thread Cert.AdamSsmInRefIdeal.nD Cert.AdamSsmInRefIdeal.τ).loc Cert.AdamSsmInRefIdeal.main_arg3)
      ∧ r.2.mem ((c.tc : Thread Cert.AdamSsmInRefIdeal.nD Cert.AdamSsmInRefIdeal.τ).loc Cert.AdamSsmInRefIdeal.main_arg4) = m ((c.tc : Thread Cert.AdamSsmInRefIdeal.nD Cert.AdamSsmInRefIdeal.τ).loc Cert.AdamSsmInRefIdeal.main_arg4))
      ∧ r.2.sem = fun _ => 0)

def quiescent_AdamSsmOut [hAdamSsmOut : Cert.AdamSsmOut.Facts] : Prop :=
  ∀ (m : (ℓ : Loc Cert.AdamSsmOut.nD Cert.AdamSsmOut.τ Cert.AdamSsmOut.sig) → Buf (Elt Bits) ℓ) (g : Dev Cert.AdamSsmOut.nD → PrngReg), Pre_AdamSsmOut m →
    θ_run (Cert.AdamSsmOut.defs (F := Bits)) (onTc (τ := Cert.AdamSsmOut.τ) (Cert.AdamSsmOut.main (F := Bits))) ⟨m, fun _ => 0, g⟩ (fun r => (∀ c : Dev Cert.AdamSsmOut.nD,
      r.2.mem ((c.tc : Thread Cert.AdamSsmOut.nD Cert.AdamSsmOut.τ).loc Cert.AdamSsmOut.main_arg0) = m ((c.tc : Thread Cert.AdamSsmOut.nD Cert.AdamSsmOut.τ).loc Cert.AdamSsmOut.main_arg0)
      ∧ r.2.mem ((c.tc : Thread Cert.AdamSsmOut.nD Cert.AdamSsmOut.τ).loc Cert.AdamSsmOut.main_arg1) = m ((c.tc : Thread Cert.AdamSsmOut.nD Cert.AdamSsmOut.τ).loc Cert.AdamSsmOut.main_arg1)
      ∧ r.2.mem ((c.tc : Thread Cert.AdamSsmOut.nD Cert.AdamSsmOut.τ).loc Cert.AdamSsmOut.main_arg2) = m ((c.tc : Thread Cert.AdamSsmOut.nD Cert.AdamSsmOut.τ).loc Cert.AdamSsmOut.main_arg2)
      ∧ r.2.mem ((c.tc : Thread Cert.AdamSsmOut.nD Cert.AdamSsmOut.τ).loc Cert.AdamSsmOut.main_arg3) = m ((c.tc : Thread Cert.AdamSsmOut.nD Cert.AdamSsmOut.τ).loc Cert.AdamSsmOut.main_arg3)
      ∧ r.2.mem ((c.tc : Thread Cert.AdamSsmOut.nD Cert.AdamSsmOut.τ).loc Cert.AdamSsmOut.main_arg4) = m ((c.tc : Thread Cert.AdamSsmOut.nD Cert.AdamSsmOut.τ).loc Cert.AdamSsmOut.main_arg4))
      ∧ r.2.sem = fun _ => 0)

def quiescent_AdamSsmOutIdeal [hAdamSsmOutIdeal : Cert.AdamSsmOutIdeal.Facts] : Prop :=
  ∀ (m : (ℓ : Loc Cert.AdamSsmOutIdeal.nD Cert.AdamSsmOutIdeal.τ Cert.AdamSsmOutIdeal.sig) → Buf (Elt Ideal) ℓ) (g : Dev Cert.AdamSsmOutIdeal.nD → PrngReg), Pre_AdamSsmOutIdeal m →
    θ_run (Cert.AdamSsmOutIdeal.defs (F := Ideal)) (onTc (τ := Cert.AdamSsmOutIdeal.τ) (Cert.AdamSsmOutIdeal.main (F := Ideal))) ⟨m, fun _ => 0, g⟩ (fun r => (∀ c : Dev Cert.AdamSsmOutIdeal.nD,
      r.2.mem ((c.tc : Thread Cert.AdamSsmOutIdeal.nD Cert.AdamSsmOutIdeal.τ).loc Cert.AdamSsmOutIdeal.main_arg0) = m ((c.tc : Thread Cert.AdamSsmOutIdeal.nD Cert.AdamSsmOutIdeal.τ).loc Cert.AdamSsmOutIdeal.main_arg0)
      ∧ r.2.mem ((c.tc : Thread Cert.AdamSsmOutIdeal.nD Cert.AdamSsmOutIdeal.τ).loc Cert.AdamSsmOutIdeal.main_arg1) = m ((c.tc : Thread Cert.AdamSsmOutIdeal.nD Cert.AdamSsmOutIdeal.τ).loc Cert.AdamSsmOutIdeal.main_arg1)
      ∧ r.2.mem ((c.tc : Thread Cert.AdamSsmOutIdeal.nD Cert.AdamSsmOutIdeal.τ).loc Cert.AdamSsmOutIdeal.main_arg2) = m ((c.tc : Thread Cert.AdamSsmOutIdeal.nD Cert.AdamSsmOutIdeal.τ).loc Cert.AdamSsmOutIdeal.main_arg2)
      ∧ r.2.mem ((c.tc : Thread Cert.AdamSsmOutIdeal.nD Cert.AdamSsmOutIdeal.τ).loc Cert.AdamSsmOutIdeal.main_arg3) = m ((c.tc : Thread Cert.AdamSsmOutIdeal.nD Cert.AdamSsmOutIdeal.τ).loc Cert.AdamSsmOutIdeal.main_arg3)
      ∧ r.2.mem ((c.tc : Thread Cert.AdamSsmOutIdeal.nD Cert.AdamSsmOutIdeal.τ).loc Cert.AdamSsmOutIdeal.main_arg4) = m ((c.tc : Thread Cert.AdamSsmOutIdeal.nD Cert.AdamSsmOutIdeal.τ).loc Cert.AdamSsmOutIdeal.main_arg4))
      ∧ r.2.sem = fun _ => 0)

def quiescent_AdamSsmOutRefIdeal [hAdamSsmOutRefIdeal : Cert.AdamSsmOutRefIdeal.Facts] : Prop :=
  ∀ (m : (ℓ : Loc Cert.AdamSsmOutRefIdeal.nD Cert.AdamSsmOutRefIdeal.τ Cert.AdamSsmOutRefIdeal.sig) → Buf (Elt Ideal) ℓ) (g : Dev Cert.AdamSsmOutRefIdeal.nD → PrngReg), Pre_AdamSsmOutRefIdeal m →
    θ_run (Cert.AdamSsmOutRefIdeal.defs (F := Ideal)) (onTc (τ := Cert.AdamSsmOutRefIdeal.τ) (Cert.AdamSsmOutRefIdeal.main (F := Ideal))) ⟨m, fun _ => 0, g⟩ (fun r => (∀ c : Dev Cert.AdamSsmOutRefIdeal.nD,
      r.2.mem ((c.tc : Thread Cert.AdamSsmOutRefIdeal.nD Cert.AdamSsmOutRefIdeal.τ).loc Cert.AdamSsmOutRefIdeal.main_arg0) = m ((c.tc : Thread Cert.AdamSsmOutRefIdeal.nD Cert.AdamSsmOutRefIdeal.τ).loc Cert.AdamSsmOutRefIdeal.main_arg0)
      ∧ r.2.mem ((c.tc : Thread Cert.AdamSsmOutRefIdeal.nD Cert.AdamSsmOutRefIdeal.τ).loc Cert.AdamSsmOutRefIdeal.main_arg1) = m ((c.tc : Thread Cert.AdamSsmOutRefIdeal.nD Cert.AdamSsmOutRefIdeal.τ).loc Cert.AdamSsmOutRefIdeal.main_arg1)
      ∧ r.2.mem ((c.tc : Thread Cert.AdamSsmOutRefIdeal.nD Cert.AdamSsmOutRefIdeal.τ).loc Cert.AdamSsmOutRefIdeal.main_arg2) = m ((c.tc : Thread Cert.AdamSsmOutRefIdeal.nD Cert.AdamSsmOutRefIdeal.τ).loc Cert.AdamSsmOutRefIdeal.main_arg2)
      ∧ r.2.mem ((c.tc : Thread Cert.AdamSsmOutRefIdeal.nD Cert.AdamSsmOutRefIdeal.τ).loc Cert.AdamSsmOutRefIdeal.main_arg3) = m ((c.tc : Thread Cert.AdamSsmOutRefIdeal.nD Cert.AdamSsmOutRefIdeal.τ).loc Cert.AdamSsmOutRefIdeal.main_arg3)
      ∧ r.2.mem ((c.tc : Thread Cert.AdamSsmOutRefIdeal.nD Cert.AdamSsmOutRefIdeal.τ).loc Cert.AdamSsmOutRefIdeal.main_arg4) = m ((c.tc : Thread Cert.AdamSsmOutRefIdeal.nD Cert.AdamSsmOutRefIdeal.τ).loc Cert.AdamSsmOutRefIdeal.main_arg4))
      ∧ r.2.sem = fun _ => 0)

def quiescent_AdamFfnUp [hAdamFfnUp : Cert.AdamFfnUp.Facts] : Prop :=
  ∀ (m : (ℓ : Loc Cert.AdamFfnUp.nD Cert.AdamFfnUp.τ Cert.AdamFfnUp.sig) → Buf (Elt Bits) ℓ) (g : Dev Cert.AdamFfnUp.nD → PrngReg), Pre_AdamFfnUp m →
    θ_run (Cert.AdamFfnUp.defs (F := Bits)) (onTc (τ := Cert.AdamFfnUp.τ) (Cert.AdamFfnUp.main (F := Bits))) ⟨m, fun _ => 0, g⟩ (fun r => (∀ c : Dev Cert.AdamFfnUp.nD,
      r.2.mem ((c.tc : Thread Cert.AdamFfnUp.nD Cert.AdamFfnUp.τ).loc Cert.AdamFfnUp.main_arg0) = m ((c.tc : Thread Cert.AdamFfnUp.nD Cert.AdamFfnUp.τ).loc Cert.AdamFfnUp.main_arg0)
      ∧ r.2.mem ((c.tc : Thread Cert.AdamFfnUp.nD Cert.AdamFfnUp.τ).loc Cert.AdamFfnUp.main_arg1) = m ((c.tc : Thread Cert.AdamFfnUp.nD Cert.AdamFfnUp.τ).loc Cert.AdamFfnUp.main_arg1)
      ∧ r.2.mem ((c.tc : Thread Cert.AdamFfnUp.nD Cert.AdamFfnUp.τ).loc Cert.AdamFfnUp.main_arg2) = m ((c.tc : Thread Cert.AdamFfnUp.nD Cert.AdamFfnUp.τ).loc Cert.AdamFfnUp.main_arg2)
      ∧ r.2.mem ((c.tc : Thread Cert.AdamFfnUp.nD Cert.AdamFfnUp.τ).loc Cert.AdamFfnUp.main_arg3) = m ((c.tc : Thread Cert.AdamFfnUp.nD Cert.AdamFfnUp.τ).loc Cert.AdamFfnUp.main_arg3)
      ∧ r.2.mem ((c.tc : Thread Cert.AdamFfnUp.nD Cert.AdamFfnUp.τ).loc Cert.AdamFfnUp.main_arg4) = m ((c.tc : Thread Cert.AdamFfnUp.nD Cert.AdamFfnUp.τ).loc Cert.AdamFfnUp.main_arg4)
      ∧ r.2.mem ((c.tc : Thread Cert.AdamFfnUp.nD Cert.AdamFfnUp.τ).loc Cert.AdamFfnUp.main_arg5) = m ((c.tc : Thread Cert.AdamFfnUp.nD Cert.AdamFfnUp.τ).loc Cert.AdamFfnUp.main_arg5)
      ∧ r.2.mem ((c.tc : Thread Cert.AdamFfnUp.nD Cert.AdamFfnUp.τ).loc Cert.AdamFfnUp.main_arg6) = m ((c.tc : Thread Cert.AdamFfnUp.nD Cert.AdamFfnUp.τ).loc Cert.AdamFfnUp.main_arg6))
      ∧ r.2.sem = fun _ => 0)

def quiescent_AdamFfnUpIdeal [hAdamFfnUpIdeal : Cert.AdamFfnUpIdeal.Facts] : Prop :=
  ∀ (m : (ℓ : Loc Cert.AdamFfnUpIdeal.nD Cert.AdamFfnUpIdeal.τ Cert.AdamFfnUpIdeal.sig) → Buf (Elt Ideal) ℓ) (g : Dev Cert.AdamFfnUpIdeal.nD → PrngReg), Pre_AdamFfnUpIdeal m →
    θ_run (Cert.AdamFfnUpIdeal.defs (F := Ideal)) (onTc (τ := Cert.AdamFfnUpIdeal.τ) (Cert.AdamFfnUpIdeal.main (F := Ideal))) ⟨m, fun _ => 0, g⟩ (fun r => (∀ c : Dev Cert.AdamFfnUpIdeal.nD,
      r.2.mem ((c.tc : Thread Cert.AdamFfnUpIdeal.nD Cert.AdamFfnUpIdeal.τ).loc Cert.AdamFfnUpIdeal.main_arg0) = m ((c.tc : Thread Cert.AdamFfnUpIdeal.nD Cert.AdamFfnUpIdeal.τ).loc Cert.AdamFfnUpIdeal.main_arg0)
      ∧ r.2.mem ((c.tc : Thread Cert.AdamFfnUpIdeal.nD Cert.AdamFfnUpIdeal.τ).loc Cert.AdamFfnUpIdeal.main_arg1) = m ((c.tc : Thread Cert.AdamFfnUpIdeal.nD Cert.AdamFfnUpIdeal.τ).loc Cert.AdamFfnUpIdeal.main_arg1)
      ∧ r.2.mem ((c.tc : Thread Cert.AdamFfnUpIdeal.nD Cert.AdamFfnUpIdeal.τ).loc Cert.AdamFfnUpIdeal.main_arg2) = m ((c.tc : Thread Cert.AdamFfnUpIdeal.nD Cert.AdamFfnUpIdeal.τ).loc Cert.AdamFfnUpIdeal.main_arg2)
      ∧ r.2.mem ((c.tc : Thread Cert.AdamFfnUpIdeal.nD Cert.AdamFfnUpIdeal.τ).loc Cert.AdamFfnUpIdeal.main_arg3) = m ((c.tc : Thread Cert.AdamFfnUpIdeal.nD Cert.AdamFfnUpIdeal.τ).loc Cert.AdamFfnUpIdeal.main_arg3)
      ∧ r.2.mem ((c.tc : Thread Cert.AdamFfnUpIdeal.nD Cert.AdamFfnUpIdeal.τ).loc Cert.AdamFfnUpIdeal.main_arg4) = m ((c.tc : Thread Cert.AdamFfnUpIdeal.nD Cert.AdamFfnUpIdeal.τ).loc Cert.AdamFfnUpIdeal.main_arg4)
      ∧ r.2.mem ((c.tc : Thread Cert.AdamFfnUpIdeal.nD Cert.AdamFfnUpIdeal.τ).loc Cert.AdamFfnUpIdeal.main_arg5) = m ((c.tc : Thread Cert.AdamFfnUpIdeal.nD Cert.AdamFfnUpIdeal.τ).loc Cert.AdamFfnUpIdeal.main_arg5)
      ∧ r.2.mem ((c.tc : Thread Cert.AdamFfnUpIdeal.nD Cert.AdamFfnUpIdeal.τ).loc Cert.AdamFfnUpIdeal.main_arg6) = m ((c.tc : Thread Cert.AdamFfnUpIdeal.nD Cert.AdamFfnUpIdeal.τ).loc Cert.AdamFfnUpIdeal.main_arg6))
      ∧ r.2.sem = fun _ => 0)

def quiescent_AdamFfnUpRefIdeal [hAdamFfnUpRefIdeal : Cert.AdamFfnUpRefIdeal.Facts] : Prop :=
  ∀ (m : (ℓ : Loc Cert.AdamFfnUpRefIdeal.nD Cert.AdamFfnUpRefIdeal.τ Cert.AdamFfnUpRefIdeal.sig) → Buf (Elt Ideal) ℓ) (g : Dev Cert.AdamFfnUpRefIdeal.nD → PrngReg), Pre_AdamFfnUpRefIdeal m →
    θ_run (Cert.AdamFfnUpRefIdeal.defs (F := Ideal)) (onTc (τ := Cert.AdamFfnUpRefIdeal.τ) (Cert.AdamFfnUpRefIdeal.main (F := Ideal))) ⟨m, fun _ => 0, g⟩ (fun r => (∀ c : Dev Cert.AdamFfnUpRefIdeal.nD,
      r.2.mem ((c.tc : Thread Cert.AdamFfnUpRefIdeal.nD Cert.AdamFfnUpRefIdeal.τ).loc Cert.AdamFfnUpRefIdeal.main_arg0) = m ((c.tc : Thread Cert.AdamFfnUpRefIdeal.nD Cert.AdamFfnUpRefIdeal.τ).loc Cert.AdamFfnUpRefIdeal.main_arg0)
      ∧ r.2.mem ((c.tc : Thread Cert.AdamFfnUpRefIdeal.nD Cert.AdamFfnUpRefIdeal.τ).loc Cert.AdamFfnUpRefIdeal.main_arg1) = m ((c.tc : Thread Cert.AdamFfnUpRefIdeal.nD Cert.AdamFfnUpRefIdeal.τ).loc Cert.AdamFfnUpRefIdeal.main_arg1)
      ∧ r.2.mem ((c.tc : Thread Cert.AdamFfnUpRefIdeal.nD Cert.AdamFfnUpRefIdeal.τ).loc Cert.AdamFfnUpRefIdeal.main_arg2) = m ((c.tc : Thread Cert.AdamFfnUpRefIdeal.nD Cert.AdamFfnUpRefIdeal.τ).loc Cert.AdamFfnUpRefIdeal.main_arg2)
      ∧ r.2.mem ((c.tc : Thread Cert.AdamFfnUpRefIdeal.nD Cert.AdamFfnUpRefIdeal.τ).loc Cert.AdamFfnUpRefIdeal.main_arg3) = m ((c.tc : Thread Cert.AdamFfnUpRefIdeal.nD Cert.AdamFfnUpRefIdeal.τ).loc Cert.AdamFfnUpRefIdeal.main_arg3)
      ∧ r.2.mem ((c.tc : Thread Cert.AdamFfnUpRefIdeal.nD Cert.AdamFfnUpRefIdeal.τ).loc Cert.AdamFfnUpRefIdeal.main_arg4) = m ((c.tc : Thread Cert.AdamFfnUpRefIdeal.nD Cert.AdamFfnUpRefIdeal.τ).loc Cert.AdamFfnUpRefIdeal.main_arg4)
      ∧ r.2.mem ((c.tc : Thread Cert.AdamFfnUpRefIdeal.nD Cert.AdamFfnUpRefIdeal.τ).loc Cert.AdamFfnUpRefIdeal.main_arg5) = m ((c.tc : Thread Cert.AdamFfnUpRefIdeal.nD Cert.AdamFfnUpRefIdeal.τ).loc Cert.AdamFfnUpRefIdeal.main_arg5)
      ∧ r.2.mem ((c.tc : Thread Cert.AdamFfnUpRefIdeal.nD Cert.AdamFfnUpRefIdeal.τ).loc Cert.AdamFfnUpRefIdeal.main_arg6) = m ((c.tc : Thread Cert.AdamFfnUpRefIdeal.nD Cert.AdamFfnUpRefIdeal.τ).loc Cert.AdamFfnUpRefIdeal.main_arg6))
      ∧ r.2.sem = fun _ => 0)

def quiescent_AdamFfnDown [hAdamFfnDown : Cert.AdamFfnDown.Facts] : Prop :=
  ∀ (m : (ℓ : Loc Cert.AdamFfnDown.nD Cert.AdamFfnDown.τ Cert.AdamFfnDown.sig) → Buf (Elt Bits) ℓ) (g : Dev Cert.AdamFfnDown.nD → PrngReg), Pre_AdamFfnDown m →
    θ_run (Cert.AdamFfnDown.defs (F := Bits)) (onTc (τ := Cert.AdamFfnDown.τ) (Cert.AdamFfnDown.main (F := Bits))) ⟨m, fun _ => 0, g⟩ (fun r => (∀ c : Dev Cert.AdamFfnDown.nD,
      r.2.mem ((c.tc : Thread Cert.AdamFfnDown.nD Cert.AdamFfnDown.τ).loc Cert.AdamFfnDown.main_arg0) = m ((c.tc : Thread Cert.AdamFfnDown.nD Cert.AdamFfnDown.τ).loc Cert.AdamFfnDown.main_arg0)
      ∧ r.2.mem ((c.tc : Thread Cert.AdamFfnDown.nD Cert.AdamFfnDown.τ).loc Cert.AdamFfnDown.main_arg1) = m ((c.tc : Thread Cert.AdamFfnDown.nD Cert.AdamFfnDown.τ).loc Cert.AdamFfnDown.main_arg1)
      ∧ r.2.mem ((c.tc : Thread Cert.AdamFfnDown.nD Cert.AdamFfnDown.τ).loc Cert.AdamFfnDown.main_arg2) = m ((c.tc : Thread Cert.AdamFfnDown.nD Cert.AdamFfnDown.τ).loc Cert.AdamFfnDown.main_arg2)
      ∧ r.2.mem ((c.tc : Thread Cert.AdamFfnDown.nD Cert.AdamFfnDown.τ).loc Cert.AdamFfnDown.main_arg3) = m ((c.tc : Thread Cert.AdamFfnDown.nD Cert.AdamFfnDown.τ).loc Cert.AdamFfnDown.main_arg3)
      ∧ r.2.mem ((c.tc : Thread Cert.AdamFfnDown.nD Cert.AdamFfnDown.τ).loc Cert.AdamFfnDown.main_arg4) = m ((c.tc : Thread Cert.AdamFfnDown.nD Cert.AdamFfnDown.τ).loc Cert.AdamFfnDown.main_arg4)
      ∧ r.2.mem ((c.tc : Thread Cert.AdamFfnDown.nD Cert.AdamFfnDown.τ).loc Cert.AdamFfnDown.main_arg5) = m ((c.tc : Thread Cert.AdamFfnDown.nD Cert.AdamFfnDown.τ).loc Cert.AdamFfnDown.main_arg5)
      ∧ r.2.mem ((c.tc : Thread Cert.AdamFfnDown.nD Cert.AdamFfnDown.τ).loc Cert.AdamFfnDown.main_arg6) = m ((c.tc : Thread Cert.AdamFfnDown.nD Cert.AdamFfnDown.τ).loc Cert.AdamFfnDown.main_arg6))
      ∧ r.2.sem = fun _ => 0)

def quiescent_AdamFfnDownIdeal [hAdamFfnDownIdeal : Cert.AdamFfnDownIdeal.Facts] : Prop :=
  ∀ (m : (ℓ : Loc Cert.AdamFfnDownIdeal.nD Cert.AdamFfnDownIdeal.τ Cert.AdamFfnDownIdeal.sig) → Buf (Elt Ideal) ℓ) (g : Dev Cert.AdamFfnDownIdeal.nD → PrngReg), Pre_AdamFfnDownIdeal m →
    θ_run (Cert.AdamFfnDownIdeal.defs (F := Ideal)) (onTc (τ := Cert.AdamFfnDownIdeal.τ) (Cert.AdamFfnDownIdeal.main (F := Ideal))) ⟨m, fun _ => 0, g⟩ (fun r => (∀ c : Dev Cert.AdamFfnDownIdeal.nD,
      r.2.mem ((c.tc : Thread Cert.AdamFfnDownIdeal.nD Cert.AdamFfnDownIdeal.τ).loc Cert.AdamFfnDownIdeal.main_arg0) = m ((c.tc : Thread Cert.AdamFfnDownIdeal.nD Cert.AdamFfnDownIdeal.τ).loc Cert.AdamFfnDownIdeal.main_arg0)
      ∧ r.2.mem ((c.tc : Thread Cert.AdamFfnDownIdeal.nD Cert.AdamFfnDownIdeal.τ).loc Cert.AdamFfnDownIdeal.main_arg1) = m ((c.tc : Thread Cert.AdamFfnDownIdeal.nD Cert.AdamFfnDownIdeal.τ).loc Cert.AdamFfnDownIdeal.main_arg1)
      ∧ r.2.mem ((c.tc : Thread Cert.AdamFfnDownIdeal.nD Cert.AdamFfnDownIdeal.τ).loc Cert.AdamFfnDownIdeal.main_arg2) = m ((c.tc : Thread Cert.AdamFfnDownIdeal.nD Cert.AdamFfnDownIdeal.τ).loc Cert.AdamFfnDownIdeal.main_arg2)
      ∧ r.2.mem ((c.tc : Thread Cert.AdamFfnDownIdeal.nD Cert.AdamFfnDownIdeal.τ).loc Cert.AdamFfnDownIdeal.main_arg3) = m ((c.tc : Thread Cert.AdamFfnDownIdeal.nD Cert.AdamFfnDownIdeal.τ).loc Cert.AdamFfnDownIdeal.main_arg3)
      ∧ r.2.mem ((c.tc : Thread Cert.AdamFfnDownIdeal.nD Cert.AdamFfnDownIdeal.τ).loc Cert.AdamFfnDownIdeal.main_arg4) = m ((c.tc : Thread Cert.AdamFfnDownIdeal.nD Cert.AdamFfnDownIdeal.τ).loc Cert.AdamFfnDownIdeal.main_arg4)
      ∧ r.2.mem ((c.tc : Thread Cert.AdamFfnDownIdeal.nD Cert.AdamFfnDownIdeal.τ).loc Cert.AdamFfnDownIdeal.main_arg5) = m ((c.tc : Thread Cert.AdamFfnDownIdeal.nD Cert.AdamFfnDownIdeal.τ).loc Cert.AdamFfnDownIdeal.main_arg5)
      ∧ r.2.mem ((c.tc : Thread Cert.AdamFfnDownIdeal.nD Cert.AdamFfnDownIdeal.τ).loc Cert.AdamFfnDownIdeal.main_arg6) = m ((c.tc : Thread Cert.AdamFfnDownIdeal.nD Cert.AdamFfnDownIdeal.τ).loc Cert.AdamFfnDownIdeal.main_arg6))
      ∧ r.2.sem = fun _ => 0)

def quiescent_AdamFfnDownRefIdeal [hAdamFfnDownRefIdeal : Cert.AdamFfnDownRefIdeal.Facts] : Prop :=
  ∀ (m : (ℓ : Loc Cert.AdamFfnDownRefIdeal.nD Cert.AdamFfnDownRefIdeal.τ Cert.AdamFfnDownRefIdeal.sig) → Buf (Elt Ideal) ℓ) (g : Dev Cert.AdamFfnDownRefIdeal.nD → PrngReg), Pre_AdamFfnDownRefIdeal m →
    θ_run (Cert.AdamFfnDownRefIdeal.defs (F := Ideal)) (onTc (τ := Cert.AdamFfnDownRefIdeal.τ) (Cert.AdamFfnDownRefIdeal.main (F := Ideal))) ⟨m, fun _ => 0, g⟩ (fun r => (∀ c : Dev Cert.AdamFfnDownRefIdeal.nD,
      r.2.mem ((c.tc : Thread Cert.AdamFfnDownRefIdeal.nD Cert.AdamFfnDownRefIdeal.τ).loc Cert.AdamFfnDownRefIdeal.main_arg0) = m ((c.tc : Thread Cert.AdamFfnDownRefIdeal.nD Cert.AdamFfnDownRefIdeal.τ).loc Cert.AdamFfnDownRefIdeal.main_arg0)
      ∧ r.2.mem ((c.tc : Thread Cert.AdamFfnDownRefIdeal.nD Cert.AdamFfnDownRefIdeal.τ).loc Cert.AdamFfnDownRefIdeal.main_arg1) = m ((c.tc : Thread Cert.AdamFfnDownRefIdeal.nD Cert.AdamFfnDownRefIdeal.τ).loc Cert.AdamFfnDownRefIdeal.main_arg1)
      ∧ r.2.mem ((c.tc : Thread Cert.AdamFfnDownRefIdeal.nD Cert.AdamFfnDownRefIdeal.τ).loc Cert.AdamFfnDownRefIdeal.main_arg2) = m ((c.tc : Thread Cert.AdamFfnDownRefIdeal.nD Cert.AdamFfnDownRefIdeal.τ).loc Cert.AdamFfnDownRefIdeal.main_arg2)
      ∧ r.2.mem ((c.tc : Thread Cert.AdamFfnDownRefIdeal.nD Cert.AdamFfnDownRefIdeal.τ).loc Cert.AdamFfnDownRefIdeal.main_arg3) = m ((c.tc : Thread Cert.AdamFfnDownRefIdeal.nD Cert.AdamFfnDownRefIdeal.τ).loc Cert.AdamFfnDownRefIdeal.main_arg3)
      ∧ r.2.mem ((c.tc : Thread Cert.AdamFfnDownRefIdeal.nD Cert.AdamFfnDownRefIdeal.τ).loc Cert.AdamFfnDownRefIdeal.main_arg4) = m ((c.tc : Thread Cert.AdamFfnDownRefIdeal.nD Cert.AdamFfnDownRefIdeal.τ).loc Cert.AdamFfnDownRefIdeal.main_arg4)
      ∧ r.2.mem ((c.tc : Thread Cert.AdamFfnDownRefIdeal.nD Cert.AdamFfnDownRefIdeal.τ).loc Cert.AdamFfnDownRefIdeal.main_arg5) = m ((c.tc : Thread Cert.AdamFfnDownRefIdeal.nD Cert.AdamFfnDownRefIdeal.τ).loc Cert.AdamFfnDownRefIdeal.main_arg5)
      ∧ r.2.mem ((c.tc : Thread Cert.AdamFfnDownRefIdeal.nD Cert.AdamFfnDownRefIdeal.τ).loc Cert.AdamFfnDownRefIdeal.main_arg6) = m ((c.tc : Thread Cert.AdamFfnDownRefIdeal.nD Cert.AdamFfnDownRefIdeal.τ).loc Cert.AdamFfnDownRefIdeal.main_arg6))
      ∧ r.2.sem = fun _ => 0)

def quiescent_SumSmall [hSumSmall : Cert.SumSmall.Facts] : Prop :=
  ∀ (m : (ℓ : Loc Cert.SumSmall.nD Cert.SumSmall.τ Cert.SumSmall.sig) → Buf (Elt Bits) ℓ) (g : Dev Cert.SumSmall.nD → PrngReg), Pre_SumSmall m →
    θ_run (Cert.SumSmall.defs (F := Bits)) (onTc (τ := Cert.SumSmall.τ) (Cert.SumSmall.main (F := Bits))) ⟨m, fun _ => 0, g⟩ (fun r => (∀ c : Dev Cert.SumSmall.nD,
      r.2.mem ((c.tc : Thread Cert.SumSmall.nD Cert.SumSmall.τ).loc Cert.SumSmall.main_arg0) = m ((c.tc : Thread Cert.SumSmall.nD Cert.SumSmall.τ).loc Cert.SumSmall.main_arg0))
      ∧ r.2.sem = fun _ => 0)

def quiescent_SumSmallIdeal [hSumSmallIdeal : Cert.SumSmallIdeal.Facts] : Prop :=
  ∀ (m : (ℓ : Loc Cert.SumSmallIdeal.nD Cert.SumSmallIdeal.τ Cert.SumSmallIdeal.sig) → Buf (Elt Ideal) ℓ) (g : Dev Cert.SumSmallIdeal.nD → PrngReg), Pre_SumSmallIdeal m →
    θ_run (Cert.SumSmallIdeal.defs (F := Ideal)) (onTc (τ := Cert.SumSmallIdeal.τ) (Cert.SumSmallIdeal.main (F := Ideal))) ⟨m, fun _ => 0, g⟩ (fun r => (∀ c : Dev Cert.SumSmallIdeal.nD,
      r.2.mem ((c.tc : Thread Cert.SumSmallIdeal.nD Cert.SumSmallIdeal.τ).loc Cert.SumSmallIdeal.main_arg0) = m ((c.tc : Thread Cert.SumSmallIdeal.nD Cert.SumSmallIdeal.τ).loc Cert.SumSmallIdeal.main_arg0))
      ∧ r.2.sem = fun _ => 0)

def quiescent_SumSmallRefIdeal [hSumSmallRefIdeal : Cert.SumSmallRefIdeal.Facts] : Prop :=
  ∀ (m : (ℓ : Loc Cert.SumSmallRefIdeal.nD Cert.SumSmallRefIdeal.τ Cert.SumSmallRefIdeal.sig) → Buf (Elt Ideal) ℓ) (g : Dev Cert.SumSmallRefIdeal.nD → PrngReg), Pre_SumSmallRefIdeal m →
    θ_run (Cert.SumSmallRefIdeal.defs (F := Ideal)) (onTc (τ := Cert.SumSmallRefIdeal.τ) (Cert.SumSmallRefIdeal.main (F := Ideal))) ⟨m, fun _ => 0, g⟩ (fun r => (∀ c : Dev Cert.SumSmallRefIdeal.nD,
      r.2.mem ((c.tc : Thread Cert.SumSmallRefIdeal.nD Cert.SumSmallRefIdeal.τ).loc Cert.SumSmallRefIdeal.main_arg0) = m ((c.tc : Thread Cert.SumSmallRefIdeal.nD Cert.SumSmallRefIdeal.τ).loc Cert.SumSmallRefIdeal.main_arg0))
      ∧ r.2.sem = fun _ => 0)

def quiescent_AdamSmall [hAdamSmall : Cert.AdamSmall.Facts] : Prop :=
  ∀ (m : (ℓ : Loc Cert.AdamSmall.nD Cert.AdamSmall.τ Cert.AdamSmall.sig) → Buf (Elt Bits) ℓ) (g : Dev Cert.AdamSmall.nD → PrngReg), Pre_AdamSmall m →
    θ_run (Cert.AdamSmall.defs (F := Bits)) (onTc (τ := Cert.AdamSmall.τ) (Cert.AdamSmall.main (F := Bits))) ⟨m, fun _ => 0, g⟩ (fun r => (∀ c : Dev Cert.AdamSmall.nD,
      r.2.mem ((c.tc : Thread Cert.AdamSmall.nD Cert.AdamSmall.τ).loc Cert.AdamSmall.main_arg0) = m ((c.tc : Thread Cert.AdamSmall.nD Cert.AdamSmall.τ).loc Cert.AdamSmall.main_arg0)
      ∧ r.2.mem ((c.tc : Thread Cert.AdamSmall.nD Cert.AdamSmall.τ).loc Cert.AdamSmall.main_arg1) = m ((c.tc : Thread Cert.AdamSmall.nD Cert.AdamSmall.τ).loc Cert.AdamSmall.main_arg1)
      ∧ r.2.mem ((c.tc : Thread Cert.AdamSmall.nD Cert.AdamSmall.τ).loc Cert.AdamSmall.main_arg2) = m ((c.tc : Thread Cert.AdamSmall.nD Cert.AdamSmall.τ).loc Cert.AdamSmall.main_arg2)
      ∧ r.2.mem ((c.tc : Thread Cert.AdamSmall.nD Cert.AdamSmall.τ).loc Cert.AdamSmall.main_arg3) = m ((c.tc : Thread Cert.AdamSmall.nD Cert.AdamSmall.τ).loc Cert.AdamSmall.main_arg3))
      ∧ r.2.sem = fun _ => 0)

def quiescent_AdamSmallIdeal [hAdamSmallIdeal : Cert.AdamSmallIdeal.Facts] : Prop :=
  ∀ (m : (ℓ : Loc Cert.AdamSmallIdeal.nD Cert.AdamSmallIdeal.τ Cert.AdamSmallIdeal.sig) → Buf (Elt Ideal) ℓ) (g : Dev Cert.AdamSmallIdeal.nD → PrngReg), Pre_AdamSmallIdeal m →
    θ_run (Cert.AdamSmallIdeal.defs (F := Ideal)) (onTc (τ := Cert.AdamSmallIdeal.τ) (Cert.AdamSmallIdeal.main (F := Ideal))) ⟨m, fun _ => 0, g⟩ (fun r => (∀ c : Dev Cert.AdamSmallIdeal.nD,
      r.2.mem ((c.tc : Thread Cert.AdamSmallIdeal.nD Cert.AdamSmallIdeal.τ).loc Cert.AdamSmallIdeal.main_arg0) = m ((c.tc : Thread Cert.AdamSmallIdeal.nD Cert.AdamSmallIdeal.τ).loc Cert.AdamSmallIdeal.main_arg0)
      ∧ r.2.mem ((c.tc : Thread Cert.AdamSmallIdeal.nD Cert.AdamSmallIdeal.τ).loc Cert.AdamSmallIdeal.main_arg1) = m ((c.tc : Thread Cert.AdamSmallIdeal.nD Cert.AdamSmallIdeal.τ).loc Cert.AdamSmallIdeal.main_arg1)
      ∧ r.2.mem ((c.tc : Thread Cert.AdamSmallIdeal.nD Cert.AdamSmallIdeal.τ).loc Cert.AdamSmallIdeal.main_arg2) = m ((c.tc : Thread Cert.AdamSmallIdeal.nD Cert.AdamSmallIdeal.τ).loc Cert.AdamSmallIdeal.main_arg2)
      ∧ r.2.mem ((c.tc : Thread Cert.AdamSmallIdeal.nD Cert.AdamSmallIdeal.τ).loc Cert.AdamSmallIdeal.main_arg3) = m ((c.tc : Thread Cert.AdamSmallIdeal.nD Cert.AdamSmallIdeal.τ).loc Cert.AdamSmallIdeal.main_arg3))
      ∧ r.2.sem = fun _ => 0)

def quiescent_AdamSmallRefIdeal [hAdamSmallRefIdeal : Cert.AdamSmallRefIdeal.Facts] : Prop :=
  ∀ (m : (ℓ : Loc Cert.AdamSmallRefIdeal.nD Cert.AdamSmallRefIdeal.τ Cert.AdamSmallRefIdeal.sig) → Buf (Elt Ideal) ℓ) (g : Dev Cert.AdamSmallRefIdeal.nD → PrngReg), Pre_AdamSmallRefIdeal m →
    θ_run (Cert.AdamSmallRefIdeal.defs (F := Ideal)) (onTc (τ := Cert.AdamSmallRefIdeal.τ) (Cert.AdamSmallRefIdeal.main (F := Ideal))) ⟨m, fun _ => 0, g⟩ (fun r => (∀ c : Dev Cert.AdamSmallRefIdeal.nD,
      r.2.mem ((c.tc : Thread Cert.AdamSmallRefIdeal.nD Cert.AdamSmallRefIdeal.τ).loc Cert.AdamSmallRefIdeal.main_arg0) = m ((c.tc : Thread Cert.AdamSmallRefIdeal.nD Cert.AdamSmallRefIdeal.τ).loc Cert.AdamSmallRefIdeal.main_arg0)
      ∧ r.2.mem ((c.tc : Thread Cert.AdamSmallRefIdeal.nD Cert.AdamSmallRefIdeal.τ).loc Cert.AdamSmallRefIdeal.main_arg1) = m ((c.tc : Thread Cert.AdamSmallRefIdeal.nD Cert.AdamSmallRefIdeal.τ).loc Cert.AdamSmallRefIdeal.main_arg1)
      ∧ r.2.mem ((c.tc : Thread Cert.AdamSmallRefIdeal.nD Cert.AdamSmallRefIdeal.τ).loc Cert.AdamSmallRefIdeal.main_arg2) = m ((c.tc : Thread Cert.AdamSmallRefIdeal.nD Cert.AdamSmallRefIdeal.τ).loc Cert.AdamSmallRefIdeal.main_arg2)
      ∧ r.2.mem ((c.tc : Thread Cert.AdamSmallRefIdeal.nD Cert.AdamSmallRefIdeal.τ).loc Cert.AdamSmallRefIdeal.main_arg3) = m ((c.tc : Thread Cert.AdamSmallRefIdeal.nD Cert.AdamSmallRefIdeal.τ).loc Cert.AdamSmallRefIdeal.main_arg3))
      ∧ r.2.sem = fun _ => 0)

def quiescent_FinalLoss [hFinalLoss : Cert.FinalLoss.Facts] : Prop :=
  ∀ (m : (ℓ : Loc Cert.FinalLoss.nD Cert.FinalLoss.τ Cert.FinalLoss.sig) → Buf (Elt Bits) ℓ) (g : Dev Cert.FinalLoss.nD → PrngReg), Pre_FinalLoss m →
    θ_run (Cert.FinalLoss.defs (F := Bits)) (onTc (τ := Cert.FinalLoss.τ) (Cert.FinalLoss.main (F := Bits))) ⟨m, fun _ => 0, g⟩ (fun r => (∀ c : Dev Cert.FinalLoss.nD,
      r.2.mem ((c.tc : Thread Cert.FinalLoss.nD Cert.FinalLoss.τ).loc Cert.FinalLoss.main_arg0) = m ((c.tc : Thread Cert.FinalLoss.nD Cert.FinalLoss.τ).loc Cert.FinalLoss.main_arg0)
      ∧ r.2.mem ((c.tc : Thread Cert.FinalLoss.nD Cert.FinalLoss.τ).loc Cert.FinalLoss.main_arg1) = m ((c.tc : Thread Cert.FinalLoss.nD Cert.FinalLoss.τ).loc Cert.FinalLoss.main_arg1)
      ∧ r.2.mem ((c.tc : Thread Cert.FinalLoss.nD Cert.FinalLoss.τ).loc Cert.FinalLoss.main_arg2) = m ((c.tc : Thread Cert.FinalLoss.nD Cert.FinalLoss.τ).loc Cert.FinalLoss.main_arg2))
      ∧ r.2.sem = fun _ => 0)

def quiescent_FinalLossIdeal [hFinalLossIdeal : Cert.FinalLossIdeal.Facts] : Prop :=
  ∀ (m : (ℓ : Loc Cert.FinalLossIdeal.nD Cert.FinalLossIdeal.τ Cert.FinalLossIdeal.sig) → Buf (Elt Ideal) ℓ) (g : Dev Cert.FinalLossIdeal.nD → PrngReg), Pre_FinalLossIdeal m →
    θ_run (Cert.FinalLossIdeal.defs (F := Ideal)) (onTc (τ := Cert.FinalLossIdeal.τ) (Cert.FinalLossIdeal.main (F := Ideal))) ⟨m, fun _ => 0, g⟩ (fun r => (∀ c : Dev Cert.FinalLossIdeal.nD,
      r.2.mem ((c.tc : Thread Cert.FinalLossIdeal.nD Cert.FinalLossIdeal.τ).loc Cert.FinalLossIdeal.main_arg0) = m ((c.tc : Thread Cert.FinalLossIdeal.nD Cert.FinalLossIdeal.τ).loc Cert.FinalLossIdeal.main_arg0)
      ∧ r.2.mem ((c.tc : Thread Cert.FinalLossIdeal.nD Cert.FinalLossIdeal.τ).loc Cert.FinalLossIdeal.main_arg1) = m ((c.tc : Thread Cert.FinalLossIdeal.nD Cert.FinalLossIdeal.τ).loc Cert.FinalLossIdeal.main_arg1)
      ∧ r.2.mem ((c.tc : Thread Cert.FinalLossIdeal.nD Cert.FinalLossIdeal.τ).loc Cert.FinalLossIdeal.main_arg2) = m ((c.tc : Thread Cert.FinalLossIdeal.nD Cert.FinalLossIdeal.τ).loc Cert.FinalLossIdeal.main_arg2))
      ∧ r.2.sem = fun _ => 0)

def quiescent_FinalLossRefIdeal [hFinalLossRefIdeal : Cert.FinalLossRefIdeal.Facts] : Prop :=
  ∀ (m : (ℓ : Loc Cert.FinalLossRefIdeal.nD Cert.FinalLossRefIdeal.τ Cert.FinalLossRefIdeal.sig) → Buf (Elt Ideal) ℓ) (g : Dev Cert.FinalLossRefIdeal.nD → PrngReg), Pre_FinalLossRefIdeal m →
    θ_run (Cert.FinalLossRefIdeal.defs (F := Ideal)) (onTc (τ := Cert.FinalLossRefIdeal.τ) (Cert.FinalLossRefIdeal.main (F := Ideal))) ⟨m, fun _ => 0, g⟩ (fun r => (∀ c : Dev Cert.FinalLossRefIdeal.nD,
      r.2.mem ((c.tc : Thread Cert.FinalLossRefIdeal.nD Cert.FinalLossRefIdeal.τ).loc Cert.FinalLossRefIdeal.main_arg0) = m ((c.tc : Thread Cert.FinalLossRefIdeal.nD Cert.FinalLossRefIdeal.τ).loc Cert.FinalLossRefIdeal.main_arg0)
      ∧ r.2.mem ((c.tc : Thread Cert.FinalLossRefIdeal.nD Cert.FinalLossRefIdeal.τ).loc Cert.FinalLossRefIdeal.main_arg1) = m ((c.tc : Thread Cert.FinalLossRefIdeal.nD Cert.FinalLossRefIdeal.τ).loc Cert.FinalLossRefIdeal.main_arg1)
      ∧ r.2.mem ((c.tc : Thread Cert.FinalLossRefIdeal.nD Cert.FinalLossRefIdeal.τ).loc Cert.FinalLossRefIdeal.main_arg2) = m ((c.tc : Thread Cert.FinalLossRefIdeal.nD Cert.FinalLossRefIdeal.τ).loc Cert.FinalLossRefIdeal.main_arg2))
      ∧ r.2.sem = fun _ => 0)

def quiescent_RmsBwd [hRmsBwd : Cert.RmsBwd.Facts] : Prop :=
  ∀ (m : (ℓ : Loc Cert.RmsBwd.nD Cert.RmsBwd.τ Cert.RmsBwd.sig) → Buf (Elt Bits) ℓ) (g : Dev Cert.RmsBwd.nD → PrngReg), Pre_RmsBwd m →
    θ_run (Cert.RmsBwd.defs (F := Bits)) (onTc (τ := Cert.RmsBwd.τ) (Cert.RmsBwd.main (F := Bits))) ⟨m, fun _ => 0, g⟩ (fun r => (∀ c : Dev Cert.RmsBwd.nD,
      r.2.mem ((c.tc : Thread Cert.RmsBwd.nD Cert.RmsBwd.τ).loc Cert.RmsBwd.main_arg0) = m ((c.tc : Thread Cert.RmsBwd.nD Cert.RmsBwd.τ).loc Cert.RmsBwd.main_arg0)
      ∧ r.2.mem ((c.tc : Thread Cert.RmsBwd.nD Cert.RmsBwd.τ).loc Cert.RmsBwd.main_arg1) = m ((c.tc : Thread Cert.RmsBwd.nD Cert.RmsBwd.τ).loc Cert.RmsBwd.main_arg1)
      ∧ r.2.mem ((c.tc : Thread Cert.RmsBwd.nD Cert.RmsBwd.τ).loc Cert.RmsBwd.main_arg2) = m ((c.tc : Thread Cert.RmsBwd.nD Cert.RmsBwd.τ).loc Cert.RmsBwd.main_arg2)
      ∧ r.2.mem ((c.tc : Thread Cert.RmsBwd.nD Cert.RmsBwd.τ).loc Cert.RmsBwd.main_arg3) = m ((c.tc : Thread Cert.RmsBwd.nD Cert.RmsBwd.τ).loc Cert.RmsBwd.main_arg3))
      ∧ r.2.sem = fun _ => 0)

def quiescent_RmsBwdIdeal [hRmsBwdIdeal : Cert.RmsBwdIdeal.Facts] : Prop :=
  ∀ (m : (ℓ : Loc Cert.RmsBwdIdeal.nD Cert.RmsBwdIdeal.τ Cert.RmsBwdIdeal.sig) → Buf (Elt Ideal) ℓ) (g : Dev Cert.RmsBwdIdeal.nD → PrngReg), Pre_RmsBwdIdeal m →
    θ_run (Cert.RmsBwdIdeal.defs (F := Ideal)) (onTc (τ := Cert.RmsBwdIdeal.τ) (Cert.RmsBwdIdeal.main (F := Ideal))) ⟨m, fun _ => 0, g⟩ (fun r => (∀ c : Dev Cert.RmsBwdIdeal.nD,
      r.2.mem ((c.tc : Thread Cert.RmsBwdIdeal.nD Cert.RmsBwdIdeal.τ).loc Cert.RmsBwdIdeal.main_arg0) = m ((c.tc : Thread Cert.RmsBwdIdeal.nD Cert.RmsBwdIdeal.τ).loc Cert.RmsBwdIdeal.main_arg0)
      ∧ r.2.mem ((c.tc : Thread Cert.RmsBwdIdeal.nD Cert.RmsBwdIdeal.τ).loc Cert.RmsBwdIdeal.main_arg1) = m ((c.tc : Thread Cert.RmsBwdIdeal.nD Cert.RmsBwdIdeal.τ).loc Cert.RmsBwdIdeal.main_arg1)
      ∧ r.2.mem ((c.tc : Thread Cert.RmsBwdIdeal.nD Cert.RmsBwdIdeal.τ).loc Cert.RmsBwdIdeal.main_arg2) = m ((c.tc : Thread Cert.RmsBwdIdeal.nD Cert.RmsBwdIdeal.τ).loc Cert.RmsBwdIdeal.main_arg2)
      ∧ r.2.mem ((c.tc : Thread Cert.RmsBwdIdeal.nD Cert.RmsBwdIdeal.τ).loc Cert.RmsBwdIdeal.main_arg3) = m ((c.tc : Thread Cert.RmsBwdIdeal.nD Cert.RmsBwdIdeal.τ).loc Cert.RmsBwdIdeal.main_arg3))
      ∧ r.2.sem = fun _ => 0)

def quiescent_RmsBwdRefIdeal [hRmsBwdRefIdeal : Cert.RmsBwdRefIdeal.Facts] : Prop :=
  ∀ (m : (ℓ : Loc Cert.RmsBwdRefIdeal.nD Cert.RmsBwdRefIdeal.τ Cert.RmsBwdRefIdeal.sig) → Buf (Elt Ideal) ℓ) (g : Dev Cert.RmsBwdRefIdeal.nD → PrngReg), Pre_RmsBwdRefIdeal m →
    θ_run (Cert.RmsBwdRefIdeal.defs (F := Ideal)) (onTc (τ := Cert.RmsBwdRefIdeal.τ) (Cert.RmsBwdRefIdeal.main (F := Ideal))) ⟨m, fun _ => 0, g⟩ (fun r => (∀ c : Dev Cert.RmsBwdRefIdeal.nD,
      r.2.mem ((c.tc : Thread Cert.RmsBwdRefIdeal.nD Cert.RmsBwdRefIdeal.τ).loc Cert.RmsBwdRefIdeal.main_arg0) = m ((c.tc : Thread Cert.RmsBwdRefIdeal.nD Cert.RmsBwdRefIdeal.τ).loc Cert.RmsBwdRefIdeal.main_arg0)
      ∧ r.2.mem ((c.tc : Thread Cert.RmsBwdRefIdeal.nD Cert.RmsBwdRefIdeal.τ).loc Cert.RmsBwdRefIdeal.main_arg1) = m ((c.tc : Thread Cert.RmsBwdRefIdeal.nD Cert.RmsBwdRefIdeal.τ).loc Cert.RmsBwdRefIdeal.main_arg1)
      ∧ r.2.mem ((c.tc : Thread Cert.RmsBwdRefIdeal.nD Cert.RmsBwdRefIdeal.τ).loc Cert.RmsBwdRefIdeal.main_arg2) = m ((c.tc : Thread Cert.RmsBwdRefIdeal.nD Cert.RmsBwdRefIdeal.τ).loc Cert.RmsBwdRefIdeal.main_arg2)
      ∧ r.2.mem ((c.tc : Thread Cert.RmsBwdRefIdeal.nD Cert.RmsBwdRefIdeal.τ).loc Cert.RmsBwdRefIdeal.main_arg3) = m ((c.tc : Thread Cert.RmsBwdRefIdeal.nD Cert.RmsBwdRefIdeal.τ).loc Cert.RmsBwdRefIdeal.main_arg3))
      ∧ r.2.sem = fun _ => 0)

def quiescent_LossBwd [hLossBwd : Cert.LossBwd.Facts] : Prop :=
  ∀ (m : (ℓ : Loc Cert.LossBwd.nD Cert.LossBwd.τ Cert.LossBwd.sig) → Buf (Elt Bits) ℓ) (g : Dev Cert.LossBwd.nD → PrngReg), Pre_LossBwd m →
    θ_run (Cert.LossBwd.defs (F := Bits)) (onTc (τ := Cert.LossBwd.τ) (Cert.LossBwd.main (F := Bits))) ⟨m, fun _ => 0, g⟩ (fun r => (∀ c : Dev Cert.LossBwd.nD,
      r.2.mem ((c.tc : Thread Cert.LossBwd.nD Cert.LossBwd.τ).loc Cert.LossBwd.main_arg0) = m ((c.tc : Thread Cert.LossBwd.nD Cert.LossBwd.τ).loc Cert.LossBwd.main_arg0)
      ∧ r.2.mem ((c.tc : Thread Cert.LossBwd.nD Cert.LossBwd.τ).loc Cert.LossBwd.main_arg1) = m ((c.tc : Thread Cert.LossBwd.nD Cert.LossBwd.τ).loc Cert.LossBwd.main_arg1)
      ∧ r.2.mem ((c.tc : Thread Cert.LossBwd.nD Cert.LossBwd.τ).loc Cert.LossBwd.main_arg2) = m ((c.tc : Thread Cert.LossBwd.nD Cert.LossBwd.τ).loc Cert.LossBwd.main_arg2))
      ∧ r.2.sem = fun _ => 0)

def quiescent_LossBwdIdeal [hLossBwdIdeal : Cert.LossBwdIdeal.Facts] : Prop :=
  ∀ (m : (ℓ : Loc Cert.LossBwdIdeal.nD Cert.LossBwdIdeal.τ Cert.LossBwdIdeal.sig) → Buf (Elt Ideal) ℓ) (g : Dev Cert.LossBwdIdeal.nD → PrngReg), Pre_LossBwdIdeal m →
    θ_run (Cert.LossBwdIdeal.defs (F := Ideal)) (onTc (τ := Cert.LossBwdIdeal.τ) (Cert.LossBwdIdeal.main (F := Ideal))) ⟨m, fun _ => 0, g⟩ (fun r => (∀ c : Dev Cert.LossBwdIdeal.nD,
      r.2.mem ((c.tc : Thread Cert.LossBwdIdeal.nD Cert.LossBwdIdeal.τ).loc Cert.LossBwdIdeal.main_arg0) = m ((c.tc : Thread Cert.LossBwdIdeal.nD Cert.LossBwdIdeal.τ).loc Cert.LossBwdIdeal.main_arg0)
      ∧ r.2.mem ((c.tc : Thread Cert.LossBwdIdeal.nD Cert.LossBwdIdeal.τ).loc Cert.LossBwdIdeal.main_arg1) = m ((c.tc : Thread Cert.LossBwdIdeal.nD Cert.LossBwdIdeal.τ).loc Cert.LossBwdIdeal.main_arg1)
      ∧ r.2.mem ((c.tc : Thread Cert.LossBwdIdeal.nD Cert.LossBwdIdeal.τ).loc Cert.LossBwdIdeal.main_arg2) = m ((c.tc : Thread Cert.LossBwdIdeal.nD Cert.LossBwdIdeal.τ).loc Cert.LossBwdIdeal.main_arg2))
      ∧ r.2.sem = fun _ => 0)

def quiescent_LossBwdRefIdeal [hLossBwdRefIdeal : Cert.LossBwdRefIdeal.Facts] : Prop :=
  ∀ (m : (ℓ : Loc Cert.LossBwdRefIdeal.nD Cert.LossBwdRefIdeal.τ Cert.LossBwdRefIdeal.sig) → Buf (Elt Ideal) ℓ) (g : Dev Cert.LossBwdRefIdeal.nD → PrngReg), Pre_LossBwdRefIdeal m →
    θ_run (Cert.LossBwdRefIdeal.defs (F := Ideal)) (onTc (τ := Cert.LossBwdRefIdeal.τ) (Cert.LossBwdRefIdeal.main (F := Ideal))) ⟨m, fun _ => 0, g⟩ (fun r => (∀ c : Dev Cert.LossBwdRefIdeal.nD,
      r.2.mem ((c.tc : Thread Cert.LossBwdRefIdeal.nD Cert.LossBwdRefIdeal.τ).loc Cert.LossBwdRefIdeal.main_arg0) = m ((c.tc : Thread Cert.LossBwdRefIdeal.nD Cert.LossBwdRefIdeal.τ).loc Cert.LossBwdRefIdeal.main_arg0)
      ∧ r.2.mem ((c.tc : Thread Cert.LossBwdRefIdeal.nD Cert.LossBwdRefIdeal.τ).loc Cert.LossBwdRefIdeal.main_arg1) = m ((c.tc : Thread Cert.LossBwdRefIdeal.nD Cert.LossBwdRefIdeal.τ).loc Cert.LossBwdRefIdeal.main_arg1)
      ∧ r.2.mem ((c.tc : Thread Cert.LossBwdRefIdeal.nD Cert.LossBwdRefIdeal.τ).loc Cert.LossBwdRefIdeal.main_arg2) = m ((c.tc : Thread Cert.LossBwdRefIdeal.nD Cert.LossBwdRefIdeal.τ).loc Cert.LossBwdRefIdeal.main_arg2))
      ∧ r.2.sem = fun _ => 0)

def quiescent_RmsFwd [hRmsFwd : Cert.RmsFwd.Facts] : Prop :=
  ∀ (m : (ℓ : Loc Cert.RmsFwd.nD Cert.RmsFwd.τ Cert.RmsFwd.sig) → Buf (Elt Bits) ℓ) (g : Dev Cert.RmsFwd.nD → PrngReg), Pre_RmsFwd m →
    θ_run (Cert.RmsFwd.defs (F := Bits)) (onTc (τ := Cert.RmsFwd.τ) (Cert.RmsFwd.main (F := Bits))) ⟨m, fun _ => 0, g⟩ (fun r => (∀ c : Dev Cert.RmsFwd.nD,
      r.2.mem ((c.tc : Thread Cert.RmsFwd.nD Cert.RmsFwd.τ).loc Cert.RmsFwd.main_arg0) = m ((c.tc : Thread Cert.RmsFwd.nD Cert.RmsFwd.τ).loc Cert.RmsFwd.main_arg0)
      ∧ r.2.mem ((c.tc : Thread Cert.RmsFwd.nD Cert.RmsFwd.τ).loc Cert.RmsFwd.main_arg1) = m ((c.tc : Thread Cert.RmsFwd.nD Cert.RmsFwd.τ).loc Cert.RmsFwd.main_arg1))
      ∧ r.2.sem = fun _ => 0)

def quiescent_RmsFwdIdeal [hRmsFwdIdeal : Cert.RmsFwdIdeal.Facts] : Prop :=
  ∀ (m : (ℓ : Loc Cert.RmsFwdIdeal.nD Cert.RmsFwdIdeal.τ Cert.RmsFwdIdeal.sig) → Buf (Elt Ideal) ℓ) (g : Dev Cert.RmsFwdIdeal.nD → PrngReg), Pre_RmsFwdIdeal m →
    θ_run (Cert.RmsFwdIdeal.defs (F := Ideal)) (onTc (τ := Cert.RmsFwdIdeal.τ) (Cert.RmsFwdIdeal.main (F := Ideal))) ⟨m, fun _ => 0, g⟩ (fun r => (∀ c : Dev Cert.RmsFwdIdeal.nD,
      r.2.mem ((c.tc : Thread Cert.RmsFwdIdeal.nD Cert.RmsFwdIdeal.τ).loc Cert.RmsFwdIdeal.main_arg0) = m ((c.tc : Thread Cert.RmsFwdIdeal.nD Cert.RmsFwdIdeal.τ).loc Cert.RmsFwdIdeal.main_arg0)
      ∧ r.2.mem ((c.tc : Thread Cert.RmsFwdIdeal.nD Cert.RmsFwdIdeal.τ).loc Cert.RmsFwdIdeal.main_arg1) = m ((c.tc : Thread Cert.RmsFwdIdeal.nD Cert.RmsFwdIdeal.τ).loc Cert.RmsFwdIdeal.main_arg1))
      ∧ r.2.sem = fun _ => 0)

def quiescent_RmsFwdRefIdeal [hRmsFwdRefIdeal : Cert.RmsFwdRefIdeal.Facts] : Prop :=
  ∀ (m : (ℓ : Loc Cert.RmsFwdRefIdeal.nD Cert.RmsFwdRefIdeal.τ Cert.RmsFwdRefIdeal.sig) → Buf (Elt Ideal) ℓ) (g : Dev Cert.RmsFwdRefIdeal.nD → PrngReg), Pre_RmsFwdRefIdeal m →
    θ_run (Cert.RmsFwdRefIdeal.defs (F := Ideal)) (onTc (τ := Cert.RmsFwdRefIdeal.τ) (Cert.RmsFwdRefIdeal.main (F := Ideal))) ⟨m, fun _ => 0, g⟩ (fun r => (∀ c : Dev Cert.RmsFwdRefIdeal.nD,
      r.2.mem ((c.tc : Thread Cert.RmsFwdRefIdeal.nD Cert.RmsFwdRefIdeal.τ).loc Cert.RmsFwdRefIdeal.main_arg0) = m ((c.tc : Thread Cert.RmsFwdRefIdeal.nD Cert.RmsFwdRefIdeal.τ).loc Cert.RmsFwdRefIdeal.main_arg0)
      ∧ r.2.mem ((c.tc : Thread Cert.RmsFwdRefIdeal.nD Cert.RmsFwdRefIdeal.τ).loc Cert.RmsFwdRefIdeal.main_arg1) = m ((c.tc : Thread Cert.RmsFwdRefIdeal.nD Cert.RmsFwdRefIdeal.τ).loc Cert.RmsFwdRefIdeal.main_arg1))
      ∧ r.2.sem = fun _ => 0)

def preserves_Kernel_KernelIdeal : Prop :=
  True

def preserves_FfnUpDx_FfnUpDxIdeal : Prop :=
  True

def algebraic_FfnUpDxIdeal_FfnUpDxRefIdeal [hFfnUpDxIdeal : Cert.FfnUpDxIdeal.Facts] [hFfnUpDxRefIdeal : Cert.FfnUpDxRefIdeal.Facts] : Prop :=
  ∀ (m : (ℓ : Loc Cert.FfnUpDxIdeal.nD Cert.FfnUpDxIdeal.τ Cert.FfnUpDxIdeal.sig) → Buf (Elt Ideal) ℓ) (g : Dev Cert.FfnUpDxIdeal.nD → PrngReg)
    (m' : (ℓ : Loc Cert.FfnUpDxRefIdeal.nD Cert.FfnUpDxRefIdeal.τ Cert.FfnUpDxRefIdeal.sig) → Buf (Elt Ideal) ℓ) (g' : Dev Cert.FfnUpDxRefIdeal.nD → PrngReg), Pre_FfnUpDxIdeal m →
    (∀ c : Dev Cert.FfnUpDxIdeal.nD,
      m' ((c.tc : Thread Cert.FfnUpDxRefIdeal.nD Cert.FfnUpDxRefIdeal.τ).loc Cert.FfnUpDxRefIdeal.main_arg0) = m ((c.tc : Thread Cert.FfnUpDxIdeal.nD Cert.FfnUpDxIdeal.τ).loc Cert.FfnUpDxIdeal.main_arg0)
      ∧ m' ((c.tc : Thread Cert.FfnUpDxRefIdeal.nD Cert.FfnUpDxRefIdeal.τ).loc Cert.FfnUpDxRefIdeal.main_arg1) = m ((c.tc : Thread Cert.FfnUpDxIdeal.nD Cert.FfnUpDxIdeal.τ).loc Cert.FfnUpDxIdeal.main_arg1)) →
    ∃ (v0 : (c : Dev Cert.FfnUpDxIdeal.nD) → Buf (Elt Ideal) ((c.tc : Thread Cert.FfnUpDxIdeal.nD Cert.FfnUpDxIdeal.τ).loc Cert.FfnUpDxIdeal.main_v0)),
      θ_run (Cert.FfnUpDxIdeal.defs (F := Ideal)) (onTc (τ := Cert.FfnUpDxIdeal.τ) (Cert.FfnUpDxIdeal.main (F := Ideal))) ⟨m, fun _ => 0, g⟩ (fun r => ∀ c : Dev Cert.FfnUpDxIdeal.nD,
          r.2.mem ((c.tc : Thread Cert.FfnUpDxIdeal.nD Cert.FfnUpDxIdeal.τ).loc Cert.FfnUpDxIdeal.main_v0) = v0 c
          ∧ r.2.mem ((c.tc : Thread Cert.FfnUpDxIdeal.nD Cert.FfnUpDxIdeal.τ).loc Cert.FfnUpDxIdeal.main_arg0) = m ((c.tc : Thread Cert.FfnUpDxIdeal.nD Cert.FfnUpDxIdeal.τ).loc Cert.FfnUpDxIdeal.main_arg0)
          ∧ r.2.mem ((c.tc : Thread Cert.FfnUpDxIdeal.nD Cert.FfnUpDxIdeal.τ).loc Cert.FfnUpDxIdeal.main_arg1) = m ((c.tc : Thread Cert.FfnUpDxIdeal.nD Cert.FfnUpDxIdeal.τ).loc Cert.FfnUpDxIdeal.main_arg1))
      ∧ θ_run (Cert.FfnUpDxRefIdeal.defs (F := Ideal)) (onTc (τ := Cert.FfnUpDxRefIdeal.τ) (Cert.FfnUpDxRefIdeal.main (F := Ideal))) ⟨m', fun _ => 0, g'⟩ (fun r => ∀ c : Dev Cert.FfnUpDxRefIdeal.nD,
          r.2.mem ((c.tc : Thread Cert.FfnUpDxRefIdeal.nD Cert.FfnUpDxRefIdeal.τ).loc Cert.FfnUpDxRefIdeal.main_v8) = v0 c
          ∧ r.2.mem ((c.tc : Thread Cert.FfnUpDxRefIdeal.nD Cert.FfnUpDxRefIdeal.τ).loc Cert.FfnUpDxRefIdeal.main_arg0) = m' ((c.tc : Thread Cert.FfnUpDxRefIdeal.nD Cert.FfnUpDxRefIdeal.τ).loc Cert.FfnUpDxRefIdeal.main_arg0)
          ∧ r.2.mem ((c.tc : Thread Cert.FfnUpDxRefIdeal.nD Cert.FfnUpDxRefIdeal.τ).loc Cert.FfnUpDxRefIdeal.main_arg1) = m' ((c.tc : Thread Cert.FfnUpDxRefIdeal.nD Cert.FfnUpDxRefIdeal.τ).loc Cert.FfnUpDxRefIdeal.main_arg1))

def preserves_FfnUpDw_FfnUpDwIdeal : Prop :=
  True

def algebraic_FfnUpDwIdeal_FfnUpDwRefIdeal [hFfnUpDwIdeal : Cert.FfnUpDwIdeal.Facts] [hFfnUpDwRefIdeal : Cert.FfnUpDwRefIdeal.Facts] : Prop :=
  ∀ (m : (ℓ : Loc Cert.FfnUpDwIdeal.nD Cert.FfnUpDwIdeal.τ Cert.FfnUpDwIdeal.sig) → Buf (Elt Ideal) ℓ) (g : Dev Cert.FfnUpDwIdeal.nD → PrngReg)
    (m' : (ℓ : Loc Cert.FfnUpDwRefIdeal.nD Cert.FfnUpDwRefIdeal.τ Cert.FfnUpDwRefIdeal.sig) → Buf (Elt Ideal) ℓ) (g' : Dev Cert.FfnUpDwRefIdeal.nD → PrngReg), Pre_FfnUpDwIdeal m →
    (∀ c : Dev Cert.FfnUpDwIdeal.nD,
      m' ((c.tc : Thread Cert.FfnUpDwRefIdeal.nD Cert.FfnUpDwRefIdeal.τ).loc Cert.FfnUpDwRefIdeal.main_arg0) = m ((c.tc : Thread Cert.FfnUpDwIdeal.nD Cert.FfnUpDwIdeal.τ).loc Cert.FfnUpDwIdeal.main_arg0)
      ∧ m' ((c.tc : Thread Cert.FfnUpDwRefIdeal.nD Cert.FfnUpDwRefIdeal.τ).loc Cert.FfnUpDwRefIdeal.main_arg1) = m ((c.tc : Thread Cert.FfnUpDwIdeal.nD Cert.FfnUpDwIdeal.τ).loc Cert.FfnUpDwIdeal.main_arg1)) →
    ∃ (v0 : (c : Dev Cert.FfnUpDwIdeal.nD) → Buf (Elt Ideal) ((c.tc : Thread Cert.FfnUpDwIdeal.nD Cert.FfnUpDwIdeal.τ).loc Cert.FfnUpDwIdeal.main_v0)),
      θ_run (Cert.FfnUpDwIdeal.defs (F := Ideal)) (onTc (τ := Cert.FfnUpDwIdeal.τ) (Cert.FfnUpDwIdeal.main (F := Ideal))) ⟨m, fun _ => 0, g⟩ (fun r => ∀ c : Dev Cert.FfnUpDwIdeal.nD,
          r.2.mem ((c.tc : Thread Cert.FfnUpDwIdeal.nD Cert.FfnUpDwIdeal.τ).loc Cert.FfnUpDwIdeal.main_v0) = v0 c
          ∧ r.2.mem ((c.tc : Thread Cert.FfnUpDwIdeal.nD Cert.FfnUpDwIdeal.τ).loc Cert.FfnUpDwIdeal.main_arg0) = m ((c.tc : Thread Cert.FfnUpDwIdeal.nD Cert.FfnUpDwIdeal.τ).loc Cert.FfnUpDwIdeal.main_arg0)
          ∧ r.2.mem ((c.tc : Thread Cert.FfnUpDwIdeal.nD Cert.FfnUpDwIdeal.τ).loc Cert.FfnUpDwIdeal.main_arg1) = m ((c.tc : Thread Cert.FfnUpDwIdeal.nD Cert.FfnUpDwIdeal.τ).loc Cert.FfnUpDwIdeal.main_arg1))
      ∧ θ_run (Cert.FfnUpDwRefIdeal.defs (F := Ideal)) (onTc (τ := Cert.FfnUpDwRefIdeal.τ) (Cert.FfnUpDwRefIdeal.main (F := Ideal))) ⟨m', fun _ => 0, g'⟩ (fun r => ∀ c : Dev Cert.FfnUpDwRefIdeal.nD,
          r.2.mem ((c.tc : Thread Cert.FfnUpDwRefIdeal.nD Cert.FfnUpDwRefIdeal.τ).loc Cert.FfnUpDwRefIdeal.main_v12) = v0 c
          ∧ r.2.mem ((c.tc : Thread Cert.FfnUpDwRefIdeal.nD Cert.FfnUpDwRefIdeal.τ).loc Cert.FfnUpDwRefIdeal.main_arg0) = m' ((c.tc : Thread Cert.FfnUpDwRefIdeal.nD Cert.FfnUpDwRefIdeal.τ).loc Cert.FfnUpDwRefIdeal.main_arg0)
          ∧ r.2.mem ((c.tc : Thread Cert.FfnUpDwRefIdeal.nD Cert.FfnUpDwRefIdeal.τ).loc Cert.FfnUpDwRefIdeal.main_arg1) = m' ((c.tc : Thread Cert.FfnUpDwRefIdeal.nD Cert.FfnUpDwRefIdeal.τ).loc Cert.FfnUpDwRefIdeal.main_arg1))

def preserves_FfnDownDx_FfnDownDxIdeal : Prop :=
  True

def algebraic_FfnDownDxIdeal_FfnDownDxRefIdeal [hFfnDownDxIdeal : Cert.FfnDownDxIdeal.Facts] [hFfnDownDxRefIdeal : Cert.FfnDownDxRefIdeal.Facts] : Prop :=
  ∀ (m : (ℓ : Loc Cert.FfnDownDxIdeal.nD Cert.FfnDownDxIdeal.τ Cert.FfnDownDxIdeal.sig) → Buf (Elt Ideal) ℓ) (g : Dev Cert.FfnDownDxIdeal.nD → PrngReg)
    (m' : (ℓ : Loc Cert.FfnDownDxRefIdeal.nD Cert.FfnDownDxRefIdeal.τ Cert.FfnDownDxRefIdeal.sig) → Buf (Elt Ideal) ℓ) (g' : Dev Cert.FfnDownDxRefIdeal.nD → PrngReg), Pre_FfnDownDxIdeal m →
    (∀ c : Dev Cert.FfnDownDxIdeal.nD,
      m' ((c.tc : Thread Cert.FfnDownDxRefIdeal.nD Cert.FfnDownDxRefIdeal.τ).loc Cert.FfnDownDxRefIdeal.main_arg0) = m ((c.tc : Thread Cert.FfnDownDxIdeal.nD Cert.FfnDownDxIdeal.τ).loc Cert.FfnDownDxIdeal.main_arg0)
      ∧ m' ((c.tc : Thread Cert.FfnDownDxRefIdeal.nD Cert.FfnDownDxRefIdeal.τ).loc Cert.FfnDownDxRefIdeal.main_arg1) = m ((c.tc : Thread Cert.FfnDownDxIdeal.nD Cert.FfnDownDxIdeal.τ).loc Cert.FfnDownDxIdeal.main_arg1)) →
    ∃ (v0 : (c : Dev Cert.FfnDownDxIdeal.nD) → Buf (Elt Ideal) ((c.tc : Thread Cert.FfnDownDxIdeal.nD Cert.FfnDownDxIdeal.τ).loc Cert.FfnDownDxIdeal.main_v0)),
      θ_run (Cert.FfnDownDxIdeal.defs (F := Ideal)) (onTc (τ := Cert.FfnDownDxIdeal.τ) (Cert.FfnDownDxIdeal.main (F := Ideal))) ⟨m, fun _ => 0, g⟩ (fun r => ∀ c : Dev Cert.FfnDownDxIdeal.nD,
          r.2.mem ((c.tc : Thread Cert.FfnDownDxIdeal.nD Cert.FfnDownDxIdeal.τ).loc Cert.FfnDownDxIdeal.main_v0) = v0 c
          ∧ r.2.mem ((c.tc : Thread Cert.FfnDownDxIdeal.nD Cert.FfnDownDxIdeal.τ).loc Cert.FfnDownDxIdeal.main_arg0) = m ((c.tc : Thread Cert.FfnDownDxIdeal.nD Cert.FfnDownDxIdeal.τ).loc Cert.FfnDownDxIdeal.main_arg0)
          ∧ r.2.mem ((c.tc : Thread Cert.FfnDownDxIdeal.nD Cert.FfnDownDxIdeal.τ).loc Cert.FfnDownDxIdeal.main_arg1) = m ((c.tc : Thread Cert.FfnDownDxIdeal.nD Cert.FfnDownDxIdeal.τ).loc Cert.FfnDownDxIdeal.main_arg1))
      ∧ θ_run (Cert.FfnDownDxRefIdeal.defs (F := Ideal)) (onTc (τ := Cert.FfnDownDxRefIdeal.τ) (Cert.FfnDownDxRefIdeal.main (F := Ideal))) ⟨m', fun _ => 0, g'⟩ (fun r => ∀ c : Dev Cert.FfnDownDxRefIdeal.nD,
          r.2.mem ((c.tc : Thread Cert.FfnDownDxRefIdeal.nD Cert.FfnDownDxRefIdeal.τ).loc Cert.FfnDownDxRefIdeal.main_v4) = v0 c
          ∧ r.2.mem ((c.tc : Thread Cert.FfnDownDxRefIdeal.nD Cert.FfnDownDxRefIdeal.τ).loc Cert.FfnDownDxRefIdeal.main_arg0) = m' ((c.tc : Thread Cert.FfnDownDxRefIdeal.nD Cert.FfnDownDxRefIdeal.τ).loc Cert.FfnDownDxRefIdeal.main_arg0)
          ∧ r.2.mem ((c.tc : Thread Cert.FfnDownDxRefIdeal.nD Cert.FfnDownDxRefIdeal.τ).loc Cert.FfnDownDxRefIdeal.main_arg1) = m' ((c.tc : Thread Cert.FfnDownDxRefIdeal.nD Cert.FfnDownDxRefIdeal.τ).loc Cert.FfnDownDxRefIdeal.main_arg1))

def preserves_FfnDownDw_FfnDownDwIdeal : Prop :=
  True

def algebraic_FfnDownDwIdeal_FfnDownDwRefIdeal [hFfnDownDwIdeal : Cert.FfnDownDwIdeal.Facts] [hFfnDownDwRefIdeal : Cert.FfnDownDwRefIdeal.Facts] : Prop :=
  ∀ (m : (ℓ : Loc Cert.FfnDownDwIdeal.nD Cert.FfnDownDwIdeal.τ Cert.FfnDownDwIdeal.sig) → Buf (Elt Ideal) ℓ) (g : Dev Cert.FfnDownDwIdeal.nD → PrngReg)
    (m' : (ℓ : Loc Cert.FfnDownDwRefIdeal.nD Cert.FfnDownDwRefIdeal.τ Cert.FfnDownDwRefIdeal.sig) → Buf (Elt Ideal) ℓ) (g' : Dev Cert.FfnDownDwRefIdeal.nD → PrngReg), Pre_FfnDownDwIdeal m →
    (∀ c : Dev Cert.FfnDownDwIdeal.nD,
      m' ((c.tc : Thread Cert.FfnDownDwRefIdeal.nD Cert.FfnDownDwRefIdeal.τ).loc Cert.FfnDownDwRefIdeal.main_arg0) = m ((c.tc : Thread Cert.FfnDownDwIdeal.nD Cert.FfnDownDwIdeal.τ).loc Cert.FfnDownDwIdeal.main_arg0)
      ∧ m' ((c.tc : Thread Cert.FfnDownDwRefIdeal.nD Cert.FfnDownDwRefIdeal.τ).loc Cert.FfnDownDwRefIdeal.main_arg1) = m ((c.tc : Thread Cert.FfnDownDwIdeal.nD Cert.FfnDownDwIdeal.τ).loc Cert.FfnDownDwIdeal.main_arg1)) →
    ∃ (v0 : (c : Dev Cert.FfnDownDwIdeal.nD) → Buf (Elt Ideal) ((c.tc : Thread Cert.FfnDownDwIdeal.nD Cert.FfnDownDwIdeal.τ).loc Cert.FfnDownDwIdeal.main_v0)),
      θ_run (Cert.FfnDownDwIdeal.defs (F := Ideal)) (onTc (τ := Cert.FfnDownDwIdeal.τ) (Cert.FfnDownDwIdeal.main (F := Ideal))) ⟨m, fun _ => 0, g⟩ (fun r => ∀ c : Dev Cert.FfnDownDwIdeal.nD,
          r.2.mem ((c.tc : Thread Cert.FfnDownDwIdeal.nD Cert.FfnDownDwIdeal.τ).loc Cert.FfnDownDwIdeal.main_v0) = v0 c
          ∧ r.2.mem ((c.tc : Thread Cert.FfnDownDwIdeal.nD Cert.FfnDownDwIdeal.τ).loc Cert.FfnDownDwIdeal.main_arg0) = m ((c.tc : Thread Cert.FfnDownDwIdeal.nD Cert.FfnDownDwIdeal.τ).loc Cert.FfnDownDwIdeal.main_arg0)
          ∧ r.2.mem ((c.tc : Thread Cert.FfnDownDwIdeal.nD Cert.FfnDownDwIdeal.τ).loc Cert.FfnDownDwIdeal.main_arg1) = m ((c.tc : Thread Cert.FfnDownDwIdeal.nD Cert.FfnDownDwIdeal.τ).loc Cert.FfnDownDwIdeal.main_arg1))
      ∧ θ_run (Cert.FfnDownDwRefIdeal.defs (F := Ideal)) (onTc (τ := Cert.FfnDownDwRefIdeal.τ) (Cert.FfnDownDwRefIdeal.main (F := Ideal))) ⟨m', fun _ => 0, g'⟩ (fun r => ∀ c : Dev Cert.FfnDownDwRefIdeal.nD,
          r.2.mem ((c.tc : Thread Cert.FfnDownDwRefIdeal.nD Cert.FfnDownDwRefIdeal.τ).loc Cert.FfnDownDwRefIdeal.main_v6) = v0 c
          ∧ r.2.mem ((c.tc : Thread Cert.FfnDownDwRefIdeal.nD Cert.FfnDownDwRefIdeal.τ).loc Cert.FfnDownDwRefIdeal.main_arg0) = m' ((c.tc : Thread Cert.FfnDownDwRefIdeal.nD Cert.FfnDownDwRefIdeal.τ).loc Cert.FfnDownDwRefIdeal.main_arg0)
          ∧ r.2.mem ((c.tc : Thread Cert.FfnDownDwRefIdeal.nD Cert.FfnDownDwRefIdeal.τ).loc Cert.FfnDownDwRefIdeal.main_arg1) = m' ((c.tc : Thread Cert.FfnDownDwRefIdeal.nD Cert.FfnDownDwRefIdeal.τ).loc Cert.FfnDownDwRefIdeal.main_arg1))

def preserves_SsmInDx_SsmInDxIdeal : Prop :=
  True

def algebraic_SsmInDxIdeal_SsmInDxRefIdeal [hSsmInDxIdeal : Cert.SsmInDxIdeal.Facts] [hSsmInDxRefIdeal : Cert.SsmInDxRefIdeal.Facts] : Prop :=
  ∀ (m : (ℓ : Loc Cert.SsmInDxIdeal.nD Cert.SsmInDxIdeal.τ Cert.SsmInDxIdeal.sig) → Buf (Elt Ideal) ℓ) (g : Dev Cert.SsmInDxIdeal.nD → PrngReg)
    (m' : (ℓ : Loc Cert.SsmInDxRefIdeal.nD Cert.SsmInDxRefIdeal.τ Cert.SsmInDxRefIdeal.sig) → Buf (Elt Ideal) ℓ) (g' : Dev Cert.SsmInDxRefIdeal.nD → PrngReg), Pre_SsmInDxIdeal m →
    (∀ c : Dev Cert.SsmInDxIdeal.nD,
      m' ((c.tc : Thread Cert.SsmInDxRefIdeal.nD Cert.SsmInDxRefIdeal.τ).loc Cert.SsmInDxRefIdeal.main_arg0) = m ((c.tc : Thread Cert.SsmInDxIdeal.nD Cert.SsmInDxIdeal.τ).loc Cert.SsmInDxIdeal.main_arg0)
      ∧ m' ((c.tc : Thread Cert.SsmInDxRefIdeal.nD Cert.SsmInDxRefIdeal.τ).loc Cert.SsmInDxRefIdeal.main_arg1) = m ((c.tc : Thread Cert.SsmInDxIdeal.nD Cert.SsmInDxIdeal.τ).loc Cert.SsmInDxIdeal.main_arg1)) →
    ∃ (v0 : (c : Dev Cert.SsmInDxIdeal.nD) → Buf (Elt Ideal) ((c.tc : Thread Cert.SsmInDxIdeal.nD Cert.SsmInDxIdeal.τ).loc Cert.SsmInDxIdeal.main_v0)),
      θ_run (Cert.SsmInDxIdeal.defs (F := Ideal)) (onTc (τ := Cert.SsmInDxIdeal.τ) (Cert.SsmInDxIdeal.main (F := Ideal))) ⟨m, fun _ => 0, g⟩ (fun r => ∀ c : Dev Cert.SsmInDxIdeal.nD,
          r.2.mem ((c.tc : Thread Cert.SsmInDxIdeal.nD Cert.SsmInDxIdeal.τ).loc Cert.SsmInDxIdeal.main_v0) = v0 c
          ∧ r.2.mem ((c.tc : Thread Cert.SsmInDxIdeal.nD Cert.SsmInDxIdeal.τ).loc Cert.SsmInDxIdeal.main_arg0) = m ((c.tc : Thread Cert.SsmInDxIdeal.nD Cert.SsmInDxIdeal.τ).loc Cert.SsmInDxIdeal.main_arg0)
          ∧ r.2.mem ((c.tc : Thread Cert.SsmInDxIdeal.nD Cert.SsmInDxIdeal.τ).loc Cert.SsmInDxIdeal.main_arg1) = m ((c.tc : Thread Cert.SsmInDxIdeal.nD Cert.SsmInDxIdeal.τ).loc Cert.SsmInDxIdeal.main_arg1))
      ∧ θ_run (Cert.SsmInDxRefIdeal.defs (F := Ideal)) (onTc (τ := Cert.SsmInDxRefIdeal.τ) (Cert.SsmInDxRefIdeal.main (F := Ideal))) ⟨m', fun _ => 0, g'⟩ (fun r => ∀ c : Dev Cert.SsmInDxRefIdeal.nD,
          r.2.mem ((c.tc : Thread Cert.SsmInDxRefIdeal.nD Cert.SsmInDxRefIdeal.τ).loc Cert.SsmInDxRefIdeal.main_v6) = v0 c
          ∧ r.2.mem ((c.tc : Thread Cert.SsmInDxRefIdeal.nD Cert.SsmInDxRefIdeal.τ).loc Cert.SsmInDxRefIdeal.main_arg0) = m' ((c.tc : Thread Cert.SsmInDxRefIdeal.nD Cert.SsmInDxRefIdeal.τ).loc Cert.SsmInDxRefIdeal.main_arg0)
          ∧ r.2.mem ((c.tc : Thread Cert.SsmInDxRefIdeal.nD Cert.SsmInDxRefIdeal.τ).loc Cert.SsmInDxRefIdeal.main_arg1) = m' ((c.tc : Thread Cert.SsmInDxRefIdeal.nD Cert.SsmInDxRefIdeal.τ).loc Cert.SsmInDxRefIdeal.main_arg1))

def preserves_SsmInDw_SsmInDwIdeal : Prop :=
  True

def algebraic_SsmInDwIdeal_SsmInDwRefIdeal [hSsmInDwIdeal : Cert.SsmInDwIdeal.Facts] [hSsmInDwRefIdeal : Cert.SsmInDwRefIdeal.Facts] : Prop :=
  ∀ (m : (ℓ : Loc Cert.SsmInDwIdeal.nD Cert.SsmInDwIdeal.τ Cert.SsmInDwIdeal.sig) → Buf (Elt Ideal) ℓ) (g : Dev Cert.SsmInDwIdeal.nD → PrngReg)
    (m' : (ℓ : Loc Cert.SsmInDwRefIdeal.nD Cert.SsmInDwRefIdeal.τ Cert.SsmInDwRefIdeal.sig) → Buf (Elt Ideal) ℓ) (g' : Dev Cert.SsmInDwRefIdeal.nD → PrngReg), Pre_SsmInDwIdeal m →
    (∀ c : Dev Cert.SsmInDwIdeal.nD,
      m' ((c.tc : Thread Cert.SsmInDwRefIdeal.nD Cert.SsmInDwRefIdeal.τ).loc Cert.SsmInDwRefIdeal.main_arg0) = m ((c.tc : Thread Cert.SsmInDwIdeal.nD Cert.SsmInDwIdeal.τ).loc Cert.SsmInDwIdeal.main_arg0)
      ∧ m' ((c.tc : Thread Cert.SsmInDwRefIdeal.nD Cert.SsmInDwRefIdeal.τ).loc Cert.SsmInDwRefIdeal.main_arg1) = m ((c.tc : Thread Cert.SsmInDwIdeal.nD Cert.SsmInDwIdeal.τ).loc Cert.SsmInDwIdeal.main_arg1)) →
    ∃ (v0 : (c : Dev Cert.SsmInDwIdeal.nD) → Buf (Elt Ideal) ((c.tc : Thread Cert.SsmInDwIdeal.nD Cert.SsmInDwIdeal.τ).loc Cert.SsmInDwIdeal.main_v0)),
      θ_run (Cert.SsmInDwIdeal.defs (F := Ideal)) (onTc (τ := Cert.SsmInDwIdeal.τ) (Cert.SsmInDwIdeal.main (F := Ideal))) ⟨m, fun _ => 0, g⟩ (fun r => ∀ c : Dev Cert.SsmInDwIdeal.nD,
          r.2.mem ((c.tc : Thread Cert.SsmInDwIdeal.nD Cert.SsmInDwIdeal.τ).loc Cert.SsmInDwIdeal.main_v0) = v0 c
          ∧ r.2.mem ((c.tc : Thread Cert.SsmInDwIdeal.nD Cert.SsmInDwIdeal.τ).loc Cert.SsmInDwIdeal.main_arg0) = m ((c.tc : Thread Cert.SsmInDwIdeal.nD Cert.SsmInDwIdeal.τ).loc Cert.SsmInDwIdeal.main_arg0)
          ∧ r.2.mem ((c.tc : Thread Cert.SsmInDwIdeal.nD Cert.SsmInDwIdeal.τ).loc Cert.SsmInDwIdeal.main_arg1) = m ((c.tc : Thread Cert.SsmInDwIdeal.nD Cert.SsmInDwIdeal.τ).loc Cert.SsmInDwIdeal.main_arg1))
      ∧ θ_run (Cert.SsmInDwRefIdeal.defs (F := Ideal)) (onTc (τ := Cert.SsmInDwRefIdeal.τ) (Cert.SsmInDwRefIdeal.main (F := Ideal))) ⟨m', fun _ => 0, g'⟩ (fun r => ∀ c : Dev Cert.SsmInDwRefIdeal.nD,
          r.2.mem ((c.tc : Thread Cert.SsmInDwRefIdeal.nD Cert.SsmInDwRefIdeal.τ).loc Cert.SsmInDwRefIdeal.main_v10) = v0 c
          ∧ r.2.mem ((c.tc : Thread Cert.SsmInDwRefIdeal.nD Cert.SsmInDwRefIdeal.τ).loc Cert.SsmInDwRefIdeal.main_arg0) = m' ((c.tc : Thread Cert.SsmInDwRefIdeal.nD Cert.SsmInDwRefIdeal.τ).loc Cert.SsmInDwRefIdeal.main_arg0)
          ∧ r.2.mem ((c.tc : Thread Cert.SsmInDwRefIdeal.nD Cert.SsmInDwRefIdeal.τ).loc Cert.SsmInDwRefIdeal.main_arg1) = m' ((c.tc : Thread Cert.SsmInDwRefIdeal.nD Cert.SsmInDwRefIdeal.τ).loc Cert.SsmInDwRefIdeal.main_arg1))

def preserves_SsmOutDx_SsmOutDxIdeal : Prop :=
  True

def algebraic_SsmOutDxIdeal_SsmOutDxRefIdeal [hSsmOutDxIdeal : Cert.SsmOutDxIdeal.Facts] [hSsmOutDxRefIdeal : Cert.SsmOutDxRefIdeal.Facts] : Prop :=
  ∀ (m : (ℓ : Loc Cert.SsmOutDxIdeal.nD Cert.SsmOutDxIdeal.τ Cert.SsmOutDxIdeal.sig) → Buf (Elt Ideal) ℓ) (g : Dev Cert.SsmOutDxIdeal.nD → PrngReg)
    (m' : (ℓ : Loc Cert.SsmOutDxRefIdeal.nD Cert.SsmOutDxRefIdeal.τ Cert.SsmOutDxRefIdeal.sig) → Buf (Elt Ideal) ℓ) (g' : Dev Cert.SsmOutDxRefIdeal.nD → PrngReg), Pre_SsmOutDxIdeal m →
    (∀ c : Dev Cert.SsmOutDxIdeal.nD,
      m' ((c.tc : Thread Cert.SsmOutDxRefIdeal.nD Cert.SsmOutDxRefIdeal.τ).loc Cert.SsmOutDxRefIdeal.main_arg0) = m ((c.tc : Thread Cert.SsmOutDxIdeal.nD Cert.SsmOutDxIdeal.τ).loc Cert.SsmOutDxIdeal.main_arg0)
      ∧ m' ((c.tc : Thread Cert.SsmOutDxRefIdeal.nD Cert.SsmOutDxRefIdeal.τ).loc Cert.SsmOutDxRefIdeal.main_arg1) = m ((c.tc : Thread Cert.SsmOutDxIdeal.nD Cert.SsmOutDxIdeal.τ).loc Cert.SsmOutDxIdeal.main_arg1)) →
    ∃ (v0 : (c : Dev Cert.SsmOutDxIdeal.nD) → Buf (Elt Ideal) ((c.tc : Thread Cert.SsmOutDxIdeal.nD Cert.SsmOutDxIdeal.τ).loc Cert.SsmOutDxIdeal.main_v0)),
      θ_run (Cert.SsmOutDxIdeal.defs (F := Ideal)) (onTc (τ := Cert.SsmOutDxIdeal.τ) (Cert.SsmOutDxIdeal.main (F := Ideal))) ⟨m, fun _ => 0, g⟩ (fun r => ∀ c : Dev Cert.SsmOutDxIdeal.nD,
          r.2.mem ((c.tc : Thread Cert.SsmOutDxIdeal.nD Cert.SsmOutDxIdeal.τ).loc Cert.SsmOutDxIdeal.main_v0) = v0 c
          ∧ r.2.mem ((c.tc : Thread Cert.SsmOutDxIdeal.nD Cert.SsmOutDxIdeal.τ).loc Cert.SsmOutDxIdeal.main_arg0) = m ((c.tc : Thread Cert.SsmOutDxIdeal.nD Cert.SsmOutDxIdeal.τ).loc Cert.SsmOutDxIdeal.main_arg0)
          ∧ r.2.mem ((c.tc : Thread Cert.SsmOutDxIdeal.nD Cert.SsmOutDxIdeal.τ).loc Cert.SsmOutDxIdeal.main_arg1) = m ((c.tc : Thread Cert.SsmOutDxIdeal.nD Cert.SsmOutDxIdeal.τ).loc Cert.SsmOutDxIdeal.main_arg1))
      ∧ θ_run (Cert.SsmOutDxRefIdeal.defs (F := Ideal)) (onTc (τ := Cert.SsmOutDxRefIdeal.τ) (Cert.SsmOutDxRefIdeal.main (F := Ideal))) ⟨m', fun _ => 0, g'⟩ (fun r => ∀ c : Dev Cert.SsmOutDxRefIdeal.nD,
          r.2.mem ((c.tc : Thread Cert.SsmOutDxRefIdeal.nD Cert.SsmOutDxRefIdeal.τ).loc Cert.SsmOutDxRefIdeal.main_v4) = v0 c
          ∧ r.2.mem ((c.tc : Thread Cert.SsmOutDxRefIdeal.nD Cert.SsmOutDxRefIdeal.τ).loc Cert.SsmOutDxRefIdeal.main_arg0) = m' ((c.tc : Thread Cert.SsmOutDxRefIdeal.nD Cert.SsmOutDxRefIdeal.τ).loc Cert.SsmOutDxRefIdeal.main_arg0)
          ∧ r.2.mem ((c.tc : Thread Cert.SsmOutDxRefIdeal.nD Cert.SsmOutDxRefIdeal.τ).loc Cert.SsmOutDxRefIdeal.main_arg1) = m' ((c.tc : Thread Cert.SsmOutDxRefIdeal.nD Cert.SsmOutDxRefIdeal.τ).loc Cert.SsmOutDxRefIdeal.main_arg1))

def preserves_SsmOutDw_SsmOutDwIdeal : Prop :=
  True

def algebraic_SsmOutDwIdeal_SsmOutDwRefIdeal [hSsmOutDwIdeal : Cert.SsmOutDwIdeal.Facts] [hSsmOutDwRefIdeal : Cert.SsmOutDwRefIdeal.Facts] : Prop :=
  ∀ (m : (ℓ : Loc Cert.SsmOutDwIdeal.nD Cert.SsmOutDwIdeal.τ Cert.SsmOutDwIdeal.sig) → Buf (Elt Ideal) ℓ) (g : Dev Cert.SsmOutDwIdeal.nD → PrngReg)
    (m' : (ℓ : Loc Cert.SsmOutDwRefIdeal.nD Cert.SsmOutDwRefIdeal.τ Cert.SsmOutDwRefIdeal.sig) → Buf (Elt Ideal) ℓ) (g' : Dev Cert.SsmOutDwRefIdeal.nD → PrngReg), Pre_SsmOutDwIdeal m →
    (∀ c : Dev Cert.SsmOutDwIdeal.nD,
      m' ((c.tc : Thread Cert.SsmOutDwRefIdeal.nD Cert.SsmOutDwRefIdeal.τ).loc Cert.SsmOutDwRefIdeal.main_arg0) = m ((c.tc : Thread Cert.SsmOutDwIdeal.nD Cert.SsmOutDwIdeal.τ).loc Cert.SsmOutDwIdeal.main_arg0)
      ∧ m' ((c.tc : Thread Cert.SsmOutDwRefIdeal.nD Cert.SsmOutDwRefIdeal.τ).loc Cert.SsmOutDwRefIdeal.main_arg1) = m ((c.tc : Thread Cert.SsmOutDwIdeal.nD Cert.SsmOutDwIdeal.τ).loc Cert.SsmOutDwIdeal.main_arg1)) →
    ∃ (v0 : (c : Dev Cert.SsmOutDwIdeal.nD) → Buf (Elt Ideal) ((c.tc : Thread Cert.SsmOutDwIdeal.nD Cert.SsmOutDwIdeal.τ).loc Cert.SsmOutDwIdeal.main_v0)),
      θ_run (Cert.SsmOutDwIdeal.defs (F := Ideal)) (onTc (τ := Cert.SsmOutDwIdeal.τ) (Cert.SsmOutDwIdeal.main (F := Ideal))) ⟨m, fun _ => 0, g⟩ (fun r => ∀ c : Dev Cert.SsmOutDwIdeal.nD,
          r.2.mem ((c.tc : Thread Cert.SsmOutDwIdeal.nD Cert.SsmOutDwIdeal.τ).loc Cert.SsmOutDwIdeal.main_v0) = v0 c
          ∧ r.2.mem ((c.tc : Thread Cert.SsmOutDwIdeal.nD Cert.SsmOutDwIdeal.τ).loc Cert.SsmOutDwIdeal.main_arg0) = m ((c.tc : Thread Cert.SsmOutDwIdeal.nD Cert.SsmOutDwIdeal.τ).loc Cert.SsmOutDwIdeal.main_arg0)
          ∧ r.2.mem ((c.tc : Thread Cert.SsmOutDwIdeal.nD Cert.SsmOutDwIdeal.τ).loc Cert.SsmOutDwIdeal.main_arg1) = m ((c.tc : Thread Cert.SsmOutDwIdeal.nD Cert.SsmOutDwIdeal.τ).loc Cert.SsmOutDwIdeal.main_arg1))
      ∧ θ_run (Cert.SsmOutDwRefIdeal.defs (F := Ideal)) (onTc (τ := Cert.SsmOutDwRefIdeal.τ) (Cert.SsmOutDwRefIdeal.main (F := Ideal))) ⟨m', fun _ => 0, g'⟩ (fun r => ∀ c : Dev Cert.SsmOutDwRefIdeal.nD,
          r.2.mem ((c.tc : Thread Cert.SsmOutDwRefIdeal.nD Cert.SsmOutDwRefIdeal.τ).loc Cert.SsmOutDwRefIdeal.main_v6) = v0 c
          ∧ r.2.mem ((c.tc : Thread Cert.SsmOutDwRefIdeal.nD Cert.SsmOutDwRefIdeal.τ).loc Cert.SsmOutDwRefIdeal.main_arg0) = m' ((c.tc : Thread Cert.SsmOutDwRefIdeal.nD Cert.SsmOutDwRefIdeal.τ).loc Cert.SsmOutDwRefIdeal.main_arg0)
          ∧ r.2.mem ((c.tc : Thread Cert.SsmOutDwRefIdeal.nD Cert.SsmOutDwRefIdeal.τ).loc Cert.SsmOutDwRefIdeal.main_arg1) = m' ((c.tc : Thread Cert.SsmOutDwRefIdeal.nD Cert.SsmOutDwRefIdeal.τ).loc Cert.SsmOutDwRefIdeal.main_arg1))

def preserves_CvInDx_CvInDxIdeal : Prop :=
  True

def algebraic_CvInDxIdeal_CvInDxRefIdeal [hCvInDxIdeal : Cert.CvInDxIdeal.Facts] [hCvInDxRefIdeal : Cert.CvInDxRefIdeal.Facts] : Prop :=
  ∀ (m : (ℓ : Loc Cert.CvInDxIdeal.nD Cert.CvInDxIdeal.τ Cert.CvInDxIdeal.sig) → Buf (Elt Ideal) ℓ) (g : Dev Cert.CvInDxIdeal.nD → PrngReg)
    (m' : (ℓ : Loc Cert.CvInDxRefIdeal.nD Cert.CvInDxRefIdeal.τ Cert.CvInDxRefIdeal.sig) → Buf (Elt Ideal) ℓ) (g' : Dev Cert.CvInDxRefIdeal.nD → PrngReg), Pre_CvInDxIdeal m →
    (∀ c : Dev Cert.CvInDxIdeal.nD,
      m' ((c.tc : Thread Cert.CvInDxRefIdeal.nD Cert.CvInDxRefIdeal.τ).loc Cert.CvInDxRefIdeal.main_arg0) = m ((c.tc : Thread Cert.CvInDxIdeal.nD Cert.CvInDxIdeal.τ).loc Cert.CvInDxIdeal.main_arg0)
      ∧ m' ((c.tc : Thread Cert.CvInDxRefIdeal.nD Cert.CvInDxRefIdeal.τ).loc Cert.CvInDxRefIdeal.main_arg1) = m ((c.tc : Thread Cert.CvInDxIdeal.nD Cert.CvInDxIdeal.τ).loc Cert.CvInDxIdeal.main_arg1)) →
    ∃ (v0 : (c : Dev Cert.CvInDxIdeal.nD) → Buf (Elt Ideal) ((c.tc : Thread Cert.CvInDxIdeal.nD Cert.CvInDxIdeal.τ).loc Cert.CvInDxIdeal.main_v0)),
      θ_run (Cert.CvInDxIdeal.defs (F := Ideal)) (onTc (τ := Cert.CvInDxIdeal.τ) (Cert.CvInDxIdeal.main (F := Ideal))) ⟨m, fun _ => 0, g⟩ (fun r => ∀ c : Dev Cert.CvInDxIdeal.nD,
          r.2.mem ((c.tc : Thread Cert.CvInDxIdeal.nD Cert.CvInDxIdeal.τ).loc Cert.CvInDxIdeal.main_v0) = v0 c
          ∧ r.2.mem ((c.tc : Thread Cert.CvInDxIdeal.nD Cert.CvInDxIdeal.τ).loc Cert.CvInDxIdeal.main_arg0) = m ((c.tc : Thread Cert.CvInDxIdeal.nD Cert.CvInDxIdeal.τ).loc Cert.CvInDxIdeal.main_arg0)
          ∧ r.2.mem ((c.tc : Thread Cert.CvInDxIdeal.nD Cert.CvInDxIdeal.τ).loc Cert.CvInDxIdeal.main_arg1) = m ((c.tc : Thread Cert.CvInDxIdeal.nD Cert.CvInDxIdeal.τ).loc Cert.CvInDxIdeal.main_arg1))
      ∧ θ_run (Cert.CvInDxRefIdeal.defs (F := Ideal)) (onTc (τ := Cert.CvInDxRefIdeal.τ) (Cert.CvInDxRefIdeal.main (F := Ideal))) ⟨m', fun _ => 0, g'⟩ (fun r => ∀ c : Dev Cert.CvInDxRefIdeal.nD,
          r.2.mem ((c.tc : Thread Cert.CvInDxRefIdeal.nD Cert.CvInDxRefIdeal.τ).loc Cert.CvInDxRefIdeal.main_v6) = v0 c
          ∧ r.2.mem ((c.tc : Thread Cert.CvInDxRefIdeal.nD Cert.CvInDxRefIdeal.τ).loc Cert.CvInDxRefIdeal.main_arg0) = m' ((c.tc : Thread Cert.CvInDxRefIdeal.nD Cert.CvInDxRefIdeal.τ).loc Cert.CvInDxRefIdeal.main_arg0)
          ∧ r.2.mem ((c.tc : Thread Cert.CvInDxRefIdeal.nD Cert.CvInDxRefIdeal.τ).loc Cert.CvInDxRefIdeal.main_arg1) = m' ((c.tc : Thread Cert.CvInDxRefIdeal.nD Cert.CvInDxRefIdeal.τ).loc Cert.CvInDxRefIdeal.main_arg1))

def preserves_CvInDw_CvInDwIdeal : Prop :=
  True

def algebraic_CvInDwIdeal_CvInDwRefIdeal [hCvInDwIdeal : Cert.CvInDwIdeal.Facts] [hCvInDwRefIdeal : Cert.CvInDwRefIdeal.Facts] : Prop :=
  ∀ (m : (ℓ : Loc Cert.CvInDwIdeal.nD Cert.CvInDwIdeal.τ Cert.CvInDwIdeal.sig) → Buf (Elt Ideal) ℓ) (g : Dev Cert.CvInDwIdeal.nD → PrngReg)
    (m' : (ℓ : Loc Cert.CvInDwRefIdeal.nD Cert.CvInDwRefIdeal.τ Cert.CvInDwRefIdeal.sig) → Buf (Elt Ideal) ℓ) (g' : Dev Cert.CvInDwRefIdeal.nD → PrngReg), Pre_CvInDwIdeal m →
    (∀ c : Dev Cert.CvInDwIdeal.nD,
      m' ((c.tc : Thread Cert.CvInDwRefIdeal.nD Cert.CvInDwRefIdeal.τ).loc Cert.CvInDwRefIdeal.main_arg0) = m ((c.tc : Thread Cert.CvInDwIdeal.nD Cert.CvInDwIdeal.τ).loc Cert.CvInDwIdeal.main_arg0)
      ∧ m' ((c.tc : Thread Cert.CvInDwRefIdeal.nD Cert.CvInDwRefIdeal.τ).loc Cert.CvInDwRefIdeal.main_arg1) = m ((c.tc : Thread Cert.CvInDwIdeal.nD Cert.CvInDwIdeal.τ).loc Cert.CvInDwIdeal.main_arg1)) →
    ∃ (v0 : (c : Dev Cert.CvInDwIdeal.nD) → Buf (Elt Ideal) ((c.tc : Thread Cert.CvInDwIdeal.nD Cert.CvInDwIdeal.τ).loc Cert.CvInDwIdeal.main_v0)),
      θ_run (Cert.CvInDwIdeal.defs (F := Ideal)) (onTc (τ := Cert.CvInDwIdeal.τ) (Cert.CvInDwIdeal.main (F := Ideal))) ⟨m, fun _ => 0, g⟩ (fun r => ∀ c : Dev Cert.CvInDwIdeal.nD,
          r.2.mem ((c.tc : Thread Cert.CvInDwIdeal.nD Cert.CvInDwIdeal.τ).loc Cert.CvInDwIdeal.main_v0) = v0 c
          ∧ r.2.mem ((c.tc : Thread Cert.CvInDwIdeal.nD Cert.CvInDwIdeal.τ).loc Cert.CvInDwIdeal.main_arg0) = m ((c.tc : Thread Cert.CvInDwIdeal.nD Cert.CvInDwIdeal.τ).loc Cert.CvInDwIdeal.main_arg0)
          ∧ r.2.mem ((c.tc : Thread Cert.CvInDwIdeal.nD Cert.CvInDwIdeal.τ).loc Cert.CvInDwIdeal.main_arg1) = m ((c.tc : Thread Cert.CvInDwIdeal.nD Cert.CvInDwIdeal.τ).loc Cert.CvInDwIdeal.main_arg1))
      ∧ θ_run (Cert.CvInDwRefIdeal.defs (F := Ideal)) (onTc (τ := Cert.CvInDwRefIdeal.τ) (Cert.CvInDwRefIdeal.main (F := Ideal))) ⟨m', fun _ => 0, g'⟩ (fun r => ∀ c : Dev Cert.CvInDwRefIdeal.nD,
          r.2.mem ((c.tc : Thread Cert.CvInDwRefIdeal.nD Cert.CvInDwRefIdeal.τ).loc Cert.CvInDwRefIdeal.main_v10) = v0 c
          ∧ r.2.mem ((c.tc : Thread Cert.CvInDwRefIdeal.nD Cert.CvInDwRefIdeal.τ).loc Cert.CvInDwRefIdeal.main_arg0) = m' ((c.tc : Thread Cert.CvInDwRefIdeal.nD Cert.CvInDwRefIdeal.τ).loc Cert.CvInDwRefIdeal.main_arg0)
          ∧ r.2.mem ((c.tc : Thread Cert.CvInDwRefIdeal.nD Cert.CvInDwRefIdeal.τ).loc Cert.CvInDwRefIdeal.main_arg1) = m' ((c.tc : Thread Cert.CvInDwRefIdeal.nD Cert.CvInDwRefIdeal.τ).loc Cert.CvInDwRefIdeal.main_arg1))

def preserves_CvOutDx_CvOutDxIdeal : Prop :=
  True

def algebraic_CvOutDxIdeal_CvOutDxRefIdeal [hCvOutDxIdeal : Cert.CvOutDxIdeal.Facts] [hCvOutDxRefIdeal : Cert.CvOutDxRefIdeal.Facts] : Prop :=
  ∀ (m : (ℓ : Loc Cert.CvOutDxIdeal.nD Cert.CvOutDxIdeal.τ Cert.CvOutDxIdeal.sig) → Buf (Elt Ideal) ℓ) (g : Dev Cert.CvOutDxIdeal.nD → PrngReg)
    (m' : (ℓ : Loc Cert.CvOutDxRefIdeal.nD Cert.CvOutDxRefIdeal.τ Cert.CvOutDxRefIdeal.sig) → Buf (Elt Ideal) ℓ) (g' : Dev Cert.CvOutDxRefIdeal.nD → PrngReg), Pre_CvOutDxIdeal m →
    (∀ c : Dev Cert.CvOutDxIdeal.nD,
      m' ((c.tc : Thread Cert.CvOutDxRefIdeal.nD Cert.CvOutDxRefIdeal.τ).loc Cert.CvOutDxRefIdeal.main_arg0) = m ((c.tc : Thread Cert.CvOutDxIdeal.nD Cert.CvOutDxIdeal.τ).loc Cert.CvOutDxIdeal.main_arg0)
      ∧ m' ((c.tc : Thread Cert.CvOutDxRefIdeal.nD Cert.CvOutDxRefIdeal.τ).loc Cert.CvOutDxRefIdeal.main_arg1) = m ((c.tc : Thread Cert.CvOutDxIdeal.nD Cert.CvOutDxIdeal.τ).loc Cert.CvOutDxIdeal.main_arg1)) →
    ∃ (v0 : (c : Dev Cert.CvOutDxIdeal.nD) → Buf (Elt Ideal) ((c.tc : Thread Cert.CvOutDxIdeal.nD Cert.CvOutDxIdeal.τ).loc Cert.CvOutDxIdeal.main_v0)),
      θ_run (Cert.CvOutDxIdeal.defs (F := Ideal)) (onTc (τ := Cert.CvOutDxIdeal.τ) (Cert.CvOutDxIdeal.main (F := Ideal))) ⟨m, fun _ => 0, g⟩ (fun r => ∀ c : Dev Cert.CvOutDxIdeal.nD,
          r.2.mem ((c.tc : Thread Cert.CvOutDxIdeal.nD Cert.CvOutDxIdeal.τ).loc Cert.CvOutDxIdeal.main_v0) = v0 c
          ∧ r.2.mem ((c.tc : Thread Cert.CvOutDxIdeal.nD Cert.CvOutDxIdeal.τ).loc Cert.CvOutDxIdeal.main_arg0) = m ((c.tc : Thread Cert.CvOutDxIdeal.nD Cert.CvOutDxIdeal.τ).loc Cert.CvOutDxIdeal.main_arg0)
          ∧ r.2.mem ((c.tc : Thread Cert.CvOutDxIdeal.nD Cert.CvOutDxIdeal.τ).loc Cert.CvOutDxIdeal.main_arg1) = m ((c.tc : Thread Cert.CvOutDxIdeal.nD Cert.CvOutDxIdeal.τ).loc Cert.CvOutDxIdeal.main_arg1))
      ∧ θ_run (Cert.CvOutDxRefIdeal.defs (F := Ideal)) (onTc (τ := Cert.CvOutDxRefIdeal.τ) (Cert.CvOutDxRefIdeal.main (F := Ideal))) ⟨m', fun _ => 0, g'⟩ (fun r => ∀ c : Dev Cert.CvOutDxRefIdeal.nD,
          r.2.mem ((c.tc : Thread Cert.CvOutDxRefIdeal.nD Cert.CvOutDxRefIdeal.τ).loc Cert.CvOutDxRefIdeal.main_v4) = v0 c
          ∧ r.2.mem ((c.tc : Thread Cert.CvOutDxRefIdeal.nD Cert.CvOutDxRefIdeal.τ).loc Cert.CvOutDxRefIdeal.main_arg0) = m' ((c.tc : Thread Cert.CvOutDxRefIdeal.nD Cert.CvOutDxRefIdeal.τ).loc Cert.CvOutDxRefIdeal.main_arg0)
          ∧ r.2.mem ((c.tc : Thread Cert.CvOutDxRefIdeal.nD Cert.CvOutDxRefIdeal.τ).loc Cert.CvOutDxRefIdeal.main_arg1) = m' ((c.tc : Thread Cert.CvOutDxRefIdeal.nD Cert.CvOutDxRefIdeal.τ).loc Cert.CvOutDxRefIdeal.main_arg1))

def preserves_CvOutDw_CvOutDwIdeal : Prop :=
  True

def algebraic_CvOutDwIdeal_CvOutDwRefIdeal [hCvOutDwIdeal : Cert.CvOutDwIdeal.Facts] [hCvOutDwRefIdeal : Cert.CvOutDwRefIdeal.Facts] : Prop :=
  ∀ (m : (ℓ : Loc Cert.CvOutDwIdeal.nD Cert.CvOutDwIdeal.τ Cert.CvOutDwIdeal.sig) → Buf (Elt Ideal) ℓ) (g : Dev Cert.CvOutDwIdeal.nD → PrngReg)
    (m' : (ℓ : Loc Cert.CvOutDwRefIdeal.nD Cert.CvOutDwRefIdeal.τ Cert.CvOutDwRefIdeal.sig) → Buf (Elt Ideal) ℓ) (g' : Dev Cert.CvOutDwRefIdeal.nD → PrngReg), Pre_CvOutDwIdeal m →
    (∀ c : Dev Cert.CvOutDwIdeal.nD,
      m' ((c.tc : Thread Cert.CvOutDwRefIdeal.nD Cert.CvOutDwRefIdeal.τ).loc Cert.CvOutDwRefIdeal.main_arg0) = m ((c.tc : Thread Cert.CvOutDwIdeal.nD Cert.CvOutDwIdeal.τ).loc Cert.CvOutDwIdeal.main_arg0)
      ∧ m' ((c.tc : Thread Cert.CvOutDwRefIdeal.nD Cert.CvOutDwRefIdeal.τ).loc Cert.CvOutDwRefIdeal.main_arg1) = m ((c.tc : Thread Cert.CvOutDwIdeal.nD Cert.CvOutDwIdeal.τ).loc Cert.CvOutDwIdeal.main_arg1)) →
    ∃ (v0 : (c : Dev Cert.CvOutDwIdeal.nD) → Buf (Elt Ideal) ((c.tc : Thread Cert.CvOutDwIdeal.nD Cert.CvOutDwIdeal.τ).loc Cert.CvOutDwIdeal.main_v0)),
      θ_run (Cert.CvOutDwIdeal.defs (F := Ideal)) (onTc (τ := Cert.CvOutDwIdeal.τ) (Cert.CvOutDwIdeal.main (F := Ideal))) ⟨m, fun _ => 0, g⟩ (fun r => ∀ c : Dev Cert.CvOutDwIdeal.nD,
          r.2.mem ((c.tc : Thread Cert.CvOutDwIdeal.nD Cert.CvOutDwIdeal.τ).loc Cert.CvOutDwIdeal.main_v0) = v0 c
          ∧ r.2.mem ((c.tc : Thread Cert.CvOutDwIdeal.nD Cert.CvOutDwIdeal.τ).loc Cert.CvOutDwIdeal.main_arg0) = m ((c.tc : Thread Cert.CvOutDwIdeal.nD Cert.CvOutDwIdeal.τ).loc Cert.CvOutDwIdeal.main_arg0)
          ∧ r.2.mem ((c.tc : Thread Cert.CvOutDwIdeal.nD Cert.CvOutDwIdeal.τ).loc Cert.CvOutDwIdeal.main_arg1) = m ((c.tc : Thread Cert.CvOutDwIdeal.nD Cert.CvOutDwIdeal.τ).loc Cert.CvOutDwIdeal.main_arg1))
      ∧ θ_run (Cert.CvOutDwRefIdeal.defs (F := Ideal)) (onTc (τ := Cert.CvOutDwRefIdeal.τ) (Cert.CvOutDwRefIdeal.main (F := Ideal))) ⟨m', fun _ => 0, g'⟩ (fun r => ∀ c : Dev Cert.CvOutDwRefIdeal.nD,
          r.2.mem ((c.tc : Thread Cert.CvOutDwRefIdeal.nD Cert.CvOutDwRefIdeal.τ).loc Cert.CvOutDwRefIdeal.main_v6) = v0 c
          ∧ r.2.mem ((c.tc : Thread Cert.CvOutDwRefIdeal.nD Cert.CvOutDwRefIdeal.τ).loc Cert.CvOutDwRefIdeal.main_arg0) = m' ((c.tc : Thread Cert.CvOutDwRefIdeal.nD Cert.CvOutDwRefIdeal.τ).loc Cert.CvOutDwRefIdeal.main_arg0)
          ∧ r.2.mem ((c.tc : Thread Cert.CvOutDwRefIdeal.nD Cert.CvOutDwRefIdeal.τ).loc Cert.CvOutDwRefIdeal.main_arg1) = m' ((c.tc : Thread Cert.CvOutDwRefIdeal.nD Cert.CvOutDwRefIdeal.τ).loc Cert.CvOutDwRefIdeal.main_arg1))

def preserves_FfnUp_FfnUpIdeal : Prop :=
  True

def algebraic_FfnUpIdeal_FfnUpRefIdeal [hFfnUpIdeal : Cert.FfnUpIdeal.Facts] [hFfnUpRefIdeal : Cert.FfnUpRefIdeal.Facts] : Prop :=
  ∀ (m : (ℓ : Loc Cert.FfnUpIdeal.nD Cert.FfnUpIdeal.τ Cert.FfnUpIdeal.sig) → Buf (Elt Ideal) ℓ) (g : Dev Cert.FfnUpIdeal.nD → PrngReg)
    (m' : (ℓ : Loc Cert.FfnUpRefIdeal.nD Cert.FfnUpRefIdeal.τ Cert.FfnUpRefIdeal.sig) → Buf (Elt Ideal) ℓ) (g' : Dev Cert.FfnUpRefIdeal.nD → PrngReg), Pre_FfnUpIdeal m →
    (∀ c : Dev Cert.FfnUpIdeal.nD,
      m' ((c.tc : Thread Cert.FfnUpRefIdeal.nD Cert.FfnUpRefIdeal.τ).loc Cert.FfnUpRefIdeal.main_arg0) = m ((c.tc : Thread Cert.FfnUpIdeal.nD Cert.FfnUpIdeal.τ).loc Cert.FfnUpIdeal.main_arg0)
      ∧ m' ((c.tc : Thread Cert.FfnUpRefIdeal.nD Cert.FfnUpRefIdeal.τ).loc Cert.FfnUpRefIdeal.main_arg1) = m ((c.tc : Thread Cert.FfnUpIdeal.nD Cert.FfnUpIdeal.τ).loc Cert.FfnUpIdeal.main_arg1)) →
    ∃ (v0 : (c : Dev Cert.FfnUpIdeal.nD) → Buf (Elt Ideal) ((c.tc : Thread Cert.FfnUpIdeal.nD Cert.FfnUpIdeal.τ).loc Cert.FfnUpIdeal.main_v0)),
      θ_run (Cert.FfnUpIdeal.defs (F := Ideal)) (onTc (τ := Cert.FfnUpIdeal.τ) (Cert.FfnUpIdeal.main (F := Ideal))) ⟨m, fun _ => 0, g⟩ (fun r => ∀ c : Dev Cert.FfnUpIdeal.nD,
          r.2.mem ((c.tc : Thread Cert.FfnUpIdeal.nD Cert.FfnUpIdeal.τ).loc Cert.FfnUpIdeal.main_v0) = v0 c
          ∧ r.2.mem ((c.tc : Thread Cert.FfnUpIdeal.nD Cert.FfnUpIdeal.τ).loc Cert.FfnUpIdeal.main_arg0) = m ((c.tc : Thread Cert.FfnUpIdeal.nD Cert.FfnUpIdeal.τ).loc Cert.FfnUpIdeal.main_arg0)
          ∧ r.2.mem ((c.tc : Thread Cert.FfnUpIdeal.nD Cert.FfnUpIdeal.τ).loc Cert.FfnUpIdeal.main_arg1) = m ((c.tc : Thread Cert.FfnUpIdeal.nD Cert.FfnUpIdeal.τ).loc Cert.FfnUpIdeal.main_arg1))
      ∧ θ_run (Cert.FfnUpRefIdeal.defs (F := Ideal)) (onTc (τ := Cert.FfnUpRefIdeal.τ) (Cert.FfnUpRefIdeal.main (F := Ideal))) ⟨m', fun _ => 0, g'⟩ (fun r => ∀ c : Dev Cert.FfnUpRefIdeal.nD,
          r.2.mem ((c.tc : Thread Cert.FfnUpRefIdeal.nD Cert.FfnUpRefIdeal.τ).loc Cert.FfnUpRefIdeal.main_v6) = v0 c
          ∧ r.2.mem ((c.tc : Thread Cert.FfnUpRefIdeal.nD Cert.FfnUpRefIdeal.τ).loc Cert.FfnUpRefIdeal.main_arg0) = m' ((c.tc : Thread Cert.FfnUpRefIdeal.nD Cert.FfnUpRefIdeal.τ).loc Cert.FfnUpRefIdeal.main_arg0)
          ∧ r.2.mem ((c.tc : Thread Cert.FfnUpRefIdeal.nD Cert.FfnUpRefIdeal.τ).loc Cert.FfnUpRefIdeal.main_arg1) = m' ((c.tc : Thread Cert.FfnUpRefIdeal.nD Cert.FfnUpRefIdeal.τ).loc Cert.FfnUpRefIdeal.main_arg1))

def preserves_FfnDown_FfnDownIdeal : Prop :=
  True

def algebraic_FfnDownIdeal_FfnDownRefIdeal [hFfnDownIdeal : Cert.FfnDownIdeal.Facts] [hFfnDownRefIdeal : Cert.FfnDownRefIdeal.Facts] : Prop :=
  ∀ (m : (ℓ : Loc Cert.FfnDownIdeal.nD Cert.FfnDownIdeal.τ Cert.FfnDownIdeal.sig) → Buf (Elt Ideal) ℓ) (g : Dev Cert.FfnDownIdeal.nD → PrngReg)
    (m' : (ℓ : Loc Cert.FfnDownRefIdeal.nD Cert.FfnDownRefIdeal.τ Cert.FfnDownRefIdeal.sig) → Buf (Elt Ideal) ℓ) (g' : Dev Cert.FfnDownRefIdeal.nD → PrngReg), Pre_FfnDownIdeal m →
    (∀ c : Dev Cert.FfnDownIdeal.nD,
      m' ((c.tc : Thread Cert.FfnDownRefIdeal.nD Cert.FfnDownRefIdeal.τ).loc Cert.FfnDownRefIdeal.main_arg0) = m ((c.tc : Thread Cert.FfnDownIdeal.nD Cert.FfnDownIdeal.τ).loc Cert.FfnDownIdeal.main_arg0)
      ∧ m' ((c.tc : Thread Cert.FfnDownRefIdeal.nD Cert.FfnDownRefIdeal.τ).loc Cert.FfnDownRefIdeal.main_arg1) = m ((c.tc : Thread Cert.FfnDownIdeal.nD Cert.FfnDownIdeal.τ).loc Cert.FfnDownIdeal.main_arg1)
      ∧ m' ((c.tc : Thread Cert.FfnDownRefIdeal.nD Cert.FfnDownRefIdeal.τ).loc Cert.FfnDownRefIdeal.main_arg2) = m ((c.tc : Thread Cert.FfnDownIdeal.nD Cert.FfnDownIdeal.τ).loc Cert.FfnDownIdeal.main_arg2)) →
    ∃ (v0 : (c : Dev Cert.FfnDownIdeal.nD) → Buf (Elt Ideal) ((c.tc : Thread Cert.FfnDownIdeal.nD Cert.FfnDownIdeal.τ).loc Cert.FfnDownIdeal.main_v0)),
      θ_run (Cert.FfnDownIdeal.defs (F := Ideal)) (onTc (τ := Cert.FfnDownIdeal.τ) (Cert.FfnDownIdeal.main (F := Ideal))) ⟨m, fun _ => 0, g⟩ (fun r => ∀ c : Dev Cert.FfnDownIdeal.nD,
          r.2.mem ((c.tc : Thread Cert.FfnDownIdeal.nD Cert.FfnDownIdeal.τ).loc Cert.FfnDownIdeal.main_v0) = v0 c
          ∧ r.2.mem ((c.tc : Thread Cert.FfnDownIdeal.nD Cert.FfnDownIdeal.τ).loc Cert.FfnDownIdeal.main_arg0) = m ((c.tc : Thread Cert.FfnDownIdeal.nD Cert.FfnDownIdeal.τ).loc Cert.FfnDownIdeal.main_arg0)
          ∧ r.2.mem ((c.tc : Thread Cert.FfnDownIdeal.nD Cert.FfnDownIdeal.τ).loc Cert.FfnDownIdeal.main_arg1) = m ((c.tc : Thread Cert.FfnDownIdeal.nD Cert.FfnDownIdeal.τ).loc Cert.FfnDownIdeal.main_arg1)
          ∧ r.2.mem ((c.tc : Thread Cert.FfnDownIdeal.nD Cert.FfnDownIdeal.τ).loc Cert.FfnDownIdeal.main_arg2) = m ((c.tc : Thread Cert.FfnDownIdeal.nD Cert.FfnDownIdeal.τ).loc Cert.FfnDownIdeal.main_arg2))
      ∧ θ_run (Cert.FfnDownRefIdeal.defs (F := Ideal)) (onTc (τ := Cert.FfnDownRefIdeal.τ) (Cert.FfnDownRefIdeal.main (F := Ideal))) ⟨m', fun _ => 0, g'⟩ (fun r => ∀ c : Dev Cert.FfnDownRefIdeal.nD,
          r.2.mem ((c.tc : Thread Cert.FfnDownRefIdeal.nD Cert.FfnDownRefIdeal.τ).loc Cert.FfnDownRefIdeal.main_v3) = v0 c
          ∧ r.2.mem ((c.tc : Thread Cert.FfnDownRefIdeal.nD Cert.FfnDownRefIdeal.τ).loc Cert.FfnDownRefIdeal.main_arg0) = m' ((c.tc : Thread Cert.FfnDownRefIdeal.nD Cert.FfnDownRefIdeal.τ).loc Cert.FfnDownRefIdeal.main_arg0)
          ∧ r.2.mem ((c.tc : Thread Cert.FfnDownRefIdeal.nD Cert.FfnDownRefIdeal.τ).loc Cert.FfnDownRefIdeal.main_arg1) = m' ((c.tc : Thread Cert.FfnDownRefIdeal.nD Cert.FfnDownRefIdeal.τ).loc Cert.FfnDownRefIdeal.main_arg1)
          ∧ r.2.mem ((c.tc : Thread Cert.FfnDownRefIdeal.nD Cert.FfnDownRefIdeal.τ).loc Cert.FfnDownRefIdeal.main_arg2) = m' ((c.tc : Thread Cert.FfnDownRefIdeal.nD Cert.FfnDownRefIdeal.τ).loc Cert.FfnDownRefIdeal.main_arg2))

def preserves_SsmIn_SsmInIdeal : Prop :=
  True

def algebraic_SsmInIdeal_SsmInRefIdeal [hSsmInIdeal : Cert.SsmInIdeal.Facts] [hSsmInRefIdeal : Cert.SsmInRefIdeal.Facts] : Prop :=
  ∀ (m : (ℓ : Loc Cert.SsmInIdeal.nD Cert.SsmInIdeal.τ Cert.SsmInIdeal.sig) → Buf (Elt Ideal) ℓ) (g : Dev Cert.SsmInIdeal.nD → PrngReg)
    (m' : (ℓ : Loc Cert.SsmInRefIdeal.nD Cert.SsmInRefIdeal.τ Cert.SsmInRefIdeal.sig) → Buf (Elt Ideal) ℓ) (g' : Dev Cert.SsmInRefIdeal.nD → PrngReg), Pre_SsmInIdeal m →
    (∀ c : Dev Cert.SsmInIdeal.nD,
      m' ((c.tc : Thread Cert.SsmInRefIdeal.nD Cert.SsmInRefIdeal.τ).loc Cert.SsmInRefIdeal.main_arg0) = m ((c.tc : Thread Cert.SsmInIdeal.nD Cert.SsmInIdeal.τ).loc Cert.SsmInIdeal.main_arg0)
      ∧ m' ((c.tc : Thread Cert.SsmInRefIdeal.nD Cert.SsmInRefIdeal.τ).loc Cert.SsmInRefIdeal.main_arg1) = m ((c.tc : Thread Cert.SsmInIdeal.nD Cert.SsmInIdeal.τ).loc Cert.SsmInIdeal.main_arg1)) →
    ∃ (v0 : (c : Dev Cert.SsmInIdeal.nD) → Buf (Elt Ideal) ((c.tc : Thread Cert.SsmInIdeal.nD Cert.SsmInIdeal.τ).loc Cert.SsmInIdeal.main_v0)),
      θ_run (Cert.SsmInIdeal.defs (F := Ideal)) (onTc (τ := Cert.SsmInIdeal.τ) (Cert.SsmInIdeal.main (F := Ideal))) ⟨m, fun _ => 0, g⟩ (fun r => ∀ c : Dev Cert.SsmInIdeal.nD,
          r.2.mem ((c.tc : Thread Cert.SsmInIdeal.nD Cert.SsmInIdeal.τ).loc Cert.SsmInIdeal.main_v0) = v0 c
          ∧ r.2.mem ((c.tc : Thread Cert.SsmInIdeal.nD Cert.SsmInIdeal.τ).loc Cert.SsmInIdeal.main_arg0) = m ((c.tc : Thread Cert.SsmInIdeal.nD Cert.SsmInIdeal.τ).loc Cert.SsmInIdeal.main_arg0)
          ∧ r.2.mem ((c.tc : Thread Cert.SsmInIdeal.nD Cert.SsmInIdeal.τ).loc Cert.SsmInIdeal.main_arg1) = m ((c.tc : Thread Cert.SsmInIdeal.nD Cert.SsmInIdeal.τ).loc Cert.SsmInIdeal.main_arg1))
      ∧ θ_run (Cert.SsmInRefIdeal.defs (F := Ideal)) (onTc (τ := Cert.SsmInRefIdeal.τ) (Cert.SsmInRefIdeal.main (F := Ideal))) ⟨m', fun _ => 0, g'⟩ (fun r => ∀ c : Dev Cert.SsmInRefIdeal.nD,
          r.2.mem ((c.tc : Thread Cert.SsmInRefIdeal.nD Cert.SsmInRefIdeal.τ).loc Cert.SsmInRefIdeal.main_v4) = v0 c
          ∧ r.2.mem ((c.tc : Thread Cert.SsmInRefIdeal.nD Cert.SsmInRefIdeal.τ).loc Cert.SsmInRefIdeal.main_arg0) = m' ((c.tc : Thread Cert.SsmInRefIdeal.nD Cert.SsmInRefIdeal.τ).loc Cert.SsmInRefIdeal.main_arg0)
          ∧ r.2.mem ((c.tc : Thread Cert.SsmInRefIdeal.nD Cert.SsmInRefIdeal.τ).loc Cert.SsmInRefIdeal.main_arg1) = m' ((c.tc : Thread Cert.SsmInRefIdeal.nD Cert.SsmInRefIdeal.τ).loc Cert.SsmInRefIdeal.main_arg1))

def preserves_SsmOut_SsmOutIdeal : Prop :=
  True

def algebraic_SsmOutIdeal_SsmOutRefIdeal [hSsmOutIdeal : Cert.SsmOutIdeal.Facts] [hSsmOutRefIdeal : Cert.SsmOutRefIdeal.Facts] : Prop :=
  ∀ (m : (ℓ : Loc Cert.SsmOutIdeal.nD Cert.SsmOutIdeal.τ Cert.SsmOutIdeal.sig) → Buf (Elt Ideal) ℓ) (g : Dev Cert.SsmOutIdeal.nD → PrngReg)
    (m' : (ℓ : Loc Cert.SsmOutRefIdeal.nD Cert.SsmOutRefIdeal.τ Cert.SsmOutRefIdeal.sig) → Buf (Elt Ideal) ℓ) (g' : Dev Cert.SsmOutRefIdeal.nD → PrngReg), Pre_SsmOutIdeal m →
    (∀ c : Dev Cert.SsmOutIdeal.nD,
      m' ((c.tc : Thread Cert.SsmOutRefIdeal.nD Cert.SsmOutRefIdeal.τ).loc Cert.SsmOutRefIdeal.main_arg0) = m ((c.tc : Thread Cert.SsmOutIdeal.nD Cert.SsmOutIdeal.τ).loc Cert.SsmOutIdeal.main_arg0)
      ∧ m' ((c.tc : Thread Cert.SsmOutRefIdeal.nD Cert.SsmOutRefIdeal.τ).loc Cert.SsmOutRefIdeal.main_arg1) = m ((c.tc : Thread Cert.SsmOutIdeal.nD Cert.SsmOutIdeal.τ).loc Cert.SsmOutIdeal.main_arg1)
      ∧ m' ((c.tc : Thread Cert.SsmOutRefIdeal.nD Cert.SsmOutRefIdeal.τ).loc Cert.SsmOutRefIdeal.main_arg2) = m ((c.tc : Thread Cert.SsmOutIdeal.nD Cert.SsmOutIdeal.τ).loc Cert.SsmOutIdeal.main_arg2)) →
    ∃ (v0 : (c : Dev Cert.SsmOutIdeal.nD) → Buf (Elt Ideal) ((c.tc : Thread Cert.SsmOutIdeal.nD Cert.SsmOutIdeal.τ).loc Cert.SsmOutIdeal.main_v0)),
      θ_run (Cert.SsmOutIdeal.defs (F := Ideal)) (onTc (τ := Cert.SsmOutIdeal.τ) (Cert.SsmOutIdeal.main (F := Ideal))) ⟨m, fun _ => 0, g⟩ (fun r => ∀ c : Dev Cert.SsmOutIdeal.nD,
          r.2.mem ((c.tc : Thread Cert.SsmOutIdeal.nD Cert.SsmOutIdeal.τ).loc Cert.SsmOutIdeal.main_v0) = v0 c
          ∧ r.2.mem ((c.tc : Thread Cert.SsmOutIdeal.nD Cert.SsmOutIdeal.τ).loc Cert.SsmOutIdeal.main_arg0) = m ((c.tc : Thread Cert.SsmOutIdeal.nD Cert.SsmOutIdeal.τ).loc Cert.SsmOutIdeal.main_arg0)
          ∧ r.2.mem ((c.tc : Thread Cert.SsmOutIdeal.nD Cert.SsmOutIdeal.τ).loc Cert.SsmOutIdeal.main_arg1) = m ((c.tc : Thread Cert.SsmOutIdeal.nD Cert.SsmOutIdeal.τ).loc Cert.SsmOutIdeal.main_arg1)
          ∧ r.2.mem ((c.tc : Thread Cert.SsmOutIdeal.nD Cert.SsmOutIdeal.τ).loc Cert.SsmOutIdeal.main_arg2) = m ((c.tc : Thread Cert.SsmOutIdeal.nD Cert.SsmOutIdeal.τ).loc Cert.SsmOutIdeal.main_arg2))
      ∧ θ_run (Cert.SsmOutRefIdeal.defs (F := Ideal)) (onTc (τ := Cert.SsmOutRefIdeal.τ) (Cert.SsmOutRefIdeal.main (F := Ideal))) ⟨m', fun _ => 0, g'⟩ (fun r => ∀ c : Dev Cert.SsmOutRefIdeal.nD,
          r.2.mem ((c.tc : Thread Cert.SsmOutRefIdeal.nD Cert.SsmOutRefIdeal.τ).loc Cert.SsmOutRefIdeal.main_v3) = v0 c
          ∧ r.2.mem ((c.tc : Thread Cert.SsmOutRefIdeal.nD Cert.SsmOutRefIdeal.τ).loc Cert.SsmOutRefIdeal.main_arg0) = m' ((c.tc : Thread Cert.SsmOutRefIdeal.nD Cert.SsmOutRefIdeal.τ).loc Cert.SsmOutRefIdeal.main_arg0)
          ∧ r.2.mem ((c.tc : Thread Cert.SsmOutRefIdeal.nD Cert.SsmOutRefIdeal.τ).loc Cert.SsmOutRefIdeal.main_arg1) = m' ((c.tc : Thread Cert.SsmOutRefIdeal.nD Cert.SsmOutRefIdeal.τ).loc Cert.SsmOutRefIdeal.main_arg1)
          ∧ r.2.mem ((c.tc : Thread Cert.SsmOutRefIdeal.nD Cert.SsmOutRefIdeal.τ).loc Cert.SsmOutRefIdeal.main_arg2) = m' ((c.tc : Thread Cert.SsmOutRefIdeal.nD Cert.SsmOutRefIdeal.τ).loc Cert.SsmOutRefIdeal.main_arg2))

def preserves_CvIn_CvInIdeal : Prop :=
  True

def algebraic_CvInIdeal_CvInRefIdeal [hCvInIdeal : Cert.CvInIdeal.Facts] [hCvInRefIdeal : Cert.CvInRefIdeal.Facts] : Prop :=
  ∀ (m : (ℓ : Loc Cert.CvInIdeal.nD Cert.CvInIdeal.τ Cert.CvInIdeal.sig) → Buf (Elt Ideal) ℓ) (g : Dev Cert.CvInIdeal.nD → PrngReg)
    (m' : (ℓ : Loc Cert.CvInRefIdeal.nD Cert.CvInRefIdeal.τ Cert.CvInRefIdeal.sig) → Buf (Elt Ideal) ℓ) (g' : Dev Cert.CvInRefIdeal.nD → PrngReg), Pre_CvInIdeal m →
    (∀ c : Dev Cert.CvInIdeal.nD,
      m' ((c.tc : Thread Cert.CvInRefIdeal.nD Cert.CvInRefIdeal.τ).loc Cert.CvInRefIdeal.main_arg0) = m ((c.tc : Thread Cert.CvInIdeal.nD Cert.CvInIdeal.τ).loc Cert.CvInIdeal.main_arg0)
      ∧ m' ((c.tc : Thread Cert.CvInRefIdeal.nD Cert.CvInRefIdeal.τ).loc Cert.CvInRefIdeal.main_arg1) = m ((c.tc : Thread Cert.CvInIdeal.nD Cert.CvInIdeal.τ).loc Cert.CvInIdeal.main_arg1)
      ∧ m' ((c.tc : Thread Cert.CvInRefIdeal.nD Cert.CvInRefIdeal.τ).loc Cert.CvInRefIdeal.main_arg2) = m ((c.tc : Thread Cert.CvInIdeal.nD Cert.CvInIdeal.τ).loc Cert.CvInIdeal.main_arg2)) →
    ∃ (v0 : (c : Dev Cert.CvInIdeal.nD) → Buf (Elt Ideal) ((c.tc : Thread Cert.CvInIdeal.nD Cert.CvInIdeal.τ).loc Cert.CvInIdeal.main_v0)),
      θ_run (Cert.CvInIdeal.defs (F := Ideal)) (onTc (τ := Cert.CvInIdeal.τ) (Cert.CvInIdeal.main (F := Ideal))) ⟨m, fun _ => 0, g⟩ (fun r => ∀ c : Dev Cert.CvInIdeal.nD,
          r.2.mem ((c.tc : Thread Cert.CvInIdeal.nD Cert.CvInIdeal.τ).loc Cert.CvInIdeal.main_v0) = v0 c
          ∧ r.2.mem ((c.tc : Thread Cert.CvInIdeal.nD Cert.CvInIdeal.τ).loc Cert.CvInIdeal.main_arg0) = m ((c.tc : Thread Cert.CvInIdeal.nD Cert.CvInIdeal.τ).loc Cert.CvInIdeal.main_arg0)
          ∧ r.2.mem ((c.tc : Thread Cert.CvInIdeal.nD Cert.CvInIdeal.τ).loc Cert.CvInIdeal.main_arg1) = m ((c.tc : Thread Cert.CvInIdeal.nD Cert.CvInIdeal.τ).loc Cert.CvInIdeal.main_arg1)
          ∧ r.2.mem ((c.tc : Thread Cert.CvInIdeal.nD Cert.CvInIdeal.τ).loc Cert.CvInIdeal.main_arg2) = m ((c.tc : Thread Cert.CvInIdeal.nD Cert.CvInIdeal.τ).loc Cert.CvInIdeal.main_arg2))
      ∧ θ_run (Cert.CvInRefIdeal.defs (F := Ideal)) (onTc (τ := Cert.CvInRefIdeal.τ) (Cert.CvInRefIdeal.main (F := Ideal))) ⟨m', fun _ => 0, g'⟩ (fun r => ∀ c : Dev Cert.CvInRefIdeal.nD,
          r.2.mem ((c.tc : Thread Cert.CvInRefIdeal.nD Cert.CvInRefIdeal.τ).loc Cert.CvInRefIdeal.main_v6) = v0 c
          ∧ r.2.mem ((c.tc : Thread Cert.CvInRefIdeal.nD Cert.CvInRefIdeal.τ).loc Cert.CvInRefIdeal.main_arg0) = m' ((c.tc : Thread Cert.CvInRefIdeal.nD Cert.CvInRefIdeal.τ).loc Cert.CvInRefIdeal.main_arg0)
          ∧ r.2.mem ((c.tc : Thread Cert.CvInRefIdeal.nD Cert.CvInRefIdeal.τ).loc Cert.CvInRefIdeal.main_arg1) = m' ((c.tc : Thread Cert.CvInRefIdeal.nD Cert.CvInRefIdeal.τ).loc Cert.CvInRefIdeal.main_arg1)
          ∧ r.2.mem ((c.tc : Thread Cert.CvInRefIdeal.nD Cert.CvInRefIdeal.τ).loc Cert.CvInRefIdeal.main_arg2) = m' ((c.tc : Thread Cert.CvInRefIdeal.nD Cert.CvInRefIdeal.τ).loc Cert.CvInRefIdeal.main_arg2))

def preserves_CvOut_CvOutIdeal : Prop :=
  True

def algebraic_CvOutIdeal_CvOutRefIdeal [hCvOutIdeal : Cert.CvOutIdeal.Facts] [hCvOutRefIdeal : Cert.CvOutRefIdeal.Facts] : Prop :=
  ∀ (m : (ℓ : Loc Cert.CvOutIdeal.nD Cert.CvOutIdeal.τ Cert.CvOutIdeal.sig) → Buf (Elt Ideal) ℓ) (g : Dev Cert.CvOutIdeal.nD → PrngReg)
    (m' : (ℓ : Loc Cert.CvOutRefIdeal.nD Cert.CvOutRefIdeal.τ Cert.CvOutRefIdeal.sig) → Buf (Elt Ideal) ℓ) (g' : Dev Cert.CvOutRefIdeal.nD → PrngReg), Pre_CvOutIdeal m →
    (∀ c : Dev Cert.CvOutIdeal.nD,
      m' ((c.tc : Thread Cert.CvOutRefIdeal.nD Cert.CvOutRefIdeal.τ).loc Cert.CvOutRefIdeal.main_arg0) = m ((c.tc : Thread Cert.CvOutIdeal.nD Cert.CvOutIdeal.τ).loc Cert.CvOutIdeal.main_arg0)
      ∧ m' ((c.tc : Thread Cert.CvOutRefIdeal.nD Cert.CvOutRefIdeal.τ).loc Cert.CvOutRefIdeal.main_arg1) = m ((c.tc : Thread Cert.CvOutIdeal.nD Cert.CvOutIdeal.τ).loc Cert.CvOutIdeal.main_arg1)
      ∧ m' ((c.tc : Thread Cert.CvOutRefIdeal.nD Cert.CvOutRefIdeal.τ).loc Cert.CvOutRefIdeal.main_arg2) = m ((c.tc : Thread Cert.CvOutIdeal.nD Cert.CvOutIdeal.τ).loc Cert.CvOutIdeal.main_arg2)
      ∧ m' ((c.tc : Thread Cert.CvOutRefIdeal.nD Cert.CvOutRefIdeal.τ).loc Cert.CvOutRefIdeal.main_arg3) = m ((c.tc : Thread Cert.CvOutIdeal.nD Cert.CvOutIdeal.τ).loc Cert.CvOutIdeal.main_arg3)) →
    ∃ (v0 : (c : Dev Cert.CvOutIdeal.nD) → Buf (Elt Ideal) ((c.tc : Thread Cert.CvOutIdeal.nD Cert.CvOutIdeal.τ).loc Cert.CvOutIdeal.main_v0)),
      θ_run (Cert.CvOutIdeal.defs (F := Ideal)) (onTc (τ := Cert.CvOutIdeal.τ) (Cert.CvOutIdeal.main (F := Ideal))) ⟨m, fun _ => 0, g⟩ (fun r => ∀ c : Dev Cert.CvOutIdeal.nD,
          r.2.mem ((c.tc : Thread Cert.CvOutIdeal.nD Cert.CvOutIdeal.τ).loc Cert.CvOutIdeal.main_v0) = v0 c
          ∧ r.2.mem ((c.tc : Thread Cert.CvOutIdeal.nD Cert.CvOutIdeal.τ).loc Cert.CvOutIdeal.main_arg0) = m ((c.tc : Thread Cert.CvOutIdeal.nD Cert.CvOutIdeal.τ).loc Cert.CvOutIdeal.main_arg0)
          ∧ r.2.mem ((c.tc : Thread Cert.CvOutIdeal.nD Cert.CvOutIdeal.τ).loc Cert.CvOutIdeal.main_arg1) = m ((c.tc : Thread Cert.CvOutIdeal.nD Cert.CvOutIdeal.τ).loc Cert.CvOutIdeal.main_arg1)
          ∧ r.2.mem ((c.tc : Thread Cert.CvOutIdeal.nD Cert.CvOutIdeal.τ).loc Cert.CvOutIdeal.main_arg2) = m ((c.tc : Thread Cert.CvOutIdeal.nD Cert.CvOutIdeal.τ).loc Cert.CvOutIdeal.main_arg2)
          ∧ r.2.mem ((c.tc : Thread Cert.CvOutIdeal.nD Cert.CvOutIdeal.τ).loc Cert.CvOutIdeal.main_arg3) = m ((c.tc : Thread Cert.CvOutIdeal.nD Cert.CvOutIdeal.τ).loc Cert.CvOutIdeal.main_arg3))
      ∧ θ_run (Cert.CvOutRefIdeal.defs (F := Ideal)) (onTc (τ := Cert.CvOutRefIdeal.τ) (Cert.CvOutRefIdeal.main (F := Ideal))) ⟨m', fun _ => 0, g'⟩ (fun r => ∀ c : Dev Cert.CvOutRefIdeal.nD,
          r.2.mem ((c.tc : Thread Cert.CvOutRefIdeal.nD Cert.CvOutRefIdeal.τ).loc Cert.CvOutRefIdeal.main_v5) = v0 c
          ∧ r.2.mem ((c.tc : Thread Cert.CvOutRefIdeal.nD Cert.CvOutRefIdeal.τ).loc Cert.CvOutRefIdeal.main_arg0) = m' ((c.tc : Thread Cert.CvOutRefIdeal.nD Cert.CvOutRefIdeal.τ).loc Cert.CvOutRefIdeal.main_arg0)
          ∧ r.2.mem ((c.tc : Thread Cert.CvOutRefIdeal.nD Cert.CvOutRefIdeal.τ).loc Cert.CvOutRefIdeal.main_arg1) = m' ((c.tc : Thread Cert.CvOutRefIdeal.nD Cert.CvOutRefIdeal.τ).loc Cert.CvOutRefIdeal.main_arg1)
          ∧ r.2.mem ((c.tc : Thread Cert.CvOutRefIdeal.nD Cert.CvOutRefIdeal.τ).loc Cert.CvOutRefIdeal.main_arg2) = m' ((c.tc : Thread Cert.CvOutRefIdeal.nD Cert.CvOutRefIdeal.τ).loc Cert.CvOutRefIdeal.main_arg2)
          ∧ r.2.mem ((c.tc : Thread Cert.CvOutRefIdeal.nD Cert.CvOutRefIdeal.τ).loc Cert.CvOutRefIdeal.main_arg3) = m' ((c.tc : Thread Cert.CvOutRefIdeal.nD Cert.CvOutRefIdeal.τ).loc Cert.CvOutRefIdeal.main_arg3))

def preserves_AdamCvIn_AdamCvInIdeal : Prop :=
  True

def algebraic_AdamCvInIdeal_AdamCvInRefIdeal [hAdamCvInIdeal : Cert.AdamCvInIdeal.Facts] [hAdamCvInRefIdeal : Cert.AdamCvInRefIdeal.Facts] : Prop :=
  ∀ (m : (ℓ : Loc Cert.AdamCvInIdeal.nD Cert.AdamCvInIdeal.τ Cert.AdamCvInIdeal.sig) → Buf (Elt Ideal) ℓ) (g : Dev Cert.AdamCvInIdeal.nD → PrngReg)
    (m' : (ℓ : Loc Cert.AdamCvInRefIdeal.nD Cert.AdamCvInRefIdeal.τ Cert.AdamCvInRefIdeal.sig) → Buf (Elt Ideal) ℓ) (g' : Dev Cert.AdamCvInRefIdeal.nD → PrngReg), Pre_AdamCvInIdeal m →
    (∀ c : Dev Cert.AdamCvInIdeal.nD,
      m' ((c.tc : Thread Cert.AdamCvInRefIdeal.nD Cert.AdamCvInRefIdeal.τ).loc Cert.AdamCvInRefIdeal.main_arg0) = m ((c.tc : Thread Cert.AdamCvInIdeal.nD Cert.AdamCvInIdeal.τ).loc Cert.AdamCvInIdeal.main_arg0)
      ∧ m' ((c.tc : Thread Cert.AdamCvInRefIdeal.nD Cert.AdamCvInRefIdeal.τ).loc Cert.AdamCvInRefIdeal.main_arg1) = m ((c.tc : Thread Cert.AdamCvInIdeal.nD Cert.AdamCvInIdeal.τ).loc Cert.AdamCvInIdeal.main_arg1)
      ∧ m' ((c.tc : Thread Cert.AdamCvInRefIdeal.nD Cert.AdamCvInRefIdeal.τ).loc Cert.AdamCvInRefIdeal.main_arg2) = m ((c.tc : Thread Cert.AdamCvInIdeal.nD Cert.AdamCvInIdeal.τ).loc Cert.AdamCvInIdeal.main_arg2)
      ∧ m' ((c.tc : Thread Cert.AdamCvInRefIdeal.nD Cert.AdamCvInRefIdeal.τ).loc Cert.AdamCvInRefIdeal.main_arg3) = m ((c.tc : Thread Cert.AdamCvInIdeal.nD Cert.AdamCvInIdeal.τ).loc Cert.AdamCvInIdeal.main_arg3)
      ∧ m' ((c.tc : Thread Cert.AdamCvInRefIdeal.nD Cert.AdamCvInRefIdeal.τ).loc Cert.AdamCvInRefIdeal.main_arg4) = m ((c.tc : Thread Cert.AdamCvInIdeal.nD Cert.AdamCvInIdeal.τ).loc Cert.AdamCvInIdeal.main_arg4)) →
    ∃ (v0 : (c : Dev Cert.AdamCvInIdeal.nD) → Buf (Elt Ideal) ((c.tc : Thread Cert.AdamCvInIdeal.nD Cert.AdamCvInIdeal.τ).loc Cert.AdamCvInIdeal.main_v0_0)) (v1 : (c : Dev Cert.AdamCvInIdeal.nD) → Buf (Elt Ideal) ((c.tc : Thread Cert.AdamCvInIdeal.nD Cert.AdamCvInIdeal.τ).loc Cert.AdamCvInIdeal.main_v0_1)) (v2 : (c : Dev Cert.AdamCvInIdeal.nD) → Buf (Elt Ideal) ((c.tc : Thread Cert.AdamCvInIdeal.nD Cert.AdamCvInIdeal.τ).loc Cert.AdamCvInIdeal.main_v0_2)) (v3 : (c : Dev Cert.AdamCvInIdeal.nD) → Buf (Elt Ideal) ((c.tc : Thread Cert.AdamCvInIdeal.nD Cert.AdamCvInIdeal.τ).loc Cert.AdamCvInIdeal.main_v0_3)),
      θ_run (Cert.AdamCvInIdeal.defs (F := Ideal)) (onTc (τ := Cert.AdamCvInIdeal.τ) (Cert.AdamCvInIdeal.main (F := Ideal))) ⟨m, fun _ => 0, g⟩ (fun r => ∀ c : Dev Cert.AdamCvInIdeal.nD,
          r.2.mem ((c.tc : Thread Cert.AdamCvInIdeal.nD Cert.AdamCvInIdeal.τ).loc Cert.AdamCvInIdeal.main_v0_0) = v0 c
          ∧ r.2.mem ((c.tc : Thread Cert.AdamCvInIdeal.nD Cert.AdamCvInIdeal.τ).loc Cert.AdamCvInIdeal.main_v0_1) = v1 c
          ∧ r.2.mem ((c.tc : Thread Cert.AdamCvInIdeal.nD Cert.AdamCvInIdeal.τ).loc Cert.AdamCvInIdeal.main_v0_2) = v2 c
          ∧ r.2.mem ((c.tc : Thread Cert.AdamCvInIdeal.nD Cert.AdamCvInIdeal.τ).loc Cert.AdamCvInIdeal.main_v0_3) = v3 c
          ∧ r.2.mem ((c.tc : Thread Cert.AdamCvInIdeal.nD Cert.AdamCvInIdeal.τ).loc Cert.AdamCvInIdeal.main_arg0) = m ((c.tc : Thread Cert.AdamCvInIdeal.nD Cert.AdamCvInIdeal.τ).loc Cert.AdamCvInIdeal.main_arg0)
          ∧ r.2.mem ((c.tc : Thread Cert.AdamCvInIdeal.nD Cert.AdamCvInIdeal.τ).loc Cert.AdamCvInIdeal.main_arg1) = m ((c.tc : Thread Cert.AdamCvInIdeal.nD Cert.AdamCvInIdeal.τ).loc Cert.AdamCvInIdeal.main_arg1)
          ∧ r.2.mem ((c.tc : Thread Cert.AdamCvInIdeal.nD Cert.AdamCvInIdeal.τ).loc Cert.AdamCvInIdeal.main_arg2) = m ((c.tc : Thread Cert.AdamCvInIdeal.nD Cert.AdamCvInIdeal.τ).loc Cert.AdamCvInIdeal.main_arg2)
          ∧ r.2.mem ((c.tc : Thread Cert.AdamCvInIdeal.nD Cert.AdamCvInIdeal.τ).loc Cert.AdamCvInIdeal.main_arg3) = m ((c.tc : Thread Cert.AdamCvInIdeal.nD Cert.AdamCvInIdeal.τ).loc Cert.AdamCvInIdeal.main_arg3)
          ∧ r.2.mem ((c.tc : Thread Cert.AdamCvInIdeal.nD Cert.AdamCvInIdeal.τ).loc Cert.AdamCvInIdeal.main_arg4) = m ((c.tc : Thread Cert.AdamCvInIdeal.nD Cert.AdamCvInIdeal.τ).loc Cert.AdamCvInIdeal.main_arg4))
      ∧ θ_run (Cert.AdamCvInRefIdeal.defs (F := Ideal)) (onTc (τ := Cert.AdamCvInRefIdeal.τ) (Cert.AdamCvInRefIdeal.main (F := Ideal))) ⟨m', fun _ => 0, g'⟩ (fun r => ∀ c : Dev Cert.AdamCvInRefIdeal.nD,
          r.2.mem ((c.tc : Thread Cert.AdamCvInRefIdeal.nD Cert.AdamCvInRefIdeal.τ).loc Cert.AdamCvInRefIdeal.main_v6) = v0 c
          ∧ r.2.mem ((c.tc : Thread Cert.AdamCvInRefIdeal.nD Cert.AdamCvInRefIdeal.τ).loc Cert.AdamCvInRefIdeal.main_v30) = v1 c
          ∧ r.2.mem ((c.tc : Thread Cert.AdamCvInRefIdeal.nD Cert.AdamCvInRefIdeal.τ).loc Cert.AdamCvInRefIdeal.main_v11) = v2 c
          ∧ r.2.mem ((c.tc : Thread Cert.AdamCvInRefIdeal.nD Cert.AdamCvInRefIdeal.τ).loc Cert.AdamCvInRefIdeal.main_v17) = v3 c
          ∧ r.2.mem ((c.tc : Thread Cert.AdamCvInRefIdeal.nD Cert.AdamCvInRefIdeal.τ).loc Cert.AdamCvInRefIdeal.main_arg0) = m' ((c.tc : Thread Cert.AdamCvInRefIdeal.nD Cert.AdamCvInRefIdeal.τ).loc Cert.AdamCvInRefIdeal.main_arg0)
          ∧ r.2.mem ((c.tc : Thread Cert.AdamCvInRefIdeal.nD Cert.AdamCvInRefIdeal.τ).loc Cert.AdamCvInRefIdeal.main_arg1) = m' ((c.tc : Thread Cert.AdamCvInRefIdeal.nD Cert.AdamCvInRefIdeal.τ).loc Cert.AdamCvInRefIdeal.main_arg1)
          ∧ r.2.mem ((c.tc : Thread Cert.AdamCvInRefIdeal.nD Cert.AdamCvInRefIdeal.τ).loc Cert.AdamCvInRefIdeal.main_arg2) = m' ((c.tc : Thread Cert.AdamCvInRefIdeal.nD Cert.AdamCvInRefIdeal.τ).loc Cert.AdamCvInRefIdeal.main_arg2)
          ∧ r.2.mem ((c.tc : Thread Cert.AdamCvInRefIdeal.nD Cert.AdamCvInRefIdeal.τ).loc Cert.AdamCvInRefIdeal.main_arg3) = m' ((c.tc : Thread Cert.AdamCvInRefIdeal.nD Cert.AdamCvInRefIdeal.τ).loc Cert.AdamCvInRefIdeal.main_arg3)
          ∧ r.2.mem ((c.tc : Thread Cert.AdamCvInRefIdeal.nD Cert.AdamCvInRefIdeal.τ).loc Cert.AdamCvInRefIdeal.main_arg4) = m' ((c.tc : Thread Cert.AdamCvInRefIdeal.nD Cert.AdamCvInRefIdeal.τ).loc Cert.AdamCvInRefIdeal.main_arg4))

def preserves_AdamCvOut_AdamCvOutIdeal : Prop :=
  True

def algebraic_AdamCvOutIdeal_AdamCvOutRefIdeal [hAdamCvOutIdeal : Cert.AdamCvOutIdeal.Facts] [hAdamCvOutRefIdeal : Cert.AdamCvOutRefIdeal.Facts] : Prop :=
  ∀ (m : (ℓ : Loc Cert.AdamCvOutIdeal.nD Cert.AdamCvOutIdeal.τ Cert.AdamCvOutIdeal.sig) → Buf (Elt Ideal) ℓ) (g : Dev Cert.AdamCvOutIdeal.nD → PrngReg)
    (m' : (ℓ : Loc Cert.AdamCvOutRefIdeal.nD Cert.AdamCvOutRefIdeal.τ Cert.AdamCvOutRefIdeal.sig) → Buf (Elt Ideal) ℓ) (g' : Dev Cert.AdamCvOutRefIdeal.nD → PrngReg), Pre_AdamCvOutIdeal m →
    (∀ c : Dev Cert.AdamCvOutIdeal.nD,
      m' ((c.tc : Thread Cert.AdamCvOutRefIdeal.nD Cert.AdamCvOutRefIdeal.τ).loc Cert.AdamCvOutRefIdeal.main_arg0) = m ((c.tc : Thread Cert.AdamCvOutIdeal.nD Cert.AdamCvOutIdeal.τ).loc Cert.AdamCvOutIdeal.main_arg0)
      ∧ m' ((c.tc : Thread Cert.AdamCvOutRefIdeal.nD Cert.AdamCvOutRefIdeal.τ).loc Cert.AdamCvOutRefIdeal.main_arg1) = m ((c.tc : Thread Cert.AdamCvOutIdeal.nD Cert.AdamCvOutIdeal.τ).loc Cert.AdamCvOutIdeal.main_arg1)
      ∧ m' ((c.tc : Thread Cert.AdamCvOutRefIdeal.nD Cert.AdamCvOutRefIdeal.τ).loc Cert.AdamCvOutRefIdeal.main_arg2) = m ((c.tc : Thread Cert.AdamCvOutIdeal.nD Cert.AdamCvOutIdeal.τ).loc Cert.AdamCvOutIdeal.main_arg2)
      ∧ m' ((c.tc : Thread Cert.AdamCvOutRefIdeal.nD Cert.AdamCvOutRefIdeal.τ).loc Cert.AdamCvOutRefIdeal.main_arg3) = m ((c.tc : Thread Cert.AdamCvOutIdeal.nD Cert.AdamCvOutIdeal.τ).loc Cert.AdamCvOutIdeal.main_arg3)
      ∧ m' ((c.tc : Thread Cert.AdamCvOutRefIdeal.nD Cert.AdamCvOutRefIdeal.τ).loc Cert.AdamCvOutRefIdeal.main_arg4) = m ((c.tc : Thread Cert.AdamCvOutIdeal.nD Cert.AdamCvOutIdeal.τ).loc Cert.AdamCvOutIdeal.main_arg4)) →
    ∃ (v0 : (c : Dev Cert.AdamCvOutIdeal.nD) → Buf (Elt Ideal) ((c.tc : Thread Cert.AdamCvOutIdeal.nD Cert.AdamCvOutIdeal.τ).loc Cert.AdamCvOutIdeal.main_v0_0)) (v1 : (c : Dev Cert.AdamCvOutIdeal.nD) → Buf (Elt Ideal) ((c.tc : Thread Cert.AdamCvOutIdeal.nD Cert.AdamCvOutIdeal.τ).loc Cert.AdamCvOutIdeal.main_v0_1)) (v2 : (c : Dev Cert.AdamCvOutIdeal.nD) → Buf (Elt Ideal) ((c.tc : Thread Cert.AdamCvOutIdeal.nD Cert.AdamCvOutIdeal.τ).loc Cert.AdamCvOutIdeal.main_v0_2)) (v3 : (c : Dev Cert.AdamCvOutIdeal.nD) → Buf (Elt Ideal) ((c.tc : Thread Cert.AdamCvOutIdeal.nD Cert.AdamCvOutIdeal.τ).loc Cert.AdamCvOutIdeal.main_v0_3)),
      θ_run (Cert.AdamCvOutIdeal.defs (F := Ideal)) (onTc (τ := Cert.AdamCvOutIdeal.τ) (Cert.AdamCvOutIdeal.main (F := Ideal))) ⟨m, fun _ => 0, g⟩ (fun r => ∀ c : Dev Cert.AdamCvOutIdeal.nD,
          r.2.mem ((c.tc : Thread Cert.AdamCvOutIdeal.nD Cert.AdamCvOutIdeal.τ).loc Cert.AdamCvOutIdeal.main_v0_0) = v0 c
          ∧ r.2.mem ((c.tc : Thread Cert.AdamCvOutIdeal.nD Cert.AdamCvOutIdeal.τ).loc Cert.AdamCvOutIdeal.main_v0_1) = v1 c
          ∧ r.2.mem ((c.tc : Thread Cert.AdamCvOutIdeal.nD Cert.AdamCvOutIdeal.τ).loc Cert.AdamCvOutIdeal.main_v0_2) = v2 c
          ∧ r.2.mem ((c.tc : Thread Cert.AdamCvOutIdeal.nD Cert.AdamCvOutIdeal.τ).loc Cert.AdamCvOutIdeal.main_v0_3) = v3 c
          ∧ r.2.mem ((c.tc : Thread Cert.AdamCvOutIdeal.nD Cert.AdamCvOutIdeal.τ).loc Cert.AdamCvOutIdeal.main_arg0) = m ((c.tc : Thread Cert.AdamCvOutIdeal.nD Cert.AdamCvOutIdeal.τ).loc Cert.AdamCvOutIdeal.main_arg0)
          ∧ r.2.mem ((c.tc : Thread Cert.AdamCvOutIdeal.nD Cert.AdamCvOutIdeal.τ).loc Cert.AdamCvOutIdeal.main_arg1) = m ((c.tc : Thread Cert.AdamCvOutIdeal.nD Cert.AdamCvOutIdeal.τ).loc Cert.AdamCvOutIdeal.main_arg1)
          ∧ r.2.mem ((c.tc : Thread Cert.AdamCvOutIdeal.nD Cert.AdamCvOutIdeal.τ).loc Cert.AdamCvOutIdeal.main_arg2) = m ((c.tc : Thread Cert.AdamCvOutIdeal.nD Cert.AdamCvOutIdeal.τ).loc Cert.AdamCvOutIdeal.main_arg2)
          ∧ r.2.mem ((c.tc : Thread Cert.AdamCvOutIdeal.nD Cert.AdamCvOutIdeal.τ).loc Cert.AdamCvOutIdeal.main_arg3) = m ((c.tc : Thread Cert.AdamCvOutIdeal.nD Cert.AdamCvOutIdeal.τ).loc Cert.AdamCvOutIdeal.main_arg3)
          ∧ r.2.mem ((c.tc : Thread Cert.AdamCvOutIdeal.nD Cert.AdamCvOutIdeal.τ).loc Cert.AdamCvOutIdeal.main_arg4) = m ((c.tc : Thread Cert.AdamCvOutIdeal.nD Cert.AdamCvOutIdeal.τ).loc Cert.AdamCvOutIdeal.main_arg4))
      ∧ θ_run (Cert.AdamCvOutRefIdeal.defs (F := Ideal)) (onTc (τ := Cert.AdamCvOutRefIdeal.τ) (Cert.AdamCvOutRefIdeal.main (F := Ideal))) ⟨m', fun _ => 0, g'⟩ (fun r => ∀ c : Dev Cert.AdamCvOutRefIdeal.nD,
          r.2.mem ((c.tc : Thread Cert.AdamCvOutRefIdeal.nD Cert.AdamCvOutRefIdeal.τ).loc Cert.AdamCvOutRefIdeal.main_v6) = v0 c
          ∧ r.2.mem ((c.tc : Thread Cert.AdamCvOutRefIdeal.nD Cert.AdamCvOutRefIdeal.τ).loc Cert.AdamCvOutRefIdeal.main_v30) = v1 c
          ∧ r.2.mem ((c.tc : Thread Cert.AdamCvOutRefIdeal.nD Cert.AdamCvOutRefIdeal.τ).loc Cert.AdamCvOutRefIdeal.main_v11) = v2 c
          ∧ r.2.mem ((c.tc : Thread Cert.AdamCvOutRefIdeal.nD Cert.AdamCvOutRefIdeal.τ).loc Cert.AdamCvOutRefIdeal.main_v17) = v3 c
          ∧ r.2.mem ((c.tc : Thread Cert.AdamCvOutRefIdeal.nD Cert.AdamCvOutRefIdeal.τ).loc Cert.AdamCvOutRefIdeal.main_arg0) = m' ((c.tc : Thread Cert.AdamCvOutRefIdeal.nD Cert.AdamCvOutRefIdeal.τ).loc Cert.AdamCvOutRefIdeal.main_arg0)
          ∧ r.2.mem ((c.tc : Thread Cert.AdamCvOutRefIdeal.nD Cert.AdamCvOutRefIdeal.τ).loc Cert.AdamCvOutRefIdeal.main_arg1) = m' ((c.tc : Thread Cert.AdamCvOutRefIdeal.nD Cert.AdamCvOutRefIdeal.τ).loc Cert.AdamCvOutRefIdeal.main_arg1)
          ∧ r.2.mem ((c.tc : Thread Cert.AdamCvOutRefIdeal.nD Cert.AdamCvOutRefIdeal.τ).loc Cert.AdamCvOutRefIdeal.main_arg2) = m' ((c.tc : Thread Cert.AdamCvOutRefIdeal.nD Cert.AdamCvOutRefIdeal.τ).loc Cert.AdamCvOutRefIdeal.main_arg2)
          ∧ r.2.mem ((c.tc : Thread Cert.AdamCvOutRefIdeal.nD Cert.AdamCvOutRefIdeal.τ).loc Cert.AdamCvOutRefIdeal.main_arg3) = m' ((c.tc : Thread Cert.AdamCvOutRefIdeal.nD Cert.AdamCvOutRefIdeal.τ).loc Cert.AdamCvOutRefIdeal.main_arg3)
          ∧ r.2.mem ((c.tc : Thread Cert.AdamCvOutRefIdeal.nD Cert.AdamCvOutRefIdeal.τ).loc Cert.AdamCvOutRefIdeal.main_arg4) = m' ((c.tc : Thread Cert.AdamCvOutRefIdeal.nD Cert.AdamCvOutRefIdeal.τ).loc Cert.AdamCvOutRefIdeal.main_arg4))

def preserves_AdamSsmIn_AdamSsmInIdeal : Prop :=
  True

def algebraic_AdamSsmInIdeal_AdamSsmInRefIdeal [hAdamSsmInIdeal : Cert.AdamSsmInIdeal.Facts] [hAdamSsmInRefIdeal : Cert.AdamSsmInRefIdeal.Facts] : Prop :=
  ∀ (m : (ℓ : Loc Cert.AdamSsmInIdeal.nD Cert.AdamSsmInIdeal.τ Cert.AdamSsmInIdeal.sig) → Buf (Elt Ideal) ℓ) (g : Dev Cert.AdamSsmInIdeal.nD → PrngReg)
    (m' : (ℓ : Loc Cert.AdamSsmInRefIdeal.nD Cert.AdamSsmInRefIdeal.τ Cert.AdamSsmInRefIdeal.sig) → Buf (Elt Ideal) ℓ) (g' : Dev Cert.AdamSsmInRefIdeal.nD → PrngReg), Pre_AdamSsmInIdeal m →
    (∀ c : Dev Cert.AdamSsmInIdeal.nD,
      m' ((c.tc : Thread Cert.AdamSsmInRefIdeal.nD Cert.AdamSsmInRefIdeal.τ).loc Cert.AdamSsmInRefIdeal.main_arg0) = m ((c.tc : Thread Cert.AdamSsmInIdeal.nD Cert.AdamSsmInIdeal.τ).loc Cert.AdamSsmInIdeal.main_arg0)
      ∧ m' ((c.tc : Thread Cert.AdamSsmInRefIdeal.nD Cert.AdamSsmInRefIdeal.τ).loc Cert.AdamSsmInRefIdeal.main_arg1) = m ((c.tc : Thread Cert.AdamSsmInIdeal.nD Cert.AdamSsmInIdeal.τ).loc Cert.AdamSsmInIdeal.main_arg1)
      ∧ m' ((c.tc : Thread Cert.AdamSsmInRefIdeal.nD Cert.AdamSsmInRefIdeal.τ).loc Cert.AdamSsmInRefIdeal.main_arg2) = m ((c.tc : Thread Cert.AdamSsmInIdeal.nD Cert.AdamSsmInIdeal.τ).loc Cert.AdamSsmInIdeal.main_arg2)
      ∧ m' ((c.tc : Thread Cert.AdamSsmInRefIdeal.nD Cert.AdamSsmInRefIdeal.τ).loc Cert.AdamSsmInRefIdeal.main_arg3) = m ((c.tc : Thread Cert.AdamSsmInIdeal.nD Cert.AdamSsmInIdeal.τ).loc Cert.AdamSsmInIdeal.main_arg3)
      ∧ m' ((c.tc : Thread Cert.AdamSsmInRefIdeal.nD Cert.AdamSsmInRefIdeal.τ).loc Cert.AdamSsmInRefIdeal.main_arg4) = m ((c.tc : Thread Cert.AdamSsmInIdeal.nD Cert.AdamSsmInIdeal.τ).loc Cert.AdamSsmInIdeal.main_arg4)) →
    ∃ (v0 : (c : Dev Cert.AdamSsmInIdeal.nD) → Buf (Elt Ideal) ((c.tc : Thread Cert.AdamSsmInIdeal.nD Cert.AdamSsmInIdeal.τ).loc Cert.AdamSsmInIdeal.main_v0_0)) (v1 : (c : Dev Cert.AdamSsmInIdeal.nD) → Buf (Elt Ideal) ((c.tc : Thread Cert.AdamSsmInIdeal.nD Cert.AdamSsmInIdeal.τ).loc Cert.AdamSsmInIdeal.main_v0_1)) (v2 : (c : Dev Cert.AdamSsmInIdeal.nD) → Buf (Elt Ideal) ((c.tc : Thread Cert.AdamSsmInIdeal.nD Cert.AdamSsmInIdeal.τ).loc Cert.AdamSsmInIdeal.main_v0_2)) (v3 : (c : Dev Cert.AdamSsmInIdeal.nD) → Buf (Elt Ideal) ((c.tc : Thread Cert.AdamSsmInIdeal.nD Cert.AdamSsmInIdeal.τ).loc Cert.AdamSsmInIdeal.main_v0_3)),
      θ_run (Cert.AdamSsmInIdeal.defs (F := Ideal)) (onTc (τ := Cert.AdamSsmInIdeal.τ) (Cert.AdamSsmInIdeal.main (F := Ideal))) ⟨m, fun _ => 0, g⟩ (fun r => ∀ c : Dev Cert.AdamSsmInIdeal.nD,
          r.2.mem ((c.tc : Thread Cert.AdamSsmInIdeal.nD Cert.AdamSsmInIdeal.τ).loc Cert.AdamSsmInIdeal.main_v0_0) = v0 c
          ∧ r.2.mem ((c.tc : Thread Cert.AdamSsmInIdeal.nD Cert.AdamSsmInIdeal.τ).loc Cert.AdamSsmInIdeal.main_v0_1) = v1 c
          ∧ r.2.mem ((c.tc : Thread Cert.AdamSsmInIdeal.nD Cert.AdamSsmInIdeal.τ).loc Cert.AdamSsmInIdeal.main_v0_2) = v2 c
          ∧ r.2.mem ((c.tc : Thread Cert.AdamSsmInIdeal.nD Cert.AdamSsmInIdeal.τ).loc Cert.AdamSsmInIdeal.main_v0_3) = v3 c
          ∧ r.2.mem ((c.tc : Thread Cert.AdamSsmInIdeal.nD Cert.AdamSsmInIdeal.τ).loc Cert.AdamSsmInIdeal.main_arg0) = m ((c.tc : Thread Cert.AdamSsmInIdeal.nD Cert.AdamSsmInIdeal.τ).loc Cert.AdamSsmInIdeal.main_arg0)
          ∧ r.2.mem ((c.tc : Thread Cert.AdamSsmInIdeal.nD Cert.AdamSsmInIdeal.τ).loc Cert.AdamSsmInIdeal.main_arg1) = m ((c.tc : Thread Cert.AdamSsmInIdeal.nD Cert.AdamSsmInIdeal.τ).loc Cert.AdamSsmInIdeal.main_arg1)
          ∧ r.2.mem ((c.tc : Thread Cert.AdamSsmInIdeal.nD Cert.AdamSsmInIdeal.τ).loc Cert.AdamSsmInIdeal.main_arg2) = m ((c.tc : Thread Cert.AdamSsmInIdeal.nD Cert.AdamSsmInIdeal.τ).loc Cert.AdamSsmInIdeal.main_arg2)
          ∧ r.2.mem ((c.tc : Thread Cert.AdamSsmInIdeal.nD Cert.AdamSsmInIdeal.τ).loc Cert.AdamSsmInIdeal.main_arg3) = m ((c.tc : Thread Cert.AdamSsmInIdeal.nD Cert.AdamSsmInIdeal.τ).loc Cert.AdamSsmInIdeal.main_arg3)
          ∧ r.2.mem ((c.tc : Thread Cert.AdamSsmInIdeal.nD Cert.AdamSsmInIdeal.τ).loc Cert.AdamSsmInIdeal.main_arg4) = m ((c.tc : Thread Cert.AdamSsmInIdeal.nD Cert.AdamSsmInIdeal.τ).loc Cert.AdamSsmInIdeal.main_arg4))
      ∧ θ_run (Cert.AdamSsmInRefIdeal.defs (F := Ideal)) (onTc (τ := Cert.AdamSsmInRefIdeal.τ) (Cert.AdamSsmInRefIdeal.main (F := Ideal))) ⟨m', fun _ => 0, g'⟩ (fun r => ∀ c : Dev Cert.AdamSsmInRefIdeal.nD,
          r.2.mem ((c.tc : Thread Cert.AdamSsmInRefIdeal.nD Cert.AdamSsmInRefIdeal.τ).loc Cert.AdamSsmInRefIdeal.main_v6) = v0 c
          ∧ r.2.mem ((c.tc : Thread Cert.AdamSsmInRefIdeal.nD Cert.AdamSsmInRefIdeal.τ).loc Cert.AdamSsmInRefIdeal.main_v30) = v1 c
          ∧ r.2.mem ((c.tc : Thread Cert.AdamSsmInRefIdeal.nD Cert.AdamSsmInRefIdeal.τ).loc Cert.AdamSsmInRefIdeal.main_v11) = v2 c
          ∧ r.2.mem ((c.tc : Thread Cert.AdamSsmInRefIdeal.nD Cert.AdamSsmInRefIdeal.τ).loc Cert.AdamSsmInRefIdeal.main_v17) = v3 c
          ∧ r.2.mem ((c.tc : Thread Cert.AdamSsmInRefIdeal.nD Cert.AdamSsmInRefIdeal.τ).loc Cert.AdamSsmInRefIdeal.main_arg0) = m' ((c.tc : Thread Cert.AdamSsmInRefIdeal.nD Cert.AdamSsmInRefIdeal.τ).loc Cert.AdamSsmInRefIdeal.main_arg0)
          ∧ r.2.mem ((c.tc : Thread Cert.AdamSsmInRefIdeal.nD Cert.AdamSsmInRefIdeal.τ).loc Cert.AdamSsmInRefIdeal.main_arg1) = m' ((c.tc : Thread Cert.AdamSsmInRefIdeal.nD Cert.AdamSsmInRefIdeal.τ).loc Cert.AdamSsmInRefIdeal.main_arg1)
          ∧ r.2.mem ((c.tc : Thread Cert.AdamSsmInRefIdeal.nD Cert.AdamSsmInRefIdeal.τ).loc Cert.AdamSsmInRefIdeal.main_arg2) = m' ((c.tc : Thread Cert.AdamSsmInRefIdeal.nD Cert.AdamSsmInRefIdeal.τ).loc Cert.AdamSsmInRefIdeal.main_arg2)
          ∧ r.2.mem ((c.tc : Thread Cert.AdamSsmInRefIdeal.nD Cert.AdamSsmInRefIdeal.τ).loc Cert.AdamSsmInRefIdeal.main_arg3) = m' ((c.tc : Thread Cert.AdamSsmInRefIdeal.nD Cert.AdamSsmInRefIdeal.τ).loc Cert.AdamSsmInRefIdeal.main_arg3)
          ∧ r.2.mem ((c.tc : Thread Cert.AdamSsmInRefIdeal.nD Cert.AdamSsmInRefIdeal.τ).loc Cert.AdamSsmInRefIdeal.main_arg4) = m' ((c.tc : Thread Cert.AdamSsmInRefIdeal.nD Cert.AdamSsmInRefIdeal.τ).loc Cert.AdamSsmInRefIdeal.main_arg4))

def preserves_AdamSsmOut_AdamSsmOutIdeal : Prop :=
  True

def algebraic_AdamSsmOutIdeal_AdamSsmOutRefIdeal [hAdamSsmOutIdeal : Cert.AdamSsmOutIdeal.Facts] [hAdamSsmOutRefIdeal : Cert.AdamSsmOutRefIdeal.Facts] : Prop :=
  ∀ (m : (ℓ : Loc Cert.AdamSsmOutIdeal.nD Cert.AdamSsmOutIdeal.τ Cert.AdamSsmOutIdeal.sig) → Buf (Elt Ideal) ℓ) (g : Dev Cert.AdamSsmOutIdeal.nD → PrngReg)
    (m' : (ℓ : Loc Cert.AdamSsmOutRefIdeal.nD Cert.AdamSsmOutRefIdeal.τ Cert.AdamSsmOutRefIdeal.sig) → Buf (Elt Ideal) ℓ) (g' : Dev Cert.AdamSsmOutRefIdeal.nD → PrngReg), Pre_AdamSsmOutIdeal m →
    (∀ c : Dev Cert.AdamSsmOutIdeal.nD,
      m' ((c.tc : Thread Cert.AdamSsmOutRefIdeal.nD Cert.AdamSsmOutRefIdeal.τ).loc Cert.AdamSsmOutRefIdeal.main_arg0) = m ((c.tc : Thread Cert.AdamSsmOutIdeal.nD Cert.AdamSsmOutIdeal.τ).loc Cert.AdamSsmOutIdeal.main_arg0)
      ∧ m' ((c.tc : Thread Cert.AdamSsmOutRefIdeal.nD Cert.AdamSsmOutRefIdeal.τ).loc Cert.AdamSsmOutRefIdeal.main_arg1) = m ((c.tc : Thread Cert.AdamSsmOutIdeal.nD Cert.AdamSsmOutIdeal.τ).loc Cert.AdamSsmOutIdeal.main_arg1)
      ∧ m' ((c.tc : Thread Cert.AdamSsmOutRefIdeal.nD Cert.AdamSsmOutRefIdeal.τ).loc Cert.AdamSsmOutRefIdeal.main_arg2) = m ((c.tc : Thread Cert.AdamSsmOutIdeal.nD Cert.AdamSsmOutIdeal.τ).loc Cert.AdamSsmOutIdeal.main_arg2)
      ∧ m' ((c.tc : Thread Cert.AdamSsmOutRefIdeal.nD Cert.AdamSsmOutRefIdeal.τ).loc Cert.AdamSsmOutRefIdeal.main_arg3) = m ((c.tc : Thread Cert.AdamSsmOutIdeal.nD Cert.AdamSsmOutIdeal.τ).loc Cert.AdamSsmOutIdeal.main_arg3)
      ∧ m' ((c.tc : Thread Cert.AdamSsmOutRefIdeal.nD Cert.AdamSsmOutRefIdeal.τ).loc Cert.AdamSsmOutRefIdeal.main_arg4) = m ((c.tc : Thread Cert.AdamSsmOutIdeal.nD Cert.AdamSsmOutIdeal.τ).loc Cert.AdamSsmOutIdeal.main_arg4)) →
    ∃ (v0 : (c : Dev Cert.AdamSsmOutIdeal.nD) → Buf (Elt Ideal) ((c.tc : Thread Cert.AdamSsmOutIdeal.nD Cert.AdamSsmOutIdeal.τ).loc Cert.AdamSsmOutIdeal.main_v0_0)) (v1 : (c : Dev Cert.AdamSsmOutIdeal.nD) → Buf (Elt Ideal) ((c.tc : Thread Cert.AdamSsmOutIdeal.nD Cert.AdamSsmOutIdeal.τ).loc Cert.AdamSsmOutIdeal.main_v0_1)) (v2 : (c : Dev Cert.AdamSsmOutIdeal.nD) → Buf (Elt Ideal) ((c.tc : Thread Cert.AdamSsmOutIdeal.nD Cert.AdamSsmOutIdeal.τ).loc Cert.AdamSsmOutIdeal.main_v0_2)) (v3 : (c : Dev Cert.AdamSsmOutIdeal.nD) → Buf (Elt Ideal) ((c.tc : Thread Cert.AdamSsmOutIdeal.nD Cert.AdamSsmOutIdeal.τ).loc Cert.AdamSsmOutIdeal.main_v0_3)),
      θ_run (Cert.AdamSsmOutIdeal.defs (F := Ideal)) (onTc (τ := Cert.AdamSsmOutIdeal.τ) (Cert.AdamSsmOutIdeal.main (F := Ideal))) ⟨m, fun _ => 0, g⟩ (fun r => ∀ c : Dev Cert.AdamSsmOutIdeal.nD,
          r.2.mem ((c.tc : Thread Cert.AdamSsmOutIdeal.nD Cert.AdamSsmOutIdeal.τ).loc Cert.AdamSsmOutIdeal.main_v0_0) = v0 c
          ∧ r.2.mem ((c.tc : Thread Cert.AdamSsmOutIdeal.nD Cert.AdamSsmOutIdeal.τ).loc Cert.AdamSsmOutIdeal.main_v0_1) = v1 c
          ∧ r.2.mem ((c.tc : Thread Cert.AdamSsmOutIdeal.nD Cert.AdamSsmOutIdeal.τ).loc Cert.AdamSsmOutIdeal.main_v0_2) = v2 c
          ∧ r.2.mem ((c.tc : Thread Cert.AdamSsmOutIdeal.nD Cert.AdamSsmOutIdeal.τ).loc Cert.AdamSsmOutIdeal.main_v0_3) = v3 c
          ∧ r.2.mem ((c.tc : Thread Cert.AdamSsmOutIdeal.nD Cert.AdamSsmOutIdeal.τ).loc Cert.AdamSsmOutIdeal.main_arg0) = m ((c.tc : Thread Cert.AdamSsmOutIdeal.nD Cert.AdamSsmOutIdeal.τ).loc Cert.AdamSsmOutIdeal.main_arg0)
          ∧ r.2.mem ((c.tc : Thread Cert.AdamSsmOutIdeal.nD Cert.AdamSsmOutIdeal.τ).loc Cert.AdamSsmOutIdeal.main_arg1) = m ((c.tc : Thread Cert.AdamSsmOutIdeal.nD Cert.AdamSsmOutIdeal.τ).loc Cert.AdamSsmOutIdeal.main_arg1)
          ∧ r.2.mem ((c.tc : Thread Cert.AdamSsmOutIdeal.nD Cert.AdamSsmOutIdeal.τ).loc Cert.AdamSsmOutIdeal.main_arg2) = m ((c.tc : Thread Cert.AdamSsmOutIdeal.nD Cert.AdamSsmOutIdeal.τ).loc Cert.AdamSsmOutIdeal.main_arg2)
          ∧ r.2.mem ((c.tc : Thread Cert.AdamSsmOutIdeal.nD Cert.AdamSsmOutIdeal.τ).loc Cert.AdamSsmOutIdeal.main_arg3) = m ((c.tc : Thread Cert.AdamSsmOutIdeal.nD Cert.AdamSsmOutIdeal.τ).loc Cert.AdamSsmOutIdeal.main_arg3)
          ∧ r.2.mem ((c.tc : Thread Cert.AdamSsmOutIdeal.nD Cert.AdamSsmOutIdeal.τ).loc Cert.AdamSsmOutIdeal.main_arg4) = m ((c.tc : Thread Cert.AdamSsmOutIdeal.nD Cert.AdamSsmOutIdeal.τ).loc Cert.AdamSsmOutIdeal.main_arg4))
      ∧ θ_run (Cert.AdamSsmOutRefIdeal.defs (F := Ideal)) (onTc (τ := Cert.AdamSsmOutRefIdeal.τ) (Cert.AdamSsmOutRefIdeal.main (F := Ideal))) ⟨m', fun _ => 0, g'⟩ (fun r => ∀ c : Dev Cert.AdamSsmOutRefIdeal.nD,
          r.2.mem ((c.tc : Thread Cert.AdamSsmOutRefIdeal.nD Cert.AdamSsmOutRefIdeal.τ).loc Cert.AdamSsmOutRefIdeal.main_v6) = v0 c
          ∧ r.2.mem ((c.tc : Thread Cert.AdamSsmOutRefIdeal.nD Cert.AdamSsmOutRefIdeal.τ).loc Cert.AdamSsmOutRefIdeal.main_v30) = v1 c
          ∧ r.2.mem ((c.tc : Thread Cert.AdamSsmOutRefIdeal.nD Cert.AdamSsmOutRefIdeal.τ).loc Cert.AdamSsmOutRefIdeal.main_v11) = v2 c
          ∧ r.2.mem ((c.tc : Thread Cert.AdamSsmOutRefIdeal.nD Cert.AdamSsmOutRefIdeal.τ).loc Cert.AdamSsmOutRefIdeal.main_v17) = v3 c
          ∧ r.2.mem ((c.tc : Thread Cert.AdamSsmOutRefIdeal.nD Cert.AdamSsmOutRefIdeal.τ).loc Cert.AdamSsmOutRefIdeal.main_arg0) = m' ((c.tc : Thread Cert.AdamSsmOutRefIdeal.nD Cert.AdamSsmOutRefIdeal.τ).loc Cert.AdamSsmOutRefIdeal.main_arg0)
          ∧ r.2.mem ((c.tc : Thread Cert.AdamSsmOutRefIdeal.nD Cert.AdamSsmOutRefIdeal.τ).loc Cert.AdamSsmOutRefIdeal.main_arg1) = m' ((c.tc : Thread Cert.AdamSsmOutRefIdeal.nD Cert.AdamSsmOutRefIdeal.τ).loc Cert.AdamSsmOutRefIdeal.main_arg1)
          ∧ r.2.mem ((c.tc : Thread Cert.AdamSsmOutRefIdeal.nD Cert.AdamSsmOutRefIdeal.τ).loc Cert.AdamSsmOutRefIdeal.main_arg2) = m' ((c.tc : Thread Cert.AdamSsmOutRefIdeal.nD Cert.AdamSsmOutRefIdeal.τ).loc Cert.AdamSsmOutRefIdeal.main_arg2)
          ∧ r.2.mem ((c.tc : Thread Cert.AdamSsmOutRefIdeal.nD Cert.AdamSsmOutRefIdeal.τ).loc Cert.AdamSsmOutRefIdeal.main_arg3) = m' ((c.tc : Thread Cert.AdamSsmOutRefIdeal.nD Cert.AdamSsmOutRefIdeal.τ).loc Cert.AdamSsmOutRefIdeal.main_arg3)
          ∧ r.2.mem ((c.tc : Thread Cert.AdamSsmOutRefIdeal.nD Cert.AdamSsmOutRefIdeal.τ).loc Cert.AdamSsmOutRefIdeal.main_arg4) = m' ((c.tc : Thread Cert.AdamSsmOutRefIdeal.nD Cert.AdamSsmOutRefIdeal.τ).loc Cert.AdamSsmOutRefIdeal.main_arg4))

def preserves_AdamFfnUp_AdamFfnUpIdeal : Prop :=
  True

def algebraic_AdamFfnUpIdeal_AdamFfnUpRefIdeal [hAdamFfnUpIdeal : Cert.AdamFfnUpIdeal.Facts] [hAdamFfnUpRefIdeal : Cert.AdamFfnUpRefIdeal.Facts] : Prop :=
  ∀ (m : (ℓ : Loc Cert.AdamFfnUpIdeal.nD Cert.AdamFfnUpIdeal.τ Cert.AdamFfnUpIdeal.sig) → Buf (Elt Ideal) ℓ) (g : Dev Cert.AdamFfnUpIdeal.nD → PrngReg)
    (m' : (ℓ : Loc Cert.AdamFfnUpRefIdeal.nD Cert.AdamFfnUpRefIdeal.τ Cert.AdamFfnUpRefIdeal.sig) → Buf (Elt Ideal) ℓ) (g' : Dev Cert.AdamFfnUpRefIdeal.nD → PrngReg), Pre_AdamFfnUpIdeal m →
    (∀ c : Dev Cert.AdamFfnUpIdeal.nD,
      m' ((c.tc : Thread Cert.AdamFfnUpRefIdeal.nD Cert.AdamFfnUpRefIdeal.τ).loc Cert.AdamFfnUpRefIdeal.main_arg0) = m ((c.tc : Thread Cert.AdamFfnUpIdeal.nD Cert.AdamFfnUpIdeal.τ).loc Cert.AdamFfnUpIdeal.main_arg0)
      ∧ m' ((c.tc : Thread Cert.AdamFfnUpRefIdeal.nD Cert.AdamFfnUpRefIdeal.τ).loc Cert.AdamFfnUpRefIdeal.main_arg1) = m ((c.tc : Thread Cert.AdamFfnUpIdeal.nD Cert.AdamFfnUpIdeal.τ).loc Cert.AdamFfnUpIdeal.main_arg1)
      ∧ m' ((c.tc : Thread Cert.AdamFfnUpRefIdeal.nD Cert.AdamFfnUpRefIdeal.τ).loc Cert.AdamFfnUpRefIdeal.main_arg2) = m ((c.tc : Thread Cert.AdamFfnUpIdeal.nD Cert.AdamFfnUpIdeal.τ).loc Cert.AdamFfnUpIdeal.main_arg2)
      ∧ m' ((c.tc : Thread Cert.AdamFfnUpRefIdeal.nD Cert.AdamFfnUpRefIdeal.τ).loc Cert.AdamFfnUpRefIdeal.main_arg3) = m ((c.tc : Thread Cert.AdamFfnUpIdeal.nD Cert.AdamFfnUpIdeal.τ).loc Cert.AdamFfnUpIdeal.main_arg3)
      ∧ m' ((c.tc : Thread Cert.AdamFfnUpRefIdeal.nD Cert.AdamFfnUpRefIdeal.τ).loc Cert.AdamFfnUpRefIdeal.main_arg4) = m ((c.tc : Thread Cert.AdamFfnUpIdeal.nD Cert.AdamFfnUpIdeal.τ).loc Cert.AdamFfnUpIdeal.main_arg4)
      ∧ m' ((c.tc : Thread Cert.AdamFfnUpRefIdeal.nD Cert.AdamFfnUpRefIdeal.τ).loc Cert.AdamFfnUpRefIdeal.main_arg5) = m ((c.tc : Thread Cert.AdamFfnUpIdeal.nD Cert.AdamFfnUpIdeal.τ).loc Cert.AdamFfnUpIdeal.main_arg5)
      ∧ m' ((c.tc : Thread Cert.AdamFfnUpRefIdeal.nD Cert.AdamFfnUpRefIdeal.τ).loc Cert.AdamFfnUpRefIdeal.main_arg6) = m ((c.tc : Thread Cert.AdamFfnUpIdeal.nD Cert.AdamFfnUpIdeal.τ).loc Cert.AdamFfnUpIdeal.main_arg6)) →
    ∃ (v0 : (c : Dev Cert.AdamFfnUpIdeal.nD) → Buf (Elt Ideal) ((c.tc : Thread Cert.AdamFfnUpIdeal.nD Cert.AdamFfnUpIdeal.τ).loc Cert.AdamFfnUpIdeal.main_v0_0)) (v1 : (c : Dev Cert.AdamFfnUpIdeal.nD) → Buf (Elt Ideal) ((c.tc : Thread Cert.AdamFfnUpIdeal.nD Cert.AdamFfnUpIdeal.τ).loc Cert.AdamFfnUpIdeal.main_v0_1)) (v2 : (c : Dev Cert.AdamFfnUpIdeal.nD) → Buf (Elt Ideal) ((c.tc : Thread Cert.AdamFfnUpIdeal.nD Cert.AdamFfnUpIdeal.τ).loc Cert.AdamFfnUpIdeal.main_v0_2)) (v3 : (c : Dev Cert.AdamFfnUpIdeal.nD) → Buf (Elt Ideal) ((c.tc : Thread Cert.AdamFfnUpIdeal.nD Cert.AdamFfnUpIdeal.τ).loc Cert.AdamFfnUpIdeal.main_v0_3)),
      θ_run (Cert.AdamFfnUpIdeal.defs (F := Ideal)) (onTc (τ := Cert.AdamFfnUpIdeal.τ) (Cert.AdamFfnUpIdeal.main (F := Ideal))) ⟨m, fun _ => 0, g⟩ (fun r => ∀ c : Dev Cert.AdamFfnUpIdeal.nD,
          r.2.mem ((c.tc : Thread Cert.AdamFfnUpIdeal.nD Cert.AdamFfnUpIdeal.τ).loc Cert.AdamFfnUpIdeal.main_v0_0) = v0 c
          ∧ r.2.mem ((c.tc : Thread Cert.AdamFfnUpIdeal.nD Cert.AdamFfnUpIdeal.τ).loc Cert.AdamFfnUpIdeal.main_v0_1) = v1 c
          ∧ r.2.mem ((c.tc : Thread Cert.AdamFfnUpIdeal.nD Cert.AdamFfnUpIdeal.τ).loc Cert.AdamFfnUpIdeal.main_v0_2) = v2 c
          ∧ r.2.mem ((c.tc : Thread Cert.AdamFfnUpIdeal.nD Cert.AdamFfnUpIdeal.τ).loc Cert.AdamFfnUpIdeal.main_v0_3) = v3 c
          ∧ r.2.mem ((c.tc : Thread Cert.AdamFfnUpIdeal.nD Cert.AdamFfnUpIdeal.τ).loc Cert.AdamFfnUpIdeal.main_arg0) = m ((c.tc : Thread Cert.AdamFfnUpIdeal.nD Cert.AdamFfnUpIdeal.τ).loc Cert.AdamFfnUpIdeal.main_arg0)
          ∧ r.2.mem ((c.tc : Thread Cert.AdamFfnUpIdeal.nD Cert.AdamFfnUpIdeal.τ).loc Cert.AdamFfnUpIdeal.main_arg1) = m ((c.tc : Thread Cert.AdamFfnUpIdeal.nD Cert.AdamFfnUpIdeal.τ).loc Cert.AdamFfnUpIdeal.main_arg1)
          ∧ r.2.mem ((c.tc : Thread Cert.AdamFfnUpIdeal.nD Cert.AdamFfnUpIdeal.τ).loc Cert.AdamFfnUpIdeal.main_arg2) = m ((c.tc : Thread Cert.AdamFfnUpIdeal.nD Cert.AdamFfnUpIdeal.τ).loc Cert.AdamFfnUpIdeal.main_arg2)
          ∧ r.2.mem ((c.tc : Thread Cert.AdamFfnUpIdeal.nD Cert.AdamFfnUpIdeal.τ).loc Cert.AdamFfnUpIdeal.main_arg3) = m ((c.tc : Thread Cert.AdamFfnUpIdeal.nD Cert.AdamFfnUpIdeal.τ).loc Cert.AdamFfnUpIdeal.main_arg3)
          ∧ r.2.mem ((c.tc : Thread Cert.AdamFfnUpIdeal.nD Cert.AdamFfnUpIdeal.τ).loc Cert.AdamFfnUpIdeal.main_arg4) = m ((c.tc : Thread Cert.AdamFfnUpIdeal.nD Cert.AdamFfnUpIdeal.τ).loc Cert.AdamFfnUpIdeal.main_arg4)
          ∧ r.2.mem ((c.tc : Thread Cert.AdamFfnUpIdeal.nD Cert.AdamFfnUpIdeal.τ).loc Cert.AdamFfnUpIdeal.main_arg5) = m ((c.tc : Thread Cert.AdamFfnUpIdeal.nD Cert.AdamFfnUpIdeal.τ).loc Cert.AdamFfnUpIdeal.main_arg5)
          ∧ r.2.mem ((c.tc : Thread Cert.AdamFfnUpIdeal.nD Cert.AdamFfnUpIdeal.τ).loc Cert.AdamFfnUpIdeal.main_arg6) = m ((c.tc : Thread Cert.AdamFfnUpIdeal.nD Cert.AdamFfnUpIdeal.τ).loc Cert.AdamFfnUpIdeal.main_arg6))
      ∧ θ_run (Cert.AdamFfnUpRefIdeal.defs (F := Ideal)) (onTc (τ := Cert.AdamFfnUpRefIdeal.τ) (Cert.AdamFfnUpRefIdeal.main (F := Ideal))) ⟨m', fun _ => 0, g'⟩ (fun r => ∀ c : Dev Cert.AdamFfnUpRefIdeal.nD,
          r.2.mem ((c.tc : Thread Cert.AdamFfnUpRefIdeal.nD Cert.AdamFfnUpRefIdeal.τ).loc Cert.AdamFfnUpRefIdeal.main_v12) = v0 c
          ∧ r.2.mem ((c.tc : Thread Cert.AdamFfnUpRefIdeal.nD Cert.AdamFfnUpRefIdeal.τ).loc Cert.AdamFfnUpRefIdeal.main_v36) = v1 c
          ∧ r.2.mem ((c.tc : Thread Cert.AdamFfnUpRefIdeal.nD Cert.AdamFfnUpRefIdeal.τ).loc Cert.AdamFfnUpRefIdeal.main_v17) = v2 c
          ∧ r.2.mem ((c.tc : Thread Cert.AdamFfnUpRefIdeal.nD Cert.AdamFfnUpRefIdeal.τ).loc Cert.AdamFfnUpRefIdeal.main_v23) = v3 c
          ∧ r.2.mem ((c.tc : Thread Cert.AdamFfnUpRefIdeal.nD Cert.AdamFfnUpRefIdeal.τ).loc Cert.AdamFfnUpRefIdeal.main_arg0) = m' ((c.tc : Thread Cert.AdamFfnUpRefIdeal.nD Cert.AdamFfnUpRefIdeal.τ).loc Cert.AdamFfnUpRefIdeal.main_arg0)
          ∧ r.2.mem ((c.tc : Thread Cert.AdamFfnUpRefIdeal.nD Cert.AdamFfnUpRefIdeal.τ).loc Cert.AdamFfnUpRefIdeal.main_arg1) = m' ((c.tc : Thread Cert.AdamFfnUpRefIdeal.nD Cert.AdamFfnUpRefIdeal.τ).loc Cert.AdamFfnUpRefIdeal.main_arg1)
          ∧ r.2.mem ((c.tc : Thread Cert.AdamFfnUpRefIdeal.nD Cert.AdamFfnUpRefIdeal.τ).loc Cert.AdamFfnUpRefIdeal.main_arg2) = m' ((c.tc : Thread Cert.AdamFfnUpRefIdeal.nD Cert.AdamFfnUpRefIdeal.τ).loc Cert.AdamFfnUpRefIdeal.main_arg2)
          ∧ r.2.mem ((c.tc : Thread Cert.AdamFfnUpRefIdeal.nD Cert.AdamFfnUpRefIdeal.τ).loc Cert.AdamFfnUpRefIdeal.main_arg3) = m' ((c.tc : Thread Cert.AdamFfnUpRefIdeal.nD Cert.AdamFfnUpRefIdeal.τ).loc Cert.AdamFfnUpRefIdeal.main_arg3)
          ∧ r.2.mem ((c.tc : Thread Cert.AdamFfnUpRefIdeal.nD Cert.AdamFfnUpRefIdeal.τ).loc Cert.AdamFfnUpRefIdeal.main_arg4) = m' ((c.tc : Thread Cert.AdamFfnUpRefIdeal.nD Cert.AdamFfnUpRefIdeal.τ).loc Cert.AdamFfnUpRefIdeal.main_arg4)
          ∧ r.2.mem ((c.tc : Thread Cert.AdamFfnUpRefIdeal.nD Cert.AdamFfnUpRefIdeal.τ).loc Cert.AdamFfnUpRefIdeal.main_arg5) = m' ((c.tc : Thread Cert.AdamFfnUpRefIdeal.nD Cert.AdamFfnUpRefIdeal.τ).loc Cert.AdamFfnUpRefIdeal.main_arg5)
          ∧ r.2.mem ((c.tc : Thread Cert.AdamFfnUpRefIdeal.nD Cert.AdamFfnUpRefIdeal.τ).loc Cert.AdamFfnUpRefIdeal.main_arg6) = m' ((c.tc : Thread Cert.AdamFfnUpRefIdeal.nD Cert.AdamFfnUpRefIdeal.τ).loc Cert.AdamFfnUpRefIdeal.main_arg6))

def preserves_AdamFfnDown_AdamFfnDownIdeal : Prop :=
  True

def algebraic_AdamFfnDownIdeal_AdamFfnDownRefIdeal [hAdamFfnDownIdeal : Cert.AdamFfnDownIdeal.Facts] [hAdamFfnDownRefIdeal : Cert.AdamFfnDownRefIdeal.Facts] : Prop :=
  ∀ (m : (ℓ : Loc Cert.AdamFfnDownIdeal.nD Cert.AdamFfnDownIdeal.τ Cert.AdamFfnDownIdeal.sig) → Buf (Elt Ideal) ℓ) (g : Dev Cert.AdamFfnDownIdeal.nD → PrngReg)
    (m' : (ℓ : Loc Cert.AdamFfnDownRefIdeal.nD Cert.AdamFfnDownRefIdeal.τ Cert.AdamFfnDownRefIdeal.sig) → Buf (Elt Ideal) ℓ) (g' : Dev Cert.AdamFfnDownRefIdeal.nD → PrngReg), Pre_AdamFfnDownIdeal m →
    (∀ c : Dev Cert.AdamFfnDownIdeal.nD,
      m' ((c.tc : Thread Cert.AdamFfnDownRefIdeal.nD Cert.AdamFfnDownRefIdeal.τ).loc Cert.AdamFfnDownRefIdeal.main_arg0) = m ((c.tc : Thread Cert.AdamFfnDownIdeal.nD Cert.AdamFfnDownIdeal.τ).loc Cert.AdamFfnDownIdeal.main_arg0)
      ∧ m' ((c.tc : Thread Cert.AdamFfnDownRefIdeal.nD Cert.AdamFfnDownRefIdeal.τ).loc Cert.AdamFfnDownRefIdeal.main_arg1) = m ((c.tc : Thread Cert.AdamFfnDownIdeal.nD Cert.AdamFfnDownIdeal.τ).loc Cert.AdamFfnDownIdeal.main_arg1)
      ∧ m' ((c.tc : Thread Cert.AdamFfnDownRefIdeal.nD Cert.AdamFfnDownRefIdeal.τ).loc Cert.AdamFfnDownRefIdeal.main_arg2) = m ((c.tc : Thread Cert.AdamFfnDownIdeal.nD Cert.AdamFfnDownIdeal.τ).loc Cert.AdamFfnDownIdeal.main_arg2)
      ∧ m' ((c.tc : Thread Cert.AdamFfnDownRefIdeal.nD Cert.AdamFfnDownRefIdeal.τ).loc Cert.AdamFfnDownRefIdeal.main_arg3) = m ((c.tc : Thread Cert.AdamFfnDownIdeal.nD Cert.AdamFfnDownIdeal.τ).loc Cert.AdamFfnDownIdeal.main_arg3)
      ∧ m' ((c.tc : Thread Cert.AdamFfnDownRefIdeal.nD Cert.AdamFfnDownRefIdeal.τ).loc Cert.AdamFfnDownRefIdeal.main_arg4) = m ((c.tc : Thread Cert.AdamFfnDownIdeal.nD Cert.AdamFfnDownIdeal.τ).loc Cert.AdamFfnDownIdeal.main_arg4)
      ∧ m' ((c.tc : Thread Cert.AdamFfnDownRefIdeal.nD Cert.AdamFfnDownRefIdeal.τ).loc Cert.AdamFfnDownRefIdeal.main_arg5) = m ((c.tc : Thread Cert.AdamFfnDownIdeal.nD Cert.AdamFfnDownIdeal.τ).loc Cert.AdamFfnDownIdeal.main_arg5)
      ∧ m' ((c.tc : Thread Cert.AdamFfnDownRefIdeal.nD Cert.AdamFfnDownRefIdeal.τ).loc Cert.AdamFfnDownRefIdeal.main_arg6) = m ((c.tc : Thread Cert.AdamFfnDownIdeal.nD Cert.AdamFfnDownIdeal.τ).loc Cert.AdamFfnDownIdeal.main_arg6)) →
    ∃ (v0 : (c : Dev Cert.AdamFfnDownIdeal.nD) → Buf (Elt Ideal) ((c.tc : Thread Cert.AdamFfnDownIdeal.nD Cert.AdamFfnDownIdeal.τ).loc Cert.AdamFfnDownIdeal.main_v0_0)) (v1 : (c : Dev Cert.AdamFfnDownIdeal.nD) → Buf (Elt Ideal) ((c.tc : Thread Cert.AdamFfnDownIdeal.nD Cert.AdamFfnDownIdeal.τ).loc Cert.AdamFfnDownIdeal.main_v0_1)) (v2 : (c : Dev Cert.AdamFfnDownIdeal.nD) → Buf (Elt Ideal) ((c.tc : Thread Cert.AdamFfnDownIdeal.nD Cert.AdamFfnDownIdeal.τ).loc Cert.AdamFfnDownIdeal.main_v0_2)) (v3 : (c : Dev Cert.AdamFfnDownIdeal.nD) → Buf (Elt Ideal) ((c.tc : Thread Cert.AdamFfnDownIdeal.nD Cert.AdamFfnDownIdeal.τ).loc Cert.AdamFfnDownIdeal.main_v0_3)),
      θ_run (Cert.AdamFfnDownIdeal.defs (F := Ideal)) (onTc (τ := Cert.AdamFfnDownIdeal.τ) (Cert.AdamFfnDownIdeal.main (F := Ideal))) ⟨m, fun _ => 0, g⟩ (fun r => ∀ c : Dev Cert.AdamFfnDownIdeal.nD,
          r.2.mem ((c.tc : Thread Cert.AdamFfnDownIdeal.nD Cert.AdamFfnDownIdeal.τ).loc Cert.AdamFfnDownIdeal.main_v0_0) = v0 c
          ∧ r.2.mem ((c.tc : Thread Cert.AdamFfnDownIdeal.nD Cert.AdamFfnDownIdeal.τ).loc Cert.AdamFfnDownIdeal.main_v0_1) = v1 c
          ∧ r.2.mem ((c.tc : Thread Cert.AdamFfnDownIdeal.nD Cert.AdamFfnDownIdeal.τ).loc Cert.AdamFfnDownIdeal.main_v0_2) = v2 c
          ∧ r.2.mem ((c.tc : Thread Cert.AdamFfnDownIdeal.nD Cert.AdamFfnDownIdeal.τ).loc Cert.AdamFfnDownIdeal.main_v0_3) = v3 c
          ∧ r.2.mem ((c.tc : Thread Cert.AdamFfnDownIdeal.nD Cert.AdamFfnDownIdeal.τ).loc Cert.AdamFfnDownIdeal.main_arg0) = m ((c.tc : Thread Cert.AdamFfnDownIdeal.nD Cert.AdamFfnDownIdeal.τ).loc Cert.AdamFfnDownIdeal.main_arg0)
          ∧ r.2.mem ((c.tc : Thread Cert.AdamFfnDownIdeal.nD Cert.AdamFfnDownIdeal.τ).loc Cert.AdamFfnDownIdeal.main_arg1) = m ((c.tc : Thread Cert.AdamFfnDownIdeal.nD Cert.AdamFfnDownIdeal.τ).loc Cert.AdamFfnDownIdeal.main_arg1)
          ∧ r.2.mem ((c.tc : Thread Cert.AdamFfnDownIdeal.nD Cert.AdamFfnDownIdeal.τ).loc Cert.AdamFfnDownIdeal.main_arg2) = m ((c.tc : Thread Cert.AdamFfnDownIdeal.nD Cert.AdamFfnDownIdeal.τ).loc Cert.AdamFfnDownIdeal.main_arg2)
          ∧ r.2.mem ((c.tc : Thread Cert.AdamFfnDownIdeal.nD Cert.AdamFfnDownIdeal.τ).loc Cert.AdamFfnDownIdeal.main_arg3) = m ((c.tc : Thread Cert.AdamFfnDownIdeal.nD Cert.AdamFfnDownIdeal.τ).loc Cert.AdamFfnDownIdeal.main_arg3)
          ∧ r.2.mem ((c.tc : Thread Cert.AdamFfnDownIdeal.nD Cert.AdamFfnDownIdeal.τ).loc Cert.AdamFfnDownIdeal.main_arg4) = m ((c.tc : Thread Cert.AdamFfnDownIdeal.nD Cert.AdamFfnDownIdeal.τ).loc Cert.AdamFfnDownIdeal.main_arg4)
          ∧ r.2.mem ((c.tc : Thread Cert.AdamFfnDownIdeal.nD Cert.AdamFfnDownIdeal.τ).loc Cert.AdamFfnDownIdeal.main_arg5) = m ((c.tc : Thread Cert.AdamFfnDownIdeal.nD Cert.AdamFfnDownIdeal.τ).loc Cert.AdamFfnDownIdeal.main_arg5)
          ∧ r.2.mem ((c.tc : Thread Cert.AdamFfnDownIdeal.nD Cert.AdamFfnDownIdeal.τ).loc Cert.AdamFfnDownIdeal.main_arg6) = m ((c.tc : Thread Cert.AdamFfnDownIdeal.nD Cert.AdamFfnDownIdeal.τ).loc Cert.AdamFfnDownIdeal.main_arg6))
      ∧ θ_run (Cert.AdamFfnDownRefIdeal.defs (F := Ideal)) (onTc (τ := Cert.AdamFfnDownRefIdeal.τ) (Cert.AdamFfnDownRefIdeal.main (F := Ideal))) ⟨m', fun _ => 0, g'⟩ (fun r => ∀ c : Dev Cert.AdamFfnDownRefIdeal.nD,
          r.2.mem ((c.tc : Thread Cert.AdamFfnDownRefIdeal.nD Cert.AdamFfnDownRefIdeal.τ).loc Cert.AdamFfnDownRefIdeal.main_v12) = v0 c
          ∧ r.2.mem ((c.tc : Thread Cert.AdamFfnDownRefIdeal.nD Cert.AdamFfnDownRefIdeal.τ).loc Cert.AdamFfnDownRefIdeal.main_v36) = v1 c
          ∧ r.2.mem ((c.tc : Thread Cert.AdamFfnDownRefIdeal.nD Cert.AdamFfnDownRefIdeal.τ).loc Cert.AdamFfnDownRefIdeal.main_v17) = v2 c
          ∧ r.2.mem ((c.tc : Thread Cert.AdamFfnDownRefIdeal.nD Cert.AdamFfnDownRefIdeal.τ).loc Cert.AdamFfnDownRefIdeal.main_v23) = v3 c
          ∧ r.2.mem ((c.tc : Thread Cert.AdamFfnDownRefIdeal.nD Cert.AdamFfnDownRefIdeal.τ).loc Cert.AdamFfnDownRefIdeal.main_arg0) = m' ((c.tc : Thread Cert.AdamFfnDownRefIdeal.nD Cert.AdamFfnDownRefIdeal.τ).loc Cert.AdamFfnDownRefIdeal.main_arg0)
          ∧ r.2.mem ((c.tc : Thread Cert.AdamFfnDownRefIdeal.nD Cert.AdamFfnDownRefIdeal.τ).loc Cert.AdamFfnDownRefIdeal.main_arg1) = m' ((c.tc : Thread Cert.AdamFfnDownRefIdeal.nD Cert.AdamFfnDownRefIdeal.τ).loc Cert.AdamFfnDownRefIdeal.main_arg1)
          ∧ r.2.mem ((c.tc : Thread Cert.AdamFfnDownRefIdeal.nD Cert.AdamFfnDownRefIdeal.τ).loc Cert.AdamFfnDownRefIdeal.main_arg2) = m' ((c.tc : Thread Cert.AdamFfnDownRefIdeal.nD Cert.AdamFfnDownRefIdeal.τ).loc Cert.AdamFfnDownRefIdeal.main_arg2)
          ∧ r.2.mem ((c.tc : Thread Cert.AdamFfnDownRefIdeal.nD Cert.AdamFfnDownRefIdeal.τ).loc Cert.AdamFfnDownRefIdeal.main_arg3) = m' ((c.tc : Thread Cert.AdamFfnDownRefIdeal.nD Cert.AdamFfnDownRefIdeal.τ).loc Cert.AdamFfnDownRefIdeal.main_arg3)
          ∧ r.2.mem ((c.tc : Thread Cert.AdamFfnDownRefIdeal.nD Cert.AdamFfnDownRefIdeal.τ).loc Cert.AdamFfnDownRefIdeal.main_arg4) = m' ((c.tc : Thread Cert.AdamFfnDownRefIdeal.nD Cert.AdamFfnDownRefIdeal.τ).loc Cert.AdamFfnDownRefIdeal.main_arg4)
          ∧ r.2.mem ((c.tc : Thread Cert.AdamFfnDownRefIdeal.nD Cert.AdamFfnDownRefIdeal.τ).loc Cert.AdamFfnDownRefIdeal.main_arg5) = m' ((c.tc : Thread Cert.AdamFfnDownRefIdeal.nD Cert.AdamFfnDownRefIdeal.τ).loc Cert.AdamFfnDownRefIdeal.main_arg5)
          ∧ r.2.mem ((c.tc : Thread Cert.AdamFfnDownRefIdeal.nD Cert.AdamFfnDownRefIdeal.τ).loc Cert.AdamFfnDownRefIdeal.main_arg6) = m' ((c.tc : Thread Cert.AdamFfnDownRefIdeal.nD Cert.AdamFfnDownRefIdeal.τ).loc Cert.AdamFfnDownRefIdeal.main_arg6))

def preserves_SumSmall_SumSmallIdeal : Prop :=
  True

def algebraic_SumSmallIdeal_SumSmallRefIdeal [hSumSmallIdeal : Cert.SumSmallIdeal.Facts] [hSumSmallRefIdeal : Cert.SumSmallRefIdeal.Facts] : Prop :=
  ∀ (m : (ℓ : Loc Cert.SumSmallIdeal.nD Cert.SumSmallIdeal.τ Cert.SumSmallIdeal.sig) → Buf (Elt Ideal) ℓ) (g : Dev Cert.SumSmallIdeal.nD → PrngReg)
    (m' : (ℓ : Loc Cert.SumSmallRefIdeal.nD Cert.SumSmallRefIdeal.τ Cert.SumSmallRefIdeal.sig) → Buf (Elt Ideal) ℓ) (g' : Dev Cert.SumSmallRefIdeal.nD → PrngReg), Pre_SumSmallIdeal m →
    (∀ c : Dev Cert.SumSmallIdeal.nD,
      m' ((c.tc : Thread Cert.SumSmallRefIdeal.nD Cert.SumSmallRefIdeal.τ).loc Cert.SumSmallRefIdeal.main_arg0) = m ((c.tc : Thread Cert.SumSmallIdeal.nD Cert.SumSmallIdeal.τ).loc Cert.SumSmallIdeal.main_arg0)) →
    ∃ (v0 : (c : Dev Cert.SumSmallIdeal.nD) → Buf (Elt Ideal) ((c.tc : Thread Cert.SumSmallIdeal.nD Cert.SumSmallIdeal.τ).loc Cert.SumSmallIdeal.main_v0)),
      θ_run (Cert.SumSmallIdeal.defs (F := Ideal)) (onTc (τ := Cert.SumSmallIdeal.τ) (Cert.SumSmallIdeal.main (F := Ideal))) ⟨m, fun _ => 0, g⟩ (fun r => ∀ c : Dev Cert.SumSmallIdeal.nD,
          r.2.mem ((c.tc : Thread Cert.SumSmallIdeal.nD Cert.SumSmallIdeal.τ).loc Cert.SumSmallIdeal.main_v0) = v0 c
          ∧ r.2.mem ((c.tc : Thread Cert.SumSmallIdeal.nD Cert.SumSmallIdeal.τ).loc Cert.SumSmallIdeal.main_arg0) = m ((c.tc : Thread Cert.SumSmallIdeal.nD Cert.SumSmallIdeal.τ).loc Cert.SumSmallIdeal.main_arg0))
      ∧ θ_run (Cert.SumSmallRefIdeal.defs (F := Ideal)) (onTc (τ := Cert.SumSmallRefIdeal.τ) (Cert.SumSmallRefIdeal.main (F := Ideal))) ⟨m', fun _ => 0, g'⟩ (fun r => ∀ c : Dev Cert.SumSmallRefIdeal.nD,
          r.2.mem ((c.tc : Thread Cert.SumSmallRefIdeal.nD Cert.SumSmallRefIdeal.τ).loc Cert.SumSmallRefIdeal.main_v0) = v0 c
          ∧ r.2.mem ((c.tc : Thread Cert.SumSmallRefIdeal.nD Cert.SumSmallRefIdeal.τ).loc Cert.SumSmallRefIdeal.main_arg0) = m' ((c.tc : Thread Cert.SumSmallRefIdeal.nD Cert.SumSmallRefIdeal.τ).loc Cert.SumSmallRefIdeal.main_arg0))

def preserves_AdamSmall_AdamSmallIdeal : Prop :=
  True

def algebraic_AdamSmallIdeal_AdamSmallRefIdeal [hAdamSmallIdeal : Cert.AdamSmallIdeal.Facts] [hAdamSmallRefIdeal : Cert.AdamSmallRefIdeal.Facts] : Prop :=
  ∀ (m : (ℓ : Loc Cert.AdamSmallIdeal.nD Cert.AdamSmallIdeal.τ Cert.AdamSmallIdeal.sig) → Buf (Elt Ideal) ℓ) (g : Dev Cert.AdamSmallIdeal.nD → PrngReg)
    (m' : (ℓ : Loc Cert.AdamSmallRefIdeal.nD Cert.AdamSmallRefIdeal.τ Cert.AdamSmallRefIdeal.sig) → Buf (Elt Ideal) ℓ) (g' : Dev Cert.AdamSmallRefIdeal.nD → PrngReg), Pre_AdamSmallIdeal m →
    (∀ c : Dev Cert.AdamSmallIdeal.nD,
      m' ((c.tc : Thread Cert.AdamSmallRefIdeal.nD Cert.AdamSmallRefIdeal.τ).loc Cert.AdamSmallRefIdeal.main_arg0) = m ((c.tc : Thread Cert.AdamSmallIdeal.nD Cert.AdamSmallIdeal.τ).loc Cert.AdamSmallIdeal.main_arg0)
      ∧ m' ((c.tc : Thread Cert.AdamSmallRefIdeal.nD Cert.AdamSmallRefIdeal.τ).loc Cert.AdamSmallRefIdeal.main_arg1) = m ((c.tc : Thread Cert.AdamSmallIdeal.nD Cert.AdamSmallIdeal.τ).loc Cert.AdamSmallIdeal.main_arg1)
      ∧ m' ((c.tc : Thread Cert.AdamSmallRefIdeal.nD Cert.AdamSmallRefIdeal.τ).loc Cert.AdamSmallRefIdeal.main_arg2) = m ((c.tc : Thread Cert.AdamSmallIdeal.nD Cert.AdamSmallIdeal.τ).loc Cert.AdamSmallIdeal.main_arg2)
      ∧ m' ((c.tc : Thread Cert.AdamSmallRefIdeal.nD Cert.AdamSmallRefIdeal.τ).loc Cert.AdamSmallRefIdeal.main_arg3) = m ((c.tc : Thread Cert.AdamSmallIdeal.nD Cert.AdamSmallIdeal.τ).loc Cert.AdamSmallIdeal.main_arg3)) →
    ∃ (v0 : (c : Dev Cert.AdamSmallIdeal.nD) → Buf (Elt Ideal) ((c.tc : Thread Cert.AdamSmallIdeal.nD Cert.AdamSmallIdeal.τ).loc Cert.AdamSmallIdeal.main_v0_0)) (v1 : (c : Dev Cert.AdamSmallIdeal.nD) → Buf (Elt Ideal) ((c.tc : Thread Cert.AdamSmallIdeal.nD Cert.AdamSmallIdeal.τ).loc Cert.AdamSmallIdeal.main_v0_1)) (v2 : (c : Dev Cert.AdamSmallIdeal.nD) → Buf (Elt Ideal) ((c.tc : Thread Cert.AdamSmallIdeal.nD Cert.AdamSmallIdeal.τ).loc Cert.AdamSmallIdeal.main_v0_2)),
      θ_run (Cert.AdamSmallIdeal.defs (F := Ideal)) (onTc (τ := Cert.AdamSmallIdeal.τ) (Cert.AdamSmallIdeal.main (F := Ideal))) ⟨m, fun _ => 0, g⟩ (fun r => ∀ c : Dev Cert.AdamSmallIdeal.nD,
          r.2.mem ((c.tc : Thread Cert.AdamSmallIdeal.nD Cert.AdamSmallIdeal.τ).loc Cert.AdamSmallIdeal.main_v0_0) = v0 c
          ∧ r.2.mem ((c.tc : Thread Cert.AdamSmallIdeal.nD Cert.AdamSmallIdeal.τ).loc Cert.AdamSmallIdeal.main_v0_1) = v1 c
          ∧ r.2.mem ((c.tc : Thread Cert.AdamSmallIdeal.nD Cert.AdamSmallIdeal.τ).loc Cert.AdamSmallIdeal.main_v0_2) = v2 c
          ∧ r.2.mem ((c.tc : Thread Cert.AdamSmallIdeal.nD Cert.AdamSmallIdeal.τ).loc Cert.AdamSmallIdeal.main_arg0) = m ((c.tc : Thread Cert.AdamSmallIdeal.nD Cert.AdamSmallIdeal.τ).loc Cert.AdamSmallIdeal.main_arg0)
          ∧ r.2.mem ((c.tc : Thread Cert.AdamSmallIdeal.nD Cert.AdamSmallIdeal.τ).loc Cert.AdamSmallIdeal.main_arg1) = m ((c.tc : Thread Cert.AdamSmallIdeal.nD Cert.AdamSmallIdeal.τ).loc Cert.AdamSmallIdeal.main_arg1)
          ∧ r.2.mem ((c.tc : Thread Cert.AdamSmallIdeal.nD Cert.AdamSmallIdeal.τ).loc Cert.AdamSmallIdeal.main_arg2) = m ((c.tc : Thread Cert.AdamSmallIdeal.nD Cert.AdamSmallIdeal.τ).loc Cert.AdamSmallIdeal.main_arg2)
          ∧ r.2.mem ((c.tc : Thread Cert.AdamSmallIdeal.nD Cert.AdamSmallIdeal.τ).loc Cert.AdamSmallIdeal.main_arg3) = m ((c.tc : Thread Cert.AdamSmallIdeal.nD Cert.AdamSmallIdeal.τ).loc Cert.AdamSmallIdeal.main_arg3))
      ∧ θ_run (Cert.AdamSmallRefIdeal.defs (F := Ideal)) (onTc (τ := Cert.AdamSmallRefIdeal.τ) (Cert.AdamSmallRefIdeal.main (F := Ideal))) ⟨m', fun _ => 0, g'⟩ (fun r => ∀ c : Dev Cert.AdamSmallRefIdeal.nD,
          r.2.mem ((c.tc : Thread Cert.AdamSmallRefIdeal.nD Cert.AdamSmallRefIdeal.τ).loc Cert.AdamSmallRefIdeal.main_v23) = v0 c
          ∧ r.2.mem ((c.tc : Thread Cert.AdamSmallRefIdeal.nD Cert.AdamSmallRefIdeal.τ).loc Cert.AdamSmallRefIdeal.main_v4) = v1 c
          ∧ r.2.mem ((c.tc : Thread Cert.AdamSmallRefIdeal.nD Cert.AdamSmallRefIdeal.τ).loc Cert.AdamSmallRefIdeal.main_v10) = v2 c
          ∧ r.2.mem ((c.tc : Thread Cert.AdamSmallRefIdeal.nD Cert.AdamSmallRefIdeal.τ).loc Cert.AdamSmallRefIdeal.main_arg0) = m' ((c.tc : Thread Cert.AdamSmallRefIdeal.nD Cert.AdamSmallRefIdeal.τ).loc Cert.AdamSmallRefIdeal.main_arg0)
          ∧ r.2.mem ((c.tc : Thread Cert.AdamSmallRefIdeal.nD Cert.AdamSmallRefIdeal.τ).loc Cert.AdamSmallRefIdeal.main_arg1) = m' ((c.tc : Thread Cert.AdamSmallRefIdeal.nD Cert.AdamSmallRefIdeal.τ).loc Cert.AdamSmallRefIdeal.main_arg1)
          ∧ r.2.mem ((c.tc : Thread Cert.AdamSmallRefIdeal.nD Cert.AdamSmallRefIdeal.τ).loc Cert.AdamSmallRefIdeal.main_arg2) = m' ((c.tc : Thread Cert.AdamSmallRefIdeal.nD Cert.AdamSmallRefIdeal.τ).loc Cert.AdamSmallRefIdeal.main_arg2)
          ∧ r.2.mem ((c.tc : Thread Cert.AdamSmallRefIdeal.nD Cert.AdamSmallRefIdeal.τ).loc Cert.AdamSmallRefIdeal.main_arg3) = m' ((c.tc : Thread Cert.AdamSmallRefIdeal.nD Cert.AdamSmallRefIdeal.τ).loc Cert.AdamSmallRefIdeal.main_arg3))

def preserves_FinalLoss_FinalLossIdeal : Prop :=
  True

def algebraic_FinalLossIdeal_FinalLossRefIdeal [hFinalLossIdeal : Cert.FinalLossIdeal.Facts] [hFinalLossRefIdeal : Cert.FinalLossRefIdeal.Facts] : Prop :=
  ∀ (m : (ℓ : Loc Cert.FinalLossIdeal.nD Cert.FinalLossIdeal.τ Cert.FinalLossIdeal.sig) → Buf (Elt Ideal) ℓ) (g : Dev Cert.FinalLossIdeal.nD → PrngReg)
    (m' : (ℓ : Loc Cert.FinalLossRefIdeal.nD Cert.FinalLossRefIdeal.τ Cert.FinalLossRefIdeal.sig) → Buf (Elt Ideal) ℓ) (g' : Dev Cert.FinalLossRefIdeal.nD → PrngReg), Pre_FinalLossIdeal m →
    (∀ c : Dev Cert.FinalLossIdeal.nD,
      m' ((c.tc : Thread Cert.FinalLossRefIdeal.nD Cert.FinalLossRefIdeal.τ).loc Cert.FinalLossRefIdeal.main_arg0) = m ((c.tc : Thread Cert.FinalLossIdeal.nD Cert.FinalLossIdeal.τ).loc Cert.FinalLossIdeal.main_arg0)
      ∧ m' ((c.tc : Thread Cert.FinalLossRefIdeal.nD Cert.FinalLossRefIdeal.τ).loc Cert.FinalLossRefIdeal.main_arg1) = m ((c.tc : Thread Cert.FinalLossIdeal.nD Cert.FinalLossIdeal.τ).loc Cert.FinalLossIdeal.main_arg1)
      ∧ m' ((c.tc : Thread Cert.FinalLossRefIdeal.nD Cert.FinalLossRefIdeal.τ).loc Cert.FinalLossRefIdeal.main_arg2) = m ((c.tc : Thread Cert.FinalLossIdeal.nD Cert.FinalLossIdeal.τ).loc Cert.FinalLossIdeal.main_arg2)) →
    ∃ (v0 : (c : Dev Cert.FinalLossIdeal.nD) → Buf (Elt Ideal) ((c.tc : Thread Cert.FinalLossIdeal.nD Cert.FinalLossIdeal.τ).loc Cert.FinalLossIdeal.main_v0_3)),
      θ_run (Cert.FinalLossIdeal.defs (F := Ideal)) (onTc (τ := Cert.FinalLossIdeal.τ) (Cert.FinalLossIdeal.main (F := Ideal))) ⟨m, fun _ => 0, g⟩ (fun r => ∀ c : Dev Cert.FinalLossIdeal.nD,
          r.2.mem ((c.tc : Thread Cert.FinalLossIdeal.nD Cert.FinalLossIdeal.τ).loc Cert.FinalLossIdeal.main_v0_3) = v0 c
          ∧ r.2.mem ((c.tc : Thread Cert.FinalLossIdeal.nD Cert.FinalLossIdeal.τ).loc Cert.FinalLossIdeal.main_arg0) = m ((c.tc : Thread Cert.FinalLossIdeal.nD Cert.FinalLossIdeal.τ).loc Cert.FinalLossIdeal.main_arg0)
          ∧ r.2.mem ((c.tc : Thread Cert.FinalLossIdeal.nD Cert.FinalLossIdeal.τ).loc Cert.FinalLossIdeal.main_arg1) = m ((c.tc : Thread Cert.FinalLossIdeal.nD Cert.FinalLossIdeal.τ).loc Cert.FinalLossIdeal.main_arg1)
          ∧ r.2.mem ((c.tc : Thread Cert.FinalLossIdeal.nD Cert.FinalLossIdeal.τ).loc Cert.FinalLossIdeal.main_arg2) = m ((c.tc : Thread Cert.FinalLossIdeal.nD Cert.FinalLossIdeal.τ).loc Cert.FinalLossIdeal.main_arg2))
      ∧ θ_run (Cert.FinalLossRefIdeal.defs (F := Ideal)) (onTc (τ := Cert.FinalLossRefIdeal.τ) (Cert.FinalLossRefIdeal.main (F := Ideal))) ⟨m', fun _ => 0, g'⟩ (fun r => ∀ c : Dev Cert.FinalLossRefIdeal.nD,
          r.2.mem ((c.tc : Thread Cert.FinalLossRefIdeal.nD Cert.FinalLossRefIdeal.τ).loc Cert.FinalLossRefIdeal.main_v19) = v0 c
          ∧ r.2.mem ((c.tc : Thread Cert.FinalLossRefIdeal.nD Cert.FinalLossRefIdeal.τ).loc Cert.FinalLossRefIdeal.main_arg0) = m' ((c.tc : Thread Cert.FinalLossRefIdeal.nD Cert.FinalLossRefIdeal.τ).loc Cert.FinalLossRefIdeal.main_arg0)
          ∧ r.2.mem ((c.tc : Thread Cert.FinalLossRefIdeal.nD Cert.FinalLossRefIdeal.τ).loc Cert.FinalLossRefIdeal.main_arg1) = m' ((c.tc : Thread Cert.FinalLossRefIdeal.nD Cert.FinalLossRefIdeal.τ).loc Cert.FinalLossRefIdeal.main_arg1)
          ∧ r.2.mem ((c.tc : Thread Cert.FinalLossRefIdeal.nD Cert.FinalLossRefIdeal.τ).loc Cert.FinalLossRefIdeal.main_arg2) = m' ((c.tc : Thread Cert.FinalLossRefIdeal.nD Cert.FinalLossRefIdeal.τ).loc Cert.FinalLossRefIdeal.main_arg2))

def preserves_RmsBwd_RmsBwdIdeal : Prop :=
  True

def algebraic_RmsBwdIdeal_RmsBwdRefIdeal [hRmsBwdIdeal : Cert.RmsBwdIdeal.Facts] [hRmsBwdRefIdeal : Cert.RmsBwdRefIdeal.Facts] : Prop :=
  ∀ (m : (ℓ : Loc Cert.RmsBwdIdeal.nD Cert.RmsBwdIdeal.τ Cert.RmsBwdIdeal.sig) → Buf (Elt Ideal) ℓ) (g : Dev Cert.RmsBwdIdeal.nD → PrngReg)
    (m' : (ℓ : Loc Cert.RmsBwdRefIdeal.nD Cert.RmsBwdRefIdeal.τ Cert.RmsBwdRefIdeal.sig) → Buf (Elt Ideal) ℓ) (g' : Dev Cert.RmsBwdRefIdeal.nD → PrngReg), Pre_RmsBwdIdeal m →
    (∀ c : Dev Cert.RmsBwdIdeal.nD,
      m' ((c.tc : Thread Cert.RmsBwdRefIdeal.nD Cert.RmsBwdRefIdeal.τ).loc Cert.RmsBwdRefIdeal.main_arg0) = m ((c.tc : Thread Cert.RmsBwdIdeal.nD Cert.RmsBwdIdeal.τ).loc Cert.RmsBwdIdeal.main_arg0)
      ∧ m' ((c.tc : Thread Cert.RmsBwdRefIdeal.nD Cert.RmsBwdRefIdeal.τ).loc Cert.RmsBwdRefIdeal.main_arg1) = m ((c.tc : Thread Cert.RmsBwdIdeal.nD Cert.RmsBwdIdeal.τ).loc Cert.RmsBwdIdeal.main_arg1)
      ∧ m' ((c.tc : Thread Cert.RmsBwdRefIdeal.nD Cert.RmsBwdRefIdeal.τ).loc Cert.RmsBwdRefIdeal.main_arg2) = m ((c.tc : Thread Cert.RmsBwdIdeal.nD Cert.RmsBwdIdeal.τ).loc Cert.RmsBwdIdeal.main_arg2)
      ∧ m' ((c.tc : Thread Cert.RmsBwdRefIdeal.nD Cert.RmsBwdRefIdeal.τ).loc Cert.RmsBwdRefIdeal.main_arg3) = m ((c.tc : Thread Cert.RmsBwdIdeal.nD Cert.RmsBwdIdeal.τ).loc Cert.RmsBwdIdeal.main_arg3)) →
    ∃ (v0 : (c : Dev Cert.RmsBwdIdeal.nD) → Buf (Elt Ideal) ((c.tc : Thread Cert.RmsBwdIdeal.nD Cert.RmsBwdIdeal.τ).loc Cert.RmsBwdIdeal.main_v0_0)),
      θ_run (Cert.RmsBwdIdeal.defs (F := Ideal)) (onTc (τ := Cert.RmsBwdIdeal.τ) (Cert.RmsBwdIdeal.main (F := Ideal))) ⟨m, fun _ => 0, g⟩ (fun r => ∀ c : Dev Cert.RmsBwdIdeal.nD,
          r.2.mem ((c.tc : Thread Cert.RmsBwdIdeal.nD Cert.RmsBwdIdeal.τ).loc Cert.RmsBwdIdeal.main_v0_0) = v0 c
          ∧ r.2.mem ((c.tc : Thread Cert.RmsBwdIdeal.nD Cert.RmsBwdIdeal.τ).loc Cert.RmsBwdIdeal.main_arg0) = m ((c.tc : Thread Cert.RmsBwdIdeal.nD Cert.RmsBwdIdeal.τ).loc Cert.RmsBwdIdeal.main_arg0)
          ∧ r.2.mem ((c.tc : Thread Cert.RmsBwdIdeal.nD Cert.RmsBwdIdeal.τ).loc Cert.RmsBwdIdeal.main_arg1) = m ((c.tc : Thread Cert.RmsBwdIdeal.nD Cert.RmsBwdIdeal.τ).loc Cert.RmsBwdIdeal.main_arg1)
          ∧ r.2.mem ((c.tc : Thread Cert.RmsBwdIdeal.nD Cert.RmsBwdIdeal.τ).loc Cert.RmsBwdIdeal.main_arg2) = m ((c.tc : Thread Cert.RmsBwdIdeal.nD Cert.RmsBwdIdeal.τ).loc Cert.RmsBwdIdeal.main_arg2)
          ∧ r.2.mem ((c.tc : Thread Cert.RmsBwdIdeal.nD Cert.RmsBwdIdeal.τ).loc Cert.RmsBwdIdeal.main_arg3) = m ((c.tc : Thread Cert.RmsBwdIdeal.nD Cert.RmsBwdIdeal.τ).loc Cert.RmsBwdIdeal.main_arg3))
      ∧ θ_run (Cert.RmsBwdRefIdeal.defs (F := Ideal)) (onTc (τ := Cert.RmsBwdRefIdeal.τ) (Cert.RmsBwdRefIdeal.main (F := Ideal))) ⟨m', fun _ => 0, g'⟩ (fun r => ∀ c : Dev Cert.RmsBwdRefIdeal.nD,
          r.2.mem ((c.tc : Thread Cert.RmsBwdRefIdeal.nD Cert.RmsBwdRefIdeal.τ).loc Cert.RmsBwdRefIdeal.main_v31) = v0 c
          ∧ r.2.mem ((c.tc : Thread Cert.RmsBwdRefIdeal.nD Cert.RmsBwdRefIdeal.τ).loc Cert.RmsBwdRefIdeal.main_arg0) = m' ((c.tc : Thread Cert.RmsBwdRefIdeal.nD Cert.RmsBwdRefIdeal.τ).loc Cert.RmsBwdRefIdeal.main_arg0)
          ∧ r.2.mem ((c.tc : Thread Cert.RmsBwdRefIdeal.nD Cert.RmsBwdRefIdeal.τ).loc Cert.RmsBwdRefIdeal.main_arg1) = m' ((c.tc : Thread Cert.RmsBwdRefIdeal.nD Cert.RmsBwdRefIdeal.τ).loc Cert.RmsBwdRefIdeal.main_arg1)
          ∧ r.2.mem ((c.tc : Thread Cert.RmsBwdRefIdeal.nD Cert.RmsBwdRefIdeal.τ).loc Cert.RmsBwdRefIdeal.main_arg2) = m' ((c.tc : Thread Cert.RmsBwdRefIdeal.nD Cert.RmsBwdRefIdeal.τ).loc Cert.RmsBwdRefIdeal.main_arg2)
          ∧ r.2.mem ((c.tc : Thread Cert.RmsBwdRefIdeal.nD Cert.RmsBwdRefIdeal.τ).loc Cert.RmsBwdRefIdeal.main_arg3) = m' ((c.tc : Thread Cert.RmsBwdRefIdeal.nD Cert.RmsBwdRefIdeal.τ).loc Cert.RmsBwdRefIdeal.main_arg3))

def preserves_LossBwd_LossBwdIdeal : Prop :=
  True

def algebraic_LossBwdIdeal_LossBwdRefIdeal [hLossBwdIdeal : Cert.LossBwdIdeal.Facts] [hLossBwdRefIdeal : Cert.LossBwdRefIdeal.Facts] : Prop :=
  ∀ (m : (ℓ : Loc Cert.LossBwdIdeal.nD Cert.LossBwdIdeal.τ Cert.LossBwdIdeal.sig) → Buf (Elt Ideal) ℓ) (g : Dev Cert.LossBwdIdeal.nD → PrngReg)
    (m' : (ℓ : Loc Cert.LossBwdRefIdeal.nD Cert.LossBwdRefIdeal.τ Cert.LossBwdRefIdeal.sig) → Buf (Elt Ideal) ℓ) (g' : Dev Cert.LossBwdRefIdeal.nD → PrngReg), Pre_LossBwdIdeal m →
    (∀ c : Dev Cert.LossBwdIdeal.nD,
      m' ((c.tc : Thread Cert.LossBwdRefIdeal.nD Cert.LossBwdRefIdeal.τ).loc Cert.LossBwdRefIdeal.main_arg0) = m ((c.tc : Thread Cert.LossBwdIdeal.nD Cert.LossBwdIdeal.τ).loc Cert.LossBwdIdeal.main_arg0)
      ∧ m' ((c.tc : Thread Cert.LossBwdRefIdeal.nD Cert.LossBwdRefIdeal.τ).loc Cert.LossBwdRefIdeal.main_arg1) = m ((c.tc : Thread Cert.LossBwdIdeal.nD Cert.LossBwdIdeal.τ).loc Cert.LossBwdIdeal.main_arg1)
      ∧ m' ((c.tc : Thread Cert.LossBwdRefIdeal.nD Cert.LossBwdRefIdeal.τ).loc Cert.LossBwdRefIdeal.main_arg2) = m ((c.tc : Thread Cert.LossBwdIdeal.nD Cert.LossBwdIdeal.τ).loc Cert.LossBwdIdeal.main_arg2)) →
    ∃ (v0 : (c : Dev Cert.LossBwdIdeal.nD) → Buf (Elt Ideal) ((c.tc : Thread Cert.LossBwdIdeal.nD Cert.LossBwdIdeal.τ).loc Cert.LossBwdIdeal.main_v0_0)),
      θ_run (Cert.LossBwdIdeal.defs (F := Ideal)) (onTc (τ := Cert.LossBwdIdeal.τ) (Cert.LossBwdIdeal.main (F := Ideal))) ⟨m, fun _ => 0, g⟩ (fun r => ∀ c : Dev Cert.LossBwdIdeal.nD,
          r.2.mem ((c.tc : Thread Cert.LossBwdIdeal.nD Cert.LossBwdIdeal.τ).loc Cert.LossBwdIdeal.main_v0_0) = v0 c
          ∧ r.2.mem ((c.tc : Thread Cert.LossBwdIdeal.nD Cert.LossBwdIdeal.τ).loc Cert.LossBwdIdeal.main_arg0) = m ((c.tc : Thread Cert.LossBwdIdeal.nD Cert.LossBwdIdeal.τ).loc Cert.LossBwdIdeal.main_arg0)
          ∧ r.2.mem ((c.tc : Thread Cert.LossBwdIdeal.nD Cert.LossBwdIdeal.τ).loc Cert.LossBwdIdeal.main_arg1) = m ((c.tc : Thread Cert.LossBwdIdeal.nD Cert.LossBwdIdeal.τ).loc Cert.LossBwdIdeal.main_arg1)
          ∧ r.2.mem ((c.tc : Thread Cert.LossBwdIdeal.nD Cert.LossBwdIdeal.τ).loc Cert.LossBwdIdeal.main_arg2) = m ((c.tc : Thread Cert.LossBwdIdeal.nD Cert.LossBwdIdeal.τ).loc Cert.LossBwdIdeal.main_arg2))
      ∧ θ_run (Cert.LossBwdRefIdeal.defs (F := Ideal)) (onTc (τ := Cert.LossBwdRefIdeal.τ) (Cert.LossBwdRefIdeal.main (F := Ideal))) ⟨m', fun _ => 0, g'⟩ (fun r => ∀ c : Dev Cert.LossBwdRefIdeal.nD,
          r.2.mem ((c.tc : Thread Cert.LossBwdRefIdeal.nD Cert.LossBwdRefIdeal.τ).loc Cert.LossBwdRefIdeal.main_v45) = v0 c
          ∧ r.2.mem ((c.tc : Thread Cert.LossBwdRefIdeal.nD Cert.LossBwdRefIdeal.τ).loc Cert.LossBwdRefIdeal.main_arg0) = m' ((c.tc : Thread Cert.LossBwdRefIdeal.nD Cert.LossBwdRefIdeal.τ).loc Cert.LossBwdRefIdeal.main_arg0)
          ∧ r.2.mem ((c.tc : Thread Cert.LossBwdRefIdeal.nD Cert.LossBwdRefIdeal.τ).loc Cert.LossBwdRefIdeal.main_arg1) = m' ((c.tc : Thread Cert.LossBwdRefIdeal.nD Cert.LossBwdRefIdeal.τ).loc Cert.LossBwdRefIdeal.main_arg1)
          ∧ r.2.mem ((c.tc : Thread Cert.LossBwdRefIdeal.nD Cert.LossBwdRefIdeal.τ).loc Cert.LossBwdRefIdeal.main_arg2) = m' ((c.tc : Thread Cert.LossBwdRefIdeal.nD Cert.LossBwdRefIdeal.τ).loc Cert.LossBwdRefIdeal.main_arg2))

def preserves_RmsFwd_RmsFwdIdeal : Prop :=
  True

def algebraic_RmsFwdIdeal_RmsFwdRefIdeal [hRmsFwdIdeal : Cert.RmsFwdIdeal.Facts] [hRmsFwdRefIdeal : Cert.RmsFwdRefIdeal.Facts] : Prop :=
  ∀ (m : (ℓ : Loc Cert.RmsFwdIdeal.nD Cert.RmsFwdIdeal.τ Cert.RmsFwdIdeal.sig) → Buf (Elt Ideal) ℓ) (g : Dev Cert.RmsFwdIdeal.nD → PrngReg)
    (m' : (ℓ : Loc Cert.RmsFwdRefIdeal.nD Cert.RmsFwdRefIdeal.τ Cert.RmsFwdRefIdeal.sig) → Buf (Elt Ideal) ℓ) (g' : Dev Cert.RmsFwdRefIdeal.nD → PrngReg), Pre_RmsFwdIdeal m →
    (∀ c : Dev Cert.RmsFwdIdeal.nD,
      m' ((c.tc : Thread Cert.RmsFwdRefIdeal.nD Cert.RmsFwdRefIdeal.τ).loc Cert.RmsFwdRefIdeal.main_arg0) = m ((c.tc : Thread Cert.RmsFwdIdeal.nD Cert.RmsFwdIdeal.τ).loc Cert.RmsFwdIdeal.main_arg0)
      ∧ m' ((c.tc : Thread Cert.RmsFwdRefIdeal.nD Cert.RmsFwdRefIdeal.τ).loc Cert.RmsFwdRefIdeal.main_arg1) = m ((c.tc : Thread Cert.RmsFwdIdeal.nD Cert.RmsFwdIdeal.τ).loc Cert.RmsFwdIdeal.main_arg1)) →
    ∃ (v0 : (c : Dev Cert.RmsFwdIdeal.nD) → Buf (Elt Ideal) ((c.tc : Thread Cert.RmsFwdIdeal.nD Cert.RmsFwdIdeal.τ).loc Cert.RmsFwdIdeal.main_v0)),
      θ_run (Cert.RmsFwdIdeal.defs (F := Ideal)) (onTc (τ := Cert.RmsFwdIdeal.τ) (Cert.RmsFwdIdeal.main (F := Ideal))) ⟨m, fun _ => 0, g⟩ (fun r => ∀ c : Dev Cert.RmsFwdIdeal.nD,
          r.2.mem ((c.tc : Thread Cert.RmsFwdIdeal.nD Cert.RmsFwdIdeal.τ).loc Cert.RmsFwdIdeal.main_v0) = v0 c
          ∧ r.2.mem ((c.tc : Thread Cert.RmsFwdIdeal.nD Cert.RmsFwdIdeal.τ).loc Cert.RmsFwdIdeal.main_arg0) = m ((c.tc : Thread Cert.RmsFwdIdeal.nD Cert.RmsFwdIdeal.τ).loc Cert.RmsFwdIdeal.main_arg0)
          ∧ r.2.mem ((c.tc : Thread Cert.RmsFwdIdeal.nD Cert.RmsFwdIdeal.τ).loc Cert.RmsFwdIdeal.main_arg1) = m ((c.tc : Thread Cert.RmsFwdIdeal.nD Cert.RmsFwdIdeal.τ).loc Cert.RmsFwdIdeal.main_arg1))
      ∧ θ_run (Cert.RmsFwdRefIdeal.defs (F := Ideal)) (onTc (τ := Cert.RmsFwdRefIdeal.τ) (Cert.RmsFwdRefIdeal.main (F := Ideal))) ⟨m', fun _ => 0, g'⟩ (fun r => ∀ c : Dev Cert.RmsFwdRefIdeal.nD,
          r.2.mem ((c.tc : Thread Cert.RmsFwdRefIdeal.nD Cert.RmsFwdRefIdeal.τ).loc Cert.RmsFwdRefIdeal.main_v12) = v0 c
          ∧ r.2.mem ((c.tc : Thread Cert.RmsFwdRefIdeal.nD Cert.RmsFwdRefIdeal.τ).loc Cert.RmsFwdRefIdeal.main_arg0) = m' ((c.tc : Thread Cert.RmsFwdRefIdeal.nD Cert.RmsFwdRefIdeal.τ).loc Cert.RmsFwdRefIdeal.main_arg0)
          ∧ r.2.mem ((c.tc : Thread Cert.RmsFwdRefIdeal.nD Cert.RmsFwdRefIdeal.τ).loc Cert.RmsFwdRefIdeal.main_arg1) = m' ((c.tc : Thread Cert.RmsFwdRefIdeal.nD Cert.RmsFwdRefIdeal.τ).loc Cert.RmsFwdRefIdeal.main_arg1))

def Claim : Prop :=
  ∃ (hKernel : Cert.Kernel.Facts) (hKernelIdeal : Cert.KernelIdeal.Facts) (hFfnUpDx : Cert.FfnUpDx.Facts) (hFfnUpDxIdeal : Cert.FfnUpDxIdeal.Facts) (hFfnUpDxRefIdeal : Cert.FfnUpDxRefIdeal.Facts) (hFfnUpDw : Cert.FfnUpDw.Facts) (hFfnUpDwIdeal : Cert.FfnUpDwIdeal.Facts) (hFfnUpDwRefIdeal : Cert.FfnUpDwRefIdeal.Facts) (hFfnDownDx : Cert.FfnDownDx.Facts) (hFfnDownDxIdeal : Cert.FfnDownDxIdeal.Facts) (hFfnDownDxRefIdeal : Cert.FfnDownDxRefIdeal.Facts) (hFfnDownDw : Cert.FfnDownDw.Facts) (hFfnDownDwIdeal : Cert.FfnDownDwIdeal.Facts) (hFfnDownDwRefIdeal : Cert.FfnDownDwRefIdeal.Facts) (hSsmInDx : Cert.SsmInDx.Facts) (hSsmInDxIdeal : Cert.SsmInDxIdeal.Facts) (hSsmInDxRefIdeal : Cert.SsmInDxRefIdeal.Facts) (hSsmInDw : Cert.SsmInDw.Facts) (hSsmInDwIdeal : Cert.SsmInDwIdeal.Facts) (hSsmInDwRefIdeal : Cert.SsmInDwRefIdeal.Facts) (hSsmOutDx : Cert.SsmOutDx.Facts) (hSsmOutDxIdeal : Cert.SsmOutDxIdeal.Facts) (hSsmOutDxRefIdeal : Cert.SsmOutDxRefIdeal.Facts) (hSsmOutDw : Cert.SsmOutDw.Facts) (hSsmOutDwIdeal : Cert.SsmOutDwIdeal.Facts) (hSsmOutDwRefIdeal : Cert.SsmOutDwRefIdeal.Facts) (hCvInDx : Cert.CvInDx.Facts) (hCvInDxIdeal : Cert.CvInDxIdeal.Facts) (hCvInDxRefIdeal : Cert.CvInDxRefIdeal.Facts) (hCvInDw : Cert.CvInDw.Facts) (hCvInDwIdeal : Cert.CvInDwIdeal.Facts) (hCvInDwRefIdeal : Cert.CvInDwRefIdeal.Facts) (hCvOutDx : Cert.CvOutDx.Facts) (hCvOutDxIdeal : Cert.CvOutDxIdeal.Facts) (hCvOutDxRefIdeal : Cert.CvOutDxRefIdeal.Facts) (hCvOutDw : Cert.CvOutDw.Facts) (hCvOutDwIdeal : Cert.CvOutDwIdeal.Facts) (hCvOutDwRefIdeal : Cert.CvOutDwRefIdeal.Facts) (hFfnUp : Cert.FfnUp.Facts) (hFfnUpIdeal : Cert.FfnUpIdeal.Facts) (hFfnUpRefIdeal : Cert.FfnUpRefIdeal.Facts) (hFfnDown : Cert.FfnDown.Facts) (hFfnDownIdeal : Cert.FfnDownIdeal.Facts) (hFfnDownRefIdeal : Cert.FfnDownRefIdeal.Facts) (hSsmIn : Cert.SsmIn.Facts) (hSsmInIdeal : Cert.SsmInIdeal.Facts) (hSsmInRefIdeal : Cert.SsmInRefIdeal.Facts) (hSsmOut : Cert.SsmOut.Facts) (hSsmOutIdeal : Cert.SsmOutIdeal.Facts) (hSsmOutRefIdeal : Cert.SsmOutRefIdeal.Facts) (hCvIn : Cert.CvIn.Facts) (hCvInIdeal : Cert.CvInIdeal.Facts) (hCvInRefIdeal : Cert.CvInRefIdeal.Facts) (hCvOut : Cert.CvOut.Facts) (hCvOutIdeal : Cert.CvOutIdeal.Facts) (hCvOutRefIdeal : Cert.CvOutRefIdeal.Facts) (hAdamCvIn : Cert.AdamCvIn.Facts) (hAdamCvInIdeal : Cert.AdamCvInIdeal.Facts) (hAdamCvInRefIdeal : Cert.AdamCvInRefIdeal.Facts) (hAdamCvOut : Cert.AdamCvOut.Facts) (hAdamCvOutIdeal : Cert.AdamCvOutIdeal.Facts) (hAdamCvOutRefIdeal : Cert.AdamCvOutRefIdeal.Facts) (hAdamSsmIn : Cert.AdamSsmIn.Facts) (hAdamSsmInIdeal : Cert.AdamSsmInIdeal.Facts) (hAdamSsmInRefIdeal : Cert.AdamSsmInRefIdeal.Facts) (hAdamSsmOut : Cert.AdamSsmOut.Facts) (hAdamSsmOutIdeal : Cert.AdamSsmOutIdeal.Facts) (hAdamSsmOutRefIdeal : Cert.AdamSsmOutRefIdeal.Facts) (hAdamFfnUp : Cert.AdamFfnUp.Facts) (hAdamFfnUpIdeal : Cert.AdamFfnUpIdeal.Facts) (hAdamFfnUpRefIdeal : Cert.AdamFfnUpRefIdeal.Facts) (hAdamFfnDown : Cert.AdamFfnDown.Facts) (hAdamFfnDownIdeal : Cert.AdamFfnDownIdeal.Facts) (hAdamFfnDownRefIdeal : Cert.AdamFfnDownRefIdeal.Facts) (hSumSmall : Cert.SumSmall.Facts) (hSumSmallIdeal : Cert.SumSmallIdeal.Facts) (hSumSmallRefIdeal : Cert.SumSmallRefIdeal.Facts) (hAdamSmall : Cert.AdamSmall.Facts) (hAdamSmallIdeal : Cert.AdamSmallIdeal.Facts) (hAdamSmallRefIdeal : Cert.AdamSmallRefIdeal.Facts) (hFinalLoss : Cert.FinalLoss.Facts) (hFinalLossIdeal : Cert.FinalLossIdeal.Facts) (hFinalLossRefIdeal : Cert.FinalLossRefIdeal.Facts) (hRmsBwd : Cert.RmsBwd.Facts) (hRmsBwdIdeal : Cert.RmsBwdIdeal.Facts) (hRmsBwdRefIdeal : Cert.RmsBwdRefIdeal.Facts) (hLossBwd : Cert.LossBwd.Facts) (hLossBwdIdeal : Cert.LossBwdIdeal.Facts) (hLossBwdRefIdeal : Cert.LossBwdRefIdeal.Facts) (hRmsFwd : Cert.RmsFwd.Facts) (hRmsFwdIdeal : Cert.RmsFwdIdeal.Facts) (hRmsFwdRefIdeal : Cert.RmsFwdRefIdeal.Facts),
    quiescent_Kernel (hKernel := hKernel)
    ∧ quiescent_KernelIdeal (hKernelIdeal := hKernelIdeal)
    ∧ quiescent_FfnUpDx (hFfnUpDx := hFfnUpDx)
    ∧ quiescent_FfnUpDxIdeal (hFfnUpDxIdeal := hFfnUpDxIdeal)
    ∧ quiescent_FfnUpDxRefIdeal (hFfnUpDxRefIdeal := hFfnUpDxRefIdeal)
    ∧ quiescent_FfnUpDw (hFfnUpDw := hFfnUpDw)
    ∧ quiescent_FfnUpDwIdeal (hFfnUpDwIdeal := hFfnUpDwIdeal)
    ∧ quiescent_FfnUpDwRefIdeal (hFfnUpDwRefIdeal := hFfnUpDwRefIdeal)
    ∧ quiescent_FfnDownDx (hFfnDownDx := hFfnDownDx)
    ∧ quiescent_FfnDownDxIdeal (hFfnDownDxIdeal := hFfnDownDxIdeal)
    ∧ quiescent_FfnDownDxRefIdeal (hFfnDownDxRefIdeal := hFfnDownDxRefIdeal)
    ∧ quiescent_FfnDownDw (hFfnDownDw := hFfnDownDw)
    ∧ quiescent_FfnDownDwIdeal (hFfnDownDwIdeal := hFfnDownDwIdeal)
    ∧ quiescent_FfnDownDwRefIdeal (hFfnDownDwRefIdeal := hFfnDownDwRefIdeal)
    ∧ quiescent_SsmInDx (hSsmInDx := hSsmInDx)
    ∧ quiescent_SsmInDxIdeal (hSsmInDxIdeal := hSsmInDxIdeal)
    ∧ quiescent_SsmInDxRefIdeal (hSsmInDxRefIdeal := hSsmInDxRefIdeal)
    ∧ quiescent_SsmInDw (hSsmInDw := hSsmInDw)
    ∧ quiescent_SsmInDwIdeal (hSsmInDwIdeal := hSsmInDwIdeal)
    ∧ quiescent_SsmInDwRefIdeal (hSsmInDwRefIdeal := hSsmInDwRefIdeal)
    ∧ quiescent_SsmOutDx (hSsmOutDx := hSsmOutDx)
    ∧ quiescent_SsmOutDxIdeal (hSsmOutDxIdeal := hSsmOutDxIdeal)
    ∧ quiescent_SsmOutDxRefIdeal (hSsmOutDxRefIdeal := hSsmOutDxRefIdeal)
    ∧ quiescent_SsmOutDw (hSsmOutDw := hSsmOutDw)
    ∧ quiescent_SsmOutDwIdeal (hSsmOutDwIdeal := hSsmOutDwIdeal)
    ∧ quiescent_SsmOutDwRefIdeal (hSsmOutDwRefIdeal := hSsmOutDwRefIdeal)
    ∧ quiescent_CvInDx (hCvInDx := hCvInDx)
    ∧ quiescent_CvInDxIdeal (hCvInDxIdeal := hCvInDxIdeal)
    ∧ quiescent_CvInDxRefIdeal (hCvInDxRefIdeal := hCvInDxRefIdeal)
    ∧ quiescent_CvInDw (hCvInDw := hCvInDw)
    ∧ quiescent_CvInDwIdeal (hCvInDwIdeal := hCvInDwIdeal)
    ∧ quiescent_CvInDwRefIdeal (hCvInDwRefIdeal := hCvInDwRefIdeal)
    ∧ quiescent_CvOutDx (hCvOutDx := hCvOutDx)
    ∧ quiescent_CvOutDxIdeal (hCvOutDxIdeal := hCvOutDxIdeal)
    ∧ quiescent_CvOutDxRefIdeal (hCvOutDxRefIdeal := hCvOutDxRefIdeal)
    ∧ quiescent_CvOutDw (hCvOutDw := hCvOutDw)
    ∧ quiescent_CvOutDwIdeal (hCvOutDwIdeal := hCvOutDwIdeal)
    ∧ quiescent_CvOutDwRefIdeal (hCvOutDwRefIdeal := hCvOutDwRefIdeal)
    ∧ quiescent_FfnUp (hFfnUp := hFfnUp)
    ∧ quiescent_FfnUpIdeal (hFfnUpIdeal := hFfnUpIdeal)
    ∧ quiescent_FfnUpRefIdeal (hFfnUpRefIdeal := hFfnUpRefIdeal)
    ∧ quiescent_FfnDown (hFfnDown := hFfnDown)
    ∧ quiescent_FfnDownIdeal (hFfnDownIdeal := hFfnDownIdeal)
    ∧ quiescent_FfnDownRefIdeal (hFfnDownRefIdeal := hFfnDownRefIdeal)
    ∧ quiescent_SsmIn (hSsmIn := hSsmIn)
    ∧ quiescent_SsmInIdeal (hSsmInIdeal := hSsmInIdeal)
    ∧ quiescent_SsmInRefIdeal (hSsmInRefIdeal := hSsmInRefIdeal)
    ∧ quiescent_SsmOut (hSsmOut := hSsmOut)
    ∧ quiescent_SsmOutIdeal (hSsmOutIdeal := hSsmOutIdeal)
    ∧ quiescent_SsmOutRefIdeal (hSsmOutRefIdeal := hSsmOutRefIdeal)
    ∧ quiescent_CvIn (hCvIn := hCvIn)
    ∧ quiescent_CvInIdeal (hCvInIdeal := hCvInIdeal)
    ∧ quiescent_CvInRefIdeal (hCvInRefIdeal := hCvInRefIdeal)
    ∧ quiescent_CvOut (hCvOut := hCvOut)
    ∧ quiescent_CvOutIdeal (hCvOutIdeal := hCvOutIdeal)
    ∧ quiescent_CvOutRefIdeal (hCvOutRefIdeal := hCvOutRefIdeal)
    ∧ quiescent_AdamCvIn (hAdamCvIn := hAdamCvIn)
    ∧ quiescent_AdamCvInIdeal (hAdamCvInIdeal := hAdamCvInIdeal)
    ∧ quiescent_AdamCvInRefIdeal (hAdamCvInRefIdeal := hAdamCvInRefIdeal)
    ∧ quiescent_AdamCvOut (hAdamCvOut := hAdamCvOut)
    ∧ quiescent_AdamCvOutIdeal (hAdamCvOutIdeal := hAdamCvOutIdeal)
    ∧ quiescent_AdamCvOutRefIdeal (hAdamCvOutRefIdeal := hAdamCvOutRefIdeal)
    ∧ quiescent_AdamSsmIn (hAdamSsmIn := hAdamSsmIn)
    ∧ quiescent_AdamSsmInIdeal (hAdamSsmInIdeal := hAdamSsmInIdeal)
    ∧ quiescent_AdamSsmInRefIdeal (hAdamSsmInRefIdeal := hAdamSsmInRefIdeal)
    ∧ quiescent_AdamSsmOut (hAdamSsmOut := hAdamSsmOut)
    ∧ quiescent_AdamSsmOutIdeal (hAdamSsmOutIdeal := hAdamSsmOutIdeal)
    ∧ quiescent_AdamSsmOutRefIdeal (hAdamSsmOutRefIdeal := hAdamSsmOutRefIdeal)
    ∧ quiescent_AdamFfnUp (hAdamFfnUp := hAdamFfnUp)
    ∧ quiescent_AdamFfnUpIdeal (hAdamFfnUpIdeal := hAdamFfnUpIdeal)
    ∧ quiescent_AdamFfnUpRefIdeal (hAdamFfnUpRefIdeal := hAdamFfnUpRefIdeal)
    ∧ quiescent_AdamFfnDown (hAdamFfnDown := hAdamFfnDown)
    ∧ quiescent_AdamFfnDownIdeal (hAdamFfnDownIdeal := hAdamFfnDownIdeal)
    ∧ quiescent_AdamFfnDownRefIdeal (hAdamFfnDownRefIdeal := hAdamFfnDownRefIdeal)
    ∧ quiescent_SumSmall (hSumSmall := hSumSmall)
    ∧ quiescent_SumSmallIdeal (hSumSmallIdeal := hSumSmallIdeal)
    ∧ quiescent_SumSmallRefIdeal (hSumSmallRefIdeal := hSumSmallRefIdeal)
    ∧ quiescent_AdamSmall (hAdamSmall := hAdamSmall)
    ∧ quiescent_AdamSmallIdeal (hAdamSmallIdeal := hAdamSmallIdeal)
    ∧ quiescent_AdamSmallRefIdeal (hAdamSmallRefIdeal := hAdamSmallRefIdeal)
    ∧ quiescent_FinalLoss (hFinalLoss := hFinalLoss)
    ∧ quiescent_FinalLossIdeal (hFinalLossIdeal := hFinalLossIdeal)
    ∧ quiescent_FinalLossRefIdeal (hFinalLossRefIdeal := hFinalLossRefIdeal)
    ∧ quiescent_RmsBwd (hRmsBwd := hRmsBwd)
    ∧ quiescent_RmsBwdIdeal (hRmsBwdIdeal := hRmsBwdIdeal)
    ∧ quiescent_RmsBwdRefIdeal (hRmsBwdRefIdeal := hRmsBwdRefIdeal)
    ∧ quiescent_LossBwd (hLossBwd := hLossBwd)
    ∧ quiescent_LossBwdIdeal (hLossBwdIdeal := hLossBwdIdeal)
    ∧ quiescent_LossBwdRefIdeal (hLossBwdRefIdeal := hLossBwdRefIdeal)
    ∧ quiescent_RmsFwd (hRmsFwd := hRmsFwd)
    ∧ quiescent_RmsFwdIdeal (hRmsFwdIdeal := hRmsFwdIdeal)
    ∧ quiescent_RmsFwdRefIdeal (hRmsFwdRefIdeal := hRmsFwdRefIdeal)
    ∧ preserves_Kernel_KernelIdeal
    ∧ preserves_FfnUpDx_FfnUpDxIdeal
    ∧ algebraic_FfnUpDxIdeal_FfnUpDxRefIdeal (hFfnUpDxIdeal := hFfnUpDxIdeal) (hFfnUpDxRefIdeal := hFfnUpDxRefIdeal)
    ∧ preserves_FfnUpDw_FfnUpDwIdeal
    ∧ algebraic_FfnUpDwIdeal_FfnUpDwRefIdeal (hFfnUpDwIdeal := hFfnUpDwIdeal) (hFfnUpDwRefIdeal := hFfnUpDwRefIdeal)
    ∧ preserves_FfnDownDx_FfnDownDxIdeal
    ∧ algebraic_FfnDownDxIdeal_FfnDownDxRefIdeal (hFfnDownDxIdeal := hFfnDownDxIdeal) (hFfnDownDxRefIdeal := hFfnDownDxRefIdeal)
    ∧ preserves_FfnDownDw_FfnDownDwIdeal
    ∧ algebraic_FfnDownDwIdeal_FfnDownDwRefIdeal (hFfnDownDwIdeal := hFfnDownDwIdeal) (hFfnDownDwRefIdeal := hFfnDownDwRefIdeal)
    ∧ preserves_SsmInDx_SsmInDxIdeal
    ∧ algebraic_SsmInDxIdeal_SsmInDxRefIdeal (hSsmInDxIdeal := hSsmInDxIdeal) (hSsmInDxRefIdeal := hSsmInDxRefIdeal)
    ∧ preserves_SsmInDw_SsmInDwIdeal
    ∧ algebraic_SsmInDwIdeal_SsmInDwRefIdeal (hSsmInDwIdeal := hSsmInDwIdeal) (hSsmInDwRefIdeal := hSsmInDwRefIdeal)
    ∧ preserves_SsmOutDx_SsmOutDxIdeal
    ∧ algebraic_SsmOutDxIdeal_SsmOutDxRefIdeal (hSsmOutDxIdeal := hSsmOutDxIdeal) (hSsmOutDxRefIdeal := hSsmOutDxRefIdeal)
    ∧ preserves_SsmOutDw_SsmOutDwIdeal
    ∧ algebraic_SsmOutDwIdeal_SsmOutDwRefIdeal (hSsmOutDwIdeal := hSsmOutDwIdeal) (hSsmOutDwRefIdeal := hSsmOutDwRefIdeal)
    ∧ preserves_CvInDx_CvInDxIdeal
    ∧ algebraic_CvInDxIdeal_CvInDxRefIdeal (hCvInDxIdeal := hCvInDxIdeal) (hCvInDxRefIdeal := hCvInDxRefIdeal)
    ∧ preserves_CvInDw_CvInDwIdeal
    ∧ algebraic_CvInDwIdeal_CvInDwRefIdeal (hCvInDwIdeal := hCvInDwIdeal) (hCvInDwRefIdeal := hCvInDwRefIdeal)
    ∧ preserves_CvOutDx_CvOutDxIdeal
    ∧ algebraic_CvOutDxIdeal_CvOutDxRefIdeal (hCvOutDxIdeal := hCvOutDxIdeal) (hCvOutDxRefIdeal := hCvOutDxRefIdeal)
    ∧ preserves_CvOutDw_CvOutDwIdeal
    ∧ algebraic_CvOutDwIdeal_CvOutDwRefIdeal (hCvOutDwIdeal := hCvOutDwIdeal) (hCvOutDwRefIdeal := hCvOutDwRefIdeal)
    ∧ preserves_FfnUp_FfnUpIdeal
    ∧ algebraic_FfnUpIdeal_FfnUpRefIdeal (hFfnUpIdeal := hFfnUpIdeal) (hFfnUpRefIdeal := hFfnUpRefIdeal)
    ∧ preserves_FfnDown_FfnDownIdeal
    ∧ algebraic_FfnDownIdeal_FfnDownRefIdeal (hFfnDownIdeal := hFfnDownIdeal) (hFfnDownRefIdeal := hFfnDownRefIdeal)
    ∧ preserves_SsmIn_SsmInIdeal
    ∧ algebraic_SsmInIdeal_SsmInRefIdeal (hSsmInIdeal := hSsmInIdeal) (hSsmInRefIdeal := hSsmInRefIdeal)
    ∧ preserves_SsmOut_SsmOutIdeal
    ∧ algebraic_SsmOutIdeal_SsmOutRefIdeal (hSsmOutIdeal := hSsmOutIdeal) (hSsmOutRefIdeal := hSsmOutRefIdeal)
    ∧ preserves_CvIn_CvInIdeal
    ∧ algebraic_CvInIdeal_CvInRefIdeal (hCvInIdeal := hCvInIdeal) (hCvInRefIdeal := hCvInRefIdeal)
    ∧ preserves_CvOut_CvOutIdeal
    ∧ algebraic_CvOutIdeal_CvOutRefIdeal (hCvOutIdeal := hCvOutIdeal) (hCvOutRefIdeal := hCvOutRefIdeal)
    ∧ preserves_AdamCvIn_AdamCvInIdeal
    ∧ algebraic_AdamCvInIdeal_AdamCvInRefIdeal (hAdamCvInIdeal := hAdamCvInIdeal) (hAdamCvInRefIdeal := hAdamCvInRefIdeal)
    ∧ preserves_AdamCvOut_AdamCvOutIdeal
    ∧ algebraic_AdamCvOutIdeal_AdamCvOutRefIdeal (hAdamCvOutIdeal := hAdamCvOutIdeal) (hAdamCvOutRefIdeal := hAdamCvOutRefIdeal)
    ∧ preserves_AdamSsmIn_AdamSsmInIdeal
    ∧ algebraic_AdamSsmInIdeal_AdamSsmInRefIdeal (hAdamSsmInIdeal := hAdamSsmInIdeal) (hAdamSsmInRefIdeal := hAdamSsmInRefIdeal)
    ∧ preserves_AdamSsmOut_AdamSsmOutIdeal
    ∧ algebraic_AdamSsmOutIdeal_AdamSsmOutRefIdeal (hAdamSsmOutIdeal := hAdamSsmOutIdeal) (hAdamSsmOutRefIdeal := hAdamSsmOutRefIdeal)
    ∧ preserves_AdamFfnUp_AdamFfnUpIdeal
    ∧ algebraic_AdamFfnUpIdeal_AdamFfnUpRefIdeal (hAdamFfnUpIdeal := hAdamFfnUpIdeal) (hAdamFfnUpRefIdeal := hAdamFfnUpRefIdeal)
    ∧ preserves_AdamFfnDown_AdamFfnDownIdeal
    ∧ algebraic_AdamFfnDownIdeal_AdamFfnDownRefIdeal (hAdamFfnDownIdeal := hAdamFfnDownIdeal) (hAdamFfnDownRefIdeal := hAdamFfnDownRefIdeal)
    ∧ preserves_SumSmall_SumSmallIdeal
    ∧ algebraic_SumSmallIdeal_SumSmallRefIdeal (hSumSmallIdeal := hSumSmallIdeal) (hSumSmallRefIdeal := hSumSmallRefIdeal)
    ∧ preserves_AdamSmall_AdamSmallIdeal
    ∧ algebraic_AdamSmallIdeal_AdamSmallRefIdeal (hAdamSmallIdeal := hAdamSmallIdeal) (hAdamSmallRefIdeal := hAdamSmallRefIdeal)
    ∧ preserves_FinalLoss_FinalLossIdeal
    ∧ algebraic_FinalLossIdeal_FinalLossRefIdeal (hFinalLossIdeal := hFinalLossIdeal) (hFinalLossRefIdeal := hFinalLossRefIdeal)
    ∧ preserves_RmsBwd_RmsBwdIdeal
    ∧ algebraic_RmsBwdIdeal_RmsBwdRefIdeal (hRmsBwdIdeal := hRmsBwdIdeal) (hRmsBwdRefIdeal := hRmsBwdRefIdeal)
    ∧ preserves_LossBwd_LossBwdIdeal
    ∧ algebraic_LossBwdIdeal_LossBwdRefIdeal (hLossBwdIdeal := hLossBwdIdeal) (hLossBwdRefIdeal := hLossBwdRefIdeal)
    ∧ preserves_RmsFwd_RmsFwdIdeal
    ∧ algebraic_RmsFwdIdeal_RmsFwdRefIdeal (hRmsFwdIdeal := hRmsFwdIdeal) (hRmsFwdRefIdeal := hRmsFwdRefIdeal)
-- ==== Kernel.lean ====
abbrev S4096x4096 : Shape := ⟨2, ![4096, 4096]⟩
abbrev S4096x6144 : Shape := ⟨2, ![4096, 6144]⟩
abbrev S4096x64 : Shape := ⟨2, ![4096, 64]⟩
abbrev S64x4096x128 : Shape := ⟨3, ![64, 4096, 128]⟩
abbrev S64 : Shape := ⟨1, ![64]⟩
abbrev S128x4096 : Shape := ⟨2, ![128, 4096]⟩
abbrev S_ : Shape := ⟨0, ![]⟩
abbrev S4096x128 : Shape := ⟨2, ![4096, 128]⟩
abbrev S64x64 : Shape := ⟨2, ![64, 64]⟩
abbrev S4096 : Shape := ⟨1, ![4096]⟩
abbrev S1x4096 : Shape := ⟨2, ![1, 4096]⟩
abbrev S1x64 : Shape := ⟨2, ![1, 64]⟩
abbrev S1x128 : Shape := ⟨2, ![1, 128]⟩
abbrev S64x4096 : Shape := ⟨2, ![64, 4096]⟩
abbrev S64x6144 : Shape := ⟨2, ![64, 6144]⟩
abbrev S64x128 : Shape := ⟨2, ![64, 128]⟩
abbrev S1x4096x128 : Shape := ⟨3, ![1, 4096, 128]⟩
abbrev S8x4096 : Shape := ⟨2, ![8, 4096]⟩
abbrev S64x512 : Shape := ⟨2, ![64, 512]⟩
abbrev S512x512 : Shape := ⟨2, ![512, 512]⟩
abbrev S128x128 : Shape := ⟨2, ![128, 128]⟩
abbrev S8x128 : Shape := ⟨2, ![8, 128]⟩
abbrev S512x128 : Shape := ⟨2, ![512, 128]⟩
abbrev S1x512x128 : Shape := ⟨3, ![1, 512, 128]⟩
abbrev S1x512 : Shape := ⟨2, ![1, 512]⟩
abbrev S8x512 : Shape := ⟨2, ![8, 512]⟩
abbrev S128 : Shape := ⟨1, ![128]⟩

abbrev nBuf : Space → Nat
  | .hbm => 49
  | .vmem => 26
  | .smem => 0
  | _ => 0

abbrev bufTy : (tb : Table) → Fin (tcTables nBuf tb) → BufTy
  | .hbm, ⟨0, _⟩ => ⟨S4096x4096, .f32⟩
  | .hbm, ⟨1, _⟩ => ⟨S4096x6144, .f32⟩
  | .hbm, ⟨2, _⟩ => ⟨S4096x64, .f32⟩
  | .hbm, ⟨3, _⟩ => ⟨S64x4096x128, .f32⟩
  | .hbm, ⟨4, _⟩ => ⟨S64, .f32⟩
  | .hbm, ⟨5, _⟩ => ⟨S64, .f32⟩
  | .hbm, ⟨6, _⟩ => ⟨S64, .f32⟩
  | .hbm, ⟨7, _⟩ => ⟨S128x4096, .i32⟩
  | .hbm, ⟨8, _⟩ => ⟨S128x4096, .i32⟩
  | .hbm, ⟨9, _⟩ => ⟨S_, .i32⟩
  | .hbm, ⟨10, _⟩ => ⟨S_, .i32⟩
  | .hbm, ⟨11, _⟩ => ⟨S128x4096, .i32⟩
  | .hbm, ⟨12, _⟩ => ⟨S128x4096, .i32⟩
  | .hbm, ⟨13, _⟩ => ⟨S128x4096, .i32⟩
  | .hbm, ⟨14, _⟩ => ⟨S_, .i32⟩
  | .hbm, ⟨15, _⟩ => ⟨S128x4096, .i32⟩
  | .hbm, ⟨16, _⟩ => ⟨S128x4096, .i1⟩
  | .hbm, ⟨17, _⟩ => ⟨S128x4096, .i32⟩
  | .hbm, ⟨18, _⟩ => ⟨S128x4096, .i32⟩
  | .hbm, ⟨19, _⟩ => ⟨S_, .i32⟩
  | .hbm, ⟨20, _⟩ => ⟨S128x4096, .i32⟩
  | .hbm, ⟨21, _⟩ => ⟨S128x4096, .i1⟩
  | .hbm, ⟨22, _⟩ => ⟨S128x4096, .i1⟩
  | .hbm, ⟨23, _⟩ => ⟨S_, .i32⟩
  | .hbm, ⟨24, _⟩ => ⟨S128x4096, .i32⟩
  | .hbm, ⟨25, _⟩ => ⟨S128x4096, .i32⟩
  | .hbm, ⟨26, _⟩ => ⟨S128x4096, .i32⟩
  | .hbm, ⟨27, _⟩ => ⟨S128x4096, .i1⟩
  | .hbm, ⟨28, _⟩ => ⟨S128x4096, .bf16⟩
  | .hbm, ⟨29, _⟩ => ⟨S4096x128, .bf16⟩
  | .hbm, ⟨30, _⟩ => ⟨S_, .i32⟩
  | .hbm, ⟨31, _⟩ => ⟨S_, .f32⟩
  | .hbm, ⟨32, _⟩ => ⟨S4096x128, .f32⟩
  | .hbm, ⟨33, _⟩ => ⟨S64x64, .f32⟩
  | .hbm, ⟨34, _⟩ => ⟨S4096, .f32⟩
  | .hbm, ⟨35, _⟩ => ⟨S1x4096, .f32⟩
  | .hbm, ⟨36, _⟩ => ⟨S1x64, .f32⟩
  | .hbm, ⟨37, _⟩ => ⟨S_, .i32⟩
  | .hbm, ⟨38, _⟩ => ⟨S_, .f32⟩
  | .hbm, ⟨39, _⟩ => ⟨S1x128, .f32⟩
  | .hbm, ⟨40, _⟩ => ⟨S1x64, .f32⟩
  | .hbm, ⟨41, _⟩ => ⟨S_, .i32⟩
  | .hbm, ⟨42, _⟩ => ⟨S_, .f32⟩
  | .hbm, ⟨43, _⟩ => ⟨S1x128, .f32⟩
  | .hbm, ⟨44, _⟩ => ⟨S4096x6144, .f32⟩
  | .hbm, ⟨45, _⟩ => ⟨S4096x128, .f32⟩
  | .hbm, ⟨46, _⟩ => ⟨S1x128, .f32⟩
  | .hbm, ⟨47, _⟩ => ⟨S1x128, .f32⟩
  | .hbm, ⟨48, _⟩ => ⟨S1x128, .f32⟩
  | .local _ .vmem, ⟨0, _⟩ => ⟨S64x4096, .f32⟩
  | .local _ .vmem, ⟨1, _⟩ => ⟨S64x4096, .f32⟩
  | .local _ .vmem, ⟨2, _⟩ => ⟨S64x6144, .f32⟩
  | .local _ .vmem, ⟨3, _⟩ => ⟨S64x6144, .f32⟩
  | .local _ .vmem, ⟨4, _⟩ => ⟨S64x128, .f32⟩
  | .local _ .vmem, ⟨5, _⟩ => ⟨S64x128, .f32⟩
  | .local _ .vmem, ⟨6, _⟩ => ⟨S1x4096x128, .f32⟩
  | .local _ .vmem, ⟨7, _⟩ => ⟨S1x4096x128, .f32⟩
  | .local _ .vmem, ⟨8, _⟩ => ⟨S1x128, .f32⟩
  | .local _ .vmem, ⟨9, _⟩ => ⟨S1x128, .f32⟩
  | .local _ .vmem, ⟨10, _⟩ => ⟨S1x4096, .f32⟩
  | .local _ .vmem, ⟨11, _⟩ => ⟨S128x4096, .bf16⟩
  | .local _ .vmem, ⟨12, _⟩ => ⟨S4096x128, .bf16⟩
  | .local _ .vmem, ⟨13, _⟩ => ⟨S64x6144, .f32⟩
  | .local _ .vmem, ⟨14, _⟩ => ⟨S64x6144, .f32⟩
  | .local _ .vmem, ⟨15, _⟩ => ⟨S64x128, .f32⟩
  | .local _ .vmem, ⟨16, _⟩ => ⟨S64x128, .f32⟩
  | .local _ .vmem, ⟨17, _⟩ => ⟨S1x128, .f32⟩
  | .local _ .vmem, ⟨18, _⟩ => ⟨S1x128, .f32⟩
  | .local _ .vmem, ⟨19, _⟩ => ⟨S1x128, .f32⟩
  | .local _ .vmem, ⟨20, _⟩ => ⟨S4096x128, .f32⟩
  | .local _ .vmem, ⟨21, _⟩ => ⟨S64x4096, .f32⟩
  | .local _ .vmem, ⟨22, _⟩ => ⟨S64x4096, .f32⟩
  | .local _ .vmem, ⟨23, _⟩ => ⟨S64x4096, .f32⟩
  | .local _ .vmem, ⟨24, _⟩ => ⟨S64x4096, .f32⟩
  | .local _ .vmem, ⟨25, _⟩ => ⟨S8x4096, .f32⟩
  | _, _ => ⟨S4096x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_c : Ref sig .tc := ⟨.hbm, 9, rfl⟩
abbrev main_call0_v0 : Ref sig .tc := ⟨.hbm, 10, rfl⟩
abbrev main_call0_v1 : Ref sig .tc := ⟨.hbm, 11, rfl⟩
abbrev main_call0_v2 : Ref sig .tc := ⟨.hbm, 12, rfl⟩
abbrev main_call0_v3 : Ref sig .tc := ⟨.hbm, 13, rfl⟩
abbrev main_call0_v4 : Ref sig .tc := ⟨.hbm, 14, rfl⟩
abbrev main_call0_v5 : Ref sig .tc := ⟨.hbm, 15, rfl⟩
abbrev main_call0_v6 : Ref sig .tc := ⟨.hbm, 16, rfl⟩
abbrev main_call0_v7 : Ref sig .tc := ⟨.hbm, 17, rfl⟩
abbrev main_call0_v8 : Ref sig .tc := ⟨.hbm, 18, rfl⟩
abbrev main_call0_c : Ref sig .tc := ⟨.hbm, 19, rfl⟩
abbrev main_call0_v9 : Ref sig .tc := ⟨.hbm, 20, rfl⟩
abbrev main_call0_v10 : Ref sig .tc := ⟨.hbm, 21, rfl⟩
abbrev main_call0_v11 : Ref sig .tc := ⟨.hbm, 22, rfl⟩
abbrev main_call0_c_0 : Ref sig .tc := ⟨.hbm, 23, rfl⟩
abbrev main_call0_v12 : Ref sig .tc := ⟨.hbm, 24, rfl⟩
abbrev main_call0_v13 : Ref sig .tc := ⟨.hbm, 25, rfl⟩
abbrev main_v2 : Ref sig .tc := ⟨.hbm, 26, rfl⟩
abbrev main_v3 : Ref sig .tc := ⟨.hbm, 27, rfl⟩
abbrev main_v4 : Ref sig .tc := ⟨.hbm, 28, rfl⟩
abbrev main_v5 : Ref sig .tc := ⟨.hbm, 29, rfl⟩
abbrev main_c_0 : Ref sig .tc := ⟨.hbm, 30, rfl⟩
abbrev main_call1_v0 : Ref sig .tc := ⟨.hbm, 31, rfl⟩
abbrev main_v6 : Ref sig .tc := ⟨.hbm, 32, rfl⟩
abbrev main_v7 : Ref sig .tc := ⟨.hbm, 33, rfl⟩
abbrev main_v8 : Ref sig .tc := ⟨.hbm, 34, rfl⟩
abbrev main_v9 : Ref sig .tc := ⟨.hbm, 35, rfl⟩
abbrev main_v10 : Ref sig .tc := ⟨.hbm, 36, rfl⟩
abbrev main_c_1 : Ref sig .tc := ⟨.hbm, 37, rfl⟩
abbrev main_call2_v0 : Ref sig .tc := ⟨.hbm, 38, rfl⟩
abbrev main_v11 : Ref sig .tc := ⟨.hbm, 39, rfl⟩
abbrev main_v12 : Ref sig .tc := ⟨.hbm, 40, rfl⟩
abbrev main_c_2 : Ref sig .tc := ⟨.hbm, 41, rfl⟩
abbrev main_call3_v0 : Ref sig .tc := ⟨.hbm, 42, rfl⟩
abbrev main_v13 : Ref sig .tc := ⟨.hbm, 43, rfl⟩
abbrev main_v14_0 : Ref sig .tc := ⟨.hbm, 44, rfl⟩
abbrev main_v14_1 : Ref sig .tc := ⟨.hbm, 45, rfl⟩
abbrev main_v14_2 : Ref sig .tc := ⟨.hbm, 46, rfl⟩
abbrev main_v14_3 : Ref sig .tc := ⟨.hbm, 47, rfl⟩
abbrev main_v14_4 : Ref sig .tc := ⟨.hbm, 48, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg9_0 : Ref sig .tc := ⟨.vmem, 13, rfl⟩
abbrev cc0_stg9_1 : Ref sig .tc := ⟨.vmem, 14, rfl⟩
abbrev cc0_stg10_0 : Ref sig .tc := ⟨.vmem, 15, rfl⟩
abbrev cc0_stg10_1 : Ref sig .tc := ⟨.vmem, 16, rfl⟩
abbrev cc0_stg11_0 : Ref sig .tc := ⟨.vmem, 17, rfl⟩
abbrev cc0_stg12_0 : Ref sig .tc := ⟨.vmem, 18, rfl⟩
abbrev cc0_stg13_0 : Ref sig .tc := ⟨.vmem, 19, rfl⟩
abbrev cc0_scratch0 : Ref sig .tc := ⟨.vmem, 20, rfl⟩
abbrev cc0_scratch1 : Ref sig .tc := ⟨.vmem, 21, rfl⟩
abbrev cc0_scratch2 : Ref sig .tc := ⟨.vmem, 22, rfl⟩
abbrev cc0_scratch3 : Ref sig .tc := ⟨.vmem, 23, rfl⟩
abbrev cc0_scratch4 : Ref sig .tc := ⟨.vmem, 24, rfl⟩
abbrev cc0_scratch5 : Ref sig .tc := ⟨.vmem, 25, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem8_0 : DmaSem sig := 12
abbrev cc0_sem9_0 : DmaSem sig := 13
abbrev cc0_sem9_1 : DmaSem sig := 14
abbrev cc0_sem10_0 : DmaSem sig := 15
abbrev cc0_sem10_1 : DmaSem sig := 16
abbrev cc0_sem11_0 : DmaSem sig := 17
abbrev cc0_sem12_0 : DmaSem sig := 18
abbrev cc0_sem13_0 : DmaSem sig := 19

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c63_i32 : BitVec 32 := 63#32
  let v0 : BitVec 32 := Scalar.subi c63_i32 arg0
  let c0_i32 : BitVec 32 := 0#32
  let c0_i32_0 : BitVec 32 := 0#32
  ![v0.toNat, c0_i32.toNat]

def cc0_transform_1 (i : grid0.Coords) : Fin 2 → Nat :=
  let arg0 : BitVec 32 := BitVec.ofNat 32 (i 0).val
  let c63_i32 : BitVec 32 := 63#32
  let v0 : BitVec 32 := Scalar.subi c63_i32 arg0
  let c0_i32 : BitVec 32 := 0#32
  let c0_i32_0 : BitVec 32 := 0#32
  ![v0.toNat, c0_i32.toNat]

def cc0_transform_2 (i : grid0.Coords) : Fin 2 → Nat :=
  let arg0 : BitVec 32 := BitVec.ofNat 32 (i 0).val
  let c63_i32 : BitVec 32 := 63#32
  let v0 : BitVec 32 := Scalar.subi c63_i32 arg0
  let c0_i32 : BitVec 32 := 0#32
  let c0_i32_0 : BitVec 32 := 0#32
  ![v0.toNat, c0_i32.toNat]

def cc0_transform_3 (i : grid0.Coords) : Fin 3 → Nat :=
  let arg0 : BitVec 32 := BitVec.ofNat 32 (i 0).val
  let c63_i32 : BitVec 32 := 63#32
  let v0 : BitVec 32 := Scalar.subi c63_i32 arg0
  let c0_i32 : BitVec 32 := 0#32
  let c0_i32_0 : BitVec 32 := 0#32
  let c0_i32_1 : BitVec 32 := 0#32
  ![v0.toNat, c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c63_i32 : BitVec 32 := 63#32
  let v0 : BitVec 32 := Scalar.subi c63_i32 arg0
  let c0_i32 : BitVec 32 := 0#32
  let c0_i32_0 : BitVec 32 := 0#32
  ![v0.toNat, c0_i32.toNat]

def cc0_transform_10 (i : grid0.Coords) : Fin 2 → Nat :=
  let arg0 : BitVec 32 := BitVec.ofNat 32 (i 0).val
  let c63_i32 : BitVec 32 := 63#32
  let v0 : BitVec 32 := Scalar.subi c63_i32 arg0
  let c0_i32 : BitVec 32 := 0#32
  let c0_i32_0 : BitVec 32 := 0#32
  ![v0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S64x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S64x6144 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S64x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x4096x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x4096 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S128x4096 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S4096x128 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S64x6144 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S64x128 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 1 → Memref sig .tc .vmem S1x128 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S1x128 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S1x128 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]
-- ==== FfnUpDx.lean ====
abbrev S2x4096x5632 : Shape := ⟨3, ![2, 4096, 5632]⟩
abbrev S8x2048x1408 : Shape := ⟨3, ![8, 2048, 1408]⟩
abbrev S4096x2048 : Shape := ⟨2, ![4096, 2048]⟩
abbrev S1x512x2816 : Shape := ⟨3, ![1, 512, 2816]⟩
abbrev S2x2048x1408 : Shape := ⟨3, ![2, 2048, 1408]⟩
abbrev S512x2048 : Shape := ⟨2, ![512, 2048]⟩
abbrev S1x512x1408 : Shape := ⟨3, ![1, 512, 1408]⟩
abbrev S512x1408 : Shape := ⟨2, ![512, 1408]⟩
abbrev S1x2048x1408 : Shape := ⟨3, ![1, 2048, 1408]⟩
abbrev S2048x1408 : Shape := ⟨2, ![2048, 1408]⟩

abbrev nBuf : Space → Nat
  | .hbm => 3
  | .vmem => 7
  | .smem => 0
  | _ => 0

abbrev bufTy : (tb : Table) → Fin (tcTables nBuf tb) → BufTy
  | .hbm, ⟨0, _⟩ => ⟨S2x4096x5632, .bf16⟩
  | .hbm, ⟨1, _⟩ => ⟨S8x2048x1408, .bf16⟩
  | .hbm, ⟨2, _⟩ => ⟨S4096x2048, .f32⟩
  | .local _ .vmem, ⟨0, _⟩ => ⟨S1x512x2816, .bf16⟩
  | .local _ .vmem, ⟨1, _⟩ => ⟨S1x512x2816, .bf16⟩
  | .local _ .vmem, ⟨2, _⟩ => ⟨S2x2048x1408, .bf16⟩
  | .local _ .vmem, ⟨3, _⟩ => ⟨S2x2048x1408, .bf16⟩
  | .local _ .vmem, ⟨4, _⟩ => ⟨S512x2048, .f32⟩
  | .local _ .vmem, ⟨5, _⟩ => ⟨S512x2048, .f32⟩
  | .local _ .vmem, ⟨6, _⟩ => ⟨S512x2048, .f32⟩
  | _, _ => ⟨S2x4096x5632, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![8, 4], ![false, false]⟩

def k0_cond3 (i : grid0.Coords) : BitVec 1 :=
  let arg1 : BitVec 32 := BitVec.ofNat 32 (i 1).val
  let c3_i32 : BitVec 32 := 3#32
  let v17 : BitVec 1 := Scalar.cmpi .eq arg1 c3_i32
  let v18 : BitVec 32 := Scalar.extui v17
  let c0_i32_13 : BitVec 32 := 0#32
  let v19 : BitVec 1 := Scalar.cmpi .ne v18 c0_i32_13
  v19

def cc0_transform_0 (i : grid0.Coords) : Fin 3 → Nat :=
  let arg0 : BitVec 32 := BitVec.ofNat 32 (i 0).val
  let arg1 : BitVec 32 := BitVec.ofNat 32 (i 1).val
  let c2_i32 : BitVec 32 := 2#32
  let v0 : BitVec 32 := Scalar.divsi arg1 c2_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg1 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c2_i32_4 : BitVec 32 := 2#32
  let c0_i32_5 : BitVec 32 := 0#32
  let v17 : BitVec 1 := Scalar.cmpi .eq c2_i32_4 c0_i32_5
  let c1_i32_6 : BitVec 32 := 1#32
  let v18 : BitVec 32 := Scalar.select v17 c1_i32_6 c2_i32_4
  let v19 : BitVec 32 := Scalar.remsi arg1 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  ![v16.toNat, arg0.toNat, v26.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1x512x2816 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S2x2048x1408 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S512x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]
-- ==== FfnUpDxRefIdeal.lean ====
abbrev S2x4096x5632 : Shape := ⟨3, ![2, 4096, 5632]⟩
abbrev S8x2048x1408 : Shape := ⟨3, ![8, 2048, 1408]⟩
abbrev S4096x2x5632 : Shape := ⟨3, ![4096, 2, 5632]⟩
abbrev S4096x11264 : Shape := ⟨2, ![4096, 11264]⟩
abbrev S_ : Shape := ⟨0, ![]⟩
abbrev S4096x2048 : Shape := ⟨2, ![4096, 2048]⟩
abbrev S2048x8x1408 : Shape := ⟨3, ![2048, 8, 1408]⟩
abbrev S2048x11264 : Shape := ⟨2, ![2048, 11264]⟩

abbrev nBuf : Space → Nat
  | .hbm => 12
  | .vmem => 0
  | .smem => 0
  | _ => 0

abbrev bufTy : (tb : Table) → Fin (tcTables nBuf tb) → BufTy
  | .hbm, ⟨0, _⟩ => ⟨S2x4096x5632, .bf16⟩
  | .hbm, ⟨1, _⟩ => ⟨S8x2048x1408, .bf16⟩
  | .hbm, ⟨2, _⟩ => ⟨S2x4096x5632, .f32⟩
  | .hbm, ⟨3, _⟩ => ⟨S4096x2x5632, .f32⟩
  | .hbm, ⟨4, _⟩ => ⟨S4096x11264, .f32⟩
  | .hbm, ⟨5, _⟩ => ⟨S_, .f32⟩
  | .hbm, ⟨6, _⟩ => ⟨S4096x2048, .f32⟩
  | .hbm, ⟨7, _⟩ => ⟨S8x2048x1408, .f32⟩
  | .hbm, ⟨8, _⟩ => ⟨S2048x8x1408, .f32⟩
  | .hbm, ⟨9, _⟩ => ⟨S2048x11264, .f32⟩
  | .hbm, ⟨10, _⟩ => ⟨S4096x11264, .f32⟩
  | .hbm, ⟨11, _⟩ => ⟨S4096x2048, .f32⟩
  | _, _ => ⟨S2x4096x5632, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_cst : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩

abbrev nD : Nat := 1
abbrev τ : Topo := Topo.v7x

variable {F : FTy → Type} [FloatOps F]
-- ==== FfnUpDw.lean ====
abbrev S4096x2048 : Shape := ⟨2, ![4096, 2048]⟩
abbrev S2x4096x5632 : Shape := ⟨3, ![2, 4096, 5632]⟩
abbrev S8x2048x1408 : Shape := ⟨3, ![8, 2048, 1408]⟩
abbrev S4096x256 : Shape := ⟨2, ![4096, 256]⟩
abbrev S1x4096x1408 : Shape := ⟨3, ![1, 4096, 1408]⟩
abbrev S1x256x1408 : Shape := ⟨3, ![1, 256, 1408]⟩
abbrev S4096x1408 : Shape := ⟨2, ![4096, 1408]⟩
abbrev S256x1408 : Shape := ⟨2, ![256, 1408]⟩

abbrev nBuf : Space → Nat
  | .hbm => 3
  | .vmem => 6
  | .smem => 0
  | _ => 0

abbrev bufTy : (tb : Table) → Fin (tcTables nBuf tb) → BufTy
  | .hbm, ⟨0, _⟩ => ⟨S4096x2048, .bf16⟩
  | .hbm, ⟨1, _⟩ => ⟨S2x4096x5632, .bf16⟩
  | .hbm, ⟨2, _⟩ => ⟨S8x2048x1408, .bf16⟩
  | .local _ .vmem, ⟨0, _⟩ => ⟨S4096x256, .bf16⟩
  | .local _ .vmem, ⟨1, _⟩ => ⟨S4096x256, .bf16⟩
  | .local _ .vmem, ⟨2, _⟩ => ⟨S1x4096x1408, .bf16⟩
  | .local _ .vmem, ⟨3, _⟩ => ⟨S1x4096x1408, .bf16⟩
  | .local _ .vmem, ⟨4, _⟩ => ⟨S1x256x1408, .bf16⟩
  | .local _ .vmem, ⟨5, _⟩ => ⟨S1x256x1408, .bf16⟩
  | _, _ => ⟨S4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![8, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_1 (i : grid0.Coords) : Fin 3 → Nat :=
  let arg0 : BitVec 32 := BitVec.ofNat 32 (i 0).val
  let arg1 : BitVec 32 := BitVec.ofNat 32 (i 1).val
  let c4_i32 : BitVec 32 := 4#32
  let v0 : BitVec 32 := Scalar.divsi arg0 c4_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c4_i32_4 : BitVec 32 := 4#32
  let c0_i32_5 : BitVec 32 := 0#32
  let v17 : BitVec 1 := Scalar.cmpi .eq c4_i32_4 c0_i32_5
  let c1_i32_6 : BitVec 32 := 1#32
  let v18 : BitVec 32 := Scalar.select v17 c1_i32_6 c4_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  ![v16.toNat, c0_i32_10.toNat, v26.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S4096x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1x4096x1408 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x256x1408 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== FfnUpDwRefIdeal.lean ====
abbrev S4096x2048 : Shape := ⟨2, ![4096, 2048]⟩
abbrev S2x4096x5632 : Shape := ⟨3, ![2, 4096, 5632]⟩
abbrev S4096x2x5632 : Shape := ⟨3, ![4096, 2, 5632]⟩
abbrev S4096x11264 : Shape := ⟨2, ![4096, 11264]⟩
abbrev S_ : Shape := ⟨0, ![]⟩
abbrev S8x2048x1408 : Shape := ⟨3, ![8, 2048, 1408]⟩
abbrev S2048x8x1408 : Shape := ⟨3, ![2048, 8, 1408]⟩
abbrev S2048x11264 : Shape := ⟨2, ![2048, 11264]⟩
abbrev S11264x2048 : Shape := ⟨2, ![11264, 2048]⟩

abbrev nBuf : Space → Nat
  | .hbm => 16
  | .vmem => 0
  | .smem => 0
  | _ => 0

abbrev bufTy : (tb : Table) → Fin (tcTables nBuf tb) → BufTy
  | .hbm, ⟨0, _⟩ => ⟨S4096x2048, .bf16⟩
  | .hbm, ⟨1, _⟩ => ⟨S2x4096x5632, .bf16⟩
  | .hbm, ⟨2, _⟩ => ⟨S2x4096x5632, .f32⟩
  | .hbm, ⟨3, _⟩ => ⟨S4096x2x5632, .f32⟩
  | .hbm, ⟨4, _⟩ => ⟨S4096x11264, .f32⟩
  | .hbm, ⟨5, _⟩ => ⟨S_, .f32⟩
  | .hbm, ⟨6, _⟩ => ⟨S8x2048x1408, .f32⟩
  | .hbm, ⟨7, _⟩ => ⟨S4096x2048, .f32⟩
  | .hbm, ⟨8, _⟩ => ⟨S2048x8x1408, .f32⟩
  | .hbm, ⟨9, _⟩ => ⟨S2048x11264, .f32⟩
  | .hbm, ⟨10, _⟩ => ⟨S4096x11264, .f32⟩
  | .hbm, ⟨11, _⟩ => ⟨S11264x2048, .f32⟩
  | .hbm, ⟨12, _⟩ => ⟨S2048x11264, .f32⟩
  | .hbm, ⟨13, _⟩ => ⟨S2048x8x1408, .f32⟩
  | .hbm, ⟨14, _⟩ => ⟨S8x2048x1408, .f32⟩
  | .hbm, ⟨15, _⟩ => ⟨S8x2048x1408, .bf16⟩
  | _, _ => ⟨S4096x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_cst : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩

abbrev nD : Nat := 1
abbrev τ : Topo := Topo.v7x

variable {F : FTy → Type} [FloatOps F]
-- ==== FfnDownDx.lean ====
abbrev S4096x2048 : Shape := ⟨2, ![4096, 2048]⟩
abbrev S5632x2048 : Shape := ⟨2, ![5632, 2048]⟩
abbrev S4096x5632 : Shape := ⟨2, ![4096, 5632]⟩
abbrev S512x2048 : Shape := ⟨2, ![512, 2048]⟩
abbrev S512x512 : Shape := ⟨2, ![512, 512]⟩

abbrev nBuf : Space → Nat
  | .hbm => 3
  | .vmem => 6
  | .smem => 0
  | _ => 0

abbrev bufTy : (tb : Table) → Fin (tcTables nBuf tb) → BufTy
  | .hbm, ⟨0, _⟩ => ⟨S4096x2048, .bf16⟩
  | .hbm, ⟨1, _⟩ => ⟨S5632x2048, .bf16⟩
  | .hbm, ⟨2, _⟩ => ⟨S4096x5632, .f32⟩
  | .local _ .vmem, ⟨0, _⟩ => ⟨S512x2048, .bf16⟩
  | .local _ .vmem, ⟨1, _⟩ => ⟨S512x2048, .bf16⟩
  | .local _ .vmem, ⟨2, _⟩ => ⟨S512x2048, .bf16⟩
  | .local _ .vmem, ⟨3, _⟩ => ⟨S512x2048, .bf16⟩
  | .local _ .vmem, ⟨4, _⟩ => ⟨S512x512, .f32⟩
  | .local _ .vmem, ⟨5, _⟩ => ⟨S512x512, .f32⟩
  | _, _ => ⟨S4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![8, 11], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S512x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S512x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S512x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== FfnDownDxRefIdeal.lean ====
abbrev S4096x2048 : Shape := ⟨2, ![4096, 2048]⟩
abbrev S5632x2048 : Shape := ⟨2, ![5632, 2048]⟩
abbrev S_ : Shape := ⟨0, ![]⟩
abbrev S4096x5632 : Shape := ⟨2, ![4096, 5632]⟩

abbrev nBuf : Space → Nat
  | .hbm => 8
  | .vmem => 0
  | .smem => 0
  | _ => 0

abbrev bufTy : (tb : Table) → Fin (tcTables nBuf tb) → BufTy
  | .hbm, ⟨0, _⟩ => ⟨S4096x2048, .bf16⟩
  | .hbm, ⟨1, _⟩ => ⟨S5632x2048, .bf16⟩
  | .hbm, ⟨2, _⟩ => ⟨S_, .f32⟩
  | .hbm, ⟨3, _⟩ => ⟨S4096x5632, .f32⟩
  | .hbm, ⟨4, _⟩ => ⟨S5632x2048, .f32⟩
  | .hbm, ⟨5, _⟩ => ⟨S4096x2048, .f32⟩
  | .hbm, ⟨6, _⟩ => ⟨S4096x2048, .f32⟩
  | .hbm, ⟨7, _⟩ => ⟨S4096x5632, .f32⟩
  | _, _ => ⟨S4096x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== FfnDownDw.lean ====
abbrev S4096x5632 : Shape := ⟨2, ![4096, 5632]⟩
abbrev S4096x2048 : Shape := ⟨2, ![4096, 2048]⟩
abbrev S5632x2048 : Shape := ⟨2, ![5632, 2048]⟩
abbrev S4096x512 : Shape := ⟨2, ![4096, 512]⟩
abbrev S4096x1024 : Shape := ⟨2, ![4096, 1024]⟩
abbrev S512x1024 : Shape := ⟨2, ![512, 1024]⟩

abbrev nBuf : Space → Nat
  | .hbm => 3
  | .vmem => 6
  | .smem => 0
  | _ => 0

abbrev bufTy : (tb : Table) → Fin (tcTables nBuf tb) → BufTy
  | .hbm, ⟨0, _⟩ => ⟨S4096x5632, .bf16⟩
  | .hbm, ⟨1, _⟩ => ⟨S4096x2048, .bf16⟩
  | .hbm, ⟨2, _⟩ => ⟨S5632x2048, .bf16⟩
  | .local _ .vmem, ⟨0, _⟩ => ⟨S4096x512, .bf16⟩
  | .local _ .vmem, ⟨1, _⟩ => ⟨S4096x512, .bf16⟩
  | .local _ .vmem, ⟨2, _⟩ => ⟨S4096x1024, .bf16⟩
  | .local _ .vmem, ⟨3, _⟩ => ⟨S4096x1024, .bf16⟩
  | .local _ .vmem, ⟨4, _⟩ => ⟨S512x1024, .bf16⟩
  | .local _ .vmem, ⟨5, _⟩ => ⟨S512x1024, .bf16⟩
  | _, _ => ⟨S4096x5632, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![2, 11], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S4096x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S4096x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== FfnDownDwRefIdeal.lean ====
abbrev S4096x5632 : Shape := ⟨2, ![4096, 5632]⟩
abbrev S4096x2048 : Shape := ⟨2, ![4096, 2048]⟩
abbrev S_ : Shape := ⟨0, ![]⟩
abbrev S5632x2048 : Shape := ⟨2, ![5632, 2048]⟩
abbrev S2048x5632 : Shape := ⟨2, ![2048, 5632]⟩

abbrev nBuf : Space → Nat
  | .hbm => 10
  | .vmem => 0
  | .smem => 0
  | _ => 0

abbrev bufTy : (tb : Table) → Fin (tcTables nBuf tb) → BufTy
  | .hbm, ⟨0, _⟩ => ⟨S4096x5632, .bf16⟩
  | .hbm, ⟨1, _⟩ => ⟨S4096x2048, .bf16⟩
  | .hbm, ⟨2, _⟩ => ⟨S_, .f32⟩
  | .hbm, ⟨3, _⟩ => ⟨S5632x2048, .f32⟩
  | .hbm, ⟨4, _⟩ => ⟨S4096x5632, .f32⟩
  | .hbm, ⟨5, _⟩ => ⟨S4096x2048, .f32⟩
  | .hbm, ⟨6, _⟩ => ⟨S4096x2048, .f32⟩
  | .hbm, ⟨7, _⟩ => ⟨S2048x5632, .f32⟩
  | .hbm, ⟨8, _⟩ => ⟨S5632x2048, .f32⟩
  | .hbm, ⟨9, _⟩ => ⟨S5632x2048, .bf16⟩
  | _, _ => ⟨S4096x5632, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== SsmInDx.lean ====
abbrev S4096x11264 : Shape := ⟨2, ![4096, 11264]⟩
abbrev S8x2048x1408 : Shape := ⟨3, ![8, 2048, 1408]⟩
abbrev S4096x2048 : Shape := ⟨2, ![4096, 2048]⟩
abbrev S512x2816 : Shape := ⟨2, ![512, 2816]⟩
abbrev S2x2048x1408 : Shape := ⟨3, ![2, 2048, 1408]⟩
abbrev S512x2048 : Shape := ⟨2, ![512, 2048]⟩
abbrev S512x1408 : Shape := ⟨2, ![512, 1408]⟩
abbrev S1x2048x1408 : Shape := ⟨3, ![1, 2048, 1408]⟩
abbrev S2048x1408 : Shape := ⟨2, ![2048, 1408]⟩

abbrev nBuf : Space → Nat
  | .hbm => 3
  | .vmem => 7
  | .smem => 0
  | _ => 0

abbrev bufTy : (tb : Table) → Fin (tcTables nBuf tb) → BufTy
  | .hbm, ⟨0, _⟩ => ⟨S4096x11264, .bf16⟩
  | .hbm, ⟨1, _⟩ => ⟨S8x2048x1408, .bf16⟩
  | .hbm, ⟨2, _⟩ => ⟨S4096x2048, .f32⟩
  | .local _ .vmem, ⟨0, _⟩ => ⟨S512x2816, .bf16⟩
  | .local _ .vmem, ⟨1, _⟩ => ⟨S512x2816, .bf16⟩
  | .local _ .vmem, ⟨2, _⟩ => ⟨S2x2048x1408, .bf16⟩
  | .local _ .vmem, ⟨3, _⟩ => ⟨S2x2048x1408, .bf16⟩
  | .local _ .vmem, ⟨4, _⟩ => ⟨S512x2048, .f32⟩
  | .local _ .vmem, ⟨5, _⟩ => ⟨S512x2048, .f32⟩
  | .local _ .vmem, ⟨6, _⟩ => ⟨S512x2048, .f32⟩
  | _, _ => ⟨S4096x11264, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![8, 4], ![false, false]⟩

def k0_cond3 (i : grid0.Coords) : BitVec 1 :=
  let arg1 : BitVec 32 := BitVec.ofNat 32 (i 1).val
  let c3_i32 : BitVec 32 := 3#32
  let v15 : BitVec 1 := Scalar.cmpi .eq arg1 c3_i32
  let v16 : BitVec 32 := Scalar.extui v15
  let c0_i32_11 : BitVec 32 := 0#32
  let v17 : BitVec 1 := Scalar.cmpi .ne v16 c0_i32_11
  v17

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S512x2816 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S2x2048x1408 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S512x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]
-- ==== SsmInDxRefIdeal.lean ====
abbrev S4096x11264 : Shape := ⟨2, ![4096, 11264]⟩
abbrev S8x2048x1408 : Shape := ⟨3, ![8, 2048, 1408]⟩
abbrev S_ : Shape := ⟨0, ![]⟩
abbrev S4096x2048 : Shape := ⟨2, ![4096, 2048]⟩
abbrev S2048x8x1408 : Shape := ⟨3, ![2048, 8, 1408]⟩
abbrev S2048x11264 : Shape := ⟨2, ![2048, 11264]⟩

abbrev nBuf : Space → Nat
  | .hbm => 10
  | .vmem => 0
  | .smem => 0
  | _ => 0

abbrev bufTy : (tb : Table) → Fin (tcTables nBuf tb) → BufTy
  | .hbm, ⟨0, _⟩ => ⟨S4096x11264, .bf16⟩
  | .hbm, ⟨1, _⟩ => ⟨S8x2048x1408, .bf16⟩
  | .hbm, ⟨2, _⟩ => ⟨S_, .f32⟩
  | .hbm, ⟨3, _⟩ => ⟨S4096x2048, .f32⟩
  | .hbm, ⟨4, _⟩ => ⟨S8x2048x1408, .f32⟩
  | .hbm, ⟨5, _⟩ => ⟨S2048x8x1408, .f32⟩
  | .hbm, ⟨6, _⟩ => ⟨S2048x11264, .f32⟩
  | .hbm, ⟨7, _⟩ => ⟨S4096x11264, .f32⟩
  | .hbm, ⟨8, _⟩ => ⟨S4096x11264, .f32⟩
  | .hbm, ⟨9, _⟩ => ⟨S4096x2048, .f32⟩
  | _, _ => ⟨S4096x11264, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== SsmInDw.lean ====
abbrev S4096x2048 : Shape := ⟨2, ![4096, 2048]⟩
abbrev S4096x11264 : Shape := ⟨2, ![4096, 11264]⟩
abbrev S8x2048x1408 : Shape := ⟨3, ![8, 2048, 1408]⟩
abbrev S4096x256 : Shape := ⟨2, ![4096, 256]⟩
abbrev S4096x1408 : Shape := ⟨2, ![4096, 1408]⟩
abbrev S1x256x1408 : Shape := ⟨3, ![1, 256, 1408]⟩
abbrev S256x1408 : Shape := ⟨2, ![256, 1408]⟩

abbrev nBuf : Space → Nat
  | .hbm => 3
  | .vmem => 6
  | .smem => 0
  | _ => 0

abbrev bufTy : (tb : Table) → Fin (tcTables nBuf tb) → BufTy
  | .hbm, ⟨0, _⟩ => ⟨S4096x2048, .bf16⟩
  | .hbm, ⟨1, _⟩ => ⟨S4096x11264, .bf16⟩
  | .hbm, ⟨2, _⟩ => ⟨S8x2048x1408, .bf16⟩
  | .local _ .vmem, ⟨0, _⟩ => ⟨S4096x256, .bf16⟩
  | .local _ .vmem, ⟨1, _⟩ => ⟨S4096x256, .bf16⟩
  | .local _ .vmem, ⟨2, _⟩ => ⟨S4096x1408, .bf16⟩
  | .local _ .vmem, ⟨3, _⟩ => ⟨S4096x1408, .bf16⟩
  | .local _ .vmem, ⟨4, _⟩ => ⟨S1x256x1408, .bf16⟩
  | .local _ .vmem, ⟨5, _⟩ => ⟨S1x256x1408, .bf16⟩
  | _, _ => ⟨S4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![8, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S4096x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S4096x1408 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x256x1408 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== SsmInDwRefIdeal.lean ====
abbrev S4096x2048 : Shape := ⟨2, ![4096, 2048]⟩
abbrev S4096x11264 : Shape := ⟨2, ![4096, 11264]⟩
abbrev S_ : Shape := ⟨0, ![]⟩
abbrev S8x2048x1408 : Shape := ⟨3, ![8, 2048, 1408]⟩
abbrev S2048x8x1408 : Shape := ⟨3, ![2048, 8, 1408]⟩
abbrev S2048x11264 : Shape := ⟨2, ![2048, 11264]⟩
abbrev S11264x2048 : Shape := ⟨2, ![11264, 2048]⟩

abbrev nBuf : Space → Nat
  | .hbm => 14
  | .vmem => 0
  | .smem => 0
  | _ => 0

abbrev bufTy : (tb : Table) → Fin (tcTables nBuf tb) → BufTy
  | .hbm, ⟨0, _⟩ => ⟨S4096x2048, .bf16⟩
  | .hbm, ⟨1, _⟩ => ⟨S4096x11264, .bf16⟩
  | .hbm, ⟨2, _⟩ => ⟨S_, .f32⟩
  | .hbm, ⟨3, _⟩ => ⟨S8x2048x1408, .f32⟩
  | .hbm, ⟨4, _⟩ => ⟨S4096x2048, .f32⟩
  | .hbm, ⟨5, _⟩ => ⟨S2048x8x1408, .f32⟩
  | .hbm, ⟨6, _⟩ => ⟨S2048x11264, .f32⟩
  | .hbm, ⟨7, _⟩ => ⟨S4096x11264, .f32⟩
  | .hbm, ⟨8, _⟩ => ⟨S4096x11264, .f32⟩
  | .hbm, ⟨9, _⟩ => ⟨S11264x2048, .f32⟩
  | .hbm, ⟨10, _⟩ => ⟨S2048x11264, .f32⟩
  | .hbm, ⟨11, _⟩ => ⟨S2048x8x1408, .f32⟩
  | .hbm, ⟨12, _⟩ => ⟨S8x2048x1408, .f32⟩
  | .hbm, ⟨13, _⟩ => ⟨S8x2048x1408, .bf16⟩
  | _, _ => ⟨S4096x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩

abbrev nD : Nat := 1
abbrev τ : Topo := Topo.v7x

variable {F : FTy → Type} [FloatOps F]
-- ==== SsmOutDx.lean ====
abbrev S4096x2048 : Shape := ⟨2, ![4096, 2048]⟩
abbrev S4096x4096 : Shape := ⟨2, ![4096, 4096]⟩
abbrev S512x2048 : Shape := ⟨2, ![512, 2048]⟩
abbrev S512x512 : Shape := ⟨2, ![512, 512]⟩

abbrev nBuf : Space → Nat
  | .hbm => 3
  | .vmem => 6
  | .smem => 0
  | _ => 0

abbrev bufTy : (tb : Table) → Fin (tcTables nBuf tb) → BufTy
  | .hbm, ⟨0, _⟩ => ⟨S4096x2048, .bf16⟩
  | .hbm, ⟨1, _⟩ => ⟨S4096x2048, .bf16⟩
  | .hbm, ⟨2, _⟩ => ⟨S4096x4096, .f32⟩
  | .local _ .vmem, ⟨0, _⟩ => ⟨S512x2048, .bf16⟩
  | .local _ .vmem, ⟨1, _⟩ => ⟨S512x2048, .bf16⟩
  | .local _ .vmem, ⟨2, _⟩ => ⟨S512x2048, .bf16⟩
  | .local _ .vmem, ⟨3, _⟩ => ⟨S512x2048, .bf16⟩
  | .local _ .vmem, ⟨4, _⟩ => ⟨S512x512, .f32⟩
  | .local _ .vmem, ⟨5, _⟩ => ⟨S512x512, .f32⟩
  | _, _ => ⟨S4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![8, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S512x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S512x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S512x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== SsmOutDxRefIdeal.lean ====
abbrev S4096x2048 : Shape := ⟨2, ![4096, 2048]⟩
abbrev S_ : Shape := ⟨0, ![]⟩
abbrev S4096x4096 : Shape := ⟨2, ![4096, 4096]⟩

abbrev nBuf : Space → Nat
  | .hbm => 8
  | .vmem => 0
  | .smem => 0
  | _ => 0

abbrev bufTy : (tb : Table) → Fin (tcTables nBuf tb) → BufTy
  | .hbm, ⟨0, _⟩ => ⟨S4096x2048, .bf16⟩
  | .hbm, ⟨1, _⟩ => ⟨S4096x2048, .bf16⟩
  | .hbm, ⟨2, _⟩ => ⟨S_, .f32⟩
  | .hbm, ⟨3, _⟩ => ⟨S4096x4096, .f32⟩
  | .hbm, ⟨4, _⟩ => ⟨S4096x2048, .f32⟩
  | .hbm, ⟨5, _⟩ => ⟨S4096x2048, .f32⟩
  | .hbm, ⟨6, _⟩ => ⟨S4096x2048, .f32⟩
  | .hbm, ⟨7, _⟩ => ⟨S4096x4096, .f32⟩
  | _, _ => ⟨S4096x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== SsmOutDw.lean ====
abbrev S4096x4096 : Shape := ⟨2, ![4096, 4096]⟩
abbrev S4096x2048 : Shape := ⟨2, ![4096, 2048]⟩
abbrev S4096x512 : Shape := ⟨2, ![4096, 512]⟩
abbrev S4096x1024 : Shape := ⟨2, ![4096, 1024]⟩
abbrev S512x1024 : Shape := ⟨2, ![512, 1024]⟩

abbrev nBuf : Space → Nat
  | .hbm => 3
  | .vmem => 6
  | .smem => 0
  | _ => 0

abbrev bufTy : (tb : Table) → Fin (tcTables nBuf tb) → BufTy
  | .hbm, ⟨0, _⟩ => ⟨S4096x4096, .bf16⟩
  | .hbm, ⟨1, _⟩ => ⟨S4096x2048, .bf16⟩
  | .hbm, ⟨2, _⟩ => ⟨S4096x2048, .bf16⟩
  | .local _ .vmem, ⟨0, _⟩ => ⟨S4096x512, .bf16⟩
  | .local _ .vmem, ⟨1, _⟩ => ⟨S4096x512, .bf16⟩
  | .local _ .vmem, ⟨2, _⟩ => ⟨S4096x1024, .bf16⟩
  | .local _ .vmem, ⟨3, _⟩ => ⟨S4096x1024, .bf16⟩
  | .local _ .vmem, ⟨4, _⟩ => ⟨S512x1024, .bf16⟩
  | .local _ .vmem, ⟨5, _⟩ => ⟨S512x1024, .bf16⟩
  | _, _ => ⟨S4096x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![2, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S4096x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S4096x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== SsmOutDwRefIdeal.lean ====
abbrev S4096x4096 : Shape := ⟨2, ![4096, 4096]⟩
abbrev S4096x2048 : Shape := ⟨2, ![4096, 2048]⟩
abbrev S_ : Shape := ⟨0, ![]⟩
abbrev S2048x4096 : Shape := ⟨2, ![2048, 4096]⟩

abbrev nBuf : Space → Nat
  | .hbm => 10
  | .vmem => 0
  | .smem => 0
  | _ => 0

abbrev bufTy : (tb : Table) → Fin (tcTables nBuf tb) → BufTy
  | .hbm, ⟨0, _⟩ => ⟨S4096x4096, .bf16⟩
  | .hbm, ⟨1, _⟩ => ⟨S4096x2048, .bf16⟩
  | .hbm, ⟨2, _⟩ => ⟨S_, .f32⟩
  | .hbm, ⟨3, _⟩ => ⟨S4096x2048, .f32⟩
  | .hbm, ⟨4, _⟩ => ⟨S4096x4096, .f32⟩
  | .hbm, ⟨5, _⟩ => ⟨S4096x2048, .f32⟩
  | .hbm, ⟨6, _⟩ => ⟨S4096x2048, .f32⟩
  | .hbm, ⟨7, _⟩ => ⟨S2048x4096, .f32⟩
  | .hbm, ⟨8, _⟩ => ⟨S4096x2048, .f32⟩
  | .hbm, ⟨9, _⟩ => ⟨S4096x2048, .bf16⟩
  | _, _ => ⟨S4096x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== CvInDx.lean ====
abbrev S4096x4096 : Shape := ⟨2, ![4096, 4096]⟩
abbrev S8x2048x512 : Shape := ⟨3, ![8, 2048, 512]⟩
abbrev S4096x2048 : Shape := ⟨2, ![4096, 2048]⟩
abbrev S512x1024 : Shape := ⟨2, ![512, 1024]⟩
abbrev S2x2048x512 : Shape := ⟨3, ![2, 2048, 512]⟩
abbrev S512x2048 : Shape := ⟨2, ![512, 2048]⟩
abbrev S512x512 : Shape := ⟨2, ![512, 512]⟩
abbrev S1x2048x512 : Shape := ⟨3, ![1, 2048, 512]⟩
abbrev S2048x512 : Shape := ⟨2, ![2048, 512]⟩

abbrev nBuf : Space → Nat
  | .hbm => 3
  | .vmem => 7
  | .smem => 0
  | _ => 0

abbrev bufTy : (tb : Table) → Fin (tcTables nBuf tb) → BufTy
  | .hbm, ⟨0, _⟩ => ⟨S4096x4096, .bf16⟩
  | .hbm, ⟨1, _⟩ => ⟨S8x2048x512, .bf16⟩
  | .hbm, ⟨2, _⟩ => ⟨S4096x2048, .f32⟩
  | .local _ .vmem, ⟨0, _⟩ => ⟨S512x1024, .bf16⟩
  | .local _ .vmem, ⟨1, _⟩ => ⟨S512x1024, .bf16⟩
  | .local _ .vmem, ⟨2, _⟩ => ⟨S2x2048x512, .bf16⟩
  | .local _ .vmem, ⟨3, _⟩ => ⟨S2x2048x512, .bf16⟩
  | .local _ .vmem, ⟨4, _⟩ => ⟨S512x2048, .f32⟩
  | .local _ .vmem, ⟨5, _⟩ => ⟨S512x2048, .f32⟩
  | .local _ .vmem, ⟨6, _⟩ => ⟨S512x2048, .f32⟩
  | _, _ => ⟨S4096x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![8, 4], ![false, false]⟩

def k0_cond3 (i : grid0.Coords) : BitVec 1 :=
  let arg1 : BitVec 32 := BitVec.ofNat 32 (i 1).val
  let c3_i32 : BitVec 32 := 3#32
  let v15 : BitVec 1 := Scalar.cmpi .eq arg1 c3_i32
  let v16 : BitVec 32 := Scalar.extui v15
  let c0_i32_11 : BitVec 32 := 0#32
  let v17 : BitVec 1 := Scalar.cmpi .ne v16 c0_i32_11
  v17

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S2x2048x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S512x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]
-- ==== CvInDxRefIdeal.lean ====
abbrev S4096x4096 : Shape := ⟨2, ![4096, 4096]⟩
abbrev S8x2048x512 : Shape := ⟨3, ![8, 2048, 512]⟩
abbrev S_ : Shape := ⟨0, ![]⟩
abbrev S4096x2048 : Shape := ⟨2, ![4096, 2048]⟩
abbrev S2048x8x512 : Shape := ⟨3, ![2048, 8, 512]⟩
abbrev S2048x4096 : Shape := ⟨2, ![2048, 4096]⟩

abbrev nBuf : Space → Nat
  | .hbm => 10
  | .vmem => 0
  | .smem => 0
  | _ => 0

abbrev bufTy : (tb : Table) → Fin (tcTables nBuf tb) → BufTy
  | .hbm, ⟨0, _⟩ => ⟨S4096x4096, .bf16⟩
  | .hbm, ⟨1, _⟩ => ⟨S8x2048x512, .bf16⟩
  | .hbm, ⟨2, _⟩ => ⟨S_, .f32⟩
  | .hbm, ⟨3, _⟩ => ⟨S4096x2048, .f32⟩
  | .hbm, ⟨4, _⟩ => ⟨S8x2048x512, .f32⟩
  | .hbm, ⟨5, _⟩ => ⟨S2048x8x512, .f32⟩
  | .hbm, ⟨6, _⟩ => ⟨S2048x4096, .f32⟩
  | .hbm, ⟨7, _⟩ => ⟨S4096x4096, .f32⟩
  | .hbm, ⟨8, _⟩ => ⟨S4096x4096, .f32⟩
  | .hbm, ⟨9, _⟩ => ⟨S4096x2048, .f32⟩
  | _, _ => ⟨S4096x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== CvInDw.lean ====
abbrev S4096x2048 : Shape := ⟨2, ![4096, 2048]⟩
abbrev S4096x4096 : Shape := ⟨2, ![4096, 4096]⟩
abbrev S8x2048x512 : Shape := ⟨3, ![8, 2048, 512]⟩
abbrev S4096x512 : Shape := ⟨2, ![4096, 512]⟩
abbrev S1x512x512 : Shape := ⟨3, ![1, 512, 512]⟩
abbrev S512x512 : Shape := ⟨2, ![512, 512]⟩

abbrev nBuf : Space → Nat
  | .hbm => 3
  | .vmem => 6
  | .smem => 0
  | _ => 0

abbrev bufTy : (tb : Table) → Fin (tcTables nBuf tb) → BufTy
  | .hbm, ⟨0, _⟩ => ⟨S4096x2048, .bf16⟩
  | .hbm, ⟨1, _⟩ => ⟨S4096x4096, .bf16⟩
  | .hbm, ⟨2, _⟩ => ⟨S8x2048x512, .bf16⟩
  | .local _ .vmem, ⟨0, _⟩ => ⟨S4096x512, .bf16⟩
  | .local _ .vmem, ⟨1, _⟩ => ⟨S4096x512, .bf16⟩
  | .local _ .vmem, ⟨2, _⟩ => ⟨S4096x512, .bf16⟩
  | .local _ .vmem, ⟨3, _⟩ => ⟨S4096x512, .bf16⟩
  | .local _ .vmem, ⟨4, _⟩ => ⟨S1x512x512, .bf16⟩
  | .local _ .vmem, ⟨5, _⟩ => ⟨S1x512x512, .bf16⟩
  | _, _ => ⟨S4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![8, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S4096x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S4096x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x512x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== CvInDwRefIdeal.lean ====
abbrev S4096x2048 : Shape := ⟨2, ![4096, 2048]⟩
abbrev S4096x4096 : Shape := ⟨2, ![4096, 4096]⟩
abbrev S_ : Shape := ⟨0, ![]⟩
abbrev S8x2048x512 : Shape := ⟨3, ![8, 2048, 512]⟩
abbrev S2048x8x512 : Shape := ⟨3, ![2048, 8, 512]⟩
abbrev S2048x4096 : Shape := ⟨2, ![2048, 4096]⟩

abbrev nBuf : Space → Nat
  | .hbm => 14
  | .vmem => 0
  | .smem => 0
  | _ => 0

abbrev bufTy : (tb : Table) → Fin (tcTables nBuf tb) → BufTy
  | .hbm, ⟨0, _⟩ => ⟨S4096x2048, .bf16⟩
  | .hbm, ⟨1, _⟩ => ⟨S4096x4096, .bf16⟩
  | .hbm, ⟨2, _⟩ => ⟨S_, .f32⟩
  | .hbm, ⟨3, _⟩ => ⟨S8x2048x512, .f32⟩
  | .hbm, ⟨4, _⟩ => ⟨S4096x2048, .f32⟩
  | .hbm, ⟨5, _⟩ => ⟨S2048x8x512, .f32⟩
  | .hbm, ⟨6, _⟩ => ⟨S2048x4096, .f32⟩
  | .hbm, ⟨7, _⟩ => ⟨S4096x4096, .f32⟩
  | .hbm, ⟨8, _⟩ => ⟨S4096x4096, .f32⟩
  | .hbm, ⟨9, _⟩ => ⟨S4096x2048, .f32⟩
  | .hbm, ⟨10, _⟩ => ⟨S2048x4096, .f32⟩
  | .hbm, ⟨11, _⟩ => ⟨S2048x8x512, .f32⟩
  | .hbm, ⟨12, _⟩ => ⟨S8x2048x512, .f32⟩
  | .hbm, ⟨13, _⟩ => ⟨S8x2048x512, .bf16⟩
  | _, _ => ⟨S4096x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩

abbrev nD : Nat := 1
abbrev τ : Topo := Topo.v7x

variable {F : FTy → Type} [FloatOps F]
-- ==== CvOutDx.lean ====
abbrev S4096x2048 : Shape := ⟨2, ![4096, 2048]⟩
abbrev S2048x2048 : Shape := ⟨2, ![2048, 2048]⟩
abbrev S512x2048 : Shape := ⟨2, ![512, 2048]⟩
abbrev S512x512 : Shape := ⟨2, ![512, 512]⟩

abbrev nBuf : Space → Nat
  | .hbm => 3
  | .vmem => 6
  | .smem => 0
  | _ => 0

abbrev bufTy : (tb : Table) → Fin (tcTables nBuf tb) → BufTy
  | .hbm, ⟨0, _⟩ => ⟨S4096x2048, .bf16⟩
  | .hbm, ⟨1, _⟩ => ⟨S2048x2048, .bf16⟩
  | .hbm, ⟨2, _⟩ => ⟨S4096x2048, .f32⟩
  | .local _ .vmem, ⟨0, _⟩ => ⟨S512x2048, .bf16⟩
  | .local _ .vmem, ⟨1, _⟩ => ⟨S512x2048, .bf16⟩
  | .local _ .vmem, ⟨2, _⟩ => ⟨S512x2048, .bf16⟩
  | .local _ .vmem, ⟨3, _⟩ => ⟨S512x2048, .bf16⟩
  | .local _ .vmem, ⟨4, _⟩ => ⟨S512x512, .f32⟩
  | .local _ .vmem, ⟨5, _⟩ => ⟨S512x512, .f32⟩
  | _, _ => ⟨S4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![8, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S512x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S512x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S512x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== CvOutDxRefIdeal.lean ====
abbrev S4096x2048 : Shape := ⟨2, ![4096, 2048]⟩
abbrev S2048x2048 : Shape := ⟨2, ![2048, 2048]⟩
abbrev S_ : Shape := ⟨0, ![]⟩

abbrev nBuf : Space → Nat
  | .hbm => 8
  | .vmem => 0
  | .smem => 0
  | _ => 0

abbrev bufTy : (tb : Table) → Fin (tcTables nBuf tb) → BufTy
  | .hbm, ⟨0, _⟩ => ⟨S4096x2048, .bf16⟩
  | .hbm, ⟨1, _⟩ => ⟨S2048x2048, .bf16⟩
  | .hbm, ⟨2, _⟩ => ⟨S_, .f32⟩
  | .hbm, ⟨3, _⟩ => ⟨S4096x2048, .f32⟩
  | .hbm, ⟨4, _⟩ => ⟨S2048x2048, .f32⟩
  | .hbm, ⟨5, _⟩ => ⟨S4096x2048, .f32⟩
  | .hbm, ⟨6, _⟩ => ⟨S4096x2048, .f32⟩
  | .hbm, ⟨7, _⟩ => ⟨S4096x2048, .f32⟩
  | _, _ => ⟨S4096x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== CvOutDw.lean ====
abbrev S4096x2048 : Shape := ⟨2, ![4096, 2048]⟩
abbrev S2048x2048 : Shape := ⟨2, ![2048, 2048]⟩
abbrev S4096x512 : Shape := ⟨2, ![4096, 512]⟩
abbrev S4096x1024 : Shape := ⟨2, ![4096, 1024]⟩
abbrev S512x1024 : Shape := ⟨2, ![512, 1024]⟩

abbrev nBuf : Space → Nat
  | .hbm => 3
  | .vmem => 6
  | .smem => 0
  | _ => 0

abbrev bufTy : (tb : Table) → Fin (tcTables nBuf tb) → BufTy
  | .hbm, ⟨0, _⟩ => ⟨S4096x2048, .bf16⟩
  | .hbm, ⟨1, _⟩ => ⟨S4096x2048, .bf16⟩
  | .hbm, ⟨2, _⟩ => ⟨S2048x2048, .bf16⟩
  | .local _ .vmem, ⟨0, _⟩ => ⟨S4096x512, .bf16⟩
  | .local _ .vmem, ⟨1, _⟩ => ⟨S4096x512, .bf16⟩
  | .local _ .vmem, ⟨2, _⟩ => ⟨S4096x1024, .bf16⟩
  | .local _ .vmem, ⟨3, _⟩ => ⟨S4096x1024, .bf16⟩
  | .local _ .vmem, ⟨4, _⟩ => ⟨S512x1024, .bf16⟩
  | .local _ .vmem, ⟨5, _⟩ => ⟨S512x1024, .bf16⟩
  | _, _ => ⟨S4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![2, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S4096x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S4096x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== CvOutDwRefIdeal.lean ====
abbrev S4096x2048 : Shape := ⟨2, ![4096, 2048]⟩
abbrev S_ : Shape := ⟨0, ![]⟩
abbrev S2048x2048 : Shape := ⟨2, ![2048, 2048]⟩

abbrev nBuf : Space → Nat
  | .hbm => 10
  | .vmem => 0
  | .smem => 0
  | _ => 0

abbrev bufTy : (tb : Table) → Fin (tcTables nBuf tb) → BufTy
  | .hbm, ⟨0, _⟩ => ⟨S4096x2048, .bf16⟩
  | .hbm, ⟨1, _⟩ => ⟨S4096x2048, .bf16⟩
  | .hbm, ⟨2, _⟩ => ⟨S_, .f32⟩
  | .hbm, ⟨3, _⟩ => ⟨S2048x2048, .f32⟩
  | .hbm, ⟨4, _⟩ => ⟨S4096x2048, .f32⟩
  | .hbm, ⟨5, _⟩ => ⟨S4096x2048, .f32⟩
  | .hbm, ⟨6, _⟩ => ⟨S4096x2048, .f32⟩
  | .hbm, ⟨7, _⟩ => ⟨S2048x2048, .f32⟩
  | .hbm, ⟨8, _⟩ => ⟨S2048x2048, .f32⟩
  | .hbm, ⟨9, _⟩ => ⟨S2048x2048, .bf16⟩
  | _, _ => ⟨S4096x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== FfnUp.lean ====
abbrev S4096x2048 : Shape := ⟨2, ![4096, 2048]⟩
abbrev S8x2048x1408 : Shape := ⟨3, ![8, 2048, 1408]⟩
abbrev S2x4096x5632 : Shape := ⟨3, ![2, 4096, 5632]⟩
abbrev S512x2048 : Shape := ⟨2, ![512, 2048]⟩
abbrev S1x2048x1408 : Shape := ⟨3, ![1, 2048, 1408]⟩
abbrev S1x512x1408 : Shape := ⟨3, ![1, 512, 1408]⟩
abbrev S2048x1408 : Shape := ⟨2, ![2048, 1408]⟩
abbrev S512x1408 : Shape := ⟨2, ![512, 1408]⟩

abbrev nBuf : Space → Nat
  | .hbm => 3
  | .vmem => 6
  | .smem => 0
  | _ => 0

abbrev bufTy : (tb : Table) → Fin (tcTables nBuf tb) → BufTy
  | .hbm, ⟨0, _⟩ => ⟨S4096x2048, .bf16⟩
  | .hbm, ⟨1, _⟩ => ⟨S8x2048x1408, .bf16⟩
  | .hbm, ⟨2, _⟩ => ⟨S2x4096x5632, .f32⟩
  | .local _ .vmem, ⟨0, _⟩ => ⟨S512x2048, .bf16⟩
  | .local _ .vmem, ⟨1, _⟩ => ⟨S512x2048, .bf16⟩
  | .local _ .vmem, ⟨2, _⟩ => ⟨S1x2048x1408, .bf16⟩
  | .local _ .vmem, ⟨3, _⟩ => ⟨S1x2048x1408, .bf16⟩
  | .local _ .vmem, ⟨4, _⟩ => ⟨S1x512x1408, .f32⟩
  | .local _ .vmem, ⟨5, _⟩ => ⟨S1x512x1408, .f32⟩
  | _, _ => ⟨S4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![8, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c4_i32 : BitVec 32 := 4#32
  let v0 : BitVec 32 := Scalar.divsi arg0 c4_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c4_i32_4 : BitVec 32 := 4#32
  let c0_i32_5 : BitVec 32 := 0#32
  let v17 : BitVec 1 := Scalar.cmpi .eq c4_i32_4 c0_i32_5
  let c1_i32_6 : BitVec 32 := 1#32
  let v18 : BitVec 32 := Scalar.select v17 c1_i32_6 c4_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  ![v16.toNat, arg1.toNat, v26.toNat]

abbrev stage0_0 : Fin 2 → Memref sig .tc .vmem S512x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1x2048x1408 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x512x1408 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== FfnUpRefIdeal.lean ====
abbrev S4096x2048 : Shape := ⟨2, ![4096, 2048]⟩
abbrev S8x2048x1408 : Shape := ⟨3, ![8, 2048, 1408]⟩
abbrev S2048x8x1408 : Shape := ⟨3, ![2048, 8, 1408]⟩
abbrev S2048x11264 : Shape := ⟨2, ![2048, 11264]⟩
abbrev S4096x11264 : Shape := ⟨2, ![4096, 11264]⟩
abbrev S4096x2x5632 : Shape := ⟨3, ![4096, 2, 5632]⟩
abbrev S2x4096x5632 : Shape := ⟨3, ![2, 4096, 5632]⟩

abbrev nBuf : Space → Nat
  | .hbm => 9
  | .vmem => 0
  | .smem => 0
  | _ => 0

abbrev bufTy : (tb : Table) → Fin (tcTables nBuf tb) → BufTy
  | .hbm, ⟨0, _⟩ => ⟨S4096x2048, .bf16⟩
  | .hbm, ⟨1, _⟩ => ⟨S8x2048x1408, .bf16⟩
  | .hbm, ⟨2, _⟩ => ⟨S4096x2048, .f32⟩
  | .hbm, ⟨3, _⟩ => ⟨S8x2048x1408, .f32⟩
  | .hbm, ⟨4, _⟩ => ⟨S2048x8x1408, .f32⟩
  | .hbm, ⟨5, _⟩ => ⟨S2048x11264, .f32⟩
  | .hbm, ⟨6, _⟩ => ⟨S4096x11264, .f32⟩
  | .hbm, ⟨7, _⟩ => ⟨S4096x2x5632, .f32⟩
  | .hbm, ⟨8, _⟩ => ⟨S2x4096x5632, .f32⟩
  | _, _ => ⟨S4096x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩

abbrev nD : Nat := 1
abbrev τ : Topo := Topo.v7x

variable {F : FTy → Type} [FloatOps F]
-- ==== FfnDown.lean ====
abbrev S4096x5632 : Shape := ⟨2, ![4096, 5632]⟩
abbrev S5632x2048 : Shape := ⟨2, ![5632, 2048]⟩
abbrev S4096x2048 : Shape := ⟨2, ![4096, 2048]⟩
abbrev S512x5632 : Shape := ⟨2, ![512, 5632]⟩
abbrev S5632x512 : Shape := ⟨2, ![5632, 512]⟩
abbrev S512x512 : Shape := ⟨2, ![512, 512]⟩

abbrev nBuf : Space → Nat
  | .hbm => 4
  | .vmem => 8
  | .smem => 0
  | _ => 0

abbrev bufTy : (tb : Table) → Fin (tcTables nBuf tb) → BufTy
  | .hbm, ⟨0, _⟩ => ⟨S4096x5632, .bf16⟩
  | .hbm, ⟨1, _⟩ => ⟨S5632x2048, .bf16⟩
  | .hbm, ⟨2, _⟩ => ⟨S4096x2048, .f32⟩
  | .hbm, ⟨3, _⟩ => ⟨S4096x2048, .f32⟩
  | .local _ .vmem, ⟨0, _⟩ => ⟨S512x5632, .bf16⟩
  | .local _ .vmem, ⟨1, _⟩ => ⟨S512x5632, .bf16⟩
  | .local _ .vmem, ⟨2, _⟩ => ⟨S5632x512, .bf16⟩
  | .local _ .vmem, ⟨3, _⟩ => ⟨S5632x512, .bf16⟩
  | .local _ .vmem, ⟨4, _⟩ => ⟨S512x512, .f32⟩
  | .local _ .vmem, ⟨5, _⟩ => ⟨S512x512, .f32⟩
  | .local _ .vmem, ⟨6, _⟩ => ⟨S512x512, .f32⟩
  | .local _ .vmem, ⟨7, _⟩ => ⟨S512x512, .f32⟩
  | _, _ => ⟨S4096x5632, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![4, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S512x5632 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S5632x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S512x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S512x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== FfnDownRefIdeal.lean ====
abbrev S4096x5632 : Shape := ⟨2, ![4096, 5632]⟩
abbrev S5632x2048 : Shape := ⟨2, ![5632, 2048]⟩
abbrev S4096x2048 : Shape := ⟨2, ![4096, 2048]⟩

abbrev nBuf : Space → Nat
  | .hbm => 7
  | .vmem => 0
  | .smem => 0
  | _ => 0

abbrev bufTy : (tb : Table) → Fin (tcTables nBuf tb) → BufTy
  | .hbm, ⟨0, _⟩ => ⟨S4096x5632, .bf16⟩
  | .hbm, ⟨1, _⟩ => ⟨S5632x2048, .bf16⟩
  | .hbm, ⟨2, _⟩ => ⟨S4096x2048, .f32⟩
  | .hbm, ⟨3, _⟩ => ⟨S4096x5632, .f32⟩
  | .hbm, ⟨4, _⟩ => ⟨S5632x2048, .f32⟩
  | .hbm, ⟨5, _⟩ => ⟨S4096x2048, .f32⟩
  | .hbm, ⟨6, _⟩ => ⟨S4096x2048, .f32⟩
  | _, _ => ⟨S4096x5632, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== SsmIn.lean ====
abbrev S4096x2048 : Shape := ⟨2, ![4096, 2048]⟩
abbrev S8x2048x1408 : Shape := ⟨3, ![8, 2048, 1408]⟩
abbrev S4096x11264 : Shape := ⟨2, ![4096, 11264]⟩
abbrev S512x2048 : Shape := ⟨2, ![512, 2048]⟩
abbrev S1x2048x1408 : Shape := ⟨3, ![1, 2048, 1408]⟩
abbrev S512x1408 : Shape := ⟨2, ![512, 1408]⟩
abbrev S2048x1408 : Shape := ⟨2, ![2048, 1408]⟩

abbrev nBuf : Space → Nat
  | .hbm => 3
  | .vmem => 6
  | .smem => 0
  | _ => 0

abbrev bufTy : (tb : Table) → Fin (tcTables nBuf tb) → BufTy
  | .hbm, ⟨0, _⟩ => ⟨S4096x2048, .bf16⟩
  | .hbm, ⟨1, _⟩ => ⟨S8x2048x1408, .bf16⟩
  | .hbm, ⟨2, _⟩ => ⟨S4096x11264, .f32⟩
  | .local _ .vmem, ⟨0, _⟩ => ⟨S512x2048, .bf16⟩
  | .local _ .vmem, ⟨1, _⟩ => ⟨S512x2048, .bf16⟩
  | .local _ .vmem, ⟨2, _⟩ => ⟨S1x2048x1408, .bf16⟩
  | .local _ .vmem, ⟨3, _⟩ => ⟨S1x2048x1408, .bf16⟩
  | .local _ .vmem, ⟨4, _⟩ => ⟨S512x1408, .f32⟩
  | .local _ .vmem, ⟨5, _⟩ => ⟨S512x1408, .f32⟩
  | _, _ => ⟨S4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![8, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S512x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1x2048x1408 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S512x1408 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== SsmInRefIdeal.lean ====
abbrev S4096x2048 : Shape := ⟨2, ![4096, 2048]⟩
abbrev S8x2048x1408 : Shape := ⟨3, ![8, 2048, 1408]⟩
abbrev S2048x8x1408 : Shape := ⟨3, ![2048, 8, 1408]⟩
abbrev S2048x11264 : Shape := ⟨2, ![2048, 11264]⟩
abbrev S4096x11264 : Shape := ⟨2, ![4096, 11264]⟩

abbrev nBuf : Space → Nat
  | .hbm => 7
  | .vmem => 0
  | .smem => 0
  | _ => 0

abbrev bufTy : (tb : Table) → Fin (tcTables nBuf tb) → BufTy
  | .hbm, ⟨0, _⟩ => ⟨S4096x2048, .bf16⟩
  | .hbm, ⟨1, _⟩ => ⟨S8x2048x1408, .bf16⟩
  | .hbm, ⟨2, _⟩ => ⟨S4096x2048, .f32⟩
  | .hbm, ⟨3, _⟩ => ⟨S8x2048x1408, .f32⟩
  | .hbm, ⟨4, _⟩ => ⟨S2048x8x1408, .f32⟩
  | .hbm, ⟨5, _⟩ => ⟨S2048x11264, .f32⟩
  | .hbm, ⟨6, _⟩ => ⟨S4096x11264, .f32⟩
  | _, _ => ⟨S4096x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩

abbrev nD : Nat := 1
abbrev τ : Topo := Topo.v7x

variable {F : FTy → Type} [FloatOps F]
-- ==== SsmOut.lean ====
abbrev S4096x4096 : Shape := ⟨2, ![4096, 4096]⟩
abbrev S4096x2048 : Shape := ⟨2, ![4096, 2048]⟩
abbrev S512x4096 : Shape := ⟨2, ![512, 4096]⟩
abbrev S4096x512 : Shape := ⟨2, ![4096, 512]⟩
abbrev S512x512 : Shape := ⟨2, ![512, 512]⟩

abbrev nBuf : Space → Nat
  | .hbm => 4
  | .vmem => 8
  | .smem => 0
  | _ => 0

abbrev bufTy : (tb : Table) → Fin (tcTables nBuf tb) → BufTy
  | .hbm, ⟨0, _⟩ => ⟨S4096x4096, .bf16⟩
  | .hbm, ⟨1, _⟩ => ⟨S4096x2048, .bf16⟩
  | .hbm, ⟨2, _⟩ => ⟨S4096x2048, .f32⟩
  | .hbm, ⟨3, _⟩ => ⟨S4096x2048, .f32⟩
  | .local _ .vmem, ⟨0, _⟩ => ⟨S512x4096, .bf16⟩
  | .local _ .vmem, ⟨1, _⟩ => ⟨S512x4096, .bf16⟩
  | .local _ .vmem, ⟨2, _⟩ => ⟨S4096x512, .bf16⟩
  | .local _ .vmem, ⟨3, _⟩ => ⟨S4096x512, .bf16⟩
  | .local _ .vmem, ⟨4, _⟩ => ⟨S512x512, .f32⟩
  | .local _ .vmem, ⟨5, _⟩ => ⟨S512x512, .f32⟩
  | .local _ .vmem, ⟨6, _⟩ => ⟨S512x512, .f32⟩
  | .local _ .vmem, ⟨7, _⟩ => ⟨S512x512, .f32⟩
  | _, _ => ⟨S4096x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![4, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S512x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S4096x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S512x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S512x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== SsmOutRefIdeal.lean ====
abbrev S4096x4096 : Shape := ⟨2, ![4096, 4096]⟩
abbrev S4096x2048 : Shape := ⟨2, ![4096, 2048]⟩

abbrev nBuf : Space → Nat
  | .hbm => 7
  | .vmem => 0
  | .smem => 0
  | _ => 0

abbrev bufTy : (tb : Table) → Fin (tcTables nBuf tb) → BufTy
  | .hbm, ⟨0, _⟩ => ⟨S4096x4096, .bf16⟩
  | .hbm, ⟨1, _⟩ => ⟨S4096x2048, .bf16⟩
  | .hbm, ⟨2, _⟩ => ⟨S4096x2048, .f32⟩
  | .hbm, ⟨3, _⟩ => ⟨S4096x4096, .f32⟩
  | .hbm, ⟨4, _⟩ => ⟨S4096x2048, .f32⟩
  | .hbm, ⟨5, _⟩ => ⟨S4096x2048, .f32⟩
  | .hbm, ⟨6, _⟩ => ⟨S4096x2048, .f32⟩
  | _, _ => ⟨S4096x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== CvIn.lean ====
abbrev S4096x2048 : Shape := ⟨2, ![4096, 2048]⟩
abbrev S8x2048x512 : Shape := ⟨3, ![8, 2048, 512]⟩
abbrev S1x4096 : Shape := ⟨2, ![1, 4096]⟩
abbrev S4096x4096 : Shape := ⟨2, ![4096, 4096]⟩
abbrev S512x2048 : Shape := ⟨2, ![512, 2048]⟩
abbrev S1x2048x512 : Shape := ⟨3, ![1, 2048, 512]⟩
abbrev S1x512 : Shape := ⟨2, ![1, 512]⟩
abbrev S512x512 : Shape := ⟨2, ![512, 512]⟩
abbrev S2048x512 : Shape := ⟨2, ![2048, 512]⟩

abbrev nBuf : Space → Nat
  | .hbm => 4
  | .vmem => 8
  | .smem => 0
  | _ => 0

abbrev bufTy : (tb : Table) → Fin (tcTables nBuf tb) → BufTy
  | .hbm, ⟨0, _⟩ => ⟨S4096x2048, .bf16⟩
  | .hbm, ⟨1, _⟩ => ⟨S8x2048x512, .bf16⟩
  | .hbm, ⟨2, _⟩ => ⟨S1x4096, .f32⟩
  | .hbm, ⟨3, _⟩ => ⟨S4096x4096, .f32⟩
  | .local _ .vmem, ⟨0, _⟩ => ⟨S512x2048, .bf16⟩
  | .local _ .vmem, ⟨1, _⟩ => ⟨S512x2048, .bf16⟩
  | .local _ .vmem, ⟨2, _⟩ => ⟨S1x2048x512, .bf16⟩
  | .local _ .vmem, ⟨3, _⟩ => ⟨S1x2048x512, .bf16⟩
  | .local _ .vmem, ⟨4, _⟩ => ⟨S1x512, .f32⟩
  | .local _ .vmem, ⟨5, _⟩ => ⟨S1x512, .f32⟩
  | .local _ .vmem, ⟨6, _⟩ => ⟨S512x512, .f32⟩
  | .local _ .vmem, ⟨7, _⟩ => ⟨S512x512, .f32⟩
  | _, _ => ⟨S4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![8, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S512x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1x2048x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S512x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== CvInRefIdeal.lean ====
abbrev S4096x2048 : Shape := ⟨2, ![4096, 2048]⟩
abbrev S8x2048x512 : Shape := ⟨3, ![8, 2048, 512]⟩
abbrev S1x4096 : Shape := ⟨2, ![1, 4096]⟩
abbrev S2048x8x512 : Shape := ⟨3, ![2048, 8, 512]⟩
abbrev S2048x4096 : Shape := ⟨2, ![2048, 4096]⟩
abbrev S4096x4096 : Shape := ⟨2, ![4096, 4096]⟩

abbrev nBuf : Space → Nat
  | .hbm => 10
  | .vmem => 0
  | .smem => 0
  | _ => 0

abbrev bufTy : (tb : Table) → Fin (tcTables nBuf tb) → BufTy
  | .hbm, ⟨0, _⟩ => ⟨S4096x2048, .bf16⟩
  | .hbm, ⟨1, _⟩ => ⟨S8x2048x512, .bf16⟩
  | .hbm, ⟨2, _⟩ => ⟨S1x4096, .f32⟩
  | .hbm, ⟨3, _⟩ => ⟨S4096x2048, .f32⟩
  | .hbm, ⟨4, _⟩ => ⟨S8x2048x512, .f32⟩
  | .hbm, ⟨5, _⟩ => ⟨S2048x8x512, .f32⟩
  | .hbm, ⟨6, _⟩ => ⟨S2048x4096, .f32⟩
  | .hbm, ⟨7, _⟩ => ⟨S4096x4096, .f32⟩
  | .hbm, ⟨8, _⟩ => ⟨S4096x4096, .f32⟩
  | .hbm, ⟨9, _⟩ => ⟨S4096x4096, .f32⟩
  | _, _ => ⟨S4096x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== CvOut.lean ====
abbrev S4096x2048 : Shape := ⟨2, ![4096, 2048]⟩
abbrev S2048x2048 : Shape := ⟨2, ![2048, 2048]⟩
abbrev S1x2048 : Shape := ⟨2, ![1, 2048]⟩
abbrev S512x2048 : Shape := ⟨2, ![512, 2048]⟩
abbrev S2048x512 : Shape := ⟨2, ![2048, 512]⟩
abbrev S512x512 : Shape := ⟨2, ![512, 512]⟩
abbrev S1x512 : Shape := ⟨2, ![1, 512]⟩

abbrev nBuf : Space → Nat
  | .hbm => 5
  | .vmem => 10
  | .smem => 0
  | _ => 0

abbrev bufTy : (tb : Table) → Fin (tcTables nBuf tb) → BufTy
  | .hbm, ⟨0, _⟩ => ⟨S4096x2048, .bf16⟩
  | .hbm, ⟨1, _⟩ => ⟨S2048x2048, .bf16⟩
  | .hbm, ⟨2, _⟩ => ⟨S4096x2048, .f32⟩
  | .hbm, ⟨3, _⟩ => ⟨S1x2048, .f32⟩
  | .hbm, ⟨4, _⟩ => ⟨S4096x2048, .f32⟩
  | .local _ .vmem, ⟨0, _⟩ => ⟨S512x2048, .bf16⟩
  | .local _ .vmem, ⟨1, _⟩ => ⟨S512x2048, .bf16⟩
  | .local _ .vmem, ⟨2, _⟩ => ⟨S2048x512, .bf16⟩
  | .local _ .vmem, ⟨3, _⟩ => ⟨S2048x512, .bf16⟩
  | .local _ .vmem, ⟨4, _⟩ => ⟨S512x512, .f32⟩
  | .local _ .vmem, ⟨5, _⟩ => ⟨S512x512, .f32⟩
  | .local _ .vmem, ⟨6, _⟩ => ⟨S1x512, .f32⟩
  | .local _ .vmem, ⟨7, _⟩ => ⟨S1x512, .f32⟩
  | .local _ .vmem, ⟨8, _⟩ => ⟨S512x512, .f32⟩
  | .local _ .vmem, ⟨9, _⟩ => ⟨S512x512, .f32⟩
  | _, _ => ⟨S4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![4, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S512x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S2048x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S512x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S512x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== CvOutRefIdeal.lean ====
abbrev S4096x2048 : Shape := ⟨2, ![4096, 2048]⟩
abbrev S2048x2048 : Shape := ⟨2, ![2048, 2048]⟩
abbrev S1x2048 : Shape := ⟨2, ![1, 2048]⟩

abbrev nBuf : Space → Nat
  | .hbm => 10
  | .vmem => 0
  | .smem => 0
  | _ => 0

abbrev bufTy : (tb : Table) → Fin (tcTables nBuf tb) → BufTy
  | .hbm, ⟨0, _⟩ => ⟨S4096x2048, .bf16⟩
  | .hbm, ⟨1, _⟩ => ⟨S2048x2048, .bf16⟩
  | .hbm, ⟨2, _⟩ => ⟨S4096x2048, .f32⟩
  | .hbm, ⟨3, _⟩ => ⟨S1x2048, .f32⟩
  | .hbm, ⟨4, _⟩ => ⟨S4096x2048, .f32⟩
  | .hbm, ⟨5, _⟩ => ⟨S2048x2048, .f32⟩
  | .hbm, ⟨6, _⟩ => ⟨S4096x2048, .f32⟩
  | .hbm, ⟨7, _⟩ => ⟨S4096x2048, .f32⟩
  | .hbm, ⟨8, _⟩ => ⟨S4096x2048, .f32⟩
  | .hbm, ⟨9, _⟩ => ⟨S4096x2048, .f32⟩
  | _, _ => ⟨S4096x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩

abbrev nD : Nat := 1
abbrev τ : Topo := Topo.v7x

variable {F : FTy → Type} [FloatOps F]
-- ==== AdamCvIn.lean ====
abbrev S8x2048x512 : Shape := ⟨3, ![8, 2048, 512]⟩
abbrev S2x2048x512 : Shape := ⟨3, ![2, 2048, 512]⟩
abbrev S8x512x512 : Shape := ⟨3, ![8, 512, 512]⟩
abbrev S1x512x512 : Shape := ⟨3, ![1, 512, 512]⟩
abbrev S512x512 : Shape := ⟨2, ![512, 512]⟩

abbrev nBuf : Space → Nat
  | .hbm => 9
  | .vmem => 18
  | .smem => 0
  | _ => 0

abbrev bufTy : (tb : Table) → Fin (tcTables nBuf tb) → BufTy
  | .hbm, ⟨0, _⟩ => ⟨S8x2048x512, .bf16⟩
  | .hbm, ⟨1, _⟩ => ⟨S8x2048x512, .bf16⟩
  | .hbm, ⟨2, _⟩ => ⟨S2x2048x512, .f32⟩
  | .hbm, ⟨3, _⟩ => ⟨S2x2048x512, .f32⟩
  | .hbm, ⟨4, _⟩ => ⟨S2x2048x512, .f32⟩
  | .hbm, ⟨5, _⟩ => ⟨S2x2048x512, .f32⟩
  | .hbm, ⟨6, _⟩ => ⟨S2x2048x512, .f32⟩
  | .hbm, ⟨7, _⟩ => ⟨S2x2048x512, .f32⟩
  | .hbm, ⟨8, _⟩ => ⟨S2x2048x512, .f32⟩
  | .local _ .vmem, ⟨0, _⟩ => ⟨S8x512x512, .bf16⟩
  | .local _ .vmem, ⟨1, _⟩ => ⟨S8x512x512, .bf16⟩
  | .local _ .vmem, ⟨2, _⟩ => ⟨S8x512x512, .bf16⟩
  | .local _ .vmem, ⟨3, _⟩ => ⟨S8x512x512, .bf16⟩
  | .local _ .vmem, ⟨4, _⟩ => ⟨S1x512x512, .f32⟩
  | .local _ .vmem, ⟨5, _⟩ => ⟨S1x512x512, .f32⟩
  | .local _ .vmem, ⟨6, _⟩ => ⟨S1x512x512, .f32⟩
  | .local _ .vmem, ⟨7, _⟩ => ⟨S1x512x512, .f32⟩
  | .local _ .vmem, ⟨8, _⟩ => ⟨S1x512x512, .f32⟩
  | .local _ .vmem, ⟨9, _⟩ => ⟨S1x512x512, .f32⟩
  | .local _ .vmem, ⟨10, _⟩ => ⟨S1x512x512, .f32⟩
  | .local _ .vmem, ⟨11, _⟩ => ⟨S1x512x512, .f32⟩
  | .local _ .vmem, ⟨12, _⟩ => ⟨S1x512x512, .f32⟩
  | .local _ .vmem, ⟨13, _⟩ => ⟨S1x512x512, .f32⟩
  | .local _ .vmem, ⟨14, _⟩ => ⟨S1x512x512, .f32⟩
  | .local _ .vmem, ⟨15, _⟩ => ⟨S1x512x512, .f32⟩
  | .local _ .vmem, ⟨16, _⟩ => ⟨S1x512x512, .f32⟩
  | .local _ .vmem, ⟨17, _⟩ => ⟨S1x512x512, .f32⟩
  | _, _ => ⟨S8x2048x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v0_3 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨2, ![2, 4], ![false, false]⟩

def k0_cond1 (i : grid0.Coords) : BitVec 1 :=
  let arg0 : BitVec 32 := BitVec.ofNat 32 (i 0).val
  let c0_i32 : BitVec 32 := 0#32
  let v0 : BitVec 1 := Scalar.cmpi .eq arg0 c0_i32
  let v1 : BitVec 32 := Scalar.extui v0
  let c0_i32_0 : BitVec 32 := 0#32
  let v2 : BitVec 1 := Scalar.cmpi .ne v1 c0_i32_0
  v2

def k0_cond2 (i : grid0.Coords) : BitVec 1 :=
  let arg0 : BitVec 32 := BitVec.ofNat 32 (i 0).val
  let c1_i32 : BitVec 32 := 1#32
  let v3 : BitVec 1 := Scalar.cmpi .eq arg0 c1_i32
  let v4 : BitVec 32 := Scalar.extui v3
  let c0_i32_1 : BitVec 32 := 0#32
  let v5 : BitVec 1 := Scalar.cmpi .ne v4 c0_i32_1
  v5

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 1 := Scalar.cmpi .eq arg0 c0_i32
  let c0_i32_0 : BitVec 32 := 0#32
  let v1 : BitVec 32 := Scalar.select v0 arg1 c0_i32_0
  let c0_i32_1 : BitVec 32 := 0#32
  let c0_i32_2 : BitVec 32 := 0#32
  let c0_i32_3 : BitVec 32 := 0#32
  ![c0_i32_1.toNat, v1.toNat, c0_i32_2.toNat]

def cc0_transform_1 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 1 := Scalar.cmpi .eq arg0 c1_i32
  let c0_i32 : BitVec 32 := 0#32
  let v1 : BitVec 32 := Scalar.select v0 arg1 c0_i32
  let c0_i32_0 : BitVec 32 := 0#32
  let c0_i32_1 : BitVec 32 := 0#32
  let c0_i32_2 : BitVec 32 := 0#32
  ![c0_i32_0.toNat, v1.toNat, c0_i32_1.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S8x512x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S8x512x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x512x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x512x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x512x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x512x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x512x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x512x512 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x512x512 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]
-- ==== AdamCvInRefIdeal.lean ====
abbrev S8x2048x512 : Shape := ⟨3, ![8, 2048, 512]⟩
abbrev S2x2048x512 : Shape := ⟨3, ![2, 2048, 512]⟩
abbrev S_ : Shape := ⟨0, ![]⟩
abbrev S2048x512 : Shape := ⟨2, ![2048, 512]⟩
abbrev S1x2048x512 : Shape := ⟨3, ![1, 2048, 512]⟩

abbrev nBuf : Space → Nat
  | .hbm => 47
  | .vmem => 0
  | .smem => 0
  | _ => 0

abbrev bufTy : (tb : Table) → Fin (tcTables nBuf tb) → BufTy
  | .hbm, ⟨0, _⟩ => ⟨S8x2048x512, .bf16⟩
  | .hbm, ⟨1, _⟩ => ⟨S8x2048x512, .bf16⟩
  | .hbm, ⟨2, _⟩ => ⟨S2x2048x512, .f32⟩
  | .hbm, ⟨3, _⟩ => ⟨S2x2048x512, .f32⟩
  | .hbm, ⟨4, _⟩ => ⟨S2x2048x512, .f32⟩
  | .hbm, ⟨5, _⟩ => ⟨S8x2048x512, .f32⟩
  | .hbm, ⟨6, _⟩ => ⟨S_, .f32⟩
  | .hbm, ⟨7, _⟩ => ⟨S2048x512, .f32⟩
  | .hbm, ⟨8, _⟩ => ⟨S8x2048x512, .f32⟩
  | .hbm, ⟨9, _⟩ => ⟨S_, .f32⟩
  | .hbm, ⟨10, _⟩ => ⟨S2048x512, .f32⟩
  | .hbm, ⟨11, _⟩ => ⟨S1x2048x512, .f32⟩
  | .hbm, ⟨12, _⟩ => ⟨S1x2048x512, .f32⟩
  | .hbm, ⟨13, _⟩ => ⟨S2x2048x512, .f32⟩
  | .hbm, ⟨14, _⟩ => ⟨S_, .f32⟩
  | .hbm, ⟨15, _⟩ => ⟨S2x2048x512, .f32⟩
  | .hbm, ⟨16, _⟩ => ⟨S2x2048x512, .f32⟩
  | .hbm, ⟨17, _⟩ => ⟨S_, .f32⟩
  | .hbm, ⟨18, _⟩ => ⟨S2x2048x512, .f32⟩
  | .hbm, ⟨19, _⟩ => ⟨S2x2048x512, .f32⟩
  | .hbm, ⟨20, _⟩ => ⟨S2x2048x512, .f32⟩
  | .hbm, ⟨21, _⟩ => ⟨S_, .f32⟩
  | .hbm, ⟨22, _⟩ => ⟨S2x2048x512, .f32⟩
  | .hbm, ⟨23, _⟩ => ⟨S2x2048x512, .f32⟩
  | .hbm, ⟨24, _⟩ => ⟨S2x2048x512, .f32⟩
  | .hbm, ⟨25, _⟩ => ⟨S_, .f32⟩
  | .hbm, ⟨26, _⟩ => ⟨S2x2048x512, .f32⟩
  | .hbm, ⟨27, _⟩ => ⟨S2x2048x512, .f32⟩
  | .hbm, ⟨28, _⟩ => ⟨S2x2048x512, .f32⟩
  | .hbm, ⟨29, _⟩ => ⟨S_, .f32⟩
  | .hbm, ⟨30, _⟩ => ⟨S2x2048x512, .f32⟩
  | .hbm, ⟨31, _⟩ => ⟨S2x2048x512, .f32⟩
  | .hbm, ⟨32, _⟩ => ⟨S_, .f32⟩
  | .hbm, ⟨33, _⟩ => ⟨S2x2048x512, .f32⟩
  | .hbm, ⟨34, _⟩ => ⟨S2x2048x512, .f32⟩
  | .hbm, ⟨35, _⟩ => ⟨S2x2048x512, .f32⟩
  | .hbm, ⟨36, _⟩ => ⟨S_, .f32⟩
  | .hbm, ⟨37, _⟩ => ⟨S2x2048x512, .f32⟩
  | .hbm, ⟨38, _⟩ => ⟨S2x2048x512, .f32⟩
  | .hbm, ⟨39, _⟩ => ⟨S2x2048x512, .f32⟩
  | .hbm, ⟨40, _⟩ => ⟨S_, .f32⟩
  | .hbm, ⟨41, _⟩ => ⟨S2x2048x512, .f32⟩
  | .hbm, ⟨42, _⟩ => ⟨S2x2048x512, .f32⟩
  | .hbm, ⟨43, _⟩ => ⟨S2x2048x512, .f32⟩
  | .hbm, ⟨44, _⟩ => ⟨S_, .f32⟩
  | .hbm, ⟨45, _⟩ => ⟨S2x2048x512, .f32⟩
  | .hbm, ⟨46, _⟩ => ⟨S2x2048x512, .f32⟩
  | _, _ => ⟨S8x2048x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst_1 : Ref sig .tc := ⟨.hbm, 14, rfl⟩
abbrev main_v7 : Ref sig .tc := ⟨.hbm, 15, rfl⟩
abbrev main_v8 : Ref sig .tc := ⟨.hbm, 16, rfl⟩
abbrev main_cst_2 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_cst_3 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_cst_4 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_cst_5 : Ref sig .tc := ⟨.hbm, 29, rfl⟩
abbrev main_v18 : Ref sig .tc := ⟨.hbm, 30, rfl⟩
abbrev main_v19 : Ref sig .tc := ⟨.hbm, 31, rfl⟩
abbrev main_cst_6 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_cst_7 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_cst_8 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_cst_9 : Ref sig .tc := ⟨.hbm, 44, rfl⟩
abbrev main_v29 : Ref sig .tc := ⟨.hbm, 45, rfl⟩
abbrev main_v30 : Ref sig .tc := ⟨.hbm, 46, rfl⟩

abbrev nD : Nat := 1
abbrev τ : Topo := Topo.v7x

variable {F : FTy → Type} [FloatOps F]
-- ==== AdamCvOut.lean ====
abbrev S8x256x2048 : Shape := ⟨3, ![8, 256, 2048]⟩
abbrev S2x256x2048 : Shape := ⟨3, ![2, 256, 2048]⟩
abbrev S8x128x2048 : Shape := ⟨3, ![8, 128, 2048]⟩
abbrev S1x128x2048 : Shape := ⟨3, ![1, 128, 2048]⟩
abbrev S128x2048 : Shape := ⟨2, ![128, 2048]⟩

abbrev nBuf : Space → Nat
  | .hbm => 9
  | .vmem => 18
  | .smem => 0
  | _ => 0

abbrev bufTy : (tb : Table) → Fin (tcTables nBuf tb) → BufTy
  | .hbm, ⟨0, _⟩ => ⟨S8x256x2048, .bf16⟩
  | .hbm, ⟨1, _⟩ => ⟨S8x256x2048, .bf16⟩
  | .hbm, ⟨2, _⟩ => ⟨S2x256x2048, .f32⟩
  | .hbm, ⟨3, _⟩ => ⟨S2x256x2048, .f32⟩
  | .hbm, ⟨4, _⟩ => ⟨S2x256x2048, .f32⟩
  | .hbm, ⟨5, _⟩ => ⟨S2x256x2048, .f32⟩
  | .hbm, ⟨6, _⟩ => ⟨S2x256x2048, .f32⟩
  | .hbm, ⟨7, _⟩ => ⟨S2x256x2048, .f32⟩
  | .hbm, ⟨8, _⟩ => ⟨S2x256x2048, .f32⟩
  | .local _ .vmem, ⟨0, _⟩ => ⟨S8x128x2048, .bf16⟩
  | .local _ .vmem, ⟨1, _⟩ => ⟨S8x128x2048, .bf16⟩
  | .local _ .vmem, ⟨2, _⟩ => ⟨S8x128x2048, .bf16⟩
  | .local _ .vmem, ⟨3, _⟩ => ⟨S8x128x2048, .bf16⟩
  | .local _ .vmem, ⟨4, _⟩ => ⟨S1x128x2048, .f32⟩
  | .local _ .vmem, ⟨5, _⟩ => ⟨S1x128x2048, .f32⟩
  | .local _ .vmem, ⟨6, _⟩ => ⟨S1x128x2048, .f32⟩
  | .local _ .vmem, ⟨7, _⟩ => ⟨S1x128x2048, .f32⟩
  | .local _ .vmem, ⟨8, _⟩ => ⟨S1x128x2048, .f32⟩
  | .local _ .vmem, ⟨9, _⟩ => ⟨S1x128x2048, .f32⟩
  | .local _ .vmem, ⟨10, _⟩ => ⟨S1x128x2048, .f32⟩
  | .local _ .vmem, ⟨11, _⟩ => ⟨S1x128x2048, .f32⟩
  | .local _ .vmem, ⟨12, _⟩ => ⟨S1x128x2048, .f32⟩
  | .local _ .vmem, ⟨13, _⟩ => ⟨S1x128x2048, .f32⟩
  | .local _ .vmem, ⟨14, _⟩ => ⟨S1x128x2048, .f32⟩
  | .local _ .vmem, ⟨15, _⟩ => ⟨S1x128x2048, .f32⟩
  | .local _ .vmem, ⟨16, _⟩ => ⟨S1x128x2048, .f32⟩
  | .local _ .vmem, ⟨17, _⟩ => ⟨S1x128x2048, .f32⟩
  | _, _ => ⟨S8x256x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v0_3 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨2, ![2, 2], ![false, false]⟩

def k0_cond1 (i : grid0.Coords) : BitVec 1 :=
  let arg0 : BitVec 32 := BitVec.ofNat 32 (i 0).val
  let c0_i32 : BitVec 32 := 0#32
  let v0 : BitVec 1 := Scalar.cmpi .eq arg0 c0_i32
  let v1 : BitVec 32 := Scalar.extui v0
  let c0_i32_0 : BitVec 32 := 0#32
  let v2 : BitVec 1 := Scalar.cmpi .ne v1 c0_i32_0
  v2

def k0_cond2 (i : grid0.Coords) : BitVec 1 :=
  let arg0 : BitVec 32 := BitVec.ofNat 32 (i 0).val
  let c1_i32 : BitVec 32 := 1#32
  let v3 : BitVec 1 := Scalar.cmpi .eq arg0 c1_i32
  let v4 : BitVec 32 := Scalar.extui v3
  let c0_i32_1 : BitVec 32 := 0#32
  let v5 : BitVec 1 := Scalar.cmpi .ne v4 c0_i32_1
  v5

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 1 := Scalar.cmpi .eq arg0 c0_i32
  let c0_i32_0 : BitVec 32 := 0#32
  let v1 : BitVec 32 := Scalar.select v0 arg1 c0_i32_0
  let c0_i32_1 : BitVec 32 := 0#32
  let c0_i32_2 : BitVec 32 := 0#32
  let c0_i32_3 : BitVec 32 := 0#32
  ![c0_i32_1.toNat, v1.toNat, c0_i32_2.toNat]

def cc0_transform_1 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 1 := Scalar.cmpi .eq arg0 c1_i32
  let c0_i32 : BitVec 32 := 0#32
  let v1 : BitVec 32 := Scalar.select v0 arg1 c0_i32
  let c0_i32_0 : BitVec 32 := 0#32
  let c0_i32_1 : BitVec 32 := 0#32
  let c0_i32_2 : BitVec 32 := 0#32
  ![c0_i32_0.toNat, v1.toNat, c0_i32_1.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S8x128x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S8x128x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x128x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x128x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x128x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x128x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x128x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x128x2048 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x128x2048 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]
-- ==== AdamCvOutRefIdeal.lean ====
abbrev S8x256x2048 : Shape := ⟨3, ![8, 256, 2048]⟩
abbrev S2x256x2048 : Shape := ⟨3, ![2, 256, 2048]⟩
abbrev S_ : Shape := ⟨0, ![]⟩
abbrev S256x2048 : Shape := ⟨2, ![256, 2048]⟩
abbrev S1x256x2048 : Shape := ⟨3, ![1, 256, 2048]⟩

abbrev nBuf : Space → Nat
  | .hbm => 47
  | .vmem => 0
  | .smem => 0
  | _ => 0

abbrev bufTy : (tb : Table) → Fin (tcTables nBuf tb) → BufTy
  | .hbm, ⟨0, _⟩ => ⟨S8x256x2048, .bf16⟩
  | .hbm, ⟨1, _⟩ => ⟨S8x256x2048, .bf16⟩
  | .hbm, ⟨2, _⟩ => ⟨S2x256x2048, .f32⟩
  | .hbm, ⟨3, _⟩ => ⟨S2x256x2048, .f32⟩
  | .hbm, ⟨4, _⟩ => ⟨S2x256x2048, .f32⟩
  | .hbm, ⟨5, _⟩ => ⟨S8x256x2048, .f32⟩
  | .hbm, ⟨6, _⟩ => ⟨S_, .f32⟩
  | .hbm, ⟨7, _⟩ => ⟨S256x2048, .f32⟩
  | .hbm, ⟨8, _⟩ => ⟨S8x256x2048, .f32⟩
  | .hbm, ⟨9, _⟩ => ⟨S_, .f32⟩
  | .hbm, ⟨10, _⟩ => ⟨S256x2048, .f32⟩
  | .hbm, ⟨11, _⟩ => ⟨S1x256x2048, .f32⟩
  | .hbm, ⟨12, _⟩ => ⟨S1x256x2048, .f32⟩
  | .hbm, ⟨13, _⟩ => ⟨S2x256x2048, .f32⟩
  | .hbm, ⟨14, _⟩ => ⟨S_, .f32⟩
  | .hbm, ⟨15, _⟩ => ⟨S2x256x2048, .f32⟩
  | .hbm, ⟨16, _⟩ => ⟨S2x256x2048, .f32⟩
  | .hbm, ⟨17, _⟩ => ⟨S_, .f32⟩
  | .hbm, ⟨18, _⟩ => ⟨S2x256x2048, .f32⟩
  | .hbm, ⟨19, _⟩ => ⟨S2x256x2048, .f32⟩
  | .hbm, ⟨20, _⟩ => ⟨S2x256x2048, .f32⟩
  | .hbm, ⟨21, _⟩ => ⟨S_, .f32⟩
  | .hbm, ⟨22, _⟩ => ⟨S2x256x2048, .f32⟩
  | .hbm, ⟨23, _⟩ => ⟨S2x256x2048, .f32⟩
  | .hbm, ⟨24, _⟩ => ⟨S2x256x2048, .f32⟩
  | .hbm, ⟨25, _⟩ => ⟨S_, .f32⟩
  | .hbm, ⟨26, _⟩ => ⟨S2x256x2048, .f32⟩
  | .hbm, ⟨27, _⟩ => ⟨S2x256x2048, .f32⟩
  | .hbm, ⟨28, _⟩ => ⟨S2x256x2048, .f32⟩
  | .hbm, ⟨29, _⟩ => ⟨S_, .f32⟩
  | .hbm, ⟨30, _⟩ => ⟨S2x256x2048, .f32⟩
  | .hbm, ⟨31, _⟩ => ⟨S2x256x2048, .f32⟩
  | .hbm, ⟨32, _⟩ => ⟨S_, .f32⟩
  | .hbm, ⟨33, _⟩ => ⟨S2x256x2048, .f32⟩
  | .hbm, ⟨34, _⟩ => ⟨S2x256x2048, .f32⟩
  | .hbm, ⟨35, _⟩ => ⟨S2x256x2048, .f32⟩
  | .hbm, ⟨36, _⟩ => ⟨S_, .f32⟩
  | .hbm, ⟨37, _⟩ => ⟨S2x256x2048, .f32⟩
  | .hbm, ⟨38, _⟩ => ⟨S2x256x2048, .f32⟩
  | .hbm, ⟨39, _⟩ => ⟨S2x256x2048, .f32⟩
  | .hbm, ⟨40, _⟩ => ⟨S_, .f32⟩
  | .hbm, ⟨41, _⟩ => ⟨S2x256x2048, .f32⟩
  | .hbm, ⟨42, _⟩ => ⟨S2x256x2048, .f32⟩
  | .hbm, ⟨43, _⟩ => ⟨S2x256x2048, .f32⟩
  | .hbm, ⟨44, _⟩ => ⟨S_, .f32⟩
  | .hbm, ⟨45, _⟩ => ⟨S2x256x2048, .f32⟩
  | .hbm, ⟨46, _⟩ => ⟨S2x256x2048, .f32⟩
  | _, _ => ⟨S8x256x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst_1 : Ref sig .tc := ⟨.hbm, 14, rfl⟩
abbrev main_v7 : Ref sig .tc := ⟨.hbm, 15, rfl⟩
abbrev main_v8 : Ref sig .tc := ⟨.hbm, 16, rfl⟩
abbrev main_cst_2 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_cst_3 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_cst_4 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_cst_5 : Ref sig .tc := ⟨.hbm, 29, rfl⟩
abbrev main_v18 : Ref sig .tc := ⟨.hbm, 30, rfl⟩
abbrev main_v19 : Ref sig .tc := ⟨.hbm, 31, rfl⟩
abbrev main_cst_6 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_cst_7 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_cst_8 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_cst_9 : Ref sig .tc := ⟨.hbm, 44, rfl⟩
abbrev main_v29 : Ref sig .tc := ⟨.hbm, 45, rfl⟩
abbrev main_v30 : Ref sig .tc := ⟨.hbm, 46, rfl⟩

abbrev nD : Nat := 1
abbrev τ : Topo := Topo.v7x

variable {F : FTy → Type} [FloatOps F]
-- ==== AdamSsmIn.lean ====
abbrev S8x2048x1408 : Shape := ⟨3, ![8, 2048, 1408]⟩
abbrev S2x2048x1408 : Shape := ⟨3, ![2, 2048, 1408]⟩
abbrev S8x128x1408 : Shape := ⟨3, ![8, 128, 1408]⟩
abbrev S1x128x1408 : Shape := ⟨3, ![1, 128, 1408]⟩
abbrev S128x1408 : Shape := ⟨2, ![128, 1408]⟩

abbrev nBuf : Space → Nat
  | .hbm => 9
  | .vmem => 18
  | .smem => 0
  | _ => 0

abbrev bufTy : (tb : Table) → Fin (tcTables nBuf tb) → BufTy
  | .hbm, ⟨0, _⟩ => ⟨S8x2048x1408, .bf16⟩
  | .hbm, ⟨1, _⟩ => ⟨S8x2048x1408, .bf16⟩
  | .hbm, ⟨2, _⟩ => ⟨S2x2048x1408, .f32⟩
  | .hbm, ⟨3, _⟩ => ⟨S2x2048x1408, .f32⟩
  | .hbm, ⟨4, _⟩ => ⟨S2x2048x1408, .f32⟩
  | .hbm, ⟨5, _⟩ => ⟨S2x2048x1408, .f32⟩
  | .hbm, ⟨6, _⟩ => ⟨S2x2048x1408, .f32⟩
  | .hbm, ⟨7, _⟩ => ⟨S2x2048x1408, .f32⟩
  | .hbm, ⟨8, _⟩ => ⟨S2x2048x1408, .f32⟩
  | .local _ .vmem, ⟨0, _⟩ => ⟨S8x128x1408, .bf16⟩
  | .local _ .vmem, ⟨1, _⟩ => ⟨S8x128x1408, .bf16⟩
  | .local _ .vmem, ⟨2, _⟩ => ⟨S8x128x1408, .bf16⟩
  | .local _ .vmem, ⟨3, _⟩ => ⟨S8x128x1408, .bf16⟩
  | .local _ .vmem, ⟨4, _⟩ => ⟨S1x128x1408, .f32⟩
  | .local _ .vmem, ⟨5, _⟩ => ⟨S1x128x1408, .f32⟩
  | .local _ .vmem, ⟨6, _⟩ => ⟨S1x128x1408, .f32⟩
  | .local _ .vmem, ⟨7, _⟩ => ⟨S1x128x1408, .f32⟩
  | .local _ .vmem, ⟨8, _⟩ => ⟨S1x128x1408, .f32⟩
  | .local _ .vmem, ⟨9, _⟩ => ⟨S1x128x1408, .f32⟩
  | .local _ .vmem, ⟨10, _⟩ => ⟨S1x128x1408, .f32⟩
  | .local _ .vmem, ⟨11, _⟩ => ⟨S1x128x1408, .f32⟩
  | .local _ .vmem, ⟨12, _⟩ => ⟨S1x128x1408, .f32⟩
  | .local _ .vmem, ⟨13, _⟩ => ⟨S1x128x1408, .f32⟩
  | .local _ .vmem, ⟨14, _⟩ => ⟨S1x128x1408, .f32⟩
  | .local _ .vmem, ⟨15, _⟩ => ⟨S1x128x1408, .f32⟩
  | .local _ .vmem, ⟨16, _⟩ => ⟨S1x128x1408, .f32⟩
  | .local _ .vmem, ⟨17, _⟩ => ⟨S1x128x1408, .f32⟩
  | _, _ => ⟨S8x2048x1408, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v0_3 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨2, ![2, 16], ![false, false]⟩

def k0_cond1 (i : grid0.Coords) : BitVec 1 :=
  let arg0 : BitVec 32 := BitVec.ofNat 32 (i 0).val
  let c0_i32 : BitVec 32 := 0#32
  let v0 : BitVec 1 := Scalar.cmpi .eq arg0 c0_i32
  let v1 : BitVec 32 := Scalar.extui v0
  let c0_i32_0 : BitVec 32 := 0#32
  let v2 : BitVec 1 := Scalar.cmpi .ne v1 c0_i32_0
  v2

def k0_cond2 (i : grid0.Coords) : BitVec 1 :=
  let arg0 : BitVec 32 := BitVec.ofNat 32 (i 0).val
  let c1_i32 : BitVec 32 := 1#32
  let v3 : BitVec 1 := Scalar.cmpi .eq arg0 c1_i32
  let v4 : BitVec 32 := Scalar.extui v3
  let c0_i32_1 : BitVec 32 := 0#32
  let v5 : BitVec 1 := Scalar.cmpi .ne v4 c0_i32_1
  v5

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 1 := Scalar.cmpi .eq arg0 c0_i32
  let c0_i32_0 : BitVec 32 := 0#32
  let v1 : BitVec 32 := Scalar.select v0 arg1 c0_i32_0
  let c0_i32_1 : BitVec 32 := 0#32
  let c0_i32_2 : BitVec 32 := 0#32
  let c0_i32_3 : BitVec 32 := 0#32
  ![c0_i32_1.toNat, v1.toNat, c0_i32_2.toNat]

def cc0_transform_1 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 1 := Scalar.cmpi .eq arg0 c1_i32
  let c0_i32 : BitVec 32 := 0#32
  let v1 : BitVec 32 := Scalar.select v0 arg1 c0_i32
  let c0_i32_0 : BitVec 32 := 0#32
  let c0_i32_1 : BitVec 32 := 0#32
  let c0_i32_2 : BitVec 32 := 0#32
  ![c0_i32_0.toNat, v1.toNat, c0_i32_1.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S8x128x1408 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S8x128x1408 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x128x1408 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x128x1408 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x128x1408 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x128x1408 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x128x1408 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x128x1408 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x128x1408 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]
-- ==== AdamSsmInRefIdeal.lean ====
abbrev S8x2048x1408 : Shape := ⟨3, ![8, 2048, 1408]⟩
abbrev S2x2048x1408 : Shape := ⟨3, ![2, 2048, 1408]⟩
abbrev S_ : Shape := ⟨0, ![]⟩
abbrev S2048x1408 : Shape := ⟨2, ![2048, 1408]⟩
abbrev S1x2048x1408 : Shape := ⟨3, ![1, 2048, 1408]⟩

abbrev nBuf : Space → Nat
  | .hbm => 47
  | .vmem => 0
  | .smem => 0
  | _ => 0

abbrev bufTy : (tb : Table) → Fin (tcTables nBuf tb) → BufTy
  | .hbm, ⟨0, _⟩ => ⟨S8x2048x1408, .bf16⟩
  | .hbm, ⟨1, _⟩ => ⟨S8x2048x1408, .bf16⟩
  | .hbm, ⟨2, _⟩ => ⟨S2x2048x1408, .f32⟩
  | .hbm, ⟨3, _⟩ => ⟨S2x2048x1408, .f32⟩
  | .hbm, ⟨4, _⟩ => ⟨S2x2048x1408, .f32⟩
  | .hbm, ⟨5, _⟩ => ⟨S8x2048x1408, .f32⟩
  | .hbm, ⟨6, _⟩ => ⟨S_, .f32⟩
  | .hbm, ⟨7, _⟩ => ⟨S2048x1408, .f32⟩
  | .hbm, ⟨8, _⟩ => ⟨S8x2048x1408, .f32⟩
  | .hbm, ⟨9, _⟩ => ⟨S_, .f32⟩
  | .hbm, ⟨10, _⟩ => ⟨S2048x1408, .f32⟩
  | .hbm, ⟨11, _⟩ => ⟨S1x2048x1408, .f32⟩
  | .hbm, ⟨12, _⟩ => ⟨S1x2048x1408, .f32⟩
  | .hbm, ⟨13, _⟩ => ⟨S2x2048x1408, .f32⟩
  | .hbm, ⟨14, _⟩ => ⟨S_, .f32⟩
  | .hbm, ⟨15, _⟩ => ⟨S2x2048x1408, .f32⟩
  | .hbm, ⟨16, _⟩ => ⟨S2x2048x1408, .f32⟩
  | .hbm, ⟨17, _⟩ => ⟨S_, .f32⟩
  | .hbm, ⟨18, _⟩ => ⟨S2x2048x1408, .f32⟩
  | .hbm, ⟨19, _⟩ => ⟨S2x2048x1408, .f32⟩
  | .hbm, ⟨20, _⟩ => ⟨S2x2048x1408, .f32⟩
  | .hbm, ⟨21, _⟩ => ⟨S_, .f32⟩
  | .hbm, ⟨22, _⟩ => ⟨S2x2048x1408, .f32⟩
  | .hbm, ⟨23, _⟩ => ⟨S2x2048x1408, .f32⟩
  | .hbm, ⟨24, _⟩ => ⟨S2x2048x1408, .f32⟩
  | .hbm, ⟨25, _⟩ => ⟨S_, .f32⟩
  | .hbm, ⟨26, _⟩ => ⟨S2x2048x1408, .f32⟩
  | .hbm, ⟨27, _⟩ => ⟨S2x2048x1408, .f32⟩
  | .hbm, ⟨28, _⟩ => ⟨S2x2048x1408, .f32⟩
  | .hbm, ⟨29, _⟩ => ⟨S_, .f32⟩
  | .hbm, ⟨30, _⟩ => ⟨S2x2048x1408, .f32⟩
  | .hbm, ⟨31, _⟩ => ⟨S2x2048x1408, .f32⟩
  | .hbm, ⟨32, _⟩ => ⟨S_, .f32⟩
  | .hbm, ⟨33, _⟩ => ⟨S2x2048x1408, .f32⟩
  | .hbm, ⟨34, _⟩ => ⟨S2x2048x1408, .f32⟩
  | .hbm, ⟨35, _⟩ => ⟨S2x2048x1408, .f32⟩
  | .hbm, ⟨36, _⟩ => ⟨S_, .f32⟩
  | .hbm, ⟨37, _⟩ => ⟨S2x2048x1408, .f32⟩
  | .hbm, ⟨38, _⟩ => ⟨S2x2048x1408, .f32⟩
  | .hbm, ⟨39, _⟩ => ⟨S2x2048x1408, .f32⟩
  | .hbm, ⟨40, _⟩ => ⟨S_, .f32⟩
  | .hbm, ⟨41, _⟩ => ⟨S2x2048x1408, .f32⟩
  | .hbm, ⟨42, _⟩ => ⟨S2x2048x1408, .f32⟩
  | .hbm, ⟨43, _⟩ => ⟨S2x2048x1408, .f32⟩
  | .hbm, ⟨44, _⟩ => ⟨S_, .f32⟩
  | .hbm, ⟨45, _⟩ => ⟨S2x2048x1408, .f32⟩
  | .hbm, ⟨46, _⟩ => ⟨S2x2048x1408, .f32⟩
  | _, _ => ⟨S8x2048x1408, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst_1 : Ref sig .tc := ⟨.hbm, 14, rfl⟩
abbrev main_v7 : Ref sig .tc := ⟨.hbm, 15, rfl⟩
abbrev main_v8 : Ref sig .tc := ⟨.hbm, 16, rfl⟩
abbrev main_cst_2 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_cst_3 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_cst_4 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_cst_5 : Ref sig .tc := ⟨.hbm, 29, rfl⟩
abbrev main_v18 : Ref sig .tc := ⟨.hbm, 30, rfl⟩
abbrev main_v19 : Ref sig .tc := ⟨.hbm, 31, rfl⟩
abbrev main_cst_6 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_cst_7 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_cst_8 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_cst_9 : Ref sig .tc := ⟨.hbm, 44, rfl⟩
abbrev main_v29 : Ref sig .tc := ⟨.hbm, 45, rfl⟩
abbrev main_v30 : Ref sig .tc := ⟨.hbm, 46, rfl⟩

abbrev nD : Nat := 1
abbrev τ : Topo := Topo.v7x

variable {F : FTy → Type} [FloatOps F]
-- ==== AdamSsmOut.lean ====
abbrev S8x512x2048 : Shape := ⟨3, ![8, 512, 2048]⟩
abbrev S2x512x2048 : Shape := ⟨3, ![2, 512, 2048]⟩
abbrev S8x128x2048 : Shape := ⟨3, ![8, 128, 2048]⟩
abbrev S1x128x2048 : Shape := ⟨3, ![1, 128, 2048]⟩
abbrev S128x2048 : Shape := ⟨2, ![128, 2048]⟩

abbrev nBuf : Space → Nat
  | .hbm => 9
  | .vmem => 18
  | .smem => 0
  | _ => 0

abbrev bufTy : (tb : Table) → Fin (tcTables nBuf tb) → BufTy
  | .hbm, ⟨0, _⟩ => ⟨S8x512x2048, .bf16⟩
  | .hbm, ⟨1, _⟩ => ⟨S8x512x2048, .bf16⟩
  | .hbm, ⟨2, _⟩ => ⟨S2x512x2048, .f32⟩
  | .hbm, ⟨3, _⟩ => ⟨S2x512x2048, .f32⟩
  | .hbm, ⟨4, _⟩ => ⟨S2x512x2048, .f32⟩
  | .hbm, ⟨5, _⟩ => ⟨S2x512x2048, .f32⟩
  | .hbm, ⟨6, _⟩ => ⟨S2x512x2048, .f32⟩
  | .hbm, ⟨7, _⟩ => ⟨S2x512x2048, .f32⟩
  | .hbm, ⟨8, _⟩ => ⟨S2x512x2048, .f32⟩
  | .local _ .vmem, ⟨0, _⟩ => ⟨S8x128x2048, .bf16⟩
  | .local _ .vmem, ⟨1, _⟩ => ⟨S8x128x2048, .bf16⟩
  | .local _ .vmem, ⟨2, _⟩ => ⟨S8x128x2048, .bf16⟩
  | .local _ .vmem, ⟨3, _⟩ => ⟨S8x128x2048, .bf16⟩
  | .local _ .vmem, ⟨4, _⟩ => ⟨S1x128x2048, .f32⟩
  | .local _ .vmem, ⟨5, _⟩ => ⟨S1x128x2048, .f32⟩
  | .local _ .vmem, ⟨6, _⟩ => ⟨S1x128x2048, .f32⟩
  | .local _ .vmem, ⟨7, _⟩ => ⟨S1x128x2048, .f32⟩
  | .local _ .vmem, ⟨8, _⟩ => ⟨S1x128x2048, .f32⟩
  | .local _ .vmem, ⟨9, _⟩ => ⟨S1x128x2048, .f32⟩
  | .local _ .vmem, ⟨10, _⟩ => ⟨S1x128x2048, .f32⟩
  | .local _ .vmem, ⟨11, _⟩ => ⟨S1x128x2048, .f32⟩
  | .local _ .vmem, ⟨12, _⟩ => ⟨S1x128x2048, .f32⟩
  | .local _ .vmem, ⟨13, _⟩ => ⟨S1x128x2048, .f32⟩
  | .local _ .vmem, ⟨14, _⟩ => ⟨S1x128x2048, .f32⟩
  | .local _ .vmem, ⟨15, _⟩ => ⟨S1x128x2048, .f32⟩
  | .local _ .vmem, ⟨16, _⟩ => ⟨S1x128x2048, .f32⟩
  | .local _ .vmem, ⟨17, _⟩ => ⟨S1x128x2048, .f32⟩
  | _, _ => ⟨S8x512x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v0_3 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨2, ![2, 4], ![false, false]⟩

def k0_cond1 (i : grid0.Coords) : BitVec 1 :=
  let arg0 : BitVec 32 := BitVec.ofNat 32 (i 0).val
  let c0_i32 : BitVec 32 := 0#32
  let v0 : BitVec 1 := Scalar.cmpi .eq arg0 c0_i32
  let v1 : BitVec 32 := Scalar.extui v0
  let c0_i32_0 : BitVec 32 := 0#32
  let v2 : BitVec 1 := Scalar.cmpi .ne v1 c0_i32_0
  v2

def k0_cond2 (i : grid0.Coords) : BitVec 1 :=
  let arg0 : BitVec 32 := BitVec.ofNat 32 (i 0).val
  let c1_i32 : BitVec 32 := 1#32
  let v3 : BitVec 1 := Scalar.cmpi .eq arg0 c1_i32
  let v4 : BitVec 32 := Scalar.extui v3
  let c0_i32_1 : BitVec 32 := 0#32
  let v5 : BitVec 1 := Scalar.cmpi .ne v4 c0_i32_1
  v5

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 1 := Scalar.cmpi .eq arg0 c0_i32
  let c0_i32_0 : BitVec 32 := 0#32
  let v1 : BitVec 32 := Scalar.select v0 arg1 c0_i32_0
  let c0_i32_1 : BitVec 32 := 0#32
  let c0_i32_2 : BitVec 32 := 0#32
  let c0_i32_3 : BitVec 32 := 0#32
  ![c0_i32_1.toNat, v1.toNat, c0_i32_2.toNat]

def cc0_transform_1 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 1 := Scalar.cmpi .eq arg0 c1_i32
  let c0_i32 : BitVec 32 := 0#32
  let v1 : BitVec 32 := Scalar.select v0 arg1 c0_i32
  let c0_i32_0 : BitVec 32 := 0#32
  let c0_i32_1 : BitVec 32 := 0#32
  let c0_i32_2 : BitVec 32 := 0#32
  ![c0_i32_0.toNat, v1.toNat, c0_i32_1.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S8x128x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S8x128x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x128x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x128x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x128x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x128x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x128x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x128x2048 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x128x2048 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]
-- ==== AdamSsmOutRefIdeal.lean ====
abbrev S8x512x2048 : Shape := ⟨3, ![8, 512, 2048]⟩
abbrev S2x512x2048 : Shape := ⟨3, ![2, 512, 2048]⟩
abbrev S_ : Shape := ⟨0, ![]⟩
abbrev S512x2048 : Shape := ⟨2, ![512, 2048]⟩
abbrev S1x512x2048 : Shape := ⟨3, ![1, 512, 2048]⟩

abbrev nBuf : Space → Nat
  | .hbm => 47
  | .vmem => 0
  | .smem => 0
  | _ => 0

abbrev bufTy : (tb : Table) → Fin (tcTables nBuf tb) → BufTy
  | .hbm, ⟨0, _⟩ => ⟨S8x512x2048, .bf16⟩
  | .hbm, ⟨1, _⟩ => ⟨S8x512x2048, .bf16⟩
  | .hbm, ⟨2, _⟩ => ⟨S2x512x2048, .f32⟩
  | .hbm, ⟨3, _⟩ => ⟨S2x512x2048, .f32⟩
  | .hbm, ⟨4, _⟩ => ⟨S2x512x2048, .f32⟩
  | .hbm, ⟨5, _⟩ => ⟨S8x512x2048, .f32⟩
  | .hbm, ⟨6, _⟩ => ⟨S_, .f32⟩
  | .hbm, ⟨7, _⟩ => ⟨S512x2048, .f32⟩
  | .hbm, ⟨8, _⟩ => ⟨S8x512x2048, .f32⟩
  | .hbm, ⟨9, _⟩ => ⟨S_, .f32⟩
  | .hbm, ⟨10, _⟩ => ⟨S512x2048, .f32⟩
  | .hbm, ⟨11, _⟩ => ⟨S1x512x2048, .f32⟩
  | .hbm, ⟨12, _⟩ => ⟨S1x512x2048, .f32⟩
  | .hbm, ⟨13, _⟩ => ⟨S2x512x2048, .f32⟩
  | .hbm, ⟨14, _⟩ => ⟨S_, .f32⟩
  | .hbm, ⟨15, _⟩ => ⟨S2x512x2048, .f32⟩
  | .hbm, ⟨16, _⟩ => ⟨S2x512x2048, .f32⟩
  | .hbm, ⟨17, _⟩ => ⟨S_, .f32⟩
  | .hbm, ⟨18, _⟩ => ⟨S2x512x2048, .f32⟩
  | .hbm, ⟨19, _⟩ => ⟨S2x512x2048, .f32⟩
  | .hbm, ⟨20, _⟩ => ⟨S2x512x2048, .f32⟩
  | .hbm, ⟨21, _⟩ => ⟨S_, .f32⟩
  | .hbm, ⟨22, _⟩ => ⟨S2x512x2048, .f32⟩
  | .hbm, ⟨23, _⟩ => ⟨S2x512x2048, .f32⟩
  | .hbm, ⟨24, _⟩ => ⟨S2x512x2048, .f32⟩
  | .hbm, ⟨25, _⟩ => ⟨S_, .f32⟩
  | .hbm, ⟨26, _⟩ => ⟨S2x512x2048, .f32⟩
  | .hbm, ⟨27, _⟩ => ⟨S2x512x2048, .f32⟩
  | .hbm, ⟨28, _⟩ => ⟨S2x512x2048, .f32⟩
  | .hbm, ⟨29, _⟩ => ⟨S_, .f32⟩
  | .hbm, ⟨30, _⟩ => ⟨S2x512x2048, .f32⟩
  | .hbm, ⟨31, _⟩ => ⟨S2x512x2048, .f32⟩
  | .hbm, ⟨32, _⟩ => ⟨S_, .f32⟩
  | .hbm, ⟨33, _⟩ => ⟨S2x512x2048, .f32⟩
  | .hbm, ⟨34, _⟩ => ⟨S2x512x2048, .f32⟩
  | .hbm, ⟨35, _⟩ => ⟨S2x512x2048, .f32⟩
  | .hbm, ⟨36, _⟩ => ⟨S_, .f32⟩
  | .hbm, ⟨37, _⟩ => ⟨S2x512x2048, .f32⟩
  | .hbm, ⟨38, _⟩ => ⟨S2x512x2048, .f32⟩
  | .hbm, ⟨39, _⟩ => ⟨S2x512x2048, .f32⟩
  | .hbm, ⟨40, _⟩ => ⟨S_, .f32⟩
  | .hbm, ⟨41, _⟩ => ⟨S2x512x2048, .f32⟩
  | .hbm, ⟨42, _⟩ => ⟨S2x512x2048, .f32⟩
  | .hbm, ⟨43, _⟩ => ⟨S2x512x2048, .f32⟩
  | .hbm, ⟨44, _⟩ => ⟨S_, .f32⟩
  | .hbm, ⟨45, _⟩ => ⟨S2x512x2048, .f32⟩
  | .hbm, ⟨46, _⟩ => ⟨S2x512x2048, .f32⟩
  | _, _ => ⟨S8x512x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst_1 : Ref sig .tc := ⟨.hbm, 14, rfl⟩
abbrev main_v7 : Ref sig .tc := ⟨.hbm, 15, rfl⟩
abbrev main_v8 : Ref sig .tc := ⟨.hbm, 16, rfl⟩
abbrev main_cst_2 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_cst_3 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_cst_4 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_cst_5 : Ref sig .tc := ⟨.hbm, 29, rfl⟩
abbrev main_v18 : Ref sig .tc := ⟨.hbm, 30, rfl⟩
abbrev main_v19 : Ref sig .tc := ⟨.hbm, 31, rfl⟩
abbrev main_cst_6 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_cst_7 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_cst_8 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_cst_9 : Ref sig .tc := ⟨.hbm, 44, rfl⟩
abbrev main_v29 : Ref sig .tc := ⟨.hbm, 45, rfl⟩
abbrev main_v30 : Ref sig .tc := ⟨.hbm, 46, rfl⟩

abbrev nD : Nat := 1
abbrev τ : Topo := Topo.v7x

variable {F : FTy → Type} [FloatOps F]
-- ==== AdamFfnUp.lean ====
abbrev S8x2048x1408 : Shape := ⟨3, ![8, 2048, 1408]⟩
abbrev S4x2048x1408 : Shape := ⟨3, ![4, 2048, 1408]⟩
abbrev S8x128x1408 : Shape := ⟨3, ![8, 128, 1408]⟩
abbrev S1x128x1408 : Shape := ⟨3, ![1, 128, 1408]⟩
abbrev S128x1408 : Shape := ⟨2, ![128, 1408]⟩

abbrev nBuf : Space → Nat
  | .hbm => 11
  | .vmem => 22
  | .smem => 0
  | _ => 0

abbrev bufTy : (tb : Table) → Fin (tcTables nBuf tb) → BufTy
  | .hbm, ⟨0, _⟩ => ⟨S8x2048x1408, .bf16⟩
  | .hbm, ⟨1, _⟩ => ⟨S8x2048x1408, .bf16⟩
  | .hbm, ⟨2, _⟩ => ⟨S8x2048x1408, .bf16⟩
  | .hbm, ⟨3, _⟩ => ⟨S8x2048x1408, .bf16⟩
  | .hbm, ⟨4, _⟩ => ⟨S4x2048x1408, .f32⟩
  | .hbm, ⟨5, _⟩ => ⟨S4x2048x1408, .f32⟩
  | .hbm, ⟨6, _⟩ => ⟨S4x2048x1408, .f32⟩
  | .hbm, ⟨7, _⟩ => ⟨S4x2048x1408, .f32⟩
  | .hbm, ⟨8, _⟩ => ⟨S4x2048x1408, .f32⟩
  | .hbm, ⟨9, _⟩ => ⟨S4x2048x1408, .f32⟩
  | .hbm, ⟨10, _⟩ => ⟨S4x2048x1408, .f32⟩
  | .local _ .vmem, ⟨0, _⟩ => ⟨S8x128x1408, .bf16⟩
  | .local _ .vmem, ⟨1, _⟩ => ⟨S8x128x1408, .bf16⟩
  | .local _ .vmem, ⟨2, _⟩ => ⟨S8x128x1408, .bf16⟩
  | .local _ .vmem, ⟨3, _⟩ => ⟨S8x128x1408, .bf16⟩
  | .local _ .vmem, ⟨4, _⟩ => ⟨S8x128x1408, .bf16⟩
  | .local _ .vmem, ⟨5, _⟩ => ⟨S8x128x1408, .bf16⟩
  | .local _ .vmem, ⟨6, _⟩ => ⟨S8x128x1408, .bf16⟩
  | .local _ .vmem, ⟨7, _⟩ => ⟨S8x128x1408, .bf16⟩
  | .local _ .vmem, ⟨8, _⟩ => ⟨S1x128x1408, .f32⟩
  | .local _ .vmem, ⟨9, _⟩ => ⟨S1x128x1408, .f32⟩
  | .local _ .vmem, ⟨10, _⟩ => ⟨S1x128x1408, .f32⟩
  | .local _ .vmem, ⟨11, _⟩ => ⟨S1x128x1408, .f32⟩
  | .local _ .vmem, ⟨12, _⟩ => ⟨S1x128x1408, .f32⟩
  | .local _ .vmem, ⟨13, _⟩ => ⟨S1x128x1408, .f32⟩
  | .local _ .vmem, ⟨14, _⟩ => ⟨S1x128x1408, .f32⟩
  | .local _ .vmem, ⟨15, _⟩ => ⟨S1x128x1408, .f32⟩
  | .local _ .vmem, ⟨16, _⟩ => ⟨S1x128x1408, .f32⟩
  | .local _ .vmem, ⟨17, _⟩ => ⟨S1x128x1408, .f32⟩
  | .local _ .vmem, ⟨18, _⟩ => ⟨S1x128x1408, .f32⟩
  | .local _ .vmem, ⟨19, _⟩ => ⟨S1x128x1408, .f32⟩
  | .local _ .vmem, ⟨20, _⟩ => ⟨S1x128x1408, .f32⟩
  | .local _ .vmem, ⟨21, _⟩ => ⟨S1x128x1408, .f32⟩
  | _, _ => ⟨S8x2048x1408, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0_0 : Ref sig .tc := ⟨.hbm, 7, rfl⟩
abbrev main_v0_1 : Ref sig .tc := ⟨.hbm, 8, rfl⟩
abbrev main_v0_2 : Ref sig .tc := ⟨.hbm, 9, rfl⟩
abbrev main_v0_3 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21

abbrev nD : Nat := 1
abbrev τ : Topo := Topo.v7x

variable {F : FTy → Type} [FloatOps F]

abbrev grid0 : Pipeline.Grid := ⟨2, ![4, 16], ![false, false]⟩

def k0_cond1 (i : grid0.Coords) : BitVec 1 :=
  let arg0 : BitVec 32 := BitVec.ofNat 32 (i 0).val
  let c0_i32 : BitVec 32 := 0#32
  let v0 : BitVec 1 := Scalar.cmpi .eq arg0 c0_i32
  let v1 : BitVec 32 := Scalar.extui v0
  let c0_i32_0 : BitVec 32 := 0#32
  let v2 : BitVec 1 := Scalar.cmpi .ne v1 c0_i32_0
  v2

def k0_cond2 (i : grid0.Coords) : BitVec 1 :=
  let arg0 : BitVec 32 := BitVec.ofNat 32 (i 0).val
  let c1_i32 : BitVec 32 := 1#32
  let v3 : BitVec 1 := Scalar.cmpi .eq arg0 c1_i32
  let v4 : BitVec 32 := Scalar.extui v3
  let c0_i32_1 : BitVec 32 := 0#32
  let v5 : BitVec 1 := Scalar.cmpi .ne v4 c0_i32_1
  v5

def k0_cond3 (i : grid0.Coords) : BitVec 1 :=
  let arg0 : BitVec 32 := BitVec.ofNat 32 (i 0).val
  let c2_i32 : BitVec 32 := 2#32
  let v6 : BitVec 1 := Scalar.cmpi .eq arg0 c2_i32
  let v7 : BitVec 32 := Scalar.extui v6
  let c0_i32_2 : BitVec 32 := 0#32
  let v8 : BitVec 1 := Scalar.cmpi .ne v7 c0_i32_2
  v8

def k0_cond4 (i : grid0.Coords) : BitVec 1 :=
  let arg0 : BitVec 32 := BitVec.ofNat 32 (i 0).val
  let c3_i32 : BitVec 32 := 3#32
  let v9 : BitVec 1 := Scalar.cmpi .eq arg0 c3_i32
  let v10 : BitVec 32 := Scalar.extui v9
  let c0_i32_3 : BitVec 32 := 0#32
  let v11 : BitVec 1 := Scalar.cmpi .ne v10 c0_i32_3
  v11

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 1 := Scalar.cmpi .eq arg0 c0_i32
  let c0_i32_0 : BitVec 32 := 0#32
  let v1 : BitVec 32 := Scalar.select v0 arg1 c0_i32_0
  let c0_i32_1 : BitVec 32 := 0#32
  let c0_i32_2 : BitVec 32 := 0#32
  let c0_i32_3 : BitVec 32 := 0#32
  ![c0_i32_1.toNat, v1.toNat, c0_i32_2.toNat]

def cc0_transform_1 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 1 := Scalar.cmpi .eq arg0 c1_i32
  let c0_i32 : BitVec 32 := 0#32
  let v1 : BitVec 32 := Scalar.select v0 arg1 c0_i32
  let c0_i32_0 : BitVec 32 := 0#32
  let c0_i32_1 : BitVec 32 := 0#32
  let c0_i32_2 : BitVec 32 := 0#32
  ![c0_i32_0.toNat, v1.toNat, c0_i32_1.toNat]

def cc0_transform_2 (i : grid0.Coords) : Fin 3 → Nat :=
  let arg0 : BitVec 32 := BitVec.ofNat 32 (i 0).val
  let arg1 : BitVec 32 := BitVec.ofNat 32 (i 1).val
  let c2_i32 : BitVec 32 := 2#32
  let v0 : BitVec 1 := Scalar.cmpi .eq arg0 c2_i32
  let c0_i32 : BitVec 32 := 0#32
  let v1 : BitVec 32 := Scalar.select v0 arg1 c0_i32
  let c0_i32_0 : BitVec 32 := 0#32
  let c0_i32_1 : BitVec 32 := 0#32
  let c0_i32_2 : BitVec 32 := 0#32
  ![c0_i32_0.toNat, v1.toNat, c0_i32_1.toNat]

def cc0_transform_3 (i : grid0.Coords) : Fin 3 → Nat :=
  let arg0 : BitVec 32 := BitVec.ofNat 32 (i 0).val
  let arg1 : BitVec 32 := BitVec.ofNat 32 (i 1).val
  let c3_i32 : BitVec 32 := 3#32
  let v0 : BitVec 1 := Scalar.cmpi .eq arg0 c3_i32
  let c0_i32 : BitVec 32 := 0#32
  let v1 : BitVec 32 := Scalar.select v0 arg1 c0_i32
  let c0_i32_0 : BitVec 32 := 0#32
  let c0_i32_1 : BitVec 32 := 0#32
  let c0_i32_2 : BitVec 32 := 0#32
  ![c0_i32_0.toNat, v1.toNat, c0_i32_1.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_10 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S8x128x1408 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S8x128x1408 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S8x128x1408 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S8x128x1408 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x128x1408 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x128x1408 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x128x1408 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x128x1408 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x128x1408 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S1x128x1408 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S1x128x1408 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]
-- ==== AdamFfnUpRefIdeal.lean ====
abbrev S8x2048x1408 : Shape := ⟨3, ![8, 2048, 1408]⟩
abbrev S4x2048x1408 : Shape := ⟨3, ![4, 2048, 1408]⟩
abbrev S_ : Shape := ⟨0, ![]⟩
abbrev S2048x1408 : Shape := ⟨2, ![2048, 1408]⟩
abbrev S1x2048x1408 : Shape := ⟨3, ![1, 2048, 1408]⟩

abbrev nBuf : Space → Nat
  | .hbm => 57
  | .vmem => 0
  | .smem => 0
  | _ => 0

abbrev bufTy : (tb : Table) → Fin (tcTables nBuf tb) → BufTy
  | .hbm, ⟨0, _⟩ => ⟨S8x2048x1408, .bf16⟩
  | .hbm, ⟨1, _⟩ => ⟨S8x2048x1408, .bf16⟩
  | .hbm, ⟨2, _⟩ => ⟨S8x2048x1408, .bf16⟩
  | .hbm, ⟨3, _⟩ => ⟨S8x2048x1408, .bf16⟩
  | .hbm, ⟨4, _⟩ => ⟨S4x2048x1408, .f32⟩
  | .hbm, ⟨5, _⟩ => ⟨S4x2048x1408, .f32⟩
  | .hbm, ⟨6, _⟩ => ⟨S4x2048x1408, .f32⟩
  | .hbm, ⟨7, _⟩ => ⟨S8x2048x1408, .f32⟩
  | .hbm, ⟨8, _⟩ => ⟨S_, .f32⟩
  | .hbm, ⟨9, _⟩ => ⟨S2048x1408, .f32⟩
  | .hbm, ⟨10, _⟩ => ⟨S8x2048x1408, .f32⟩
  | .hbm, ⟨11, _⟩ => ⟨S_, .f32⟩
  | .hbm, ⟨12, _⟩ => ⟨S2048x1408, .f32⟩
  | .hbm, ⟨13, _⟩ => ⟨S8x2048x1408, .f32⟩
  | .hbm, ⟨14, _⟩ => ⟨S_, .f32⟩
  | .hbm, ⟨15, _⟩ => ⟨S2048x1408, .f32⟩
  | .hbm, ⟨16, _⟩ => ⟨S8x2048x1408, .f32⟩
  | .hbm, ⟨17, _⟩ => ⟨S_, .f32⟩
  | .hbm, ⟨18, _⟩ => ⟨S2048x1408, .f32⟩
  | .hbm, ⟨19, _⟩ => ⟨S1x2048x1408, .f32⟩
  | .hbm, ⟨20, _⟩ => ⟨S1x2048x1408, .f32⟩
  | .hbm, ⟨21, _⟩ => ⟨S1x2048x1408, .f32⟩
  | .hbm, ⟨22, _⟩ => ⟨S1x2048x1408, .f32⟩
  | .hbm, ⟨23, _⟩ => ⟨S4x2048x1408, .f32⟩
  | .hbm, ⟨24, _⟩ => ⟨S_, .f32⟩
  | .hbm, ⟨25, _⟩ => ⟨S4x2048x1408, .f32⟩
  | .hbm, ⟨26, _⟩ => ⟨S4x2048x1408, .f32⟩
  | .hbm, ⟨27, _⟩ => ⟨S_, .f32⟩
  | .hbm, ⟨28, _⟩ => ⟨S4x2048x1408, .f32⟩
  | .hbm, ⟨29, _⟩ => ⟨S4x2048x1408, .f32⟩
  | .hbm, ⟨30, _⟩ => ⟨S4x2048x1408, .f32⟩
  | .hbm, ⟨31, _⟩ => ⟨S_, .f32⟩
  | .hbm, ⟨32, _⟩ => ⟨S4x2048x1408, .f32⟩
  | .hbm, ⟨33, _⟩ => ⟨S4x2048x1408, .f32⟩
  | .hbm, ⟨34, _⟩ => ⟨S4x2048x1408, .f32⟩
  | .hbm, ⟨35, _⟩ => ⟨S_, .f32⟩
  | .hbm, ⟨36, _⟩ => ⟨S4x2048x1408, .f32⟩
  | .hbm, ⟨37, _⟩ => ⟨S4x2048x1408, .f32⟩
  | .hbm, ⟨38, _⟩ => ⟨S4x2048x1408, .f32⟩
  | .hbm, ⟨39, _⟩ => ⟨S_, .f32⟩
  | .hbm, ⟨40, _⟩ => ⟨S4x2048x1408, .f32⟩
  | .hbm, ⟨41, _⟩ => ⟨S4x2048x1408, .f32⟩
  | .hbm, ⟨42, _⟩ => ⟨S_, .f32⟩
  | .hbm, ⟨43, _⟩ => ⟨S4x2048x1408, .f32⟩
  | .hbm, ⟨44, _⟩ => ⟨S4x2048x1408, .f32⟩
  | .hbm, ⟨45, _⟩ => ⟨S4x2048x1408, .f32⟩
  | .hbm, ⟨46, _⟩ => ⟨S_, .f32⟩
  | .hbm, ⟨47, _⟩ => ⟨S4x2048x1408, .f32⟩
  | .hbm, ⟨48, _⟩ => ⟨S4x2048x1408, .f32⟩
  | .hbm, ⟨49, _⟩ => ⟨S4x2048x1408, .f32⟩
  | .hbm, ⟨50, _⟩ => ⟨S_, .f32⟩
  | .hbm, ⟨51, _⟩ => ⟨S4x2048x1408, .f32⟩
  | .hbm, ⟨52, _⟩ => ⟨S4x2048x1408, .f32⟩
  | .hbm, ⟨53, _⟩ => ⟨S4x2048x1408, .f32⟩
  | .hbm, ⟨54, _⟩ => ⟨S_, .f32⟩
  | .hbm, ⟨55, _⟩ => ⟨S4x2048x1408, .f32⟩
  | .hbm, ⟨56, _⟩ => ⟨S4x2048x1408, .f32⟩
  | _, _ => ⟨S8x2048x1408, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_cst : Ref sig .tc := ⟨.hbm, 8, rfl⟩
abbrev main_v1 : Ref sig .tc := ⟨.hbm, 9, rfl⟩
abbrev main_v2 : Ref sig .tc := ⟨.hbm, 10, rfl⟩
abbrev main_cst_0 : Ref sig .tc := ⟨.hbm, 11, rfl⟩
abbrev main_v3 : Ref sig .tc := ⟨.hbm, 12, rfl⟩
abbrev main_v4 : Ref sig .tc := ⟨.hbm, 13, rfl⟩
abbrev main_cst_1 : Ref sig .tc := ⟨.hbm, 14, rfl⟩
abbrev main_v5 : Ref sig .tc := ⟨.hbm, 15, rfl⟩
abbrev main_v6 : Ref sig .tc := ⟨.hbm, 16, rfl⟩
abbrev main_cst_2 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_cst_3 : Ref sig .tc := ⟨.hbm, 24, rfl⟩
abbrev main_v13 : Ref sig .tc := ⟨.hbm, 25, rfl⟩
abbrev main_v14 : Ref sig .tc := ⟨.hbm, 26, rfl⟩
abbrev main_cst_4 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_cst_5 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_cst_6 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_cst_7 : Ref sig .tc := ⟨.hbm, 39, rfl⟩
abbrev main_v24 : Ref sig .tc := ⟨.hbm, 40, rfl⟩
abbrev main_v25 : Ref sig .tc := ⟨.hbm, 41, rfl⟩
abbrev main_cst_8 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_cst_9 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_cst_10 : Ref sig .tc := ⟨.hbm, 50, rfl⟩
abbrev main_v32 : Ref sig .tc := ⟨.hbm, 51, rfl⟩
abbrev main_v33 : Ref sig .tc := ⟨.hbm, 52, rfl⟩
abbrev main_v34 : Ref sig .tc := ⟨.hbm, 53, rfl⟩
abbrev main_cst_11 : Ref sig .tc := ⟨.hbm, 54, rfl⟩
abbrev main_v35 : Ref sig .tc := ⟨.hbm, 55, rfl⟩
abbrev main_v36 : Ref sig .tc := ⟨.hbm, 56, rfl⟩

abbrev nD : Nat := 1
abbrev τ : Topo := Topo.v7x

variable {F : FTy → Type} [FloatOps F]
-- ==== AdamFfnDown.lean ====
abbrev S8x704x2048 : Shape := ⟨3, ![8, 704, 2048]⟩
abbrev S4x704x2048 : Shape := ⟨3, ![4, 704, 2048]⟩
abbrev S8x88x2048 : Shape := ⟨3, ![8, 88, 2048]⟩
abbrev S1x88x2048 : Shape := ⟨3, ![1, 88, 2048]⟩
abbrev S88x2048 : Shape := ⟨2, ![88, 2048]⟩

abbrev nBuf : Space → Nat
  | .hbm => 11
  | .vmem => 22
  | .smem => 0
  | _ => 0

abbrev bufTy : (tb : Table) → Fin (tcTables nBuf tb) → BufTy
  | .hbm, ⟨0, _⟩ => ⟨S8x704x2048, .bf16⟩
  | .hbm, ⟨1, _⟩ => ⟨S8x704x2048, .bf16⟩
  | .hbm, ⟨2, _⟩ => ⟨S8x704x2048, .bf16⟩
  | .hbm, ⟨3, _⟩ => ⟨S8x704x2048, .bf16⟩
  | .hbm, ⟨4, _⟩ => ⟨S4x704x2048, .f32⟩
  | .hbm, ⟨5, _⟩ => ⟨S4x704x2048, .f32⟩
  | .hbm, ⟨6, _⟩ => ⟨S4x704x2048, .f32⟩
  | .hbm, ⟨7, _⟩ => ⟨S4x704x2048, .f32⟩
  | .hbm, ⟨8, _⟩ => ⟨S4x704x2048, .f32⟩
  | .hbm, ⟨9, _⟩ => ⟨S4x704x2048, .f32⟩
  | .hbm, ⟨10, _⟩ => ⟨S4x704x2048, .f32⟩
  | .local _ .vmem, ⟨0, _⟩ => ⟨S8x88x2048, .bf16⟩
  | .local _ .vmem, ⟨1, _⟩ => ⟨S8x88x2048, .bf16⟩
  | .local _ .vmem, ⟨2, _⟩ => ⟨S8x88x2048, .bf16⟩
  | .local _ .vmem, ⟨3, _⟩ => ⟨S8x88x2048, .bf16⟩
  | .local _ .vmem, ⟨4, _⟩ => ⟨S8x88x2048, .bf16⟩
  | .local _ .vmem, ⟨5, _⟩ => ⟨S8x88x2048, .bf16⟩
  | .local _ .vmem, ⟨6, _⟩ => ⟨S8x88x2048, .bf16⟩
  | .local _ .vmem, ⟨7, _⟩ => ⟨S8x88x2048, .bf16⟩
  | .local _ .vmem, ⟨8, _⟩ => ⟨S1x88x2048, .f32⟩
  | .local _ .vmem, ⟨9, _⟩ => ⟨S1x88x2048, .f32⟩
  | .local _ .vmem, ⟨10, _⟩ => ⟨S1x88x2048, .f32⟩
  | .local _ .vmem, ⟨11, _⟩ => ⟨S1x88x2048, .f32⟩
  | .local _ .vmem, ⟨12, _⟩ => ⟨S1x88x2048, .f32⟩
  | .local _ .vmem, ⟨13, _⟩ => ⟨S1x88x2048, .f32⟩
  | .local _ .vmem, ⟨14, _⟩ => ⟨S1x88x2048, .f32⟩
  | .local _ .vmem, ⟨15, _⟩ => ⟨S1x88x2048, .f32⟩
  | .local _ .vmem, ⟨16, _⟩ => ⟨S1x88x2048, .f32⟩
  | .local _ .vmem, ⟨17, _⟩ => ⟨S1x88x2048, .f32⟩
  | .local _ .vmem, ⟨18, _⟩ => ⟨S1x88x2048, .f32⟩
  | .local _ .vmem, ⟨19, _⟩ => ⟨S1x88x2048, .f32⟩
  | .local _ .vmem, ⟨20, _⟩ => ⟨S1x88x2048, .f32⟩
  | .local _ .vmem, ⟨21, _⟩ => ⟨S1x88x2048, .f32⟩
  | _, _ => ⟨S8x704x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0_0 : Ref sig .tc := ⟨.hbm, 7, rfl⟩
abbrev main_v0_1 : Ref sig .tc := ⟨.hbm, 8, rfl⟩
abbrev main_v0_2 : Ref sig .tc := ⟨.hbm, 9, rfl⟩
abbrev main_v0_3 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21

abbrev nD : Nat := 1
abbrev τ : Topo := Topo.v7x

variable {F : FTy → Type} [FloatOps F]

abbrev grid0 : Pipeline.Grid := ⟨2, ![4, 8], ![false, false]⟩

def k0_cond1 (i : grid0.Coords) : BitVec 1 :=
  let arg0 : BitVec 32 := BitVec.ofNat 32 (i 0).val
  let c0_i32 : BitVec 32 := 0#32
  let v0 : BitVec 1 := Scalar.cmpi .eq arg0 c0_i32
  let v1 : BitVec 32 := Scalar.extui v0
  let c0_i32_0 : BitVec 32 := 0#32
  let v2 : BitVec 1 := Scalar.cmpi .ne v1 c0_i32_0
  v2

def k0_cond2 (i : grid0.Coords) : BitVec 1 :=
  let arg0 : BitVec 32 := BitVec.ofNat 32 (i 0).val
  let c1_i32 : BitVec 32 := 1#32
  let v3 : BitVec 1 := Scalar.cmpi .eq arg0 c1_i32
  let v4 : BitVec 32 := Scalar.extui v3
  let c0_i32_1 : BitVec 32 := 0#32
  let v5 : BitVec 1 := Scalar.cmpi .ne v4 c0_i32_1
  v5

def k0_cond3 (i : grid0.Coords) : BitVec 1 :=
  let arg0 : BitVec 32 := BitVec.ofNat 32 (i 0).val
  let c2_i32 : BitVec 32 := 2#32
  let v6 : BitVec 1 := Scalar.cmpi .eq arg0 c2_i32
  let v7 : BitVec 32 := Scalar.extui v6
  let c0_i32_2 : BitVec 32 := 0#32
  let v8 : BitVec 1 := Scalar.cmpi .ne v7 c0_i32_2
  v8

def k0_cond4 (i : grid0.Coords) : BitVec 1 :=
  let arg0 : BitVec 32 := BitVec.ofNat 32 (i 0).val
  let c3_i32 : BitVec 32 := 3#32
  let v9 : BitVec 1 := Scalar.cmpi .eq arg0 c3_i32
  let v10 : BitVec 32 := Scalar.extui v9
  let c0_i32_3 : BitVec 32 := 0#32
  let v11 : BitVec 1 := Scalar.cmpi .ne v10 c0_i32_3
  v11

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 1 := Scalar.cmpi .eq arg0 c0_i32
  let c0_i32_0 : BitVec 32 := 0#32
  let v1 : BitVec 32 := Scalar.select v0 arg1 c0_i32_0
  let c0_i32_1 : BitVec 32 := 0#32
  let c0_i32_2 : BitVec 32 := 0#32
  let c0_i32_3 : BitVec 32 := 0#32
  ![c0_i32_1.toNat, v1.toNat, c0_i32_2.toNat]

def cc0_transform_1 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 1 := Scalar.cmpi .eq arg0 c1_i32
  let c0_i32 : BitVec 32 := 0#32
  let v1 : BitVec 32 := Scalar.select v0 arg1 c0_i32
  let c0_i32_0 : BitVec 32 := 0#32
  let c0_i32_1 : BitVec 32 := 0#32
  let c0_i32_2 : BitVec 32 := 0#32
  ![c0_i32_0.toNat, v1.toNat, c0_i32_1.toNat]

def cc0_transform_2 (i : grid0.Coords) : Fin 3 → Nat :=
  let arg0 : BitVec 32 := BitVec.ofNat 32 (i 0).val
  let arg1 : BitVec 32 := BitVec.ofNat 32 (i 1).val
  let c2_i32 : BitVec 32 := 2#32
  let v0 : BitVec 1 := Scalar.cmpi .eq arg0 c2_i32
  let c0_i32 : BitVec 32 := 0#32
  let v1 : BitVec 32 := Scalar.select v0 arg1 c0_i32
  let c0_i32_0 : BitVec 32 := 0#32
  let c0_i32_1 : BitVec 32 := 0#32
  let c0_i32_2 : BitVec 32 := 0#32
  ![c0_i32_0.toNat, v1.toNat, c0_i32_1.toNat]

def cc0_transform_3 (i : grid0.Coords) : Fin 3 → Nat :=
  let arg0 : BitVec 32 := BitVec.ofNat 32 (i 0).val
  let arg1 : BitVec 32 := BitVec.ofNat 32 (i 1).val
  let c3_i32 : BitVec 32 := 3#32
  let v0 : BitVec 1 := Scalar.cmpi .eq arg0 c3_i32
  let c0_i32 : BitVec 32 := 0#32
  let v1 : BitVec 32 := Scalar.select v0 arg1 c0_i32
  let c0_i32_0 : BitVec 32 := 0#32
  let c0_i32_1 : BitVec 32 := 0#32
  let c0_i32_2 : BitVec 32 := 0#32
  ![c0_i32_0.toNat, v1.toNat, c0_i32_1.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_10 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S8x88x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S8x88x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S8x88x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S8x88x2048 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x88x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x88x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x88x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x88x2048 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x88x2048 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S1x88x2048 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S1x88x2048 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]
-- ==== AdamFfnDownRefIdeal.lean ====
abbrev S8x704x2048 : Shape := ⟨3, ![8, 704, 2048]⟩
abbrev S4x704x2048 : Shape := ⟨3, ![4, 704, 2048]⟩
abbrev S_ : Shape := ⟨0, ![]⟩
abbrev S704x2048 : Shape := ⟨2, ![704, 2048]⟩
abbrev S1x704x2048 : Shape := ⟨3, ![1, 704, 2048]⟩

abbrev nBuf : Space → Nat
  | .hbm => 57
  | .vmem => 0
  | .smem => 0
  | _ => 0

abbrev bufTy : (tb : Table) → Fin (tcTables nBuf tb) → BufTy
  | .hbm, ⟨0, _⟩ => ⟨S8x704x2048, .bf16⟩
  | .hbm, ⟨1, _⟩ => ⟨S8x704x2048, .bf16⟩
  | .hbm, ⟨2, _⟩ => ⟨S8x704x2048, .bf16⟩
  | .hbm, ⟨3, _⟩ => ⟨S8x704x2048, .bf16⟩
  | .hbm, ⟨4, _⟩ => ⟨S4x704x2048, .f32⟩
  | .hbm, ⟨5, _⟩ => ⟨S4x704x2048, .f32⟩
  | .hbm, ⟨6, _⟩ => ⟨S4x704x2048, .f32⟩
  | .hbm, ⟨7, _⟩ => ⟨S8x704x2048, .f32⟩
  | .hbm, ⟨8, _⟩ => ⟨S_, .f32⟩
  | .hbm, ⟨9, _⟩ => ⟨S704x2048, .f32⟩
  | .hbm, ⟨10, _⟩ => ⟨S8x704x2048, .f32⟩
  | .hbm, ⟨11, _⟩ => ⟨S_, .f32⟩
  | .hbm, ⟨12, _⟩ => ⟨S704x2048, .f32⟩
  | .hbm, ⟨13, _⟩ => ⟨S8x704x2048, .f32⟩
  | .hbm, ⟨14, _⟩ => ⟨S_, .f32⟩
  | .hbm, ⟨15, _⟩ => ⟨S704x2048, .f32⟩
  | .hbm, ⟨16, _⟩ => ⟨S8x704x2048, .f32⟩
  | .hbm, ⟨17, _⟩ => ⟨S_, .f32⟩
  | .hbm, ⟨18, _⟩ => ⟨S704x2048, .f32⟩
  | .hbm, ⟨19, _⟩ => ⟨S1x704x2048, .f32⟩
  | .hbm, ⟨20, _⟩ => ⟨S1x704x2048, .f32⟩
  | .hbm, ⟨21, _⟩ => ⟨S1x704x2048, .f32⟩
  | .hbm, ⟨22, _⟩ => ⟨S1x704x2048, .f32⟩
  | .hbm, ⟨23, _⟩ => ⟨S4x704x2048, .f32⟩
  | .hbm, ⟨24, _⟩ => ⟨S_, .f32⟩
  | .hbm, ⟨25, _⟩ => ⟨S4x704x2048, .f32⟩
  | .hbm, ⟨26, _⟩ => ⟨S4x704x2048, .f32⟩
  | .hbm, ⟨27, _⟩ => ⟨S_, .f32⟩
  | .hbm, ⟨28, _⟩ => ⟨S4x704x2048, .f32⟩
  | .hbm, ⟨29, _⟩ => ⟨S4x704x2048, .f32⟩
  | .hbm, ⟨30, _⟩ => ⟨S4x704x2048, .f32⟩
  | .hbm, ⟨31, _⟩ => ⟨S_, .f32⟩
  | .hbm, ⟨32, _⟩ => ⟨S4x704x2048, .f32⟩
  | .hbm, ⟨33, _⟩ => ⟨S4x704x2048, .f32⟩
  | .hbm, ⟨34, _⟩ => ⟨S4x704x2048, .f32⟩
  | .hbm, ⟨35, _⟩ => ⟨S_, .f32⟩
  | .hbm, ⟨36, _⟩ => ⟨S4x704x2048, .f32⟩
  | .hbm, ⟨37, _⟩ => ⟨S4x704x2048, .f32⟩
  | .hbm, ⟨38, _⟩ => ⟨S4x704x2048, .f32⟩
  | .hbm, ⟨39, _⟩ => ⟨S_, .f32⟩
  | .hbm, ⟨40, _⟩ => ⟨S4x704x2048, .f32⟩
  | .hbm, ⟨41, _⟩ => ⟨S4x704x2048, .f32⟩
  | .hbm, ⟨42, _⟩ => ⟨S_, .f32⟩
  | .hbm, ⟨43, _⟩ => ⟨S4x704x2048, .f32⟩
  | .hbm, ⟨44, _⟩ => ⟨S4x704x2048, .f32⟩
  | .hbm, ⟨45, _⟩ => ⟨S4x704x2048, .f32⟩
  | .hbm, ⟨46, _⟩ => ⟨S_, .f32⟩
  | .hbm, ⟨47, _⟩ => ⟨S4x704x2048, .f32⟩
  | .hbm, ⟨48, _⟩ => ⟨S4x704x2048, .f32⟩
  | .hbm, ⟨49, _⟩ => ⟨S4x704x2048, .f32⟩
  | .hbm, ⟨50, _⟩ => ⟨S_, .f32⟩
  | .hbm, ⟨51, _⟩ => ⟨S4x704x2048, .f32⟩
  | .hbm, ⟨52, _⟩ => ⟨S4x704x2048, .f32⟩
  | .hbm, ⟨53, _⟩ => ⟨S4x704x2048, .f32⟩
  | .hbm, ⟨54, _⟩ => ⟨S_, .f32⟩
  | .hbm, ⟨55, _⟩ => ⟨S4x704x2048, .f32⟩
  | .hbm, ⟨56, _⟩ => ⟨S4x704x2048, .f32⟩
  | _, _ => ⟨S8x704x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_cst : Ref sig .tc := ⟨.hbm, 8, rfl⟩
abbrev main_v1 : Ref sig .tc := ⟨.hbm, 9, rfl⟩
abbrev main_v2 : Ref sig .tc := ⟨.hbm, 10, rfl⟩
abbrev main_cst_0 : Ref sig .tc := ⟨.hbm, 11, rfl⟩
abbrev main_v3 : Ref sig .tc := ⟨.hbm, 12, rfl⟩
abbrev main_v4 : Ref sig .tc := ⟨.hbm, 13, rfl⟩
abbrev main_cst_1 : Ref sig .tc := ⟨.hbm, 14, rfl⟩
abbrev main_v5 : Ref sig .tc := ⟨.hbm, 15, rfl⟩
abbrev main_v6 : Ref sig .tc := ⟨.hbm, 16, rfl⟩
abbrev main_cst_2 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_cst_3 : Ref sig .tc := ⟨.hbm, 24, rfl⟩
abbrev main_v13 : Ref sig .tc := ⟨.hbm, 25, rfl⟩
abbrev main_v14 : Ref sig .tc := ⟨.hbm, 26, rfl⟩
abbrev main_cst_4 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_cst_5 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_cst_6 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_cst_7 : Ref sig .tc := ⟨.hbm, 39, rfl⟩
abbrev main_v24 : Ref sig .tc := ⟨.hbm, 40, rfl⟩
abbrev main_v25 : Ref sig .tc := ⟨.hbm, 41, rfl⟩
abbrev main_cst_8 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_cst_9 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_cst_10 : Ref sig .tc := ⟨.hbm, 50, rfl⟩
abbrev main_v32 : Ref sig .tc := ⟨.hbm, 51, rfl⟩
abbrev main_v33 : Ref sig .tc := ⟨.hbm, 52, rfl⟩
abbrev main_v34 : Ref sig .tc := ⟨.hbm, 53, rfl⟩
abbrev main_cst_11 : Ref sig .tc := ⟨.hbm, 54, rfl⟩
abbrev main_v35 : Ref sig .tc := ⟨.hbm, 55, rfl⟩
abbrev main_v36 : Ref sig .tc := ⟨.hbm, 56, rfl⟩

abbrev nD : Nat := 1
abbrev τ : Topo := Topo.v7x

variable {F : FTy → Type} [FloatOps F]
-- ==== SumSmall.lean ====
abbrev S8x3288x128 : Shape := ⟨3, ![8, 3288, 128]⟩
abbrev S3288x128 : Shape := ⟨2, ![3288, 128]⟩
abbrev S1x3288x128 : Shape := ⟨3, ![1, 3288, 128]⟩

abbrev nBuf : Space → Nat
  | .hbm => 2
  | .vmem => 2
  | .smem => 0
  | _ => 0

abbrev bufTy : (tb : Table) → Fin (tcTables nBuf tb) → BufTy
  | .hbm, ⟨0, _⟩ => ⟨S8x3288x128, .f32⟩
  | .hbm, ⟨1, _⟩ => ⟨S3288x128, .f32⟩
  | .local _ .vmem, ⟨0, _⟩ => ⟨S8x3288x128, .f32⟩
  | .local _ .vmem, ⟨1, _⟩ => ⟨S3288x128, .f32⟩
  | _, _ => ⟨S8x3288x128, .f32⟩

abbrev bufScoped : (cs : CoreSpace) → Fin (nBuf (.core cs)) → Bool
  | .vmem, ⟨0, _⟩ => true
  | .vmem, ⟨1, _⟩ => true
  | _, _ => false

abbrev semScoped : Fin 0 → Bool
  | ⟨_, h⟩ => absurd h (Nat.not_lt_zero _)

abbrev dmaSemScoped : Fin 2 → Bool
  | ⟨0, _⟩ => true
  | ⟨1, _⟩ => true
  | _ => false

abbrev sig : RefSig :=
  ofTc nBuf bufTy 0 2 bufScoped semScoped dmaSemScoped tileCredit tileCredit_eq_zero tileCredit_pos

abbrev main_arg0 : Ref sig .tc := ⟨.hbm, 0, rfl⟩
abbrev main_v0 : Ref sig .tc := ⟨.hbm, 1, rfl⟩
abbrev cc0_stg0_0 : Ref sig .tc := ⟨.vmem, 0, rfl⟩
abbrev cc0_stg1_0 : Ref sig .tc := ⟨.vmem, 1, rfl⟩
abbrev cc0_sem0_0 : DmaSem sig := 0
abbrev cc0_sem1_0 : DmaSem sig := 1

abbrev nD : Nat := 1
abbrev τ : Topo := Topo.v7x

variable {F : FTy → Type} [FloatOps F]

abbrev grid0 : Pipeline.Grid := ⟨1, ![1], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .vmem S8x3288x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S3288x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]
-- ==== SumSmallRefIdeal.lean ====
abbrev S8x3288x128 : Shape := ⟨3, ![8, 3288, 128]⟩
abbrev S_ : Shape := ⟨0, ![]⟩
abbrev S3288x128 : Shape := ⟨2, ![3288, 128]⟩

abbrev nBuf : Space → Nat
  | .hbm => 3
  | .vmem => 0
  | .smem => 0
  | _ => 0

abbrev bufTy : (tb : Table) → Fin (tcTables nBuf tb) → BufTy
  | .hbm, ⟨0, _⟩ => ⟨S8x3288x128, .f32⟩
  | .hbm, ⟨1, _⟩ => ⟨S_, .f32⟩
  | .hbm, ⟨2, _⟩ => ⟨S3288x128, .f32⟩
  | _, _ => ⟨S8x3288x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_cst : Ref sig .tc := ⟨.hbm, 1, rfl⟩
abbrev main_v0 : Ref sig .tc := ⟨.hbm, 2, rfl⟩

abbrev nD : Nat := 1
abbrev τ : Topo := Topo.v7x

variable {F : FTy → Type} [FloatOps F]
-- ==== AdamSmall.lean ====
abbrev S1016x128 : Shape := ⟨2, ![1016, 128]⟩

abbrev nBuf : Space → Nat
  | .hbm => 7
  | .vmem => 7
  | .smem => 0
  | _ => 0

abbrev bufTy : (tb : Table) → Fin (tcTables nBuf tb) → BufTy
  | .hbm, ⟨0, _⟩ => ⟨S1016x128, .f32⟩
  | .hbm, ⟨1, _⟩ => ⟨S1016x128, .f32⟩
  | .hbm, ⟨2, _⟩ => ⟨S1016x128, .f32⟩
  | .hbm, ⟨3, _⟩ => ⟨S1016x128, .f32⟩
  | .hbm, ⟨4, _⟩ => ⟨S1016x128, .f32⟩
  | .hbm, ⟨5, _⟩ => ⟨S1016x128, .f32⟩
  | .hbm, ⟨6, _⟩ => ⟨S1016x128, .f32⟩
  | .local _ .vmem, ⟨0, _⟩ => ⟨S1016x128, .f32⟩
  | .local _ .vmem, ⟨1, _⟩ => ⟨S1016x128, .f32⟩
  | .local _ .vmem, ⟨2, _⟩ => ⟨S1016x128, .f32⟩
  | .local _ .vmem, ⟨3, _⟩ => ⟨S1016x128, .f32⟩
  | .local _ .vmem, ⟨4, _⟩ => ⟨S1016x128, .f32⟩
  | .local _ .vmem, ⟨5, _⟩ => ⟨S1016x128, .f32⟩
  | .local _ .vmem, ⟨6, _⟩ => ⟨S1016x128, .f32⟩
  | _, _ => ⟨S1016x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .vmem S1016x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S1016x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1016x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1016x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1016x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1016x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1016x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]
-- ==== AdamSmallRefIdeal.lean ====
abbrev S1016x128 : Shape := ⟨2, ![1016, 128]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S1016x128, .f32⟩
  | .hbm, ⟨1, _⟩ => ⟨S1016x128, .f32⟩
  | .hbm, ⟨2, _⟩ => ⟨S1016x128, .f32⟩
  | .hbm, ⟨3, _⟩ => ⟨S1016x128, .f32⟩
  | .hbm, ⟨4, _⟩ => ⟨S_, .f32⟩
  | .hbm, ⟨5, _⟩ => ⟨S1016x128, .f32⟩
  | .hbm, ⟨6, _⟩ => ⟨S1016x128, .f32⟩
  | .hbm, ⟨7, _⟩ => ⟨S_, .f32⟩
  | .hbm, ⟨8, _⟩ => ⟨S1016x128, .f32⟩
  | .hbm, ⟨9, _⟩ => ⟨S1016x128, .f32⟩
  | .hbm, ⟨10, _⟩ => ⟨S1016x128, .f32⟩
  | .hbm, ⟨11, _⟩ => ⟨S_, .f32⟩
  | .hbm, ⟨12, _⟩ => ⟨S1016x128, .f32⟩
  | .hbm, ⟨13, _⟩ => ⟨S1016x128, .f32⟩
  | .hbm, ⟨14, _⟩ => ⟨S1016x128, .f32⟩
  | .hbm, ⟨15, _⟩ => ⟨S_, .f32⟩
  | .hbm, ⟨16, _⟩ => ⟨S1016x128, .f32⟩
  | .hbm, ⟨17, _⟩ => ⟨S1016x128, .f32⟩
  | .hbm, ⟨18, _⟩ => ⟨S1016x128, .f32⟩
  | .hbm, ⟨19, _⟩ => ⟨S_, .f32⟩
  | .hbm, ⟨20, _⟩ => ⟨S1016x128, .f32⟩
  | .hbm, ⟨21, _⟩ => ⟨S1016x128, .f32⟩
  | .hbm, ⟨22, _⟩ => ⟨S_, .f32⟩
  | .hbm, ⟨23, _⟩ => ⟨S1016x128, .f32⟩
  | .hbm, ⟨24, _⟩ => ⟨S1016x128, .f32⟩
  | .hbm, ⟨25, _⟩ => ⟨S1016x128, .f32⟩
  | .hbm, ⟨26, _⟩ => ⟨S_, .f32⟩
  | .hbm, ⟨27, _⟩ => ⟨S1016x128, .f32⟩
  | .hbm, ⟨28, _⟩ => ⟨S1016x128, .f32⟩
  | .hbm, ⟨29, _⟩ => ⟨S1016x128, .f32⟩
  | .hbm, ⟨30, _⟩ => ⟨S_, .f32⟩
  | .hbm, ⟨31, _⟩ => ⟨S1016x128, .f32⟩
  | .hbm, ⟨32, _⟩ => ⟨S1016x128, .f32⟩
  | .hbm, ⟨33, _⟩ => ⟨S1016x128, .f32⟩
  | .hbm, ⟨34, _⟩ => ⟨S_, .f32⟩
  | .hbm, ⟨35, _⟩ => ⟨S1016x128, .f32⟩
  | .hbm, ⟨36, _⟩ => ⟨S1016x128, .f32⟩
  | _, _ => ⟨S1016x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== FinalLoss.lean ====
abbrev S4096x2048 : Shape := ⟨2, ![4096, 2048]⟩
abbrev S1x2048 : Shape := ⟨2, ![1, 2048]⟩
abbrev S1x128 : Shape := ⟨2, ![1, 128]⟩
abbrev S256x2048 : Shape := ⟨2, ![256, 2048]⟩
abbrev S256 : Shape := ⟨1, ![256]⟩
abbrev S256x1 : Shape := ⟨2, ![256, 1]⟩
abbrev S2048 : Shape := ⟨1, ![2048]⟩
abbrev S1 : Shape := ⟨1, ![1]⟩
abbrev S1x1 : Shape := ⟨2, ![1, 1]⟩

abbrev nBuf : Space → Nat
  | .hbm => 7
  | .vmem => 11
  | .smem => 0
  | _ => 0

abbrev bufTy : (tb : Table) → Fin (tcTables nBuf tb) → BufTy
  | .hbm, ⟨0, _⟩ => ⟨S4096x2048, .f32⟩
  | .hbm, ⟨1, _⟩ => ⟨S1x2048, .f32⟩
  | .hbm, ⟨2, _⟩ => ⟨S4096x2048, .f32⟩
  | .hbm, ⟨3, _⟩ => ⟨S4096x2048, .f32⟩
  | .hbm, ⟨4, _⟩ => ⟨S4096x2048, .bf16⟩
  | .hbm, ⟨5, _⟩ => ⟨S1x2048, .f32⟩
  | .hbm, ⟨6, _⟩ => ⟨S1x128, .f32⟩
  | .local _ .vmem, ⟨0, _⟩ => ⟨S256x2048, .f32⟩
  | .local _ .vmem, ⟨1, _⟩ => ⟨S256x2048, .f32⟩
  | .local _ .vmem, ⟨2, _⟩ => ⟨S1x2048, .f32⟩
  | .local _ .vmem, ⟨3, _⟩ => ⟨S256x2048, .f32⟩
  | .local _ .vmem, ⟨4, _⟩ => ⟨S256x2048, .f32⟩
  | .local _ .vmem, ⟨5, _⟩ => ⟨S256x2048, .f32⟩
  | .local _ .vmem, ⟨6, _⟩ => ⟨S256x2048, .f32⟩
  | .local _ .vmem, ⟨7, _⟩ => ⟨S256x2048, .bf16⟩
  | .local _ .vmem, ⟨8, _⟩ => ⟨S256x2048, .bf16⟩
  | .local _ .vmem, ⟨9, _⟩ => ⟨S1x2048, .f32⟩
  | .local _ .vmem, ⟨10, _⟩ => ⟨S1x128, .f32⟩
  | _, _ => ⟨S4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev main_v0_2 : Ref sig .tc := ⟨.hbm, 5, rfl⟩
abbrev main_v0_3 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg6_0 : Ref sig .tc := ⟨.vmem, 10, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem6_0 : DmaSem sig := 10

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S256x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x2048 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1x2048 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]
-- ==== FinalLossRefIdeal.lean ====
abbrev S4096x2048 : Shape := ⟨2, ![4096, 2048]⟩
abbrev S1x2048 : Shape := ⟨2, ![1, 2048]⟩
abbrev S_ : Shape := ⟨0, ![]⟩
abbrev S4096 : Shape := ⟨1, ![4096]⟩
abbrev S4096x1 : Shape := ⟨2, ![4096, 1]⟩
abbrev S1x128 : Shape := ⟨2, ![1, 128]⟩

abbrev nBuf : Space → Nat
  | .hbm => 30
  | .vmem => 0
  | .smem => 0
  | _ => 0

abbrev bufTy : (tb : Table) → Fin (tcTables nBuf tb) → BufTy
  | .hbm, ⟨0, _⟩ => ⟨S4096x2048, .f32⟩
  | .hbm, ⟨1, _⟩ => ⟨S1x2048, .f32⟩
  | .hbm, ⟨2, _⟩ => ⟨S4096x2048, .f32⟩
  | .hbm, ⟨3, _⟩ => ⟨S4096x2048, .f32⟩
  | .hbm, ⟨4, _⟩ => ⟨S_, .f32⟩
  | .hbm, ⟨5, _⟩ => ⟨S4096, .f32⟩
  | .hbm, ⟨6, _⟩ => ⟨S4096x1, .f32⟩
  | .hbm, ⟨7, _⟩ => ⟨S_, .f32⟩
  | .hbm, ⟨8, _⟩ => ⟨S4096x1, .f32⟩
  | .hbm, ⟨9, _⟩ => ⟨S4096x1, .f32⟩
  | .hbm, ⟨10, _⟩ => ⟨S_, .f32⟩
  | .hbm, ⟨11, _⟩ => ⟨S4096x1, .f32⟩
  | .hbm, ⟨12, _⟩ => ⟨S4096x1, .f32⟩
  | .hbm, ⟨13, _⟩ => ⟨S4096x1, .f32⟩
  | .hbm, ⟨14, _⟩ => ⟨S4096x2048, .f32⟩
  | .hbm, ⟨15, _⟩ => ⟨S4096x2048, .f32⟩
  | .hbm, ⟨16, _⟩ => ⟨S4096x2048, .f32⟩
  | .hbm, ⟨17, _⟩ => ⟨S4096x2048, .f32⟩
  | .hbm, ⟨18, _⟩ => ⟨S4096x2048, .f32⟩
  | .hbm, ⟨19, _⟩ => ⟨S4096x2048, .f32⟩
  | .hbm, ⟨20, _⟩ => ⟨S_, .f32⟩
  | .hbm, ⟨21, _⟩ => ⟨S4096, .f32⟩
  | .hbm, ⟨22, _⟩ => ⟨S_, .f32⟩
  | .hbm, ⟨23, _⟩ => ⟨S4096, .f32⟩
  | .hbm, ⟨24, _⟩ => ⟨S4096, .f32⟩
  | .hbm, ⟨25, _⟩ => ⟨S_, .f32⟩
  | .hbm, ⟨26, _⟩ => ⟨S_, .f32⟩
  | .hbm, ⟨27, _⟩ => ⟨S_, .f32⟩
  | .hbm, ⟨28, _⟩ => ⟨S_, .f32⟩
  | .hbm, ⟨29, _⟩ => ⟨S1x128, .f32⟩
  | _, _ => ⟨S4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_cst_2 : Ref sig .tc := ⟨.hbm, 20, rfl⟩
abbrev main_v14 : Ref sig .tc := ⟨.hbm, 21, rfl⟩
abbrev main_cst_3 : Ref sig .tc := ⟨.hbm, 22, rfl⟩
abbrev main_v15 : Ref sig .tc := ⟨.hbm, 23, rfl⟩
abbrev main_v16 : Ref sig .tc := ⟨.hbm, 24, rfl⟩
abbrev main_cst_4 : Ref sig .tc := ⟨.hbm, 25, rfl⟩
abbrev main_v17 : Ref sig .tc := ⟨.hbm, 26, rfl⟩
abbrev main_cst_5 : Ref sig .tc := ⟨.hbm, 27, rfl⟩
abbrev main_v18 : Ref sig .tc := ⟨.hbm, 28, rfl⟩
abbrev main_v19 : Ref sig .tc := ⟨.hbm, 29, rfl⟩

abbrev nD : Nat := 1
abbrev τ : Topo := Topo.v7x

variable {F : FTy → Type} [FloatOps F]
-- ==== RmsBwd.lean ====
abbrev S4096x2048 : Shape := ⟨2, ![4096, 2048]⟩
abbrev S1x2048 : Shape := ⟨2, ![1, 2048]⟩
abbrev S256x2048 : Shape := ⟨2, ![256, 2048]⟩
abbrev S256 : Shape := ⟨1, ![256]⟩
abbrev S256x1 : Shape := ⟨2, ![256, 1]⟩
abbrev S2048 : Shape := ⟨1, ![2048]⟩

abbrev nBuf : Space → Nat
  | .hbm => 8
  | .vmem => 13
  | .smem => 0
  | _ => 0

abbrev bufTy : (tb : Table) → Fin (tcTables nBuf tb) → BufTy
  | .hbm, ⟨0, _⟩ => ⟨S4096x2048, .f32⟩
  | .hbm, ⟨1, _⟩ => ⟨S1x2048, .f32⟩
  | .hbm, ⟨2, _⟩ => ⟨S4096x2048, .f32⟩
  | .hbm, ⟨3, _⟩ => ⟨S4096x2048, .f32⟩
  | .hbm, ⟨4, _⟩ => ⟨S4096x2048, .f32⟩
  | .hbm, ⟨5, _⟩ => ⟨S4096x2048, .bf16⟩
  | .hbm, ⟨6, _⟩ => ⟨S1x2048, .f32⟩
  | .hbm, ⟨7, _⟩ => ⟨S1x2048, .f32⟩
  | .local _ .vmem, ⟨0, _⟩ => ⟨S256x2048, .f32⟩
  | .local _ .vmem, ⟨1, _⟩ => ⟨S256x2048, .f32⟩
  | .local _ .vmem, ⟨2, _⟩ => ⟨S1x2048, .f32⟩
  | .local _ .vmem, ⟨3, _⟩ => ⟨S256x2048, .f32⟩
  | .local _ .vmem, ⟨4, _⟩ => ⟨S256x2048, .f32⟩
  | .local _ .vmem, ⟨5, _⟩ => ⟨S256x2048, .f32⟩
  | .local _ .vmem, ⟨6, _⟩ => ⟨S256x2048, .f32⟩
  | .local _ .vmem, ⟨7, _⟩ => ⟨S256x2048, .f32⟩
  | .local _ .vmem, ⟨8, _⟩ => ⟨S256x2048, .f32⟩
  | .local _ .vmem, ⟨9, _⟩ => ⟨S256x2048, .bf16⟩
  | .local _ .vmem, ⟨10, _⟩ => ⟨S256x2048, .bf16⟩
  | .local _ .vmem, ⟨11, _⟩ => ⟨S1x2048, .f32⟩
  | .local _ .vmem, ⟨12, _⟩ => ⟨S1x2048, .f32⟩
  | _, _ => ⟨S4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg7_0 : Ref sig .tc := ⟨.vmem, 12, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem7_0 : DmaSem sig := 12

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S256x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x2048 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S1x2048 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x2048 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]
-- ==== RmsBwdRefIdeal.lean ====
abbrev S4096x2048 : Shape := ⟨2, ![4096, 2048]⟩
abbrev S1x2048 : Shape := ⟨2, ![1, 2048]⟩
abbrev S_ : Shape := ⟨0, ![]⟩
abbrev S4096 : Shape := ⟨1, ![4096]⟩
abbrev S4096x1 : Shape := ⟨2, ![4096, 1]⟩

abbrev nBuf : Space → Nat
  | .hbm => 43
  | .vmem => 0
  | .smem => 0
  | _ => 0

abbrev bufTy : (tb : Table) → Fin (tcTables nBuf tb) → BufTy
  | .hbm, ⟨0, _⟩ => ⟨S4096x2048, .f32⟩
  | .hbm, ⟨1, _⟩ => ⟨S1x2048, .f32⟩
  | .hbm, ⟨2, _⟩ => ⟨S4096x2048, .f32⟩
  | .hbm, ⟨3, _⟩ => ⟨S4096x2048, .f32⟩
  | .hbm, ⟨4, _⟩ => ⟨S4096x2048, .f32⟩
  | .hbm, ⟨5, _⟩ => ⟨S_, .f32⟩
  | .hbm, ⟨6, _⟩ => ⟨S4096, .f32⟩
  | .hbm, ⟨7, _⟩ => ⟨S4096x1, .f32⟩
  | .hbm, ⟨8, _⟩ => ⟨S_, .f32⟩
  | .hbm, ⟨9, _⟩ => ⟨S4096x1, .f32⟩
  | .hbm, ⟨10, _⟩ => ⟨S4096x1, .f32⟩
  | .hbm, ⟨11, _⟩ => ⟨S_, .f32⟩
  | .hbm, ⟨12, _⟩ => ⟨S4096x1, .f32⟩
  | .hbm, ⟨13, _⟩ => ⟨S4096x1, .f32⟩
  | .hbm, ⟨14, _⟩ => ⟨S4096x1, .f32⟩
  | .hbm, ⟨15, _⟩ => ⟨S4096x1, .f32⟩
  | .hbm, ⟨16, _⟩ => ⟨S_, .f32⟩
  | .hbm, ⟨17, _⟩ => ⟨S4096x1, .f32⟩
  | .hbm, ⟨18, _⟩ => ⟨S4096x1, .f32⟩
  | .hbm, ⟨19, _⟩ => ⟨S4096x2048, .f32⟩
  | .hbm, ⟨20, _⟩ => ⟨S4096x2048, .f32⟩
  | .hbm, ⟨21, _⟩ => ⟨S4096x2048, .f32⟩
  | .hbm, ⟨22, _⟩ => ⟨S4096x2048, .f32⟩
  | .hbm, ⟨23, _⟩ => ⟨S4096x2048, .f32⟩
  | .hbm, ⟨24, _⟩ => ⟨S4096x2048, .f32⟩
  | .hbm, ⟨25, _⟩ => ⟨S4096x2048, .f32⟩
  | .hbm, ⟨26, _⟩ => ⟨S_, .f32⟩
  | .hbm, ⟨27, _⟩ => ⟨S4096, .f32⟩
  | .hbm, ⟨28, _⟩ => ⟨S4096x1, .f32⟩
  | .hbm, ⟨29, _⟩ => ⟨S4096x2048, .f32⟩
  | .hbm, ⟨30, _⟩ => ⟨S4096x2048, .f32⟩
  | .hbm, ⟨31, _⟩ => ⟨S4096x1, .f32⟩
  | .hbm, ⟨32, _⟩ => ⟨S_, .f32⟩
  | .hbm, ⟨33, _⟩ => ⟨S4096x1, .f32⟩
  | .hbm, ⟨34, _⟩ => ⟨S4096x1, .f32⟩
  | .hbm, ⟨35, _⟩ => ⟨S_, .f32⟩
  | .hbm, ⟨36, _⟩ => ⟨S4096, .f32⟩
  | .hbm, ⟨37, _⟩ => ⟨S4096x2048, .f32⟩
  | .hbm, ⟨38, _⟩ => ⟨S4096x2048, .f32⟩
  | .hbm, ⟨39, _⟩ => ⟨S4096x2048, .f32⟩
  | .hbm, ⟨40, _⟩ => ⟨S4096x2048, .f32⟩
  | .hbm, ⟨41, _⟩ => ⟨S4096x2048, .f32⟩
  | .hbm, ⟨42, _⟩ => ⟨S4096x2048, .f32⟩
  | _, _ => ⟨S4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_cst_2 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_cst_3 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_cst_4 : Ref sig .tc := ⟨.hbm, 32, rfl⟩
abbrev main_v23 : Ref sig .tc := ⟨.hbm, 33, rfl⟩
abbrev main_v24 : Ref sig .tc := ⟨.hbm, 34, rfl⟩
abbrev main_cst_5 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩

abbrev nD : Nat := 1
abbrev τ : Topo := Topo.v7x

variable {F : FTy → Type} [FloatOps F]
-- ==== LossBwd.lean ====
abbrev S4096x2048 : Shape := ⟨2, ![4096, 2048]⟩
abbrev S1x2048 : Shape := ⟨2, ![1, 2048]⟩
abbrev S1x128 : Shape := ⟨2, ![1, 128]⟩
abbrev S256x2048 : Shape := ⟨2, ![256, 2048]⟩
abbrev S256 : Shape := ⟨1, ![256]⟩
abbrev S256x1 : Shape := ⟨2, ![256, 1]⟩
abbrev S2048 : Shape := ⟨1, ![2048]⟩
abbrev S1 : Shape := ⟨1, ![1]⟩
abbrev S1x1 : Shape := ⟨2, ![1, 1]⟩

abbrev nBuf : Space → Nat
  | .hbm => 7
  | .vmem => 11
  | .smem => 0
  | _ => 0

abbrev bufTy : (tb : Table) → Fin (tcTables nBuf tb) → BufTy
  | .hbm, ⟨0, _⟩ => ⟨S4096x2048, .f32⟩
  | .hbm, ⟨1, _⟩ => ⟨S1x2048, .f32⟩
  | .hbm, ⟨2, _⟩ => ⟨S4096x2048, .f32⟩
  | .hbm, ⟨3, _⟩ => ⟨S4096x2048, .f32⟩
  | .hbm, ⟨4, _⟩ => ⟨S4096x2048, .bf16⟩
  | .hbm, ⟨5, _⟩ => ⟨S1x2048, .f32⟩
  | .hbm, ⟨6, _⟩ => ⟨S1x128, .f32⟩
  | .local _ .vmem, ⟨0, _⟩ => ⟨S256x2048, .f32⟩
  | .local _ .vmem, ⟨1, _⟩ => ⟨S256x2048, .f32⟩
  | .local _ .vmem, ⟨2, _⟩ => ⟨S1x2048, .f32⟩
  | .local _ .vmem, ⟨3, _⟩ => ⟨S256x2048, .f32⟩
  | .local _ .vmem, ⟨4, _⟩ => ⟨S256x2048, .f32⟩
  | .local _ .vmem, ⟨5, _⟩ => ⟨S256x2048, .f32⟩
  | .local _ .vmem, ⟨6, _⟩ => ⟨S256x2048, .f32⟩
  | .local _ .vmem, ⟨7, _⟩ => ⟨S256x2048, .bf16⟩
  | .local _ .vmem, ⟨8, _⟩ => ⟨S256x2048, .bf16⟩
  | .local _ .vmem, ⟨9, _⟩ => ⟨S1x2048, .f32⟩
  | .local _ .vmem, ⟨10, _⟩ => ⟨S1x128, .f32⟩
  | _, _ => ⟨S4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev main_v0_2 : Ref sig .tc := ⟨.hbm, 5, rfl⟩
abbrev main_v0_3 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg6_0 : Ref sig .tc := ⟨.vmem, 10, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem6_0 : DmaSem sig := 10

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S256x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x2048 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1x2048 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]
-- ==== LossBwdRefIdeal.lean ====
abbrev S4096x2048 : Shape := ⟨2, ![4096, 2048]⟩
abbrev S1x2048 : Shape := ⟨2, ![1, 2048]⟩
abbrev S_ : Shape := ⟨0, ![]⟩
abbrev S4096 : Shape := ⟨1, ![4096]⟩
abbrev S4096x1 : Shape := ⟨2, ![4096, 1]⟩

abbrev nBuf : Space → Nat
  | .hbm => 64
  | .vmem => 0
  | .smem => 0
  | _ => 0

abbrev bufTy : (tb : Table) → Fin (tcTables nBuf tb) → BufTy
  | .hbm, ⟨0, _⟩ => ⟨S4096x2048, .f32⟩
  | .hbm, ⟨1, _⟩ => ⟨S1x2048, .f32⟩
  | .hbm, ⟨2, _⟩ => ⟨S4096x2048, .f32⟩
  | .hbm, ⟨3, _⟩ => ⟨S4096x2048, .f32⟩
  | .hbm, ⟨4, _⟩ => ⟨S_, .f32⟩
  | .hbm, ⟨5, _⟩ => ⟨S4096, .f32⟩
  | .hbm, ⟨6, _⟩ => ⟨S4096x1, .f32⟩
  | .hbm, ⟨7, _⟩ => ⟨S_, .f32⟩
  | .hbm, ⟨8, _⟩ => ⟨S4096x1, .f32⟩
  | .hbm, ⟨9, _⟩ => ⟨S4096x1, .f32⟩
  | .hbm, ⟨10, _⟩ => ⟨S_, .f32⟩
  | .hbm, ⟨11, _⟩ => ⟨S4096x1, .f32⟩
  | .hbm, ⟨12, _⟩ => ⟨S4096x1, .f32⟩
  | .hbm, ⟨13, _⟩ => ⟨S4096x1, .f32⟩
  | .hbm, ⟨14, _⟩ => ⟨S4096x1, .f32⟩
  | .hbm, ⟨15, _⟩ => ⟨S_, .f32⟩
  | .hbm, ⟨16, _⟩ => ⟨S4096x1, .f32⟩
  | .hbm, ⟨17, _⟩ => ⟨S4096x1, .f32⟩
  | .hbm, ⟨18, _⟩ => ⟨S4096x2048, .f32⟩
  | .hbm, ⟨19, _⟩ => ⟨S4096x2048, .f32⟩
  | .hbm, ⟨20, _⟩ => ⟨S4096x2048, .f32⟩
  | .hbm, ⟨21, _⟩ => ⟨S4096x2048, .f32⟩
  | .hbm, ⟨22, _⟩ => ⟨S4096x2048, .f32⟩
  | .hbm, ⟨23, _⟩ => ⟨S4096x2048, .f32⟩
  | .hbm, ⟨24, _⟩ => ⟨S_, .f32⟩
  | .hbm, ⟨25, _⟩ => ⟨S4096x2048, .f32⟩
  | .hbm, ⟨26, _⟩ => ⟨S4096x2048, .f32⟩
  | .hbm, ⟨27, _⟩ => ⟨S_, .f32⟩
  | .hbm, ⟨28, _⟩ => ⟨S4096, .f32⟩
  | .hbm, ⟨29, _⟩ => ⟨S_, .f32⟩
  | .hbm, ⟨30, _⟩ => ⟨S4096, .f32⟩
  | .hbm, ⟨31, _⟩ => ⟨S4096, .f32⟩
  | .hbm, ⟨32, _⟩ => ⟨S_, .f32⟩
  | .hbm, ⟨33, _⟩ => ⟨S_, .f32⟩
  | .hbm, ⟨34, _⟩ => ⟨S_, .f32⟩
  | .hbm, ⟨35, _⟩ => ⟨S_, .f32⟩
  | .hbm, ⟨36, _⟩ => ⟨S_, .f32⟩
  | .hbm, ⟨37, _⟩ => ⟨S_, .f32⟩
  | .hbm, ⟨38, _⟩ => ⟨S_, .f32⟩
  | .hbm, ⟨39, _⟩ => ⟨S4096, .f32⟩
  | .hbm, ⟨40, _⟩ => ⟨S_, .f32⟩
  | .hbm, ⟨41, _⟩ => ⟨S4096, .f32⟩
  | .hbm, ⟨42, _⟩ => ⟨S4096, .f32⟩
  | .hbm, ⟨43, _⟩ => ⟨S4096x2048, .f32⟩
  | .hbm, ⟨44, _⟩ => ⟨S4096x2048, .f32⟩
  | .hbm, ⟨45, _⟩ => ⟨S4096x2048, .f32⟩
  | .hbm, ⟨46, _⟩ => ⟨S4096x2048, .f32⟩
  | .hbm, ⟨47, _⟩ => ⟨S4096x2048, .f32⟩
  | .hbm, ⟨48, _⟩ => ⟨S_, .f32⟩
  | .hbm, ⟨49, _⟩ => ⟨S4096, .f32⟩
  | .hbm, ⟨50, _⟩ => ⟨S4096x1, .f32⟩
  | .hbm, ⟨51, _⟩ => ⟨S4096x2048, .f32⟩
  | .hbm, ⟨52, _⟩ => ⟨S4096x2048, .f32⟩
  | .hbm, ⟨53, _⟩ => ⟨S4096x1, .f32⟩
  | .hbm, ⟨54, _⟩ => ⟨S_, .f32⟩
  | .hbm, ⟨55, _⟩ => ⟨S4096x1, .f32⟩
  | .hbm, ⟨56, _⟩ => ⟨S4096x1, .f32⟩
  | .hbm, ⟨57, _⟩ => ⟨S_, .f32⟩
  | .hbm, ⟨58, _⟩ => ⟨S4096, .f32⟩
  | .hbm, ⟨59, _⟩ => ⟨S4096x2048, .f32⟩
  | .hbm, ⟨60, _⟩ => ⟨S4096x2048, .f32⟩
  | .hbm, ⟨61, _⟩ => ⟨S4096x2048, .f32⟩
  | .hbm, ⟨62, _⟩ => ⟨S4096x2048, .f32⟩
  | .hbm, ⟨63, _⟩ => ⟨S4096x2048, .f32⟩
  | _, _ => ⟨S4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_cst_2 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_cst_3 : Ref sig .tc := ⟨.hbm, 24, rfl⟩
abbrev main_v17 : Ref sig .tc := ⟨.hbm, 25, rfl⟩
abbrev main_v18 : Ref sig .tc := ⟨.hbm, 26, rfl⟩
abbrev main_cst_4 : Ref sig .tc := ⟨.hbm, 27, rfl⟩
abbrev main_v19 : Ref sig .tc := ⟨.hbm, 28, rfl⟩
abbrev main_cst_5 : Ref sig .tc := ⟨.hbm, 29, rfl⟩
abbrev main_v20 : Ref sig .tc := ⟨.hbm, 30, rfl⟩
abbrev main_v21 : Ref sig .tc := ⟨.hbm, 31, rfl⟩
abbrev main_cst_6 : Ref sig .tc := ⟨.hbm, 32, rfl⟩
abbrev main_v22 : Ref sig .tc := ⟨.hbm, 33, rfl⟩
abbrev main_cst_7 : Ref sig .tc := ⟨.hbm, 34, rfl⟩
abbrev main_v23 : Ref sig .tc := ⟨.hbm, 35, rfl⟩
abbrev main_cst_8 : Ref sig .tc := ⟨.hbm, 36, rfl⟩
abbrev main_cst_9 : Ref sig .tc := ⟨.hbm, 37, rfl⟩
abbrev main_v24 : Ref sig .tc := ⟨.hbm, 38, rfl⟩
abbrev main_v25 : Ref sig .tc := ⟨.hbm, 39, rfl⟩
abbrev main_cst_10 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_cst_11 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_cst_12 : Ref sig .tc := ⟨.hbm, 54, rfl⟩
abbrev main_v38 : Ref sig .tc := ⟨.hbm, 55, rfl⟩
abbrev main_v39 : Ref sig .tc := ⟨.hbm, 56, rfl⟩
abbrev main_cst_13 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_v44 : Ref sig .tc := ⟨.hbm, 62, rfl⟩
abbrev main_v45 : Ref sig .tc := ⟨.hbm, 63, rfl⟩

abbrev nD : Nat := 1
abbrev τ : Topo := Topo.v7x

variable {F : FTy → Type} [FloatOps F]
-- ==== RmsFwd.lean ====
abbrev S4096x2048 : Shape := ⟨2, ![4096, 2048]⟩
abbrev S1x2048 : Shape := ⟨2, ![1, 2048]⟩
abbrev S256x2048 : Shape := ⟨2, ![256, 2048]⟩
abbrev S256 : Shape := ⟨1, ![256]⟩
abbrev S256x1 : Shape := ⟨2, ![256, 1]⟩

abbrev nBuf : Space → Nat
  | .hbm => 3
  | .vmem => 5
  | .smem => 0
  | _ => 0

abbrev bufTy : (tb : Table) → Fin (tcTables nBuf tb) → BufTy
  | .hbm, ⟨0, _⟩ => ⟨S4096x2048, .f32⟩
  | .hbm, ⟨1, _⟩ => ⟨S1x2048, .f32⟩
  | .hbm, ⟨2, _⟩ => ⟨S4096x2048, .bf16⟩
  | .local _ .vmem, ⟨0, _⟩ => ⟨S256x2048, .f32⟩
  | .local _ .vmem, ⟨1, _⟩ => ⟨S256x2048, .f32⟩
  | .local _ .vmem, ⟨2, _⟩ => ⟨S1x2048, .f32⟩
  | .local _ .vmem, ⟨3, _⟩ => ⟨S256x2048, .bf16⟩
  | .local _ .vmem, ⟨4, _⟩ => ⟨S256x2048, .bf16⟩
  | _, _ => ⟨S4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S256x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== RmsFwdRefIdeal.lean ====
abbrev S4096x2048 : Shape := ⟨2, ![4096, 2048]⟩
abbrev S1x2048 : Shape := ⟨2, ![1, 2048]⟩
abbrev S_ : Shape := ⟨0, ![]⟩
abbrev S4096 : Shape := ⟨1, ![4096]⟩
abbrev S4096x1 : Shape := ⟨2, ![4096, 1]⟩

abbrev nBuf : Space → Nat
  | .hbm => 18
  | .vmem => 0
  | .smem => 0
  | _ => 0

abbrev bufTy : (tb : Table) → Fin (tcTables nBuf tb) → BufTy
  | .hbm, ⟨0, _⟩ => ⟨S4096x2048, .f32⟩
  | .hbm, ⟨1, _⟩ => ⟨S1x2048, .f32⟩
  | .hbm, ⟨2, _⟩ => ⟨S4096x2048, .f32⟩
  | .hbm, ⟨3, _⟩ => ⟨S_, .f32⟩
  | .hbm, ⟨4, _⟩ => ⟨S4096, .f32⟩
  | .hbm, ⟨5, _⟩ => ⟨S4096x1, .f32⟩
  | .hbm, ⟨6, _⟩ => ⟨S_, .f32⟩
  | .hbm, ⟨7, _⟩ => ⟨S4096x1, .f32⟩
  | .hbm, ⟨8, _⟩ => ⟨S4096x1, .f32⟩
  | .hbm, ⟨9, _⟩ => ⟨S_, .f32⟩
  | .hbm, ⟨10, _⟩ => ⟨S4096x1, .f32⟩
  | .hbm, ⟨11, _⟩ => ⟨S4096x1, .f32⟩
  | .hbm, ⟨12, _⟩ => ⟨S4096x1, .f32⟩
  | .hbm, ⟨13, _⟩ => ⟨S4096x2048, .f32⟩
  | .hbm, ⟨14, _⟩ => ⟨S4096x2048, .f32⟩
  | .hbm, ⟨15, _⟩ => ⟨S4096x2048, .f32⟩
  | .hbm, ⟨16, _⟩ => ⟨S4096x2048, .f32⟩
  | .hbm, ⟨17, _⟩ => ⟨S4096x2048, .bf16⟩
  | _, _ => ⟨S4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_v4 : Ref sig .tc := ⟨.hbm, 8, rfl⟩
abbrev main_cst_1 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩

abbrev nD : Nat := 1
abbrev τ : Topo := Topo.v7x

variable {F : FTy → Type} [FloatOps F]
-- ==== Proof.Sums.lean ====
/- Sums over a contracted axis cut into points and lanes. -/
module

public import Idealize.ShloMosaic.Lib.Pipeline.ValueKit

@[expose] public section

noncomputable section

open scoped BigOperators

namespace Cert.Sums

/-- A sum of `L = S * (n + n)` lanes, taken point by point as two halves of `n` lanes each. -/
theorem halves {M : Type*} {_ : AddCommMonoid M} {L S n : ℕ} {F G : Fin S → Fin n → M} {h : Fin L → M} (hL : L = S * (n + n))
    (hF : ∀ (s : Fin S) (k : Fin n) (hl : s.val * (n + n) + k.val < L), F s k = h ⟨s.val * (n + n) + k.val, hl⟩)
    (hG : ∀ (s : Fin S) (k : Fin n) (hl : s.val * (n + n) + (n + k.val) < L), G s k = h ⟨s.val * (n + n) + (n + k.val), hl⟩) :
    ∑ s : Fin S, (∑ k : Fin n, F s k + ∑ k : Fin n, G s k) = ∑ l : Fin L, h l := by
  have e := Fin.sum_mul_add_fin S (n + n) h hL
  rw [← e]
  refine Finset.sum_congr rfl fun s _ => ?_
  rw [Fin.sum_univ_add]
  congr 1
  · exact Finset.sum_congr rfl fun k _ => hF s k _
  · exact Finset.sum_congr rfl fun k _ => hG s k _

end Cert.Sums

end
-- ==== Proof.FfnUpDx.lean ====
/- `FfnUpDx`: four grid points add their parts of the contracted axis into the carried block; the last writes it out. -/
module

public import proofs.«01_k».proof.Proof.Sums
public import proofs.«01_k».proof.Proof.Gen.FfnUpDxIdeal.Frame
public import proofs.«01_k».proof.Proof.Gen.FfnUpDxRefIdeal.Read
public import Idealize.ShloMosaic.Lib.Pipeline.ValueKit

@[expose] public section

set_option maxRecDepth 16384

noncomputable section

open Idealize.ShloMosaic Idealize.ShloMosaic.TcCoe Idealize.SL.Sem
open scoped BigOperators

namespace Cert.FfnUpDxIdeal.Product

open Cert.FfnUpDxIdeal Cert.FfnUpDxIdeal.Gen Cert.FfnUpDxRefIdeal.Read

variable (m : (ℓ : Loc nD τ sig) → Buf (Elt Ideal) ℓ)

/-- Where each block of the call lies, at every grid point. -/
theorem idx_val : ∀ t : Fin cfg0.N, win0_0.index t = ![t.val % 4 / 2, t.val / 4, t.val % 4 % 2]
    ∧ win0_1.index t = ![t.val % 4, 0, 0]
    ∧ win0_2.index t = ![t.val / 4, 0] :=
  (by decide +kernel : ∀ t : Fin grid0.N, _)

/-- One grid point's part of the product, from its two loads of each operand. -/
def part (a0 : Vec Ideal S1x512x1408 .bf16) (b0 : Vec Ideal S1x2048x1408 .bf16) (a1 : Vec Ideal S1x512x1408 .bf16) (b1 : Vec Ideal S1x2048x1408 .bf16)
    (y : S512x2048.Idx) : EReal :=
  (∑ k : Fin 1408, a0 (ix3 0 (y 0) k) * b0 (ix3 0 (y 1) k)) + ∑ k : Fin 1408, a1 (ix3 0 (y 0) k) * b1 (ix3 0 (y 1) k)

/-- The first point of a run stores its part. -/
theorem first_store (a0 b0 a1 b1) (y) : k0_pay2 (F := Ideal) a0 b0 a1 b1 y = 0 + part a0 b0 a1 b1 y := by
  rw [zero_add]
  unfold part
  pointwise [k0_pay2, k0_pay1]

/-- A later point adds its part to what the block held. -/
theorem next_store (a0 b0 a1 b1 acc) (y) : k0_pay3 (F := Ideal) a0 b0 a1 b1 acc y = acc y + part a0 b0 a1 b1 y := by
  unfold part
  pointwise [k0_pay3, k0_pay1]

/-- The carried block, read back through its whole view. -/
theorem hread (h : scM0_0.IsWhole) (X : Vec Ideal S512x2048 .f32) (j : S512x2048.Idx) :
    View.read (Elt Ideal) (View.whole cc0_scratch0) (h.unread X) j = X j :=
  congrFun (h.read_unread X) j

/-- At the last point of a run the result's block is the carried block. -/
theorem last_out (c : Dev nD) (t : Fin cfg0.N) (h2 : t.val % 4 = 3) :
    (outsAt0 m c t.val t.isLt).1 = (outsAt0 m c t.val t.isLt).2 := by
  rw [outsAt0_C m c t (by omega) (by omega) h2]
  frame_out

/-- The result array after the run. -/
theorem final (c : Dev nD) :
    (dats m 0 c).arrAt 2 (cfgs 0).N = val_main_v8 (F := Ideal) (m ((c : Thread nD τ).loc main_arg0)) (m ((c : Thread nD τ).loc main_arg1)) := by
  refine (dats m 0 c).arrAt_eq_of_covers 2 _ (by decide +kernel) fun t hf y => ?_
  blk_simp
  rw [after0_2, last_out m c t ((flush0_2 t).mp hf),
    Pipeline.eq_sum_fin_of_reset_step_apply_of_flush (fun n h => (outsAt0 m c n h).2) 4 (fun _ => (0 : EReal)) _
      (fun t h j => by
        rw [outsAt0_A m c t h (by omega) (by omega)]; frame_out; rw [first_store])
      (fun t h j => by
        by_cases h2 : t.val % 4 = 3
        · rw [outsAt0_C m c t h (by omega) h2]; frame_out; rw [next_store, hread]
        · rw [outsAt0_B m c t h (by omega) h2]; frame_out; rw [next_store, hread])
      t ((flush0_2 t).mp hf) _, zero_add]
  have href : ∀ (x0 x1) (j : S4096x2048.Idx), val_main_v8 (F := Ideal) x0 x1 j
      = ∑ l : Fin 11264, x0 (ix3 ⟨l.val / 5632, by omega⟩ (j 0) ⟨l.val % 5632, by omega⟩) * x1 (ix3 ⟨l.val / 1408, by omega⟩ (j 1) ⟨l.val % 1408, by omega⟩) := by
    intro x0 x1 j
    pointwise [val_main_v0, val_main_v1, val_main_v2, val_main_v3, val_main_v4, val_main_v5, val_main_v6, val_main_v7, val_main_v8]
  rw [href]
  unfold part
  refine Cert.Sums.halves (by rfl) (fun s k hl => ?_) (fun s k hl => ?_)
  · have e := idx_val ⟨_, Pipeline.run_point_lt_of_flush t ((flush0_2 t).mp hf) s⟩
    blk_point [iblk, V, idx_val t, e]
  · have e := idx_val ⟨_, Pipeline.run_point_lt_of_flush t ((flush0_2 t).mp hf) s⟩
    blk_point [iblk, V, idx_val t, e]

end Cert.FfnUpDxIdeal.Product

end
-- ==== Proof.FfnUpDw.lean ====
/- `FfnUpDw`: the block a grid point stores is the product's block, and the blocks tile the result. -/
module

public import proofs.«01_k».proof.Proof.Gen.FfnUpDwIdeal.Frame
public import proofs.«01_k».proof.Proof.Gen.FfnUpDwRefIdeal.Read
public import Idealize.ShloMosaic.Lib.Pipeline.ValueKit

@[expose] public section

set_option maxRecDepth 16384

noncomputable section

open Idealize.ShloMosaic Idealize.ShloMosaic.TcCoe Idealize.SL.Sem
open scoped BigOperators

namespace Cert.FfnUpDwIdeal.Product

open Cert.FfnUpDwIdeal Cert.FfnUpDwIdeal.Gen Cert.FfnUpDwRefIdeal.Read

variable (m : (ℓ : Loc nD τ sig) → Buf (Elt Ideal) ℓ)

/-- Where each block of the call lies, at every grid point. -/
theorem idx_val : ∀ t : Fin cfg0.N, win0_0.index t = ![0, t.val % 8]
    ∧ win0_1.index t = ![t.val / 8 / 4, 0, t.val / 8 % 4]
    ∧ win0_2.index t = ![t.val / 8, t.val % 8, 0] :=
  (by decide +kernel : ∀ t : Fin grid0.N, _)

/-- What the body stores at `y` of grid point `t` is the product there. -/
theorem point (c : Dev nD) (t : Fin cfg0.N) (y) :
    k0_pay1 (iblk m c 0 t) (iblk m c 1 t) y
      = val_main_v12 (F := Ideal) (m ((c : Thread nD τ).loc main_arg0)) (m ((c : Thread nD τ).loc main_arg1)) (((cfg0.win 2).blk t).view.emb y) := by
  pointwise [k0_pay1, val_main_v0, val_main_v1, val_main_v2, val_main_v4, val_main_v7, val_main_v8, val_main_v9, val_main_v10, val_main_v11, val_main_v12]
  refine Fin.sum_fin_congr fun k => ?_
  refine (mul_comm (G := EReal) _ _).trans ?_
  blk_point [iblk, V, idx_val t]

/-- The result array after the run. -/
theorem final (c : Dev nD) :
    (dats m 0 c).arrAt 2 (cfgs 0).N = val_main_v12 (F := Ideal) (m ((c : Thread nD τ).loc main_arg0)) (m ((c : Thread nD τ).loc main_arg1)) := by
  refine (dats m 0 c).arrAt_eq_of_covers 2 _ (by decide +kernel) fun t hf y => ?_
  blk_simp
  rw [after0_2]
  frame_out
  exact point m c t y

end Cert.FfnUpDwIdeal.Product

end
-- ==== Proof.FfnDownDx.lean ====
/- `FfnDownDx`: the block a grid point stores is the product's block, and the blocks tile the result. -/
module

public import proofs.«01_k».proof.Proof.Gen.FfnDownDxIdeal.Frame
public import proofs.«01_k».proof.Proof.Gen.FfnDownDxRefIdeal.Read
public import Idealize.ShloMosaic.Lib.Pipeline.ValueKit

@[expose] public section

set_option maxRecDepth 16384

noncomputable section

open Idealize.ShloMosaic Idealize.ShloMosaic.TcCoe Idealize.SL.Sem
open scoped BigOperators

namespace Cert.FfnDownDxIdeal.Product

open Cert.FfnDownDxIdeal Cert.FfnDownDxIdeal.Gen Cert.FfnDownDxRefIdeal.Read

variable (m : (ℓ : Loc nD τ sig) → Buf (Elt Ideal) ℓ)

/-- Where each block of the call lies, at every grid point. -/
theorem idx_val : ∀ t : Fin cfg0.N, win0_0.index t = ![t.val / 11, 0]
    ∧ win0_1.index t = ![t.val % 11, 0]
    ∧ win0_2.index t = ![t.val / 11, t.val % 11] :=
  (by decide +kernel : ∀ t : Fin grid0.N, _)

/-- What the body stores at `y` of grid point `t` is the product there. -/
theorem point (c : Dev nD) (t : Fin cfg0.N) (y) :
    k0_pay1 (iblk m c 0 t) (iblk m c 1 t) y
      = val_main_v4 (F := Ideal) (m ((c : Thread nD τ).loc main_arg0)) (m ((c : Thread nD τ).loc main_arg1)) (((cfg0.win 2).blk t).view.emb y) := by
  pointwise [k0_pay1, val_main_cst, val_main_v0, val_main_v1, val_main_v2, val_main_v3, val_main_v4]
  blk_point [iblk, V, idx_val t]

/-- The result array after the run. -/
theorem final (c : Dev nD) :
    (dats m 0 c).arrAt 2 (cfgs 0).N = val_main_v4 (F := Ideal) (m ((c : Thread nD τ).loc main_arg0)) (m ((c : Thread nD τ).loc main_arg1)) := by
  refine (dats m 0 c).arrAt_eq_of_covers 2 _ (by decide +kernel) fun t hf y => ?_
  blk_simp
  rw [after0_2]
  frame_out
  exact point m c t y

end Cert.FfnDownDxIdeal.Product

end
-- ==== Proof.FfnDownDw.lean ====
/- `FfnDownDw`: the block a grid point stores is the product's block, and the blocks tile the result. -/
module

public import proofs.«01_k».proof.Proof.Gen.FfnDownDwIdeal.Frame
public import proofs.«01_k».proof.Proof.Gen.FfnDownDwRefIdeal.Read
public import Idealize.ShloMosaic.Lib.Pipeline.ValueKit

@[expose] public section

set_option maxRecDepth 16384

noncomputable section

open Idealize.ShloMosaic Idealize.ShloMosaic.TcCoe Idealize.SL.Sem
open scoped BigOperators

namespace Cert.FfnDownDwIdeal.Product

open Cert.FfnDownDwIdeal Cert.FfnDownDwIdeal.Gen Cert.FfnDownDwRefIdeal.Read

variable (m : (ℓ : Loc nD τ sig) → Buf (Elt Ideal) ℓ)

/-- Where each block of the call lies, at every grid point. -/
theorem idx_val : ∀ t : Fin cfg0.N, win0_0.index t = ![0, t.val % 11]
    ∧ win0_1.index t = ![0, t.val / 11]
    ∧ win0_2.index t = ![t.val % 11, t.val / 11] :=
  (by decide +kernel : ∀ t : Fin grid0.N, _)

/-- What the body stores at `y` of grid point `t` is the product there. -/
theorem point (c : Dev nD) (t : Fin cfg0.N) (y) :
    k0_pay1 (iblk m c 0 t) (iblk m c 1 t) y
      = val_main_v6 (F := Ideal) (m ((c : Thread nD τ).loc main_arg0)) (m ((c : Thread nD τ).loc main_arg1)) (((cfg0.win 2).blk t).view.emb y) := by
  pointwise [k0_pay1, val_main_cst, val_main_v0, val_main_v1, val_main_v2, val_main_v3, val_main_v4, val_main_v5, val_main_v6]
  refine Fin.sum_fin_congr fun k => ?_
  refine (mul_comm (G := EReal) _ _).trans ?_
  blk_point [iblk, V, idx_val t]

/-- The result array after the run. -/
theorem final (c : Dev nD) :
    (dats m 0 c).arrAt 2 (cfgs 0).N = val_main_v6 (F := Ideal) (m ((c : Thread nD τ).loc main_arg0)) (m ((c : Thread nD τ).loc main_arg1)) := by
  refine (dats m 0 c).arrAt_eq_of_covers 2 _ (by decide +kernel) fun t hf y => ?_
  blk_simp
  rw [after0_2]
  frame_out
  exact point m c t y

end Cert.FfnDownDwIdeal.Product

end
-- ==== Proof.SsmInDx.lean ====
/- `SsmInDx`: four grid points add their parts of the contracted axis into the carried block; the last writes it out. -/
module

public import proofs.«01_k».proof.Proof.Sums
public import proofs.«01_k».proof.Proof.Gen.SsmInDxIdeal.Frame
public import proofs.«01_k».proof.Proof.Gen.SsmInDxRefIdeal.Read
public import Idealize.ShloMosaic.Lib.Pipeline.ValueKit

@[expose] public section

set_option maxRecDepth 16384

noncomputable section

open Idealize.ShloMosaic Idealize.ShloMosaic.TcCoe Idealize.SL.Sem
open scoped BigOperators

namespace Cert.SsmInDxIdeal.Product

open Cert.SsmInDxIdeal Cert.SsmInDxIdeal.Gen Cert.SsmInDxRefIdeal.Read

variable (m : (ℓ : Loc nD τ sig) → Buf (Elt Ideal) ℓ)

/-- Where each block of the call lies, at every grid point. -/
theorem idx_val : ∀ t : Fin cfg0.N, win0_0.index t = ![t.val / 4, t.val % 4]
    ∧ win0_1.index t = ![t.val % 4, 0, 0]
    ∧ win0_2.index t = ![t.val / 4, 0] :=
  (by decide +kernel : ∀ t : Fin grid0.N, _)

/-- One grid point's part of the product, from its two loads of each operand. -/
def part (a0 : Vec Ideal S512x1408 .bf16) (b0 : Vec Ideal S1x2048x1408 .bf16) (a1 : Vec Ideal S512x1408 .bf16) (b1 : Vec Ideal S1x2048x1408 .bf16)
    (y : S512x2048.Idx) : EReal :=
  (∑ k : Fin 1408, a0 (ix2 (y 0) k) * b0 (ix3 0 (y 1) k)) + ∑ k : Fin 1408, a1 (ix2 (y 0) k) * b1 (ix3 0 (y 1) k)

/-- The first point of a run stores its part. -/
theorem first_store (a0 b0 a1 b1) (y) : k0_pay2 (F := Ideal) a0 b0 a1 b1 y = 0 + part a0 b0 a1 b1 y := by
  rw [zero_add]
  unfold part
  pointwise [k0_pay2, k0_pay1]

/-- A later point adds its part to what the block held. -/
theorem next_store (a0 b0 a1 b1 acc) (y) : k0_pay3 (F := Ideal) a0 b0 a1 b1 acc y = acc y + part a0 b0 a1 b1 y := by
  unfold part
  pointwise [k0_pay3, k0_pay1]

/-- The carried block, read back through its whole view. -/
theorem hread (h : scM0_0.IsWhole) (X : Vec Ideal S512x2048 .f32) (j : S512x2048.Idx) :
    View.read (Elt Ideal) (View.whole cc0_scratch0) (h.unread X) j = X j :=
  congrFun (h.read_unread X) j

/-- At the last point of a run the result's block is the carried block. -/
theorem last_out (c : Dev nD) (t : Fin cfg0.N) (h2 : t.val % 4 = 3) :
    (outsAt0 m c t.val t.isLt).1 = (outsAt0 m c t.val t.isLt).2 := by
  rw [outsAt0_C m c t (by omega) (by omega) h2]
  frame_out

/-- The result array after the run. -/
theorem final (c : Dev nD) :
    (dats m 0 c).arrAt 2 (cfgs 0).N = val_main_v6 (F := Ideal) (m ((c : Thread nD τ).loc main_arg0)) (m ((c : Thread nD τ).loc main_arg1)) := by
  refine (dats m 0 c).arrAt_eq_of_covers 2 _ (by decide +kernel) fun t hf y => ?_
  blk_simp
  rw [after0_2, last_out m c t ((flush0_2 t).mp hf),
    Pipeline.eq_sum_fin_of_reset_step_apply_of_flush (fun n h => (outsAt0 m c n h).2) 4 (fun _ => (0 : EReal)) _
      (fun t h j => by
        rw [outsAt0_A m c t h (by omega) (by omega)]; frame_out; rw [first_store])
      (fun t h j => by
        by_cases h2 : t.val % 4 = 3
        · rw [outsAt0_C m c t h (by omega) h2]; frame_out; rw [next_store, hread]
        · rw [outsAt0_B m c t h (by omega) h2]; frame_out; rw [next_store, hread])
      t ((flush0_2 t).mp hf) _, zero_add]
  have href : ∀ (x0 x1) (j : S4096x2048.Idx), val_main_v6 (F := Ideal) x0 x1 j
      = ∑ l : Fin 11264, x0 (ix2 (j 0) l) * x1 (ix3 ⟨l.val / 1408, by omega⟩ (j 1) ⟨l.val % 1408, by omega⟩) := by
    intro x0 x1 j
    pointwise [val_main_v0, val_main_v1, val_main_v2, val_main_v3, val_main_v4, val_main_v5, val_main_v6]
  rw [href]
  unfold part
  refine Cert.Sums.halves (by rfl) (fun s k hl => ?_) (fun s k hl => ?_)
  · have e := idx_val ⟨_, Pipeline.run_point_lt_of_flush t ((flush0_2 t).mp hf) s⟩
    blk_point [iblk, V, idx_val t, e]
  · have e := idx_val ⟨_, Pipeline.run_point_lt_of_flush t ((flush0_2 t).mp hf) s⟩
    blk_point [iblk, V, idx_val t, e]

end Cert.SsmInDxIdeal.Product

end
-- ==== Proof.SsmInDw.lean ====
/- `SsmInDw`: the block a grid point stores is the product's block, and the blocks tile the result. -/
module

public import proofs.«01_k».proof.Proof.Gen.SsmInDwIdeal.Frame
public import proofs.«01_k».proof.Proof.Gen.SsmInDwRefIdeal.Read
public import Idealize.ShloMosaic.Lib.Pipeline.ValueKit

@[expose] public section

set_option maxRecDepth 16384

noncomputable section

open Idealize.ShloMosaic Idealize.ShloMosaic.TcCoe Idealize.SL.Sem
open scoped BigOperators

namespace Cert.SsmInDwIdeal.Product

open Cert.SsmInDwIdeal Cert.SsmInDwIdeal.Gen Cert.SsmInDwRefIdeal.Read

variable (m : (ℓ : Loc nD τ sig) → Buf (Elt Ideal) ℓ)

/-- Where each block of the call lies, at every grid point. -/
theorem idx_val : ∀ t : Fin cfg0.N, win0_0.index t = ![0, t.val % 8]
    ∧ win0_1.index t = ![0, t.val / 8]
    ∧ win0_2.index t = ![t.val / 8, t.val % 8, 0] :=
  (by decide +kernel : ∀ t : Fin grid0.N, _)

/-- What the body stores at `y` of grid point `t` is the product there. -/
theorem point (c : Dev nD) (t : Fin cfg0.N) (y) :
    k0_pay1 (iblk m c 0 t) (iblk m c 1 t) y
      = val_main_v10 (F := Ideal) (m ((c : Thread nD τ).loc main_arg0)) (m ((c : Thread nD τ).loc main_arg1)) (((cfg0.win 2).blk t).view.emb y) := by
  pointwise [k0_pay1, val_main_v5, val_main_v1, val_main_v6, val_main_v7, val_main_v8, val_main_v9, val_main_v10]
  refine Fin.sum_fin_congr fun k => ?_
  refine (mul_comm (G := EReal) _ _).trans ?_
  blk_point [iblk, V, idx_val t]

/-- The result array after the run. -/
theorem final (c : Dev nD) :
    (dats m 0 c).arrAt 2 (cfgs 0).N = val_main_v10 (F := Ideal) (m ((c : Thread nD τ).loc main_arg0)) (m ((c : Thread nD τ).loc main_arg1)) := by
  refine (dats m 0 c).arrAt_eq_of_covers 2 _ (by decide +kernel) fun t hf y => ?_
  blk_simp
  rw [after0_2]
  frame_out
  exact point m c t y

end Cert.SsmInDwIdeal.Product

end
-- ==== Proof.SsmOutDx.lean ====
/- `SsmOutDx`: the block a grid point stores is the product's block, and the blocks tile the result. -/
module

public import proofs.«01_k».proof.Proof.Gen.SsmOutDxIdeal.Frame
public import proofs.«01_k».proof.Proof.Gen.SsmOutDxRefIdeal.Read
public import Idealize.ShloMosaic.Lib.Pipeline.ValueKit

@[expose] public section

set_option maxRecDepth 16384

noncomputable section

open Idealize.ShloMosaic Idealize.ShloMosaic.TcCoe Idealize.SL.Sem
open scoped BigOperators

namespace Cert.SsmOutDxIdeal.Product

open Cert.SsmOutDxIdeal Cert.SsmOutDxIdeal.Gen Cert.SsmOutDxRefIdeal.Read

variable (m : (ℓ : Loc nD τ sig) → Buf (Elt Ideal) ℓ)

/-- Where each block of the call lies, at every grid point. -/
theorem idx_val : ∀ t : Fin cfg0.N, win0_0.index t = ![t.val / 8, 0]
    ∧ win0_1.index t = ![t.val % 8, 0]
    ∧ win0_2.index t = ![t.val / 8, t.val % 8] :=
  (by decide +kernel : ∀ t : Fin grid0.N, _)

/-- What the body stores at `y` of grid point `t` is the product there. -/
theorem point (c : Dev nD) (t : Fin cfg0.N) (y) :
    k0_pay1 (iblk m c 0 t) (iblk m c 1 t) y
      = val_main_v4 (F := Ideal) (m ((c : Thread nD τ).loc main_arg0)) (m ((c : Thread nD τ).loc main_arg1)) (((cfg0.win 2).blk t).view.emb y) := by
  pointwise [k0_pay1, val_main_cst, val_main_v0, val_main_v1, val_main_v2, val_main_v3, val_main_v4]
  blk_point [iblk, V, idx_val t]

/-- The result array after the run. -/
theorem final (c : Dev nD) :
    (dats m 0 c).arrAt 2 (cfgs 0).N = val_main_v4 (F := Ideal) (m ((c : Thread nD τ).loc main_arg0)) (m ((c : Thread nD τ).loc main_arg1)) := by
  refine (dats m 0 c).arrAt_eq_of_covers 2 _ (by decide +kernel) fun t hf y => ?_
  blk_simp
  rw [after0_2]
  frame_out
  exact point m c t y

end Cert.SsmOutDxIdeal.Product

end
-- ==== Proof.SsmOutDw.lean ====
/- `SsmOutDw`: the block a grid point stores is the product's block, and the blocks tile the result. -/
module

public import proofs.«01_k».proof.Proof.Gen.SsmOutDwIdeal.Frame
public import proofs.«01_k».proof.Proof.Gen.SsmOutDwRefIdeal.Read
public import Idealize.ShloMosaic.Lib.Pipeline.ValueKit

@[expose] public section

set_option maxRecDepth 16384

noncomputable section

open Idealize.ShloMosaic Idealize.ShloMosaic.TcCoe Idealize.SL.Sem
open scoped BigOperators

namespace Cert.SsmOutDwIdeal.Product

open Cert.SsmOutDwIdeal Cert.SsmOutDwIdeal.Gen Cert.SsmOutDwRefIdeal.Read

variable (m : (ℓ : Loc nD τ sig) → Buf (Elt Ideal) ℓ)

/-- Where each block of the call lies, at every grid point. -/
theorem idx_val : ∀ t : Fin cfg0.N, win0_0.index t = ![0, t.val % 8]
    ∧ win0_1.index t = ![0, t.val / 8]
    ∧ win0_2.index t = ![t.val % 8, t.val / 8] :=
  (by decide +kernel : ∀ t : Fin grid0.N, _)

/-- What the body stores at `y` of grid point `t` is the product there. -/
theorem point (c : Dev nD) (t : Fin cfg0.N) (y) :
    k0_pay1 (iblk m c 0 t) (iblk m c 1 t) y
      = val_main_v6 (F := Ideal) (m ((c : Thread nD τ).loc main_arg0)) (m ((c : Thread nD τ).loc main_arg1)) (((cfg0.win 2).blk t).view.emb y) := by
  pointwise [k0_pay1, val_main_v3, val_main_v1, val_main_v4, val_main_v5, val_main_v6]
  refine Fin.sum_fin_congr fun k => ?_
  refine (mul_comm (G := EReal) _ _).trans ?_
  blk_point [iblk, V, idx_val t]

/-- The result array after the run. -/
theorem final (c : Dev nD) :
    (dats m 0 c).arrAt 2 (cfgs 0).N = val_main_v6 (F := Ideal) (m ((c : Thread nD τ).loc main_arg0)) (m ((c : Thread nD τ).loc main_arg1)) := by
  refine (dats m 0 c).arrAt_eq_of_covers 2 _ (by decide +kernel) fun t hf y => ?_
  blk_simp
  rw [after0_2]
  frame_out
  exact point m c t y

end Cert.SsmOutDwIdeal.Product

end
-- ==== Proof.CvInDx.lean ====
/- `CvInDx`: four grid points add their parts of the contracted axis into the carried block; the last writes it out. -/
module

public import proofs.«01_k».proof.Proof.Sums
public import proofs.«01_k».proof.Proof.Gen.CvInDxIdeal.Frame
public import proofs.«01_k».proof.Proof.Gen.CvInDxRefIdeal.Read
public import Idealize.ShloMosaic.Lib.Pipeline.ValueKit

@[expose] public section

set_option maxRecDepth 16384

noncomputable section

open Idealize.ShloMosaic Idealize.ShloMosaic.TcCoe Idealize.SL.Sem
open scoped BigOperators

namespace Cert.CvInDxIdeal.Product

open Cert.CvInDxIdeal Cert.CvInDxIdeal.Gen Cert.CvInDxRefIdeal.Read

variable (m : (ℓ : Loc nD τ sig) → Buf (Elt Ideal) ℓ)

/-- Where each block of the call lies, at every grid point. -/
theorem idx_val : ∀ t : Fin cfg0.N, win0_0.index t = ![t.val / 4, t.val % 4]
    ∧ win0_1.index t = ![t.val % 4, 0, 0]
    ∧ win0_2.index t = ![t.val / 4, 0] :=
  (by decide +kernel : ∀ t : Fin grid0.N, _)

/-- One grid point's part of the product, from its two loads of each operand. -/
def part (a0 : Vec Ideal S512x512 .bf16) (b0 : Vec Ideal S1x2048x512 .bf16) (a1 : Vec Ideal S512x512 .bf16) (b1 : Vec Ideal S1x2048x512 .bf16)
    (y : S512x2048.Idx) : EReal :=
  (∑ k : Fin 512, a0 (ix2 (y 0) k) * b0 (ix3 0 (y 1) k)) + ∑ k : Fin 512, a1 (ix2 (y 0) k) * b1 (ix3 0 (y 1) k)

/-- The first point of a run stores its part. -/
theorem first_store (a0 b0 a1 b1) (y) : k0_pay2 (F := Ideal) a0 b0 a1 b1 y = 0 + part a0 b0 a1 b1 y := by
  rw [zero_add]
  unfold part
  pointwise [k0_pay2, k0_pay1]

/-- A later point adds its part to what the block held. -/
theorem next_store (a0 b0 a1 b1 acc) (y) : k0_pay3 (F := Ideal) a0 b0 a1 b1 acc y = acc y + part a0 b0 a1 b1 y := by
  unfold part
  pointwise [k0_pay3, k0_pay1]

/-- The carried block, read back through its whole view. -/
theorem hread (h : scM0_0.IsWhole) (X : Vec Ideal S512x2048 .f32) (j : S512x2048.Idx) :
    View.read (Elt Ideal) (View.whole cc0_scratch0) (h.unread X) j = X j :=
  congrFun (h.read_unread X) j

/-- At the last point of a run the result's block is the carried block. -/
theorem last_out (c : Dev nD) (t : Fin cfg0.N) (h2 : t.val % 4 = 3) :
    (outsAt0 m c t.val t.isLt).1 = (outsAt0 m c t.val t.isLt).2 := by
  rw [outsAt0_C m c t (by omega) (by omega) h2]
  frame_out

/-- The result array after the run. -/
theorem final (c : Dev nD) :
    (dats m 0 c).arrAt 2 (cfgs 0).N = val_main_v6 (F := Ideal) (m ((c : Thread nD τ).loc main_arg0)) (m ((c : Thread nD τ).loc main_arg1)) := by
  refine (dats m 0 c).arrAt_eq_of_covers 2 _ (by decide +kernel) fun t hf y => ?_
  blk_simp
  rw [after0_2, last_out m c t ((flush0_2 t).mp hf),
    Pipeline.eq_sum_fin_of_reset_step_apply_of_flush (fun n h => (outsAt0 m c n h).2) 4 (fun _ => (0 : EReal)) _
      (fun t h j => by
        rw [outsAt0_A m c t h (by omega) (by omega)]; frame_out; rw [first_store])
      (fun t h j => by
        by_cases h2 : t.val % 4 = 3
        · rw [outsAt0_C m c t h (by omega) h2]; frame_out; rw [next_store, hread]
        · rw [outsAt0_B m c t h (by omega) h2]; frame_out; rw [next_store, hread])
      t ((flush0_2 t).mp hf) _, zero_add]
  have href : ∀ (x0 x1) (j : S4096x2048.Idx), val_main_v6 (F := Ideal) x0 x1 j
      = ∑ l : Fin 4096, x0 (ix2 (j 0) l) * x1 (ix3 ⟨l.val / 512, by omega⟩ (j 1) ⟨l.val % 512, by omega⟩) := by
    intro x0 x1 j
    pointwise [val_main_v0, val_main_v1, val_main_v2, val_main_v3, val_main_v4, val_main_v5, val_main_v6]
  rw [href]
  unfold part
  refine Cert.Sums.halves (by rfl) (fun s k hl => ?_) (fun s k hl => ?_)
  · have e := idx_val ⟨_, Pipeline.run_point_lt_of_flush t ((flush0_2 t).mp hf) s⟩
    blk_point [iblk, V, idx_val t, e]
  · have e := idx_val ⟨_, Pipeline.run_point_lt_of_flush t ((flush0_2 t).mp hf) s⟩
    blk_point [iblk, V, idx_val t, e]

end Cert.CvInDxIdeal.Product

end
-- ==== Proof.CvInDw.lean ====
/- `CvInDw`: the block a grid point stores is the product's block, and the blocks tile the result. -/
module

public import proofs.«01_k».proof.Proof.Gen.CvInDwIdeal.Frame
public import proofs.«01_k».proof.Proof.Gen.CvInDwRefIdeal.Read
public import Idealize.ShloMosaic.Lib.Pipeline.ValueKit

@[expose] public section

set_option maxRecDepth 16384

noncomputable section

open Idealize.ShloMosaic Idealize.ShloMosaic.TcCoe Idealize.SL.Sem
open scoped BigOperators

namespace Cert.CvInDwIdeal.Product

open Cert.CvInDwIdeal Cert.CvInDwIdeal.Gen Cert.CvInDwRefIdeal.Read

variable (m : (ℓ : Loc nD τ sig) → Buf (Elt Ideal) ℓ)

/-- Where each block of the call lies, at every grid point. -/
theorem idx_val : ∀ t : Fin cfg0.N, win0_0.index t = ![0, t.val % 4]
    ∧ win0_1.index t = ![0, t.val / 4]
    ∧ win0_2.index t = ![t.val / 4, t.val % 4, 0] :=
  (by decide +kernel : ∀ t : Fin grid0.N, _)

/-- What the body stores at `y` of grid point `t` is the product there. -/
theorem point (c : Dev nD) (t : Fin cfg0.N) (y) :
    k0_pay1 (iblk m c 0 t) (iblk m c 1 t) y
      = val_main_v10 (F := Ideal) (m ((c : Thread nD τ).loc main_arg0)) (m ((c : Thread nD τ).loc main_arg1)) (((cfg0.win 2).blk t).view.emb y) := by
  pointwise [k0_pay1, val_main_v5, val_main_v1, val_main_v6, val_main_v7, val_main_v8, val_main_v9, val_main_v10]
  refine Fin.sum_fin_congr fun k => ?_
  refine (mul_comm (G := EReal) _ _).trans ?_
  blk_point [iblk, V, idx_val t]

/-- The result array after the run. -/
theorem final (c : Dev nD) :
    (dats m 0 c).arrAt 2 (cfgs 0).N = val_main_v10 (F := Ideal) (m ((c : Thread nD τ).loc main_arg0)) (m ((c : Thread nD τ).loc main_arg1)) := by
  refine (dats m 0 c).arrAt_eq_of_covers 2 _ (by decide +kernel) fun t hf y => ?_
  blk_simp
  rw [after0_2]
  frame_out
  exact point m c t y

end Cert.CvInDwIdeal.Product

end
-- ==== Proof.CvOutDx.lean ====
/- `CvOutDx`: the block a grid point stores is the product's block, and the blocks tile the result. -/
module

public import proofs.«01_k».proof.Proof.Gen.CvOutDxIdeal.Frame
public import proofs.«01_k».proof.Proof.Gen.CvOutDxRefIdeal.Read
public import Idealize.ShloMosaic.Lib.Pipeline.ValueKit

@[expose] public section

set_option maxRecDepth 16384

noncomputable section

open Idealize.ShloMosaic Idealize.ShloMosaic.TcCoe Idealize.SL.Sem
open scoped BigOperators

namespace Cert.CvOutDxIdeal.Product

open Cert.CvOutDxIdeal Cert.CvOutDxIdeal.Gen Cert.CvOutDxRefIdeal.Read

variable (m : (ℓ : Loc nD τ sig) → Buf (Elt Ideal) ℓ)

/-- Where each block of the call lies, at every grid point. -/
theorem idx_val : ∀ t : Fin cfg0.N, win0_0.index t = ![t.val / 4, 0]
    ∧ win0_1.index t = ![t.val % 4, 0]
    ∧ win0_2.index t = ![t.val / 4, t.val % 4] :=
  (by decide +kernel : ∀ t : Fin grid0.N, _)

/-- What the body stores at `y` of grid point `t` is the product there. -/
theorem point (c : Dev nD) (t : Fin cfg0.N) (y) :
    k0_pay1 (iblk m c 0 t) (iblk m c 1 t) y
      = val_main_v4 (F := Ideal) (m ((c : Thread nD τ).loc main_arg0)) (m ((c : Thread nD τ).loc main_arg1)) (((cfg0.win 2).blk t).view.emb y) := by
  pointwise [k0_pay1, val_main_cst, val_main_v0, val_main_v1, val_main_v2, val_main_v3, val_main_v4]
  blk_point [iblk, V, idx_val t]

/-- The result array after the run. -/
theorem final (c : Dev nD) :
    (dats m 0 c).arrAt 2 (cfgs 0).N = val_main_v4 (F := Ideal) (m ((c : Thread nD τ).loc main_arg0)) (m ((c : Thread nD τ).loc main_arg1)) := by
  refine (dats m 0 c).arrAt_eq_of_covers 2 _ (by decide +kernel) fun t hf y => ?_
  blk_simp
  rw [after0_2]
  frame_out
  exact point m c t y

end Cert.CvOutDxIdeal.Product

end
-- ==== Proof.CvOutDw.lean ====
/- `CvOutDw`: the block a grid point stores is the product's block, and the blocks tile the result. -/
module

public import proofs.«01_k».proof.Proof.Gen.CvOutDwIdeal.Frame
public import proofs.«01_k».proof.Proof.Gen.CvOutDwRefIdeal.Read
public import Idealize.ShloMosaic.Lib.Pipeline.ValueKit

@[expose] public section

set_option maxRecDepth 16384

noncomputable section

open Idealize.ShloMosaic Idealize.ShloMosaic.TcCoe Idealize.SL.Sem
open scoped BigOperators

namespace Cert.CvOutDwIdeal.Product

open Cert.CvOutDwIdeal Cert.CvOutDwIdeal.Gen Cert.CvOutDwRefIdeal.Read

variable (m : (ℓ : Loc nD τ sig) → Buf (Elt Ideal) ℓ)

/-- Where each block of the call lies, at every grid point. -/
theorem idx_val : ∀ t : Fin cfg0.N, win0_0.index t = ![0, t.val % 4]
    ∧ win0_1.index t = ![0, t.val / 4]
    ∧ win0_2.index t = ![t.val % 4, t.val / 4] :=
  (by decide +kernel : ∀ t : Fin grid0.N, _)

/-- What the body stores at `y` of grid point `t` is the product there. -/
theorem point (c : Dev nD) (t : Fin cfg0.N) (y) :
    k0_pay1 (iblk m c 0 t) (iblk m c 1 t) y
      = val_main_v6 (F := Ideal) (m ((c : Thread nD τ).loc main_arg0)) (m ((c : Thread nD τ).loc main_arg1)) (((cfg0.win 2).blk t).view.emb y) := by
  pointwise [k0_pay1, val_main_v3, val_main_v1, val_main_v4, val_main_v5, val_main_v6]
  refine Fin.sum_fin_congr fun k => ?_
  refine (mul_comm (G := EReal) _ _).trans ?_
  blk_point [iblk, V, idx_val t]

/-- The result array after the run. -/
theorem final (c : Dev nD) :
    (dats m 0 c).arrAt 2 (cfgs 0).N = val_main_v6 (F := Ideal) (m ((c : Thread nD τ).loc main_arg0)) (m ((c : Thread nD τ).loc main_arg1)) := by
  refine (dats m 0 c).arrAt_eq_of_covers 2 _ (by decide +kernel) fun t hf y => ?_
  blk_simp
  rw [after0_2]
  frame_out
  exact point m c t y

end Cert.CvOutDwIdeal.Product

end
-- ==== Proof.FfnUp.lean ====
/- `FfnUp`: the block a grid point stores is the product's block, and the blocks tile the result. -/
module

public import proofs.«01_k».proof.Proof.Gen.FfnUpIdeal.Frame
public import proofs.«01_k».proof.Proof.Gen.FfnUpRefIdeal.Read
public import Idealize.ShloMosaic.Lib.Pipeline.ValueKit

@[expose] public section

set_option maxRecDepth 16384

noncomputable section

open Idealize.ShloMosaic Idealize.ShloMosaic.TcCoe Idealize.SL.Sem
open scoped BigOperators

namespace Cert.FfnUpIdeal.Product

open Cert.FfnUpIdeal Cert.FfnUpIdeal.Gen Cert.FfnUpRefIdeal.Read

variable (m : (ℓ : Loc nD τ sig) → Buf (Elt Ideal) ℓ)

/-- Where each block of the call lies, at every grid point. -/
theorem idx_val : ∀ t : Fin cfg0.N, win0_0.index t = ![t.val % 8, 0]
    ∧ win0_1.index t = ![t.val / 8, 0, 0]
    ∧ win0_2.index t = ![t.val / 8 / 4, t.val % 8, t.val / 8 % 4] :=
  (by decide +kernel : ∀ t : Fin grid0.N, _)

/-- What the body stores at `y` of grid point `t` is the product there. -/
theorem point (c : Dev nD) (t : Fin cfg0.N) (y) :
    k0_pay1 (iblk m c 0 t) (iblk m c 1 t) y
      = val_main_v6 (F := Ideal) (m ((c : Thread nD τ).loc main_arg0)) (m ((c : Thread nD τ).loc main_arg1)) (((cfg0.win 2).blk t).view.emb y) := by
  pointwise [k0_pay1, val_main_v0, val_main_v1, val_main_v2, val_main_v3, val_main_v4, val_main_v5, val_main_v6]
  blk_point [iblk, V, idx_val t]

/-- The result array after the run. -/
theorem final (c : Dev nD) :
    (dats m 0 c).arrAt 2 (cfgs 0).N = val_main_v6 (F := Ideal) (m ((c : Thread nD τ).loc main_arg0)) (m ((c : Thread nD τ).loc main_arg1)) := by
  refine (dats m 0 c).arrAt_eq_of_covers 2 _ (by decide +kernel) fun t hf y => ?_
  blk_simp
  rw [after0_2]
  frame_out
  exact point m c t y

end Cert.FfnUpIdeal.Product

end
-- ==== Proof.FfnDown.lean ====
/- `FfnDown`: the block a grid point stores is the product's block, and the blocks tile the result. -/
module

public import proofs.«01_k».proof.Proof.Gen.FfnDownIdeal.Frame
public import proofs.«01_k».proof.Proof.Gen.FfnDownRefIdeal.Read
public import Idealize.ShloMosaic.Lib.Pipeline.ValueKit

@[expose] public section

set_option maxRecDepth 16384

noncomputable section

open Idealize.ShloMosaic Idealize.ShloMosaic.TcCoe Idealize.SL.Sem
open scoped BigOperators

namespace Cert.FfnDownIdeal.Product

open Cert.FfnDownIdeal Cert.FfnDownIdeal.Gen Cert.FfnDownRefIdeal.Read

variable (m : (ℓ : Loc nD τ sig) → Buf (Elt Ideal) ℓ)

/-- Where each block of the call lies, at every grid point. -/
theorem idx_val : ∀ t : Fin cfg0.N, win0_0.index t = ![t.val % 8, 0]
    ∧ win0_1.index t = ![0, t.val / 8]
    ∧ win0_2.index t = ![t.val % 8, t.val / 8]
    ∧ win0_3.index t = ![t.val % 8, t.val / 8] :=
  (by decide +kernel : ∀ t : Fin grid0.N, _)

/-- What the body stores at `y` of grid point `t` is the product there. -/
theorem point (c : Dev nD) (t : Fin cfg0.N) (y) :
    k0_pay1 (iblk m c 0 t) (iblk m c 1 t) (iblk m c 2 t) y
      = val_main_v3 (F := Ideal) (m ((c : Thread nD τ).loc main_arg0)) (m ((c : Thread nD τ).loc main_arg1)) (m ((c : Thread nD τ).loc main_arg2)) (((cfg0.win 3).blk t).view.emb y) := by
  pointwise [k0_pay1, val_main_v0, val_main_v1, val_main_v2, val_main_v3]
  blk_point [iblk, V, idx_val t]

/-- The result array after the run. -/
theorem final (c : Dev nD) :
    (dats m 0 c).arrAt 3 (cfgs 0).N = val_main_v3 (F := Ideal) (m ((c : Thread nD τ).loc main_arg0)) (m ((c : Thread nD τ).loc main_arg1)) (m ((c : Thread nD τ).loc main_arg2)) := by
  refine (dats m 0 c).arrAt_eq_of_covers 3 _ (by decide +kernel) fun t hf y => ?_
  blk_simp
  rw [after0_3]
  frame_out
  exact point m c t y

end Cert.FfnDownIdeal.Product

end
-- ==== Proof.SsmIn.lean ====
/- `SsmIn`: the block a grid point stores is the product's block, and the blocks tile the result. -/
module

public import proofs.«01_k».proof.Proof.Gen.SsmInIdeal.Frame
public import proofs.«01_k».proof.Proof.Gen.SsmInRefIdeal.Read
public import Idealize.ShloMosaic.Lib.Pipeline.ValueKit

@[expose] public section

set_option maxRecDepth 16384

noncomputable section

open Idealize.ShloMosaic Idealize.ShloMosaic.TcCoe Idealize.SL.Sem
open scoped BigOperators

namespace Cert.SsmInIdeal.Product

open Cert.SsmInIdeal Cert.SsmInIdeal.Gen Cert.SsmInRefIdeal.Read

variable (m : (ℓ : Loc nD τ sig) → Buf (Elt Ideal) ℓ)

/-- Where each block of the call lies, at every grid point. -/
theorem idx_val : ∀ t : Fin cfg0.N, win0_0.index t = ![t.val % 8, 0]
    ∧ win0_1.index t = ![t.val / 8, 0, 0]
    ∧ win0_2.index t = ![t.val % 8, t.val / 8] :=
  (by decide +kernel : ∀ t : Fin grid0.N, _)

/-- What the body stores at `y` of grid point `t` is the product there. -/
theorem point (c : Dev nD) (t : Fin cfg0.N) (y) :
    k0_pay1 (iblk m c 0 t) (iblk m c 1 t) y
      = val_main_v4 (F := Ideal) (m ((c : Thread nD τ).loc main_arg0)) (m ((c : Thread nD τ).loc main_arg1)) (((cfg0.win 2).blk t).view.emb y) := by
  pointwise [k0_pay1, val_main_v0, val_main_v1, val_main_v2, val_main_v3, val_main_v4]
  blk_point [iblk, V, idx_val t]

/-- The result array after the run. -/
theorem final (c : Dev nD) :
    (dats m 0 c).arrAt 2 (cfgs 0).N = val_main_v4 (F := Ideal) (m ((c : Thread nD τ).loc main_arg0)) (m ((c : Thread nD τ).loc main_arg1)) := by
  refine (dats m 0 c).arrAt_eq_of_covers 2 _ (by decide +kernel) fun t hf y => ?_
  blk_simp
  rw [after0_2]
  frame_out
  exact point m c t y

end Cert.SsmInIdeal.Product

end
-- ==== Proof.SsmOut.lean ====
/- `SsmOut`: the block a grid point stores is the product's block, and the blocks tile the result. -/
module

public import proofs.«01_k».proof.Proof.Gen.SsmOutIdeal.Frame
public import proofs.«01_k».proof.Proof.Gen.SsmOutRefIdeal.Read
public import Idealize.ShloMosaic.Lib.Pipeline.ValueKit

@[expose] public section

set_option maxRecDepth 16384

noncomputable section

open Idealize.ShloMosaic Idealize.ShloMosaic.TcCoe Idealize.SL.Sem
open scoped BigOperators

namespace Cert.SsmOutIdeal.Product

open Cert.SsmOutIdeal Cert.SsmOutIdeal.Gen Cert.SsmOutRefIdeal.Read

variable (m : (ℓ : Loc nD τ sig) → Buf (Elt Ideal) ℓ)

/-- Where each block of the call lies, at every grid point. -/
theorem idx_val : ∀ t : Fin cfg0.N, win0_0.index t = ![t.val % 8, 0]
    ∧ win0_1.index t = ![0, t.val / 8]
    ∧ win0_2.index t = ![t.val % 8, t.val / 8]
    ∧ win0_3.index t = ![t.val % 8, t.val / 8] :=
  (by decide +kernel : ∀ t : Fin grid0.N, _)

/-- What the body stores at `y` of grid point `t` is the product there. -/
theorem point (c : Dev nD) (t : Fin cfg0.N) (y) :
    k0_pay1 (iblk m c 0 t) (iblk m c 1 t) (iblk m c 2 t) y
      = val_main_v3 (F := Ideal) (m ((c : Thread nD τ).loc main_arg0)) (m ((c : Thread nD τ).loc main_arg1)) (m ((c : Thread nD τ).loc main_arg2)) (((cfg0.win 3).blk t).view.emb y) := by
  pointwise [k0_pay1, val_main_v0, val_main_v1, val_main_v2, val_main_v3]
  blk_point [iblk, V, idx_val t]

/-- The result array after the run. -/
theorem final (c : Dev nD) :
    (dats m 0 c).arrAt 3 (cfgs 0).N = val_main_v3 (F := Ideal) (m ((c : Thread nD τ).loc main_arg0)) (m ((c : Thread nD τ).loc main_arg1)) (m ((c : Thread nD τ).loc main_arg2)) := by
  refine (dats m 0 c).arrAt_eq_of_covers 3 _ (by decide +kernel) fun t hf y => ?_
  blk_simp
  rw [after0_3]
  frame_out
  exact point m c t y

end Cert.SsmOutIdeal.Product

end
-- ==== Proof.CvIn.lean ====
/- `CvIn`: the block a grid point stores is the product's block, and the blocks tile the result. -/
module

public import proofs.«01_k».proof.Proof.Gen.CvInIdeal.Frame
public import proofs.«01_k».proof.Proof.Gen.CvInRefIdeal.Read
public import Idealize.ShloMosaic.Lib.Pipeline.ValueKit

@[expose] public section

set_option maxRecDepth 16384

noncomputable section

open Idealize.ShloMosaic Idealize.ShloMosaic.TcCoe Idealize.SL.Sem
open scoped BigOperators

namespace Cert.CvInIdeal.Product

open Cert.CvInIdeal Cert.CvInIdeal.Gen Cert.CvInRefIdeal.Read

variable (m : (ℓ : Loc nD τ sig) → Buf (Elt Ideal) ℓ)

/-- Where each block of the call lies, at every grid point. -/
theorem idx_val : ∀ t : Fin cfg0.N, win0_0.index t = ![t.val % 8, 0]
    ∧ win0_1.index t = ![t.val / 8, 0, 0]
    ∧ win0_2.index t = ![0, t.val / 8]
    ∧ win0_3.index t = ![t.val % 8, t.val / 8] :=
  (by decide +kernel : ∀ t : Fin grid0.N, _)

/-- What the body stores at `y` of grid point `t` is the product there. -/
theorem point (c : Dev nD) (t : Fin cfg0.N) (y) :
    k0_pay1 (iblk m c 0 t) (iblk m c 1 t) (iblk m c 2 t) y
      = val_main_v6 (F := Ideal) (m ((c : Thread nD τ).loc main_arg0)) (m ((c : Thread nD τ).loc main_arg1)) (m ((c : Thread nD τ).loc main_arg2)) (((cfg0.win 3).blk t).view.emb y) := by
  pointwise [k0_pay1, val_main_v0, val_main_v1, val_main_v2, val_main_v3, val_main_v4, val_main_v5, val_main_v6]
  blk_point [iblk, V, idx_val t]

/-- The result array after the run. -/
theorem final (c : Dev nD) :
    (dats m 0 c).arrAt 3 (cfgs 0).N = val_main_v6 (F := Ideal) (m ((c : Thread nD τ).loc main_arg0)) (m ((c : Thread nD τ).loc main_arg1)) (m ((c : Thread nD τ).loc main_arg2)) := by
  refine (dats m 0 c).arrAt_eq_of_covers 3 _ (by decide +kernel) fun t hf y => ?_
  blk_simp
  rw [after0_3]
  frame_out
  exact point m c t y

end Cert.CvInIdeal.Product

end
-- ==== Proof.CvOut.lean ====
/- `CvOut`: the block a grid point stores is the product's block, and the blocks tile the result. -/
module

public import proofs.«01_k».proof.Proof.Gen.CvOutIdeal.Frame
public import proofs.«01_k».proof.Proof.Gen.CvOutRefIdeal.Read
public import Idealize.ShloMosaic.Lib.Pipeline.ValueKit

@[expose] public section

set_option maxRecDepth 16384

noncomputable section

open Idealize.ShloMosaic Idealize.ShloMosaic.TcCoe Idealize.SL.Sem
open scoped BigOperators

namespace Cert.CvOutIdeal.Product

open Cert.CvOutIdeal Cert.CvOutIdeal.Gen Cert.CvOutRefIdeal.Read

variable (m : (ℓ : Loc nD τ sig) → Buf (Elt Ideal) ℓ)

/-- Where each block of the call lies, at every grid point. -/
theorem idx_val : ∀ t : Fin cfg0.N, win0_0.index t = ![t.val % 8, 0]
    ∧ win0_1.index t = ![0, t.val / 8]
    ∧ win0_2.index t = ![t.val % 8, t.val / 8]
    ∧ win0_3.index t = ![0, t.val / 8]
    ∧ win0_4.index t = ![t.val % 8, t.val / 8] :=
  (by decide +kernel : ∀ t : Fin grid0.N, _)

/-- What the body stores at `y` of grid point `t` is the product there. -/
theorem point (c : Dev nD) (t : Fin cfg0.N) (y) :
    k0_pay1 (iblk m c 0 t) (iblk m c 1 t) (iblk m c 2 t) (iblk m c 3 t) y
      = val_main_v5 (F := Ideal) (m ((c : Thread nD τ).loc main_arg0)) (m ((c : Thread nD τ).loc main_arg1)) (m ((c : Thread nD τ).loc main_arg2)) (m ((c : Thread nD τ).loc main_arg3)) (((cfg0.win 4).blk t).view.emb y) := by
  pointwise [k0_pay1, val_main_v0, val_main_v1, val_main_v2, val_main_v3, val_main_v4, val_main_v5]
  refine (add_right_comm (G := EReal) _ _ _).trans ?_
  blk_point [iblk, V, idx_val t]

/-- The result array after the run. -/
theorem final (c : Dev nD) :
    (dats m 0 c).arrAt 4 (cfgs 0).N = val_main_v5 (F := Ideal) (m ((c : Thread nD τ).loc main_arg0)) (m ((c : Thread nD τ).loc main_arg1)) (m ((c : Thread nD τ).loc main_arg2)) (m ((c : Thread nD τ).loc main_arg3)) := by
  refine (dats m 0 c).arrAt_eq_of_covers 4 _ (by decide +kernel) fun t hf y => ?_
  blk_simp
  rw [after0_4]
  frame_out
  exact point m c t y

end Cert.CvOutIdeal.Product

end
-- ==== Proof.Opt.Update.lean ====
/- The optimiser's update of one entry of a weight, as functions of the entry. -/
module

public import Idealize.ShloMosaic.Lib.Pipeline.ValueKit

@[expose] public section

noncomputable section

open Idealize.ShloMosaic

namespace Cert.Update

/-- The first moment, from the old one and the gradient. -/
def first (m g : EReal) : EReal :=
  Ideal.ofBits FTy.f32 1063675494#32 * m + Ideal.ofBits FTy.f32 1036831949#32 * g

/-- The second moment, from the old one and the gradient. -/
def second (v g : EReal) : EReal :=
  Ideal.ofBits FTy.f32 1065336439#32 * v + Ideal.ofBits FTy.f32 981668463#32 * (g * g)

/-- The change of the weight `w` whose new moments are `m` and `v`. -/
def change (w m v : EReal) : EReal :=
  Ideal.ofBits FTy.f32 3129152111#32 *
    (Ideal.div (Ideal.div m (Ideal.ofBits FTy.f32 1059503362#32))
        (Ideal.sqrt (Ideal.div v (Ideal.ofBits FTy.f32 1008933580#32)) + Ideal.ofBits FTy.f32 841731191#32)
      + Ideal.ofBits FTy.f32 1008981770#32 * w)

end Cert.Update

end
-- ==== Proof.Opt.AdamCvIn.lean ====
/- `AdamCvIn`: the optimiser's step of one weight, the gradient being the sum of the eight parts received. -/
module

public import proofs.«01_k».proof.Proof.Gen.AdamCvInIdeal.Frame
public import proofs.«01_k».proof.Proof.Gen.AdamCvInRefIdeal.Read
public import proofs.«01_k».proof.Proof.Opt.Update

@[expose] public section

set_option maxRecDepth 16384

noncomputable section

open Idealize.ShloMosaic Idealize.ShloMosaic.TcCoe Idealize.SL.Sem
open scoped BigOperators

namespace Cert.AdamCvInIdeal.Step

open Cert.AdamCvInIdeal Cert.AdamCvInIdeal.Gen Cert.AdamCvInRefIdeal.Read

variable (m : (ℓ : Loc nD τ sig) → Buf (Elt Ideal) ℓ)

/-- Where each block of the call lies, at every grid point. -/
theorem idx_val : ∀ t : Fin cfg0.N, win0_2.index t = ![t.val / 4, t.val % 4, 0]
    ∧ win0_3.index t = ![t.val / 4, t.val % 4, 0]
    ∧ win0_4.index t = ![t.val / 4, t.val % 4, 0]
    ∧ win0_5.index t = ![t.val / 4, t.val % 4, 0]
    ∧ win0_6.index t = ![t.val / 4, t.val % 4, 0]
    ∧ win0_7.index t = ![t.val / 4, t.val % 4, 0]
    ∧ win0_8.index t = ![t.val / 4, t.val % 4, 0] :=
  (by decide +kernel : ∀ t : Fin grid0.N, _)

/-- The first layer's received parts move with its grid points. -/
theorem recv_0 : ∀ t : Fin cfg0.N, t.val < 4 → win0_0.index t = ![0, t.val % 4, 0] :=
  (by decide +kernel : ∀ t : Fin grid0.N, _)

/-- The second layer's received parts move with its grid points. -/
theorem recv_1 : ∀ t : Fin cfg0.N, ¬ t.val < 4 → win0_1.index t = ![0, t.val % 4, 0] :=
  (by decide +kernel : ∀ t : Fin grid0.N, _)

/-- The reference's gradient of the first layer. -/
theorem ref_0 (x0 x1) (i : S2x2048x512.Idx) (h : (i 0).val = 0) :
    val_main_v6 (F := Ideal) x0 x1 i = ∑ s : Fin 8, x0 (ix3 s (i 1) (i 2)) := by
  pointwise [val_main_cst, val_main_v0, val_main_v1, val_main_v4, val_main_v6, zero_add]
  rw [dif_pos (by omega)]

/-- The reference's gradient of the second layer. -/
theorem ref_1 (x0 x1) (i : S2x2048x512.Idx) (h : (i 0).val = 1) :
    val_main_v6 (F := Ideal) x0 x1 i = ∑ s : Fin 8, x1 (ix3 s (i 1) (i 2)) := by
  pointwise [val_main_cst_0, val_main_v2, val_main_v3, val_main_v5, val_main_v6, zero_add]
  rw [dif_neg (by omega)]

/-- The reference's first moment, entry by entry. -/
theorem ref_first (x0 x1 x3) (i) :
    val_main_v11 (F := Ideal) x0 x1 x3 i = Update.first (x3 i) (val_main_v6 (F := Ideal) x0 x1 i) := by
  pointwise [Update.first, val_main_v7, val_main_v8, val_main_v9, val_main_v10, val_main_v11, val_main_cst_1, val_main_cst_2]

/-- The reference's second moment, entry by entry. -/
theorem ref_second (x0 x1 x4) (i) :
    val_main_v17 (F := Ideal) x0 x1 x4 i = Update.second (x4 i) (val_main_v6 (F := Ideal) x0 x1 i) := by
  pointwise [Update.second, val_main_v12, val_main_v13, val_main_v14, val_main_v15, val_main_v16, val_main_v17, val_main_cst_3, val_main_cst_4]

/-- The reference's change of the weight, entry by entry. -/
theorem ref_change (x0 x1 x2 x3 x4) (i) :
    val_main_v30 (F := Ideal) x0 x1 x2 x3 x4 i
      = Update.change (x2 i) (val_main_v11 (F := Ideal) x0 x1 x3 i) (val_main_v17 (F := Ideal) x0 x1 x4 i) := by
  pointwise [Update.change, val_main_v18, val_main_v19, val_main_v20, val_main_v21, val_main_v22, val_main_v23, val_main_v24, val_main_v25, val_main_v26, val_main_v27, val_main_v28, val_main_v29, val_main_v30, val_main_cst_5, val_main_cst_6, val_main_cst_7, val_main_cst_8, val_main_cst_9]

/-- Where an entry of the blocks of a grid point lies in the whole arrays. -/
def pos (t : Fin cfg0.N) (y : S1x512x512.Idx) : S2x2048x512.Idx :=
  ix3 ⟨t.val / 4, by have ht : t.val < 8 := t.isLt; omega⟩
    ⟨t.val % 4 * 512 + (y 1).val, by have hy : (y 1).val < 512 := (y 1).isLt; omega⟩ (y 2)

theorem pos_5 (t : Fin cfg0.N) (y) : ((cfg0.win 5).blk t).view.emb y = pos t y := by
  blk_ext [pos, idx_val t]

theorem pos_6 (t : Fin cfg0.N) (y) : ((cfg0.win 6).blk t).view.emb y = pos t y := by
  blk_ext [pos, idx_val t]

theorem pos_7 (t : Fin cfg0.N) (y) : ((cfg0.win 7).blk t).view.emb y = pos t y := by
  blk_ext [pos, idx_val t]

theorem pos_8 (t : Fin cfg0.N) (y) : ((cfg0.win 8).blk t).view.emb y = pos t y := by
  blk_ext [pos, idx_val t]

theorem read_2 (c : Dev nD) (t : Fin cfg0.N) (y) :
    iblk m c 2 t y = m ((c : Thread nD τ).loc main_arg2) (pos t y) := by
  blk_point [iblk, V, pos, idx_val t]

theorem read_3 (c : Dev nD) (t : Fin cfg0.N) (y) :
    iblk m c 3 t y = m ((c : Thread nD τ).loc main_arg3) (pos t y) := by
  blk_point [iblk, V, pos, idx_val t]

theorem read_4 (c : Dev nD) (t : Fin cfg0.N) (y) :
    iblk m c 4 t y = m ((c : Thread nD τ).loc main_arg4) (pos t y) := by
  blk_point [iblk, V, pos, idx_val t]

/-- The block of the gradient stored at a grid point. -/
theorem grad (c : Dev nD) (t : Fin cfg0.N) (y) :
    (outsAt0 m c t.val t.isLt).1 y = val_main_v6 (F := Ideal) (m ((c : Thread nD τ).loc main_arg0)) (m ((c : Thread nD τ).loc main_arg1)) (pos t y) := by
  have ht : t.val < 8 := t.isLt
  by_cases h : t.val < 4
  · rw [outsAt0_A m c t h (by omega), ref_0 _ _ _ (by show t.val / 4 = 0; omega)]
    frame_out
    pointwise [k0_pay9, k0_pay5, Fin.sum_univ_eight, pos]
    blk_point [iblk, V, idx_val t, recv_0 t h]
  · rw [outsAt0_B m c t h (by omega), ref_1 _ _ _ (by show t.val / 4 = 1; omega)]
    frame_out
    pointwise [k0_pay15, k0_pay11, Fin.sum_univ_eight, pos]
    blk_point [iblk, V, idx_val t, recv_1 t h]

/-- The other blocks stored at a grid point, from the gradient's. -/
theorem rest (c : Dev nD) (t : Fin cfg0.N) (y) :
    (outsAt0 m c t.val t.isLt).2.2.1 y = Update.first (iblk m c 3 t y) ((outsAt0 m c t.val t.isLt).1 y)
    ∧ (outsAt0 m c t.val t.isLt).2.2.2 y = Update.second (iblk m c 4 t y) ((outsAt0 m c t.val t.isLt).1 y)
    ∧ (outsAt0 m c t.val t.isLt).2.1 y = Update.change (iblk m c 2 t y) ((outsAt0 m c t.val t.isLt).2.2.1 y) ((outsAt0 m c t.val t.isLt).2.2.2 y) := by
  by_cases h : t.val < 4
  · rw [outsAt0_A m c t h (by omega)]
    refine ⟨?_, ?_, ?_⟩ <;> frame_out <;>
      pointwise [Update.first, Update.second, Update.change, k0_pay1, k0_pay2, k0_pay6, k0_pay7, k0_pay8, k0_pay9, k0_pay10]
  · rw [outsAt0_B m c t h (by omega)]
    refine ⟨?_, ?_, ?_⟩ <;> frame_out <;>
      pointwise [Update.first, Update.second, Update.change, k0_pay3, k0_pay4, k0_pay12, k0_pay13, k0_pay14, k0_pay15, k0_pay16]

/-- The gradient's array. -/
theorem final_g (c : Dev nD) :
    (dats m 0 c).arrAt 5 cfg0.N = val_main_v6 (F := Ideal) (m ((c : Thread nD τ).loc main_arg0)) (m ((c : Thread nD τ).loc main_arg1)) := by
  refine (dats m 0 c).arrAt_eq_of_covers 5 _ (by decide +kernel) fun t hf y => ?_
  rw [after0_5, pos_5]
  exact grad m c t y

/-- The first moment's array. -/
theorem final_m (c : Dev nD) :
    (dats m 0 c).arrAt 7 cfg0.N = val_main_v11 (F := Ideal) (m ((c : Thread nD τ).loc main_arg0)) (m ((c : Thread nD τ).loc main_arg1)) (m ((c : Thread nD τ).loc main_arg3)) := by
  refine (dats m 0 c).arrAt_eq_of_covers 7 _ (by decide +kernel) fun t hf y => ?_
  rw [after0_7, pos_7, (rest m c t y).1, grad, ref_first, read_3]
  rfl

/-- The second moment's array. -/
theorem final_v (c : Dev nD) :
    (dats m 0 c).arrAt 8 cfg0.N = val_main_v17 (F := Ideal) (m ((c : Thread nD τ).loc main_arg0)) (m ((c : Thread nD τ).loc main_arg1)) (m ((c : Thread nD τ).loc main_arg4)) := by
  refine (dats m 0 c).arrAt_eq_of_covers 8 _ (by decide +kernel) fun t hf y => ?_
  rw [after0_8, pos_8, (rest m c t y).2.1, grad, ref_second, read_4]
  rfl

/-- The array of the change of the weight. -/
theorem final_d (c : Dev nD) :
    (dats m 0 c).arrAt 6 cfg0.N = val_main_v30 (F := Ideal) (m ((c : Thread nD τ).loc main_arg0)) (m ((c : Thread nD τ).loc main_arg1)) (m ((c : Thread nD τ).loc main_arg2)) (m ((c : Thread nD τ).loc main_arg3)) (m ((c : Thread nD τ).loc main_arg4)) := by
  refine (dats m 0 c).arrAt_eq_of_covers 6 _ (by decide +kernel) fun t hf y => ?_
  rw [after0_6, pos_6, (rest m c t y).2.2, (rest m c t y).1, (rest m c t y).2.1, grad, ref_change, ref_first,
    ref_second, read_2, read_3, read_4]
  rfl

end Cert.AdamCvInIdeal.Step

end
-- ==== Proof.Opt.AdamCvOut.lean ====
/- `AdamCvOut`: the optimiser's step of one weight, the gradient being the sum of the eight parts received. -/
module

public import proofs.«01_k».proof.Proof.Gen.AdamCvOutIdeal.Frame
public import proofs.«01_k».proof.Proof.Gen.AdamCvOutRefIdeal.Read
public import proofs.«01_k».proof.Proof.Opt.Update

@[expose] public section

set_option maxRecDepth 16384

noncomputable section

open Idealize.ShloMosaic Idealize.ShloMosaic.TcCoe Idealize.SL.Sem
open scoped BigOperators

namespace Cert.AdamCvOutIdeal.Step

open Cert.AdamCvOutIdeal Cert.AdamCvOutIdeal.Gen Cert.AdamCvOutRefIdeal.Read

variable (m : (ℓ : Loc nD τ sig) → Buf (Elt Ideal) ℓ)

/-- Where each block of the call lies, at every grid point. -/
theorem idx_val : ∀ t : Fin cfg0.N, win0_2.index t = ![t.val / 2, t.val % 2, 0]
    ∧ win0_3.index t = ![t.val / 2, t.val % 2, 0]
    ∧ win0_4.index t = ![t.val / 2, t.val % 2, 0]
    ∧ win0_5.index t = ![t.val / 2, t.val % 2, 0]
    ∧ win0_6.index t = ![t.val / 2, t.val % 2, 0]
    ∧ win0_7.index t = ![t.val / 2, t.val % 2, 0]
    ∧ win0_8.index t = ![t.val / 2, t.val % 2, 0] :=
  (by decide +kernel : ∀ t : Fin grid0.N, _)

/-- The first layer's received parts move with its grid points. -/
theorem recv_0 : ∀ t : Fin cfg0.N, t.val < 2 → win0_0.index t = ![0, t.val % 2, 0] :=
  (by decide +kernel : ∀ t : Fin grid0.N, _)

/-- The second layer's received parts move with its grid points. -/
theorem recv_1 : ∀ t : Fin cfg0.N, ¬ t.val < 2 → win0_1.index t = ![0, t.val % 2, 0] :=
  (by decide +kernel : ∀ t : Fin grid0.N, _)

/-- The reference's gradient of the first layer. -/
theorem ref_0 (x0 x1) (i : S2x256x2048.Idx) (h : (i 0).val = 0) :
    val_main_v6 (F := Ideal) x0 x1 i = ∑ s : Fin 8, x0 (ix3 s (i 1) (i 2)) := by
  pointwise [val_main_cst, val_main_v0, val_main_v1, val_main_v4, val_main_v6, zero_add]
  rw [dif_pos (by omega)]

/-- The reference's gradient of the second layer. -/
theorem ref_1 (x0 x1) (i : S2x256x2048.Idx) (h : (i 0).val = 1) :
    val_main_v6 (F := Ideal) x0 x1 i = ∑ s : Fin 8, x1 (ix3 s (i 1) (i 2)) := by
  pointwise [val_main_cst_0, val_main_v2, val_main_v3, val_main_v5, val_main_v6, zero_add]
  rw [dif_neg (by omega)]

/-- The reference's first moment, entry by entry. -/
theorem ref_first (x0 x1 x3) (i) :
    val_main_v11 (F := Ideal) x0 x1 x3 i = Update.first (x3 i) (val_main_v6 (F := Ideal) x0 x1 i) := by
  pointwise [Update.first, val_main_v7, val_main_v8, val_main_v9, val_main_v10, val_main_v11, val_main_cst_1, val_main_cst_2]

/-- The reference's second moment, entry by entry. -/
theorem ref_second (x0 x1 x4) (i) :
    val_main_v17 (F := Ideal) x0 x1 x4 i = Update.second (x4 i) (val_main_v6 (F := Ideal) x0 x1 i) := by
  pointwise [Update.second, val_main_v12, val_main_v13, val_main_v14, val_main_v15, val_main_v16, val_main_v17, val_main_cst_3, val_main_cst_4]

/-- The reference's change of the weight, entry by entry. -/
theorem ref_change (x0 x1 x2 x3 x4) (i) :
    val_main_v30 (F := Ideal) x0 x1 x2 x3 x4 i
      = Update.change (x2 i) (val_main_v11 (F := Ideal) x0 x1 x3 i)
          (val_main_v17 (F := Ideal) x0 x1 x4 i) := by
  pointwise [Update.change, val_main_v18, val_main_v19, val_main_v20, val_main_v21, val_main_v22, val_main_v23, val_main_v24, val_main_v25, val_main_v26, val_main_v27, val_main_v28, val_main_v29, val_main_v30,
    val_main_cst_5, val_main_cst_6, val_main_cst_7, val_main_cst_8, val_main_cst_9]

/-- Where an entry of the blocks of a grid point lies in the whole arrays. -/
def pos (t : Fin cfg0.N) (y : S1x128x2048.Idx) : S2x256x2048.Idx :=
  ix3 ⟨t.val / 2, by have ht : t.val < 4 := t.isLt; omega⟩
    ⟨t.val % 2 * 128 + (y 1).val, by have hy : (y 1).val < 128 := (y 1).isLt; omega⟩ (y 2)

theorem pos_5 (t : Fin cfg0.N) (y) : ((cfg0.win 5).blk t).view.emb y = pos t y := by
  blk_ext [pos, idx_val t]

theorem pos_6 (t : Fin cfg0.N) (y) : ((cfg0.win 6).blk t).view.emb y = pos t y := by
  blk_ext [pos, idx_val t]

theorem pos_7 (t : Fin cfg0.N) (y) : ((cfg0.win 7).blk t).view.emb y = pos t y := by
  blk_ext [pos, idx_val t]

theorem pos_8 (t : Fin cfg0.N) (y) : ((cfg0.win 8).blk t).view.emb y = pos t y := by
  blk_ext [pos, idx_val t]

theorem read_2 (c : Dev nD) (t : Fin cfg0.N) (y) :
    iblk m c 2 t y = m ((c : Thread nD τ).loc main_arg2) (pos t y) := by
  blk_point [iblk, V, pos, idx_val t]

theorem read_3 (c : Dev nD) (t : Fin cfg0.N) (y) :
    iblk m c 3 t y = m ((c : Thread nD τ).loc main_arg3) (pos t y) := by
  blk_point [iblk, V, pos, idx_val t]

theorem read_4 (c : Dev nD) (t : Fin cfg0.N) (y) :
    iblk m c 4 t y = m ((c : Thread nD τ).loc main_arg4) (pos t y) := by
  blk_point [iblk, V, pos, idx_val t]

/-- The block of the gradient stored at a grid point. -/
theorem grad (c : Dev nD) (t : Fin cfg0.N) (y) :
    (outsAt0 m c t.val t.isLt).1 y = val_main_v6 (F := Ideal) (m ((c : Thread nD τ).loc main_arg0)) (m ((c : Thread nD τ).loc main_arg1)) (pos t y) := by
  have ht : t.val < 4 := t.isLt
  by_cases h : t.val < 2
  · rw [outsAt0_A m c t h (by omega), ref_0 _ _ _ (by show t.val / 2 = 0; omega)]
    frame_out
    pointwise [k0_pay9, k0_pay5, Fin.sum_univ_eight, pos]
    blk_point [iblk, V, idx_val t, recv_0 t h]
  · rw [outsAt0_B m c t h (by omega), ref_1 _ _ _ (by show t.val / 2 = 1; omega)]
    frame_out
    pointwise [k0_pay15, k0_pay11, Fin.sum_univ_eight, pos]
    blk_point [iblk, V, idx_val t, recv_1 t h]

/-- The other blocks stored at a grid point, from the gradient's. -/
theorem rest (c : Dev nD) (t : Fin cfg0.N) (y) :
    (outsAt0 m c t.val t.isLt).2.2.1 y = Update.first (iblk m c 3 t y) ((outsAt0 m c t.val t.isLt).1 y)
    ∧ (outsAt0 m c t.val t.isLt).2.2.2 y = Update.second (iblk m c 4 t y) ((outsAt0 m c t.val t.isLt).1 y)
    ∧ (outsAt0 m c t.val t.isLt).2.1 y = Update.change (iblk m c 2 t y)
        ((outsAt0 m c t.val t.isLt).2.2.1 y) ((outsAt0 m c t.val t.isLt).2.2.2 y) := by
  have ht : t.val < 4 := t.isLt
  by_cases h : t.val < 2
  · rw [outsAt0_A m c t h (by omega)]
    refine ⟨?_, ?_, ?_⟩ <;> frame_out <;>
      pointwise [Update.first, Update.second, Update.change, k0_pay1, k0_pay2, k0_pay6, k0_pay7, k0_pay8, k0_pay9, k0_pay10]
  · rw [outsAt0_B m c t h (by omega)]
    refine ⟨?_, ?_, ?_⟩ <;> frame_out <;>
      pointwise [Update.first, Update.second, Update.change, k0_pay3, k0_pay4, k0_pay12, k0_pay13, k0_pay14, k0_pay15, k0_pay16]

/-- The gradient's array. -/
theorem final_g (c : Dev nD) :
    (dats m 0 c).arrAt 5 cfg0.N = val_main_v6 (F := Ideal) (m ((c : Thread nD τ).loc main_arg0)) (m ((c : Thread nD τ).loc main_arg1)) := by
  refine (dats m 0 c).arrAt_eq_of_covers 5 _ (by decide +kernel) fun t hf y => ?_
  rw [after0_5, pos_5]
  exact grad m c t y

/-- The first moment's array. -/
theorem final_m (c : Dev nD) :
    (dats m 0 c).arrAt 7 cfg0.N = val_main_v11 (F := Ideal) (m ((c : Thread nD τ).loc main_arg0)) (m ((c : Thread nD τ).loc main_arg1)) (m ((c : Thread nD τ).loc main_arg3)) := by
  refine (dats m 0 c).arrAt_eq_of_covers 7 _ (by decide +kernel) fun t hf y => ?_
  rw [after0_7, pos_7, (rest m c t y).1, grad, ref_first, read_3]
  rfl

/-- The second moment's array. -/
theorem final_v (c : Dev nD) :
    (dats m 0 c).arrAt 8 cfg0.N = val_main_v17 (F := Ideal) (m ((c : Thread nD τ).loc main_arg0)) (m ((c : Thread nD τ).loc main_arg1)) (m ((c : Thread nD τ).loc main_arg4)) := by
  refine (dats m 0 c).arrAt_eq_of_covers 8 _ (by decide +kernel) fun t hf y => ?_
  rw [after0_8, pos_8, (rest m c t y).2.1, grad, ref_second, read_4]
  rfl

/-- The array of the change of the weight. -/
theorem final_d (c : Dev nD) :
    (dats m 0 c).arrAt 6 cfg0.N = val_main_v30 (F := Ideal) (m ((c : Thread nD τ).loc main_arg0)) (m ((c : Thread nD τ).loc main_arg1)) (m ((c : Thread nD τ).loc main_arg2)) (m ((c : Thread nD τ).loc main_arg3)) (m ((c : Thread nD τ).loc main_arg4)) := by
  refine (dats m 0 c).arrAt_eq_of_covers 6 _ (by decide +kernel) fun t hf y => ?_
  rw [after0_6, pos_6, (rest m c t y).2.2, (rest m c t y).1, (rest m c t y).2.1, grad, ref_change,
    ref_first, ref_second, read_2, read_3, read_4]
  rfl

end Cert.AdamCvOutIdeal.Step

end
-- ==== Proof.Opt.AdamSsmIn.lean ====
/- `AdamSsmIn`: the optimiser's step of one weight, the gradient being the sum of the eight parts received. -/
module

public import proofs.«01_k».proof.Proof.Gen.AdamSsmInIdeal.Frame
public import proofs.«01_k».proof.Proof.Gen.AdamSsmInRefIdeal.Read
public import proofs.«01_k».proof.Proof.Opt.Update

@[expose] public section

set_option maxRecDepth 16384

noncomputable section

open Idealize.ShloMosaic Idealize.ShloMosaic.TcCoe Idealize.SL.Sem
open scoped BigOperators

namespace Cert.AdamSsmInIdeal.Step

open Cert.AdamSsmInIdeal Cert.AdamSsmInIdeal.Gen Cert.AdamSsmInRefIdeal.Read

variable (m : (ℓ : Loc nD τ sig) → Buf (Elt Ideal) ℓ)

/-- Where each block of the call lies, at every grid point. -/
theorem idx_val : ∀ t : Fin cfg0.N, win0_2.index t = ![t.val / 16, t.val % 16, 0]
    ∧ win0_3.index t = ![t.val / 16, t.val % 16, 0]
    ∧ win0_4.index t = ![t.val / 16, t.val % 16, 0]
    ∧ win0_5.index t = ![t.val / 16, t.val % 16, 0]
    ∧ win0_6.index t = ![t.val / 16, t.val % 16, 0]
    ∧ win0_7.index t = ![t.val / 16, t.val % 16, 0]
    ∧ win0_8.index t = ![t.val / 16, t.val % 16, 0] :=
  (by decide +kernel : ∀ t : Fin grid0.N, _)

/-- The first layer's received parts move with its grid points. -/
theorem recv_0 : ∀ t : Fin cfg0.N, t.val < 16 → win0_0.index t = ![0, t.val % 16, 0] :=
  (by decide +kernel : ∀ t : Fin grid0.N, _)

/-- The second layer's received parts move with its grid points. -/
theorem recv_1 : ∀ t : Fin cfg0.N, ¬ t.val < 16 → win0_1.index t = ![0, t.val % 16, 0] :=
  (by decide +kernel : ∀ t : Fin grid0.N, _)

/-- The reference's gradient of the first layer. -/
theorem ref_0 (x0 x1) (i : S2x2048x1408.Idx) (h : (i 0).val = 0) :
    val_main_v6 (F := Ideal) x0 x1 i = ∑ s : Fin 8, x0 (ix3 s (i 1) (i 2)) := by
  pointwise [val_main_cst, val_main_v0, val_main_v1, val_main_v4, val_main_v6, zero_add]
  rw [dif_pos (by omega)]

/-- The reference's gradient of the second layer. -/
theorem ref_1 (x0 x1) (i : S2x2048x1408.Idx) (h : (i 0).val = 1) :
    val_main_v6 (F := Ideal) x0 x1 i = ∑ s : Fin 8, x1 (ix3 s (i 1) (i 2)) := by
  pointwise [val_main_cst_0, val_main_v2, val_main_v3, val_main_v5, val_main_v6, zero_add]
  rw [dif_neg (by omega)]

/-- The reference's first moment, entry by entry. -/
theorem ref_first (x0 x1 x3) (i) :
    val_main_v11 (F := Ideal) x0 x1 x3 i = Update.first (x3 i) (val_main_v6 (F := Ideal) x0 x1 i) := by
  pointwise [Update.first, val_main_v7, val_main_v8, val_main_v9, val_main_v10, val_main_v11, val_main_cst_1, val_main_cst_2]

/-- The reference's second moment, entry by entry. -/
theorem ref_second (x0 x1 x4) (i) :
    val_main_v17 (F := Ideal) x0 x1 x4 i = Update.second (x4 i) (val_main_v6 (F := Ideal) x0 x1 i) := by
  pointwise [Update.second, val_main_v12, val_main_v13, val_main_v14, val_main_v15, val_main_v16, val_main_v17, val_main_cst_3, val_main_cst_4]

/-- The reference's change of the weight, entry by entry. -/
theorem ref_change (x0 x1 x2 x3 x4) (i) :
    val_main_v30 (F := Ideal) x0 x1 x2 x3 x4 i
      = Update.change (x2 i) (val_main_v11 (F := Ideal) x0 x1 x3 i)
          (val_main_v17 (F := Ideal) x0 x1 x4 i) := by
  pointwise [Update.change, val_main_v18, val_main_v19, val_main_v20, val_main_v21, val_main_v22, val_main_v23, val_main_v24, val_main_v25, val_main_v26, val_main_v27, val_main_v28, val_main_v29, val_main_v30,
    val_main_cst_5, val_main_cst_6, val_main_cst_7, val_main_cst_8, val_main_cst_9]

/-- Where an entry of the blocks of a grid point lies in the whole arrays. -/
def pos (t : Fin cfg0.N) (y : S1x128x1408.Idx) : S2x2048x1408.Idx :=
  ix3 ⟨t.val / 16, by have ht : t.val < 32 := t.isLt; omega⟩
    ⟨t.val % 16 * 128 + (y 1).val, by have hy : (y 1).val < 128 := (y 1).isLt; omega⟩ (y 2)

theorem pos_5 (t : Fin cfg0.N) (y) : ((cfg0.win 5).blk t).view.emb y = pos t y := by
  blk_ext [pos, idx_val t]

theorem pos_6 (t : Fin cfg0.N) (y) : ((cfg0.win 6).blk t).view.emb y = pos t y := by
  blk_ext [pos, idx_val t]

theorem pos_7 (t : Fin cfg0.N) (y) : ((cfg0.win 7).blk t).view.emb y = pos t y := by
  blk_ext [pos, idx_val t]

theorem pos_8 (t : Fin cfg0.N) (y) : ((cfg0.win 8).blk t).view.emb y = pos t y := by
  blk_ext [pos, idx_val t]

theorem read_2 (c : Dev nD) (t : Fin cfg0.N) (y) :
    iblk m c 2 t y = m ((c : Thread nD τ).loc main_arg2) (pos t y) := by
  blk_point [iblk, V, pos, idx_val t]

theorem read_3 (c : Dev nD) (t : Fin cfg0.N) (y) :
    iblk m c 3 t y = m ((c : Thread nD τ).loc main_arg3) (pos t y) := by
  blk_point [iblk, V, pos, idx_val t]

theorem read_4 (c : Dev nD) (t : Fin cfg0.N) (y) :
    iblk m c 4 t y = m ((c : Thread nD τ).loc main_arg4) (pos t y) := by
  blk_point [iblk, V, pos, idx_val t]

/-- The block of the gradient stored at a grid point. -/
theorem grad (c : Dev nD) (t : Fin cfg0.N) (y) :
    (outsAt0 m c t.val t.isLt).1 y = val_main_v6 (F := Ideal) (m ((c : Thread nD τ).loc main_arg0)) (m ((c : Thread nD τ).loc main_arg1)) (pos t y) := by
  have ht : t.val < 32 := t.isLt
  by_cases h : t.val < 16
  · rw [outsAt0_A m c t h (by omega), ref_0 _ _ _ (by show t.val / 16 = 0; omega)]
    frame_out
    pointwise [k0_pay9, k0_pay5, Fin.sum_univ_eight, pos]
    blk_point [iblk, V, idx_val t, recv_0 t h]
  · rw [outsAt0_B m c t h (by omega), ref_1 _ _ _ (by show t.val / 16 = 1; omega)]
    frame_out
    pointwise [k0_pay15, k0_pay11, Fin.sum_univ_eight, pos]
    blk_point [iblk, V, idx_val t, recv_1 t h]

/-- The other blocks stored at a grid point, from the gradient's. -/
theorem rest (c : Dev nD) (t : Fin cfg0.N) (y) :
    (outsAt0 m c t.val t.isLt).2.2.1 y = Update.first (iblk m c 3 t y) ((outsAt0 m c t.val t.isLt).1 y)
    ∧ (outsAt0 m c t.val t.isLt).2.2.2 y = Update.second (iblk m c 4 t y) ((outsAt0 m c t.val t.isLt).1 y)
    ∧ (outsAt0 m c t.val t.isLt).2.1 y = Update.change (iblk m c 2 t y)
        ((outsAt0 m c t.val t.isLt).2.2.1 y) ((outsAt0 m c t.val t.isLt).2.2.2 y) := by
  have ht : t.val < 32 := t.isLt
  by_cases h : t.val < 16
  · rw [outsAt0_A m c t h (by omega)]
    refine ⟨?_, ?_, ?_⟩ <;> frame_out <;>
      pointwise [Update.first, Update.second, Update.change, k0_pay1, k0_pay2, k0_pay6, k0_pay7, k0_pay8, k0_pay9, k0_pay10]
  · rw [outsAt0_B m c t h (by omega)]
    refine ⟨?_, ?_, ?_⟩ <;> frame_out <;>
      pointwise [Update.first, Update.second, Update.change, k0_pay3, k0_pay4, k0_pay12, k0_pay13, k0_pay14, k0_pay15, k0_pay16]

/-- The gradient's array. -/
theorem final_g (c : Dev nD) :
    (dats m 0 c).arrAt 5 cfg0.N = val_main_v6 (F := Ideal) (m ((c : Thread nD τ).loc main_arg0)) (m ((c : Thread nD τ).loc main_arg1)) := by
  refine (dats m 0 c).arrAt_eq_of_covers 5 _ (by decide +kernel) fun t hf y => ?_
  rw [after0_5, pos_5]
  exact grad m c t y

/-- The first moment's array. -/
theorem final_m (c : Dev nD) :
    (dats m 0 c).arrAt 7 cfg0.N = val_main_v11 (F := Ideal) (m ((c : Thread nD τ).loc main_arg0)) (m ((c : Thread nD τ).loc main_arg1)) (m ((c : Thread nD τ).loc main_arg3)) := by
  refine (dats m 0 c).arrAt_eq_of_covers 7 _ (by decide +kernel) fun t hf y => ?_
  rw [after0_7, pos_7, (rest m c t y).1, grad, ref_first, read_3]
  rfl

/-- The second moment's array. -/
theorem final_v (c : Dev nD) :
    (dats m 0 c).arrAt 8 cfg0.N = val_main_v17 (F := Ideal) (m ((c : Thread nD τ).loc main_arg0)) (m ((c : Thread nD τ).loc main_arg1)) (m ((c : Thread nD τ).loc main_arg4)) := by
  refine (dats m 0 c).arrAt_eq_of_covers 8 _ (by decide +kernel) fun t hf y => ?_
  rw [after0_8, pos_8, (rest m c t y).2.1, grad, ref_second, read_4]
  rfl

/-- The array of the change of the weight. -/
theorem final_d (c : Dev nD) :
    (dats m 0 c).arrAt 6 cfg0.N = val_main_v30 (F := Ideal) (m ((c : Thread nD τ).loc main_arg0)) (m ((c : Thread nD τ).loc main_arg1)) (m ((c : Thread nD τ).loc main_arg2)) (m ((c : Thread nD τ).loc main_arg3)) (m ((c : Thread nD τ).loc main_arg4)) := by
  refine (dats m 0 c).arrAt_eq_of_covers 6 _ (by decide +kernel) fun t hf y => ?_
  rw [after0_6, pos_6, (rest m c t y).2.2, (rest m c t y).1, (rest m c t y).2.1, grad, ref_change,
    ref_first, ref_second, read_2, read_3, read_4]
  rfl

end Cert.AdamSsmInIdeal.Step

end
-- ==== Proof.Opt.AdamSsmOut.lean ====
/- `AdamSsmOut`: the optimiser's step of one weight, the gradient being the sum of the eight parts received. -/
module

public import proofs.«01_k».proof.Proof.Gen.AdamSsmOutIdeal.Frame
public import proofs.«01_k».proof.Proof.Gen.AdamSsmOutRefIdeal.Read
public import proofs.«01_k».proof.Proof.Opt.Update

@[expose] public section

set_option maxRecDepth 16384

noncomputable section

open Idealize.ShloMosaic Idealize.ShloMosaic.TcCoe Idealize.SL.Sem
open scoped BigOperators

namespace Cert.AdamSsmOutIdeal.Step

open Cert.AdamSsmOutIdeal Cert.AdamSsmOutIdeal.Gen Cert.AdamSsmOutRefIdeal.Read

variable (m : (ℓ : Loc nD τ sig) → Buf (Elt Ideal) ℓ)

/-- Where each block of the call lies, at every grid point. -/
theorem idx_val : ∀ t : Fin cfg0.N, win0_2.index t = ![t.val / 4, t.val % 4, 0]
    ∧ win0_3.index t = ![t.val / 4, t.val % 4, 0]
    ∧ win0_4.index t = ![t.val / 4, t.val % 4, 0]
    ∧ win0_5.index t = ![t.val / 4, t.val % 4, 0]
    ∧ win0_6.index t = ![t.val / 4, t.val % 4, 0]
    ∧ win0_7.index t = ![t.val / 4, t.val % 4, 0]
    ∧ win0_8.index t = ![t.val / 4, t.val % 4, 0] :=
  (by decide +kernel : ∀ t : Fin grid0.N, _)

/-- The first layer's received parts move with its grid points. -/
theorem recv_0 : ∀ t : Fin cfg0.N, t.val < 4 → win0_0.index t = ![0, t.val % 4, 0] :=
  (by decide +kernel : ∀ t : Fin grid0.N, _)

/-- The second layer's received parts move with its grid points. -/
theorem recv_1 : ∀ t : Fin cfg0.N, ¬ t.val < 4 → win0_1.index t = ![0, t.val % 4, 0] :=
  (by decide +kernel : ∀ t : Fin grid0.N, _)

/-- The reference's gradient of the first layer. -/
theorem ref_0 (x0 x1) (i : S2x512x2048.Idx) (h : (i 0).val = 0) :
    val_main_v6 (F := Ideal) x0 x1 i = ∑ s : Fin 8, x0 (ix3 s (i 1) (i 2)) := by
  pointwise [val_main_cst, val_main_v0, val_main_v1, val_main_v4, val_main_v6, zero_add]
  rw [dif_pos (by omega)]

/-- The reference's gradient of the second layer. -/
theorem ref_1 (x0 x1) (i : S2x512x2048.Idx) (h : (i 0).val = 1) :
    val_main_v6 (F := Ideal) x0 x1 i = ∑ s : Fin 8, x1 (ix3 s (i 1) (i 2)) := by
  pointwise [val_main_cst_0, val_main_v2, val_main_v3, val_main_v5, val_main_v6, zero_add]
  rw [dif_neg (by omega)]

/-- The reference's first moment, entry by entry. -/
theorem ref_first (x0 x1 x3) (i) :
    val_main_v11 (F := Ideal) x0 x1 x3 i = Update.first (x3 i) (val_main_v6 (F := Ideal) x0 x1 i) := by
  pointwise [Update.first, val_main_v7, val_main_v8, val_main_v9, val_main_v10, val_main_v11, val_main_cst_1, val_main_cst_2]

/-- The reference's second moment, entry by entry. -/
theorem ref_second (x0 x1 x4) (i) :
    val_main_v17 (F := Ideal) x0 x1 x4 i = Update.second (x4 i) (val_main_v6 (F := Ideal) x0 x1 i) := by
  pointwise [Update.second, val_main_v12, val_main_v13, val_main_v14, val_main_v15, val_main_v16, val_main_v17, val_main_cst_3, val_main_cst_4]

/-- The reference's change of the weight, entry by entry. -/
theorem ref_change (x0 x1 x2 x3 x4) (i) :
    val_main_v30 (F := Ideal) x0 x1 x2 x3 x4 i
      = Update.change (x2 i) (val_main_v11 (F := Ideal) x0 x1 x3 i)
          (val_main_v17 (F := Ideal) x0 x1 x4 i) := by
  pointwise [Update.change, val_main_v18, val_main_v19, val_main_v20, val_main_v21, val_main_v22, val_main_v23, val_main_v24, val_main_v25, val_main_v26, val_main_v27, val_main_v28, val_main_v29, val_main_v30,
    val_main_cst_5, val_main_cst_6, val_main_cst_7, val_main_cst_8, val_main_cst_9]

/-- Where an entry of the blocks of a grid point lies in the whole arrays. -/
def pos (t : Fin cfg0.N) (y : S1x128x2048.Idx) : S2x512x2048.Idx :=
  ix3 ⟨t.val / 4, by have ht : t.val < 8 := t.isLt; omega⟩
    ⟨t.val % 4 * 128 + (y 1).val, by have hy : (y 1).val < 128 := (y 1).isLt; omega⟩ (y 2)

theorem pos_5 (t : Fin cfg0.N) (y) : ((cfg0.win 5).blk t).view.emb y = pos t y := by
  blk_ext [pos, idx_val t]

theorem pos_6 (t : Fin cfg0.N) (y) : ((cfg0.win 6).blk t).view.emb y = pos t y := by
  blk_ext [pos, idx_val t]

theorem pos_7 (t : Fin cfg0.N) (y) : ((cfg0.win 7).blk t).view.emb y = pos t y := by
  blk_ext [pos, idx_val t]

theorem pos_8 (t : Fin cfg0.N) (y) : ((cfg0.win 8).blk t).view.emb y = pos t y := by
  blk_ext [pos, idx_val t]

theorem read_2 (c : Dev nD) (t : Fin cfg0.N) (y) :
    iblk m c 2 t y = m ((c : Thread nD τ).loc main_arg2) (pos t y) := by
  blk_point [iblk, V, pos, idx_val t]

theorem read_3 (c : Dev nD) (t : Fin cfg0.N) (y) :
    iblk m c 3 t y = m ((c : Thread nD τ).loc main_arg3) (pos t y) := by
  blk_point [iblk, V, pos, idx_val t]

theorem read_4 (c : Dev nD) (t : Fin cfg0.N) (y) :
    iblk m c 4 t y = m ((c : Thread nD τ).loc main_arg4) (pos t y) := by
  blk_point [iblk, V, pos, idx_val t]

/-- The block of the gradient stored at a grid point. -/
theorem grad (c : Dev nD) (t : Fin cfg0.N) (y) :
    (outsAt0 m c t.val t.isLt).1 y = val_main_v6 (F := Ideal) (m ((c : Thread nD τ).loc main_arg0)) (m ((c : Thread nD τ).loc main_arg1)) (pos t y) := by
  have ht : t.val < 8 := t.isLt
  by_cases h : t.val < 4
  · rw [outsAt0_A m c t h (by omega), ref_0 _ _ _ (by show t.val / 4 = 0; omega)]
    frame_out
    pointwise [k0_pay9, k0_pay5, Fin.sum_univ_eight, pos]
    blk_point [iblk, V, idx_val t, recv_0 t h]
  · rw [outsAt0_B m c t h (by omega), ref_1 _ _ _ (by show t.val / 4 = 1; omega)]
    frame_out
    pointwise [k0_pay15, k0_pay11, Fin.sum_univ_eight, pos]
    blk_point [iblk, V, idx_val t, recv_1 t h]

/-- The other blocks stored at a grid point, from the gradient's. -/
theorem rest (c : Dev nD) (t : Fin cfg0.N) (y) :
    (outsAt0 m c t.val t.isLt).2.2.1 y = Update.first (iblk m c 3 t y) ((outsAt0 m c t.val t.isLt).1 y)
    ∧ (outsAt0 m c t.val t.isLt).2.2.2 y = Update.second (iblk m c 4 t y) ((outsAt0 m c t.val t.isLt).1 y)
    ∧ (outsAt0 m c t.val t.isLt).2.1 y = Update.change (iblk m c 2 t y)
        ((outsAt0 m c t.val t.isLt).2.2.1 y) ((outsAt0 m c t.val t.isLt).2.2.2 y) := by
  have ht : t.val < 8 := t.isLt
  by_cases h : t.val < 4
  · rw [outsAt0_A m c t h (by omega)]
    refine ⟨?_, ?_, ?_⟩ <;> frame_out <;>
      pointwise [Update.first, Update.second, Update.change, k0_pay1, k0_pay2, k0_pay6, k0_pay7, k0_pay8, k0_pay9, k0_pay10]
  · rw [outsAt0_B m c t h (by omega)]
    refine ⟨?_, ?_, ?_⟩ <;> frame_out <;>
      pointwise [Update.first, Update.second, Update.change, k0_pay3, k0_pay4, k0_pay12, k0_pay13, k0_pay14, k0_pay15, k0_pay16]

/-- The gradient's array. -/
theorem final_g (c : Dev nD) :
    (dats m 0 c).arrAt 5 cfg0.N = val_main_v6 (F := Ideal) (m ((c : Thread nD τ).loc main_arg0)) (m ((c : Thread nD τ).loc main_arg1)) := by
  refine (dats m 0 c).arrAt_eq_of_covers 5 _ (by decide +kernel) fun t hf y => ?_
  rw [after0_5, pos_5]
  exact grad m c t y

/-- The first moment's array. -/
theorem final_m (c : Dev nD) :
    (dats m 0 c).arrAt 7 cfg0.N = val_main_v11 (F := Ideal) (m ((c : Thread nD τ).loc main_arg0)) (m ((c : Thread nD τ).loc main_arg1)) (m ((c : Thread nD τ).loc main_arg3)) := by
  refine (dats m 0 c).arrAt_eq_of_covers 7 _ (by decide +kernel) fun t hf y => ?_
  rw [after0_7, pos_7, (rest m c t y).1, grad, ref_first, read_3]
  rfl

/-- The second moment's array. -/
theorem final_v (c : Dev nD) :
    (dats m 0 c).arrAt 8 cfg0.N = val_main_v17 (F := Ideal) (m ((c : Thread nD τ).loc main_arg0)) (m ((c : Thread nD τ).loc main_arg1)) (m ((c : Thread nD τ).loc main_arg4)) := by
  refine (dats m 0 c).arrAt_eq_of_covers 8 _ (by decide +kernel) fun t hf y => ?_
  rw [after0_8, pos_8, (rest m c t y).2.1, grad, ref_second, read_4]
  rfl

/-- The array of the change of the weight. -/
theorem final_d (c : Dev nD) :
    (dats m 0 c).arrAt 6 cfg0.N = val_main_v30 (F := Ideal) (m ((c : Thread nD τ).loc main_arg0)) (m ((c : Thread nD τ).loc main_arg1)) (m ((c : Thread nD τ).loc main_arg2)) (m ((c : Thread nD τ).loc main_arg3)) (m ((c : Thread nD τ).loc main_arg4)) := by
  refine (dats m 0 c).arrAt_eq_of_covers 6 _ (by decide +kernel) fun t hf y => ?_
  rw [after0_6, pos_6, (rest m c t y).2.2, (rest m c t y).1, (rest m c t y).2.1, grad, ref_change,
    ref_first, ref_second, read_2, read_3, read_4]
  rfl

end Cert.AdamSsmOutIdeal.Step

end
-- ==== Proof.Opt.AdamFfnUp.lean ====
/- `AdamFfnUp`: the optimiser's step of one weight, the gradient being the sum of the eight parts received. -/
module

public import proofs.«01_k».proof.Proof.Gen.AdamFfnUpIdeal.Frame
public import proofs.«01_k».proof.Proof.Gen.AdamFfnUpRefIdeal.Read
public import proofs.«01_k».proof.Proof.Opt.Update

@[expose] public section

set_option maxRecDepth 16384

noncomputable section

open Idealize.ShloMosaic Idealize.ShloMosaic.TcCoe Idealize.SL.Sem
open scoped BigOperators

namespace Cert.AdamFfnUpIdeal.Step

open Cert.AdamFfnUpIdeal Cert.AdamFfnUpIdeal.Gen Cert.AdamFfnUpRefIdeal.Read

variable (m : (ℓ : Loc nD τ sig) → Buf (Elt Ideal) ℓ)

/-- Where each block of the call lies, at every grid point. -/
theorem idx_val : ∀ t : Fin cfg0.N, win0_4.index t = ![t.val / 16, t.val % 16, 0]
    ∧ win0_5.index t = ![t.val / 16, t.val % 16, 0]
    ∧ win0_6.index t = ![t.val / 16, t.val % 16, 0]
    ∧ win0_7.index t = ![t.val / 16, t.val % 16, 0]
    ∧ win0_8.index t = ![t.val / 16, t.val % 16, 0]
    ∧ win0_9.index t = ![t.val / 16, t.val % 16, 0]
    ∧ win0_10.index t = ![t.val / 16, t.val % 16, 0] :=
  (by decide +kernel : ∀ t : Fin grid0.N, _)

/-- The first layer's received parts move with its grid points. -/
theorem recv_0 : ∀ t : Fin cfg0.N, t.val / 16 = 0 → win0_0.index t = ![0, t.val % 16, 0] :=
  (by decide +kernel : ∀ t : Fin grid0.N, _)

/-- The second layer's received parts move with its grid points. -/
theorem recv_1 : ∀ t : Fin cfg0.N, t.val / 16 = 1 → win0_1.index t = ![0, t.val % 16, 0] :=
  (by decide +kernel : ∀ t : Fin grid0.N, _)

/-- The third layer's received parts move with its grid points. -/
theorem recv_2 : ∀ t : Fin cfg0.N, t.val / 16 = 2 → win0_2.index t = ![0, t.val % 16, 0] :=
  (by decide +kernel : ∀ t : Fin grid0.N, _)

/-- The fourth layer's received parts move with its grid points. -/
theorem recv_3 : ∀ t : Fin cfg0.N, t.val / 16 = 3 → win0_3.index t = ![0, t.val % 16, 0] :=
  (by decide +kernel : ∀ t : Fin grid0.N, _)

/-- The reference's gradient of the first layer. -/
theorem ref_0 (x0 x1 x2 x3) (i : S4x2048x1408.Idx) (h : (i 0).val = 0) :
    val_main_v12 (F := Ideal) x0 x1 x2 x3 i = ∑ s : Fin 8, x0 (ix3 s (i 1) (i 2)) := by
  pointwise [val_main_cst, val_main_v0, val_main_v1, val_main_v8, val_main_v12, zero_add]
  simp only [h, Nat.reduceLT, dite_true, dite_false, Nat.reduceSub]

/-- The reference's gradient of the second layer. -/
theorem ref_1 (x0 x1 x2 x3) (i : S4x2048x1408.Idx) (h : (i 0).val = 1) :
    val_main_v12 (F := Ideal) x0 x1 x2 x3 i = ∑ s : Fin 8, x1 (ix3 s (i 1) (i 2)) := by
  pointwise [val_main_cst_0, val_main_v2, val_main_v3, val_main_v9, val_main_v12, zero_add]
  simp only [h, Nat.reduceLT, dite_true, dite_false, Nat.reduceSub]

/-- The reference's gradient of the third layer. -/
theorem ref_2 (x0 x1 x2 x3) (i : S4x2048x1408.Idx) (h : (i 0).val = 2) :
    val_main_v12 (F := Ideal) x0 x1 x2 x3 i = ∑ s : Fin 8, x2 (ix3 s (i 1) (i 2)) := by
  pointwise [val_main_cst_1, val_main_v4, val_main_v5, val_main_v10, val_main_v12, zero_add]
  simp only [h, Nat.reduceLT, dite_true, dite_false, Nat.reduceSub]

/-- The reference's gradient of the fourth layer. -/
theorem ref_3 (x0 x1 x2 x3) (i : S4x2048x1408.Idx) (h : (i 0).val = 3) :
    val_main_v12 (F := Ideal) x0 x1 x2 x3 i = ∑ s : Fin 8, x3 (ix3 s (i 1) (i 2)) := by
  pointwise [val_main_cst_2, val_main_v6, val_main_v7, val_main_v11, val_main_v12, zero_add]
  simp only [h, Nat.reduceLT, dite_true, dite_false, Nat.reduceSub]

/-- The reference's first moment, entry by entry. -/
theorem ref_first (x0 x1 x2 x3 x5) (i) :
    val_main_v17 (F := Ideal) x0 x1 x2 x3 x5 i = Update.first (x5 i) (val_main_v12 (F := Ideal) x0 x1 x2 x3 i) := by
  pointwise [Update.first, val_main_v13, val_main_v14, val_main_v15, val_main_v16, val_main_v17, val_main_cst_3, val_main_cst_4]

/-- The reference's second moment, entry by entry. -/
theorem ref_second (x0 x1 x2 x3 x6) (i) :
    val_main_v23 (F := Ideal) x0 x1 x2 x3 x6 i = Update.second (x6 i) (val_main_v12 (F := Ideal) x0 x1 x2 x3 i) := by
  pointwise [Update.second, val_main_v18, val_main_v19, val_main_v20, val_main_v21, val_main_v22, val_main_v23, val_main_cst_5, val_main_cst_6]

/-- The reference's change of the weight, entry by entry. -/
theorem ref_change (x0 x1 x2 x3 x4 x5 x6) (i) :
    val_main_v36 (F := Ideal) x0 x1 x2 x3 x4 x5 x6 i
      = Update.change (x4 i) (val_main_v17 (F := Ideal) x0 x1 x2 x3 x5 i)
          (val_main_v23 (F := Ideal) x0 x1 x2 x3 x6 i) := by
  pointwise [Update.change, val_main_v24, val_main_v25, val_main_v26, val_main_v27, val_main_v28, val_main_v29, val_main_v30, val_main_v31, val_main_v32, val_main_v33, val_main_v34, val_main_v35, val_main_v36,
    val_main_cst_7, val_main_cst_8, val_main_cst_9, val_main_cst_10, val_main_cst_11]

/-- Where an entry of the blocks of a grid point lies in the whole arrays. -/
def pos (t : Fin cfg0.N) (y : S1x128x1408.Idx) : S4x2048x1408.Idx :=
  ix3 ⟨t.val / 16, by have ht : t.val < 64 := t.isLt; omega⟩
    ⟨t.val % 16 * 128 + (y 1).val, by have hy : (y 1).val < 128 := (y 1).isLt; omega⟩ (y 2)

theorem pos_7 (t : Fin cfg0.N) (y) : ((cfg0.win 7).blk t).view.emb y = pos t y := by
  blk_ext [pos, idx_val t]

theorem pos_8 (t : Fin cfg0.N) (y) : ((cfg0.win 8).blk t).view.emb y = pos t y := by
  blk_ext [pos, idx_val t]

theorem pos_9 (t : Fin cfg0.N) (y) : ((cfg0.win 9).blk t).view.emb y = pos t y := by
  blk_ext [pos, idx_val t]

theorem pos_10 (t : Fin cfg0.N) (y) : ((cfg0.win 10).blk t).view.emb y = pos t y := by
  blk_ext [pos, idx_val t]

theorem read_4 (c : Dev nD) (t : Fin cfg0.N) (y) :
    iblk m c 4 t y = m ((c : Thread nD τ).loc main_arg4) (pos t y) := by
  blk_point [iblk, V, pos, idx_val t]

theorem read_5 (c : Dev nD) (t : Fin cfg0.N) (y) :
    iblk m c 5 t y = m ((c : Thread nD τ).loc main_arg5) (pos t y) := by
  blk_point [iblk, V, pos, idx_val t]

theorem read_6 (c : Dev nD) (t : Fin cfg0.N) (y) :
    iblk m c 6 t y = m ((c : Thread nD τ).loc main_arg6) (pos t y) := by
  blk_point [iblk, V, pos, idx_val t]

/-- The block of the gradient stored at a grid point. -/
theorem grad (c : Dev nD) (t : Fin cfg0.N) (y) :
    (outsAt0 m c t.val t.isLt).1 y = val_main_v12 (F := Ideal) (m ((c : Thread nD τ).loc main_arg0)) (m ((c : Thread nD τ).loc main_arg1)) (m ((c : Thread nD τ).loc main_arg2)) (m ((c : Thread nD τ).loc main_arg3)) (pos t y) := by
  have ht : t.val < 64 := t.isLt
  obtain h | h | h | h : t.val / 16 = 0 ∨ t.val / 16 = 1 ∨ t.val / 16 = 2 ∨ t.val / 16 = 3 := by omega
  · rw [outsAt0_A m c t (by omega) (by omega) (by omega) (by omega), ref_0 _ _ _ _ _ (by show t.val / 16 = 0; omega)]
    frame_out
    pointwise [k0_pay13, k0_pay9, Fin.sum_univ_eight, pos]
    blk_point [iblk, V, idx_val t, recv_0 t h]
  · rw [outsAt0_B m c t (by omega) (by omega) (by omega) (by omega), ref_1 _ _ _ _ _ (by show t.val / 16 = 1; omega)]
    frame_out
    pointwise [k0_pay19, k0_pay15, Fin.sum_univ_eight, pos]
    blk_point [iblk, V, idx_val t, recv_1 t h]
  · rw [outsAt0_C m c t (by omega) (by omega) (by omega) (by omega), ref_2 _ _ _ _ _ (by show t.val / 16 = 2; omega)]
    frame_out
    pointwise [k0_pay25, k0_pay21, Fin.sum_univ_eight, pos]
    blk_point [iblk, V, idx_val t, recv_2 t h]
  · rw [outsAt0_D m c t (by omega) (by omega) (by omega) (by omega), ref_3 _ _ _ _ _ (by show t.val / 16 = 3; omega)]
    frame_out
    pointwise [k0_pay31, k0_pay27, Fin.sum_univ_eight, pos]
    blk_point [iblk, V, idx_val t, recv_3 t h]

/-- The other blocks stored at a grid point, from the gradient's. -/
theorem rest (c : Dev nD) (t : Fin cfg0.N) (y) :
    (outsAt0 m c t.val t.isLt).2.2.1 y = Update.first (iblk m c 5 t y) ((outsAt0 m c t.val t.isLt).1 y)
    ∧ (outsAt0 m c t.val t.isLt).2.2.2 y = Update.second (iblk m c 6 t y) ((outsAt0 m c t.val t.isLt).1 y)
    ∧ (outsAt0 m c t.val t.isLt).2.1 y = Update.change (iblk m c 4 t y)
        ((outsAt0 m c t.val t.isLt).2.2.1 y) ((outsAt0 m c t.val t.isLt).2.2.2 y) := by
  have ht : t.val < 64 := t.isLt
  obtain h | h | h | h : t.val / 16 = 0 ∨ t.val / 16 = 1 ∨ t.val / 16 = 2 ∨ t.val / 16 = 3 := by omega
  · rw [outsAt0_A m c t (by omega) (by omega) (by omega) (by omega)]
    refine ⟨?_, ?_, ?_⟩ <;> frame_out <;>
      pointwise [Update.first, Update.second, Update.change, k0_pay1, k0_pay2, k0_pay10, k0_pay11, k0_pay12, k0_pay13, k0_pay14]
  · rw [outsAt0_B m c t (by omega) (by omega) (by omega) (by omega)]
    refine ⟨?_, ?_, ?_⟩ <;> frame_out <;>
      pointwise [Update.first, Update.second, Update.change, k0_pay3, k0_pay4, k0_pay16, k0_pay17, k0_pay18, k0_pay19, k0_pay20]
  · rw [outsAt0_C m c t (by omega) (by omega) (by omega) (by omega)]
    refine ⟨?_, ?_, ?_⟩ <;> frame_out <;>
      pointwise [Update.first, Update.second, Update.change, k0_pay5, k0_pay6, k0_pay22, k0_pay23, k0_pay24, k0_pay25, k0_pay26]
  · rw [outsAt0_D m c t (by omega) (by omega) (by omega) (by omega)]
    refine ⟨?_, ?_, ?_⟩ <;> frame_out <;>
      pointwise [Update.first, Update.second, Update.change, k0_pay7, k0_pay8, k0_pay28, k0_pay29, k0_pay30, k0_pay31, k0_pay32]

/-- The gradient's array. -/
theorem final_g (c : Dev nD) :
    (dats m 0 c).arrAt 7 cfg0.N = val_main_v12 (F := Ideal) (m ((c : Thread nD τ).loc main_arg0)) (m ((c : Thread nD τ).loc main_arg1)) (m ((c : Thread nD τ).loc main_arg2)) (m ((c : Thread nD τ).loc main_arg3)) := by
  refine (dats m 0 c).arrAt_eq_of_covers 7 _ (by decide +kernel) fun t hf y => ?_
  rw [after0_7, pos_7]
  exact grad m c t y

/-- The first moment's array. -/
theorem final_m (c : Dev nD) :
    (dats m 0 c).arrAt 9 cfg0.N = val_main_v17 (F := Ideal) (m ((c : Thread nD τ).loc main_arg0)) (m ((c : Thread nD τ).loc main_arg1)) (m ((c : Thread nD τ).loc main_arg2)) (m ((c : Thread nD τ).loc main_arg3)) (m ((c : Thread nD τ).loc main_arg5)) := by
  refine (dats m 0 c).arrAt_eq_of_covers 9 _ (by decide +kernel) fun t hf y => ?_
  rw [after0_9, pos_9, (rest m c t y).1, grad, ref_first, read_5]
  rfl

/-- The second moment's array. -/
theorem final_v (c : Dev nD) :
    (dats m 0 c).arrAt 10 cfg0.N = val_main_v23 (F := Ideal) (m ((c : Thread nD τ).loc main_arg0)) (m ((c : Thread nD τ).loc main_arg1)) (m ((c : Thread nD τ).loc main_arg2)) (m ((c : Thread nD τ).loc main_arg3)) (m ((c : Thread nD τ).loc main_arg6)) := by
  refine (dats m 0 c).arrAt_eq_of_covers 10 _ (by decide +kernel) fun t hf y => ?_
  rw [after0_10, pos_10, (rest m c t y).2.1, grad, ref_second, read_6]
  rfl

/-- The array of the change of the weight. -/
theorem final_d (c : Dev nD) :
    (dats m 0 c).arrAt 8 cfg0.N = val_main_v36 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) := by
  refine (dats m 0 c).arrAt_eq_of_covers 8 _ (by decide +kernel) fun t hf y => ?_
  rw [after0_8, pos_8, (rest m c t y).2.2, (rest m c t y).1, (rest m c t y).2.1, grad, ref_change,
    ref_first, ref_second, read_4, read_5, read_6]
  rfl

end Cert.AdamFfnUpIdeal.Step

end
-- ==== Proof.Opt.AdamFfnDown.lean ====
/- `AdamFfnDown`: the optimiser's step of one weight, the gradient being the sum of the eight parts received. -/
module

public import proofs.«01_k».proof.Proof.Gen.AdamFfnDownIdeal.Frame
public import proofs.«01_k».proof.Proof.Gen.AdamFfnDownRefIdeal.Read
public import proofs.«01_k».proof.Proof.Opt.Update

@[expose] public section

set_option maxRecDepth 16384

noncomputable section

open Idealize.ShloMosaic Idealize.ShloMosaic.TcCoe Idealize.SL.Sem
open scoped BigOperators

namespace Cert.AdamFfnDownIdeal.Step

open Cert.AdamFfnDownIdeal Cert.AdamFfnDownIdeal.Gen Cert.AdamFfnDownRefIdeal.Read

variable (m : (ℓ : Loc nD τ sig) → Buf (Elt Ideal) ℓ)

/-- Where each block of the call lies, at every grid point. -/
theorem idx_val : ∀ t : Fin cfg0.N, win0_4.index t = ![t.val / 8, t.val % 8, 0]
    ∧ win0_5.index t = ![t.val / 8, t.val % 8, 0]
    ∧ win0_6.index t = ![t.val / 8, t.val % 8, 0]
    ∧ win0_7.index t = ![t.val / 8, t.val % 8, 0]
    ∧ win0_8.index t = ![t.val / 8, t.val % 8, 0]
    ∧ win0_9.index t = ![t.val / 8, t.val % 8, 0]
    ∧ win0_10.index t = ![t.val / 8, t.val % 8, 0] :=
  (by decide +kernel : ∀ t : Fin grid0.N, _)

/-- The first layer's received parts move with its grid points. -/
theorem recv_0 : ∀ t : Fin cfg0.N, t.val / 8 = 0 → win0_0.index t = ![0, t.val % 8, 0] :=
  (by decide +kernel : ∀ t : Fin grid0.N, _)

/-- The second layer's received parts move with its grid points. -/
theorem recv_1 : ∀ t : Fin cfg0.N, t.val / 8 = 1 → win0_1.index t = ![0, t.val % 8, 0] :=
  (by decide +kernel : ∀ t : Fin grid0.N, _)

/-- The third layer's received parts move with its grid points. -/
theorem recv_2 : ∀ t : Fin cfg0.N, t.val / 8 = 2 → win0_2.index t = ![0, t.val % 8, 0] :=
  (by decide +kernel : ∀ t : Fin grid0.N, _)

/-- The fourth layer's received parts move with its grid points. -/
theorem recv_3 : ∀ t : Fin cfg0.N, t.val / 8 = 3 → win0_3.index t = ![0, t.val % 8, 0] :=
  (by decide +kernel : ∀ t : Fin grid0.N, _)

/-- The reference's gradient of the first layer. -/
theorem ref_0 (x0 x1 x2 x3) (i : S4x704x2048.Idx) (h : (i 0).val = 0) :
    val_main_v12 (F := Ideal) x0 x1 x2 x3 i = ∑ s : Fin 8, x0 (ix3 s (i 1) (i 2)) := by
  pointwise [val_main_cst, val_main_v0, val_main_v1, val_main_v8, val_main_v12, zero_add]
  simp only [h, Nat.reduceLT, dite_true, dite_false, Nat.reduceSub]

/-- The reference's gradient of the second layer. -/
theorem ref_1 (x0 x1 x2 x3) (i : S4x704x2048.Idx) (h : (i 0).val = 1) :
    val_main_v12 (F := Ideal) x0 x1 x2 x3 i = ∑ s : Fin 8, x1 (ix3 s (i 1) (i 2)) := by
  pointwise [val_main_cst_0, val_main_v2, val_main_v3, val_main_v9, val_main_v12, zero_add]
  simp only [h, Nat.reduceLT, dite_true, dite_false, Nat.reduceSub]

/-- The reference's gradient of the third layer. -/
theorem ref_2 (x0 x1 x2 x3) (i : S4x704x2048.Idx) (h : (i 0).val = 2) :
    val_main_v12 (F := Ideal) x0 x1 x2 x3 i = ∑ s : Fin 8, x2 (ix3 s (i 1) (i 2)) := by
  pointwise [val_main_cst_1, val_main_v4, val_main_v5, val_main_v10, val_main_v12, zero_add]
  simp only [h, Nat.reduceLT, dite_true, dite_false, Nat.reduceSub]

/-- The reference's gradient of the fourth layer. -/
theorem ref_3 (x0 x1 x2 x3) (i : S4x704x2048.Idx) (h : (i 0).val = 3) :
    val_main_v12 (F := Ideal) x0 x1 x2 x3 i = ∑ s : Fin 8, x3 (ix3 s (i 1) (i 2)) := by
  pointwise [val_main_cst_2, val_main_v6, val_main_v7, val_main_v11, val_main_v12, zero_add]
  simp only [h, Nat.reduceLT, dite_true, dite_false, Nat.reduceSub]

/-- The reference's first moment, entry by entry. -/
theorem ref_first (x0 x1 x2 x3 x5) (i) :
    val_main_v17 (F := Ideal) x0 x1 x2 x3 x5 i = Update.first (x5 i) (val_main_v12 (F := Ideal) x0 x1 x2 x3 i) := by
  pointwise [Update.first, val_main_v13, val_main_v14, val_main_v15, val_main_v16, val_main_v17, val_main_cst_3, val_main_cst_4]

/-- The reference's second moment, entry by entry. -/
theorem ref_second (x0 x1 x2 x3 x6) (i) :
    val_main_v23 (F := Ideal) x0 x1 x2 x3 x6 i = Update.second (x6 i) (val_main_v12 (F := Ideal) x0 x1 x2 x3 i) := by
  pointwise [Update.second, val_main_v18, val_main_v19, val_main_v20, val_main_v21, val_main_v22, val_main_v23, val_main_cst_5, val_main_cst_6]

/-- The reference's change of the weight, entry by entry. -/
theorem ref_change (x0 x1 x2 x3 x4 x5 x6) (i) :
    val_main_v36 (F := Ideal) x0 x1 x2 x3 x4 x5 x6 i
      = Update.change (x4 i) (val_main_v17 (F := Ideal) x0 x1 x2 x3 x5 i)
          (val_main_v23 (F := Ideal) x0 x1 x2 x3 x6 i) := by
  pointwise [Update.change, val_main_v24, val_main_v25, val_main_v26, val_main_v27, val_main_v28, val_main_v29, val_main_v30, val_main_v31, val_main_v32, val_main_v33, val_main_v34, val_main_v35, val_main_v36,
    val_main_cst_7, val_main_cst_8, val_main_cst_9, val_main_cst_10, val_main_cst_11]

/-- Where an entry of the blocks of a grid point lies in the whole arrays. -/
def pos (t : Fin cfg0.N) (y : S1x88x2048.Idx) : S4x704x2048.Idx :=
  ix3 ⟨t.val / 8, by have ht : t.val < 32 := t.isLt; omega⟩
    ⟨t.val % 8 * 88 + (y 1).val, by have hy : (y 1).val < 88 := (y 1).isLt; omega⟩ (y 2)

theorem pos_7 (t : Fin cfg0.N) (y) : ((cfg0.win 7).blk t).view.emb y = pos t y := by
  blk_ext [pos, idx_val t]

theorem pos_8 (t : Fin cfg0.N) (y) : ((cfg0.win 8).blk t).view.emb y = pos t y := by
  blk_ext [pos, idx_val t]

theorem pos_9 (t : Fin cfg0.N) (y) : ((cfg0.win 9).blk t).view.emb y = pos t y := by
  blk_ext [pos, idx_val t]

theorem pos_10 (t : Fin cfg0.N) (y) : ((cfg0.win 10).blk t).view.emb y = pos t y := by
  blk_ext [pos, idx_val t]

theorem read_4 (c : Dev nD) (t : Fin cfg0.N) (y) :
    iblk m c 4 t y = m ((c : Thread nD τ).loc main_arg4) (pos t y) := by
  blk_point [iblk, V, pos, idx_val t]

theorem read_5 (c : Dev nD) (t : Fin cfg0.N) (y) :
    iblk m c 5 t y = m ((c : Thread nD τ).loc main_arg5) (pos t y) := by
  blk_point [iblk, V, pos, idx_val t]

theorem read_6 (c : Dev nD) (t : Fin cfg0.N) (y) :
    iblk m c 6 t y = m ((c : Thread nD τ).loc main_arg6) (pos t y) := by
  blk_point [iblk, V, pos, idx_val t]

/-- The block of the gradient stored at a grid point. -/
theorem grad (c : Dev nD) (t : Fin cfg0.N) (y) :
    (outsAt0 m c t.val t.isLt).1 y = val_main_v12 (F := Ideal) (m ((c : Thread nD τ).loc main_arg0)) (m ((c : Thread nD τ).loc main_arg1)) (m ((c : Thread nD τ).loc main_arg2)) (m ((c : Thread nD τ).loc main_arg3)) (pos t y) := by
  have ht : t.val < 32 := t.isLt
  obtain h | h | h | h : t.val / 8 = 0 ∨ t.val / 8 = 1 ∨ t.val / 8 = 2 ∨ t.val / 8 = 3 := by omega
  · rw [outsAt0_A m c t (by omega) (by omega) (by omega) (by omega), ref_0 _ _ _ _ _ (by show t.val / 8 = 0; omega)]
    frame_out
    pointwise [k0_pay13, k0_pay9, Fin.sum_univ_eight, pos]
    blk_point [iblk, V, idx_val t, recv_0 t h]
  · rw [outsAt0_B m c t (by omega) (by omega) (by omega) (by omega), ref_1 _ _ _ _ _ (by show t.val / 8 = 1; omega)]
    frame_out
    pointwise [k0_pay19, k0_pay15, Fin.sum_univ_eight, pos]
    blk_point [iblk, V, idx_val t, recv_1 t h]
  · rw [outsAt0_C m c t (by omega) (by omega) (by omega) (by omega), ref_2 _ _ _ _ _ (by show t.val / 8 = 2; omega)]
    frame_out
    pointwise [k0_pay25, k0_pay21, Fin.sum_univ_eight, pos]
    blk_point [iblk, V, idx_val t, recv_2 t h]
  · rw [outsAt0_D m c t (by omega) (by omega) (by omega) (by omega), ref_3 _ _ _ _ _ (by show t.val / 8 = 3; omega)]
    frame_out
    pointwise [k0_pay31, k0_pay27, Fin.sum_univ_eight, pos]
    blk_point [iblk, V, idx_val t, recv_3 t h]

/-- The other blocks stored at a grid point, from the gradient's. -/
theorem rest (c : Dev nD) (t : Fin cfg0.N) (y) :
    (outsAt0 m c t.val t.isLt).2.2.1 y = Update.first (iblk m c 5 t y) ((outsAt0 m c t.val t.isLt).1 y)
    ∧ (outsAt0 m c t.val t.isLt).2.2.2 y = Update.second (iblk m c 6 t y) ((outsAt0 m c t.val t.isLt).1 y)
    ∧ (outsAt0 m c t.val t.isLt).2.1 y = Update.change (iblk m c 4 t y)
        ((outsAt0 m c t.val t.isLt).2.2.1 y) ((outsAt0 m c t.val t.isLt).2.2.2 y) := by
  have ht : t.val < 32 := t.isLt
  obtain h | h | h | h : t.val / 8 = 0 ∨ t.val / 8 = 1 ∨ t.val / 8 = 2 ∨ t.val / 8 = 3 := by omega
  · rw [outsAt0_A m c t (by omega) (by omega) (by omega) (by omega)]
    refine ⟨?_, ?_, ?_⟩ <;> frame_out <;>
      pointwise [Update.first, Update.second, Update.change, k0_pay1, k0_pay2, k0_pay10, k0_pay11, k0_pay12, k0_pay13, k0_pay14]
  · rw [outsAt0_B m c t (by omega) (by omega) (by omega) (by omega)]
    refine ⟨?_, ?_, ?_⟩ <;> frame_out <;>
      pointwise [Update.first, Update.second, Update.change, k0_pay3, k0_pay4, k0_pay16, k0_pay17, k0_pay18, k0_pay19, k0_pay20]
  · rw [outsAt0_C m c t (by omega) (by omega) (by omega) (by omega)]
    refine ⟨?_, ?_, ?_⟩ <;> frame_out <;>
      pointwise [Update.first, Update.second, Update.change, k0_pay5, k0_pay6, k0_pay22, k0_pay23, k0_pay24, k0_pay25, k0_pay26]
  · rw [outsAt0_D m c t (by omega) (by omega) (by omega) (by omega)]
    refine ⟨?_, ?_, ?_⟩ <;> frame_out <;>
      pointwise [Update.first, Update.second, Update.change, k0_pay7, k0_pay8, k0_pay28, k0_pay29, k0_pay30, k0_pay31, k0_pay32]

/-- The gradient's array. -/
theorem final_g (c : Dev nD) :
    (dats m 0 c).arrAt 7 cfg0.N = val_main_v12 (F := Ideal) (m ((c : Thread nD τ).loc main_arg0)) (m ((c : Thread nD τ).loc main_arg1)) (m ((c : Thread nD τ).loc main_arg2)) (m ((c : Thread nD τ).loc main_arg3)) := by
  refine (dats m 0 c).arrAt_eq_of_covers 7 _ (by decide +kernel) fun t hf y => ?_
  rw [after0_7, pos_7]
  exact grad m c t y

/-- The first moment's array. -/
theorem final_m (c : Dev nD) :
    (dats m 0 c).arrAt 9 cfg0.N = val_main_v17 (F := Ideal) (m ((c : Thread nD τ).loc main_arg0)) (m ((c : Thread nD τ).loc main_arg1)) (m ((c : Thread nD τ).loc main_arg2)) (m ((c : Thread nD τ).loc main_arg3)) (m ((c : Thread nD τ).loc main_arg5)) := by
  refine (dats m 0 c).arrAt_eq_of_covers 9 _ (by decide +kernel) fun t hf y => ?_
  rw [after0_9, pos_9, (rest m c t y).1, grad, ref_first, read_5]
  rfl

/-- The second moment's array. -/
theorem final_v (c : Dev nD) :
    (dats m 0 c).arrAt 10 cfg0.N = val_main_v23 (F := Ideal) (m ((c : Thread nD τ).loc main_arg0)) (m ((c : Thread nD τ).loc main_arg1)) (m ((c : Thread nD τ).loc main_arg2)) (m ((c : Thread nD τ).loc main_arg3)) (m ((c : Thread nD τ).loc main_arg6)) := by
  refine (dats m 0 c).arrAt_eq_of_covers 10 _ (by decide +kernel) fun t hf y => ?_
  rw [after0_10, pos_10, (rest m c t y).2.1, grad, ref_second, read_6]
  rfl

/-- The array of the change of the weight. -/
theorem final_d (c : Dev nD) :
    (dats m 0 c).arrAt 8 cfg0.N = val_main_v36 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) := by
  refine (dats m 0 c).arrAt_eq_of_covers 8 _ (by decide +kernel) fun t hf y => ?_
  rw [after0_8, pos_8, (rest m c t y).2.2, (rest m c t y).1, (rest m c t y).2.1, grad, ref_change,
    ref_first, ref_second, read_4, read_5, read_6]
  rfl

end Cert.AdamFfnDownIdeal.Step

end
-- ==== Proof.Opt.SumSmall.lean ====
/- `SumSmall`: the sum of the eight parts of the packed gradients of the small weights. -/
module

public import proofs.«01_k».proof.Proof.Gen.SumSmallIdeal.Frame
public import proofs.«01_k».proof.Proof.Gen.SumSmallRefIdeal.Read
public import Idealize.ShloMosaic.Lib.Pipeline.ValueKit

@[expose] public section

set_option maxRecDepth 16384

noncomputable section

open Idealize.ShloMosaic Idealize.ShloMosaic.TcCoe Idealize.SL.Sem
open scoped BigOperators

namespace Cert.SumSmallIdeal.Step

open Cert.SumSmallIdeal Cert.SumSmallIdeal.Gen Cert.SumSmallRefIdeal.Read

variable (m : (ℓ : Loc nD τ sig) → Buf (Elt Ideal) ℓ)

/-- Both arrays are one block. -/
theorem idx_val : ∀ t : Fin cfg0.N, win0_0.index t = ![0, 0, 0] ∧ win0_1.index t = ![0, 0] :=
  (by decide +kernel : ∀ t : Fin grid0.N, _)

theorem read_0 (c : Dev nD) (t : Fin cfg0.N) (y : S8x3288x128.Idx) :
    iblk m c 0 t y = m ((c : Thread nD τ).loc main_arg0) y := by
  blk_point [iblk, V, idx_val t]

theorem pos_1 (t : Fin cfg0.N) (y : S3288x128.Idx) : ((cfg0.win 1).blk t).view.emb y = y := by
  blk_ext [idx_val t]

/-- The call's sum is the reference's. -/
theorem final (c : Dev nD) :
    (dats m 0 c).arrAt 1 cfg0.N = val_main_v0 (F := Ideal) (m ((c : Thread nD τ).loc main_arg0)) := by
  refine (dats m 0 c).arrAt_eq_of_covers 1 _ (by decide +kernel) fun t hf y => ?_
  rw [after0_1, pos_1]
  frame_out
  pointwise [k0_pay1, val_main_cst, val_main_v0, zero_add, Fin.sum_univ_eight]
  simp only [read_0]
  rfl

end Cert.SumSmallIdeal.Step

end
-- ==== Proof.Opt.AdamSmall.lean ====
/- `AdamSmall`: the optimiser's step of the small weights, packed into one array. -/
module

public import proofs.«01_k».proof.Proof.Gen.AdamSmallIdeal.Frame
public import proofs.«01_k».proof.Proof.Gen.AdamSmallRefIdeal.Read
public import Idealize.ShloMosaic.Lib.Pipeline.ValueKit

@[expose] public section

set_option maxRecDepth 16384

noncomputable section

open Idealize.ShloMosaic Idealize.ShloMosaic.TcCoe Idealize.SL.Sem
open scoped BigOperators

namespace Cert.AdamSmallIdeal.Step

open Cert.AdamSmallIdeal Cert.AdamSmallIdeal.Gen Cert.AdamSmallRefIdeal.Read

variable (m : (ℓ : Loc nD τ sig) → Buf (Elt Ideal) ℓ)

/-- Every array is one block. -/
theorem idx_val : ∀ t : Fin cfg0.N, win0_0.index t = ![0, 0] ∧ win0_1.index t = ![0, 0]
    ∧ win0_2.index t = ![0, 0] ∧ win0_3.index t = ![0, 0] ∧ win0_4.index t = ![0, 0]
    ∧ win0_5.index t = ![0, 0] ∧ win0_6.index t = ![0, 0] :=
  (by decide +kernel : ∀ t : Fin grid0.N, _)

theorem read_0 (c : Dev nD) (t : Fin cfg0.N) (y : S1016x128.Idx) :
    iblk m c 0 t y = m ((c : Thread nD τ).loc main_arg0) y := by
  blk_point [iblk, V, idx_val t]

theorem read_1 (c : Dev nD) (t : Fin cfg0.N) (y : S1016x128.Idx) :
    iblk m c 1 t y = m ((c : Thread nD τ).loc main_arg1) y := by
  blk_point [iblk, V, idx_val t]

theorem read_2 (c : Dev nD) (t : Fin cfg0.N) (y : S1016x128.Idx) :
    iblk m c 2 t y = m ((c : Thread nD τ).loc main_arg2) y := by
  blk_point [iblk, V, idx_val t]

theorem read_3 (c : Dev nD) (t : Fin cfg0.N) (y : S1016x128.Idx) :
    iblk m c 3 t y = m ((c : Thread nD τ).loc main_arg3) y := by
  blk_point [iblk, V, idx_val t]

theorem pos_4 (t : Fin cfg0.N) (y : S1016x128.Idx) : ((cfg0.win 4).blk t).view.emb y = y := by
  blk_ext [idx_val t]

theorem pos_5 (t : Fin cfg0.N) (y : S1016x128.Idx) : ((cfg0.win 5).blk t).view.emb y = y := by
  blk_ext [idx_val t]

theorem pos_6 (t : Fin cfg0.N) (y : S1016x128.Idx) : ((cfg0.win 6).blk t).view.emb y = y := by
  blk_ext [idx_val t]

/-- The first moment's array. -/
theorem final_m (c : Dev nD) :
    (dats m 0 c).arrAt 5 cfg0.N
      = val_main_v4 (F := Ideal) (m ((c : Thread nD τ).loc main_arg0)) (m ((c : Thread nD τ).loc main_arg2)) := by
  refine (dats m 0 c).arrAt_eq_of_covers 5 _ (by decide +kernel) fun t hf y => ?_
  rw [after0_5, pos_5]
  frame_out
  pointwise [k0_pay1, val_main_v0, val_main_v1, val_main_v2, val_main_v3, val_main_v4, val_main_cst, val_main_cst_0]
  simp only [read_0, read_2]
  rfl

/-- The second moment's array. -/
theorem final_v (c : Dev nD) :
    (dats m 0 c).arrAt 6 cfg0.N
      = val_main_v10 (F := Ideal) (m ((c : Thread nD τ).loc main_arg0)) (m ((c : Thread nD τ).loc main_arg3)) := by
  refine (dats m 0 c).arrAt_eq_of_covers 6 _ (by decide +kernel) fun t hf y => ?_
  rw [after0_6, pos_6]
  frame_out
  pointwise [k0_pay2, val_main_v5, val_main_v6, val_main_v7, val_main_v8, val_main_v9, val_main_v10, val_main_cst_1,
    val_main_cst_2]
  simp only [read_0, read_3]
  rfl

/-- The array of the change of the weights. -/
theorem final_d (c : Dev nD) :
    (dats m 0 c).arrAt 4 cfg0.N
      = val_main_v23 (F := Ideal) (m ((c : Thread nD τ).loc main_arg0)) (m ((c : Thread nD τ).loc main_arg1))
          (m ((c : Thread nD τ).loc main_arg2)) (m ((c : Thread nD τ).loc main_arg3)) := by
  refine (dats m 0 c).arrAt_eq_of_covers 4 _ (by decide +kernel) fun t hf y => ?_
  rw [after0_4, pos_4]
  frame_out
  pointwise [k0_pay1, k0_pay2, k0_pay3, val_main_v0, val_main_v1, val_main_v2, val_main_v3, val_main_v4, val_main_v5,
    val_main_v6, val_main_v7, val_main_v8, val_main_v9, val_main_v10, val_main_v11, val_main_v12, val_main_v13,
    val_main_v14, val_main_v15, val_main_v16, val_main_v17, val_main_v18, val_main_v19, val_main_v20, val_main_v21,
    val_main_v22, val_main_v23, val_main_cst, val_main_cst_0, val_main_cst_1, val_main_cst_2, val_main_cst_3,
    val_main_cst_4, val_main_cst_5, val_main_cst_6, val_main_cst_7]
  simp only [read_0, read_1, read_2, read_3]
  rfl

end Cert.AdamSmallIdeal.Step

end
-- ==== Proof.Opt.FinalLoss.lean ====
/- `FinalLoss`: sixteen grid points add half of their rows' mean squared errors into the carried sum. -/
module

public import proofs.«01_k».proof.Proof.Gen.FinalLossIdeal.Frame
public import proofs.«01_k».proof.Proof.Gen.FinalLossRefIdeal.Read
public import Idealize.ShloMosaic.Lib.Pipeline.ValueKit

@[expose] public section

set_option maxRecDepth 16384

noncomputable section

open Idealize.ShloMosaic Idealize.ShloMosaic.TcCoe Idealize.SL.Sem
open scoped BigOperators

namespace Cert.FinalLossIdeal.Step

open Cert.FinalLossIdeal Cert.FinalLossIdeal.Gen Cert.FinalLossRefIdeal.Read

variable (m : (ℓ : Loc nD τ sig) → Buf (Elt Ideal) ℓ)

/-- Where each block that the sum reads or writes lies, at every grid point. -/
theorem idx_val : ∀ t : Fin cfg0.N, win0_0.index t = ![t.val, 0] ∧ win0_1.index t = ![0, 0]
    ∧ win0_2.index t = ![t.val, 0] ∧ win0_6.index t = ![0, 0] :=
  (by decide +kernel : ∀ t : Fin grid0.N, _)

/-- The row's factor: the reciprocal root of its mean square and the small constant. -/
def scale (x : Fin 2048 → EReal) : EReal :=
  Ideal.rsqrt (Ideal.div (∑ k, x k * x k) (Ideal.ofBits .f32 0x45000000#32) + Ideal.ofBits .f32 0x358637BD#32)

/-- The error of a row's normalized value at one feature. -/
def err (x g t : Fin 2048 → EReal) (k : Fin 2048) : EReal := x k * scale x * g k - t k

/-- A row's mean squared error. -/
def sq (x g t : Fin 2048 → EReal) : EReal :=
  Ideal.div (∑ k, err x g t k * err x g t k) (Ideal.ofBits .f32 0x45000000#32)

/-- One half, as the two programs write it. -/
def half : EReal := Ideal.ofBits .f32 0x3F000000#32

theorem half_mul_add (a b : EReal) : half * (a + b) = half * a + half * b := by
  have h : half = ((1 / 2 : ℝ) : EReal) := by
    simp [half, Ideal.ofBits, Ideal.ieee]
    norm_num
    rw [← EReal.coe_mul]
    norm_num
  rw [h]
  exact EReal.left_distrib_of_nonneg_of_ne_top (by norm_num) (EReal.coe_ne_top _) a b

theorem half_mul_sum {n : ℕ} (f : Fin n → EReal) : half * ∑ s, f s = ∑ s, half * f s := by
  induction n with
  | zero => simp
  | succ n ih => rw [Fin.sum_univ_succ, half_mul_add, ih, Fin.sum_univ_succ]

/-- The factor of a block's row. -/
theorem scale_block (a : Vec Ideal S256x2048 .f32) (y : S256x1.Idx) :
    k0_pay3 (F := Ideal) a y = scale fun k => a (ix2 (y 0) k) := by
  unfold scale
  pointwise [k0_pay3]

/-- The error at a point of a block. -/
theorem err_block (a : Vec Ideal S256x2048 .f32) (g : Vec Ideal S1x2048 .f32) (b : Vec Ideal S256x2048 .f32)
    (y : S256x2048.Idx) : k0_pay5 (F := Ideal) a g b y
      = err (fun k => a (ix2 (y 0) k)) (fun k => g (ix2 0 k)) (fun k => b (ix2 (y 0) k)) (y 1) := by
  unfold err
  pointwise [k0_pay5, k0_pay4, scale_block]

/-- What one grid point adds. -/
def part (a : Vec Ideal S256x2048 .f32) (g : Vec Ideal S1x2048 .f32) (b : Vec Ideal S256x2048 .f32) : EReal :=
  half * ∑ s : Fin 256, sq (fun k => a (ix2 s k)) (fun k => g (ix2 0 k)) (fun k => b (ix2 s k))

theorem store (a : Vec Ideal S256x2048 .f32) (g : Vec Ideal S1x2048 .f32) (b : Vec Ideal S256x2048 .f32)
    (acc : Vec Ideal S1x128 .f32) (y : S1x128.Idx) :
    k0_pay2 (F := Ideal) (k0_pay5 (F := Ideal) a g b) acc y = acc y + part a g b := by
  unfold part sq half
  pointwise [k0_pay2, err_block]

theorem zero_block (y : S1x128.Idx) : k0_pay10 (F := Ideal) y = 0 := by
  pointwise [k0_pay10]

/-- The loss after the run. -/
theorem final (c : Dev nD) :
    (dats m 0 c).arrAt 6 (cfgs 0).N = val_main_v19 (F := Ideal) (m ((c : Thread nD τ).loc main_arg0))
      (m ((c : Thread nD τ).loc main_arg1)) (m ((c : Thread nD τ).loc main_arg2)) := by
  refine (dats m 0 c).arrAt_eq_of_covers 6 _ (by decide +kernel) fun t hf y => ?_
  blk_simp
  rw [after0_6,
    Pipeline.eq_sum_fin_of_reset_step_apply_of_flush (fun n h => (outsAt0 m c n h).2.2.2) 16 (fun _ => (0 : EReal)) _
      (fun t h j => by
        rw [outsAt0_A m c t h]; frame_out; rw [store, zero_block])
      (fun t h j => by
        rw [outsAt0_B m c t h]; frame_out; rw [store])
      t ((flush0_6 t).mp hf) _, zero_add]
  have href : ∀ (x0 x1 x2) (j : S1x128.Idx), val_main_v19 (F := Ideal) x0 x1 x2 j
      = half * ∑ l : Fin 4096, sq (fun k => x0 (ix2 l k)) (fun k => x1 (ix2 0 k)) (fun k => x2 (ix2 l k)) := by
    intro x0 x1 x2 j
    unfold half sq err scale
    pointwise [val_main_v0, val_main_v1, val_main_v2, val_main_v3, val_main_v4, val_main_v5, val_main_v6, val_main_v7,
      val_main_v8, val_main_v9, val_main_v10, val_main_v11, val_main_v12, val_main_v13, val_main_v14, val_main_v15,
      val_main_v16, val_main_v17, val_main_v18, val_main_v19, val_main_cst, val_main_cst_0, val_main_cst_1,
      val_main_cst_2, val_main_cst_3, val_main_cst_4, val_main_cst_5]
  rw [href]
  unfold part
  rw [← half_mul_sum]
  congr 1
  refine Fin.sum_mul_add_congr fun s k hl => ?_
  have e := idx_val ⟨_, Pipeline.run_point_lt_of_flush t ((flush0_6 t).mp hf) s⟩
  have hd := Pipeline.run_point_lt_of_flush t ((flush0_6 t).mp hf) s
  have h0 : ∀ j : Fin 2048, iblk m c 0 ⟨_, hd⟩ (ix2 k j)
      = m ((c : Thread nD τ).loc main_arg0) (ix2 ⟨s.val * 256 + k.val, hl⟩ j) := fun j => by blk_point [iblk, V, idx_val t, e]
  have h1 : ∀ j : Fin 2048, iblk m c 1 ⟨_, hd⟩ (ix2 0 j)
      = m ((c : Thread nD τ).loc main_arg1) (ix2 0 j) := fun j => by blk_point [iblk, V, idx_val t, e]
  have h2 : ∀ j : Fin 2048, iblk m c 2 ⟨_, hd⟩ (ix2 k j)
      = m ((c : Thread nD τ).loc main_arg2) (ix2 ⟨s.val * 256 + k.val, hl⟩ j) := fun j => by blk_point [iblk, V, idx_val t, e]
  simp only [h0, h1, h2]

end Cert.FinalLossIdeal.Step

end
-- ==== Proof.Opt.Norm.lean ====
/- The gradient of the normalization of one row: the formula that differentiation gives and the shorter one agree, whatever
extended reals the row and the gradient hold. -/
module

public import Idealize.ShloMosaic.Lib.Pipeline.ValueKit

@[expose] public section

noncomputable section

open Idealize.ShloMosaic
open scoped BigOperators

namespace Cert.Norm

/-- The number of features, as the two programs write it. -/
def width : EReal := Ideal.ofBits .f32 0x45000000#32

/-- The small constant added to a row's mean square. -/
def eps : EReal := Ideal.ofBits .f32 0x358637BD#32

/-- Minus one half, as the gradient's rule for the reciprocal root writes it. -/
def negHalf : EReal := Ideal.ofBits .f32 0xBF000000#32

theorem width_eq : width = ((2048 : ℝ) : EReal) := by
  simp [width, Ideal.ofBits, Ideal.ieee]
  norm_num
  rw [← EReal.coe_mul]
  norm_num

theorem negHalf_eq : negHalf = ((-(1 / 2) : ℝ) : EReal) := by
  simp [negHalf, Ideal.ofBits, Ideal.ieee]
  norm_num
  rw [← EReal.coe_mul]
  norm_num

theorem eps_pos : ∃ e : ℝ, 0 < e ∧ eps = (e : EReal) := by
  refine ⟨8796093 * (2 : ℝ) ^ (-43 : ℤ), by positivity, ?_⟩
  simp [eps, Ideal.ofBits, Ideal.ieee]

theorem mul_sum {n : ℕ} (r : ℝ) (hr : 0 ≤ r) (f : Fin n → EReal) : (r : EReal) * ∑ s, f s = ∑ s, (r : EReal) * f s := by
  induction n with
  | zero => simp
  | succ n ih =>
    rw [Fin.sum_univ_succ, EReal.left_distrib_of_nonneg_of_ne_top (by exact_mod_cast hr) (EReal.coe_ne_top _), ih,
      Fin.sum_univ_succ]

theorem div_real (a : EReal) (b : ℝ) (hb : b ≠ 0) : Ideal.div a (b : EReal) = a * ((b⁻¹ : ℝ) : EReal) := by
  unfold Ideal.div
  rw [if_neg (by exact_mod_cast hb), EReal.coe_inv]

theorem square_nonneg (a : EReal) : 0 ≤ a * a := by
  rcases le_total 0 a with h | h
  · exact mul_nonneg h h
  · rw [← neg_mul_neg]
    exact mul_nonneg (EReal.neg_nonneg.mpr h) (EReal.neg_nonneg.mpr h)

/-- The mean square of a row and the small constant. -/
def power (x : Fin 2048 → EReal) : EReal := Ideal.div (∑ k, x k * x k) width + eps

/-- It is a positive real or the upper infinity. -/
theorem power_cases (x : Fin 2048 → EReal) : power x = ⊤ ∨ ∃ s : ℝ, 0 < s ∧ power x = (s : EReal) := by
  obtain ⟨e, he, hE⟩ := eps_pos
  have hS : 0 ≤ ∑ k, x k * x k := Finset.sum_nonneg fun k _ => square_nonneg _
  unfold power
  rw [width_eq, hE, div_real _ _ (by norm_num)]
  generalize (∑ k, x k * x k) = S at hS
  induction S with
  | bot => simp at hS
  | top =>
    left
    rw [EReal.top_mul_coe_of_pos (by norm_num), EReal.top_add_coe]
  | coe a =>
    right
    have ha : 0 ≤ a := by exact_mod_cast hS
    exact ⟨a * (2048 : ℝ)⁻¹ + e, by positivity, by push_cast; rfl⟩

/-- The kernel's formula for one feature's gradient. -/
def kern (x d : Fin 2048 → EReal) (k : Fin 2048) : EReal :=
  Ideal.rsqrt (power x) * (d k - x k * Ideal.rsqrt (power x) * Ideal.div (∑ j, d j * (x j * Ideal.rsqrt (power x))) width)

/-- What the gradient's rule for the reciprocal root gives each feature of the row. -/
def back (x d : Fin 2048 → EReal) : EReal :=
  Ideal.div ((∑ j, x j * d j) * (negHalf * Ideal.div (Ideal.rsqrt (power x)) (power x))) width

/-- The formula that differentiation gives. -/
def diff (x d : Fin 2048 → EReal) (k : Fin 2048) : EReal :=
  d k * Ideal.rsqrt (power x) + x k * back x d + back x d * x k

theorem twice (c : ℝ) (a : EReal) : ((c : ℝ) : EReal) * a + ((c : ℝ) : EReal) * a = ((2 * c : ℝ) : EReal) * a := by
  induction a with
  | bot =>
    rcases lt_trichotomy c 0 with h | h | h
    · rw [EReal.coe_mul_bot_of_neg h, EReal.coe_mul_bot_of_neg (by linarith)]; rfl
    · simp [h]
    · rw [EReal.coe_mul_bot_of_pos h, EReal.coe_mul_bot_of_pos (by linarith)]; rfl
  | top =>
    rcases lt_trichotomy c 0 with h | h | h
    · rw [EReal.coe_mul_top_of_neg h, EReal.coe_mul_top_of_neg (by linarith)]; rfl
    · simp [h]
    · rw [EReal.coe_mul_top_of_pos h, EReal.coe_mul_top_of_pos (by linarith)]; rfl
  | coe a =>
    rw [← EReal.coe_mul, ← EReal.coe_add, ← EReal.coe_mul]
    congr 1
    ring

/-- The two formulas agree, whatever extended reals the row and the gradient hold. -/
theorem kern_eq_diff (x d : Fin 2048 → EReal) (k : Fin 2048) : kern x d k = diff x d k := by
  unfold kern diff back
  rcases power_cases x with h | ⟨s, hs, h⟩
  · rw [h, Ideal.rsqrt_top, width_eq, div_real _ _ (by norm_num), div_real _ _ (by norm_num)]
    simp [Ideal.div]
  · have hq : Real.sqrt s * Real.sqrt s = s := Real.mul_self_sqrt hs.le
    have hp : 0 < Real.sqrt s := Real.sqrt_pos.mpr hs
    rw [h, Ideal.rsqrt_coe, if_neg (not_lt.mpr hs.le), if_neg hs.ne', width_eq, negHalf_eq, div_real _ _ (by norm_num),
      div_real _ _ (by norm_num), div_real _ _ hs.ne']
    have hr : 0 < (Real.sqrt s)⁻¹ := inv_pos.mpr hp
    have hrs : s⁻¹ = (Real.sqrt s)⁻¹ * (Real.sqrt s)⁻¹ := by rw [← mul_inv, hq]
    generalize (Real.sqrt s)⁻¹ = r at hr hrs
    rw [hrs]
    have hsum : ∑ j, d j * (x j * (r : EReal)) = (r : EReal) * ∑ j, x j * d j := by
      rw [mul_sum r hr.le]
      exact Finset.sum_congr rfl fun j _ => by rw [← mul_assoc, mul_comm, mul_comm (d j)]
    rw [hsum]
    generalize (∑ j, x j * d j) = M
    rw [sub_eq_add_neg, EReal.left_distrib_of_nonneg_of_ne_top (by exact_mod_cast hr.le) (EReal.coe_ne_top _), add_assoc,
      mul_comm (r : EReal) (d k)]
    congr 1
    have hl : (r : EReal) * -(x k * (r : EReal) * ((r : EReal) * M * (((2048 : ℝ)⁻¹ : ℝ) : EReal)))
        = ((2 * (-(1 / 2) * r * r * r * (2048 : ℝ)⁻¹) : ℝ) : EReal) * (x k * M) := by
      have : ((2 * (-(1 / 2) * r * r * r * (2048 : ℝ)⁻¹) : ℝ) : EReal) = -((r : EReal) * r * r * (((2048 : ℝ)⁻¹ : ℝ) : EReal)) := by
        rw [← EReal.coe_mul, ← EReal.coe_mul, ← EReal.coe_mul, ← EReal.coe_neg]
        congr 1
        ring
      rw [this, mul_neg, neg_mul]
      congr 1
      ac_rfl
    have hb : x k * (M * (((-(1 / 2) : ℝ) : EReal) * ((r : EReal) * ((r * r : ℝ) : EReal))) * (((2048 : ℝ)⁻¹ : ℝ) : EReal))
        = ((-(1 / 2) * r * r * r * (2048 : ℝ)⁻¹ : ℝ) : EReal) * (x k * M) := by
      push_cast
      ac_rfl
    rw [mul_comm _ (x k), hb, hl, twice]

end Cert.Norm

end
-- ==== Proof.Opt.RmsBwd.lean ====
/- `RmsBwd`: the gradient of the normalization over the last axis, row by row, and the residual's gradient added to it. -/
module

public import proofs.«01_k».proof.Proof.Gen.RmsBwdIdeal.Frame
public import proofs.«01_k».proof.Proof.Gen.RmsBwdRefIdeal.Read
public import proofs.«01_k».proof.Proof.Opt.Norm

@[expose] public section

set_option maxRecDepth 16384

noncomputable section

open Idealize.ShloMosaic Idealize.ShloMosaic.TcCoe Idealize.SL.Sem
open scoped BigOperators

namespace Cert.RmsBwdIdeal.Step

open Cert.RmsBwdIdeal Cert.RmsBwdIdeal.Gen Cert.RmsBwdRefIdeal.Read Cert.Norm

variable (m : (ℓ : Loc nD τ sig) → Buf (Elt Ideal) ℓ)

/-- The factor of a block's row. -/
theorem scale_block (a : Vec Ideal S256x2048 .f32) (y : S256x1.Idx) :
    k0_pay3 (F := Ideal) a y = Ideal.rsqrt (power fun k => a (ix2 (y 0) k)) := by
  unfold power width eps
  pointwise [k0_pay3]

/-- The gradient at a point of a block. -/
theorem store (a b : Vec Ideal S256x2048 .f32) (g : Vec Ideal S1x2048 .f32) (z : Vec Ideal S256x2048 .f32)
    (y : S256x2048.Idx) : k0_pay5 (F := Ideal) a b g z y
      = z y + diff (fun k => a (ix2 (y 0) k)) (fun k => b (ix2 (y 0) k) * g (ix2 0 k)) (y 1) := by
  refine Eq.trans ?_ (congrArg _ (kern_eq_diff _ _ _))
  unfold kern width
  pointwise [k0_pay5, k0_pay4, scale_block]

theorem reference (x0 x1 x2 x3) (j : S4096x2048.Idx) : val_main_v31 (F := Ideal) x0 x1 x2 x3 j
    = x3 j + diff (fun k => x0 (ix2 (j 0) k)) (fun k => x2 (ix2 (j 0) k) * x1 (ix2 0 k)) (j 1) := by
  unfold diff back power width eps negHalf
  pointwise [val_main_v0, val_main_v1, val_main_v2, val_main_v3, val_main_v4, val_main_v5, val_main_v6, val_main_v7,
    val_main_v8, val_main_v9, val_main_v10, val_main_v11, val_main_v12, val_main_v13, val_main_v14, val_main_v15,
    val_main_v16, val_main_v17, val_main_v18, val_main_v19, val_main_v20, val_main_v21, val_main_v22, val_main_v23,
    val_main_v24, val_main_v25, val_main_v26, val_main_v27, val_main_v28, val_main_v29, val_main_v30, val_main_v31,
    val_main_cst, val_main_cst_0, val_main_cst_1, val_main_cst_2, val_main_cst_3, val_main_cst_4, val_main_cst_5]
  simp only [Fin.sum_univ_one]

/-- Where each block that the gradient reads or writes lies, at every grid point. -/
theorem idx_val : ∀ t : Fin cfg0.N, win0_0.index t = ![t.val, 0] ∧ win0_1.index t = ![0, 0]
    ∧ win0_2.index t = ![t.val, 0] ∧ win0_3.index t = ![t.val, 0] ∧ win0_4.index t = ![t.val, 0] :=
  (by decide +kernel : ∀ t : Fin grid0.N, _)

/-- A block's row in the whole array. -/
def row (t : Fin cfg0.N) (j : Fin 256) : Fin 4096 :=
  ⟨t.val * 256 + j.val, by have := t.isLt; have := j.isLt; change t.val < 16 at *; omega⟩

theorem read_0 (c : Dev nD) (t : Fin cfg0.N) (y : S256x2048.Idx) :
    iblk m c 0 t y = m ((c : Thread nD τ).loc main_arg0) (ix2 (row t (y 0)) (y 1)) := by
  blk_point [iblk, V, idx_val t, row]

theorem read_1 (c : Dev nD) (t : Fin cfg0.N) (y : S1x2048.Idx) :
    iblk m c 1 t y = m ((c : Thread nD τ).loc main_arg1) (ix2 (y 0) (y 1)) := by
  blk_point [iblk, V, idx_val t]

theorem read_2 (c : Dev nD) (t : Fin cfg0.N) (y : S256x2048.Idx) :
    iblk m c 2 t y = m ((c : Thread nD τ).loc main_arg2) (ix2 (row t (y 0)) (y 1)) := by
  blk_point [iblk, V, idx_val t, row]

theorem read_3 (c : Dev nD) (t : Fin cfg0.N) (y : S256x2048.Idx) :
    iblk m c 3 t y = m ((c : Thread nD τ).loc main_arg3) (ix2 (row t (y 0)) (y 1)) := by
  blk_point [iblk, V, idx_val t, row]

theorem pos_4 (t : Fin cfg0.N) (y : S256x2048.Idx) :
    ((cfg0.win 4).blk t).view.emb y = (ix2 (row t (y 0)) (y 1) : S4096x2048.Idx) := by
  blk_ext [idx_val t, row]

theorem out (c : Dev nD) (t : Fin cfg0.N) : (outsAt0 m c t.val t.isLt).1
    = k0_pay5 (F := Ideal) (iblk m c 0 t) (iblk m c 2 t) (iblk m c 1 t) (iblk m c 3 t) := by
  by_cases h : t.val % 16 = 0
  · rw [outsAt0_A m c t h]; frame_out
  · rw [outsAt0_B m c t h]; frame_out

/-- The gradient after the run. -/
theorem final (c : Dev nD) :
    (dats m 0 c).arrAt 4 (cfgs 0).N = val_main_v31 (F := Ideal) (m ((c : Thread nD τ).loc main_arg0))
      (m ((c : Thread nD τ).loc main_arg1)) (m ((c : Thread nD τ).loc main_arg2)) (m ((c : Thread nD τ).loc main_arg3)) := by
  refine (dats m 0 c).arrAt_eq_of_covers 4 _ (by decide +kernel) fun t hf y => ?_
  rw [after0_4, out, pos_4, store, reference]
  simp only [read_0, read_1, read_2, read_3]
  rfl

end Cert.RmsBwdIdeal.Step

end
-- ==== Proof.Opt.LossBwd.lean ====
/- `LossBwd`: the gradient of the loss with respect to the final activations, row by row. -/
module

public import proofs.«01_k».proof.Proof.Gen.LossBwdIdeal.Frame
public import proofs.«01_k».proof.Proof.Gen.LossBwdRefIdeal.Read
public import proofs.«01_k».proof.Proof.Opt.Norm

@[expose] public section

set_option maxRecDepth 16384

noncomputable section

open Idealize.ShloMosaic Idealize.ShloMosaic.TcCoe Idealize.SL.Sem
open scoped BigOperators

namespace Cert.LossBwdIdeal.Step

open Cert.LossBwdIdeal Cert.LossBwdIdeal.Gen Cert.LossBwdRefIdeal.Read Cert.Norm

variable (m : (ℓ : Loc nD τ sig) → Buf (Elt Ideal) ℓ)

/-- One over the number of features, as the kernel writes it. -/
def inv : EReal := Ideal.ofBits .f32 0x3A000000#32

/-- One half and two, as the reference writes them. -/
def half : EReal := Ideal.ofBits .f32 0x3F000000#32
def two : EReal := Ideal.ofBits .f32 0x40000000#32
def one : EReal := Ideal.ofBits .f32 0x3F800000#32

/-- The reference's factor of the error is the kernel's. -/
theorem factor (a : EReal) : Ideal.div (half * one) width * (two * a) = a * inv := by
  have h : half = ((1 / 2 : ℝ) : EReal) := by
    simp [half, Ideal.ofBits, Ideal.ieee]
    norm_num
    rw [← EReal.coe_mul]
    norm_num
  have h1 : one = ((1 : ℝ) : EReal) := by
    simp [one, Ideal.ofBits, Ideal.ieee]
    norm_num
    rw [← EReal.coe_mul]
    norm_num
  have h2 : two = ((2 : ℝ) : EReal) := by
    simp [two, Ideal.ofBits, Ideal.ieee]
    norm_num
    rw [← EReal.coe_mul]
    norm_num
  have h3 : inv = ((1 / 2048 : ℝ) : EReal) := by
    simp [inv, Ideal.ofBits, Ideal.ieee]
    norm_num
    rw [← EReal.coe_mul]
    norm_num
  rw [h, h1, h2, h3, width_eq, div_real _ _ (by norm_num), ← mul_assoc, ← EReal.coe_mul, ← EReal.coe_mul, ← EReal.coe_mul,
    mul_comm]
  norm_num

/-- The error of a row's normalized value at one feature. -/
def err (x g t : Fin 2048 → EReal) (k : Fin 2048) : EReal := x k * Ideal.rsqrt (power x) * g k - t k

/-- The factor of a block's row. -/
theorem scale_block (a : Vec Ideal S256x2048 .f32) (y : S256x1.Idx) :
    k0_pay3 (F := Ideal) a y = Ideal.rsqrt (power fun k => a (ix2 (y 0) k)) := by
  unfold power width eps
  pointwise [k0_pay3]

/-- The gradient at a point of a block. -/
theorem store (a : Vec Ideal S256x2048 .f32) (g : Vec Ideal S1x2048 .f32) (b : Vec Ideal S256x2048 .f32)
    (y : S256x2048.Idx) : k0_pay7 (F := Ideal) a g b y
      = diff (fun k => a (ix2 (y 0) k)) (fun k => err (fun k => a (ix2 (y 0) k)) (fun k => g (ix2 0 k))
          (fun k => b (ix2 (y 0) k)) k * inv * g (ix2 0 k)) (y 1) := by
  refine Eq.trans ?_ (kern_eq_diff _ _ _)
  unfold kern width err inv
  pointwise [k0_pay7, k0_pay6, k0_pay5, k0_pay4, scale_block]

theorem reference (x0 x1 x2) (j : S4096x2048.Idx) : val_main_v45 (F := Ideal) x0 x1 x2 j
    = diff (fun k => x0 (ix2 (j 0) k)) (fun k => err (fun k => x0 (ix2 (j 0) k)) (fun k => x1 (ix2 0 k))
        (fun k => x2 (ix2 (j 0) k)) k * inv * x1 (ix2 0 k)) (j 1) := by
  simp only [← factor]
  unfold diff back err power width eps negHalf half one two
  pointwise [val_main_v0, val_main_v1, val_main_v2, val_main_v3, val_main_v4, val_main_v5, val_main_v6, val_main_v7, val_main_v8, val_main_v9, val_main_v10, val_main_v11, val_main_v12, val_main_v13, val_main_v14, val_main_v15, val_main_v16, val_main_v17, val_main_v18, val_main_v19, val_main_v20, val_main_v21, val_main_v22, val_main_v23, val_main_v24, val_main_v25, val_main_v26, val_main_v27, val_main_v28, val_main_v29, val_main_v30, val_main_v31, val_main_v32, val_main_v33, val_main_v34, val_main_v35, val_main_v36, val_main_v37, val_main_v38, val_main_v39, val_main_v40, val_main_v41, val_main_v42, val_main_v43, val_main_v44, val_main_v45, val_main_cst, val_main_cst_0, val_main_cst_1, val_main_cst_2, val_main_cst_3, val_main_cst_4, val_main_cst_5, val_main_cst_6, val_main_cst_7, val_main_cst_8, val_main_cst_9, val_main_cst_10, val_main_cst_11, val_main_cst_12, val_main_cst_13]
  simp only [Fin.sum_univ_one]

/-- Where each block that the gradient reads or writes lies, at every grid point. -/
theorem idx_val : ∀ t : Fin cfg0.N, win0_0.index t = ![t.val, 0] ∧ win0_1.index t = ![0, 0]
    ∧ win0_2.index t = ![t.val, 0] ∧ win0_3.index t = ![t.val, 0] :=
  (by decide +kernel : ∀ t : Fin grid0.N, _)

/-- A block's row in the whole array. -/
def row (t : Fin cfg0.N) (j : Fin 256) : Fin 4096 :=
  ⟨t.val * 256 + j.val, by have := t.isLt; have := j.isLt; change t.val < 16 at *; omega⟩

theorem read_0 (c : Dev nD) (t : Fin cfg0.N) (y : S256x2048.Idx) :
    iblk m c 0 t y = m ((c : Thread nD τ).loc main_arg0) (ix2 (row t (y 0)) (y 1)) := by
  blk_point [iblk, V, idx_val t, row]

theorem read_1 (c : Dev nD) (t : Fin cfg0.N) (y : S1x2048.Idx) :
    iblk m c 1 t y = m ((c : Thread nD τ).loc main_arg1) (ix2 (y 0) (y 1)) := by
  blk_point [iblk, V, idx_val t]

theorem read_2 (c : Dev nD) (t : Fin cfg0.N) (y : S256x2048.Idx) :
    iblk m c 2 t y = m ((c : Thread nD τ).loc main_arg2) (ix2 (row t (y 0)) (y 1)) := by
  blk_point [iblk, V, idx_val t, row]

theorem pos_3 (t : Fin cfg0.N) (y : S256x2048.Idx) :
    ((cfg0.win 3).blk t).view.emb y = (ix2 (row t (y 0)) (y 1) : S4096x2048.Idx) := by
  blk_ext [idx_val t, row]

theorem out (c : Dev nD) (t : Fin cfg0.N) : (outsAt0 m c t.val t.isLt).1
    = k0_pay7 (F := Ideal) (iblk m c 0 t) (iblk m c 1 t) (iblk m c 2 t) := by
  by_cases h : t.val % 16 = 0
  · rw [outsAt0_A m c t h]; frame_out
  · rw [outsAt0_B m c t h]; frame_out

/-- The gradient after the run. -/
theorem final (c : Dev nD) :
    (dats m 0 c).arrAt 3 (cfgs 0).N = val_main_v45 (F := Ideal) (m ((c : Thread nD τ).loc main_arg0))
      (m ((c : Thread nD τ).loc main_arg1)) (m ((c : Thread nD τ).loc main_arg2)) := by
  refine (dats m 0 c).arrAt_eq_of_covers 3 _ (by decide +kernel) fun t hf y => ?_
  rw [after0_3, out, pos_3, store, reference]
  simp only [read_0, read_1, read_2]
  rfl

end Cert.LossBwdIdeal.Step

end
-- ==== Proof.Opt.RmsFwd.lean ====
/- `RmsFwd`: the normalization over the last axis, row by row. -/
module

public import proofs.«01_k».proof.Proof.Gen.RmsFwdIdeal.Frame
public import proofs.«01_k».proof.Proof.Gen.RmsFwdRefIdeal.Read
public import proofs.«01_k».proof.Proof.Opt.Norm

@[expose] public section

set_option maxRecDepth 16384

noncomputable section

open Idealize.ShloMosaic Idealize.ShloMosaic.TcCoe Idealize.SL.Sem
open scoped BigOperators

namespace Cert.RmsFwdIdeal.Step

open Cert.RmsFwdIdeal Cert.RmsFwdIdeal.Gen Cert.RmsFwdRefIdeal.Read Cert.Norm

variable (m : (ℓ : Loc nD τ sig) → Buf (Elt Ideal) ℓ)

/-- The value at a point of a block. -/
theorem store (a : Vec Ideal S256x2048 .f32) (g : Vec Ideal S1x2048 .f32) (y : S256x2048.Idx) :
    k0_pay1 (F := Ideal) a g y = a y * Ideal.rsqrt (power fun k => a (ix2 (y 0) k)) * g (ix2 0 (y 1)) := by
  unfold power width eps
  pointwise [k0_pay1]

theorem reference (x0 x1) (j : S4096x2048.Idx) : val_main_v12 (F := Ideal) x0 x1 j
    = x0 j * Ideal.rsqrt (power fun k => x0 (ix2 (j 0) k)) * x1 (ix2 0 (j 1)) := by
  unfold power width eps
  pointwise [val_main_v0, val_main_v1, val_main_v2, val_main_v3, val_main_v4, val_main_v5, val_main_v6, val_main_v7, val_main_v8, val_main_v9, val_main_v10, val_main_v11, val_main_v12, val_main_cst, val_main_cst_0, val_main_cst_1]

/-- Where each block that the normalization reads or writes lies, at every grid point. -/
theorem idx_val : ∀ t : Fin cfg0.N, win0_0.index t = ![t.val, 0] ∧ win0_1.index t = ![0, 0]
    ∧ win0_2.index t = ![t.val, 0] :=
  (by decide +kernel : ∀ t : Fin grid0.N, _)

/-- A block's row in the whole array. -/
def row (t : Fin cfg0.N) (j : Fin 256) : Fin 4096 :=
  ⟨t.val * 256 + j.val, by have := t.isLt; have := j.isLt; change t.val < 16 at *; omega⟩

theorem read_0 (c : Dev nD) (t : Fin cfg0.N) (y : S256x2048.Idx) :
    iblk m c 0 t y = m ((c : Thread nD τ).loc main_arg0) (ix2 (row t (y 0)) (y 1)) := by
  blk_point [iblk, V, idx_val t, row]

theorem read_1 (c : Dev nD) (t : Fin cfg0.N) (y : S1x2048.Idx) :
    iblk m c 1 t y = m ((c : Thread nD τ).loc main_arg1) (ix2 (y 0) (y 1)) := by
  blk_point [iblk, V, idx_val t]

theorem pos_2 (t : Fin cfg0.N) (y : S256x2048.Idx) :
    ((cfg0.win 2).blk t).view.emb y = (ix2 (row t (y 0)) (y 1) : S4096x2048.Idx) := by
  blk_ext [idx_val t, row]

/-- The array after the run. -/
theorem final (c : Dev nD) :
    (dats m 0 c).arrAt 2 (cfgs 0).N = val_main_v12 (F := Ideal) (m ((c : Thread nD τ).loc main_arg0))
      (m ((c : Thread nD τ).loc main_arg1)) := by
  refine (dats m 0 c).arrAt_eq_of_covers 2 _ (by decide +kernel) fun t hf y => ?_
  rw [after0_2, pos_2]
  frame_out
  rw [store, reference]
  simp only [read_0, read_1]
  rfl

end Cert.RmsFwdIdeal.Step

end
-- ==== Proof.lean ====
/- Every claim of `Cert.Claim`, each by name, and their conjunction. -/
module

public import proofs.«01_k».proof.Defs
public import proofs.«01_k».proof.Proof.Gen.Kernel
public import proofs.«01_k».proof.Proof.Gen.Kernel.Frame
public import proofs.«01_k».proof.Proof.Gen.KernelIdeal
public import proofs.«01_k».proof.Proof.Gen.KernelIdeal.Frame
public import proofs.«01_k».proof.Proof.Gen.FfnUpDx
public import proofs.«01_k».proof.Proof.Gen.FfnUpDx.Frame
public import proofs.«01_k».proof.Proof.Gen.FfnUpDxIdeal
public import proofs.«01_k».proof.Proof.Gen.FfnUpDxIdeal.Frame
public import proofs.«01_k».proof.Proof.Gen.FfnUpDxRefIdeal
public import proofs.«01_k».proof.Proof.Gen.FfnUpDxRefIdeal.Run
public import proofs.«01_k».proof.Proof.Gen.FfnUpDxRefIdeal.Read
public import proofs.«01_k».proof.Proof.Gen.FfnUpDw
public import proofs.«01_k».proof.Proof.Gen.FfnUpDw.Frame
public import proofs.«01_k».proof.Proof.Gen.FfnUpDwIdeal
public import proofs.«01_k».proof.Proof.Gen.FfnUpDwIdeal.Frame
public import proofs.«01_k».proof.Proof.Gen.FfnUpDwRefIdeal
public import proofs.«01_k».proof.Proof.Gen.FfnUpDwRefIdeal.Run
public import proofs.«01_k».proof.Proof.Gen.FfnUpDwRefIdeal.Read
public import proofs.«01_k».proof.Proof.Gen.FfnDownDx
public import proofs.«01_k».proof.Proof.Gen.FfnDownDx.Frame
public import proofs.«01_k».proof.Proof.Gen.FfnDownDxIdeal
public import proofs.«01_k».proof.Proof.Gen.FfnDownDxIdeal.Frame
public import proofs.«01_k».proof.Proof.Gen.FfnDownDxRefIdeal
public import proofs.«01_k».proof.Proof.Gen.FfnDownDxRefIdeal.Run
public import proofs.«01_k».proof.Proof.Gen.FfnDownDxRefIdeal.Read
public import proofs.«01_k».proof.Proof.Gen.FfnDownDw
public import proofs.«01_k».proof.Proof.Gen.FfnDownDw.Frame
public import proofs.«01_k».proof.Proof.Gen.FfnDownDwIdeal
public import proofs.«01_k».proof.Proof.Gen.FfnDownDwIdeal.Frame
public import proofs.«01_k».proof.Proof.Gen.FfnDownDwRefIdeal
public import proofs.«01_k».proof.Proof.Gen.FfnDownDwRefIdeal.Run
public import proofs.«01_k».proof.Proof.Gen.FfnDownDwRefIdeal.Read
public import proofs.«01_k».proof.Proof.Gen.SsmInDx
public import proofs.«01_k».proof.Proof.Gen.SsmInDx.Frame
public import proofs.«01_k».proof.Proof.Gen.SsmInDxIdeal
public import proofs.«01_k».proof.Proof.Gen.SsmInDxIdeal.Frame
public import proofs.«01_k».proof.Proof.Gen.SsmInDxRefIdeal
public import proofs.«01_k».proof.Proof.Gen.SsmInDxRefIdeal.Run
public import proofs.«01_k».proof.Proof.Gen.SsmInDxRefIdeal.Read
public import proofs.«01_k».proof.Proof.Gen.SsmInDw
public import proofs.«01_k».proof.Proof.Gen.SsmInDw.Frame
public import proofs.«01_k».proof.Proof.Gen.SsmInDwIdeal
public import proofs.«01_k».proof.Proof.Gen.SsmInDwIdeal.Frame
public import proofs.«01_k».proof.Proof.Gen.SsmInDwRefIdeal
public import proofs.«01_k».proof.Proof.Gen.SsmInDwRefIdeal.Run
public import proofs.«01_k».proof.Proof.Gen.SsmInDwRefIdeal.Read
public import proofs.«01_k».proof.Proof.Gen.SsmOutDx
public import proofs.«01_k».proof.Proof.Gen.SsmOutDx.Frame
public import proofs.«01_k».proof.Proof.Gen.SsmOutDxIdeal
public import proofs.«01_k».proof.Proof.Gen.SsmOutDxIdeal.Frame
public import proofs.«01_k».proof.Proof.Gen.SsmOutDxRefIdeal
public import proofs.«01_k».proof.Proof.Gen.SsmOutDxRefIdeal.Run
public import proofs.«01_k».proof.Proof.Gen.SsmOutDxRefIdeal.Read
public import proofs.«01_k».proof.Proof.Gen.SsmOutDw
public import proofs.«01_k».proof.Proof.Gen.SsmOutDw.Frame
public import proofs.«01_k».proof.Proof.Gen.SsmOutDwIdeal
public import proofs.«01_k».proof.Proof.Gen.SsmOutDwIdeal.Frame
public import proofs.«01_k».proof.Proof.Gen.SsmOutDwRefIdeal
public import proofs.«01_k».proof.Proof.Gen.SsmOutDwRefIdeal.Run
public import proofs.«01_k».proof.Proof.Gen.SsmOutDwRefIdeal.Read
public import proofs.«01_k».proof.Proof.Gen.CvInDx
public import proofs.«01_k».proof.Proof.Gen.CvInDx.Frame
public import proofs.«01_k».proof.Proof.Gen.CvInDxIdeal
public import proofs.«01_k».proof.Proof.Gen.CvInDxIdeal.Frame
public import proofs.«01_k».proof.Proof.Gen.CvInDxRefIdeal
public import proofs.«01_k».proof.Proof.Gen.CvInDxRefIdeal.Run
public import proofs.«01_k».proof.Proof.Gen.CvInDxRefIdeal.Read
public import proofs.«01_k».proof.Proof.Gen.CvInDw
public import proofs.«01_k».proof.Proof.Gen.CvInDw.Frame
public import proofs.«01_k».proof.Proof.Gen.CvInDwIdeal
public import proofs.«01_k».proof.Proof.Gen.CvInDwIdeal.Frame
public import proofs.«01_k».proof.Proof.Gen.CvInDwRefIdeal
public import proofs.«01_k».proof.Proof.Gen.CvInDwRefIdeal.Run
public import proofs.«01_k».proof.Proof.Gen.CvInDwRefIdeal.Read
public import proofs.«01_k».proof.Proof.Gen.CvOutDx
public import proofs.«01_k».proof.Proof.Gen.CvOutDx.Frame
public import proofs.«01_k».proof.Proof.Gen.CvOutDxIdeal
public import proofs.«01_k».proof.Proof.Gen.CvOutDxIdeal.Frame
public import proofs.«01_k».proof.Proof.Gen.CvOutDxRefIdeal
public import proofs.«01_k».proof.Proof.Gen.CvOutDxRefIdeal.Run
public import proofs.«01_k».proof.Proof.Gen.CvOutDxRefIdeal.Read
public import proofs.«01_k».proof.Proof.Gen.CvOutDw
public import proofs.«01_k».proof.Proof.Gen.CvOutDw.Frame
public import proofs.«01_k».proof.Proof.Gen.CvOutDwIdeal
public import proofs.«01_k».proof.Proof.Gen.CvOutDwIdeal.Frame
public import proofs.«01_k».proof.Proof.Gen.CvOutDwRefIdeal
public import proofs.«01_k».proof.Proof.Gen.CvOutDwRefIdeal.Run
public import proofs.«01_k».proof.Proof.Gen.CvOutDwRefIdeal.Read
public import proofs.«01_k».proof.Proof.Gen.FfnUp
public import proofs.«01_k».proof.Proof.Gen.FfnUp.Frame
public import proofs.«01_k».proof.Proof.Gen.FfnUpIdeal
public import proofs.«01_k».proof.Proof.Gen.FfnUpIdeal.Frame
public import proofs.«01_k».proof.Proof.Gen.FfnUpRefIdeal
public import proofs.«01_k».proof.Proof.Gen.FfnUpRefIdeal.Run
public import proofs.«01_k».proof.Proof.Gen.FfnUpRefIdeal.Read
public import proofs.«01_k».proof.Proof.Gen.FfnDown
public import proofs.«01_k».proof.Proof.Gen.FfnDown.Frame
public import proofs.«01_k».proof.Proof.Gen.FfnDownIdeal
public import proofs.«01_k».proof.Proof.Gen.FfnDownIdeal.Frame
public import proofs.«01_k».proof.Proof.Gen.FfnDownRefIdeal
public import proofs.«01_k».proof.Proof.Gen.FfnDownRefIdeal.Run
public import proofs.«01_k».proof.Proof.Gen.FfnDownRefIdeal.Read
public import proofs.«01_k».proof.Proof.Gen.SsmIn
public import proofs.«01_k».proof.Proof.Gen.SsmIn.Frame
public import proofs.«01_k».proof.Proof.Gen.SsmInIdeal
public import proofs.«01_k».proof.Proof.Gen.SsmInIdeal.Frame
public import proofs.«01_k».proof.Proof.Gen.SsmInRefIdeal
public import proofs.«01_k».proof.Proof.Gen.SsmInRefIdeal.Run
public import proofs.«01_k».proof.Proof.Gen.SsmInRefIdeal.Read
public import proofs.«01_k».proof.Proof.Gen.SsmOut
public import proofs.«01_k».proof.Proof.Gen.SsmOut.Frame
public import proofs.«01_k».proof.Proof.Gen.SsmOutIdeal
public import proofs.«01_k».proof.Proof.Gen.SsmOutIdeal.Frame
public import proofs.«01_k».proof.Proof.Gen.SsmOutRefIdeal
public import proofs.«01_k».proof.Proof.Gen.SsmOutRefIdeal.Run
public import proofs.«01_k».proof.Proof.Gen.SsmOutRefIdeal.Read
public import proofs.«01_k».proof.Proof.Gen.CvIn
public import proofs.«01_k».proof.Proof.Gen.CvIn.Frame
public import proofs.«01_k».proof.Proof.Gen.CvInIdeal
public import proofs.«01_k».proof.Proof.Gen.CvInIdeal.Frame
public import proofs.«01_k».proof.Proof.Gen.CvInRefIdeal
public import proofs.«01_k».proof.Proof.Gen.CvInRefIdeal.Run
public import proofs.«01_k».proof.Proof.Gen.CvInRefIdeal.Read
public import proofs.«01_k».proof.Proof.Gen.CvOut
public import proofs.«01_k».proof.Proof.Gen.CvOut.Frame
public import proofs.«01_k».proof.Proof.Gen.CvOutIdeal
public import proofs.«01_k».proof.Proof.Gen.CvOutIdeal.Frame
public import proofs.«01_k».proof.Proof.Gen.CvOutRefIdeal
public import proofs.«01_k».proof.Proof.Gen.CvOutRefIdeal.Run
public import proofs.«01_k».proof.Proof.Gen.CvOutRefIdeal.Read
public import proofs.«01_k».proof.Proof.Gen.AdamCvIn
public import proofs.«01_k».proof.Proof.Gen.AdamCvIn.Frame
public import proofs.«01_k».proof.Proof.Gen.AdamCvInIdeal
public import proofs.«01_k».proof.Proof.Gen.AdamCvInIdeal.Frame
public import proofs.«01_k».proof.Proof.Gen.AdamCvInRefIdeal
public import proofs.«01_k».proof.Proof.Gen.AdamCvInRefIdeal.Run
public import proofs.«01_k».proof.Proof.Gen.AdamCvInRefIdeal.Read
public import proofs.«01_k».proof.Proof.Gen.AdamCvOut
public import proofs.«01_k».proof.Proof.Gen.AdamCvOut.Frame
public import proofs.«01_k».proof.Proof.Gen.AdamCvOutIdeal
public import proofs.«01_k».proof.Proof.Gen.AdamCvOutIdeal.Frame
public import proofs.«01_k».proof.Proof.Gen.AdamCvOutRefIdeal
public import proofs.«01_k».proof.Proof.Gen.AdamCvOutRefIdeal.Run
public import proofs.«01_k».proof.Proof.Gen.AdamCvOutRefIdeal.Read
public import proofs.«01_k».proof.Proof.Gen.AdamSsmIn
public import proofs.«01_k».proof.Proof.Gen.AdamSsmIn.Frame
public import proofs.«01_k».proof.Proof.Gen.AdamSsmInIdeal
public import proofs.«01_k».proof.Proof.Gen.AdamSsmInIdeal.Frame
public import proofs.«01_k».proof.Proof.Gen.AdamSsmInRefIdeal
public import proofs.«01_k».proof.Proof.Gen.AdamSsmInRefIdeal.Run
public import proofs.«01_k».proof.Proof.Gen.AdamSsmInRefIdeal.Read
public import proofs.«01_k».proof.Proof.Gen.AdamSsmOut
public import proofs.«01_k».proof.Proof.Gen.AdamSsmOut.Frame
public import proofs.«01_k».proof.Proof.Gen.AdamSsmOutIdeal
public import proofs.«01_k».proof.Proof.Gen.AdamSsmOutIdeal.Frame
public import proofs.«01_k».proof.Proof.Gen.AdamSsmOutRefIdeal
public import proofs.«01_k».proof.Proof.Gen.AdamSsmOutRefIdeal.Run
public import proofs.«01_k».proof.Proof.Gen.AdamSsmOutRefIdeal.Read
public import proofs.«01_k».proof.Proof.Gen.AdamFfnUp
public import proofs.«01_k».proof.Proof.Gen.AdamFfnUp.Frame
public import proofs.«01_k».proof.Proof.Gen.AdamFfnUpIdeal
public import proofs.«01_k».proof.Proof.Gen.AdamFfnUpIdeal.Frame
public import proofs.«01_k».proof.Proof.Gen.AdamFfnUpRefIdeal
public import proofs.«01_k».proof.Proof.Gen.AdamFfnUpRefIdeal.Run
public import proofs.«01_k».proof.Proof.Gen.AdamFfnUpRefIdeal.Read
public import proofs.«01_k».proof.Proof.Gen.AdamFfnDown
public import proofs.«01_k».proof.Proof.Gen.AdamFfnDown.Frame
public import proofs.«01_k».proof.Proof.Gen.AdamFfnDownIdeal
public import proofs.«01_k».proof.Proof.Gen.AdamFfnDownIdeal.Frame
public import proofs.«01_k».proof.Proof.Gen.AdamFfnDownRefIdeal
public import proofs.«01_k».proof.Proof.Gen.AdamFfnDownRefIdeal.Run
public import proofs.«01_k».proof.Proof.Gen.AdamFfnDownRefIdeal.Read
public import proofs.«01_k».proof.Proof.Gen.SumSmall
public import proofs.«01_k».proof.Proof.Gen.SumSmall.Frame
public import proofs.«01_k».proof.Proof.Gen.SumSmallIdeal
public import proofs.«01_k».proof.Proof.Gen.SumSmallIdeal.Frame
public import proofs.«01_k».proof.Proof.Gen.SumSmallRefIdeal
public import proofs.«01_k».proof.Proof.Gen.SumSmallRefIdeal.Run
public import proofs.«01_k».proof.Proof.Gen.SumSmallRefIdeal.Read
public import proofs.«01_k».proof.Proof.Gen.AdamSmall
public import proofs.«01_k».proof.Proof.Gen.AdamSmall.Frame
public import proofs.«01_k».proof.Proof.Gen.AdamSmallIdeal
public import proofs.«01_k».proof.Proof.Gen.AdamSmallIdeal.Frame
public import proofs.«01_k».proof.Proof.Gen.AdamSmallRefIdeal
public import proofs.«01_k».proof.Proof.Gen.AdamSmallRefIdeal.Run
public import proofs.«01_k».proof.Proof.Gen.AdamSmallRefIdeal.Read
public import proofs.«01_k».proof.Proof.Gen.FinalLoss
public import proofs.«01_k».proof.Proof.Gen.FinalLoss.Frame
public import proofs.«01_k».proof.Proof.Gen.FinalLossIdeal
public import proofs.«01_k».proof.Proof.Gen.FinalLossIdeal.Frame
public import proofs.«01_k».proof.Proof.Gen.FinalLossRefIdeal
public import proofs.«01_k».proof.Proof.Gen.FinalLossRefIdeal.Run
public import proofs.«01_k».proof.Proof.Gen.FinalLossRefIdeal.Read
public import proofs.«01_k».proof.Proof.Gen.RmsBwd
public import proofs.«01_k».proof.Proof.Gen.RmsBwd.Frame
public import proofs.«01_k».proof.Proof.Gen.RmsBwdIdeal
public import proofs.«01_k».proof.Proof.Gen.RmsBwdIdeal.Frame
public import proofs.«01_k».proof.Proof.Gen.RmsBwdRefIdeal
public import proofs.«01_k».proof.Proof.Gen.RmsBwdRefIdeal.Run
public import proofs.«01_k».proof.Proof.Gen.RmsBwdRefIdeal.Read
public import proofs.«01_k».proof.Proof.Gen.LossBwd
public import proofs.«01_k».proof.Proof.Gen.LossBwd.Frame
public import proofs.«01_k».proof.Proof.Gen.LossBwdIdeal
public import proofs.«01_k».proof.Proof.Gen.LossBwdIdeal.Frame
public import proofs.«01_k».proof.Proof.Gen.LossBwdRefIdeal
public import proofs.«01_k».proof.Proof.Gen.LossBwdRefIdeal.Run
public import proofs.«01_k».proof.Proof.Gen.LossBwdRefIdeal.Read
public import proofs.«01_k».proof.Proof.Gen.RmsFwd
public import proofs.«01_k».proof.Proof.Gen.RmsFwd.Frame
public import proofs.«01_k».proof.Proof.Gen.RmsFwdIdeal
public import proofs.«01_k».proof.Proof.Gen.RmsFwdIdeal.Frame
public import proofs.«01_k».proof.Proof.Gen.RmsFwdRefIdeal
public import proofs.«01_k».proof.Proof.Gen.RmsFwdRefIdeal.Run
public import proofs.«01_k».proof.Proof.Gen.RmsFwdRefIdeal.Read
public import proofs.«01_k».proof.Proof.FfnUpDx
public import proofs.«01_k».proof.Proof.FfnUpDw
public import proofs.«01_k».proof.Proof.FfnDownDx
public import proofs.«01_k».proof.Proof.FfnDownDw
public import proofs.«01_k».proof.Proof.SsmInDx
public import proofs.«01_k».proof.Proof.SsmInDw
public import proofs.«01_k».proof.Proof.SsmOutDx
public import proofs.«01_k».proof.Proof.SsmOutDw
public import proofs.«01_k».proof.Proof.CvInDx
public import proofs.«01_k».proof.Proof.CvInDw
public import proofs.«01_k».proof.Proof.CvOutDx
public import proofs.«01_k».proof.Proof.CvOutDw
public import proofs.«01_k».proof.Proof.FfnUp
public import proofs.«01_k».proof.Proof.FfnDown
public import proofs.«01_k».proof.Proof.SsmIn
public import proofs.«01_k».proof.Proof.SsmOut
public import proofs.«01_k».proof.Proof.CvIn
public import proofs.«01_k».proof.Proof.CvOut
public import proofs.«01_k».proof.Proof.Opt.AdamCvIn
public import proofs.«01_k».proof.Proof.Opt.AdamCvOut
public import proofs.«01_k».proof.Proof.Opt.AdamSsmIn
public import proofs.«01_k».proof.Proof.Opt.AdamSsmOut
public import proofs.«01_k».proof.Proof.Opt.AdamFfnUp
public import proofs.«01_k».proof.Proof.Opt.AdamFfnDown
public import proofs.«01_k».proof.Proof.Opt.SumSmall
public import proofs.«01_k».proof.Proof.Opt.AdamSmall
public import proofs.«01_k».proof.Proof.Opt.FinalLoss
public import proofs.«01_k».proof.Proof.Opt.RmsBwd
public import proofs.«01_k».proof.Proof.Opt.LossBwd
public import proofs.«01_k».proof.Proof.Opt.RmsFwd
public import Idealize.ShloMosaic.Lib.Claim
public import Idealize.ShloMosaic.Lib.Quiescent

@[expose] public section

set_option maxRecDepth 16384

noncomputable section

open Idealize.ShloMosaic Idealize.ShloMosaic.TcCoe Idealize.SL.Sem

namespace Cert.Proof

theorem quiescent_Kernel : Cert.quiescent_Kernel := fun m g _ => Cert.Kernel.Gen.frame m g

theorem quiescent_KernelIdeal : Cert.quiescent_KernelIdeal := fun m g _ => Cert.KernelIdeal.Gen.frame m g

theorem quiescent_FfnUpDx : Cert.quiescent_FfnUpDx := fun m g _ => Cert.FfnUpDx.Gen.frame m g

theorem quiescent_FfnUpDxIdeal : Cert.quiescent_FfnUpDxIdeal := fun m g _ => Cert.FfnUpDxIdeal.Gen.frame m g

theorem quiescent_FfnUpDxRefIdeal : Cert.quiescent_FfnUpDxRefIdeal := fun m g _ =>
  θ_run_mono (Cert.FfnUpDxRefIdeal.Value.run m g) fun r h => ⟨fun c => (h c).2, sem_eq_zero_of_no_sems rfl r.2⟩

theorem quiescent_FfnUpDw : Cert.quiescent_FfnUpDw := fun m g _ => Cert.FfnUpDw.Gen.frame m g

theorem quiescent_FfnUpDwIdeal : Cert.quiescent_FfnUpDwIdeal := fun m g _ => Cert.FfnUpDwIdeal.Gen.frame m g

theorem quiescent_FfnUpDwRefIdeal : Cert.quiescent_FfnUpDwRefIdeal := fun m g _ =>
  θ_run_mono (Cert.FfnUpDwRefIdeal.Value.run m g) fun r h => ⟨fun c => (h c).2, sem_eq_zero_of_no_sems rfl r.2⟩

theorem quiescent_FfnDownDx : Cert.quiescent_FfnDownDx := fun m g _ => Cert.FfnDownDx.Gen.frame m g

theorem quiescent_FfnDownDxIdeal : Cert.quiescent_FfnDownDxIdeal := fun m g _ => Cert.FfnDownDxIdeal.Gen.frame m g

theorem quiescent_FfnDownDxRefIdeal : Cert.quiescent_FfnDownDxRefIdeal := fun m g _ =>
  θ_run_mono (Cert.FfnDownDxRefIdeal.Value.run m g) fun r h => ⟨fun c => (h c).2, sem_eq_zero_of_no_sems rfl r.2⟩

theorem quiescent_FfnDownDw : Cert.quiescent_FfnDownDw := fun m g _ => Cert.FfnDownDw.Gen.frame m g

theorem quiescent_FfnDownDwIdeal : Cert.quiescent_FfnDownDwIdeal := fun m g _ => Cert.FfnDownDwIdeal.Gen.frame m g

theorem quiescent_FfnDownDwRefIdeal : Cert.quiescent_FfnDownDwRefIdeal := fun m g _ =>
  θ_run_mono (Cert.FfnDownDwRefIdeal.Value.run m g) fun r h => ⟨fun c => (h c).2, sem_eq_zero_of_no_sems rfl r.2⟩

theorem quiescent_SsmInDx : Cert.quiescent_SsmInDx := fun m g _ => Cert.SsmInDx.Gen.frame m g

theorem quiescent_SsmInDxIdeal : Cert.quiescent_SsmInDxIdeal := fun m g _ => Cert.SsmInDxIdeal.Gen.frame m g

theorem quiescent_SsmInDxRefIdeal : Cert.quiescent_SsmInDxRefIdeal := fun m g _ =>
  θ_run_mono (Cert.SsmInDxRefIdeal.Value.run m g) fun r h => ⟨fun c => (h c).2, sem_eq_zero_of_no_sems rfl r.2⟩

theorem quiescent_SsmInDw : Cert.quiescent_SsmInDw := fun m g _ => Cert.SsmInDw.Gen.frame m g

theorem quiescent_SsmInDwIdeal : Cert.quiescent_SsmInDwIdeal := fun m g _ => Cert.SsmInDwIdeal.Gen.frame m g

theorem quiescent_SsmInDwRefIdeal : Cert.quiescent_SsmInDwRefIdeal := fun m g _ =>
  θ_run_mono (Cert.SsmInDwRefIdeal.Value.run m g) fun r h => ⟨fun c => (h c).2, sem_eq_zero_of_no_sems rfl r.2⟩

theorem quiescent_SsmOutDx : Cert.quiescent_SsmOutDx := fun m g _ => Cert.SsmOutDx.Gen.frame m g

theorem quiescent_SsmOutDxIdeal : Cert.quiescent_SsmOutDxIdeal := fun m g _ => Cert.SsmOutDxIdeal.Gen.frame m g

theorem quiescent_SsmOutDxRefIdeal : Cert.quiescent_SsmOutDxRefIdeal := fun m g _ =>
  θ_run_mono (Cert.SsmOutDxRefIdeal.Value.run m g) fun r h => ⟨fun c => (h c).2, sem_eq_zero_of_no_sems rfl r.2⟩

theorem quiescent_SsmOutDw : Cert.quiescent_SsmOutDw := fun m g _ => Cert.SsmOutDw.Gen.frame m g

theorem quiescent_SsmOutDwIdeal : Cert.quiescent_SsmOutDwIdeal := fun m g _ => Cert.SsmOutDwIdeal.Gen.frame m g

theorem quiescent_SsmOutDwRefIdeal : Cert.quiescent_SsmOutDwRefIdeal := fun m g _ =>
  θ_run_mono (Cert.SsmOutDwRefIdeal.Value.run m g) fun r h => ⟨fun c => (h c).2, sem_eq_zero_of_no_sems rfl r.2⟩

theorem quiescent_CvInDx : Cert.quiescent_CvInDx := fun m g _ => Cert.CvInDx.Gen.frame m g

theorem quiescent_CvInDxIdeal : Cert.quiescent_CvInDxIdeal := fun m g _ => Cert.CvInDxIdeal.Gen.frame m g

theorem quiescent_CvInDxRefIdeal : Cert.quiescent_CvInDxRefIdeal := fun m g _ =>
  θ_run_mono (Cert.CvInDxRefIdeal.Value.run m g) fun r h => ⟨fun c => (h c).2, sem_eq_zero_of_no_sems rfl r.2⟩

theorem quiescent_CvInDw : Cert.quiescent_CvInDw := fun m g _ => Cert.CvInDw.Gen.frame m g

theorem quiescent_CvInDwIdeal : Cert.quiescent_CvInDwIdeal := fun m g _ => Cert.CvInDwIdeal.Gen.frame m g

theorem quiescent_CvInDwRefIdeal : Cert.quiescent_CvInDwRefIdeal := fun m g _ =>
  θ_run_mono (Cert.CvInDwRefIdeal.Value.run m g) fun r h => ⟨fun c => (h c).2, sem_eq_zero_of_no_sems rfl r.2⟩

theorem quiescent_CvOutDx : Cert.quiescent_CvOutDx := fun m g _ => Cert.CvOutDx.Gen.frame m g

theorem quiescent_CvOutDxIdeal : Cert.quiescent_CvOutDxIdeal := fun m g _ => Cert.CvOutDxIdeal.Gen.frame m g

theorem quiescent_CvOutDxRefIdeal : Cert.quiescent_CvOutDxRefIdeal := fun m g _ =>
  θ_run_mono (Cert.CvOutDxRefIdeal.Value.run m g) fun r h => ⟨fun c => (h c).2, sem_eq_zero_of_no_sems rfl r.2⟩

theorem quiescent_CvOutDw : Cert.quiescent_CvOutDw := fun m g _ => Cert.CvOutDw.Gen.frame m g

theorem quiescent_CvOutDwIdeal : Cert.quiescent_CvOutDwIdeal := fun m g _ => Cert.CvOutDwIdeal.Gen.frame m g

theorem quiescent_CvOutDwRefIdeal : Cert.quiescent_CvOutDwRefIdeal := fun m g _ =>
  θ_run_mono (Cert.CvOutDwRefIdeal.Value.run m g) fun r h => ⟨fun c => (h c).2, sem_eq_zero_of_no_sems rfl r.2⟩

theorem quiescent_FfnUp : Cert.quiescent_FfnUp := fun m g _ => Cert.FfnUp.Gen.frame m g

theorem quiescent_FfnUpIdeal : Cert.quiescent_FfnUpIdeal := fun m g _ => Cert.FfnUpIdeal.Gen.frame m g

theorem quiescent_FfnUpRefIdeal : Cert.quiescent_FfnUpRefIdeal := fun m g _ =>
  θ_run_mono (Cert.FfnUpRefIdeal.Value.run m g) fun r h => ⟨fun c => (h c).2, sem_eq_zero_of_no_sems rfl r.2⟩

theorem quiescent_FfnDown : Cert.quiescent_FfnDown := fun m g _ => Cert.FfnDown.Gen.frame m g

theorem quiescent_FfnDownIdeal : Cert.quiescent_FfnDownIdeal := fun m g _ => Cert.FfnDownIdeal.Gen.frame m g

theorem quiescent_FfnDownRefIdeal : Cert.quiescent_FfnDownRefIdeal := fun m g _ =>
  θ_run_mono (Cert.FfnDownRefIdeal.Value.run m g) fun r h => ⟨fun c => (h c).2, sem_eq_zero_of_no_sems rfl r.2⟩

theorem quiescent_SsmIn : Cert.quiescent_SsmIn := fun m g _ => Cert.SsmIn.Gen.frame m g

theorem quiescent_SsmInIdeal : Cert.quiescent_SsmInIdeal := fun m g _ => Cert.SsmInIdeal.Gen.frame m g

theorem quiescent_SsmInRefIdeal : Cert.quiescent_SsmInRefIdeal := fun m g _ =>
  θ_run_mono (Cert.SsmInRefIdeal.Value.run m g) fun r h => ⟨fun c => (h c).2, sem_eq_zero_of_no_sems rfl r.2⟩

theorem quiescent_SsmOut : Cert.quiescent_SsmOut := fun m g _ => Cert.SsmOut.Gen.frame m g

theorem quiescent_SsmOutIdeal : Cert.quiescent_SsmOutIdeal := fun m g _ => Cert.SsmOutIdeal.Gen.frame m g

theorem quiescent_SsmOutRefIdeal : Cert.quiescent_SsmOutRefIdeal := fun m g _ =>
  θ_run_mono (Cert.SsmOutRefIdeal.Value.run m g) fun r h => ⟨fun c => (h c).2, sem_eq_zero_of_no_sems rfl r.2⟩

theorem quiescent_CvIn : Cert.quiescent_CvIn := fun m g _ => Cert.CvIn.Gen.frame m g

theorem quiescent_CvInIdeal : Cert.quiescent_CvInIdeal := fun m g _ => Cert.CvInIdeal.Gen.frame m g

theorem quiescent_CvInRefIdeal : Cert.quiescent_CvInRefIdeal := fun m g _ =>
  θ_run_mono (Cert.CvInRefIdeal.Value.run m g) fun r h => ⟨fun c => (h c).2, sem_eq_zero_of_no_sems rfl r.2⟩

theorem quiescent_CvOut : Cert.quiescent_CvOut := fun m g _ => Cert.CvOut.Gen.frame m g

theorem quiescent_CvOutIdeal : Cert.quiescent_CvOutIdeal := fun m g _ => Cert.CvOutIdeal.Gen.frame m g

theorem quiescent_CvOutRefIdeal : Cert.quiescent_CvOutRefIdeal := fun m g _ =>
  θ_run_mono (Cert.CvOutRefIdeal.Value.run m g) fun r h => ⟨fun c => (h c).2, sem_eq_zero_of_no_sems rfl r.2⟩

theorem quiescent_AdamCvIn : Cert.quiescent_AdamCvIn := fun m g _ => Cert.AdamCvIn.Gen.frame m g

theorem quiescent_AdamCvInIdeal : Cert.quiescent_AdamCvInIdeal := fun m g _ => Cert.AdamCvInIdeal.Gen.frame m g

theorem quiescent_AdamCvInRefIdeal : Cert.quiescent_AdamCvInRefIdeal := fun m g _ =>
  θ_run_mono (Cert.AdamCvInRefIdeal.Value.run m g) fun r h => ⟨fun c => (h c).2.2.2.2, sem_eq_zero_of_no_sems rfl r.2⟩

theorem quiescent_AdamCvOut : Cert.quiescent_AdamCvOut := fun m g _ => Cert.AdamCvOut.Gen.frame m g

theorem quiescent_AdamCvOutIdeal : Cert.quiescent_AdamCvOutIdeal := fun m g _ => Cert.AdamCvOutIdeal.Gen.frame m g

theorem quiescent_AdamCvOutRefIdeal : Cert.quiescent_AdamCvOutRefIdeal := fun m g _ =>
  θ_run_mono (Cert.AdamCvOutRefIdeal.Value.run m g) fun r h => ⟨fun c => (h c).2.2.2.2, sem_eq_zero_of_no_sems rfl r.2⟩

theorem quiescent_AdamSsmIn : Cert.quiescent_AdamSsmIn := fun m g _ => Cert.AdamSsmIn.Gen.frame m g

theorem quiescent_AdamSsmInIdeal : Cert.quiescent_AdamSsmInIdeal := fun m g _ => Cert.AdamSsmInIdeal.Gen.frame m g

theorem quiescent_AdamSsmInRefIdeal : Cert.quiescent_AdamSsmInRefIdeal := fun m g _ =>
  θ_run_mono (Cert.AdamSsmInRefIdeal.Value.run m g) fun r h => ⟨fun c => (h c).2.2.2.2, sem_eq_zero_of_no_sems rfl r.2⟩

theorem quiescent_AdamSsmOut : Cert.quiescent_AdamSsmOut := fun m g _ => Cert.AdamSsmOut.Gen.frame m g

theorem quiescent_AdamSsmOutIdeal : Cert.quiescent_AdamSsmOutIdeal := fun m g _ => Cert.AdamSsmOutIdeal.Gen.frame m g

theorem quiescent_AdamSsmOutRefIdeal : Cert.quiescent_AdamSsmOutRefIdeal := fun m g _ =>
  θ_run_mono (Cert.AdamSsmOutRefIdeal.Value.run m g) fun r h => ⟨fun c => (h c).2.2.2.2, sem_eq_zero_of_no_sems rfl r.2⟩

theorem quiescent_AdamFfnUp : Cert.quiescent_AdamFfnUp := fun m g _ => Cert.AdamFfnUp.Gen.frame m g

theorem quiescent_AdamFfnUpIdeal : Cert.quiescent_AdamFfnUpIdeal := fun m g _ => Cert.AdamFfnUpIdeal.Gen.frame m g

theorem quiescent_AdamFfnUpRefIdeal : Cert.quiescent_AdamFfnUpRefIdeal := fun m g _ =>
  θ_run_mono (Cert.AdamFfnUpRefIdeal.Value.run m g) fun r h => ⟨fun c => (h c).2.2.2.2, sem_eq_zero_of_no_sems rfl r.2⟩

theorem quiescent_AdamFfnDown : Cert.quiescent_AdamFfnDown := fun m g _ => Cert.AdamFfnDown.Gen.frame m g

theorem quiescent_AdamFfnDownIdeal : Cert.quiescent_AdamFfnDownIdeal := fun m g _ => Cert.AdamFfnDownIdeal.Gen.frame m g

theorem quiescent_AdamFfnDownRefIdeal : Cert.quiescent_AdamFfnDownRefIdeal := fun m g _ =>
  θ_run_mono (Cert.AdamFfnDownRefIdeal.Value.run m g) fun r h => ⟨fun c => (h c).2.2.2.2, sem_eq_zero_of_no_sems rfl r.2⟩

theorem quiescent_SumSmall : Cert.quiescent_SumSmall := fun m g _ => Cert.SumSmall.Gen.frame m g

theorem quiescent_SumSmallIdeal : Cert.quiescent_SumSmallIdeal := fun m g _ => Cert.SumSmallIdeal.Gen.frame m g

theorem quiescent_SumSmallRefIdeal : Cert.quiescent_SumSmallRefIdeal := fun m g _ =>
  θ_run_mono (Cert.SumSmallRefIdeal.Value.run m g) fun r h => ⟨fun c => (h c).2, sem_eq_zero_of_no_sems rfl r.2⟩

theorem quiescent_AdamSmall : Cert.quiescent_AdamSmall := fun m g _ => Cert.AdamSmall.Gen.frame m g

theorem quiescent_AdamSmallIdeal : Cert.quiescent_AdamSmallIdeal := fun m g _ => Cert.AdamSmallIdeal.Gen.frame m g

theorem quiescent_AdamSmallRefIdeal : Cert.quiescent_AdamSmallRefIdeal := fun m g _ =>
  θ_run_mono (Cert.AdamSmallRefIdeal.Value.run m g) fun r h => ⟨fun c => (h c).2.2.2, sem_eq_zero_of_no_sems rfl r.2⟩

theorem quiescent_FinalLoss : Cert.quiescent_FinalLoss := fun m g _ => Cert.FinalLoss.Gen.frame m g

theorem quiescent_FinalLossIdeal : Cert.quiescent_FinalLossIdeal := fun m g _ => Cert.FinalLossIdeal.Gen.frame m g

theorem quiescent_FinalLossRefIdeal : Cert.quiescent_FinalLossRefIdeal := fun m g _ =>
  θ_run_mono (Cert.FinalLossRefIdeal.Value.run m g) fun r h => ⟨fun c => (h c).2, sem_eq_zero_of_no_sems rfl r.2⟩

theorem quiescent_RmsBwd : Cert.quiescent_RmsBwd := fun m g _ => Cert.RmsBwd.Gen.frame m g

theorem quiescent_RmsBwdIdeal : Cert.quiescent_RmsBwdIdeal := fun m g _ => Cert.RmsBwdIdeal.Gen.frame m g

theorem quiescent_RmsBwdRefIdeal : Cert.quiescent_RmsBwdRefIdeal := fun m g _ =>
  θ_run_mono (Cert.RmsBwdRefIdeal.Value.run m g) fun r h => ⟨fun c => (h c).2, sem_eq_zero_of_no_sems rfl r.2⟩

theorem quiescent_LossBwd : Cert.quiescent_LossBwd := fun m g _ => Cert.LossBwd.Gen.frame m g

theorem quiescent_LossBwdIdeal : Cert.quiescent_LossBwdIdeal := fun m g _ => Cert.LossBwdIdeal.Gen.frame m g

theorem quiescent_LossBwdRefIdeal : Cert.quiescent_LossBwdRefIdeal := fun m g _ =>
  θ_run_mono (Cert.LossBwdRefIdeal.Value.run m g) fun r h => ⟨fun c => (h c).2, sem_eq_zero_of_no_sems rfl r.2⟩

theorem quiescent_RmsFwd : Cert.quiescent_RmsFwd := fun m g _ => Cert.RmsFwd.Gen.frame m g

theorem quiescent_RmsFwdIdeal : Cert.quiescent_RmsFwdIdeal := fun m g _ => Cert.RmsFwdIdeal.Gen.frame m g

theorem quiescent_RmsFwdRefIdeal : Cert.quiescent_RmsFwdRefIdeal := fun m g _ =>
  θ_run_mono (Cert.RmsFwdRefIdeal.Value.run m g) fun r h => ⟨fun c => (h c).2, sem_eq_zero_of_no_sems rfl r.2⟩

theorem preserves_Kernel_KernelIdeal : Cert.preserves_Kernel_KernelIdeal := trivial

theorem preserves_FfnUpDx_FfnUpDxIdeal : Cert.preserves_FfnUpDx_FfnUpDxIdeal := trivial

theorem algebraic_FfnUpDxIdeal_FfnUpDxRefIdeal : Cert.algebraic_FfnUpDxIdeal_FfnUpDxRefIdeal := by
  pair_intro
  · run_from Cert.FfnUpDxIdeal.Gen.run_main m g
  · run_from Cert.FfnUpDxRefIdeal.Value.run m' g'
    exact (Cert.FfnUpDxIdeal.Product.final m c).symm

theorem preserves_FfnUpDw_FfnUpDwIdeal : Cert.preserves_FfnUpDw_FfnUpDwIdeal := trivial

theorem algebraic_FfnUpDwIdeal_FfnUpDwRefIdeal : Cert.algebraic_FfnUpDwIdeal_FfnUpDwRefIdeal := by
  pair_intro
  · run_from Cert.FfnUpDwIdeal.Gen.run_main m g
  · run_from Cert.FfnUpDwRefIdeal.Value.run m' g'
    rw [Cert.FfnUpDwRefIdeal.Read.val_main_v12_eq]
    exact (Cert.FfnUpDwIdeal.Product.final m c).symm

theorem preserves_FfnDownDx_FfnDownDxIdeal : Cert.preserves_FfnDownDx_FfnDownDxIdeal := trivial

theorem algebraic_FfnDownDxIdeal_FfnDownDxRefIdeal : Cert.algebraic_FfnDownDxIdeal_FfnDownDxRefIdeal := by
  pair_intro
  · run_from Cert.FfnDownDxIdeal.Gen.run_main m g
  · run_from Cert.FfnDownDxRefIdeal.Value.run m' g'
    exact (Cert.FfnDownDxIdeal.Product.final m c).symm

theorem preserves_FfnDownDw_FfnDownDwIdeal : Cert.preserves_FfnDownDw_FfnDownDwIdeal := trivial

theorem algebraic_FfnDownDwIdeal_FfnDownDwRefIdeal : Cert.algebraic_FfnDownDwIdeal_FfnDownDwRefIdeal := by
  pair_intro
  · run_from Cert.FfnDownDwIdeal.Gen.run_main m g
  · run_from Cert.FfnDownDwRefIdeal.Value.run m' g'
    rw [Cert.FfnDownDwRefIdeal.Read.val_main_v6_eq]
    exact (Cert.FfnDownDwIdeal.Product.final m c).symm

theorem preserves_SsmInDx_SsmInDxIdeal : Cert.preserves_SsmInDx_SsmInDxIdeal := trivial

theorem algebraic_SsmInDxIdeal_SsmInDxRefIdeal : Cert.algebraic_SsmInDxIdeal_SsmInDxRefIdeal := by
  pair_intro
  · run_from Cert.SsmInDxIdeal.Gen.run_main m g
  · run_from Cert.SsmInDxRefIdeal.Value.run m' g'
    exact (Cert.SsmInDxIdeal.Product.final m c).symm

theorem preserves_SsmInDw_SsmInDwIdeal : Cert.preserves_SsmInDw_SsmInDwIdeal := trivial

theorem algebraic_SsmInDwIdeal_SsmInDwRefIdeal : Cert.algebraic_SsmInDwIdeal_SsmInDwRefIdeal := by
  pair_intro
  · run_from Cert.SsmInDwIdeal.Gen.run_main m g
  · run_from Cert.SsmInDwRefIdeal.Value.run m' g'
    rw [Cert.SsmInDwRefIdeal.Read.val_main_v10_eq]
    exact (Cert.SsmInDwIdeal.Product.final m c).symm

theorem preserves_SsmOutDx_SsmOutDxIdeal : Cert.preserves_SsmOutDx_SsmOutDxIdeal := trivial

theorem algebraic_SsmOutDxIdeal_SsmOutDxRefIdeal : Cert.algebraic_SsmOutDxIdeal_SsmOutDxRefIdeal := by
  pair_intro
  · run_from Cert.SsmOutDxIdeal.Gen.run_main m g
  · run_from Cert.SsmOutDxRefIdeal.Value.run m' g'
    exact (Cert.SsmOutDxIdeal.Product.final m c).symm

theorem preserves_SsmOutDw_SsmOutDwIdeal : Cert.preserves_SsmOutDw_SsmOutDwIdeal := trivial

theorem algebraic_SsmOutDwIdeal_SsmOutDwRefIdeal : Cert.algebraic_SsmOutDwIdeal_SsmOutDwRefIdeal := by
  pair_intro
  · run_from Cert.SsmOutDwIdeal.Gen.run_main m g
  · run_from Cert.SsmOutDwRefIdeal.Value.run m' g'
    rw [Cert.SsmOutDwRefIdeal.Read.val_main_v6_eq]
    exact (Cert.SsmOutDwIdeal.Product.final m c).symm

theorem preserves_CvInDx_CvInDxIdeal : Cert.preserves_CvInDx_CvInDxIdeal := trivial

theorem algebraic_CvInDxIdeal_CvInDxRefIdeal : Cert.algebraic_CvInDxIdeal_CvInDxRefIdeal := by
  pair_intro
  · run_from Cert.CvInDxIdeal.Gen.run_main m g
  · run_from Cert.CvInDxRefIdeal.Value.run m' g'
    exact (Cert.CvInDxIdeal.Product.final m c).symm

theorem preserves_CvInDw_CvInDwIdeal : Cert.preserves_CvInDw_CvInDwIdeal := trivial

theorem algebraic_CvInDwIdeal_CvInDwRefIdeal : Cert.algebraic_CvInDwIdeal_CvInDwRefIdeal := by
  pair_intro
  · run_from Cert.CvInDwIdeal.Gen.run_main m g
  · run_from Cert.CvInDwRefIdeal.Value.run m' g'
    rw [Cert.CvInDwRefIdeal.Read.val_main_v10_eq]
    exact (Cert.CvInDwIdeal.Product.final m c).symm

theorem preserves_CvOutDx_CvOutDxIdeal : Cert.preserves_CvOutDx_CvOutDxIdeal := trivial

theorem algebraic_CvOutDxIdeal_CvOutDxRefIdeal : Cert.algebraic_CvOutDxIdeal_CvOutDxRefIdeal := by
  pair_intro
  · run_from Cert.CvOutDxIdeal.Gen.run_main m g
  · run_from Cert.CvOutDxRefIdeal.Value.run m' g'
    exact (Cert.CvOutDxIdeal.Product.final m c).symm

theorem preserves_CvOutDw_CvOutDwIdeal : Cert.preserves_CvOutDw_CvOutDwIdeal := trivial

theorem algebraic_CvOutDwIdeal_CvOutDwRefIdeal : Cert.algebraic_CvOutDwIdeal_CvOutDwRefIdeal := by
  pair_intro
  · run_from Cert.CvOutDwIdeal.Gen.run_main m g
  · run_from Cert.CvOutDwRefIdeal.Value.run m' g'
    rw [Cert.CvOutDwRefIdeal.Read.val_main_v6_eq]
    exact (Cert.CvOutDwIdeal.Product.final m c).symm

theorem preserves_FfnUp_FfnUpIdeal : Cert.preserves_FfnUp_FfnUpIdeal := trivial

theorem algebraic_FfnUpIdeal_FfnUpRefIdeal : Cert.algebraic_FfnUpIdeal_FfnUpRefIdeal := by
  pair_intro
  · run_from Cert.FfnUpIdeal.Gen.run_main m g
  · run_from Cert.FfnUpRefIdeal.Value.run m' g'
    rw [Cert.FfnUpRefIdeal.Read.val_main_v6_eq]
    exact (Cert.FfnUpIdeal.Product.final m c).symm

theorem preserves_FfnDown_FfnDownIdeal : Cert.preserves_FfnDown_FfnDownIdeal := trivial

theorem algebraic_FfnDownIdeal_FfnDownRefIdeal : Cert.algebraic_FfnDownIdeal_FfnDownRefIdeal := by
  pair_intro
  · run_from Cert.FfnDownIdeal.Gen.run_main m g
  · run_from Cert.FfnDownRefIdeal.Value.run m' g'
    rw [Cert.FfnDownRefIdeal.Read.val_main_v3_eq]
    exact (Cert.FfnDownIdeal.Product.final m c).symm

theorem preserves_SsmIn_SsmInIdeal : Cert.preserves_SsmIn_SsmInIdeal := trivial

theorem algebraic_SsmInIdeal_SsmInRefIdeal : Cert.algebraic_SsmInIdeal_SsmInRefIdeal := by
  pair_intro
  · run_from Cert.SsmInIdeal.Gen.run_main m g
  · run_from Cert.SsmInRefIdeal.Value.run m' g'
    exact (Cert.SsmInIdeal.Product.final m c).symm

theorem preserves_SsmOut_SsmOutIdeal : Cert.preserves_SsmOut_SsmOutIdeal := trivial

theorem algebraic_SsmOutIdeal_SsmOutRefIdeal : Cert.algebraic_SsmOutIdeal_SsmOutRefIdeal := by
  pair_intro
  · run_from Cert.SsmOutIdeal.Gen.run_main m g
  · run_from Cert.SsmOutRefIdeal.Value.run m' g'
    rw [Cert.SsmOutRefIdeal.Read.val_main_v3_eq]
    exact (Cert.SsmOutIdeal.Product.final m c).symm

theorem preserves_CvIn_CvInIdeal : Cert.preserves_CvIn_CvInIdeal := trivial

theorem algebraic_CvInIdeal_CvInRefIdeal : Cert.algebraic_CvInIdeal_CvInRefIdeal := by
  pair_intro
  · run_from Cert.CvInIdeal.Gen.run_main m g
  · run_from Cert.CvInRefIdeal.Value.run m' g'
    rw [Cert.CvInRefIdeal.Read.val_main_v6_eq]
    exact (Cert.CvInIdeal.Product.final m c).symm

theorem preserves_CvOut_CvOutIdeal : Cert.preserves_CvOut_CvOutIdeal := trivial

theorem algebraic_CvOutIdeal_CvOutRefIdeal : Cert.algebraic_CvOutIdeal_CvOutRefIdeal := by
  pair_intro
  · run_from Cert.CvOutIdeal.Gen.run_main m g
  · run_from Cert.CvOutRefIdeal.Value.run m' g'
    rw [Cert.CvOutRefIdeal.Read.val_main_v5_eq]
    exact (Cert.CvOutIdeal.Product.final m c).symm

theorem preserves_AdamCvIn_AdamCvInIdeal : Cert.preserves_AdamCvIn_AdamCvInIdeal := trivial

theorem algebraic_AdamCvInIdeal_AdamCvInRefIdeal : Cert.algebraic_AdamCvInIdeal_AdamCvInRefIdeal := by
  pair_intro
  · run_from Cert.AdamCvInIdeal.Gen.run_main m g
  · run_from Cert.AdamCvInRefIdeal.Value.run m' g'
    · rw [Cert.AdamCvInRefIdeal.Read.val_main_v6_eq]
      exact (Cert.AdamCvInIdeal.Step.final_g m c).symm
    · rw [Cert.AdamCvInRefIdeal.Read.val_main_v30_eq]
      exact (Cert.AdamCvInIdeal.Step.final_d m c).symm
    · rw [Cert.AdamCvInRefIdeal.Read.val_main_v11_eq]
      exact (Cert.AdamCvInIdeal.Step.final_m m c).symm
    · rw [Cert.AdamCvInRefIdeal.Read.val_main_v17_eq]
      exact (Cert.AdamCvInIdeal.Step.final_v m c).symm

theorem preserves_AdamCvOut_AdamCvOutIdeal : Cert.preserves_AdamCvOut_AdamCvOutIdeal := trivial

theorem algebraic_AdamCvOutIdeal_AdamCvOutRefIdeal : Cert.algebraic_AdamCvOutIdeal_AdamCvOutRefIdeal := by
  pair_intro
  · run_from Cert.AdamCvOutIdeal.Gen.run_main m g
  · run_from Cert.AdamCvOutRefIdeal.Value.run m' g'
    · rw [Cert.AdamCvOutRefIdeal.Read.val_main_v6_eq]
      exact (Cert.AdamCvOutIdeal.Step.final_g m c).symm
    · rw [Cert.AdamCvOutRefIdeal.Read.val_main_v30_eq]
      exact (Cert.AdamCvOutIdeal.Step.final_d m c).symm
    · rw [Cert.AdamCvOutRefIdeal.Read.val_main_v11_eq]
      exact (Cert.AdamCvOutIdeal.Step.final_m m c).symm
    · rw [Cert.AdamCvOutRefIdeal.Read.val_main_v17_eq]
      exact (Cert.AdamCvOutIdeal.Step.final_v m c).symm

theorem preserves_AdamSsmIn_AdamSsmInIdeal : Cert.preserves_AdamSsmIn_AdamSsmInIdeal := trivial

theorem algebraic_AdamSsmInIdeal_AdamSsmInRefIdeal : Cert.algebraic_AdamSsmInIdeal_AdamSsmInRefIdeal := by
  pair_intro
  · run_from Cert.AdamSsmInIdeal.Gen.run_main m g
  · run_from Cert.AdamSsmInRefIdeal.Value.run m' g'
    · rw [Cert.AdamSsmInRefIdeal.Read.val_main_v6_eq]
      exact (Cert.AdamSsmInIdeal.Step.final_g m c).symm
    · rw [Cert.AdamSsmInRefIdeal.Read.val_main_v30_eq]
      exact (Cert.AdamSsmInIdeal.Step.final_d m c).symm
    · rw [Cert.AdamSsmInRefIdeal.Read.val_main_v11_eq]
      exact (Cert.AdamSsmInIdeal.Step.final_m m c).symm
    · rw [Cert.AdamSsmInRefIdeal.Read.val_main_v17_eq]
      exact (Cert.AdamSsmInIdeal.Step.final_v m c).symm

theorem preserves_AdamSsmOut_AdamSsmOutIdeal : Cert.preserves_AdamSsmOut_AdamSsmOutIdeal := trivial

theorem algebraic_AdamSsmOutIdeal_AdamSsmOutRefIdeal : Cert.algebraic_AdamSsmOutIdeal_AdamSsmOutRefIdeal := by
  pair_intro
  · run_from Cert.AdamSsmOutIdeal.Gen.run_main m g
  · run_from Cert.AdamSsmOutRefIdeal.Value.run m' g'
    · rw [Cert.AdamSsmOutRefIdeal.Read.val_main_v6_eq]
      exact (Cert.AdamSsmOutIdeal.Step.final_g m c).symm
    · rw [Cert.AdamSsmOutRefIdeal.Read.val_main_v30_eq]
      exact (Cert.AdamSsmOutIdeal.Step.final_d m c).symm
    · rw [Cert.AdamSsmOutRefIdeal.Read.val_main_v11_eq]
      exact (Cert.AdamSsmOutIdeal.Step.final_m m c).symm
    · rw [Cert.AdamSsmOutRefIdeal.Read.val_main_v17_eq]
      exact (Cert.AdamSsmOutIdeal.Step.final_v m c).symm

theorem preserves_AdamFfnUp_AdamFfnUpIdeal : Cert.preserves_AdamFfnUp_AdamFfnUpIdeal := trivial

set_option maxHeartbeats 8000000 in
theorem algebraic_AdamFfnUpIdeal_AdamFfnUpRefIdeal : Cert.algebraic_AdamFfnUpIdeal_AdamFfnUpRefIdeal := by
  pair_intro
  · run_from Cert.AdamFfnUpIdeal.Gen.run_main m g
  · run_from Cert.AdamFfnUpRefIdeal.Value.run m' g'
    · rw [Cert.AdamFfnUpRefIdeal.Read.val_main_v12_eq]
      exact (Cert.AdamFfnUpIdeal.Step.final_g m c).symm
    · rw [Cert.AdamFfnUpRefIdeal.Read.val_main_v36_eq]
      simp only [hagree c]
      exact (Cert.AdamFfnUpIdeal.Step.final_d m c).symm
    · rw [Cert.AdamFfnUpRefIdeal.Read.val_main_v17_eq]
      exact (Cert.AdamFfnUpIdeal.Step.final_m m c).symm
    · rw [Cert.AdamFfnUpRefIdeal.Read.val_main_v23_eq]
      exact (Cert.AdamFfnUpIdeal.Step.final_v m c).symm

theorem preserves_AdamFfnDown_AdamFfnDownIdeal : Cert.preserves_AdamFfnDown_AdamFfnDownIdeal := trivial

set_option maxHeartbeats 8000000 in
theorem algebraic_AdamFfnDownIdeal_AdamFfnDownRefIdeal : Cert.algebraic_AdamFfnDownIdeal_AdamFfnDownRefIdeal := by
  pair_intro
  · run_from Cert.AdamFfnDownIdeal.Gen.run_main m g
  · run_from Cert.AdamFfnDownRefIdeal.Value.run m' g'
    · rw [Cert.AdamFfnDownRefIdeal.Read.val_main_v12_eq]
      exact (Cert.AdamFfnDownIdeal.Step.final_g m c).symm
    · rw [Cert.AdamFfnDownRefIdeal.Read.val_main_v36_eq]
      simp only [hagree c]
      exact (Cert.AdamFfnDownIdeal.Step.final_d m c).symm
    · rw [Cert.AdamFfnDownRefIdeal.Read.val_main_v17_eq]
      exact (Cert.AdamFfnDownIdeal.Step.final_m m c).symm
    · rw [Cert.AdamFfnDownRefIdeal.Read.val_main_v23_eq]
      exact (Cert.AdamFfnDownIdeal.Step.final_v m c).symm

theorem preserves_SumSmall_SumSmallIdeal : Cert.preserves_SumSmall_SumSmallIdeal := trivial

theorem algebraic_SumSmallIdeal_SumSmallRefIdeal : Cert.algebraic_SumSmallIdeal_SumSmallRefIdeal := by
  pair_intro
  · run_from Cert.SumSmallIdeal.Gen.run_main m g
  · refine θ_run_mono (Cert.SumSmallRefIdeal.Value.run m' g') fun r hr c => ⟨(hr c).1.trans ?_, (hr c).2⟩
    exact (Cert.SumSmallRefIdeal.Read.val_main_v0_eq _).trans
      ((congrArg (Cert.SumSmallRefIdeal.Read.val_main_v0 (F := Ideal)) (hagree c)).trans (Cert.SumSmallIdeal.Step.final m c).symm)

theorem preserves_AdamSmall_AdamSmallIdeal : Cert.preserves_AdamSmall_AdamSmallIdeal := trivial

theorem algebraic_AdamSmallIdeal_AdamSmallRefIdeal : Cert.algebraic_AdamSmallIdeal_AdamSmallRefIdeal := by
  pair_intro
  · run_from Cert.AdamSmallIdeal.Gen.run_main m g
  · run_from Cert.AdamSmallRefIdeal.Value.run m' g'
    · rw [Cert.AdamSmallRefIdeal.Read.val_main_v23_eq]
      exact (Cert.AdamSmallIdeal.Step.final_d m c).symm
    · rw [Cert.AdamSmallRefIdeal.Read.val_main_v4_eq]
      exact (Cert.AdamSmallIdeal.Step.final_m m c).symm
    · rw [Cert.AdamSmallRefIdeal.Read.val_main_v10_eq]
      exact (Cert.AdamSmallIdeal.Step.final_v m c).symm

theorem preserves_FinalLoss_FinalLossIdeal : Cert.preserves_FinalLoss_FinalLossIdeal := trivial

theorem algebraic_FinalLossIdeal_FinalLossRefIdeal : Cert.algebraic_FinalLossIdeal_FinalLossRefIdeal := by
  pair_intro
  · run_from Cert.FinalLossIdeal.Gen.run_main m g
  · run_from Cert.FinalLossRefIdeal.Value.run m' g'
    rw [Cert.FinalLossRefIdeal.Read.val_main_v19_eq]
    exact (Cert.FinalLossIdeal.Step.final m c).symm

theorem preserves_RmsBwd_RmsBwdIdeal : Cert.preserves_RmsBwd_RmsBwdIdeal := trivial

theorem algebraic_RmsBwdIdeal_RmsBwdRefIdeal : Cert.algebraic_RmsBwdIdeal_RmsBwdRefIdeal := by
  pair_intro
  · run_from Cert.RmsBwdIdeal.Gen.run_main m g
  · run_from Cert.RmsBwdRefIdeal.Value.run m' g'
    rw [Cert.RmsBwdRefIdeal.Read.val_main_v31_eq]
    exact (Cert.RmsBwdIdeal.Step.final m c).symm

theorem preserves_LossBwd_LossBwdIdeal : Cert.preserves_LossBwd_LossBwdIdeal := trivial

theorem algebraic_LossBwdIdeal_LossBwdRefIdeal : Cert.algebraic_LossBwdIdeal_LossBwdRefIdeal := by
  pair_intro
  · run_from Cert.LossBwdIdeal.Gen.run_main m g
  · run_from Cert.LossBwdRefIdeal.Value.run m' g'
    rw [Cert.LossBwdRefIdeal.Read.val_main_v45_eq]
    simp only [hagree c]
    exact (Cert.LossBwdIdeal.Step.final m c).symm

theorem preserves_RmsFwd_RmsFwdIdeal : Cert.preserves_RmsFwd_RmsFwdIdeal := trivial

theorem algebraic_RmsFwdIdeal_RmsFwdRefIdeal : Cert.algebraic_RmsFwdIdeal_RmsFwdRefIdeal := by
  pair_intro
  · run_from Cert.RmsFwdIdeal.Gen.run_main m g
  · run_from Cert.RmsFwdRefIdeal.Value.run m' g'
    rw [Cert.RmsFwdRefIdeal.Read.val_main_v12_eq]
    exact (Cert.RmsFwdIdeal.Step.final m c).symm

/-- All claims together. -/
theorem claim : Cert.Claim :=
  ⟨inferInstance, inferInstance, inferInstance, inferInstance, inferInstance, inferInstance, inferInstance, inferInstance, inferInstance, inferInstance, inferInstance, inferInstance, inferInstance, inferInstance, inferInstance, inferInstance, inferInstance, inferInstance, inferInstance, inferInstance, inferInstance, inferInstance, inferInstance, inferInstance, inferInstance, inferInstance, inferInstance, inferInstance, inferInstance, inferInstance, inferInstance, inferInstance, inferInstance, inferInstance, inferInstance, inferInstance, inferInstance, inferInstance, inferInstance, inferInstance, inferInstance, inferInstance, inferInstance, inferInstance, inferInstance, inferInstance, inferInstance, inferInstance, inferInstance, inferInstance, inferInstance, inferInstance, inferInstance, inferInstance, inferInstance, inferInstance, inferInstance, inferInstance, inferInstance, inferInstance, inferInstance, inferInstance, inferInstance, inferInstance, inferInstance, inferInstance, inferInstance, inferInstance, inferInstance, inferInstance, inferInstance, inferInstance, inferInstance, inferInstance, inferInstance, inferInstance, inferInstance, inferInstance, inferInstance, inferInstance, inferInstance, inferInstance, inferInstance, inferInstance, inferInstance, inferInstance, inferInstance, inferInstance, inferInstance, inferInstance, inferInstance, inferInstance,
   quiescent_Kernel,
   quiescent_KernelIdeal,
   quiescent_FfnUpDx,
   quiescent_FfnUpDxIdeal,
   quiescent_FfnUpDxRefIdeal,
   quiescent_FfnUpDw,
   quiescent_FfnUpDwIdeal,
   quiescent_FfnUpDwRefIdeal,
   quiescent_FfnDownDx,
   quiescent_FfnDownDxIdeal,
   quiescent_FfnDownDxRefIdeal,
   quiescent_FfnDownDw,
   quiescent_FfnDownDwIdeal,
   quiescent_FfnDownDwRefIdeal,
   quiescent_SsmInDx,
   quiescent_SsmInDxIdeal,
   quiescent_SsmInDxRefIdeal,
   quiescent_SsmInDw,
   quiescent_SsmInDwIdeal,
   quiescent_SsmInDwRefIdeal,
   quiescent_SsmOutDx,
   quiescent_SsmOutDxIdeal,
   quiescent_SsmOutDxRefIdeal,
   quiescent_SsmOutDw,
   quiescent_SsmOutDwIdeal,
   quiescent_SsmOutDwRefIdeal,
   quiescent_CvInDx,
   quiescent_CvInDxIdeal,
   quiescent_CvInDxRefIdeal,
   quiescent_CvInDw,
   quiescent_CvInDwIdeal,
   quiescent_CvInDwRefIdeal,
   quiescent_CvOutDx,
   quiescent_CvOutDxIdeal,
   quiescent_CvOutDxRefIdeal,
   quiescent_CvOutDw,
   quiescent_CvOutDwIdeal,
   quiescent_CvOutDwRefIdeal,
   quiescent_FfnUp,
   quiescent_FfnUpIdeal,
   quiescent_FfnUpRefIdeal,
   quiescent_FfnDown,
   quiescent_FfnDownIdeal,
   quiescent_FfnDownRefIdeal,
   quiescent_SsmIn,
   quiescent_SsmInIdeal,
   quiescent_SsmInRefIdeal,
   quiescent_SsmOut,
   quiescent_SsmOutIdeal,
   quiescent_SsmOutRefIdeal,
   quiescent_CvIn,
   quiescent_CvInIdeal,
   quiescent_CvInRefIdeal,
   quiescent_CvOut,
   quiescent_CvOutIdeal,
   quiescent_CvOutRefIdeal,
   quiescent_AdamCvIn,
   quiescent_AdamCvInIdeal,
   quiescent_AdamCvInRefIdeal,
   quiescent_AdamCvOut,
   quiescent_AdamCvOutIdeal,
   quiescent_AdamCvOutRefIdeal,
   quiescent_AdamSsmIn,
   quiescent_AdamSsmInIdeal,
   quiescent_AdamSsmInRefIdeal,
   quiescent_AdamSsmOut,
   quiescent_AdamSsmOutIdeal,
   quiescent_AdamSsmOutRefIdeal,
   quiescent_AdamFfnUp,
   quiescent_AdamFfnUpIdeal,
   quiescent_AdamFfnUpRefIdeal,
   quiescent_AdamFfnDown,
   quiescent_AdamFfnDownIdeal,
   quiescent_AdamFfnDownRefIdeal,
   quiescent_SumSmall,
   quiescent_SumSmallIdeal,
   quiescent_SumSmallRefIdeal,
   quiescent_AdamSmall,
   quiescent_AdamSmallIdeal,
   quiescent_AdamSmallRefIdeal,
   quiescent_FinalLoss,
   quiescent_FinalLossIdeal,
   quiescent_FinalLossRefIdeal,
   quiescent_RmsBwd,
   quiescent_RmsBwdIdeal,
   quiescent_RmsBwdRefIdeal,
   quiescent_LossBwd,
   quiescent_LossBwdIdeal,
   quiescent_LossBwdRefIdeal,
   quiescent_RmsFwd,
   quiescent_RmsFwdIdeal,
   quiescent_RmsFwdRefIdeal,
   preserves_Kernel_KernelIdeal,
   preserves_FfnUpDx_FfnUpDxIdeal,
   algebraic_FfnUpDxIdeal_FfnUpDxRefIdeal,
   preserves_FfnUpDw_FfnUpDwIdeal,
   algebraic_FfnUpDwIdeal_FfnUpDwRefIdeal,
   preserves_FfnDownDx_FfnDownDxIdeal,
   algebraic_FfnDownDxIdeal_FfnDownDxRefIdeal,
   preserves_FfnDownDw_FfnDownDwIdeal,
   algebraic_FfnDownDwIdeal_FfnDownDwRefIdeal,
   preserves_SsmInDx_SsmInDxIdeal,
   algebraic_SsmInDxIdeal_SsmInDxRefIdeal,
   preserves_SsmInDw_SsmInDwIdeal,
   algebraic_SsmInDwIdeal_SsmInDwRefIdeal,
   preserves_SsmOutDx_SsmOutDxIdeal,
   algebraic_SsmOutDxIdeal_SsmOutDxRefIdeal,
   preserves_SsmOutDw_SsmOutDwIdeal,
   algebraic_SsmOutDwIdeal_SsmOutDwRefIdeal,
   preserves_CvInDx_CvInDxIdeal,
   algebraic_CvInDxIdeal_CvInDxRefIdeal,
   preserves_CvInDw_CvInDwIdeal,
   algebraic_CvInDwIdeal_CvInDwRefIdeal,
   preserves_CvOutDx_CvOutDxIdeal,
   algebraic_CvOutDxIdeal_CvOutDxRefIdeal,
   preserves_CvOutDw_CvOutDwIdeal,
   algebraic_CvOutDwIdeal_CvOutDwRefIdeal,
   preserves_FfnUp_FfnUpIdeal,
   algebraic_FfnUpIdeal_FfnUpRefIdeal,
   preserves_FfnDown_FfnDownIdeal,
   algebraic_FfnDownIdeal_FfnDownRefIdeal,
   preserves_SsmIn_SsmInIdeal,
   algebraic_SsmInIdeal_SsmInRefIdeal,
   preserves_SsmOut_SsmOutIdeal,
   algebraic_SsmOutIdeal_SsmOutRefIdeal,
   preserves_CvIn_CvInIdeal,
   algebraic_CvInIdeal_CvInRefIdeal,
   preserves_CvOut_CvOutIdeal,
   algebraic_CvOutIdeal_CvOutRefIdeal,
   preserves_AdamCvIn_AdamCvInIdeal,
   algebraic_AdamCvInIdeal_AdamCvInRefIdeal,
   preserves_AdamCvOut_AdamCvOutIdeal,
   algebraic_AdamCvOutIdeal_AdamCvOutRefIdeal,
   preserves_AdamSsmIn_AdamSsmInIdeal,
   algebraic_AdamSsmInIdeal_AdamSsmInRefIdeal,
   preserves_AdamSsmOut_AdamSsmOutIdeal,
   algebraic_AdamSsmOutIdeal_AdamSsmOutRefIdeal,
   preserves_AdamFfnUp_AdamFfnUpIdeal,
   algebraic_AdamFfnUpIdeal_AdamFfnUpRefIdeal,
   preserves_AdamFfnDown_AdamFfnDownIdeal,
   algebraic_AdamFfnDownIdeal_AdamFfnDownRefIdeal,
   preserves_SumSmall_SumSmallIdeal,
   algebraic_SumSmallIdeal_SumSmallRefIdeal,
   preserves_AdamSmall_AdamSmallIdeal,
   algebraic_AdamSmallIdeal_AdamSmallRefIdeal,
   preserves_FinalLoss_FinalLossIdeal,
   algebraic_FinalLossIdeal_FinalLossRefIdeal,
   preserves_RmsBwd_RmsBwdIdeal,
   algebraic_RmsBwdIdeal_RmsBwdRefIdeal,
   preserves_LossBwd_LossBwdIdeal,
   algebraic_LossBwdIdeal_LossBwdRefIdeal,
   preserves_RmsFwd_RmsFwdIdeal,
   algebraic_RmsFwdIdeal_RmsFwdRefIdeal⟩

end Cert.Proof

end
